-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_gains [hPre_finite_gains : Cert.Pre_finite_gains.Facts] (m : (ℓ : Loc Cert.AttnIdeal.nD Cert.AttnIdeal.τ Cert.AttnIdeal.sig) → Buf (Elt Ideal) ℓ) : Prop :=
  ∀ c : Dev Cert.AttnIdeal.nD,
    (Cert.Pre_finite_gains.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_gains [hPre_finite_gains : Cert.Pre_finite_gains.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_gains.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Block (m : (ℓ : Loc Cert.Block.nD Cert.Block.τ Cert.Block.sig) → Buf (Elt Bits) ℓ) : Prop :=
  True

def Pre_BlockIdeal (m : (ℓ : Loc Cert.BlockIdeal.nD Cert.BlockIdeal.τ Cert.BlockIdeal.sig) → Buf (Elt Ideal) ℓ) : Prop :=
  True

def Pre_BlockRefIdeal (m : (ℓ : Loc Cert.BlockRefIdeal.nD Cert.BlockRefIdeal.τ Cert.BlockRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideRefIdeal (m : (ℓ : Loc Cert.WideRefIdeal.nD Cert.WideRefIdeal.τ Cert.WideRefIdeal.sig) → Buf (Elt Ideal) ℓ) : Prop :=
  True

def Pre_ProjHyena (m : (ℓ : Loc Cert.ProjHyena.nD Cert.ProjHyena.τ Cert.ProjHyena.sig) → Buf (Elt Bits) ℓ) : Prop :=
  True

def Pre_ProjHyenaIdeal (m : (ℓ : Loc Cert.ProjHyenaIdeal.nD Cert.ProjHyenaIdeal.τ Cert.ProjHyenaIdeal.sig) → Buf (Elt Ideal) ℓ) : Prop :=
  True

def Pre_ProjHyenaRefIdeal (m : (ℓ : Loc Cert.ProjHyenaRefIdeal.nD Cert.ProjHyenaRefIdeal.τ Cert.ProjHyenaRefIdeal.sig) → Buf (Elt Ideal) ℓ) : Prop :=
  True

def Pre_ProjSsd (m : (ℓ : Loc Cert.ProjSsd.nD Cert.ProjSsd.τ Cert.ProjSsd.sig) → Buf (Elt Bits) ℓ) : Prop :=
  True

def Pre_ProjSsdIdeal (m : (ℓ : Loc Cert.ProjSsdIdeal.nD Cert.ProjSsdIdeal.τ Cert.ProjSsdIdeal.sig) → Buf (Elt Ideal) ℓ) : Prop :=
  True

def Pre_ProjSsdRefIdeal (m : (ℓ : Loc Cert.ProjSsdRefIdeal.nD Cert.ProjSsdRefIdeal.τ Cert.ProjSsdRefIdeal.sig) → Buf (Elt Ideal) ℓ) : Prop :=
  True

def Pre_ProjNbr (m : (ℓ : Loc Cert.ProjNbr.nD Cert.ProjNbr.τ Cert.ProjNbr.sig) → Buf (Elt Bits) ℓ) : Prop :=
  True

def Pre_ProjNbrIdeal (m : (ℓ : Loc Cert.ProjNbrIdeal.nD Cert.ProjNbrIdeal.τ Cert.ProjNbrIdeal.sig) → Buf (Elt Ideal) ℓ) : Prop :=
  True

def Pre_ProjNbrRefIdeal (m : (ℓ : Loc Cert.ProjNbrRefIdeal.nD Cert.ProjNbrRefIdeal.τ Cert.ProjNbrRefIdeal.sig) → Buf (Elt Ideal) ℓ) : Prop :=
  True

def Pre_CtxBlock (m : (ℓ : Loc Cert.CtxBlock.nD Cert.CtxBlock.τ Cert.CtxBlock.sig) → Buf (Elt Bits) ℓ) : Prop :=
  True

def Pre_CtxBlockIdeal (m : (ℓ : Loc Cert.CtxBlockIdeal.nD Cert.CtxBlockIdeal.τ Cert.CtxBlockIdeal.sig) → Buf (Elt Ideal) ℓ) : Prop :=
  True

def Pre_CtxBlockRefIdeal (m : (ℓ : Loc Cert.CtxBlockRefIdeal.nD Cert.CtxBlockRefIdeal.τ Cert.CtxBlockRefIdeal.sig) → Buf (Elt Ideal) ℓ) : Prop :=
  True

def Pre_CtxWide (m : (ℓ : Loc Cert.CtxWide.nD Cert.CtxWide.τ Cert.CtxWide.sig) → Buf (Elt Bits) ℓ) : Prop :=
  True

def Pre_CtxWideIdeal (m : (ℓ : Loc Cert.CtxWideIdeal.nD Cert.CtxWideIdeal.τ Cert.CtxWideIdeal.sig) → Buf (Elt Ideal) ℓ) : Prop :=
  True

def Pre_CtxWideRefIdeal (m : (ℓ : Loc Cert.CtxWideRefIdeal.nD Cert.CtxWideRefIdeal.τ Cert.CtxWideRefIdeal.sig) → Buf (Elt Ideal) ℓ) : Prop :=
  True

def Pre_CtxProj (m : (ℓ : Loc Cert.CtxProj.nD Cert.CtxProj.τ Cert.CtxProj.sig) → Buf (Elt Bits) ℓ) : Prop :=
  True

def Pre_CtxProjIdeal (m : (ℓ : Loc Cert.CtxProjIdeal.nD Cert.CtxProjIdeal.τ Cert.CtxProjIdeal.sig) → Buf (Elt Ideal) ℓ) : Prop :=
  True

def Pre_CtxProjRefIdeal (m : (ℓ : Loc Cert.CtxProjRefIdeal.nD Cert.CtxProjRefIdeal.τ Cert.CtxProjRefIdeal.sig) → Buf (Elt Ideal) ℓ) : Prop :=
  True

def Pre_CtxProjHyena (m : (ℓ : Loc Cert.CtxProjHyena.nD Cert.CtxProjHyena.τ Cert.CtxProjHyena.sig) → Buf (Elt Bits) ℓ) : Prop :=
  True

def Pre_CtxProjHyenaIdeal (m : (ℓ : Loc Cert.CtxProjHyenaIdeal.nD Cert.CtxProjHyenaIdeal.τ Cert.CtxProjHyenaIdeal.sig) → Buf (Elt Ideal) ℓ) : Prop :=
  True

def Pre_CtxProjHyenaRefIdeal (m : (ℓ : Loc Cert.CtxProjHyenaRefIdeal.nD Cert.CtxProjHyenaRefIdeal.τ Cert.CtxProjHyenaRefIdeal.sig) → Buf (Elt Ideal) ℓ) : Prop :=
  True

def Pre_CtxProjSsd (m : (ℓ : Loc Cert.CtxProjSsd.nD Cert.CtxProjSsd.τ Cert.CtxProjSsd.sig) → Buf (Elt Bits) ℓ) : Prop :=
  True

def Pre_CtxProjSsdIdeal (m : (ℓ : Loc Cert.CtxProjSsdIdeal.nD Cert.CtxProjSsdIdeal.τ Cert.CtxProjSsdIdeal.sig) → Buf (Elt Ideal) ℓ) : Prop :=
  True

def Pre_CtxProjSsdRefIdeal (m : (ℓ : Loc Cert.CtxProjSsdRefIdeal.nD Cert.CtxProjSsdRefIdeal.τ Cert.CtxProjSsdRefIdeal.sig) → Buf (Elt Ideal) ℓ) : Prop :=
  True

def Pre_CtxProjNbr (m : (ℓ : Loc Cert.CtxProjNbr.nD Cert.CtxProjNbr.τ Cert.CtxProjNbr.sig) → Buf (Elt Bits) ℓ) : Prop :=
  True

def Pre_CtxProjNbrIdeal (m : (ℓ : Loc Cert.CtxProjNbrIdeal.nD Cert.CtxProjNbrIdeal.τ Cert.CtxProjNbrIdeal.sig) → Buf (Elt Ideal) ℓ) : Prop :=
  True

def Pre_CtxProjNbrRefIdeal (m : (ℓ : Loc Cert.CtxProjNbrRefIdeal.nD Cert.CtxProjNbrRefIdeal.τ Cert.CtxProjNbrRefIdeal.sig) → Buf (Elt Ideal) ℓ) : Prop :=
  True

def Pre_Nbr (m : (ℓ : Loc Cert.Nbr.nD Cert.Nbr.τ Cert.Nbr.sig) → Buf (Elt Bits) ℓ) : Prop :=
  True

def Pre_NbrIdeal (m : (ℓ : Loc Cert.NbrIdeal.nD Cert.NbrIdeal.τ Cert.NbrIdeal.sig) → Buf (Elt Ideal) ℓ) : Prop :=
  True

def Pre_NbrIdeal_finite_scores [hPre_finite_scores : Cert.Pre_finite_scores.Facts] (m : (ℓ : Loc Cert.NbrIdeal.nD Cert.NbrIdeal.τ Cert.NbrIdeal.sig) → Buf (Elt Ideal) ℓ) : Prop :=
  ∀ c : Dev Cert.NbrIdeal.nD,
    (Cert.Pre_finite_scores.fn (F := Ideal) (m ((c.tc : Thread Cert.NbrIdeal.nD Cert.NbrIdeal.τ).loc Cert.NbrIdeal.main_arg0)) (m ((c.tc : Thread Cert.NbrIdeal.nD Cert.NbrIdeal.τ).loc Cert.NbrIdeal.main_arg1)) (m ((c.tc : Thread Cert.NbrIdeal.nD Cert.NbrIdeal.τ).loc Cert.NbrIdeal.main_arg2))) = (fun _ => 1#1)

def Pre_NbrRefIdeal (m : (ℓ : Loc Cert.NbrRefIdeal.nD Cert.NbrRefIdeal.τ Cert.NbrRefIdeal.sig) → Buf (Elt Ideal) ℓ) : Prop :=
  True

def Pre_NbrRefIdeal_finite_scores [hPre_finite_scores : Cert.Pre_finite_scores.Facts] (m : (ℓ : Loc Cert.NbrRefIdeal.nD Cert.NbrRefIdeal.τ Cert.NbrRefIdeal.sig) → Buf (Elt Ideal) ℓ) : Prop :=
  ∀ c : Dev Cert.NbrRefIdeal.nD,
    (Cert.Pre_finite_scores.fn (F := Ideal) (m ((c.tc : Thread Cert.NbrRefIdeal.nD Cert.NbrRefIdeal.τ).loc Cert.NbrRefIdeal.main_arg0)) (m ((c.tc : Thread Cert.NbrRefIdeal.nD Cert.NbrRefIdeal.τ).loc Cert.NbrRefIdeal.main_arg1)) (m ((c.tc : Thread Cert.NbrRefIdeal.nD Cert.NbrRefIdeal.τ).loc Cert.NbrRefIdeal.main_arg2))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_ConvHyena (m : (ℓ : Loc Cert.ConvHyena.nD Cert.ConvHyena.τ Cert.ConvHyena.sig) → Buf (Elt Bits) ℓ) : Prop :=
  True

def Pre_ConvHyenaIdeal (m : (ℓ : Loc Cert.ConvHyenaIdeal.nD Cert.ConvHyenaIdeal.τ Cert.ConvHyenaIdeal.sig) → Buf (Elt Ideal) ℓ) : Prop :=
  True

def Pre_ConvHyenaRefIdeal (m : (ℓ : Loc Cert.ConvHyenaRefIdeal.nD Cert.ConvHyenaRefIdeal.τ Cert.ConvHyenaRefIdeal.sig) → Buf (Elt Ideal) ℓ) : Prop :=
  True

def Pre_CtxConvHyena (m : (ℓ : Loc Cert.CtxConvHyena.nD Cert.CtxConvHyena.τ Cert.CtxConvHyena.sig) → Buf (Elt Bits) ℓ) : Prop :=
  True

def Pre_CtxConvHyenaIdeal (m : (ℓ : Loc Cert.CtxConvHyenaIdeal.nD Cert.CtxConvHyenaIdeal.τ Cert.CtxConvHyenaIdeal.sig) → Buf (Elt Ideal) ℓ) : Prop :=
  True

def Pre_CtxConvHyenaRefIdeal (m : (ℓ : Loc Cert.CtxConvHyenaRefIdeal.nD Cert.CtxConvHyenaRefIdeal.τ Cert.CtxConvHyenaRefIdeal.sig) → Buf (Elt Ideal) ℓ) : Prop :=
  True

def Pre_ConvSsd (m : (ℓ : Loc Cert.ConvSsd.nD Cert.ConvSsd.τ Cert.ConvSsd.sig) → Buf (Elt Bits) ℓ) : Prop :=
  True

def Pre_ConvSsdIdeal (m : (ℓ : Loc Cert.ConvSsdIdeal.nD Cert.ConvSsdIdeal.τ Cert.ConvSsdIdeal.sig) → Buf (Elt Ideal) ℓ) : Prop :=
  True

def Pre_ConvSsdRefIdeal (m : (ℓ : Loc Cert.ConvSsdRefIdeal.nD Cert.ConvSsdRefIdeal.τ Cert.ConvSsdRefIdeal.sig) → Buf (Elt Ideal) ℓ) : Prop :=
  True

def Pre_CtxConvSsd (m : (ℓ : Loc Cert.CtxConvSsd.nD Cert.CtxConvSsd.τ Cert.CtxConvSsd.sig) → Buf (Elt Bits) ℓ) : Prop :=
  True

def Pre_CtxConvSsdIdeal (m : (ℓ : Loc Cert.CtxConvSsdIdeal.nD Cert.CtxConvSsdIdeal.τ Cert.CtxConvSsdIdeal.sig) → Buf (Elt Ideal) ℓ) : Prop :=
  True

def Pre_CtxConvSsdRefIdeal (m : (ℓ : Loc Cert.CtxConvSsdRefIdeal.nD Cert.CtxConvSsdRefIdeal.τ Cert.CtxConvSsdRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_gains [hAttnIdeal : Cert.AttnIdeal.Facts] [hPre_finite_gains : Cert.Pre_finite_gains.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_gains m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_gains [hAttnRefIdeal : Cert.AttnRefIdeal.Facts] [hPre_finite_gains : Cert.Pre_finite_gains.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_gains m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Block [hBlock : Cert.Block.Facts] : Prop :=
  ∀ (m : (ℓ : Loc Cert.Block.nD Cert.Block.τ Cert.Block.sig) → Buf (Elt Bits) ℓ) (g : Dev Cert.Block.nD → PrngReg), Pre_Block m →
    θ_run (Cert.Block.defs (F := Bits)) (onTc (τ := Cert.Block.τ) (Cert.Block.main (F := Bits))) ⟨m, fun _ => 0, g⟩ (fun r => (∀ c : Dev Cert.Block.nD,
      r.2.mem ((c.tc : Thread Cert.Block.nD Cert.Block.τ).loc Cert.Block.main_arg0) = m ((c.tc : Thread Cert.Block.nD Cert.Block.τ).loc Cert.Block.main_arg0)
      ∧ r.2.mem ((c.tc : Thread Cert.Block.nD Cert.Block.τ).loc Cert.Block.main_arg1) = m ((c.tc : Thread Cert.Block.nD Cert.Block.τ).loc Cert.Block.main_arg1)
      ∧ r.2.mem ((c.tc : Thread Cert.Block.nD Cert.Block.τ).loc Cert.Block.main_arg2) = m ((c.tc : Thread Cert.Block.nD Cert.Block.τ).loc Cert.Block.main_arg2)
      ∧ r.2.mem ((c.tc : Thread Cert.Block.nD Cert.Block.τ).loc Cert.Block.main_arg3) = m ((c.tc : Thread Cert.Block.nD Cert.Block.τ).loc Cert.Block.main_arg3)
      ∧ r.2.mem ((c.tc : Thread Cert.Block.nD Cert.Block.τ).loc Cert.Block.main_arg4) = m ((c.tc : Thread Cert.Block.nD Cert.Block.τ).loc Cert.Block.main_arg4)
      ∧ r.2.mem ((c.tc : Thread Cert.Block.nD Cert.Block.τ).loc Cert.Block.main_arg5) = m ((c.tc : Thread Cert.Block.nD Cert.Block.τ).loc Cert.Block.main_arg5)
      ∧ r.2.mem ((c.tc : Thread Cert.Block.nD Cert.Block.τ).loc Cert.Block.main_arg6) = m ((c.tc : Thread Cert.Block.nD Cert.Block.τ).loc Cert.Block.main_arg6))
      ∧ r.2.sem = fun _ => 0)

def quiescent_BlockIdeal [hBlockIdeal : Cert.BlockIdeal.Facts] : Prop :=
  ∀ (m : (ℓ : Loc Cert.BlockIdeal.nD Cert.BlockIdeal.τ Cert.BlockIdeal.sig) → Buf (Elt Ideal) ℓ) (g : Dev Cert.BlockIdeal.nD → PrngReg), Pre_BlockIdeal m →
    θ_run (Cert.BlockIdeal.defs (F := Ideal)) (onTc (τ := Cert.BlockIdeal.τ) (Cert.BlockIdeal.main (F := Ideal))) ⟨m, fun _ => 0, g⟩ (fun r => (∀ c : Dev Cert.BlockIdeal.nD,
      r.2.mem ((c.tc : Thread Cert.BlockIdeal.nD Cert.BlockIdeal.τ).loc Cert.BlockIdeal.main_arg0) = m ((c.tc : Thread Cert.BlockIdeal.nD Cert.BlockIdeal.τ).loc Cert.BlockIdeal.main_arg0)
      ∧ r.2.mem ((c.tc : Thread Cert.BlockIdeal.nD Cert.BlockIdeal.τ).loc Cert.BlockIdeal.main_arg1) = m ((c.tc : Thread Cert.BlockIdeal.nD Cert.BlockIdeal.τ).loc Cert.BlockIdeal.main_arg1)
      ∧ r.2.mem ((c.tc : Thread Cert.BlockIdeal.nD Cert.BlockIdeal.τ).loc Cert.BlockIdeal.main_arg2) = m ((c.tc : Thread Cert.BlockIdeal.nD Cert.BlockIdeal.τ).loc Cert.BlockIdeal.main_arg2)
      ∧ r.2.mem ((c.tc : Thread Cert.BlockIdeal.nD Cert.BlockIdeal.τ).loc Cert.BlockIdeal.main_arg3) = m ((c.tc : Thread Cert.BlockIdeal.nD Cert.BlockIdeal.τ).loc Cert.BlockIdeal.main_arg3)
      ∧ r.2.mem ((c.tc : Thread Cert.BlockIdeal.nD Cert.BlockIdeal.τ).loc Cert.BlockIdeal.main_arg4) = m ((c.tc : Thread Cert.BlockIdeal.nD Cert.BlockIdeal.τ).loc Cert.BlockIdeal.main_arg4)
      ∧ r.2.mem ((c.tc : Thread Cert.BlockIdeal.nD Cert.BlockIdeal.τ).loc Cert.BlockIdeal.main_arg5) = m ((c.tc : Thread Cert.BlockIdeal.nD Cert.BlockIdeal.τ).loc Cert.BlockIdeal.main_arg5)
      ∧ r.2.mem ((c.tc : Thread Cert.BlockIdeal.nD Cert.BlockIdeal.τ).loc Cert.BlockIdeal.main_arg6) = m ((c.tc : Thread Cert.BlockIdeal.nD Cert.BlockIdeal.τ).loc Cert.BlockIdeal.main_arg6))
      ∧ r.2.sem = fun _ => 0)

def quiescent_BlockRefIdeal [hBlockRefIdeal : Cert.BlockRefIdeal.Facts] : Prop :=
  ∀ (m : (ℓ : Loc Cert.BlockRefIdeal.nD Cert.BlockRefIdeal.τ Cert.BlockRefIdeal.sig) → Buf (Elt Ideal) ℓ) (g : Dev Cert.BlockRefIdeal.nD → PrngReg), Pre_BlockRefIdeal m →
    θ_run (Cert.BlockRefIdeal.defs (F := Ideal)) (onTc (τ := Cert.BlockRefIdeal.τ) (Cert.BlockRefIdeal.main (F := Ideal))) ⟨m, fun _ => 0, g⟩ (fun r => (∀ c : Dev Cert.BlockRefIdeal.nD,
      r.2.mem ((c.tc : Thread Cert.BlockRefIdeal.nD Cert.BlockRefIdeal.τ).loc Cert.BlockRefIdeal.main_arg0) = m ((c.tc : Thread Cert.BlockRefIdeal.nD Cert.BlockRefIdeal.τ).loc Cert.BlockRefIdeal.main_arg0)
      ∧ r.2.mem ((c.tc : Thread Cert.BlockRefIdeal.nD Cert.BlockRefIdeal.τ).loc Cert.BlockRefIdeal.main_arg1) = m ((c.tc : Thread Cert.BlockRefIdeal.nD Cert.BlockRefIdeal.τ).loc Cert.BlockRefIdeal.main_arg1)
      ∧ r.2.mem ((c.tc : Thread Cert.BlockRefIdeal.nD Cert.BlockRefIdeal.τ).loc Cert.BlockRefIdeal.main_arg2) = m ((c.tc : Thread Cert.BlockRefIdeal.nD Cert.BlockRefIdeal.τ).loc Cert.BlockRefIdeal.main_arg2)
      ∧ r.2.mem ((c.tc : Thread Cert.BlockRefIdeal.nD Cert.BlockRefIdeal.τ).loc Cert.BlockRefIdeal.main_arg3) = m ((c.tc : Thread Cert.BlockRefIdeal.nD Cert.BlockRefIdeal.τ).loc Cert.BlockRefIdeal.main_arg3)
      ∧ r.2.mem ((c.tc : Thread Cert.BlockRefIdeal.nD Cert.BlockRefIdeal.τ).loc Cert.BlockRefIdeal.main_arg4) = m ((c.tc : Thread Cert.BlockRefIdeal.nD Cert.BlockRefIdeal.τ).loc Cert.BlockRefIdeal.main_arg4)
      ∧ r.2.mem ((c.tc : Thread Cert.BlockRefIdeal.nD Cert.BlockRefIdeal.τ).loc Cert.BlockRefIdeal.main_arg5) = m ((c.tc : Thread Cert.BlockRefIdeal.nD Cert.BlockRefIdeal.τ).loc Cert.BlockRefIdeal.main_arg5)
      ∧ r.2.mem ((c.tc : Thread Cert.BlockRefIdeal.nD Cert.BlockRefIdeal.τ).loc Cert.BlockRefIdeal.main_arg6) = m ((c.tc : Thread Cert.BlockRefIdeal.nD Cert.BlockRefIdeal.τ).loc Cert.BlockRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1)
      ∧ r.2.mem ((c.tc : Thread Cert.Wide.nD Cert.Wide.τ).loc Cert.Wide.main_arg2) = m ((c.tc : Thread Cert.Wide.nD Cert.Wide.τ).loc Cert.Wide.main_arg2)
      ∧ r.2.mem ((c.tc : Thread Cert.Wide.nD Cert.Wide.τ).loc Cert.Wide.main_arg3) = m ((c.tc : Thread Cert.Wide.nD Cert.Wide.τ).loc Cert.Wide.main_arg3)
      ∧ r.2.mem ((c.tc : Thread Cert.Wide.nD Cert.Wide.τ).loc Cert.Wide.main_arg4) = m ((c.tc : Thread Cert.Wide.nD Cert.Wide.τ).loc Cert.Wide.main_arg4)
      ∧ r.2.mem ((c.tc : Thread Cert.Wide.nD Cert.Wide.τ).loc Cert.Wide.main_arg5) = m ((c.tc : Thread Cert.Wide.nD Cert.Wide.τ).loc Cert.Wide.main_arg5)
      ∧ r.2.mem ((c.tc : Thread Cert.Wide.nD Cert.Wide.τ).loc Cert.Wide.main_arg6) = m ((c.tc : Thread Cert.Wide.nD Cert.Wide.τ).loc Cert.Wide.main_arg6))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1)
      ∧ r.2.mem ((c.tc : Thread Cert.WideIdeal.nD Cert.WideIdeal.τ).loc Cert.WideIdeal.main_arg2) = m ((c.tc : Thread Cert.WideIdeal.nD Cert.WideIdeal.τ).loc Cert.WideIdeal.main_arg2)
      ∧ r.2.mem ((c.tc : Thread Cert.WideIdeal.nD Cert.WideIdeal.τ).loc Cert.WideIdeal.main_arg3) = m ((c.tc : Thread Cert.WideIdeal.nD Cert.WideIdeal.τ).loc Cert.WideIdeal.main_arg3)
      ∧ r.2.mem ((c.tc : Thread Cert.WideIdeal.nD Cert.WideIdeal.τ).loc Cert.WideIdeal.main_arg4) = m ((c.tc : Thread Cert.WideIdeal.nD Cert.WideIdeal.τ).loc Cert.WideIdeal.main_arg4)
      ∧ r.2.mem ((c.tc : Thread Cert.WideIdeal.nD Cert.WideIdeal.τ).loc Cert.WideIdeal.main_arg5) = m ((c.tc : Thread Cert.WideIdeal.nD Cert.WideIdeal.τ).loc Cert.WideIdeal.main_arg5)
      ∧ r.2.mem ((c.tc : Thread Cert.WideIdeal.nD Cert.WideIdeal.τ).loc Cert.WideIdeal.main_arg6) = m ((c.tc : Thread Cert.WideIdeal.nD Cert.WideIdeal.τ).loc Cert.WideIdeal.main_arg6))
      ∧ r.2.sem = fun _ => 0)

def quiescent_WideRefIdeal [hWideRefIdeal : Cert.WideRefIdeal.Facts] : Prop :=
  ∀ (m : (ℓ : Loc Cert.WideRefIdeal.nD Cert.WideRefIdeal.τ Cert.WideRefIdeal.sig) → Buf (Elt Ideal) ℓ) (g : Dev Cert.WideRefIdeal.nD → PrngReg), Pre_WideRefIdeal m →
    θ_run (Cert.WideRefIdeal.defs (F := Ideal)) (onTc (τ := Cert.WideRefIdeal.τ) (Cert.WideRefIdeal.main (F := Ideal))) ⟨m, fun _ => 0, g⟩ (fun r => (∀ c : Dev Cert.WideRefIdeal.nD,
      r.2.mem ((c.tc : Thread Cert.WideRefIdeal.nD Cert.WideRefIdeal.τ).loc Cert.WideRefIdeal.main_arg0) = m ((c.tc : Thread Cert.WideRefIdeal.nD Cert.WideRefIdeal.τ).loc Cert.WideRefIdeal.main_arg0)
      ∧ r.2.mem ((c.tc : Thread Cert.WideRefIdeal.nD Cert.WideRefIdeal.τ).loc Cert.WideRefIdeal.main_arg1) = m ((c.tc : Thread Cert.WideRefIdeal.nD Cert.WideRefIdeal.τ).loc Cert.WideRefIdeal.main_arg1)
      ∧ r.2.mem ((c.tc : Thread Cert.WideRefIdeal.nD Cert.WideRefIdeal.τ).loc Cert.WideRefIdeal.main_arg2) = m ((c.tc : Thread Cert.WideRefIdeal.nD Cert.WideRefIdeal.τ).loc Cert.WideRefIdeal.main_arg2)
      ∧ r.2.mem ((c.tc : Thread Cert.WideRefIdeal.nD Cert.WideRefIdeal.τ).loc Cert.WideRefIdeal.main_arg3) = m ((c.tc : Thread Cert.WideRefIdeal.nD Cert.WideRefIdeal.τ).loc Cert.WideRefIdeal.main_arg3)
      ∧ r.2.mem ((c.tc : Thread Cert.WideRefIdeal.nD Cert.WideRefIdeal.τ).loc Cert.WideRefIdeal.main_arg4) = m ((c.tc : Thread Cert.WideRefIdeal.nD Cert.WideRefIdeal.τ).loc Cert.WideRefIdeal.main_arg4)
      ∧ r.2.mem ((c.tc : Thread Cert.WideRefIdeal.nD Cert.WideRefIdeal.τ).loc Cert.WideRefIdeal.main_arg5) = m ((c.tc : Thread Cert.WideRefIdeal.nD Cert.WideRefIdeal.τ).loc Cert.WideRefIdeal.main_arg5)
      ∧ r.2.mem ((c.tc : Thread Cert.WideRefIdeal.nD Cert.WideRefIdeal.τ).loc Cert.WideRefIdeal.main_arg6) = m ((c.tc : Thread Cert.WideRefIdeal.nD Cert.WideRefIdeal.τ).loc Cert.WideRefIdeal.main_arg6))
      ∧ r.2.sem = fun _ => 0)

def quiescent_ProjHyena [hProjHyena : Cert.ProjHyena.Facts] : Prop :=
  ∀ (m : (ℓ : Loc Cert.ProjHyena.nD Cert.ProjHyena.τ Cert.ProjHyena.sig) → Buf (Elt Bits) ℓ) (g : Dev Cert.ProjHyena.nD → PrngReg), Pre_ProjHyena m →
    θ_run (Cert.ProjHyena.defs (F := Bits)) (onTc (τ := Cert.ProjHyena.τ) (Cert.ProjHyena.main (F := Bits))) ⟨m, fun _ => 0, g⟩ (fun r => (∀ c : Dev Cert.ProjHyena.nD,
      r.2.mem ((c.tc : Thread Cert.ProjHyena.nD Cert.ProjHyena.τ).loc Cert.ProjHyena.main_arg0) = m ((c.tc : Thread Cert.ProjHyena.nD Cert.ProjHyena.τ).loc Cert.ProjHyena.main_arg0)
      ∧ r.2.mem ((c.tc : Thread Cert.ProjHyena.nD Cert.ProjHyena.τ).loc Cert.ProjHyena.main_arg1) = m ((c.tc : Thread Cert.ProjHyena.nD Cert.ProjHyena.τ).loc Cert.ProjHyena.main_arg1)
      ∧ r.2.mem ((c.tc : Thread Cert.ProjHyena.nD Cert.ProjHyena.τ).loc Cert.ProjHyena.main_arg2) = m ((c.tc : Thread Cert.ProjHyena.nD Cert.ProjHyena.τ).loc Cert.ProjHyena.main_arg2)
      ∧ r.2.mem ((c.tc : Thread Cert.ProjHyena.nD Cert.ProjHyena.τ).loc Cert.ProjHyena.main_arg3) = m ((c.tc : Thread Cert.ProjHyena.nD Cert.ProjHyena.τ).loc Cert.ProjHyena.main_arg3))
      ∧ r.2.sem = fun _ => 0)

def quiescent_ProjHyenaIdeal [hProjHyenaIdeal : Cert.ProjHyenaIdeal.Facts] : Prop :=
  ∀ (m : (ℓ : Loc Cert.ProjHyenaIdeal.nD Cert.ProjHyenaIdeal.τ Cert.ProjHyenaIdeal.sig) → Buf (Elt Ideal) ℓ) (g : Dev Cert.ProjHyenaIdeal.nD → PrngReg), Pre_ProjHyenaIdeal m →
    θ_run (Cert.ProjHyenaIdeal.defs (F := Ideal)) (onTc (τ := Cert.ProjHyenaIdeal.τ) (Cert.ProjHyenaIdeal.main (F := Ideal))) ⟨m, fun _ => 0, g⟩ (fun r => (∀ c : Dev Cert.ProjHyenaIdeal.nD,
      r.2.mem ((c.tc : Thread Cert.ProjHyenaIdeal.nD Cert.ProjHyenaIdeal.τ).loc Cert.ProjHyenaIdeal.main_arg0) = m ((c.tc : Thread Cert.ProjHyenaIdeal.nD Cert.ProjHyenaIdeal.τ).loc Cert.ProjHyenaIdeal.main_arg0)
      ∧ r.2.mem ((c.tc : Thread Cert.ProjHyenaIdeal.nD Cert.ProjHyenaIdeal.τ).loc Cert.ProjHyenaIdeal.main_arg1) = m ((c.tc : Thread Cert.ProjHyenaIdeal.nD Cert.ProjHyenaIdeal.τ).loc Cert.ProjHyenaIdeal.main_arg1)
      ∧ r.2.mem ((c.tc : Thread Cert.ProjHyenaIdeal.nD Cert.ProjHyenaIdeal.τ).loc Cert.ProjHyenaIdeal.main_arg2) = m ((c.tc : Thread Cert.ProjHyenaIdeal.nD Cert.ProjHyenaIdeal.τ).loc Cert.ProjHyenaIdeal.main_arg2)
      ∧ r.2.mem ((c.tc : Thread Cert.ProjHyenaIdeal.nD Cert.ProjHyenaIdeal.τ).loc Cert.ProjHyenaIdeal.main_arg3) = m ((c.tc : Thread Cert.ProjHyenaIdeal.nD Cert.ProjHyenaIdeal.τ).loc Cert.ProjHyenaIdeal.main_arg3))
      ∧ r.2.sem = fun _ => 0)

def quiescent_ProjHyenaRefIdeal [hProjHyenaRefIdeal : Cert.ProjHyenaRefIdeal.Facts] : Prop :=
  ∀ (m : (ℓ : Loc Cert.ProjHyenaRefIdeal.nD Cert.ProjHyenaRefIdeal.τ Cert.ProjHyenaRefIdeal.sig) → Buf (Elt Ideal) ℓ) (g : Dev Cert.ProjHyenaRefIdeal.nD → PrngReg), Pre_ProjHyenaRefIdeal m →
    θ_run (Cert.ProjHyenaRefIdeal.defs (F := Ideal)) (onTc (τ := Cert.ProjHyenaRefIdeal.τ) (Cert.ProjHyenaRefIdeal.main (F := Ideal))) ⟨m, fun _ => 0, g⟩ (fun r => (∀ c : Dev Cert.ProjHyenaRefIdeal.nD,
      r.2.mem ((c.tc : Thread Cert.ProjHyenaRefIdeal.nD Cert.ProjHyenaRefIdeal.τ).loc Cert.ProjHyenaRefIdeal.main_arg0) = m ((c.tc : Thread Cert.ProjHyenaRefIdeal.nD Cert.ProjHyenaRefIdeal.τ).loc Cert.ProjHyenaRefIdeal.main_arg0)
      ∧ r.2.mem ((c.tc : Thread Cert.ProjHyenaRefIdeal.nD Cert.ProjHyenaRefIdeal.τ).loc Cert.ProjHyenaRefIdeal.main_arg1) = m ((c.tc : Thread Cert.ProjHyenaRefIdeal.nD Cert.ProjHyenaRefIdeal.τ).loc Cert.ProjHyenaRefIdeal.main_arg1)
      ∧ r.2.mem ((c.tc : Thread Cert.ProjHyenaRefIdeal.nD Cert.ProjHyenaRefIdeal.τ).loc Cert.ProjHyenaRefIdeal.main_arg2) = m ((c.tc : Thread Cert.ProjHyenaRefIdeal.nD Cert.ProjHyenaRefIdeal.τ).loc Cert.ProjHyenaRefIdeal.main_arg2)
      ∧ r.2.mem ((c.tc : Thread Cert.ProjHyenaRefIdeal.nD Cert.ProjHyenaRefIdeal.τ).loc Cert.ProjHyenaRefIdeal.main_arg3) = m ((c.tc : Thread Cert.ProjHyenaRefIdeal.nD Cert.ProjHyenaRefIdeal.τ).loc Cert.ProjHyenaRefIdeal.main_arg3))
      ∧ r.2.sem = fun _ => 0)

def quiescent_ProjSsd [hProjSsd : Cert.ProjSsd.Facts] : Prop :=
  ∀ (m : (ℓ : Loc Cert.ProjSsd.nD Cert.ProjSsd.τ Cert.ProjSsd.sig) → Buf (Elt Bits) ℓ) (g : Dev Cert.ProjSsd.nD → PrngReg), Pre_ProjSsd m →
    θ_run (Cert.ProjSsd.defs (F := Bits)) (onTc (τ := Cert.ProjSsd.τ) (Cert.ProjSsd.main (F := Bits))) ⟨m, fun _ => 0, g⟩ (fun r => (∀ c : Dev Cert.ProjSsd.nD,
      r.2.mem ((c.tc : Thread Cert.ProjSsd.nD Cert.ProjSsd.τ).loc Cert.ProjSsd.main_arg0) = m ((c.tc : Thread Cert.ProjSsd.nD Cert.ProjSsd.τ).loc Cert.ProjSsd.main_arg0)
      ∧ r.2.mem ((c.tc : Thread Cert.ProjSsd.nD Cert.ProjSsd.τ).loc Cert.ProjSsd.main_arg1) = m ((c.tc : Thread Cert.ProjSsd.nD Cert.ProjSsd.τ).loc Cert.ProjSsd.main_arg1)
      ∧ r.2.mem ((c.tc : Thread Cert.ProjSsd.nD Cert.ProjSsd.τ).loc Cert.ProjSsd.main_arg2) = m ((c.tc : Thread Cert.ProjSsd.nD Cert.ProjSsd.τ).loc Cert.ProjSsd.main_arg2)
      ∧ r.2.mem ((c.tc : Thread Cert.ProjSsd.nD Cert.ProjSsd.τ).loc Cert.ProjSsd.main_arg3) = m ((c.tc : Thread Cert.ProjSsd.nD Cert.ProjSsd.τ).loc Cert.ProjSsd.main_arg3))
      ∧ r.2.sem = fun _ => 0)

def quiescent_ProjSsdIdeal [hProjSsdIdeal : Cert.ProjSsdIdeal.Facts] : Prop :=
  ∀ (m : (ℓ : Loc Cert.ProjSsdIdeal.nD Cert.ProjSsdIdeal.τ Cert.ProjSsdIdeal.sig) → Buf (Elt Ideal) ℓ) (g : Dev Cert.ProjSsdIdeal.nD → PrngReg), Pre_ProjSsdIdeal m →
    θ_run (Cert.ProjSsdIdeal.defs (F := Ideal)) (onTc (τ := Cert.ProjSsdIdeal.τ) (Cert.ProjSsdIdeal.main (F := Ideal))) ⟨m, fun _ => 0, g⟩ (fun r => (∀ c : Dev Cert.ProjSsdIdeal.nD,
      r.2.mem ((c.tc : Thread Cert.ProjSsdIdeal.nD Cert.ProjSsdIdeal.τ).loc Cert.ProjSsdIdeal.main_arg0) = m ((c.tc : Thread Cert.ProjSsdIdeal.nD Cert.ProjSsdIdeal.τ).loc Cert.ProjSsdIdeal.main_arg0)
      ∧ r.2.mem ((c.tc : Thread Cert.ProjSsdIdeal.nD Cert.ProjSsdIdeal.τ).loc Cert.ProjSsdIdeal.main_arg1) = m ((c.tc : Thread Cert.ProjSsdIdeal.nD Cert.ProjSsdIdeal.τ).loc Cert.ProjSsdIdeal.main_arg1)
      ∧ r.2.mem ((c.tc : Thread Cert.ProjSsdIdeal.nD Cert.ProjSsdIdeal.τ).loc Cert.ProjSsdIdeal.main_arg2) = m ((c.tc : Thread Cert.ProjSsdIdeal.nD Cert.ProjSsdIdeal.τ).loc Cert.ProjSsdIdeal.main_arg2)
      ∧ r.2.mem ((c.tc : Thread Cert.ProjSsdIdeal.nD Cert.ProjSsdIdeal.τ).loc Cert.ProjSsdIdeal.main_arg3) = m ((c.tc : Thread Cert.ProjSsdIdeal.nD Cert.ProjSsdIdeal.τ).loc Cert.ProjSsdIdeal.main_arg3))
      ∧ r.2.sem = fun _ => 0)

def quiescent_ProjSsdRefIdeal [hProjSsdRefIdeal : Cert.ProjSsdRefIdeal.Facts] : Prop :=
  ∀ (m : (ℓ : Loc Cert.ProjSsdRefIdeal.nD Cert.ProjSsdRefIdeal.τ Cert.ProjSsdRefIdeal.sig) → Buf (Elt Ideal) ℓ) (g : Dev Cert.ProjSsdRefIdeal.nD → PrngReg), Pre_ProjSsdRefIdeal m →
    θ_run (Cert.ProjSsdRefIdeal.defs (F := Ideal)) (onTc (τ := Cert.ProjSsdRefIdeal.τ) (Cert.ProjSsdRefIdeal.main (F := Ideal))) ⟨m, fun _ => 0, g⟩ (fun r => (∀ c : Dev Cert.ProjSsdRefIdeal.nD,
      r.2.mem ((c.tc : Thread Cert.ProjSsdRefIdeal.nD Cert.ProjSsdRefIdeal.τ).loc Cert.ProjSsdRefIdeal.main_arg0) = m ((c.tc : Thread Cert.ProjSsdRefIdeal.nD Cert.ProjSsdRefIdeal.τ).loc Cert.ProjSsdRefIdeal.main_arg0)
      ∧ r.2.mem ((c.tc : Thread Cert.ProjSsdRefIdeal.nD Cert.ProjSsdRefIdeal.τ).loc Cert.ProjSsdRefIdeal.main_arg1) = m ((c.tc : Thread Cert.ProjSsdRefIdeal.nD Cert.ProjSsdRefIdeal.τ).loc Cert.ProjSsdRefIdeal.main_arg1)
      ∧ r.2.mem ((c.tc : Thread Cert.ProjSsdRefIdeal.nD Cert.ProjSsdRefIdeal.τ).loc Cert.ProjSsdRefIdeal.main_arg2) = m ((c.tc : Thread Cert.ProjSsdRefIdeal.nD Cert.ProjSsdRefIdeal.τ).loc Cert.ProjSsdRefIdeal.main_arg2)
      ∧ r.2.mem ((c.tc : Thread Cert.ProjSsdRefIdeal.nD Cert.ProjSsdRefIdeal.τ).loc Cert.ProjSsdRefIdeal.main_arg3) = m ((c.tc : Thread Cert.ProjSsdRefIdeal.nD Cert.ProjSsdRefIdeal.τ).loc Cert.ProjSsdRefIdeal.main_arg3))
      ∧ r.2.sem = fun _ => 0)

def quiescent_ProjNbr [hProjNbr : Cert.ProjNbr.Facts] : Prop :=
  ∀ (m : (ℓ : Loc Cert.ProjNbr.nD Cert.ProjNbr.τ Cert.ProjNbr.sig) → Buf (Elt Bits) ℓ) (g : Dev Cert.ProjNbr.nD → PrngReg), Pre_ProjNbr m →
    θ_run (Cert.ProjNbr.defs (F := Bits)) (onTc (τ := Cert.ProjNbr.τ) (Cert.ProjNbr.main (F := Bits))) ⟨m, fun _ => 0, g⟩ (fun r => (∀ c : Dev Cert.ProjNbr.nD,
      r.2.mem ((c.tc : Thread Cert.ProjNbr.nD Cert.ProjNbr.τ).loc Cert.ProjNbr.main_arg0) = m ((c.tc : Thread Cert.ProjNbr.nD Cert.ProjNbr.τ).loc Cert.ProjNbr.main_arg0)
      ∧ r.2.mem ((c.tc : Thread Cert.ProjNbr.nD Cert.ProjNbr.τ).loc Cert.ProjNbr.main_arg1) = m ((c.tc : Thread Cert.ProjNbr.nD Cert.ProjNbr.τ).loc Cert.ProjNbr.main_arg1)
      ∧ r.2.mem ((c.tc : Thread Cert.ProjNbr.nD Cert.ProjNbr.τ).loc Cert.ProjNbr.main_arg2) = m ((c.tc : Thread Cert.ProjNbr.nD Cert.ProjNbr.τ).loc Cert.ProjNbr.main_arg2)
      ∧ r.2.mem ((c.tc : Thread Cert.ProjNbr.nD Cert.ProjNbr.τ).loc Cert.ProjNbr.main_arg3) = m ((c.tc : Thread Cert.ProjNbr.nD Cert.ProjNbr.τ).loc Cert.ProjNbr.main_arg3))
      ∧ r.2.sem = fun _ => 0)

def quiescent_ProjNbrIdeal [hProjNbrIdeal : Cert.ProjNbrIdeal.Facts] : Prop :=
  ∀ (m : (ℓ : Loc Cert.ProjNbrIdeal.nD Cert.ProjNbrIdeal.τ Cert.ProjNbrIdeal.sig) → Buf (Elt Ideal) ℓ) (g : Dev Cert.ProjNbrIdeal.nD → PrngReg), Pre_ProjNbrIdeal m →
    θ_run (Cert.ProjNbrIdeal.defs (F := Ideal)) (onTc (τ := Cert.ProjNbrIdeal.τ) (Cert.ProjNbrIdeal.main (F := Ideal))) ⟨m, fun _ => 0, g⟩ (fun r => (∀ c : Dev Cert.ProjNbrIdeal.nD,
      r.2.mem ((c.tc : Thread Cert.ProjNbrIdeal.nD Cert.ProjNbrIdeal.τ).loc Cert.ProjNbrIdeal.main_arg0) = m ((c.tc : Thread Cert.ProjNbrIdeal.nD Cert.ProjNbrIdeal.τ).loc Cert.ProjNbrIdeal.main_arg0)
      ∧ r.2.mem ((c.tc : Thread Cert.ProjNbrIdeal.nD Cert.ProjNbrIdeal.τ).loc Cert.ProjNbrIdeal.main_arg1) = m ((c.tc : Thread Cert.ProjNbrIdeal.nD Cert.ProjNbrIdeal.τ).loc Cert.ProjNbrIdeal.main_arg1)
      ∧ r.2.mem ((c.tc : Thread Cert.ProjNbrIdeal.nD Cert.ProjNbrIdeal.τ).loc Cert.ProjNbrIdeal.main_arg2) = m ((c.tc : Thread Cert.ProjNbrIdeal.nD Cert.ProjNbrIdeal.τ).loc Cert.ProjNbrIdeal.main_arg2)
      ∧ r.2.mem ((c.tc : Thread Cert.ProjNbrIdeal.nD Cert.ProjNbrIdeal.τ).loc Cert.ProjNbrIdeal.main_arg3) = m ((c.tc : Thread Cert.ProjNbrIdeal.nD Cert.ProjNbrIdeal.τ).loc Cert.ProjNbrIdeal.main_arg3))
      ∧ r.2.sem = fun _ => 0)

def quiescent_ProjNbrRefIdeal [hProjNbrRefIdeal : Cert.ProjNbrRefIdeal.Facts] : Prop :=
  ∀ (m : (ℓ : Loc Cert.ProjNbrRefIdeal.nD Cert.ProjNbrRefIdeal.τ Cert.ProjNbrRefIdeal.sig) → Buf (Elt Ideal) ℓ) (g : Dev Cert.ProjNbrRefIdeal.nD → PrngReg), Pre_ProjNbrRefIdeal m →
    θ_run (Cert.ProjNbrRefIdeal.defs (F := Ideal)) (onTc (τ := Cert.ProjNbrRefIdeal.τ) (Cert.ProjNbrRefIdeal.main (F := Ideal))) ⟨m, fun _ => 0, g⟩ (fun r => (∀ c : Dev Cert.ProjNbrRefIdeal.nD,
      r.2.mem ((c.tc : Thread Cert.ProjNbrRefIdeal.nD Cert.ProjNbrRefIdeal.τ).loc Cert.ProjNbrRefIdeal.main_arg0) = m ((c.tc : Thread Cert.ProjNbrRefIdeal.nD Cert.ProjNbrRefIdeal.τ).loc Cert.ProjNbrRefIdeal.main_arg0)
      ∧ r.2.mem ((c.tc : Thread Cert.ProjNbrRefIdeal.nD Cert.ProjNbrRefIdeal.τ).loc Cert.ProjNbrRefIdeal.main_arg1) = m ((c.tc : Thread Cert.ProjNbrRefIdeal.nD Cert.ProjNbrRefIdeal.τ).loc Cert.ProjNbrRefIdeal.main_arg1)
      ∧ r.2.mem ((c.tc : Thread Cert.ProjNbrRefIdeal.nD Cert.ProjNbrRefIdeal.τ).loc Cert.ProjNbrRefIdeal.main_arg2) = m ((c.tc : Thread Cert.ProjNbrRefIdeal.nD Cert.ProjNbrRefIdeal.τ).loc Cert.ProjNbrRefIdeal.main_arg2)
      ∧ r.2.mem ((c.tc : Thread Cert.ProjNbrRefIdeal.nD Cert.ProjNbrRefIdeal.τ).loc Cert.ProjNbrRefIdeal.main_arg3) = m ((c.tc : Thread Cert.ProjNbrRefIdeal.nD Cert.ProjNbrRefIdeal.τ).loc Cert.ProjNbrRefIdeal.main_arg3))
      ∧ r.2.sem = fun _ => 0)

def quiescent_CtxBlock [hCtxBlock : Cert.CtxBlock.Facts] : Prop :=
  ∀ (m : (ℓ : Loc Cert.CtxBlock.nD Cert.CtxBlock.τ Cert.CtxBlock.sig) → Buf (Elt Bits) ℓ) (g : Dev Cert.CtxBlock.nD → PrngReg), Pre_CtxBlock m →
    θ_run (Cert.CtxBlock.defs (F := Bits)) (onTc (τ := Cert.CtxBlock.τ) (Cert.CtxBlock.main (F := Bits))) ⟨m, fun _ => 0, g⟩ (fun r => (∀ c : Dev Cert.CtxBlock.nD,
      r.2.mem ((c.tc : Thread Cert.CtxBlock.nD Cert.CtxBlock.τ).loc Cert.CtxBlock.main_arg0) = m ((c.tc : Thread Cert.CtxBlock.nD Cert.CtxBlock.τ).loc Cert.CtxBlock.main_arg0)
      ∧ r.2.mem ((c.tc : Thread Cert.CtxBlock.nD Cert.CtxBlock.τ).loc Cert.CtxBlock.main_arg1) = m ((c.tc : Thread Cert.CtxBlock.nD Cert.CtxBlock.τ).loc Cert.CtxBlock.main_arg1)
      ∧ r.2.mem ((c.tc : Thread Cert.CtxBlock.nD Cert.CtxBlock.τ).loc Cert.CtxBlock.main_arg2) = m ((c.tc : Thread Cert.CtxBlock.nD Cert.CtxBlock.τ).loc Cert.CtxBlock.main_arg2)
      ∧ r.2.mem ((c.tc : Thread Cert.CtxBlock.nD Cert.CtxBlock.τ).loc Cert.CtxBlock.main_arg3) = m ((c.tc : Thread Cert.CtxBlock.nD Cert.CtxBlock.τ).loc Cert.CtxBlock.main_arg3)
      ∧ r.2.mem ((c.tc : Thread Cert.CtxBlock.nD Cert.CtxBlock.τ).loc Cert.CtxBlock.main_arg4) = m ((c.tc : Thread Cert.CtxBlock.nD Cert.CtxBlock.τ).loc Cert.CtxBlock.main_arg4)
      ∧ r.2.mem ((c.tc : Thread Cert.CtxBlock.nD Cert.CtxBlock.τ).loc Cert.CtxBlock.main_arg5) = m ((c.tc : Thread Cert.CtxBlock.nD Cert.CtxBlock.τ).loc Cert.CtxBlock.main_arg5)
      ∧ r.2.mem ((c.tc : Thread Cert.CtxBlock.nD Cert.CtxBlock.τ).loc Cert.CtxBlock.main_arg6) = m ((c.tc : Thread Cert.CtxBlock.nD Cert.CtxBlock.τ).loc Cert.CtxBlock.main_arg6))
      ∧ r.2.sem = fun _ => 0)

def quiescent_CtxBlockIdeal [hCtxBlockIdeal : Cert.CtxBlockIdeal.Facts] : Prop :=
  ∀ (m : (ℓ : Loc Cert.CtxBlockIdeal.nD Cert.CtxBlockIdeal.τ Cert.CtxBlockIdeal.sig) → Buf (Elt Ideal) ℓ) (g : Dev Cert.CtxBlockIdeal.nD → PrngReg), Pre_CtxBlockIdeal m →
    θ_run (Cert.CtxBlockIdeal.defs (F := Ideal)) (onTc (τ := Cert.CtxBlockIdeal.τ) (Cert.CtxBlockIdeal.main (F := Ideal))) ⟨m, fun _ => 0, g⟩ (fun r => (∀ c : Dev Cert.CtxBlockIdeal.nD,
      r.2.mem ((c.tc : Thread Cert.CtxBlockIdeal.nD Cert.CtxBlockIdeal.τ).loc Cert.CtxBlockIdeal.main_arg0) = m ((c.tc : Thread Cert.CtxBlockIdeal.nD Cert.CtxBlockIdeal.τ).loc Cert.CtxBlockIdeal.main_arg0)
      ∧ r.2.mem ((c.tc : Thread Cert.CtxBlockIdeal.nD Cert.CtxBlockIdeal.τ).loc Cert.CtxBlockIdeal.main_arg1) = m ((c.tc : Thread Cert.CtxBlockIdeal.nD Cert.CtxBlockIdeal.τ).loc Cert.CtxBlockIdeal.main_arg1)
      ∧ r.2.mem ((c.tc : Thread Cert.CtxBlockIdeal.nD Cert.CtxBlockIdeal.τ).loc Cert.CtxBlockIdeal.main_arg2) = m ((c.tc : Thread Cert.CtxBlockIdeal.nD Cert.CtxBlockIdeal.τ).loc Cert.CtxBlockIdeal.main_arg2)
      ∧ r.2.mem ((c.tc : Thread Cert.CtxBlockIdeal.nD Cert.CtxBlockIdeal.τ).loc Cert.CtxBlockIdeal.main_arg3) = m ((c.tc : Thread Cert.CtxBlockIdeal.nD Cert.CtxBlockIdeal.τ).loc Cert.CtxBlockIdeal.main_arg3)
      ∧ r.2.mem ((c.tc : Thread Cert.CtxBlockIdeal.nD Cert.CtxBlockIdeal.τ).loc Cert.CtxBlockIdeal.main_arg4) = m ((c.tc : Thread Cert.CtxBlockIdeal.nD Cert.CtxBlockIdeal.τ).loc Cert.CtxBlockIdeal.main_arg4)
      ∧ r.2.mem ((c.tc : Thread Cert.CtxBlockIdeal.nD Cert.CtxBlockIdeal.τ).loc Cert.CtxBlockIdeal.main_arg5) = m ((c.tc : Thread Cert.CtxBlockIdeal.nD Cert.CtxBlockIdeal.τ).loc Cert.CtxBlockIdeal.main_arg5)
      ∧ r.2.mem ((c.tc : Thread Cert.CtxBlockIdeal.nD Cert.CtxBlockIdeal.τ).loc Cert.CtxBlockIdeal.main_arg6) = m ((c.tc : Thread Cert.CtxBlockIdeal.nD Cert.CtxBlockIdeal.τ).loc Cert.CtxBlockIdeal.main_arg6))
      ∧ r.2.sem = fun _ => 0)

def quiescent_CtxBlockRefIdeal [hCtxBlockRefIdeal : Cert.CtxBlockRefIdeal.Facts] : Prop :=
  ∀ (m : (ℓ : Loc Cert.CtxBlockRefIdeal.nD Cert.CtxBlockRefIdeal.τ Cert.CtxBlockRefIdeal.sig) → Buf (Elt Ideal) ℓ) (g : Dev Cert.CtxBlockRefIdeal.nD → PrngReg), Pre_CtxBlockRefIdeal m →
    θ_run (Cert.CtxBlockRefIdeal.defs (F := Ideal)) (onTc (τ := Cert.CtxBlockRefIdeal.τ) (Cert.CtxBlockRefIdeal.main (F := Ideal))) ⟨m, fun _ => 0, g⟩ (fun r => (∀ c : Dev Cert.CtxBlockRefIdeal.nD,
      r.2.mem ((c.tc : Thread Cert.CtxBlockRefIdeal.nD Cert.CtxBlockRefIdeal.τ).loc Cert.CtxBlockRefIdeal.main_arg0) = m ((c.tc : Thread Cert.CtxBlockRefIdeal.nD Cert.CtxBlockRefIdeal.τ).loc Cert.CtxBlockRefIdeal.main_arg0)
      ∧ r.2.mem ((c.tc : Thread Cert.CtxBlockRefIdeal.nD Cert.CtxBlockRefIdeal.τ).loc Cert.CtxBlockRefIdeal.main_arg1) = m ((c.tc : Thread Cert.CtxBlockRefIdeal.nD Cert.CtxBlockRefIdeal.τ).loc Cert.CtxBlockRefIdeal.main_arg1)
      ∧ r.2.mem ((c.tc : Thread Cert.CtxBlockRefIdeal.nD Cert.CtxBlockRefIdeal.τ).loc Cert.CtxBlockRefIdeal.main_arg2) = m ((c.tc : Thread Cert.CtxBlockRefIdeal.nD Cert.CtxBlockRefIdeal.τ).loc Cert.CtxBlockRefIdeal.main_arg2)
      ∧ r.2.mem ((c.tc : Thread Cert.CtxBlockRefIdeal.nD Cert.CtxBlockRefIdeal.τ).loc Cert.CtxBlockRefIdeal.main_arg3) = m ((c.tc : Thread Cert.CtxBlockRefIdeal.nD Cert.CtxBlockRefIdeal.τ).loc Cert.CtxBlockRefIdeal.main_arg3)
      ∧ r.2.mem ((c.tc : Thread Cert.CtxBlockRefIdeal.nD Cert.CtxBlockRefIdeal.τ).loc Cert.CtxBlockRefIdeal.main_arg4) = m ((c.tc : Thread Cert.CtxBlockRefIdeal.nD Cert.CtxBlockRefIdeal.τ).loc Cert.CtxBlockRefIdeal.main_arg4)
      ∧ r.2.mem ((c.tc : Thread Cert.CtxBlockRefIdeal.nD Cert.CtxBlockRefIdeal.τ).loc Cert.CtxBlockRefIdeal.main_arg5) = m ((c.tc : Thread Cert.CtxBlockRefIdeal.nD Cert.CtxBlockRefIdeal.τ).loc Cert.CtxBlockRefIdeal.main_arg5)
      ∧ r.2.mem ((c.tc : Thread Cert.CtxBlockRefIdeal.nD Cert.CtxBlockRefIdeal.τ).loc Cert.CtxBlockRefIdeal.main_arg6) = m ((c.tc : Thread Cert.CtxBlockRefIdeal.nD Cert.CtxBlockRefIdeal.τ).loc Cert.CtxBlockRefIdeal.main_arg6))
      ∧ r.2.sem = fun _ => 0)

def quiescent_CtxWide [hCtxWide : Cert.CtxWide.Facts] : Prop :=
  ∀ (m : (ℓ : Loc Cert.CtxWide.nD Cert.CtxWide.τ Cert.CtxWide.sig) → Buf (Elt Bits) ℓ) (g : Dev Cert.CtxWide.nD → PrngReg), Pre_CtxWide m →
    θ_run (Cert.CtxWide.defs (F := Bits)) (onTc (τ := Cert.CtxWide.τ) (Cert.CtxWide.main (F := Bits))) ⟨m, fun _ => 0, g⟩ (fun r => (∀ c : Dev Cert.CtxWide.nD,
      r.2.mem ((c.tc : Thread Cert.CtxWide.nD Cert.CtxWide.τ).loc Cert.CtxWide.main_arg0) = m ((c.tc : Thread Cert.CtxWide.nD Cert.CtxWide.τ).loc Cert.CtxWide.main_arg0)
      ∧ r.2.mem ((c.tc : Thread Cert.CtxWide.nD Cert.CtxWide.τ).loc Cert.CtxWide.main_arg1) = m ((c.tc : Thread Cert.CtxWide.nD Cert.CtxWide.τ).loc Cert.CtxWide.main_arg1)
      ∧ r.2.mem ((c.tc : Thread Cert.CtxWide.nD Cert.CtxWide.τ).loc Cert.CtxWide.main_arg2) = m ((c.tc : Thread Cert.CtxWide.nD Cert.CtxWide.τ).loc Cert.CtxWide.main_arg2)
      ∧ r.2.mem ((c.tc : Thread Cert.CtxWide.nD Cert.CtxWide.τ).loc Cert.CtxWide.main_arg3) = m ((c.tc : Thread Cert.CtxWide.nD Cert.CtxWide.τ).loc Cert.CtxWide.main_arg3)
      ∧ r.2.mem ((c.tc : Thread Cert.CtxWide.nD Cert.CtxWide.τ).loc Cert.CtxWide.main_arg4) = m ((c.tc : Thread Cert.CtxWide.nD Cert.CtxWide.τ).loc Cert.CtxWide.main_arg4)
      ∧ r.2.mem ((c.tc : Thread Cert.CtxWide.nD Cert.CtxWide.τ).loc Cert.CtxWide.main_arg5) = m ((c.tc : Thread Cert.CtxWide.nD Cert.CtxWide.τ).loc Cert.CtxWide.main_arg5)
      ∧ r.2.mem ((c.tc : Thread Cert.CtxWide.nD Cert.CtxWide.τ).loc Cert.CtxWide.main_arg6) = m ((c.tc : Thread Cert.CtxWide.nD Cert.CtxWide.τ).loc Cert.CtxWide.main_arg6))
      ∧ r.2.sem = fun _ => 0)

def quiescent_CtxWideIdeal [hCtxWideIdeal : Cert.CtxWideIdeal.Facts] : Prop :=
  ∀ (m : (ℓ : Loc Cert.CtxWideIdeal.nD Cert.CtxWideIdeal.τ Cert.CtxWideIdeal.sig) → Buf (Elt Ideal) ℓ) (g : Dev Cert.CtxWideIdeal.nD → PrngReg), Pre_CtxWideIdeal m →
    θ_run (Cert.CtxWideIdeal.defs (F := Ideal)) (onTc (τ := Cert.CtxWideIdeal.τ) (Cert.CtxWideIdeal.main (F := Ideal))) ⟨m, fun _ => 0, g⟩ (fun r => (∀ c : Dev Cert.CtxWideIdeal.nD,
      r.2.mem ((c.tc : Thread Cert.CtxWideIdeal.nD Cert.CtxWideIdeal.τ).loc Cert.CtxWideIdeal.main_arg0) = m ((c.tc : Thread Cert.CtxWideIdeal.nD Cert.CtxWideIdeal.τ).loc Cert.CtxWideIdeal.main_arg0)
      ∧ r.2.mem ((c.tc : Thread Cert.CtxWideIdeal.nD Cert.CtxWideIdeal.τ).loc Cert.CtxWideIdeal.main_arg1) = m ((c.tc : Thread Cert.CtxWideIdeal.nD Cert.CtxWideIdeal.τ).loc Cert.CtxWideIdeal.main_arg1)
      ∧ r.2.mem ((c.tc : Thread Cert.CtxWideIdeal.nD Cert.CtxWideIdeal.τ).loc Cert.CtxWideIdeal.main_arg2) = m ((c.tc : Thread Cert.CtxWideIdeal.nD Cert.CtxWideIdeal.τ).loc Cert.CtxWideIdeal.main_arg2)
      ∧ r.2.mem ((c.tc : Thread Cert.CtxWideIdeal.nD Cert.CtxWideIdeal.τ).loc Cert.CtxWideIdeal.main_arg3) = m ((c.tc : Thread Cert.CtxWideIdeal.nD Cert.CtxWideIdeal.τ).loc Cert.CtxWideIdeal.main_arg3)
      ∧ r.2.mem ((c.tc : Thread Cert.CtxWideIdeal.nD Cert.CtxWideIdeal.τ).loc Cert.CtxWideIdeal.main_arg4) = m ((c.tc : Thread Cert.CtxWideIdeal.nD Cert.CtxWideIdeal.τ).loc Cert.CtxWideIdeal.main_arg4)
      ∧ r.2.mem ((c.tc : Thread Cert.CtxWideIdeal.nD Cert.CtxWideIdeal.τ).loc Cert.CtxWideIdeal.main_arg5) = m ((c.tc : Thread Cert.CtxWideIdeal.nD Cert.CtxWideIdeal.τ).loc Cert.CtxWideIdeal.main_arg5)
      ∧ r.2.mem ((c.tc : Thread Cert.CtxWideIdeal.nD Cert.CtxWideIdeal.τ).loc Cert.CtxWideIdeal.main_arg6) = m ((c.tc : Thread Cert.CtxWideIdeal.nD Cert.CtxWideIdeal.τ).loc Cert.CtxWideIdeal.main_arg6))
      ∧ r.2.sem = fun _ => 0)

def quiescent_CtxWideRefIdeal [hCtxWideRefIdeal : Cert.CtxWideRefIdeal.Facts] : Prop :=
  ∀ (m : (ℓ : Loc Cert.CtxWideRefIdeal.nD Cert.CtxWideRefIdeal.τ Cert.CtxWideRefIdeal.sig) → Buf (Elt Ideal) ℓ) (g : Dev Cert.CtxWideRefIdeal.nD → PrngReg), Pre_CtxWideRefIdeal m →
    θ_run (Cert.CtxWideRefIdeal.defs (F := Ideal)) (onTc (τ := Cert.CtxWideRefIdeal.τ) (Cert.CtxWideRefIdeal.main (F := Ideal))) ⟨m, fun _ => 0, g⟩ (fun r => (∀ c : Dev Cert.CtxWideRefIdeal.nD,
      r.2.mem ((c.tc : Thread Cert.CtxWideRefIdeal.nD Cert.CtxWideRefIdeal.τ).loc Cert.CtxWideRefIdeal.main_arg0) = m ((c.tc : Thread Cert.CtxWideRefIdeal.nD Cert.CtxWideRefIdeal.τ).loc Cert.CtxWideRefIdeal.main_arg0)
      ∧ r.2.mem ((c.tc : Thread Cert.CtxWideRefIdeal.nD Cert.CtxWideRefIdeal.τ).loc Cert.CtxWideRefIdeal.main_arg1) = m ((c.tc : Thread Cert.CtxWideRefIdeal.nD Cert.CtxWideRefIdeal.τ).loc Cert.CtxWideRefIdeal.main_arg1)
      ∧ r.2.mem ((c.tc : Thread Cert.CtxWideRefIdeal.nD Cert.CtxWideRefIdeal.τ).loc Cert.CtxWideRefIdeal.main_arg2) = m ((c.tc : Thread Cert.CtxWideRefIdeal.nD Cert.CtxWideRefIdeal.τ).loc Cert.CtxWideRefIdeal.main_arg2)
      ∧ r.2.mem ((c.tc : Thread Cert.CtxWideRefIdeal.nD Cert.CtxWideRefIdeal.τ).loc Cert.CtxWideRefIdeal.main_arg3) = m ((c.tc : Thread Cert.CtxWideRefIdeal.nD Cert.CtxWideRefIdeal.τ).loc Cert.CtxWideRefIdeal.main_arg3)
      ∧ r.2.mem ((c.tc : Thread Cert.CtxWideRefIdeal.nD Cert.CtxWideRefIdeal.τ).loc Cert.CtxWideRefIdeal.main_arg4) = m ((c.tc : Thread Cert.CtxWideRefIdeal.nD Cert.CtxWideRefIdeal.τ).loc Cert.CtxWideRefIdeal.main_arg4)
      ∧ r.2.mem ((c.tc : Thread Cert.CtxWideRefIdeal.nD Cert.CtxWideRefIdeal.τ).loc Cert.CtxWideRefIdeal.main_arg5) = m ((c.tc : Thread Cert.CtxWideRefIdeal.nD Cert.CtxWideRefIdeal.τ).loc Cert.CtxWideRefIdeal.main_arg5)
      ∧ r.2.mem ((c.tc : Thread Cert.CtxWideRefIdeal.nD Cert.CtxWideRefIdeal.τ).loc Cert.CtxWideRefIdeal.main_arg6) = m ((c.tc : Thread Cert.CtxWideRefIdeal.nD Cert.CtxWideRefIdeal.τ).loc Cert.CtxWideRefIdeal.main_arg6))
      ∧ r.2.sem = fun _ => 0)

def quiescent_CtxProj [hCtxProj : Cert.CtxProj.Facts] : Prop :=
  ∀ (m : (ℓ : Loc Cert.CtxProj.nD Cert.CtxProj.τ Cert.CtxProj.sig) → Buf (Elt Bits) ℓ) (g : Dev Cert.CtxProj.nD → PrngReg), Pre_CtxProj m →
    θ_run (Cert.CtxProj.defs (F := Bits)) (onTc (τ := Cert.CtxProj.τ) (Cert.CtxProj.main (F := Bits))) ⟨m, fun _ => 0, g⟩ (fun r => (∀ c : Dev Cert.CtxProj.nD,
      r.2.mem ((c.tc : Thread Cert.CtxProj.nD Cert.CtxProj.τ).loc Cert.CtxProj.main_arg0) = m ((c.tc : Thread Cert.CtxProj.nD Cert.CtxProj.τ).loc Cert.CtxProj.main_arg0)
      ∧ r.2.mem ((c.tc : Thread Cert.CtxProj.nD Cert.CtxProj.τ).loc Cert.CtxProj.main_arg1) = m ((c.tc : Thread Cert.CtxProj.nD Cert.CtxProj.τ).loc Cert.CtxProj.main_arg1)
      ∧ r.2.mem ((c.tc : Thread Cert.CtxProj.nD Cert.CtxProj.τ).loc Cert.CtxProj.main_arg2) = m ((c.tc : Thread Cert.CtxProj.nD Cert.CtxProj.τ).loc Cert.CtxProj.main_arg2)
      ∧ r.2.mem ((c.tc : Thread Cert.CtxProj.nD Cert.CtxProj.τ).loc Cert.CtxProj.main_arg3) = m ((c.tc : Thread Cert.CtxProj.nD Cert.CtxProj.τ).loc Cert.CtxProj.main_arg3))
      ∧ r.2.sem = fun _ => 0)

def quiescent_CtxProjIdeal [hCtxProjIdeal : Cert.CtxProjIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg), Pre_CtxProjIdeal m →
    θ_run (Cert.CtxProjIdeal.defs (F := Ideal)) (onTc (τ := Cert.CtxProjIdeal.τ) (Cert.CtxProjIdeal.main (F := Ideal))) ⟨m, fun _ => 0, g⟩ (fun r => (∀ c : Dev Cert.CtxProjIdeal.nD,
      r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
      ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
      ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
      ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3))
      ∧ r.2.sem = fun _ => 0)

def quiescent_CtxProjRefIdeal [hCtxProjRefIdeal : Cert.CtxProjRefIdeal.Facts] : Prop :=
  ∀ (m : (ℓ : Loc Cert.CtxProjRefIdeal.nD Cert.CtxProjRefIdeal.τ Cert.CtxProjRefIdeal.sig) → Buf (Elt Ideal) ℓ) (g : Dev Cert.CtxProjRefIdeal.nD → PrngReg), Pre_CtxProjRefIdeal m →
    θ_run (Cert.CtxProjRefIdeal.defs (F := Ideal)) (onTc (τ := Cert.CtxProjRefIdeal.τ) (Cert.CtxProjRefIdeal.main (F := Ideal))) ⟨m, fun _ => 0, g⟩ (fun r => (∀ c : Dev Cert.CtxProjRefIdeal.nD,
      r.2.mem ((c.tc : Thread Cert.CtxProjRefIdeal.nD Cert.CtxProjRefIdeal.τ).loc Cert.CtxProjRefIdeal.main_arg0) = m ((c.tc : Thread Cert.CtxProjRefIdeal.nD Cert.CtxProjRefIdeal.τ).loc Cert.CtxProjRefIdeal.main_arg0)
      ∧ r.2.mem ((c.tc : Thread Cert.CtxProjRefIdeal.nD Cert.CtxProjRefIdeal.τ).loc Cert.CtxProjRefIdeal.main_arg1) = m ((c.tc : Thread Cert.CtxProjRefIdeal.nD Cert.CtxProjRefIdeal.τ).loc Cert.CtxProjRefIdeal.main_arg1)
      ∧ r.2.mem ((c.tc : Thread Cert.CtxProjRefIdeal.nD Cert.CtxProjRefIdeal.τ).loc Cert.CtxProjRefIdeal.main_arg2) = m ((c.tc : Thread Cert.CtxProjRefIdeal.nD Cert.CtxProjRefIdeal.τ).loc Cert.CtxProjRefIdeal.main_arg2)
      ∧ r.2.mem ((c.tc : Thread Cert.CtxProjRefIdeal.nD Cert.CtxProjRefIdeal.τ).loc Cert.CtxProjRefIdeal.main_arg3) = m ((c.tc : Thread Cert.CtxProjRefIdeal.nD Cert.CtxProjRefIdeal.τ).loc Cert.CtxProjRefIdeal.main_arg3))
      ∧ r.2.sem = fun _ => 0)

def quiescent_CtxProjHyena [hCtxProjHyena : Cert.CtxProjHyena.Facts] : Prop :=
  ∀ (m : (ℓ : Loc Cert.CtxProjHyena.nD Cert.CtxProjHyena.τ Cert.CtxProjHyena.sig) → Buf (Elt Bits) ℓ) (g : Dev Cert.CtxProjHyena.nD → PrngReg), Pre_CtxProjHyena m →
    θ_run (Cert.CtxProjHyena.defs (F := Bits)) (onTc (τ := Cert.CtxProjHyena.τ) (Cert.CtxProjHyena.main (F := Bits))) ⟨m, fun _ => 0, g⟩ (fun r => (∀ c : Dev Cert.CtxProjHyena.nD,
      r.2.mem ((c.tc : Thread Cert.CtxProjHyena.nD Cert.CtxProjHyena.τ).loc Cert.CtxProjHyena.main_arg0) = m ((c.tc : Thread Cert.CtxProjHyena.nD Cert.CtxProjHyena.τ).loc Cert.CtxProjHyena.main_arg0)
      ∧ r.2.mem ((c.tc : Thread Cert.CtxProjHyena.nD Cert.CtxProjHyena.τ).loc Cert.CtxProjHyena.main_arg1) = m ((c.tc : Thread Cert.CtxProjHyena.nD Cert.CtxProjHyena.τ).loc Cert.CtxProjHyena.main_arg1)
      ∧ r.2.mem ((c.tc : Thread Cert.CtxProjHyena.nD Cert.CtxProjHyena.τ).loc Cert.CtxProjHyena.main_arg2) = m ((c.tc : Thread Cert.CtxProjHyena.nD Cert.CtxProjHyena.τ).loc Cert.CtxProjHyena.main_arg2)
      ∧ r.2.mem ((c.tc : Thread Cert.CtxProjHyena.nD Cert.CtxProjHyena.τ).loc Cert.CtxProjHyena.main_arg3) = m ((c.tc : Thread Cert.CtxProjHyena.nD Cert.CtxProjHyena.τ).loc Cert.CtxProjHyena.main_arg3))
      ∧ r.2.sem = fun _ => 0)

def quiescent_CtxProjHyenaIdeal [hCtxProjHyenaIdeal : Cert.CtxProjHyenaIdeal.Facts] : Prop :=
  ∀ (m : (ℓ : Loc Cert.CtxProjHyenaIdeal.nD Cert.CtxProjHyenaIdeal.τ Cert.CtxProjHyenaIdeal.sig) → Buf (Elt Ideal) ℓ) (g : Dev Cert.CtxProjHyenaIdeal.nD → PrngReg), Pre_CtxProjHyenaIdeal m →
    θ_run (Cert.CtxProjHyenaIdeal.defs (F := Ideal)) (onTc (τ := Cert.CtxProjHyenaIdeal.τ) (Cert.CtxProjHyenaIdeal.main (F := Ideal))) ⟨m, fun _ => 0, g⟩ (fun r => (∀ c : Dev Cert.CtxProjHyenaIdeal.nD,
      r.2.mem ((c.tc : Thread Cert.CtxProjHyenaIdeal.nD Cert.CtxProjHyenaIdeal.τ).loc Cert.CtxProjHyenaIdeal.main_arg0) = m ((c.tc : Thread Cert.CtxProjHyenaIdeal.nD Cert.CtxProjHyenaIdeal.τ).loc Cert.CtxProjHyenaIdeal.main_arg0)
      ∧ r.2.mem ((c.tc : Thread Cert.CtxProjHyenaIdeal.nD Cert.CtxProjHyenaIdeal.τ).loc Cert.CtxProjHyenaIdeal.main_arg1) = m ((c.tc : Thread Cert.CtxProjHyenaIdeal.nD Cert.CtxProjHyenaIdeal.τ).loc Cert.CtxProjHyenaIdeal.main_arg1)
      ∧ r.2.mem ((c.tc : Thread Cert.CtxProjHyenaIdeal.nD Cert.CtxProjHyenaIdeal.τ).loc Cert.CtxProjHyenaIdeal.main_arg2) = m ((c.tc : Thread Cert.CtxProjHyenaIdeal.nD Cert.CtxProjHyenaIdeal.τ).loc Cert.CtxProjHyenaIdeal.main_arg2)
      ∧ r.2.mem ((c.tc : Thread Cert.CtxProjHyenaIdeal.nD Cert.CtxProjHyenaIdeal.τ).loc Cert.CtxProjHyenaIdeal.main_arg3) = m ((c.tc : Thread Cert.CtxProjHyenaIdeal.nD Cert.CtxProjHyenaIdeal.τ).loc Cert.CtxProjHyenaIdeal.main_arg3))
      ∧ r.2.sem = fun _ => 0)

def quiescent_CtxProjHyenaRefIdeal [hCtxProjHyenaRefIdeal : Cert.CtxProjHyenaRefIdeal.Facts] : Prop :=
  ∀ (m : (ℓ : Loc Cert.CtxProjHyenaRefIdeal.nD Cert.CtxProjHyenaRefIdeal.τ Cert.CtxProjHyenaRefIdeal.sig) → Buf (Elt Ideal) ℓ) (g : Dev Cert.CtxProjHyenaRefIdeal.nD → PrngReg), Pre_CtxProjHyenaRefIdeal m →
    θ_run (Cert.CtxProjHyenaRefIdeal.defs (F := Ideal)) (onTc (τ := Cert.CtxProjHyenaRefIdeal.τ) (Cert.CtxProjHyenaRefIdeal.main (F := Ideal))) ⟨m, fun _ => 0, g⟩ (fun r => (∀ c : Dev Cert.CtxProjHyenaRefIdeal.nD,
      r.2.mem ((c.tc : Thread Cert.CtxProjHyenaRefIdeal.nD Cert.CtxProjHyenaRefIdeal.τ).loc Cert.CtxProjHyenaRefIdeal.main_arg0) = m ((c.tc : Thread Cert.CtxProjHyenaRefIdeal.nD Cert.CtxProjHyenaRefIdeal.τ).loc Cert.CtxProjHyenaRefIdeal.main_arg0)
      ∧ r.2.mem ((c.tc : Thread Cert.CtxProjHyenaRefIdeal.nD Cert.CtxProjHyenaRefIdeal.τ).loc Cert.CtxProjHyenaRefIdeal.main_arg1) = m ((c.tc : Thread Cert.CtxProjHyenaRefIdeal.nD Cert.CtxProjHyenaRefIdeal.τ).loc Cert.CtxProjHyenaRefIdeal.main_arg1)
      ∧ r.2.mem ((c.tc : Thread Cert.CtxProjHyenaRefIdeal.nD Cert.CtxProjHyenaRefIdeal.τ).loc Cert.CtxProjHyenaRefIdeal.main_arg2) = m ((c.tc : Thread Cert.CtxProjHyenaRefIdeal.nD Cert.CtxProjHyenaRefIdeal.τ).loc Cert.CtxProjHyenaRefIdeal.main_arg2)
      ∧ r.2.mem ((c.tc : Thread Cert.CtxProjHyenaRefIdeal.nD Cert.CtxProjHyenaRefIdeal.τ).loc Cert.CtxProjHyenaRefIdeal.main_arg3) = m ((c.tc : Thread Cert.CtxProjHyenaRefIdeal.nD Cert.CtxProjHyenaRefIdeal.τ).loc Cert.CtxProjHyenaRefIdeal.main_arg3))
      ∧ r.2.sem = fun _ => 0)

def quiescent_CtxProjSsd [hCtxProjSsd : Cert.CtxProjSsd.Facts] : Prop :=
  ∀ (m : (ℓ : Loc Cert.CtxProjSsd.nD Cert.CtxProjSsd.τ Cert.CtxProjSsd.sig) → Buf (Elt Bits) ℓ) (g : Dev Cert.CtxProjSsd.nD → PrngReg), Pre_CtxProjSsd m →
    θ_run (Cert.CtxProjSsd.defs (F := Bits)) (onTc (τ := Cert.CtxProjSsd.τ) (Cert.CtxProjSsd.main (F := Bits))) ⟨m, fun _ => 0, g⟩ (fun r => (∀ c : Dev Cert.CtxProjSsd.nD,
      r.2.mem ((c.tc : Thread Cert.CtxProjSsd.nD Cert.CtxProjSsd.τ).loc Cert.CtxProjSsd.main_arg0) = m ((c.tc : Thread Cert.CtxProjSsd.nD Cert.CtxProjSsd.τ).loc Cert.CtxProjSsd.main_arg0)
      ∧ r.2.mem ((c.tc : Thread Cert.CtxProjSsd.nD Cert.CtxProjSsd.τ).loc Cert.CtxProjSsd.main_arg1) = m ((c.tc : Thread Cert.CtxProjSsd.nD Cert.CtxProjSsd.τ).loc Cert.CtxProjSsd.main_arg1)
      ∧ r.2.mem ((c.tc : Thread Cert.CtxProjSsd.nD Cert.CtxProjSsd.τ).loc Cert.CtxProjSsd.main_arg2) = m ((c.tc : Thread Cert.CtxProjSsd.nD Cert.CtxProjSsd.τ).loc Cert.CtxProjSsd.main_arg2)
      ∧ r.2.mem ((c.tc : Thread Cert.CtxProjSsd.nD Cert.CtxProjSsd.τ).loc Cert.CtxProjSsd.main_arg3) = m ((c.tc : Thread Cert.CtxProjSsd.nD Cert.CtxProjSsd.τ).loc Cert.CtxProjSsd.main_arg3))
      ∧ r.2.sem = fun _ => 0)

def quiescent_CtxProjSsdIdeal [hCtxProjSsdIdeal : Cert.CtxProjSsdIdeal.Facts] : Prop :=
  ∀ (m : (ℓ : Loc Cert.CtxProjSsdIdeal.nD Cert.CtxProjSsdIdeal.τ Cert.CtxProjSsdIdeal.sig) → Buf (Elt Ideal) ℓ) (g : Dev Cert.CtxProjSsdIdeal.nD → PrngReg), Pre_CtxProjSsdIdeal m →
    θ_run (Cert.CtxProjSsdIdeal.defs (F := Ideal)) (onTc (τ := Cert.CtxProjSsdIdeal.τ) (Cert.CtxProjSsdIdeal.main (F := Ideal))) ⟨m, fun _ => 0, g⟩ (fun r => (∀ c : Dev Cert.CtxProjSsdIdeal.nD,
      r.2.mem ((c.tc : Thread Cert.CtxProjSsdIdeal.nD Cert.CtxProjSsdIdeal.τ).loc Cert.CtxProjSsdIdeal.main_arg0) = m ((c.tc : Thread Cert.CtxProjSsdIdeal.nD Cert.CtxProjSsdIdeal.τ).loc Cert.CtxProjSsdIdeal.main_arg0)
      ∧ r.2.mem ((c.tc : Thread Cert.CtxProjSsdIdeal.nD Cert.CtxProjSsdIdeal.τ).loc Cert.CtxProjSsdIdeal.main_arg1) = m ((c.tc : Thread Cert.CtxProjSsdIdeal.nD Cert.CtxProjSsdIdeal.τ).loc Cert.CtxProjSsdIdeal.main_arg1)
      ∧ r.2.mem ((c.tc : Thread Cert.CtxProjSsdIdeal.nD Cert.CtxProjSsdIdeal.τ).loc Cert.CtxProjSsdIdeal.main_arg2) = m ((c.tc : Thread Cert.CtxProjSsdIdeal.nD Cert.CtxProjSsdIdeal.τ).loc Cert.CtxProjSsdIdeal.main_arg2)
      ∧ r.2.mem ((c.tc : Thread Cert.CtxProjSsdIdeal.nD Cert.CtxProjSsdIdeal.τ).loc Cert.CtxProjSsdIdeal.main_arg3) = m ((c.tc : Thread Cert.CtxProjSsdIdeal.nD Cert.CtxProjSsdIdeal.τ).loc Cert.CtxProjSsdIdeal.main_arg3))
      ∧ r.2.sem = fun _ => 0)

def quiescent_CtxProjSsdRefIdeal [hCtxProjSsdRefIdeal : Cert.CtxProjSsdRefIdeal.Facts] : Prop :=
  ∀ (m : (ℓ : Loc Cert.CtxProjSsdRefIdeal.nD Cert.CtxProjSsdRefIdeal.τ Cert.CtxProjSsdRefIdeal.sig) → Buf (Elt Ideal) ℓ) (g : Dev Cert.CtxProjSsdRefIdeal.nD → PrngReg), Pre_CtxProjSsdRefIdeal m →
    θ_run (Cert.CtxProjSsdRefIdeal.defs (F := Ideal)) (onTc (τ := Cert.CtxProjSsdRefIdeal.τ) (Cert.CtxProjSsdRefIdeal.main (F := Ideal))) ⟨m, fun _ => 0, g⟩ (fun r => (∀ c : Dev Cert.CtxProjSsdRefIdeal.nD,
      r.2.mem ((c.tc : Thread Cert.CtxProjSsdRefIdeal.nD Cert.CtxProjSsdRefIdeal.τ).loc Cert.CtxProjSsdRefIdeal.main_arg0) = m ((c.tc : Thread Cert.CtxProjSsdRefIdeal.nD Cert.CtxProjSsdRefIdeal.τ).loc Cert.CtxProjSsdRefIdeal.main_arg0)
      ∧ r.2.mem ((c.tc : Thread Cert.CtxProjSsdRefIdeal.nD Cert.CtxProjSsdRefIdeal.τ).loc Cert.CtxProjSsdRefIdeal.main_arg1) = m ((c.tc : Thread Cert.CtxProjSsdRefIdeal.nD Cert.CtxProjSsdRefIdeal.τ).loc Cert.CtxProjSsdRefIdeal.main_arg1)
      ∧ r.2.mem ((c.tc : Thread Cert.CtxProjSsdRefIdeal.nD Cert.CtxProjSsdRefIdeal.τ).loc Cert.CtxProjSsdRefIdeal.main_arg2) = m ((c.tc : Thread Cert.CtxProjSsdRefIdeal.nD Cert.CtxProjSsdRefIdeal.τ).loc Cert.CtxProjSsdRefIdeal.main_arg2)
      ∧ r.2.mem ((c.tc : Thread Cert.CtxProjSsdRefIdeal.nD Cert.CtxProjSsdRefIdeal.τ).loc Cert.CtxProjSsdRefIdeal.main_arg3) = m ((c.tc : Thread Cert.CtxProjSsdRefIdeal.nD Cert.CtxProjSsdRefIdeal.τ).loc Cert.CtxProjSsdRefIdeal.main_arg3))
      ∧ r.2.sem = fun _ => 0)

def quiescent_CtxProjNbr [hCtxProjNbr : Cert.CtxProjNbr.Facts] : Prop :=
  ∀ (m : (ℓ : Loc Cert.CtxProjNbr.nD Cert.CtxProjNbr.τ Cert.CtxProjNbr.sig) → Buf (Elt Bits) ℓ) (g : Dev Cert.CtxProjNbr.nD → PrngReg), Pre_CtxProjNbr m →
    θ_run (Cert.CtxProjNbr.defs (F := Bits)) (onTc (τ := Cert.CtxProjNbr.τ) (Cert.CtxProjNbr.main (F := Bits))) ⟨m, fun _ => 0, g⟩ (fun r => (∀ c : Dev Cert.CtxProjNbr.nD,
      r.2.mem ((c.tc : Thread Cert.CtxProjNbr.nD Cert.CtxProjNbr.τ).loc Cert.CtxProjNbr.main_arg0) = m ((c.tc : Thread Cert.CtxProjNbr.nD Cert.CtxProjNbr.τ).loc Cert.CtxProjNbr.main_arg0)
      ∧ r.2.mem ((c.tc : Thread Cert.CtxProjNbr.nD Cert.CtxProjNbr.τ).loc Cert.CtxProjNbr.main_arg1) = m ((c.tc : Thread Cert.CtxProjNbr.nD Cert.CtxProjNbr.τ).loc Cert.CtxProjNbr.main_arg1)
      ∧ r.2.mem ((c.tc : Thread Cert.CtxProjNbr.nD Cert.CtxProjNbr.τ).loc Cert.CtxProjNbr.main_arg2) = m ((c.tc : Thread Cert.CtxProjNbr.nD Cert.CtxProjNbr.τ).loc Cert.CtxProjNbr.main_arg2)
      ∧ r.2.mem ((c.tc : Thread Cert.CtxProjNbr.nD Cert.CtxProjNbr.τ).loc Cert.CtxProjNbr.main_arg3) = m ((c.tc : Thread Cert.CtxProjNbr.nD Cert.CtxProjNbr.τ).loc Cert.CtxProjNbr.main_arg3))
      ∧ r.2.sem = fun _ => 0)

def quiescent_CtxProjNbrIdeal [hCtxProjNbrIdeal : Cert.CtxProjNbrIdeal.Facts] : Prop :=
  ∀ (m : (ℓ : Loc Cert.CtxProjNbrIdeal.nD Cert.CtxProjNbrIdeal.τ Cert.CtxProjNbrIdeal.sig) → Buf (Elt Ideal) ℓ) (g : Dev Cert.CtxProjNbrIdeal.nD → PrngReg), Pre_CtxProjNbrIdeal m →
    θ_run (Cert.CtxProjNbrIdeal.defs (F := Ideal)) (onTc (τ := Cert.CtxProjNbrIdeal.τ) (Cert.CtxProjNbrIdeal.main (F := Ideal))) ⟨m, fun _ => 0, g⟩ (fun r => (∀ c : Dev Cert.CtxProjNbrIdeal.nD,
      r.2.mem ((c.tc : Thread Cert.CtxProjNbrIdeal.nD Cert.CtxProjNbrIdeal.τ).loc Cert.CtxProjNbrIdeal.main_arg0) = m ((c.tc : Thread Cert.CtxProjNbrIdeal.nD Cert.CtxProjNbrIdeal.τ).loc Cert.CtxProjNbrIdeal.main_arg0)
      ∧ r.2.mem ((c.tc : Thread Cert.CtxProjNbrIdeal.nD Cert.CtxProjNbrIdeal.τ).loc Cert.CtxProjNbrIdeal.main_arg1) = m ((c.tc : Thread Cert.CtxProjNbrIdeal.nD Cert.CtxProjNbrIdeal.τ).loc Cert.CtxProjNbrIdeal.main_arg1)
      ∧ r.2.mem ((c.tc : Thread Cert.CtxProjNbrIdeal.nD Cert.CtxProjNbrIdeal.τ).loc Cert.CtxProjNbrIdeal.main_arg2) = m ((c.tc : Thread Cert.CtxProjNbrIdeal.nD Cert.CtxProjNbrIdeal.τ).loc Cert.CtxProjNbrIdeal.main_arg2)
      ∧ r.2.mem ((c.tc : Thread Cert.CtxProjNbrIdeal.nD Cert.CtxProjNbrIdeal.τ).loc Cert.CtxProjNbrIdeal.main_arg3) = m ((c.tc : Thread Cert.CtxProjNbrIdeal.nD Cert.CtxProjNbrIdeal.τ).loc Cert.CtxProjNbrIdeal.main_arg3))
      ∧ r.2.sem = fun _ => 0)

def quiescent_CtxProjNbrRefIdeal [hCtxProjNbrRefIdeal : Cert.CtxProjNbrRefIdeal.Facts] : Prop :=
  ∀ (m : (ℓ : Loc Cert.CtxProjNbrRefIdeal.nD Cert.CtxProjNbrRefIdeal.τ Cert.CtxProjNbrRefIdeal.sig) → Buf (Elt Ideal) ℓ) (g : Dev Cert.CtxProjNbrRefIdeal.nD → PrngReg), Pre_CtxProjNbrRefIdeal m →
    θ_run (Cert.CtxProjNbrRefIdeal.defs (F := Ideal)) (onTc (τ := Cert.CtxProjNbrRefIdeal.τ) (Cert.CtxProjNbrRefIdeal.main (F := Ideal))) ⟨m, fun _ => 0, g⟩ (fun r => (∀ c : Dev Cert.CtxProjNbrRefIdeal.nD,
      r.2.mem ((c.tc : Thread Cert.CtxProjNbrRefIdeal.nD Cert.CtxProjNbrRefIdeal.τ).loc Cert.CtxProjNbrRefIdeal.main_arg0) = m ((c.tc : Thread Cert.CtxProjNbrRefIdeal.nD Cert.CtxProjNbrRefIdeal.τ).loc Cert.CtxProjNbrRefIdeal.main_arg0)
      ∧ r.2.mem ((c.tc : Thread Cert.CtxProjNbrRefIdeal.nD Cert.CtxProjNbrRefIdeal.τ).loc Cert.CtxProjNbrRefIdeal.main_arg1) = m ((c.tc : Thread Cert.CtxProjNbrRefIdeal.nD Cert.CtxProjNbrRefIdeal.τ).loc Cert.CtxProjNbrRefIdeal.main_arg1)
      ∧ r.2.mem ((c.tc : Thread Cert.CtxProjNbrRefIdeal.nD Cert.CtxProjNbrRefIdeal.τ).loc Cert.CtxProjNbrRefIdeal.main_arg2) = m ((c.tc : Thread Cert.CtxProjNbrRefIdeal.nD Cert.CtxProjNbrRefIdeal.τ).loc Cert.CtxProjNbrRefIdeal.main_arg2)
      ∧ r.2.mem ((c.tc : Thread Cert.CtxProjNbrRefIdeal.nD Cert.CtxProjNbrRefIdeal.τ).loc Cert.CtxProjNbrRefIdeal.main_arg3) = m ((c.tc : Thread Cert.CtxProjNbrRefIdeal.nD Cert.CtxProjNbrRefIdeal.τ).loc Cert.CtxProjNbrRefIdeal.main_arg3))
      ∧ r.2.sem = fun _ => 0)

def quiescent_Nbr [hNbr : Cert.Nbr.Facts] : Prop :=
  ∀ (m : (ℓ : Loc Cert.Nbr.nD Cert.Nbr.τ Cert.Nbr.sig) → Buf (Elt Bits) ℓ) (g : Dev Cert.Nbr.nD → PrngReg), Pre_Nbr m →
    θ_run (Cert.Nbr.defs (F := Bits)) (onTc (τ := Cert.Nbr.τ) (Cert.Nbr.main (F := Bits))) ⟨m, fun _ => 0, g⟩ (fun r => (∀ c : Dev Cert.Nbr.nD,
      r.2.mem ((c.tc : Thread Cert.Nbr.nD Cert.Nbr.τ).loc Cert.Nbr.main_arg0) = m ((c.tc : Thread Cert.Nbr.nD Cert.Nbr.τ).loc Cert.Nbr.main_arg0)
      ∧ r.2.mem ((c.tc : Thread Cert.Nbr.nD Cert.Nbr.τ).loc Cert.Nbr.main_arg1) = m ((c.tc : Thread Cert.Nbr.nD Cert.Nbr.τ).loc Cert.Nbr.main_arg1)
      ∧ r.2.mem ((c.tc : Thread Cert.Nbr.nD Cert.Nbr.τ).loc Cert.Nbr.main_arg2) = m ((c.tc : Thread Cert.Nbr.nD Cert.Nbr.τ).loc Cert.Nbr.main_arg2))
      ∧ r.2.sem = fun _ => 0)

def quiescent_NbrIdeal [hNbrIdeal : Cert.NbrIdeal.Facts] : Prop :=
  ∀ (m : (ℓ : Loc Cert.NbrIdeal.nD Cert.NbrIdeal.τ Cert.NbrIdeal.sig) → Buf (Elt Ideal) ℓ) (g : Dev Cert.NbrIdeal.nD → PrngReg), Pre_NbrIdeal m →
    θ_run (Cert.NbrIdeal.defs (F := Ideal)) (onTc (τ := Cert.NbrIdeal.τ) (Cert.NbrIdeal.main (F := Ideal))) ⟨m, fun _ => 0, g⟩ (fun r => (∀ c : Dev Cert.NbrIdeal.nD,
      r.2.mem ((c.tc : Thread Cert.NbrIdeal.nD Cert.NbrIdeal.τ).loc Cert.NbrIdeal.main_arg0) = m ((c.tc : Thread Cert.NbrIdeal.nD Cert.NbrIdeal.τ).loc Cert.NbrIdeal.main_arg0)
      ∧ r.2.mem ((c.tc : Thread Cert.NbrIdeal.nD Cert.NbrIdeal.τ).loc Cert.NbrIdeal.main_arg1) = m ((c.tc : Thread Cert.NbrIdeal.nD Cert.NbrIdeal.τ).loc Cert.NbrIdeal.main_arg1)
      ∧ r.2.mem ((c.tc : Thread Cert.NbrIdeal.nD Cert.NbrIdeal.τ).loc Cert.NbrIdeal.main_arg2) = m ((c.tc : Thread Cert.NbrIdeal.nD Cert.NbrIdeal.τ).loc Cert.NbrIdeal.main_arg2))
      ∧ r.2.sem = fun _ => 0)

def quiescent_NbrIdeal_pre_finite_scores [hNbrIdeal : Cert.NbrIdeal.Facts] [hPre_finite_scores : Cert.Pre_finite_scores.Facts] : Prop :=
  ∀ (m : (ℓ : Loc Cert.NbrIdeal.nD Cert.NbrIdeal.τ Cert.NbrIdeal.sig) → Buf (Elt Ideal) ℓ) (g : Dev Cert.NbrIdeal.nD → PrngReg), Pre_NbrIdeal_finite_scores m →
    θ_run (Cert.NbrIdeal.defs (F := Ideal)) (onTc (τ := Cert.NbrIdeal.τ) (Cert.NbrIdeal.main (F := Ideal))) ⟨m, fun _ => 0, g⟩ (fun r => (∀ c : Dev Cert.NbrIdeal.nD,
      r.2.mem ((c.tc : Thread Cert.NbrIdeal.nD Cert.NbrIdeal.τ).loc Cert.NbrIdeal.main_arg0) = m ((c.tc : Thread Cert.NbrIdeal.nD Cert.NbrIdeal.τ).loc Cert.NbrIdeal.main_arg0)
      ∧ r.2.mem ((c.tc : Thread Cert.NbrIdeal.nD Cert.NbrIdeal.τ).loc Cert.NbrIdeal.main_arg1) = m ((c.tc : Thread Cert.NbrIdeal.nD Cert.NbrIdeal.τ).loc Cert.NbrIdeal.main_arg1)
      ∧ r.2.mem ((c.tc : Thread Cert.NbrIdeal.nD Cert.NbrIdeal.τ).loc Cert.NbrIdeal.main_arg2) = m ((c.tc : Thread Cert.NbrIdeal.nD Cert.NbrIdeal.τ).loc Cert.NbrIdeal.main_arg2))
      ∧ r.2.sem = fun _ => 0)

def quiescent_NbrRefIdeal [hNbrRefIdeal : Cert.NbrRefIdeal.Facts] : Prop :=
  ∀ (m : (ℓ : Loc Cert.NbrRefIdeal.nD Cert.NbrRefIdeal.τ Cert.NbrRefIdeal.sig) → Buf (Elt Ideal) ℓ) (g : Dev Cert.NbrRefIdeal.nD → PrngReg), Pre_NbrRefIdeal m →
    θ_run (Cert.NbrRefIdeal.defs (F := Ideal)) (onTc (τ := Cert.NbrRefIdeal.τ) (Cert.NbrRefIdeal.main (F := Ideal))) ⟨m, fun _ => 0, g⟩ (fun r => (∀ c : Dev Cert.NbrRefIdeal.nD,
      r.2.mem ((c.tc : Thread Cert.NbrRefIdeal.nD Cert.NbrRefIdeal.τ).loc Cert.NbrRefIdeal.main_arg0) = m ((c.tc : Thread Cert.NbrRefIdeal.nD Cert.NbrRefIdeal.τ).loc Cert.NbrRefIdeal.main_arg0)
      ∧ r.2.mem ((c.tc : Thread Cert.NbrRefIdeal.nD Cert.NbrRefIdeal.τ).loc Cert.NbrRefIdeal.main_arg1) = m ((c.tc : Thread Cert.NbrRefIdeal.nD Cert.NbrRefIdeal.τ).loc Cert.NbrRefIdeal.main_arg1)
      ∧ r.2.mem ((c.tc : Thread Cert.NbrRefIdeal.nD Cert.NbrRefIdeal.τ).loc Cert.NbrRefIdeal.main_arg2) = m ((c.tc : Thread Cert.NbrRefIdeal.nD Cert.NbrRefIdeal.τ).loc Cert.NbrRefIdeal.main_arg2))
      ∧ r.2.sem = fun _ => 0)

def quiescent_NbrRefIdeal_pre_finite_scores [hNbrRefIdeal : Cert.NbrRefIdeal.Facts] [hPre_finite_scores : Cert.Pre_finite_scores.Facts] : Prop :=
  ∀ (m : (ℓ : Loc Cert.NbrRefIdeal.nD Cert.NbrRefIdeal.τ Cert.NbrRefIdeal.sig) → Buf (Elt Ideal) ℓ) (g : Dev Cert.NbrRefIdeal.nD → PrngReg), Pre_NbrRefIdeal_finite_scores m →
    θ_run (Cert.NbrRefIdeal.defs (F := Ideal)) (onTc (τ := Cert.NbrRefIdeal.τ) (Cert.NbrRefIdeal.main (F := Ideal))) ⟨m, fun _ => 0, g⟩ (fun r => (∀ c : Dev Cert.NbrRefIdeal.nD,
      r.2.mem ((c.tc : Thread Cert.NbrRefIdeal.nD Cert.NbrRefIdeal.τ).loc Cert.NbrRefIdeal.main_arg0) = m ((c.tc : Thread Cert.NbrRefIdeal.nD Cert.NbrRefIdeal.τ).loc Cert.NbrRefIdeal.main_arg0)
      ∧ r.2.mem ((c.tc : Thread Cert.NbrRefIdeal.nD Cert.NbrRefIdeal.τ).loc Cert.NbrRefIdeal.main_arg1) = m ((c.tc : Thread Cert.NbrRefIdeal.nD Cert.NbrRefIdeal.τ).loc Cert.NbrRefIdeal.main_arg1)
      ∧ r.2.mem ((c.tc : Thread Cert.NbrRefIdeal.nD Cert.NbrRefIdeal.τ).loc Cert.NbrRefIdeal.main_arg2) = m ((c.tc : Thread Cert.NbrRefIdeal.nD Cert.NbrRefIdeal.τ).loc Cert.NbrRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_ConvHyena [hConvHyena : Cert.ConvHyena.Facts] : Prop :=
  ∀ (m : (ℓ : Loc Cert.ConvHyena.nD Cert.ConvHyena.τ Cert.ConvHyena.sig) → Buf (Elt Bits) ℓ) (g : Dev Cert.ConvHyena.nD → PrngReg), Pre_ConvHyena m →
    θ_run (Cert.ConvHyena.defs (F := Bits)) (onTc (τ := Cert.ConvHyena.τ) (Cert.ConvHyena.main (F := Bits))) ⟨m, fun _ => 0, g⟩ (fun r => (∀ c : Dev Cert.ConvHyena.nD,
      r.2.mem ((c.tc : Thread Cert.ConvHyena.nD Cert.ConvHyena.τ).loc Cert.ConvHyena.main_arg0) = m ((c.tc : Thread Cert.ConvHyena.nD Cert.ConvHyena.τ).loc Cert.ConvHyena.main_arg0)
      ∧ r.2.mem ((c.tc : Thread Cert.ConvHyena.nD Cert.ConvHyena.τ).loc Cert.ConvHyena.main_arg1) = m ((c.tc : Thread Cert.ConvHyena.nD Cert.ConvHyena.τ).loc Cert.ConvHyena.main_arg1)
      ∧ r.2.mem ((c.tc : Thread Cert.ConvHyena.nD Cert.ConvHyena.τ).loc Cert.ConvHyena.main_arg2) = m ((c.tc : Thread Cert.ConvHyena.nD Cert.ConvHyena.τ).loc Cert.ConvHyena.main_arg2))
      ∧ r.2.sem = fun _ => 0)

def quiescent_ConvHyenaIdeal [hConvHyenaIdeal : Cert.ConvHyenaIdeal.Facts] : Prop :=
  ∀ (m : (ℓ : Loc Cert.ConvHyenaIdeal.nD Cert.ConvHyenaIdeal.τ Cert.ConvHyenaIdeal.sig) → Buf (Elt Ideal) ℓ) (g : Dev Cert.ConvHyenaIdeal.nD → PrngReg), Pre_ConvHyenaIdeal m →
    θ_run (Cert.ConvHyenaIdeal.defs (F := Ideal)) (onTc (τ := Cert.ConvHyenaIdeal.τ) (Cert.ConvHyenaIdeal.main (F := Ideal))) ⟨m, fun _ => 0, g⟩ (fun r => (∀ c : Dev Cert.ConvHyenaIdeal.nD,
      r.2.mem ((c.tc : Thread Cert.ConvHyenaIdeal.nD Cert.ConvHyenaIdeal.τ).loc Cert.ConvHyenaIdeal.main_arg0) = m ((c.tc : Thread Cert.ConvHyenaIdeal.nD Cert.ConvHyenaIdeal.τ).loc Cert.ConvHyenaIdeal.main_arg0)
      ∧ r.2.mem ((c.tc : Thread Cert.ConvHyenaIdeal.nD Cert.ConvHyenaIdeal.τ).loc Cert.ConvHyenaIdeal.main_arg1) = m ((c.tc : Thread Cert.ConvHyenaIdeal.nD Cert.ConvHyenaIdeal.τ).loc Cert.ConvHyenaIdeal.main_arg1)
      ∧ r.2.mem ((c.tc : Thread Cert.ConvHyenaIdeal.nD Cert.ConvHyenaIdeal.τ).loc Cert.ConvHyenaIdeal.main_arg2) = m ((c.tc : Thread Cert.ConvHyenaIdeal.nD Cert.ConvHyenaIdeal.τ).loc Cert.ConvHyenaIdeal.main_arg2))
      ∧ r.2.sem = fun _ => 0)

def quiescent_ConvHyenaRefIdeal [hConvHyenaRefIdeal : Cert.ConvHyenaRefIdeal.Facts] : Prop :=
  ∀ (m : (ℓ : Loc Cert.ConvHyenaRefIdeal.nD Cert.ConvHyenaRefIdeal.τ Cert.ConvHyenaRefIdeal.sig) → Buf (Elt Ideal) ℓ) (g : Dev Cert.ConvHyenaRefIdeal.nD → PrngReg), Pre_ConvHyenaRefIdeal m →
    θ_run (Cert.ConvHyenaRefIdeal.defs (F := Ideal)) (onTc (τ := Cert.ConvHyenaRefIdeal.τ) (Cert.ConvHyenaRefIdeal.main (F := Ideal))) ⟨m, fun _ => 0, g⟩ (fun r => (∀ c : Dev Cert.ConvHyenaRefIdeal.nD,
      r.2.mem ((c.tc : Thread Cert.ConvHyenaRefIdeal.nD Cert.ConvHyenaRefIdeal.τ).loc Cert.ConvHyenaRefIdeal.main_arg0) = m ((c.tc : Thread Cert.ConvHyenaRefIdeal.nD Cert.ConvHyenaRefIdeal.τ).loc Cert.ConvHyenaRefIdeal.main_arg0)
      ∧ r.2.mem ((c.tc : Thread Cert.ConvHyenaRefIdeal.nD Cert.ConvHyenaRefIdeal.τ).loc Cert.ConvHyenaRefIdeal.main_arg1) = m ((c.tc : Thread Cert.ConvHyenaRefIdeal.nD Cert.ConvHyenaRefIdeal.τ).loc Cert.ConvHyenaRefIdeal.main_arg1)
      ∧ r.2.mem ((c.tc : Thread Cert.ConvHyenaRefIdeal.nD Cert.ConvHyenaRefIdeal.τ).loc Cert.ConvHyenaRefIdeal.main_arg2) = m ((c.tc : Thread Cert.ConvHyenaRefIdeal.nD Cert.ConvHyenaRefIdeal.τ).loc Cert.ConvHyenaRefIdeal.main_arg2))
      ∧ r.2.sem = fun _ => 0)

def quiescent_CtxConvHyena [hCtxConvHyena : Cert.CtxConvHyena.Facts] : Prop :=
  ∀ (m : (ℓ : Loc Cert.CtxConvHyena.nD Cert.CtxConvHyena.τ Cert.CtxConvHyena.sig) → Buf (Elt Bits) ℓ) (g : Dev Cert.CtxConvHyena.nD → PrngReg), Pre_CtxConvHyena m →
    θ_run (Cert.CtxConvHyena.defs (F := Bits)) (onTc (τ := Cert.CtxConvHyena.τ) (Cert.CtxConvHyena.main (F := Bits))) ⟨m, fun _ => 0, g⟩ (fun r => (∀ c : Dev Cert.CtxConvHyena.nD,
      r.2.mem ((c.tc : Thread Cert.CtxConvHyena.nD Cert.CtxConvHyena.τ).loc Cert.CtxConvHyena.main_arg0) = m ((c.tc : Thread Cert.CtxConvHyena.nD Cert.CtxConvHyena.τ).loc Cert.CtxConvHyena.main_arg0)
      ∧ r.2.mem ((c.tc : Thread Cert.CtxConvHyena.nD Cert.CtxConvHyena.τ).loc Cert.CtxConvHyena.main_arg1) = m ((c.tc : Thread Cert.CtxConvHyena.nD Cert.CtxConvHyena.τ).loc Cert.CtxConvHyena.main_arg1)
      ∧ r.2.mem ((c.tc : Thread Cert.CtxConvHyena.nD Cert.CtxConvHyena.τ).loc Cert.CtxConvHyena.main_arg2) = m ((c.tc : Thread Cert.CtxConvHyena.nD Cert.CtxConvHyena.τ).loc Cert.CtxConvHyena.main_arg2))
      ∧ r.2.sem = fun _ => 0)

def quiescent_CtxConvHyenaIdeal [hCtxConvHyenaIdeal : Cert.CtxConvHyenaIdeal.Facts] : Prop :=
  ∀ (m : (ℓ : Loc Cert.CtxConvHyenaIdeal.nD Cert.CtxConvHyenaIdeal.τ Cert.CtxConvHyenaIdeal.sig) → Buf (Elt Ideal) ℓ) (g : Dev Cert.CtxConvHyenaIdeal.nD → PrngReg), Pre_CtxConvHyenaIdeal m →
    θ_run (Cert.CtxConvHyenaIdeal.defs (F := Ideal)) (onTc (τ := Cert.CtxConvHyenaIdeal.τ) (Cert.CtxConvHyenaIdeal.main (F := Ideal))) ⟨m, fun _ => 0, g⟩ (fun r => (∀ c : Dev Cert.CtxConvHyenaIdeal.nD,
      r.2.mem ((c.tc : Thread Cert.CtxConvHyenaIdeal.nD Cert.CtxConvHyenaIdeal.τ).loc Cert.CtxConvHyenaIdeal.main_arg0) = m ((c.tc : Thread Cert.CtxConvHyenaIdeal.nD Cert.CtxConvHyenaIdeal.τ).loc Cert.CtxConvHyenaIdeal.main_arg0)
      ∧ r.2.mem ((c.tc : Thread Cert.CtxConvHyenaIdeal.nD Cert.CtxConvHyenaIdeal.τ).loc Cert.CtxConvHyenaIdeal.main_arg1) = m ((c.tc : Thread Cert.CtxConvHyenaIdeal.nD Cert.CtxConvHyenaIdeal.τ).loc Cert.CtxConvHyenaIdeal.main_arg1)
      ∧ r.2.mem ((c.tc : Thread Cert.CtxConvHyenaIdeal.nD Cert.CtxConvHyenaIdeal.τ).loc Cert.CtxConvHyenaIdeal.main_arg2) = m ((c.tc : Thread Cert.CtxConvHyenaIdeal.nD Cert.CtxConvHyenaIdeal.τ).loc Cert.CtxConvHyenaIdeal.main_arg2))
      ∧ r.2.sem = fun _ => 0)

def quiescent_CtxConvHyenaRefIdeal [hCtxConvHyenaRefIdeal : Cert.CtxConvHyenaRefIdeal.Facts] : Prop :=
  ∀ (m : (ℓ : Loc Cert.CtxConvHyenaRefIdeal.nD Cert.CtxConvHyenaRefIdeal.τ Cert.CtxConvHyenaRefIdeal.sig) → Buf (Elt Ideal) ℓ) (g : Dev Cert.CtxConvHyenaRefIdeal.nD → PrngReg), Pre_CtxConvHyenaRefIdeal m →
    θ_run (Cert.CtxConvHyenaRefIdeal.defs (F := Ideal)) (onTc (τ := Cert.CtxConvHyenaRefIdeal.τ) (Cert.CtxConvHyenaRefIdeal.main (F := Ideal))) ⟨m, fun _ => 0, g⟩ (fun r => (∀ c : Dev Cert.CtxConvHyenaRefIdeal.nD,
      r.2.mem ((c.tc : Thread Cert.CtxConvHyenaRefIdeal.nD Cert.CtxConvHyenaRefIdeal.τ).loc Cert.CtxConvHyenaRefIdeal.main_arg0) = m ((c.tc : Thread Cert.CtxConvHyenaRefIdeal.nD Cert.CtxConvHyenaRefIdeal.τ).loc Cert.CtxConvHyenaRefIdeal.main_arg0)
      ∧ r.2.mem ((c.tc : Thread Cert.CtxConvHyenaRefIdeal.nD Cert.CtxConvHyenaRefIdeal.τ).loc Cert.CtxConvHyenaRefIdeal.main_arg1) = m ((c.tc : Thread Cert.CtxConvHyenaRefIdeal.nD Cert.CtxConvHyenaRefIdeal.τ).loc Cert.CtxConvHyenaRefIdeal.main_arg1)
      ∧ r.2.mem ((c.tc : Thread Cert.CtxConvHyenaRefIdeal.nD Cert.CtxConvHyenaRefIdeal.τ).loc Cert.CtxConvHyenaRefIdeal.main_arg2) = m ((c.tc : Thread Cert.CtxConvHyenaRefIdeal.nD Cert.CtxConvHyenaRefIdeal.τ).loc Cert.CtxConvHyenaRefIdeal.main_arg2))
      ∧ r.2.sem = fun _ => 0)

def quiescent_ConvSsd [hConvSsd : Cert.ConvSsd.Facts] : Prop :=
  ∀ (m : (ℓ : Loc Cert.ConvSsd.nD Cert.ConvSsd.τ Cert.ConvSsd.sig) → Buf (Elt Bits) ℓ) (g : Dev Cert.ConvSsd.nD → PrngReg), Pre_ConvSsd m →
    θ_run (Cert.ConvSsd.defs (F := Bits)) (onTc (τ := Cert.ConvSsd.τ) (Cert.ConvSsd.main (F := Bits))) ⟨m, fun _ => 0, g⟩ (fun r => (∀ c : Dev Cert.ConvSsd.nD,
      r.2.mem ((c.tc : Thread Cert.ConvSsd.nD Cert.ConvSsd.τ).loc Cert.ConvSsd.main_arg0) = m ((c.tc : Thread Cert.ConvSsd.nD Cert.ConvSsd.τ).loc Cert.ConvSsd.main_arg0)
      ∧ r.2.mem ((c.tc : Thread Cert.ConvSsd.nD Cert.ConvSsd.τ).loc Cert.ConvSsd.main_arg1) = m ((c.tc : Thread Cert.ConvSsd.nD Cert.ConvSsd.τ).loc Cert.ConvSsd.main_arg1)
      ∧ r.2.mem ((c.tc : Thread Cert.ConvSsd.nD Cert.ConvSsd.τ).loc Cert.ConvSsd.main_arg2) = m ((c.tc : Thread Cert.ConvSsd.nD Cert.ConvSsd.τ).loc Cert.ConvSsd.main_arg2))
      ∧ r.2.sem = fun _ => 0)

def quiescent_ConvSsdIdeal [hConvSsdIdeal : Cert.ConvSsdIdeal.Facts] : Prop :=
  ∀ (m : (ℓ : Loc Cert.ConvSsdIdeal.nD Cert.ConvSsdIdeal.τ Cert.ConvSsdIdeal.sig) → Buf (Elt Ideal) ℓ) (g : Dev Cert.ConvSsdIdeal.nD → PrngReg), Pre_ConvSsdIdeal m →
    θ_run (Cert.ConvSsdIdeal.defs (F := Ideal)) (onTc (τ := Cert.ConvSsdIdeal.τ) (Cert.ConvSsdIdeal.main (F := Ideal))) ⟨m, fun _ => 0, g⟩ (fun r => (∀ c : Dev Cert.ConvSsdIdeal.nD,
      r.2.mem ((c.tc : Thread Cert.ConvSsdIdeal.nD Cert.ConvSsdIdeal.τ).loc Cert.ConvSsdIdeal.main_arg0) = m ((c.tc : Thread Cert.ConvSsdIdeal.nD Cert.ConvSsdIdeal.τ).loc Cert.ConvSsdIdeal.main_arg0)
      ∧ r.2.mem ((c.tc : Thread Cert.ConvSsdIdeal.nD Cert.ConvSsdIdeal.τ).loc Cert.ConvSsdIdeal.main_arg1) = m ((c.tc : Thread Cert.ConvSsdIdeal.nD Cert.ConvSsdIdeal.τ).loc Cert.ConvSsdIdeal.main_arg1)
      ∧ r.2.mem ((c.tc : Thread Cert.ConvSsdIdeal.nD Cert.ConvSsdIdeal.τ).loc Cert.ConvSsdIdeal.main_arg2) = m ((c.tc : Thread Cert.ConvSsdIdeal.nD Cert.ConvSsdIdeal.τ).loc Cert.ConvSsdIdeal.main_arg2))
      ∧ r.2.sem = fun _ => 0)

def quiescent_ConvSsdRefIdeal [hConvSsdRefIdeal : Cert.ConvSsdRefIdeal.Facts] : Prop :=
  ∀ (m : (ℓ : Loc Cert.ConvSsdRefIdeal.nD Cert.ConvSsdRefIdeal.τ Cert.ConvSsdRefIdeal.sig) → Buf (Elt Ideal) ℓ) (g : Dev Cert.ConvSsdRefIdeal.nD → PrngReg), Pre_ConvSsdRefIdeal m →
    θ_run (Cert.ConvSsdRefIdeal.defs (F := Ideal)) (onTc (τ := Cert.ConvSsdRefIdeal.τ) (Cert.ConvSsdRefIdeal.main (F := Ideal))) ⟨m, fun _ => 0, g⟩ (fun r => (∀ c : Dev Cert.ConvSsdRefIdeal.nD,
      r.2.mem ((c.tc : Thread Cert.ConvSsdRefIdeal.nD Cert.ConvSsdRefIdeal.τ).loc Cert.ConvSsdRefIdeal.main_arg0) = m ((c.tc : Thread Cert.ConvSsdRefIdeal.nD Cert.ConvSsdRefIdeal.τ).loc Cert.ConvSsdRefIdeal.main_arg0)
      ∧ r.2.mem ((c.tc : Thread Cert.ConvSsdRefIdeal.nD Cert.ConvSsdRefIdeal.τ).loc Cert.ConvSsdRefIdeal.main_arg1) = m ((c.tc : Thread Cert.ConvSsdRefIdeal.nD Cert.ConvSsdRefIdeal.τ).loc Cert.ConvSsdRefIdeal.main_arg1)
      ∧ r.2.mem ((c.tc : Thread Cert.ConvSsdRefIdeal.nD Cert.ConvSsdRefIdeal.τ).loc Cert.ConvSsdRefIdeal.main_arg2) = m ((c.tc : Thread Cert.ConvSsdRefIdeal.nD Cert.ConvSsdRefIdeal.τ).loc Cert.ConvSsdRefIdeal.main_arg2))
      ∧ r.2.sem = fun _ => 0)

def quiescent_CtxConvSsd [hCtxConvSsd : Cert.CtxConvSsd.Facts] : Prop :=
  ∀ (m : (ℓ : Loc Cert.CtxConvSsd.nD Cert.CtxConvSsd.τ Cert.CtxConvSsd.sig) → Buf (Elt Bits) ℓ) (g : Dev Cert.CtxConvSsd.nD → PrngReg), Pre_CtxConvSsd m →
    θ_run (Cert.CtxConvSsd.defs (F := Bits)) (onTc (τ := Cert.CtxConvSsd.τ) (Cert.CtxConvSsd.main (F := Bits))) ⟨m, fun _ => 0, g⟩ (fun r => (∀ c : Dev Cert.CtxConvSsd.nD,
      r.2.mem ((c.tc : Thread Cert.CtxConvSsd.nD Cert.CtxConvSsd.τ).loc Cert.CtxConvSsd.main_arg0) = m ((c.tc : Thread Cert.CtxConvSsd.nD Cert.CtxConvSsd.τ).loc Cert.CtxConvSsd.main_arg0)
      ∧ r.2.mem ((c.tc : Thread Cert.CtxConvSsd.nD Cert.CtxConvSsd.τ).loc Cert.CtxConvSsd.main_arg1) = m ((c.tc : Thread Cert.CtxConvSsd.nD Cert.CtxConvSsd.τ).loc Cert.CtxConvSsd.main_arg1)
      ∧ r.2.mem ((c.tc : Thread Cert.CtxConvSsd.nD Cert.CtxConvSsd.τ).loc Cert.CtxConvSsd.main_arg2) = m ((c.tc : Thread Cert.CtxConvSsd.nD Cert.CtxConvSsd.τ).loc Cert.CtxConvSsd.main_arg2))
      ∧ r.2.sem = fun _ => 0)

def quiescent_CtxConvSsdIdeal [hCtxConvSsdIdeal : Cert.CtxConvSsdIdeal.Facts] : Prop :=
  ∀ (m : (ℓ : Loc Cert.CtxConvSsdIdeal.nD Cert.CtxConvSsdIdeal.τ Cert.CtxConvSsdIdeal.sig) → Buf (Elt Ideal) ℓ) (g : Dev Cert.CtxConvSsdIdeal.nD → PrngReg), Pre_CtxConvSsdIdeal m →
    θ_run (Cert.CtxConvSsdIdeal.defs (F := Ideal)) (onTc (τ := Cert.CtxConvSsdIdeal.τ) (Cert.CtxConvSsdIdeal.main (F := Ideal))) ⟨m, fun _ => 0, g⟩ (fun r => (∀ c : Dev Cert.CtxConvSsdIdeal.nD,
      r.2.mem ((c.tc : Thread Cert.CtxConvSsdIdeal.nD Cert.CtxConvSsdIdeal.τ).loc Cert.CtxConvSsdIdeal.main_arg0) = m ((c.tc : Thread Cert.CtxConvSsdIdeal.nD Cert.CtxConvSsdIdeal.τ).loc Cert.CtxConvSsdIdeal.main_arg0)
      ∧ r.2.mem ((c.tc : Thread Cert.CtxConvSsdIdeal.nD Cert.CtxConvSsdIdeal.τ).loc Cert.CtxConvSsdIdeal.main_arg1) = m ((c.tc : Thread Cert.CtxConvSsdIdeal.nD Cert.CtxConvSsdIdeal.τ).loc Cert.CtxConvSsdIdeal.main_arg1)
      ∧ r.2.mem ((c.tc : Thread Cert.CtxConvSsdIdeal.nD Cert.CtxConvSsdIdeal.τ).loc Cert.CtxConvSsdIdeal.main_arg2) = m ((c.tc : Thread Cert.CtxConvSsdIdeal.nD Cert.CtxConvSsdIdeal.τ).loc Cert.CtxConvSsdIdeal.main_arg2))
      ∧ r.2.sem = fun _ => 0)

def quiescent_CtxConvSsdRefIdeal [hCtxConvSsdRefIdeal : Cert.CtxConvSsdRefIdeal.Facts] : Prop :=
  ∀ (m : (ℓ : Loc Cert.CtxConvSsdRefIdeal.nD Cert.CtxConvSsdRefIdeal.τ Cert.CtxConvSsdRefIdeal.sig) → Buf (Elt Ideal) ℓ) (g : Dev Cert.CtxConvSsdRefIdeal.nD → PrngReg), Pre_CtxConvSsdRefIdeal m →
    θ_run (Cert.CtxConvSsdRefIdeal.defs (F := Ideal)) (onTc (τ := Cert.CtxConvSsdRefIdeal.τ) (Cert.CtxConvSsdRefIdeal.main (F := Ideal))) ⟨m, fun _ => 0, g⟩ (fun r => (∀ c : Dev Cert.CtxConvSsdRefIdeal.nD,
      r.2.mem ((c.tc : Thread Cert.CtxConvSsdRefIdeal.nD Cert.CtxConvSsdRefIdeal.τ).loc Cert.CtxConvSsdRefIdeal.main_arg0) = m ((c.tc : Thread Cert.CtxConvSsdRefIdeal.nD Cert.CtxConvSsdRefIdeal.τ).loc Cert.CtxConvSsdRefIdeal.main_arg0)
      ∧ r.2.mem ((c.tc : Thread Cert.CtxConvSsdRefIdeal.nD Cert.CtxConvSsdRefIdeal.τ).loc Cert.CtxConvSsdRefIdeal.main_arg1) = m ((c.tc : Thread Cert.CtxConvSsdRefIdeal.nD Cert.CtxConvSsdRefIdeal.τ).loc Cert.CtxConvSsdRefIdeal.main_arg1)
      ∧ r.2.mem ((c.tc : Thread Cert.CtxConvSsdRefIdeal.nD Cert.CtxConvSsdRefIdeal.τ).loc Cert.CtxConvSsdRefIdeal.main_arg2) = m ((c.tc : Thread Cert.CtxConvSsdRefIdeal.nD Cert.CtxConvSsdRefIdeal.τ).loc Cert.CtxConvSsdRefIdeal.main_arg2))
      ∧ r.2.sem = fun _ => 0)

def preserves_Attn_AttnIdeal : Prop :=
  IdealRules.named_const.Statement Cert.AttnIdeal.κ "s" .f32 0x3E0293EE#32 (((Real.sqrt 128)⁻¹ * (Real.log 2)⁻¹ : ℝ) : EReal)

def algebraic_AttnIdeal_AttnRefIdeal_pre_finite_gains [hAttnIdeal : Cert.AttnIdeal.Facts] [hAttnRefIdeal : Cert.AttnRefIdeal.Facts] [hPre_finite_gains : Cert.Pre_finite_gains.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_gains m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v41)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v41) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v148) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Block_BlockIdeal : Prop :=
  True

def algebraic_BlockIdeal_BlockRefIdeal [hBlockIdeal : Cert.BlockIdeal.Facts] [hBlockRefIdeal : Cert.BlockRefIdeal.Facts] : Prop :=
  ∀ (m : (ℓ : Loc Cert.BlockIdeal.nD Cert.BlockIdeal.τ Cert.BlockIdeal.sig) → Buf (Elt Ideal) ℓ) (g : Dev Cert.BlockIdeal.nD → PrngReg)
    (m' : (ℓ : Loc Cert.BlockRefIdeal.nD Cert.BlockRefIdeal.τ Cert.BlockRefIdeal.sig) → Buf (Elt Ideal) ℓ) (g' : Dev Cert.BlockRefIdeal.nD → PrngReg), Pre_BlockIdeal m →
    (∀ c : Dev Cert.BlockIdeal.nD,
      m' ((c.tc : Thread Cert.BlockRefIdeal.nD Cert.BlockRefIdeal.τ).loc Cert.BlockRefIdeal.main_arg0) = m ((c.tc : Thread Cert.BlockIdeal.nD Cert.BlockIdeal.τ).loc Cert.BlockIdeal.main_arg0)
      ∧ m' ((c.tc : Thread Cert.BlockRefIdeal.nD Cert.BlockRefIdeal.τ).loc Cert.BlockRefIdeal.main_arg1) = m ((c.tc : Thread Cert.BlockIdeal.nD Cert.BlockIdeal.τ).loc Cert.BlockIdeal.main_arg1)
      ∧ m' ((c.tc : Thread Cert.BlockRefIdeal.nD Cert.BlockRefIdeal.τ).loc Cert.BlockRefIdeal.main_arg2) = m ((c.tc : Thread Cert.BlockIdeal.nD Cert.BlockIdeal.τ).loc Cert.BlockIdeal.main_arg2)
      ∧ m' ((c.tc : Thread Cert.BlockRefIdeal.nD Cert.BlockRefIdeal.τ).loc Cert.BlockRefIdeal.main_arg3) = m ((c.tc : Thread Cert.BlockIdeal.nD Cert.BlockIdeal.τ).loc Cert.BlockIdeal.main_arg3)
      ∧ m' ((c.tc : Thread Cert.BlockRefIdeal.nD Cert.BlockRefIdeal.τ).loc Cert.BlockRefIdeal.main_arg4) = m ((c.tc : Thread Cert.BlockIdeal.nD Cert.BlockIdeal.τ).loc Cert.BlockIdeal.main_arg4)
      ∧ m' ((c.tc : Thread Cert.BlockRefIdeal.nD Cert.BlockRefIdeal.τ).loc Cert.BlockRefIdeal.main_arg5) = m ((c.tc : Thread Cert.BlockIdeal.nD Cert.BlockIdeal.τ).loc Cert.BlockIdeal.main_arg5)
      ∧ m' ((c.tc : Thread Cert.BlockRefIdeal.nD Cert.BlockRefIdeal.τ).loc Cert.BlockRefIdeal.main_arg6) = m ((c.tc : Thread Cert.BlockIdeal.nD Cert.BlockIdeal.τ).loc Cert.BlockIdeal.main_arg6)) →
    ∃ (v0 : (c : Dev Cert.BlockIdeal.nD) → Buf (Elt Ideal) ((c.tc : Thread Cert.BlockIdeal.nD Cert.BlockIdeal.τ).loc Cert.BlockIdeal.main_v5)),
      θ_run (Cert.BlockIdeal.defs (F := Ideal)) (onTc (τ := Cert.BlockIdeal.τ) (Cert.BlockIdeal.main (F := Ideal))) ⟨m, fun _ => 0, g⟩ (fun r => ∀ c : Dev Cert.BlockIdeal.nD,
          r.2.mem ((c.tc : Thread Cert.BlockIdeal.nD Cert.BlockIdeal.τ).loc Cert.BlockIdeal.main_v5) = v0 c
          ∧ r.2.mem ((c.tc : Thread Cert.BlockIdeal.nD Cert.BlockIdeal.τ).loc Cert.BlockIdeal.main_arg0) = m ((c.tc : Thread Cert.BlockIdeal.nD Cert.BlockIdeal.τ).loc Cert.BlockIdeal.main_arg0)
          ∧ r.2.mem ((c.tc : Thread Cert.BlockIdeal.nD Cert.BlockIdeal.τ).loc Cert.BlockIdeal.main_arg1) = m ((c.tc : Thread Cert.BlockIdeal.nD Cert.BlockIdeal.τ).loc Cert.BlockIdeal.main_arg1)
          ∧ r.2.mem ((c.tc : Thread Cert.BlockIdeal.nD Cert.BlockIdeal.τ).loc Cert.BlockIdeal.main_arg2) = m ((c.tc : Thread Cert.BlockIdeal.nD Cert.BlockIdeal.τ).loc Cert.BlockIdeal.main_arg2)
          ∧ r.2.mem ((c.tc : Thread Cert.BlockIdeal.nD Cert.BlockIdeal.τ).loc Cert.BlockIdeal.main_arg3) = m ((c.tc : Thread Cert.BlockIdeal.nD Cert.BlockIdeal.τ).loc Cert.BlockIdeal.main_arg3)
          ∧ r.2.mem ((c.tc : Thread Cert.BlockIdeal.nD Cert.BlockIdeal.τ).loc Cert.BlockIdeal.main_arg4) = m ((c.tc : Thread Cert.BlockIdeal.nD Cert.BlockIdeal.τ).loc Cert.BlockIdeal.main_arg4)
          ∧ r.2.mem ((c.tc : Thread Cert.BlockIdeal.nD Cert.BlockIdeal.τ).loc Cert.BlockIdeal.main_arg5) = m ((c.tc : Thread Cert.BlockIdeal.nD Cert.BlockIdeal.τ).loc Cert.BlockIdeal.main_arg5)
          ∧ r.2.mem ((c.tc : Thread Cert.BlockIdeal.nD Cert.BlockIdeal.τ).loc Cert.BlockIdeal.main_arg6) = m ((c.tc : Thread Cert.BlockIdeal.nD Cert.BlockIdeal.τ).loc Cert.BlockIdeal.main_arg6))
      ∧ θ_run (Cert.BlockRefIdeal.defs (F := Ideal)) (onTc (τ := Cert.BlockRefIdeal.τ) (Cert.BlockRefIdeal.main (F := Ideal))) ⟨m', fun _ => 0, g'⟩ (fun r => ∀ c : Dev Cert.BlockRefIdeal.nD,
          r.2.mem ((c.tc : Thread Cert.BlockRefIdeal.nD Cert.BlockRefIdeal.τ).loc Cert.BlockRefIdeal.main_v69) = v0 c
          ∧ r.2.mem ((c.tc : Thread Cert.BlockRefIdeal.nD Cert.BlockRefIdeal.τ).loc Cert.BlockRefIdeal.main_arg0) = m' ((c.tc : Thread Cert.BlockRefIdeal.nD Cert.BlockRefIdeal.τ).loc Cert.BlockRefIdeal.main_arg0)
          ∧ r.2.mem ((c.tc : Thread Cert.BlockRefIdeal.nD Cert.BlockRefIdeal.τ).loc Cert.BlockRefIdeal.main_arg1) = m' ((c.tc : Thread Cert.BlockRefIdeal.nD Cert.BlockRefIdeal.τ).loc Cert.BlockRefIdeal.main_arg1)
          ∧ r.2.mem ((c.tc : Thread Cert.BlockRefIdeal.nD Cert.BlockRefIdeal.τ).loc Cert.BlockRefIdeal.main_arg2) = m' ((c.tc : Thread Cert.BlockRefIdeal.nD Cert.BlockRefIdeal.τ).loc Cert.BlockRefIdeal.main_arg2)
          ∧ r.2.mem ((c.tc : Thread Cert.BlockRefIdeal.nD Cert.BlockRefIdeal.τ).loc Cert.BlockRefIdeal.main_arg3) = m' ((c.tc : Thread Cert.BlockRefIdeal.nD Cert.BlockRefIdeal.τ).loc Cert.BlockRefIdeal.main_arg3)
          ∧ r.2.mem ((c.tc : Thread Cert.BlockRefIdeal.nD Cert.BlockRefIdeal.τ).loc Cert.BlockRefIdeal.main_arg4) = m' ((c.tc : Thread Cert.BlockRefIdeal.nD Cert.BlockRefIdeal.τ).loc Cert.BlockRefIdeal.main_arg4)
          ∧ r.2.mem ((c.tc : Thread Cert.BlockRefIdeal.nD Cert.BlockRefIdeal.τ).loc Cert.BlockRefIdeal.main_arg5) = m' ((c.tc : Thread Cert.BlockRefIdeal.nD Cert.BlockRefIdeal.τ).loc Cert.BlockRefIdeal.main_arg5)
          ∧ r.2.mem ((c.tc : Thread Cert.BlockRefIdeal.nD Cert.BlockRefIdeal.τ).loc Cert.BlockRefIdeal.main_arg6) = m' ((c.tc : Thread Cert.BlockRefIdeal.nD Cert.BlockRefIdeal.τ).loc Cert.BlockRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Wide_WideIdeal : Prop :=
  True

def algebraic_WideIdeal_WideRefIdeal [hWideIdeal : Cert.WideIdeal.Facts] [hWideRefIdeal : Cert.WideRefIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideRefIdeal.nD Cert.WideRefIdeal.τ Cert.WideRefIdeal.sig) → Buf (Elt Ideal) ℓ) (g' : Dev Cert.WideRefIdeal.nD → PrngReg), Pre_WideIdeal m →
    (∀ c : Dev Cert.WideIdeal.nD,
      m' ((c.tc : Thread Cert.WideRefIdeal.nD Cert.WideRefIdeal.τ).loc Cert.WideRefIdeal.main_arg0) = m ((c.tc : Thread Cert.WideIdeal.nD Cert.WideIdeal.τ).loc Cert.WideIdeal.main_arg0)
      ∧ m' ((c.tc : Thread Cert.WideRefIdeal.nD Cert.WideRefIdeal.τ).loc Cert.WideRefIdeal.main_arg1) = m ((c.tc : Thread Cert.WideIdeal.nD Cert.WideIdeal.τ).loc Cert.WideIdeal.main_arg1)
      ∧ m' ((c.tc : Thread Cert.WideRefIdeal.nD Cert.WideRefIdeal.τ).loc Cert.WideRefIdeal.main_arg2) = m ((c.tc : Thread Cert.WideIdeal.nD Cert.WideIdeal.τ).loc Cert.WideIdeal.main_arg2)
      ∧ m' ((c.tc : Thread Cert.WideRefIdeal.nD Cert.WideRefIdeal.τ).loc Cert.WideRefIdeal.main_arg3) = m ((c.tc : Thread Cert.WideIdeal.nD Cert.WideIdeal.τ).loc Cert.WideIdeal.main_arg3)
      ∧ m' ((c.tc : Thread Cert.WideRefIdeal.nD Cert.WideRefIdeal.τ).loc Cert.WideRefIdeal.main_arg4) = m ((c.tc : Thread Cert.WideIdeal.nD Cert.WideIdeal.τ).loc Cert.WideIdeal.main_arg4)
      ∧ m' ((c.tc : Thread Cert.WideRefIdeal.nD Cert.WideRefIdeal.τ).loc Cert.WideRefIdeal.main_arg5) = m ((c.tc : Thread Cert.WideIdeal.nD Cert.WideIdeal.τ).loc Cert.WideIdeal.main_arg5)
      ∧ m' ((c.tc : Thread Cert.WideRefIdeal.nD Cert.WideRefIdeal.τ).loc Cert.WideRefIdeal.main_arg6) = m ((c.tc : Thread Cert.WideIdeal.nD Cert.WideIdeal.τ).loc Cert.WideIdeal.main_arg6)) →
    ∃ (v0 : (c : Dev Cert.WideIdeal.nD) → Buf (Elt Ideal) ((c.tc : Thread Cert.WideIdeal.nD Cert.WideIdeal.τ).loc Cert.WideIdeal.main_v5)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v5) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1)
          ∧ r.2.mem ((c.tc : Thread Cert.WideIdeal.nD Cert.WideIdeal.τ).loc Cert.WideIdeal.main_arg2) = m ((c.tc : Thread Cert.WideIdeal.nD Cert.WideIdeal.τ).loc Cert.WideIdeal.main_arg2)
          ∧ r.2.mem ((c.tc : Thread Cert.WideIdeal.nD Cert.WideIdeal.τ).loc Cert.WideIdeal.main_arg3) = m ((c.tc : Thread Cert.WideIdeal.nD Cert.WideIdeal.τ).loc Cert.WideIdeal.main_arg3)
          ∧ r.2.mem ((c.tc : Thread Cert.WideIdeal.nD Cert.WideIdeal.τ).loc Cert.WideIdeal.main_arg4) = m ((c.tc : Thread Cert.WideIdeal.nD Cert.WideIdeal.τ).loc Cert.WideIdeal.main_arg4)
          ∧ r.2.mem ((c.tc : Thread Cert.WideIdeal.nD Cert.WideIdeal.τ).loc Cert.WideIdeal.main_arg5) = m ((c.tc : Thread Cert.WideIdeal.nD Cert.WideIdeal.τ).loc Cert.WideIdeal.main_arg5)
          ∧ r.2.mem ((c.tc : Thread Cert.WideIdeal.nD Cert.WideIdeal.τ).loc Cert.WideIdeal.main_arg6) = m ((c.tc : Thread Cert.WideIdeal.nD Cert.WideIdeal.τ).loc Cert.WideIdeal.main_arg6))
      ∧ θ_run (Cert.WideRefIdeal.defs (F := Ideal)) (onTc (τ := Cert.WideRefIdeal.τ) (Cert.WideRefIdeal.main (F := Ideal))) ⟨m', fun _ => 0, g'⟩ (fun r => ∀ c : Dev Cert.WideRefIdeal.nD,
          r.2.mem ((c.tc : Thread Cert.WideRefIdeal.nD Cert.WideRefIdeal.τ).loc Cert.WideRefIdeal.main_v69) = v0 c
          ∧ r.2.mem ((c.tc : Thread Cert.WideRefIdeal.nD Cert.WideRefIdeal.τ).loc Cert.WideRefIdeal.main_arg0) = m' ((c.tc : Thread Cert.WideRefIdeal.nD Cert.WideRefIdeal.τ).loc Cert.WideRefIdeal.main_arg0)
          ∧ r.2.mem ((c.tc : Thread Cert.WideRefIdeal.nD Cert.WideRefIdeal.τ).loc Cert.WideRefIdeal.main_arg1) = m' ((c.tc : Thread Cert.WideRefIdeal.nD Cert.WideRefIdeal.τ).loc Cert.WideRefIdeal.main_arg1)
          ∧ r.2.mem ((c.tc : Thread Cert.WideRefIdeal.nD Cert.WideRefIdeal.τ).loc Cert.WideRefIdeal.main_arg2) = m' ((c.tc : Thread Cert.WideRefIdeal.nD Cert.WideRefIdeal.τ).loc Cert.WideRefIdeal.main_arg2)
          ∧ r.2.mem ((c.tc : Thread Cert.WideRefIdeal.nD Cert.WideRefIdeal.τ).loc Cert.WideRefIdeal.main_arg3) = m' ((c.tc : Thread Cert.WideRefIdeal.nD Cert.WideRefIdeal.τ).loc Cert.WideRefIdeal.main_arg3)
          ∧ r.2.mem ((c.tc : Thread Cert.WideRefIdeal.nD Cert.WideRefIdeal.τ).loc Cert.WideRefIdeal.main_arg4) = m' ((c.tc : Thread Cert.WideRefIdeal.nD Cert.WideRefIdeal.τ).loc Cert.WideRefIdeal.main_arg4)
          ∧ r.2.mem ((c.tc : Thread Cert.WideRefIdeal.nD Cert.WideRefIdeal.τ).loc Cert.WideRefIdeal.main_arg5) = m' ((c.tc : Thread Cert.WideRefIdeal.nD Cert.WideRefIdeal.τ).loc Cert.WideRefIdeal.main_arg5)
          ∧ r.2.mem ((c.tc : Thread Cert.WideRefIdeal.nD Cert.WideRefIdeal.τ).loc Cert.WideRefIdeal.main_arg6) = m' ((c.tc : Thread Cert.WideRefIdeal.nD Cert.WideRefIdeal.τ).loc Cert.WideRefIdeal.main_arg6))

def preserves_ProjHyena_ProjHyenaIdeal : Prop :=
  True

def algebraic_ProjHyenaIdeal_ProjHyenaRefIdeal [hProjHyenaIdeal : Cert.ProjHyenaIdeal.Facts] [hProjHyenaRefIdeal : Cert.ProjHyenaRefIdeal.Facts] : Prop :=
  ∀ (m : (ℓ : Loc Cert.ProjHyenaIdeal.nD Cert.ProjHyenaIdeal.τ Cert.ProjHyenaIdeal.sig) → Buf (Elt Ideal) ℓ) (g : Dev Cert.ProjHyenaIdeal.nD → PrngReg)
    (m' : (ℓ : Loc Cert.ProjHyenaRefIdeal.nD Cert.ProjHyenaRefIdeal.τ Cert.ProjHyenaRefIdeal.sig) → Buf (Elt Ideal) ℓ) (g' : Dev Cert.ProjHyenaRefIdeal.nD → PrngReg), Pre_ProjHyenaIdeal m →
    (∀ c : Dev Cert.ProjHyenaIdeal.nD,
      m' ((c.tc : Thread Cert.ProjHyenaRefIdeal.nD Cert.ProjHyenaRefIdeal.τ).loc Cert.ProjHyenaRefIdeal.main_arg0) = m ((c.tc : Thread Cert.ProjHyenaIdeal.nD Cert.ProjHyenaIdeal.τ).loc Cert.ProjHyenaIdeal.main_arg0)
      ∧ m' ((c.tc : Thread Cert.ProjHyenaRefIdeal.nD Cert.ProjHyenaRefIdeal.τ).loc Cert.ProjHyenaRefIdeal.main_arg1) = m ((c.tc : Thread Cert.ProjHyenaIdeal.nD Cert.ProjHyenaIdeal.τ).loc Cert.ProjHyenaIdeal.main_arg1)
      ∧ m' ((c.tc : Thread Cert.ProjHyenaRefIdeal.nD Cert.ProjHyenaRefIdeal.τ).loc Cert.ProjHyenaRefIdeal.main_arg2) = m ((c.tc : Thread Cert.ProjHyenaIdeal.nD Cert.ProjHyenaIdeal.τ).loc Cert.ProjHyenaIdeal.main_arg2)
      ∧ m' ((c.tc : Thread Cert.ProjHyenaRefIdeal.nD Cert.ProjHyenaRefIdeal.τ).loc Cert.ProjHyenaRefIdeal.main_arg3) = m ((c.tc : Thread Cert.ProjHyenaIdeal.nD Cert.ProjHyenaIdeal.τ).loc Cert.ProjHyenaIdeal.main_arg3)) →
    ∃ (v0 : (c : Dev Cert.ProjHyenaIdeal.nD) → Buf (Elt Ideal) ((c.tc : Thread Cert.ProjHyenaIdeal.nD Cert.ProjHyenaIdeal.τ).loc Cert.ProjHyenaIdeal.main_v2)),
      θ_run (Cert.ProjHyenaIdeal.defs (F := Ideal)) (onTc (τ := Cert.ProjHyenaIdeal.τ) (Cert.ProjHyenaIdeal.main (F := Ideal))) ⟨m, fun _ => 0, g⟩ (fun r => ∀ c : Dev Cert.ProjHyenaIdeal.nD,
          r.2.mem ((c.tc : Thread Cert.ProjHyenaIdeal.nD Cert.ProjHyenaIdeal.τ).loc Cert.ProjHyenaIdeal.main_v2) = v0 c
          ∧ r.2.mem ((c.tc : Thread Cert.ProjHyenaIdeal.nD Cert.ProjHyenaIdeal.τ).loc Cert.ProjHyenaIdeal.main_arg0) = m ((c.tc : Thread Cert.ProjHyenaIdeal.nD Cert.ProjHyenaIdeal.τ).loc Cert.ProjHyenaIdeal.main_arg0)
          ∧ r.2.mem ((c.tc : Thread Cert.ProjHyenaIdeal.nD Cert.ProjHyenaIdeal.τ).loc Cert.ProjHyenaIdeal.main_arg1) = m ((c.tc : Thread Cert.ProjHyenaIdeal.nD Cert.ProjHyenaIdeal.τ).loc Cert.ProjHyenaIdeal.main_arg1)
          ∧ r.2.mem ((c.tc : Thread Cert.ProjHyenaIdeal.nD Cert.ProjHyenaIdeal.τ).loc Cert.ProjHyenaIdeal.main_arg2) = m ((c.tc : Thread Cert.ProjHyenaIdeal.nD Cert.ProjHyenaIdeal.τ).loc Cert.ProjHyenaIdeal.main_arg2)
          ∧ r.2.mem ((c.tc : Thread Cert.ProjHyenaIdeal.nD Cert.ProjHyenaIdeal.τ).loc Cert.ProjHyenaIdeal.main_arg3) = m ((c.tc : Thread Cert.ProjHyenaIdeal.nD Cert.ProjHyenaIdeal.τ).loc Cert.ProjHyenaIdeal.main_arg3))
      ∧ θ_run (Cert.ProjHyenaRefIdeal.defs (F := Ideal)) (onTc (τ := Cert.ProjHyenaRefIdeal.τ) (Cert.ProjHyenaRefIdeal.main (F := Ideal))) ⟨m', fun _ => 0, g'⟩ (fun r => ∀ c : Dev Cert.ProjHyenaRefIdeal.nD,
          r.2.mem ((c.tc : Thread Cert.ProjHyenaRefIdeal.nD Cert.ProjHyenaRefIdeal.τ).loc Cert.ProjHyenaRefIdeal.main_v28) = v0 c
          ∧ r.2.mem ((c.tc : Thread Cert.ProjHyenaRefIdeal.nD Cert.ProjHyenaRefIdeal.τ).loc Cert.ProjHyenaRefIdeal.main_arg0) = m' ((c.tc : Thread Cert.ProjHyenaRefIdeal.nD Cert.ProjHyenaRefIdeal.τ).loc Cert.ProjHyenaRefIdeal.main_arg0)
          ∧ r.2.mem ((c.tc : Thread Cert.ProjHyenaRefIdeal.nD Cert.ProjHyenaRefIdeal.τ).loc Cert.ProjHyenaRefIdeal.main_arg1) = m' ((c.tc : Thread Cert.ProjHyenaRefIdeal.nD Cert.ProjHyenaRefIdeal.τ).loc Cert.ProjHyenaRefIdeal.main_arg1)
          ∧ r.2.mem ((c.tc : Thread Cert.ProjHyenaRefIdeal.nD Cert.ProjHyenaRefIdeal.τ).loc Cert.ProjHyenaRefIdeal.main_arg2) = m' ((c.tc : Thread Cert.ProjHyenaRefIdeal.nD Cert.ProjHyenaRefIdeal.τ).loc Cert.ProjHyenaRefIdeal.main_arg2)
          ∧ r.2.mem ((c.tc : Thread Cert.ProjHyenaRefIdeal.nD Cert.ProjHyenaRefIdeal.τ).loc Cert.ProjHyenaRefIdeal.main_arg3) = m' ((c.tc : Thread Cert.ProjHyenaRefIdeal.nD Cert.ProjHyenaRefIdeal.τ).loc Cert.ProjHyenaRefIdeal.main_arg3))

def preserves_ProjSsd_ProjSsdIdeal : Prop :=
  True

def algebraic_ProjSsdIdeal_ProjSsdRefIdeal [hProjSsdIdeal : Cert.ProjSsdIdeal.Facts] [hProjSsdRefIdeal : Cert.ProjSsdRefIdeal.Facts] : Prop :=
  ∀ (m : (ℓ : Loc Cert.ProjSsdIdeal.nD Cert.ProjSsdIdeal.τ Cert.ProjSsdIdeal.sig) → Buf (Elt Ideal) ℓ) (g : Dev Cert.ProjSsdIdeal.nD → PrngReg)
    (m' : (ℓ : Loc Cert.ProjSsdRefIdeal.nD Cert.ProjSsdRefIdeal.τ Cert.ProjSsdRefIdeal.sig) → Buf (Elt Ideal) ℓ) (g' : Dev Cert.ProjSsdRefIdeal.nD → PrngReg), Pre_ProjSsdIdeal m →
    (∀ c : Dev Cert.ProjSsdIdeal.nD,
      m' ((c.tc : Thread Cert.ProjSsdRefIdeal.nD Cert.ProjSsdRefIdeal.τ).loc Cert.ProjSsdRefIdeal.main_arg0) = m ((c.tc : Thread Cert.ProjSsdIdeal.nD Cert.ProjSsdIdeal.τ).loc Cert.ProjSsdIdeal.main_arg0)
      ∧ m' ((c.tc : Thread Cert.ProjSsdRefIdeal.nD Cert.ProjSsdRefIdeal.τ).loc Cert.ProjSsdRefIdeal.main_arg1) = m ((c.tc : Thread Cert.ProjSsdIdeal.nD Cert.ProjSsdIdeal.τ).loc Cert.ProjSsdIdeal.main_arg1)
      ∧ m' ((c.tc : Thread Cert.ProjSsdRefIdeal.nD Cert.ProjSsdRefIdeal.τ).loc Cert.ProjSsdRefIdeal.main_arg2) = m ((c.tc : Thread Cert.ProjSsdIdeal.nD Cert.ProjSsdIdeal.τ).loc Cert.ProjSsdIdeal.main_arg2)
      ∧ m' ((c.tc : Thread Cert.ProjSsdRefIdeal.nD Cert.ProjSsdRefIdeal.τ).loc Cert.ProjSsdRefIdeal.main_arg3) = m ((c.tc : Thread Cert.ProjSsdIdeal.nD Cert.ProjSsdIdeal.τ).loc Cert.ProjSsdIdeal.main_arg3)) →
    ∃ (v0 : (c : Dev Cert.ProjSsdIdeal.nD) → Buf (Elt Ideal) ((c.tc : Thread Cert.ProjSsdIdeal.nD Cert.ProjSsdIdeal.τ).loc Cert.ProjSsdIdeal.main_v2)),
      θ_run (Cert.ProjSsdIdeal.defs (F := Ideal)) (onTc (τ := Cert.ProjSsdIdeal.τ) (Cert.ProjSsdIdeal.main (F := Ideal))) ⟨m, fun _ => 0, g⟩ (fun r => ∀ c : Dev Cert.ProjSsdIdeal.nD,
          r.2.mem ((c.tc : Thread Cert.ProjSsdIdeal.nD Cert.ProjSsdIdeal.τ).loc Cert.ProjSsdIdeal.main_v2) = v0 c
          ∧ r.2.mem ((c.tc : Thread Cert.ProjSsdIdeal.nD Cert.ProjSsdIdeal.τ).loc Cert.ProjSsdIdeal.main_arg0) = m ((c.tc : Thread Cert.ProjSsdIdeal.nD Cert.ProjSsdIdeal.τ).loc Cert.ProjSsdIdeal.main_arg0)
          ∧ r.2.mem ((c.tc : Thread Cert.ProjSsdIdeal.nD Cert.ProjSsdIdeal.τ).loc Cert.ProjSsdIdeal.main_arg1) = m ((c.tc : Thread Cert.ProjSsdIdeal.nD Cert.ProjSsdIdeal.τ).loc Cert.ProjSsdIdeal.main_arg1)
          ∧ r.2.mem ((c.tc : Thread Cert.ProjSsdIdeal.nD Cert.ProjSsdIdeal.τ).loc Cert.ProjSsdIdeal.main_arg2) = m ((c.tc : Thread Cert.ProjSsdIdeal.nD Cert.ProjSsdIdeal.τ).loc Cert.ProjSsdIdeal.main_arg2)
          ∧ r.2.mem ((c.tc : Thread Cert.ProjSsdIdeal.nD Cert.ProjSsdIdeal.τ).loc Cert.ProjSsdIdeal.main_arg3) = m ((c.tc : Thread Cert.ProjSsdIdeal.nD Cert.ProjSsdIdeal.τ).loc Cert.ProjSsdIdeal.main_arg3))
      ∧ θ_run (Cert.ProjSsdRefIdeal.defs (F := Ideal)) (onTc (τ := Cert.ProjSsdRefIdeal.τ) (Cert.ProjSsdRefIdeal.main (F := Ideal))) ⟨m', fun _ => 0, g'⟩ (fun r => ∀ c : Dev Cert.ProjSsdRefIdeal.nD,
          r.2.mem ((c.tc : Thread Cert.ProjSsdRefIdeal.nD Cert.ProjSsdRefIdeal.τ).loc Cert.ProjSsdRefIdeal.main_v28) = v0 c
          ∧ r.2.mem ((c.tc : Thread Cert.ProjSsdRefIdeal.nD Cert.ProjSsdRefIdeal.τ).loc Cert.ProjSsdRefIdeal.main_arg0) = m' ((c.tc : Thread Cert.ProjSsdRefIdeal.nD Cert.ProjSsdRefIdeal.τ).loc Cert.ProjSsdRefIdeal.main_arg0)
          ∧ r.2.mem ((c.tc : Thread Cert.ProjSsdRefIdeal.nD Cert.ProjSsdRefIdeal.τ).loc Cert.ProjSsdRefIdeal.main_arg1) = m' ((c.tc : Thread Cert.ProjSsdRefIdeal.nD Cert.ProjSsdRefIdeal.τ).loc Cert.ProjSsdRefIdeal.main_arg1)
          ∧ r.2.mem ((c.tc : Thread Cert.ProjSsdRefIdeal.nD Cert.ProjSsdRefIdeal.τ).loc Cert.ProjSsdRefIdeal.main_arg2) = m' ((c.tc : Thread Cert.ProjSsdRefIdeal.nD Cert.ProjSsdRefIdeal.τ).loc Cert.ProjSsdRefIdeal.main_arg2)
          ∧ r.2.mem ((c.tc : Thread Cert.ProjSsdRefIdeal.nD Cert.ProjSsdRefIdeal.τ).loc Cert.ProjSsdRefIdeal.main_arg3) = m' ((c.tc : Thread Cert.ProjSsdRefIdeal.nD Cert.ProjSsdRefIdeal.τ).loc Cert.ProjSsdRefIdeal.main_arg3))

def preserves_ProjNbr_ProjNbrIdeal : Prop :=
  True

def algebraic_ProjNbrIdeal_ProjNbrRefIdeal [hProjNbrIdeal : Cert.ProjNbrIdeal.Facts] [hProjNbrRefIdeal : Cert.ProjNbrRefIdeal.Facts] : Prop :=
  ∀ (m : (ℓ : Loc Cert.ProjNbrIdeal.nD Cert.ProjNbrIdeal.τ Cert.ProjNbrIdeal.sig) → Buf (Elt Ideal) ℓ) (g : Dev Cert.ProjNbrIdeal.nD → PrngReg)
    (m' : (ℓ : Loc Cert.ProjNbrRefIdeal.nD Cert.ProjNbrRefIdeal.τ Cert.ProjNbrRefIdeal.sig) → Buf (Elt Ideal) ℓ) (g' : Dev Cert.ProjNbrRefIdeal.nD → PrngReg), Pre_ProjNbrIdeal m →
    (∀ c : Dev Cert.ProjNbrIdeal.nD,
      m' ((c.tc : Thread Cert.ProjNbrRefIdeal.nD Cert.ProjNbrRefIdeal.τ).loc Cert.ProjNbrRefIdeal.main_arg0) = m ((c.tc : Thread Cert.ProjNbrIdeal.nD Cert.ProjNbrIdeal.τ).loc Cert.ProjNbrIdeal.main_arg0)
      ∧ m' ((c.tc : Thread Cert.ProjNbrRefIdeal.nD Cert.ProjNbrRefIdeal.τ).loc Cert.ProjNbrRefIdeal.main_arg1) = m ((c.tc : Thread Cert.ProjNbrIdeal.nD Cert.ProjNbrIdeal.τ).loc Cert.ProjNbrIdeal.main_arg1)
      ∧ m' ((c.tc : Thread Cert.ProjNbrRefIdeal.nD Cert.ProjNbrRefIdeal.τ).loc Cert.ProjNbrRefIdeal.main_arg2) = m ((c.tc : Thread Cert.ProjNbrIdeal.nD Cert.ProjNbrIdeal.τ).loc Cert.ProjNbrIdeal.main_arg2)
      ∧ m' ((c.tc : Thread Cert.ProjNbrRefIdeal.nD Cert.ProjNbrRefIdeal.τ).loc Cert.ProjNbrRefIdeal.main_arg3) = m ((c.tc : Thread Cert.ProjNbrIdeal.nD Cert.ProjNbrIdeal.τ).loc Cert.ProjNbrIdeal.main_arg3)) →
    ∃ (v0 : (c : Dev Cert.ProjNbrIdeal.nD) → Buf (Elt Ideal) ((c.tc : Thread Cert.ProjNbrIdeal.nD Cert.ProjNbrIdeal.τ).loc Cert.ProjNbrIdeal.main_v2)),
      θ_run (Cert.ProjNbrIdeal.defs (F := Ideal)) (onTc (τ := Cert.ProjNbrIdeal.τ) (Cert.ProjNbrIdeal.main (F := Ideal))) ⟨m, fun _ => 0, g⟩ (fun r => ∀ c : Dev Cert.ProjNbrIdeal.nD,
          r.2.mem ((c.tc : Thread Cert.ProjNbrIdeal.nD Cert.ProjNbrIdeal.τ).loc Cert.ProjNbrIdeal.main_v2) = v0 c
          ∧ r.2.mem ((c.tc : Thread Cert.ProjNbrIdeal.nD Cert.ProjNbrIdeal.τ).loc Cert.ProjNbrIdeal.main_arg0) = m ((c.tc : Thread Cert.ProjNbrIdeal.nD Cert.ProjNbrIdeal.τ).loc Cert.ProjNbrIdeal.main_arg0)
          ∧ r.2.mem ((c.tc : Thread Cert.ProjNbrIdeal.nD Cert.ProjNbrIdeal.τ).loc Cert.ProjNbrIdeal.main_arg1) = m ((c.tc : Thread Cert.ProjNbrIdeal.nD Cert.ProjNbrIdeal.τ).loc Cert.ProjNbrIdeal.main_arg1)
          ∧ r.2.mem ((c.tc : Thread Cert.ProjNbrIdeal.nD Cert.ProjNbrIdeal.τ).loc Cert.ProjNbrIdeal.main_arg2) = m ((c.tc : Thread Cert.ProjNbrIdeal.nD Cert.ProjNbrIdeal.τ).loc Cert.ProjNbrIdeal.main_arg2)
          ∧ r.2.mem ((c.tc : Thread Cert.ProjNbrIdeal.nD Cert.ProjNbrIdeal.τ).loc Cert.ProjNbrIdeal.main_arg3) = m ((c.tc : Thread Cert.ProjNbrIdeal.nD Cert.ProjNbrIdeal.τ).loc Cert.ProjNbrIdeal.main_arg3))
      ∧ θ_run (Cert.ProjNbrRefIdeal.defs (F := Ideal)) (onTc (τ := Cert.ProjNbrRefIdeal.τ) (Cert.ProjNbrRefIdeal.main (F := Ideal))) ⟨m', fun _ => 0, g'⟩ (fun r => ∀ c : Dev Cert.ProjNbrRefIdeal.nD,
          r.2.mem ((c.tc : Thread Cert.ProjNbrRefIdeal.nD Cert.ProjNbrRefIdeal.τ).loc Cert.ProjNbrRefIdeal.main_v29) = v0 c
          ∧ r.2.mem ((c.tc : Thread Cert.ProjNbrRefIdeal.nD Cert.ProjNbrRefIdeal.τ).loc Cert.ProjNbrRefIdeal.main_arg0) = m' ((c.tc : Thread Cert.ProjNbrRefIdeal.nD Cert.ProjNbrRefIdeal.τ).loc Cert.ProjNbrRefIdeal.main_arg0)
          ∧ r.2.mem ((c.tc : Thread Cert.ProjNbrRefIdeal.nD Cert.ProjNbrRefIdeal.τ).loc Cert.ProjNbrRefIdeal.main_arg1) = m' ((c.tc : Thread Cert.ProjNbrRefIdeal.nD Cert.ProjNbrRefIdeal.τ).loc Cert.ProjNbrRefIdeal.main_arg1)
          ∧ r.2.mem ((c.tc : Thread Cert.ProjNbrRefIdeal.nD Cert.ProjNbrRefIdeal.τ).loc Cert.ProjNbrRefIdeal.main_arg2) = m' ((c.tc : Thread Cert.ProjNbrRefIdeal.nD Cert.ProjNbrRefIdeal.τ).loc Cert.ProjNbrRefIdeal.main_arg2)
          ∧ r.2.mem ((c.tc : Thread Cert.ProjNbrRefIdeal.nD Cert.ProjNbrRefIdeal.τ).loc Cert.ProjNbrRefIdeal.main_arg3) = m' ((c.tc : Thread Cert.ProjNbrRefIdeal.nD Cert.ProjNbrRefIdeal.τ).loc Cert.ProjNbrRefIdeal.main_arg3))

def preserves_CtxBlock_CtxBlockIdeal : Prop :=
  True

def algebraic_CtxBlockIdeal_CtxBlockRefIdeal [hCtxBlockIdeal : Cert.CtxBlockIdeal.Facts] [hCtxBlockRefIdeal : Cert.CtxBlockRefIdeal.Facts] : Prop :=
  ∀ (m : (ℓ : Loc Cert.CtxBlockIdeal.nD Cert.CtxBlockIdeal.τ Cert.CtxBlockIdeal.sig) → Buf (Elt Ideal) ℓ) (g : Dev Cert.CtxBlockIdeal.nD → PrngReg)
    (m' : (ℓ : Loc Cert.CtxBlockRefIdeal.nD Cert.CtxBlockRefIdeal.τ Cert.CtxBlockRefIdeal.sig) → Buf (Elt Ideal) ℓ) (g' : Dev Cert.CtxBlockRefIdeal.nD → PrngReg), Pre_CtxBlockIdeal m →
    (∀ c : Dev Cert.CtxBlockIdeal.nD,
      m' ((c.tc : Thread Cert.CtxBlockRefIdeal.nD Cert.CtxBlockRefIdeal.τ).loc Cert.CtxBlockRefIdeal.main_arg0) = m ((c.tc : Thread Cert.CtxBlockIdeal.nD Cert.CtxBlockIdeal.τ).loc Cert.CtxBlockIdeal.main_arg0)
      ∧ m' ((c.tc : Thread Cert.CtxBlockRefIdeal.nD Cert.CtxBlockRefIdeal.τ).loc Cert.CtxBlockRefIdeal.main_arg1) = m ((c.tc : Thread Cert.CtxBlockIdeal.nD Cert.CtxBlockIdeal.τ).loc Cert.CtxBlockIdeal.main_arg1)
      ∧ m' ((c.tc : Thread Cert.CtxBlockRefIdeal.nD Cert.CtxBlockRefIdeal.τ).loc Cert.CtxBlockRefIdeal.main_arg2) = m ((c.tc : Thread Cert.CtxBlockIdeal.nD Cert.CtxBlockIdeal.τ).loc Cert.CtxBlockIdeal.main_arg2)
      ∧ m' ((c.tc : Thread Cert.CtxBlockRefIdeal.nD Cert.CtxBlockRefIdeal.τ).loc Cert.CtxBlockRefIdeal.main_arg3) = m ((c.tc : Thread Cert.CtxBlockIdeal.nD Cert.CtxBlockIdeal.τ).loc Cert.CtxBlockIdeal.main_arg3)
      ∧ m' ((c.tc : Thread Cert.CtxBlockRefIdeal.nD Cert.CtxBlockRefIdeal.τ).loc Cert.CtxBlockRefIdeal.main_arg4) = m ((c.tc : Thread Cert.CtxBlockIdeal.nD Cert.CtxBlockIdeal.τ).loc Cert.CtxBlockIdeal.main_arg4)
      ∧ m' ((c.tc : Thread Cert.CtxBlockRefIdeal.nD Cert.CtxBlockRefIdeal.τ).loc Cert.CtxBlockRefIdeal.main_arg5) = m ((c.tc : Thread Cert.CtxBlockIdeal.nD Cert.CtxBlockIdeal.τ).loc Cert.CtxBlockIdeal.main_arg5)
      ∧ m' ((c.tc : Thread Cert.CtxBlockRefIdeal.nD Cert.CtxBlockRefIdeal.τ).loc Cert.CtxBlockRefIdeal.main_arg6) = m ((c.tc : Thread Cert.CtxBlockIdeal.nD Cert.CtxBlockIdeal.τ).loc Cert.CtxBlockIdeal.main_arg6)) →
    ∃ (v0 : (c : Dev Cert.CtxBlockIdeal.nD) → Buf (Elt Ideal) ((c.tc : Thread Cert.CtxBlockIdeal.nD Cert.CtxBlockIdeal.τ).loc Cert.CtxBlockIdeal.main_v5)),
      θ_run (Cert.CtxBlockIdeal.defs (F := Ideal)) (onTc (τ := Cert.CtxBlockIdeal.τ) (Cert.CtxBlockIdeal.main (F := Ideal))) ⟨m, fun _ => 0, g⟩ (fun r => ∀ c : Dev Cert.CtxBlockIdeal.nD,
          r.2.mem ((c.tc : Thread Cert.CtxBlockIdeal.nD Cert.CtxBlockIdeal.τ).loc Cert.CtxBlockIdeal.main_v5) = v0 c
          ∧ r.2.mem ((c.tc : Thread Cert.CtxBlockIdeal.nD Cert.CtxBlockIdeal.τ).loc Cert.CtxBlockIdeal.main_arg0) = m ((c.tc : Thread Cert.CtxBlockIdeal.nD Cert.CtxBlockIdeal.τ).loc Cert.CtxBlockIdeal.main_arg0)
          ∧ r.2.mem ((c.tc : Thread Cert.CtxBlockIdeal.nD Cert.CtxBlockIdeal.τ).loc Cert.CtxBlockIdeal.main_arg1) = m ((c.tc : Thread Cert.CtxBlockIdeal.nD Cert.CtxBlockIdeal.τ).loc Cert.CtxBlockIdeal.main_arg1)
          ∧ r.2.mem ((c.tc : Thread Cert.CtxBlockIdeal.nD Cert.CtxBlockIdeal.τ).loc Cert.CtxBlockIdeal.main_arg2) = m ((c.tc : Thread Cert.CtxBlockIdeal.nD Cert.CtxBlockIdeal.τ).loc Cert.CtxBlockIdeal.main_arg2)
          ∧ r.2.mem ((c.tc : Thread Cert.CtxBlockIdeal.nD Cert.CtxBlockIdeal.τ).loc Cert.CtxBlockIdeal.main_arg3) = m ((c.tc : Thread Cert.CtxBlockIdeal.nD Cert.CtxBlockIdeal.τ).loc Cert.CtxBlockIdeal.main_arg3)
          ∧ r.2.mem ((c.tc : Thread Cert.CtxBlockIdeal.nD Cert.CtxBlockIdeal.τ).loc Cert.CtxBlockIdeal.main_arg4) = m ((c.tc : Thread Cert.CtxBlockIdeal.nD Cert.CtxBlockIdeal.τ).loc Cert.CtxBlockIdeal.main_arg4)
          ∧ r.2.mem ((c.tc : Thread Cert.CtxBlockIdeal.nD Cert.CtxBlockIdeal.τ).loc Cert.CtxBlockIdeal.main_arg5) = m ((c.tc : Thread Cert.CtxBlockIdeal.nD Cert.CtxBlockIdeal.τ).loc Cert.CtxBlockIdeal.main_arg5)
          ∧ r.2.mem ((c.tc : Thread Cert.CtxBlockIdeal.nD Cert.CtxBlockIdeal.τ).loc Cert.CtxBlockIdeal.main_arg6) = m ((c.tc : Thread Cert.CtxBlockIdeal.nD Cert.CtxBlockIdeal.τ).loc Cert.CtxBlockIdeal.main_arg6))
      ∧ θ_run (Cert.CtxBlockRefIdeal.defs (F := Ideal)) (onTc (τ := Cert.CtxBlockRefIdeal.τ) (Cert.CtxBlockRefIdeal.main (F := Ideal))) ⟨m', fun _ => 0, g'⟩ (fun r => ∀ c : Dev Cert.CtxBlockRefIdeal.nD,
          r.2.mem ((c.tc : Thread Cert.CtxBlockRefIdeal.nD Cert.CtxBlockRefIdeal.τ).loc Cert.CtxBlockRefIdeal.main_v69) = v0 c
          ∧ r.2.mem ((c.tc : Thread Cert.CtxBlockRefIdeal.nD Cert.CtxBlockRefIdeal.τ).loc Cert.CtxBlockRefIdeal.main_arg0) = m' ((c.tc : Thread Cert.CtxBlockRefIdeal.nD Cert.CtxBlockRefIdeal.τ).loc Cert.CtxBlockRefIdeal.main_arg0)
          ∧ r.2.mem ((c.tc : Thread Cert.CtxBlockRefIdeal.nD Cert.CtxBlockRefIdeal.τ).loc Cert.CtxBlockRefIdeal.main_arg1) = m' ((c.tc : Thread Cert.CtxBlockRefIdeal.nD Cert.CtxBlockRefIdeal.τ).loc Cert.CtxBlockRefIdeal.main_arg1)
          ∧ r.2.mem ((c.tc : Thread Cert.CtxBlockRefIdeal.nD Cert.CtxBlockRefIdeal.τ).loc Cert.CtxBlockRefIdeal.main_arg2) = m' ((c.tc : Thread Cert.CtxBlockRefIdeal.nD Cert.CtxBlockRefIdeal.τ).loc Cert.CtxBlockRefIdeal.main_arg2)
          ∧ r.2.mem ((c.tc : Thread Cert.CtxBlockRefIdeal.nD Cert.CtxBlockRefIdeal.τ).loc Cert.CtxBlockRefIdeal.main_arg3) = m' ((c.tc : Thread Cert.CtxBlockRefIdeal.nD Cert.CtxBlockRefIdeal.τ).loc Cert.CtxBlockRefIdeal.main_arg3)
          ∧ r.2.mem ((c.tc : Thread Cert.CtxBlockRefIdeal.nD Cert.CtxBlockRefIdeal.τ).loc Cert.CtxBlockRefIdeal.main_arg4) = m' ((c.tc : Thread Cert.CtxBlockRefIdeal.nD Cert.CtxBlockRefIdeal.τ).loc Cert.CtxBlockRefIdeal.main_arg4)
          ∧ r.2.mem ((c.tc : Thread Cert.CtxBlockRefIdeal.nD Cert.CtxBlockRefIdeal.τ).loc Cert.CtxBlockRefIdeal.main_arg5) = m' ((c.tc : Thread Cert.CtxBlockRefIdeal.nD Cert.CtxBlockRefIdeal.τ).loc Cert.CtxBlockRefIdeal.main_arg5)
          ∧ r.2.mem ((c.tc : Thread Cert.CtxBlockRefIdeal.nD Cert.CtxBlockRefIdeal.τ).loc Cert.CtxBlockRefIdeal.main_arg6) = m' ((c.tc : Thread Cert.CtxBlockRefIdeal.nD Cert.CtxBlockRefIdeal.τ).loc Cert.CtxBlockRefIdeal.main_arg6))

def preserves_CtxWide_CtxWideIdeal : Prop :=
  True

def algebraic_CtxWideIdeal_CtxWideRefIdeal [hCtxWideIdeal : Cert.CtxWideIdeal.Facts] [hCtxWideRefIdeal : Cert.CtxWideRefIdeal.Facts] : Prop :=
  ∀ (m : (ℓ : Loc Cert.CtxWideIdeal.nD Cert.CtxWideIdeal.τ Cert.CtxWideIdeal.sig) → Buf (Elt Ideal) ℓ) (g : Dev Cert.CtxWideIdeal.nD → PrngReg)
    (m' : (ℓ : Loc Cert.CtxWideRefIdeal.nD Cert.CtxWideRefIdeal.τ Cert.CtxWideRefIdeal.sig) → Buf (Elt Ideal) ℓ) (g' : Dev Cert.CtxWideRefIdeal.nD → PrngReg), Pre_CtxWideIdeal m →
    (∀ c : Dev Cert.CtxWideIdeal.nD,
      m' ((c.tc : Thread Cert.CtxWideRefIdeal.nD Cert.CtxWideRefIdeal.τ).loc Cert.CtxWideRefIdeal.main_arg0) = m ((c.tc : Thread Cert.CtxWideIdeal.nD Cert.CtxWideIdeal.τ).loc Cert.CtxWideIdeal.main_arg0)
      ∧ m' ((c.tc : Thread Cert.CtxWideRefIdeal.nD Cert.CtxWideRefIdeal.τ).loc Cert.CtxWideRefIdeal.main_arg1) = m ((c.tc : Thread Cert.CtxWideIdeal.nD Cert.CtxWideIdeal.τ).loc Cert.CtxWideIdeal.main_arg1)
      ∧ m' ((c.tc : Thread Cert.CtxWideRefIdeal.nD Cert.CtxWideRefIdeal.τ).loc Cert.CtxWideRefIdeal.main_arg2) = m ((c.tc : Thread Cert.CtxWideIdeal.nD Cert.CtxWideIdeal.τ).loc Cert.CtxWideIdeal.main_arg2)
      ∧ m' ((c.tc : Thread Cert.CtxWideRefIdeal.nD Cert.CtxWideRefIdeal.τ).loc Cert.CtxWideRefIdeal.main_arg3) = m ((c.tc : Thread Cert.CtxWideIdeal.nD Cert.CtxWideIdeal.τ).loc Cert.CtxWideIdeal.main_arg3)
      ∧ m' ((c.tc : Thread Cert.CtxWideRefIdeal.nD Cert.CtxWideRefIdeal.τ).loc Cert.CtxWideRefIdeal.main_arg4) = m ((c.tc : Thread Cert.CtxWideIdeal.nD Cert.CtxWideIdeal.τ).loc Cert.CtxWideIdeal.main_arg4)
      ∧ m' ((c.tc : Thread Cert.CtxWideRefIdeal.nD Cert.CtxWideRefIdeal.τ).loc Cert.CtxWideRefIdeal.main_arg5) = m ((c.tc : Thread Cert.CtxWideIdeal.nD Cert.CtxWideIdeal.τ).loc Cert.CtxWideIdeal.main_arg5)
      ∧ m' ((c.tc : Thread Cert.CtxWideRefIdeal.nD Cert.CtxWideRefIdeal.τ).loc Cert.CtxWideRefIdeal.main_arg6) = m ((c.tc : Thread Cert.CtxWideIdeal.nD Cert.CtxWideIdeal.τ).loc Cert.CtxWideIdeal.main_arg6)) →
    ∃ (v0 : (c : Dev Cert.CtxWideIdeal.nD) → Buf (Elt Ideal) ((c.tc : Thread Cert.CtxWideIdeal.nD Cert.CtxWideIdeal.τ).loc Cert.CtxWideIdeal.main_v5)),
      θ_run (Cert.CtxWideIdeal.defs (F := Ideal)) (onTc (τ := Cert.CtxWideIdeal.τ) (Cert.CtxWideIdeal.main (F := Ideal))) ⟨m, fun _ => 0, g⟩ (fun r => ∀ c : Dev Cert.CtxWideIdeal.nD,
          r.2.mem ((c.tc : Thread Cert.CtxWideIdeal.nD Cert.CtxWideIdeal.τ).loc Cert.CtxWideIdeal.main_v5) = v0 c
          ∧ r.2.mem ((c.tc : Thread Cert.CtxWideIdeal.nD Cert.CtxWideIdeal.τ).loc Cert.CtxWideIdeal.main_arg0) = m ((c.tc : Thread Cert.CtxWideIdeal.nD Cert.CtxWideIdeal.τ).loc Cert.CtxWideIdeal.main_arg0)
          ∧ r.2.mem ((c.tc : Thread Cert.CtxWideIdeal.nD Cert.CtxWideIdeal.τ).loc Cert.CtxWideIdeal.main_arg1) = m ((c.tc : Thread Cert.CtxWideIdeal.nD Cert.CtxWideIdeal.τ).loc Cert.CtxWideIdeal.main_arg1)
          ∧ r.2.mem ((c.tc : Thread Cert.CtxWideIdeal.nD Cert.CtxWideIdeal.τ).loc Cert.CtxWideIdeal.main_arg2) = m ((c.tc : Thread Cert.CtxWideIdeal.nD Cert.CtxWideIdeal.τ).loc Cert.CtxWideIdeal.main_arg2)
          ∧ r.2.mem ((c.tc : Thread Cert.CtxWideIdeal.nD Cert.CtxWideIdeal.τ).loc Cert.CtxWideIdeal.main_arg3) = m ((c.tc : Thread Cert.CtxWideIdeal.nD Cert.CtxWideIdeal.τ).loc Cert.CtxWideIdeal.main_arg3)
          ∧ r.2.mem ((c.tc : Thread Cert.CtxWideIdeal.nD Cert.CtxWideIdeal.τ).loc Cert.CtxWideIdeal.main_arg4) = m ((c.tc : Thread Cert.CtxWideIdeal.nD Cert.CtxWideIdeal.τ).loc Cert.CtxWideIdeal.main_arg4)
          ∧ r.2.mem ((c.tc : Thread Cert.CtxWideIdeal.nD Cert.CtxWideIdeal.τ).loc Cert.CtxWideIdeal.main_arg5) = m ((c.tc : Thread Cert.CtxWideIdeal.nD Cert.CtxWideIdeal.τ).loc Cert.CtxWideIdeal.main_arg5)
          ∧ r.2.mem ((c.tc : Thread Cert.CtxWideIdeal.nD Cert.CtxWideIdeal.τ).loc Cert.CtxWideIdeal.main_arg6) = m ((c.tc : Thread Cert.CtxWideIdeal.nD Cert.CtxWideIdeal.τ).loc Cert.CtxWideIdeal.main_arg6))
      ∧ θ_run (Cert.CtxWideRefIdeal.defs (F := Ideal)) (onTc (τ := Cert.CtxWideRefIdeal.τ) (Cert.CtxWideRefIdeal.main (F := Ideal))) ⟨m', fun _ => 0, g'⟩ (fun r => ∀ c : Dev Cert.CtxWideRefIdeal.nD,
          r.2.mem ((c.tc : Thread Cert.CtxWideRefIdeal.nD Cert.CtxWideRefIdeal.τ).loc Cert.CtxWideRefIdeal.main_v69) = v0 c
          ∧ r.2.mem ((c.tc : Thread Cert.CtxWideRefIdeal.nD Cert.CtxWideRefIdeal.τ).loc Cert.CtxWideRefIdeal.main_arg0) = m' ((c.tc : Thread Cert.CtxWideRefIdeal.nD Cert.CtxWideRefIdeal.τ).loc Cert.CtxWideRefIdeal.main_arg0)
          ∧ r.2.mem ((c.tc : Thread Cert.CtxWideRefIdeal.nD Cert.CtxWideRefIdeal.τ).loc Cert.CtxWideRefIdeal.main_arg1) = m' ((c.tc : Thread Cert.CtxWideRefIdeal.nD Cert.CtxWideRefIdeal.τ).loc Cert.CtxWideRefIdeal.main_arg1)
          ∧ r.2.mem ((c.tc : Thread Cert.CtxWideRefIdeal.nD Cert.CtxWideRefIdeal.τ).loc Cert.CtxWideRefIdeal.main_arg2) = m' ((c.tc : Thread Cert.CtxWideRefIdeal.nD Cert.CtxWideRefIdeal.τ).loc Cert.CtxWideRefIdeal.main_arg2)
          ∧ r.2.mem ((c.tc : Thread Cert.CtxWideRefIdeal.nD Cert.CtxWideRefIdeal.τ).loc Cert.CtxWideRefIdeal.main_arg3) = m' ((c.tc : Thread Cert.CtxWideRefIdeal.nD Cert.CtxWideRefIdeal.τ).loc Cert.CtxWideRefIdeal.main_arg3)
          ∧ r.2.mem ((c.tc : Thread Cert.CtxWideRefIdeal.nD Cert.CtxWideRefIdeal.τ).loc Cert.CtxWideRefIdeal.main_arg4) = m' ((c.tc : Thread Cert.CtxWideRefIdeal.nD Cert.CtxWideRefIdeal.τ).loc Cert.CtxWideRefIdeal.main_arg4)
          ∧ r.2.mem ((c.tc : Thread Cert.CtxWideRefIdeal.nD Cert.CtxWideRefIdeal.τ).loc Cert.CtxWideRefIdeal.main_arg5) = m' ((c.tc : Thread Cert.CtxWideRefIdeal.nD Cert.CtxWideRefIdeal.τ).loc Cert.CtxWideRefIdeal.main_arg5)
          ∧ r.2.mem ((c.tc : Thread Cert.CtxWideRefIdeal.nD Cert.CtxWideRefIdeal.τ).loc Cert.CtxWideRefIdeal.main_arg6) = m' ((c.tc : Thread Cert.CtxWideRefIdeal.nD Cert.CtxWideRefIdeal.τ).loc Cert.CtxWideRefIdeal.main_arg6))

def preserves_CtxProj_CtxProjIdeal : Prop :=
  True

def algebraic_CtxProjIdeal_CtxProjRefIdeal [hCtxProjIdeal : Cert.CtxProjIdeal.Facts] [hCtxProjRefIdeal : Cert.CtxProjRefIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg)
    (m' : (ℓ : Loc Cert.CtxProjRefIdeal.nD Cert.CtxProjRefIdeal.τ Cert.CtxProjRefIdeal.sig) → Buf (Elt Ideal) ℓ) (g' : Dev Cert.CtxProjRefIdeal.nD → PrngReg), Pre_CtxProjIdeal m →
    (∀ c : Dev Cert.CtxProjIdeal.nD,
      m' ((c.tc : Thread Cert.CtxProjRefIdeal.nD Cert.CtxProjRefIdeal.τ).loc Cert.CtxProjRefIdeal.main_arg0) = m ((c.tc : Thread Cert.CtxProjIdeal.nD Cert.CtxProjIdeal.τ).loc Cert.CtxProjIdeal.main_arg0)
      ∧ m' ((c.tc : Thread Cert.CtxProjRefIdeal.nD Cert.CtxProjRefIdeal.τ).loc Cert.CtxProjRefIdeal.main_arg1) = m ((c.tc : Thread Cert.CtxProjIdeal.nD Cert.CtxProjIdeal.τ).loc Cert.CtxProjIdeal.main_arg1)
      ∧ m' ((c.tc : Thread Cert.CtxProjRefIdeal.nD Cert.CtxProjRefIdeal.τ).loc Cert.CtxProjRefIdeal.main_arg2) = m ((c.tc : Thread Cert.CtxProjIdeal.nD Cert.CtxProjIdeal.τ).loc Cert.CtxProjIdeal.main_arg2)
      ∧ m' ((c.tc : Thread Cert.CtxProjRefIdeal.nD Cert.CtxProjRefIdeal.τ).loc Cert.CtxProjRefIdeal.main_arg3) = m ((c.tc : Thread Cert.CtxProjIdeal.nD Cert.CtxProjIdeal.τ).loc Cert.CtxProjIdeal.main_arg3)) →
    ∃ (v0 : (c : Dev Cert.CtxProjIdeal.nD) → Buf (Elt Ideal) ((c.tc : Thread Cert.CtxProjIdeal.nD Cert.CtxProjIdeal.τ).loc Cert.CtxProjIdeal.main_v2)),
      θ_run (Cert.CtxProjIdeal.defs (F := Ideal)) (onTc (τ := Cert.CtxProjIdeal.τ) (Cert.CtxProjIdeal.main (F := Ideal))) ⟨m, fun _ => 0, g⟩ (fun r => ∀ c : Dev Cert.CtxProjIdeal.nD,
          r.2.mem ((c.tc : Thread Cert.CtxProjIdeal.nD Cert.CtxProjIdeal.τ).loc Cert.CtxProjIdeal.main_v2) = v0 c
          ∧ r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
          ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
          ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
          ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3))
      ∧ θ_run (Cert.CtxProjRefIdeal.defs (F := Ideal)) (onTc (τ := Cert.CtxProjRefIdeal.τ) (Cert.CtxProjRefIdeal.main (F := Ideal))) ⟨m', fun _ => 0, g'⟩ (fun r => ∀ c : Dev Cert.CtxProjRefIdeal.nD,
          r.2.mem ((c.tc : Thread Cert.CtxProjRefIdeal.nD Cert.CtxProjRefIdeal.τ).loc Cert.CtxProjRefIdeal.main_v28) = v0 c
          ∧ r.2.mem ((c.tc : Thread Cert.CtxProjRefIdeal.nD Cert.CtxProjRefIdeal.τ).loc Cert.CtxProjRefIdeal.main_arg0) = m' ((c.tc : Thread Cert.CtxProjRefIdeal.nD Cert.CtxProjRefIdeal.τ).loc Cert.CtxProjRefIdeal.main_arg0)
          ∧ r.2.mem ((c.tc : Thread Cert.CtxProjRefIdeal.nD Cert.CtxProjRefIdeal.τ).loc Cert.CtxProjRefIdeal.main_arg1) = m' ((c.tc : Thread Cert.CtxProjRefIdeal.nD Cert.CtxProjRefIdeal.τ).loc Cert.CtxProjRefIdeal.main_arg1)
          ∧ r.2.mem ((c.tc : Thread Cert.CtxProjRefIdeal.nD Cert.CtxProjRefIdeal.τ).loc Cert.CtxProjRefIdeal.main_arg2) = m' ((c.tc : Thread Cert.CtxProjRefIdeal.nD Cert.CtxProjRefIdeal.τ).loc Cert.CtxProjRefIdeal.main_arg2)
          ∧ r.2.mem ((c.tc : Thread Cert.CtxProjRefIdeal.nD Cert.CtxProjRefIdeal.τ).loc Cert.CtxProjRefIdeal.main_arg3) = m' ((c.tc : Thread Cert.CtxProjRefIdeal.nD Cert.CtxProjRefIdeal.τ).loc Cert.CtxProjRefIdeal.main_arg3))

def preserves_CtxProjHyena_CtxProjHyenaIdeal : Prop :=
  True

def algebraic_CtxProjHyenaIdeal_CtxProjHyenaRefIdeal [hCtxProjHyenaIdeal : Cert.CtxProjHyenaIdeal.Facts] [hCtxProjHyenaRefIdeal : Cert.CtxProjHyenaRefIdeal.Facts] : Prop :=
  ∀ (m : (ℓ : Loc Cert.CtxProjHyenaIdeal.nD Cert.CtxProjHyenaIdeal.τ Cert.CtxProjHyenaIdeal.sig) → Buf (Elt Ideal) ℓ) (g : Dev Cert.CtxProjHyenaIdeal.nD → PrngReg)
    (m' : (ℓ : Loc Cert.CtxProjHyenaRefIdeal.nD Cert.CtxProjHyenaRefIdeal.τ Cert.CtxProjHyenaRefIdeal.sig) → Buf (Elt Ideal) ℓ) (g' : Dev Cert.CtxProjHyenaRefIdeal.nD → PrngReg), Pre_CtxProjHyenaIdeal m →
    (∀ c : Dev Cert.CtxProjHyenaIdeal.nD,
      m' ((c.tc : Thread Cert.CtxProjHyenaRefIdeal.nD Cert.CtxProjHyenaRefIdeal.τ).loc Cert.CtxProjHyenaRefIdeal.main_arg0) = m ((c.tc : Thread Cert.CtxProjHyenaIdeal.nD Cert.CtxProjHyenaIdeal.τ).loc Cert.CtxProjHyenaIdeal.main_arg0)
      ∧ m' ((c.tc : Thread Cert.CtxProjHyenaRefIdeal.nD Cert.CtxProjHyenaRefIdeal.τ).loc Cert.CtxProjHyenaRefIdeal.main_arg1) = m ((c.tc : Thread Cert.CtxProjHyenaIdeal.nD Cert.CtxProjHyenaIdeal.τ).loc Cert.CtxProjHyenaIdeal.main_arg1)
      ∧ m' ((c.tc : Thread Cert.CtxProjHyenaRefIdeal.nD Cert.CtxProjHyenaRefIdeal.τ).loc Cert.CtxProjHyenaRefIdeal.main_arg2) = m ((c.tc : Thread Cert.CtxProjHyenaIdeal.nD Cert.CtxProjHyenaIdeal.τ).loc Cert.CtxProjHyenaIdeal.main_arg2)
      ∧ m' ((c.tc : Thread Cert.CtxProjHyenaRefIdeal.nD Cert.CtxProjHyenaRefIdeal.τ).loc Cert.CtxProjHyenaRefIdeal.main_arg3) = m ((c.tc : Thread Cert.CtxProjHyenaIdeal.nD Cert.CtxProjHyenaIdeal.τ).loc Cert.CtxProjHyenaIdeal.main_arg3)) →
    ∃ (v0 : (c : Dev Cert.CtxProjHyenaIdeal.nD) → Buf (Elt Ideal) ((c.tc : Thread Cert.CtxProjHyenaIdeal.nD Cert.CtxProjHyenaIdeal.τ).loc Cert.CtxProjHyenaIdeal.main_v2)),
      θ_run (Cert.CtxProjHyenaIdeal.defs (F := Ideal)) (onTc (τ := Cert.CtxProjHyenaIdeal.τ) (Cert.CtxProjHyenaIdeal.main (F := Ideal))) ⟨m, fun _ => 0, g⟩ (fun r => ∀ c : Dev Cert.CtxProjHyenaIdeal.nD,
          r.2.mem ((c.tc : Thread Cert.CtxProjHyenaIdeal.nD Cert.CtxProjHyenaIdeal.τ).loc Cert.CtxProjHyenaIdeal.main_v2) = v0 c
          ∧ r.2.mem ((c.tc : Thread Cert.CtxProjHyenaIdeal.nD Cert.CtxProjHyenaIdeal.τ).loc Cert.CtxProjHyenaIdeal.main_arg0) = m ((c.tc : Thread Cert.CtxProjHyenaIdeal.nD Cert.CtxProjHyenaIdeal.τ).loc Cert.CtxProjHyenaIdeal.main_arg0)
          ∧ r.2.mem ((c.tc : Thread Cert.CtxProjHyenaIdeal.nD Cert.CtxProjHyenaIdeal.τ).loc Cert.CtxProjHyenaIdeal.main_arg1) = m ((c.tc : Thread Cert.CtxProjHyenaIdeal.nD Cert.CtxProjHyenaIdeal.τ).loc Cert.CtxProjHyenaIdeal.main_arg1)
          ∧ r.2.mem ((c.tc : Thread Cert.CtxProjHyenaIdeal.nD Cert.CtxProjHyenaIdeal.τ).loc Cert.CtxProjHyenaIdeal.main_arg2) = m ((c.tc : Thread Cert.CtxProjHyenaIdeal.nD Cert.CtxProjHyenaIdeal.τ).loc Cert.CtxProjHyenaIdeal.main_arg2)
          ∧ r.2.mem ((c.tc : Thread Cert.CtxProjHyenaIdeal.nD Cert.CtxProjHyenaIdeal.τ).loc Cert.CtxProjHyenaIdeal.main_arg3) = m ((c.tc : Thread Cert.CtxProjHyenaIdeal.nD Cert.CtxProjHyenaIdeal.τ).loc Cert.CtxProjHyenaIdeal.main_arg3))
      ∧ θ_run (Cert.CtxProjHyenaRefIdeal.defs (F := Ideal)) (onTc (τ := Cert.CtxProjHyenaRefIdeal.τ) (Cert.CtxProjHyenaRefIdeal.main (F := Ideal))) ⟨m', fun _ => 0, g'⟩ (fun r => ∀ c : Dev Cert.CtxProjHyenaRefIdeal.nD,
          r.2.mem ((c.tc : Thread Cert.CtxProjHyenaRefIdeal.nD Cert.CtxProjHyenaRefIdeal.τ).loc Cert.CtxProjHyenaRefIdeal.main_v28) = v0 c
          ∧ r.2.mem ((c.tc : Thread Cert.CtxProjHyenaRefIdeal.nD Cert.CtxProjHyenaRefIdeal.τ).loc Cert.CtxProjHyenaRefIdeal.main_arg0) = m' ((c.tc : Thread Cert.CtxProjHyenaRefIdeal.nD Cert.CtxProjHyenaRefIdeal.τ).loc Cert.CtxProjHyenaRefIdeal.main_arg0)
          ∧ r.2.mem ((c.tc : Thread Cert.CtxProjHyenaRefIdeal.nD Cert.CtxProjHyenaRefIdeal.τ).loc Cert.CtxProjHyenaRefIdeal.main_arg1) = m' ((c.tc : Thread Cert.CtxProjHyenaRefIdeal.nD Cert.CtxProjHyenaRefIdeal.τ).loc Cert.CtxProjHyenaRefIdeal.main_arg1)
          ∧ r.2.mem ((c.tc : Thread Cert.CtxProjHyenaRefIdeal.nD Cert.CtxProjHyenaRefIdeal.τ).loc Cert.CtxProjHyenaRefIdeal.main_arg2) = m' ((c.tc : Thread Cert.CtxProjHyenaRefIdeal.nD Cert.CtxProjHyenaRefIdeal.τ).loc Cert.CtxProjHyenaRefIdeal.main_arg2)
          ∧ r.2.mem ((c.tc : Thread Cert.CtxProjHyenaRefIdeal.nD Cert.CtxProjHyenaRefIdeal.τ).loc Cert.CtxProjHyenaRefIdeal.main_arg3) = m' ((c.tc : Thread Cert.CtxProjHyenaRefIdeal.nD Cert.CtxProjHyenaRefIdeal.τ).loc Cert.CtxProjHyenaRefIdeal.main_arg3))

def preserves_CtxProjSsd_CtxProjSsdIdeal : Prop :=
  True

def algebraic_CtxProjSsdIdeal_CtxProjSsdRefIdeal [hCtxProjSsdIdeal : Cert.CtxProjSsdIdeal.Facts] [hCtxProjSsdRefIdeal : Cert.CtxProjSsdRefIdeal.Facts] : Prop :=
  ∀ (m : (ℓ : Loc Cert.CtxProjSsdIdeal.nD Cert.CtxProjSsdIdeal.τ Cert.CtxProjSsdIdeal.sig) → Buf (Elt Ideal) ℓ) (g : Dev Cert.CtxProjSsdIdeal.nD → PrngReg)
    (m' : (ℓ : Loc Cert.CtxProjSsdRefIdeal.nD Cert.CtxProjSsdRefIdeal.τ Cert.CtxProjSsdRefIdeal.sig) → Buf (Elt Ideal) ℓ) (g' : Dev Cert.CtxProjSsdRefIdeal.nD → PrngReg), Pre_CtxProjSsdIdeal m →
    (∀ c : Dev Cert.CtxProjSsdIdeal.nD,
      m' ((c.tc : Thread Cert.CtxProjSsdRefIdeal.nD Cert.CtxProjSsdRefIdeal.τ).loc Cert.CtxProjSsdRefIdeal.main_arg0) = m ((c.tc : Thread Cert.CtxProjSsdIdeal.nD Cert.CtxProjSsdIdeal.τ).loc Cert.CtxProjSsdIdeal.main_arg0)
      ∧ m' ((c.tc : Thread Cert.CtxProjSsdRefIdeal.nD Cert.CtxProjSsdRefIdeal.τ).loc Cert.CtxProjSsdRefIdeal.main_arg1) = m ((c.tc : Thread Cert.CtxProjSsdIdeal.nD Cert.CtxProjSsdIdeal.τ).loc Cert.CtxProjSsdIdeal.main_arg1)
      ∧ m' ((c.tc : Thread Cert.CtxProjSsdRefIdeal.nD Cert.CtxProjSsdRefIdeal.τ).loc Cert.CtxProjSsdRefIdeal.main_arg2) = m ((c.tc : Thread Cert.CtxProjSsdIdeal.nD Cert.CtxProjSsdIdeal.τ).loc Cert.CtxProjSsdIdeal.main_arg2)
      ∧ m' ((c.tc : Thread Cert.CtxProjSsdRefIdeal.nD Cert.CtxProjSsdRefIdeal.τ).loc Cert.CtxProjSsdRefIdeal.main_arg3) = m ((c.tc : Thread Cert.CtxProjSsdIdeal.nD Cert.CtxProjSsdIdeal.τ).loc Cert.CtxProjSsdIdeal.main_arg3)) →
    ∃ (v0 : (c : Dev Cert.CtxProjSsdIdeal.nD) → Buf (Elt Ideal) ((c.tc : Thread Cert.CtxProjSsdIdeal.nD Cert.CtxProjSsdIdeal.τ).loc Cert.CtxProjSsdIdeal.main_v2)),
      θ_run (Cert.CtxProjSsdIdeal.defs (F := Ideal)) (onTc (τ := Cert.CtxProjSsdIdeal.τ) (Cert.CtxProjSsdIdeal.main (F := Ideal))) ⟨m, fun _ => 0, g⟩ (fun r => ∀ c : Dev Cert.CtxProjSsdIdeal.nD,
          r.2.mem ((c.tc : Thread Cert.CtxProjSsdIdeal.nD Cert.CtxProjSsdIdeal.τ).loc Cert.CtxProjSsdIdeal.main_v2) = v0 c
          ∧ r.2.mem ((c.tc : Thread Cert.CtxProjSsdIdeal.nD Cert.CtxProjSsdIdeal.τ).loc Cert.CtxProjSsdIdeal.main_arg0) = m ((c.tc : Thread Cert.CtxProjSsdIdeal.nD Cert.CtxProjSsdIdeal.τ).loc Cert.CtxProjSsdIdeal.main_arg0)
          ∧ r.2.mem ((c.tc : Thread Cert.CtxProjSsdIdeal.nD Cert.CtxProjSsdIdeal.τ).loc Cert.CtxProjSsdIdeal.main_arg1) = m ((c.tc : Thread Cert.CtxProjSsdIdeal.nD Cert.CtxProjSsdIdeal.τ).loc Cert.CtxProjSsdIdeal.main_arg1)
          ∧ r.2.mem ((c.tc : Thread Cert.CtxProjSsdIdeal.nD Cert.CtxProjSsdIdeal.τ).loc Cert.CtxProjSsdIdeal.main_arg2) = m ((c.tc : Thread Cert.CtxProjSsdIdeal.nD Cert.CtxProjSsdIdeal.τ).loc Cert.CtxProjSsdIdeal.main_arg2)
          ∧ r.2.mem ((c.tc : Thread Cert.CtxProjSsdIdeal.nD Cert.CtxProjSsdIdeal.τ).loc Cert.CtxProjSsdIdeal.main_arg3) = m ((c.tc : Thread Cert.CtxProjSsdIdeal.nD Cert.CtxProjSsdIdeal.τ).loc Cert.CtxProjSsdIdeal.main_arg3))
      ∧ θ_run (Cert.CtxProjSsdRefIdeal.defs (F := Ideal)) (onTc (τ := Cert.CtxProjSsdRefIdeal.τ) (Cert.CtxProjSsdRefIdeal.main (F := Ideal))) ⟨m', fun _ => 0, g'⟩ (fun r => ∀ c : Dev Cert.CtxProjSsdRefIdeal.nD,
          r.2.mem ((c.tc : Thread Cert.CtxProjSsdRefIdeal.nD Cert.CtxProjSsdRefIdeal.τ).loc Cert.CtxProjSsdRefIdeal.main_v28) = v0 c
          ∧ r.2.mem ((c.tc : Thread Cert.CtxProjSsdRefIdeal.nD Cert.CtxProjSsdRefIdeal.τ).loc Cert.CtxProjSsdRefIdeal.main_arg0) = m' ((c.tc : Thread Cert.CtxProjSsdRefIdeal.nD Cert.CtxProjSsdRefIdeal.τ).loc Cert.CtxProjSsdRefIdeal.main_arg0)
          ∧ r.2.mem ((c.tc : Thread Cert.CtxProjSsdRefIdeal.nD Cert.CtxProjSsdRefIdeal.τ).loc Cert.CtxProjSsdRefIdeal.main_arg1) = m' ((c.tc : Thread Cert.CtxProjSsdRefIdeal.nD Cert.CtxProjSsdRefIdeal.τ).loc Cert.CtxProjSsdRefIdeal.main_arg1)
          ∧ r.2.mem ((c.tc : Thread Cert.CtxProjSsdRefIdeal.nD Cert.CtxProjSsdRefIdeal.τ).loc Cert.CtxProjSsdRefIdeal.main_arg2) = m' ((c.tc : Thread Cert.CtxProjSsdRefIdeal.nD Cert.CtxProjSsdRefIdeal.τ).loc Cert.CtxProjSsdRefIdeal.main_arg2)
          ∧ r.2.mem ((c.tc : Thread Cert.CtxProjSsdRefIdeal.nD Cert.CtxProjSsdRefIdeal.τ).loc Cert.CtxProjSsdRefIdeal.main_arg3) = m' ((c.tc : Thread Cert.CtxProjSsdRefIdeal.nD Cert.CtxProjSsdRefIdeal.τ).loc Cert.CtxProjSsdRefIdeal.main_arg3))

def preserves_CtxProjNbr_CtxProjNbrIdeal : Prop :=
  True

def algebraic_CtxProjNbrIdeal_CtxProjNbrRefIdeal [hCtxProjNbrIdeal : Cert.CtxProjNbrIdeal.Facts] [hCtxProjNbrRefIdeal : Cert.CtxProjNbrRefIdeal.Facts] : Prop :=
  ∀ (m : (ℓ : Loc Cert.CtxProjNbrIdeal.nD Cert.CtxProjNbrIdeal.τ Cert.CtxProjNbrIdeal.sig) → Buf (Elt Ideal) ℓ) (g : Dev Cert.CtxProjNbrIdeal.nD → PrngReg)
    (m' : (ℓ : Loc Cert.CtxProjNbrRefIdeal.nD Cert.CtxProjNbrRefIdeal.τ Cert.CtxProjNbrRefIdeal.sig) → Buf (Elt Ideal) ℓ) (g' : Dev Cert.CtxProjNbrRefIdeal.nD → PrngReg), Pre_CtxProjNbrIdeal m →
    (∀ c : Dev Cert.CtxProjNbrIdeal.nD,
      m' ((c.tc : Thread Cert.CtxProjNbrRefIdeal.nD Cert.CtxProjNbrRefIdeal.τ).loc Cert.CtxProjNbrRefIdeal.main_arg0) = m ((c.tc : Thread Cert.CtxProjNbrIdeal.nD Cert.CtxProjNbrIdeal.τ).loc Cert.CtxProjNbrIdeal.main_arg0)
      ∧ m' ((c.tc : Thread Cert.CtxProjNbrRefIdeal.nD Cert.CtxProjNbrRefIdeal.τ).loc Cert.CtxProjNbrRefIdeal.main_arg1) = m ((c.tc : Thread Cert.CtxProjNbrIdeal.nD Cert.CtxProjNbrIdeal.τ).loc Cert.CtxProjNbrIdeal.main_arg1)
      ∧ m' ((c.tc : Thread Cert.CtxProjNbrRefIdeal.nD Cert.CtxProjNbrRefIdeal.τ).loc Cert.CtxProjNbrRefIdeal.main_arg2) = m ((c.tc : Thread Cert.CtxProjNbrIdeal.nD Cert.CtxProjNbrIdeal.τ).loc Cert.CtxProjNbrIdeal.main_arg2)
      ∧ m' ((c.tc : Thread Cert.CtxProjNbrRefIdeal.nD Cert.CtxProjNbrRefIdeal.τ).loc Cert.CtxProjNbrRefIdeal.main_arg3) = m ((c.tc : Thread Cert.CtxProjNbrIdeal.nD Cert.CtxProjNbrIdeal.τ).loc Cert.CtxProjNbrIdeal.main_arg3)) →
    ∃ (v0 : (c : Dev Cert.CtxProjNbrIdeal.nD) → Buf (Elt Ideal) ((c.tc : Thread Cert.CtxProjNbrIdeal.nD Cert.CtxProjNbrIdeal.τ).loc Cert.CtxProjNbrIdeal.main_v2)),
      θ_run (Cert.CtxProjNbrIdeal.defs (F := Ideal)) (onTc (τ := Cert.CtxProjNbrIdeal.τ) (Cert.CtxProjNbrIdeal.main (F := Ideal))) ⟨m, fun _ => 0, g⟩ (fun r => ∀ c : Dev Cert.CtxProjNbrIdeal.nD,
          r.2.mem ((c.tc : Thread Cert.CtxProjNbrIdeal.nD Cert.CtxProjNbrIdeal.τ).loc Cert.CtxProjNbrIdeal.main_v2) = v0 c
          ∧ r.2.mem ((c.tc : Thread Cert.CtxProjNbrIdeal.nD Cert.CtxProjNbrIdeal.τ).loc Cert.CtxProjNbrIdeal.main_arg0) = m ((c.tc : Thread Cert.CtxProjNbrIdeal.nD Cert.CtxProjNbrIdeal.τ).loc Cert.CtxProjNbrIdeal.main_arg0)
          ∧ r.2.mem ((c.tc : Thread Cert.CtxProjNbrIdeal.nD Cert.CtxProjNbrIdeal.τ).loc Cert.CtxProjNbrIdeal.main_arg1) = m ((c.tc : Thread Cert.CtxProjNbrIdeal.nD Cert.CtxProjNbrIdeal.τ).loc Cert.CtxProjNbrIdeal.main_arg1)
          ∧ r.2.mem ((c.tc : Thread Cert.CtxProjNbrIdeal.nD Cert.CtxProjNbrIdeal.τ).loc Cert.CtxProjNbrIdeal.main_arg2) = m ((c.tc : Thread Cert.CtxProjNbrIdeal.nD Cert.CtxProjNbrIdeal.τ).loc Cert.CtxProjNbrIdeal.main_arg2)
          ∧ r.2.mem ((c.tc : Thread Cert.CtxProjNbrIdeal.nD Cert.CtxProjNbrIdeal.τ).loc Cert.CtxProjNbrIdeal.main_arg3) = m ((c.tc : Thread Cert.CtxProjNbrIdeal.nD Cert.CtxProjNbrIdeal.τ).loc Cert.CtxProjNbrIdeal.main_arg3))
      ∧ θ_run (Cert.CtxProjNbrRefIdeal.defs (F := Ideal)) (onTc (τ := Cert.CtxProjNbrRefIdeal.τ) (Cert.CtxProjNbrRefIdeal.main (F := Ideal))) ⟨m', fun _ => 0, g'⟩ (fun r => ∀ c : Dev Cert.CtxProjNbrRefIdeal.nD,
          r.2.mem ((c.tc : Thread Cert.CtxProjNbrRefIdeal.nD Cert.CtxProjNbrRefIdeal.τ).loc Cert.CtxProjNbrRefIdeal.main_v29) = v0 c
          ∧ r.2.mem ((c.tc : Thread Cert.CtxProjNbrRefIdeal.nD Cert.CtxProjNbrRefIdeal.τ).loc Cert.CtxProjNbrRefIdeal.main_arg0) = m' ((c.tc : Thread Cert.CtxProjNbrRefIdeal.nD Cert.CtxProjNbrRefIdeal.τ).loc Cert.CtxProjNbrRefIdeal.main_arg0)
          ∧ r.2.mem ((c.tc : Thread Cert.CtxProjNbrRefIdeal.nD Cert.CtxProjNbrRefIdeal.τ).loc Cert.CtxProjNbrRefIdeal.main_arg1) = m' ((c.tc : Thread Cert.CtxProjNbrRefIdeal.nD Cert.CtxProjNbrRefIdeal.τ).loc Cert.CtxProjNbrRefIdeal.main_arg1)
          ∧ r.2.mem ((c.tc : Thread Cert.CtxProjNbrRefIdeal.nD Cert.CtxProjNbrRefIdeal.τ).loc Cert.CtxProjNbrRefIdeal.main_arg2) = m' ((c.tc : Thread Cert.CtxProjNbrRefIdeal.nD Cert.CtxProjNbrRefIdeal.τ).loc Cert.CtxProjNbrRefIdeal.main_arg2)
          ∧ r.2.mem ((c.tc : Thread Cert.CtxProjNbrRefIdeal.nD Cert.CtxProjNbrRefIdeal.τ).loc Cert.CtxProjNbrRefIdeal.main_arg3) = m' ((c.tc : Thread Cert.CtxProjNbrRefIdeal.nD Cert.CtxProjNbrRefIdeal.τ).loc Cert.CtxProjNbrRefIdeal.main_arg3))

def preserves_Nbr_NbrIdeal : Prop :=
  IdealRules.named_const.Statement Cert.NbrIdeal.κ "nscale" .f32 0x3E38AA3B#32 (((8 * (Real.log 2))⁻¹ : ℝ) : EReal)
  ∧ IdealRules.named_const.Statement Cert.NbrIdeal.κ "log2e" .f32 0x3FB8AA3B#32 (((Real.log 2)⁻¹ : ℝ) : EReal)

def algebraic_NbrIdeal_NbrRefIdeal_pre_finite_scores [hNbrIdeal : Cert.NbrIdeal.Facts] [hNbrRefIdeal : Cert.NbrRefIdeal.Facts] [hPre_finite_scores : Cert.Pre_finite_scores.Facts] : Prop :=
  ∀ (m : (ℓ : Loc Cert.NbrIdeal.nD Cert.NbrIdeal.τ Cert.NbrIdeal.sig) → Buf (Elt Ideal) ℓ) (g : Dev Cert.NbrIdeal.nD → PrngReg)
    (m' : (ℓ : Loc Cert.NbrRefIdeal.nD Cert.NbrRefIdeal.τ Cert.NbrRefIdeal.sig) → Buf (Elt Ideal) ℓ) (g' : Dev Cert.NbrRefIdeal.nD → PrngReg), Pre_NbrIdeal_finite_scores m →
    (∀ c : Dev Cert.NbrIdeal.nD,
      m' ((c.tc : Thread Cert.NbrRefIdeal.nD Cert.NbrRefIdeal.τ).loc Cert.NbrRefIdeal.main_arg0) = m ((c.tc : Thread Cert.NbrIdeal.nD Cert.NbrIdeal.τ).loc Cert.NbrIdeal.main_arg0)
      ∧ m' ((c.tc : Thread Cert.NbrRefIdeal.nD Cert.NbrRefIdeal.τ).loc Cert.NbrRefIdeal.main_arg1) = m ((c.tc : Thread Cert.NbrIdeal.nD Cert.NbrIdeal.τ).loc Cert.NbrIdeal.main_arg1)
      ∧ m' ((c.tc : Thread Cert.NbrRefIdeal.nD Cert.NbrRefIdeal.τ).loc Cert.NbrRefIdeal.main_arg2) = m ((c.tc : Thread Cert.NbrIdeal.nD Cert.NbrIdeal.τ).loc Cert.NbrIdeal.main_arg2)) →
    ∃ (v0 : (c : Dev Cert.NbrIdeal.nD) → Buf (Elt Ideal) ((c.tc : Thread Cert.NbrIdeal.nD Cert.NbrIdeal.τ).loc Cert.NbrIdeal.main_v56)),
      θ_run (Cert.NbrIdeal.defs (F := Ideal)) (onTc (τ := Cert.NbrIdeal.τ) (Cert.NbrIdeal.main (F := Ideal))) ⟨m, fun _ => 0, g⟩ (fun r => ∀ c : Dev Cert.NbrIdeal.nD,
          r.2.mem ((c.tc : Thread Cert.NbrIdeal.nD Cert.NbrIdeal.τ).loc Cert.NbrIdeal.main_v56) = v0 c
          ∧ r.2.mem ((c.tc : Thread Cert.NbrIdeal.nD Cert.NbrIdeal.τ).loc Cert.NbrIdeal.main_arg0) = m ((c.tc : Thread Cert.NbrIdeal.nD Cert.NbrIdeal.τ).loc Cert.NbrIdeal.main_arg0)
          ∧ r.2.mem ((c.tc : Thread Cert.NbrIdeal.nD Cert.NbrIdeal.τ).loc Cert.NbrIdeal.main_arg1) = m ((c.tc : Thread Cert.NbrIdeal.nD Cert.NbrIdeal.τ).loc Cert.NbrIdeal.main_arg1)
          ∧ r.2.mem ((c.tc : Thread Cert.NbrIdeal.nD Cert.NbrIdeal.τ).loc Cert.NbrIdeal.main_arg2) = m ((c.tc : Thread Cert.NbrIdeal.nD Cert.NbrIdeal.τ).loc Cert.NbrIdeal.main_arg2))
      ∧ θ_run (Cert.NbrRefIdeal.defs (F := Ideal)) (onTc (τ := Cert.NbrRefIdeal.τ) (Cert.NbrRefIdeal.main (F := Ideal))) ⟨m', fun _ => 0, g'⟩ (fun r => ∀ c : Dev Cert.NbrRefIdeal.nD,
          r.2.mem ((c.tc : Thread Cert.NbrRefIdeal.nD Cert.NbrRefIdeal.τ).loc Cert.NbrRefIdeal.main_v123) = v0 c
          ∧ r.2.mem ((c.tc : Thread Cert.NbrRefIdeal.nD Cert.NbrRefIdeal.τ).loc Cert.NbrRefIdeal.main_arg0) = m' ((c.tc : Thread Cert.NbrRefIdeal.nD Cert.NbrRefIdeal.τ).loc Cert.NbrRefIdeal.main_arg0)
          ∧ r.2.mem ((c.tc : Thread Cert.NbrRefIdeal.nD Cert.NbrRefIdeal.τ).loc Cert.NbrRefIdeal.main_arg1) = m' ((c.tc : Thread Cert.NbrRefIdeal.nD Cert.NbrRefIdeal.τ).loc Cert.NbrRefIdeal.main_arg1)
          ∧ r.2.mem ((c.tc : Thread Cert.NbrRefIdeal.nD Cert.NbrRefIdeal.τ).loc Cert.NbrRefIdeal.main_arg2) = m' ((c.tc : Thread Cert.NbrRefIdeal.nD Cert.NbrRefIdeal.τ).loc Cert.NbrRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v5)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v5) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v9) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_ConvHyena_ConvHyenaIdeal : Prop :=
  True

def algebraic_ConvHyenaIdeal_ConvHyenaRefIdeal [hConvHyenaIdeal : Cert.ConvHyenaIdeal.Facts] [hConvHyenaRefIdeal : Cert.ConvHyenaRefIdeal.Facts] : Prop :=
  ∀ (m : (ℓ : Loc Cert.ConvHyenaIdeal.nD Cert.ConvHyenaIdeal.τ Cert.ConvHyenaIdeal.sig) → Buf (Elt Ideal) ℓ) (g : Dev Cert.ConvHyenaIdeal.nD → PrngReg)
    (m' : (ℓ : Loc Cert.ConvHyenaRefIdeal.nD Cert.ConvHyenaRefIdeal.τ Cert.ConvHyenaRefIdeal.sig) → Buf (Elt Ideal) ℓ) (g' : Dev Cert.ConvHyenaRefIdeal.nD → PrngReg), Pre_ConvHyenaIdeal m →
    (∀ c : Dev Cert.ConvHyenaIdeal.nD,
      m' ((c.tc : Thread Cert.ConvHyenaRefIdeal.nD Cert.ConvHyenaRefIdeal.τ).loc Cert.ConvHyenaRefIdeal.main_arg0) = m ((c.tc : Thread Cert.ConvHyenaIdeal.nD Cert.ConvHyenaIdeal.τ).loc Cert.ConvHyenaIdeal.main_arg0)
      ∧ m' ((c.tc : Thread Cert.ConvHyenaRefIdeal.nD Cert.ConvHyenaRefIdeal.τ).loc Cert.ConvHyenaRefIdeal.main_arg1) = m ((c.tc : Thread Cert.ConvHyenaIdeal.nD Cert.ConvHyenaIdeal.τ).loc Cert.ConvHyenaIdeal.main_arg1)
      ∧ m' ((c.tc : Thread Cert.ConvHyenaRefIdeal.nD Cert.ConvHyenaRefIdeal.τ).loc Cert.ConvHyenaRefIdeal.main_arg2) = m ((c.tc : Thread Cert.ConvHyenaIdeal.nD Cert.ConvHyenaIdeal.τ).loc Cert.ConvHyenaIdeal.main_arg2)) →
    ∃ (v0 : (c : Dev Cert.ConvHyenaIdeal.nD) → Buf (Elt Ideal) ((c.tc : Thread Cert.ConvHyenaIdeal.nD Cert.ConvHyenaIdeal.τ).loc Cert.ConvHyenaIdeal.main_v1)),
      θ_run (Cert.ConvHyenaIdeal.defs (F := Ideal)) (onTc (τ := Cert.ConvHyenaIdeal.τ) (Cert.ConvHyenaIdeal.main (F := Ideal))) ⟨m, fun _ => 0, g⟩ (fun r => ∀ c : Dev Cert.ConvHyenaIdeal.nD,
          r.2.mem ((c.tc : Thread Cert.ConvHyenaIdeal.nD Cert.ConvHyenaIdeal.τ).loc Cert.ConvHyenaIdeal.main_v1) = v0 c
          ∧ r.2.mem ((c.tc : Thread Cert.ConvHyenaIdeal.nD Cert.ConvHyenaIdeal.τ).loc Cert.ConvHyenaIdeal.main_arg0) = m ((c.tc : Thread Cert.ConvHyenaIdeal.nD Cert.ConvHyenaIdeal.τ).loc Cert.ConvHyenaIdeal.main_arg0)
          ∧ r.2.mem ((c.tc : Thread Cert.ConvHyenaIdeal.nD Cert.ConvHyenaIdeal.τ).loc Cert.ConvHyenaIdeal.main_arg1) = m ((c.tc : Thread Cert.ConvHyenaIdeal.nD Cert.ConvHyenaIdeal.τ).loc Cert.ConvHyenaIdeal.main_arg1)
          ∧ r.2.mem ((c.tc : Thread Cert.ConvHyenaIdeal.nD Cert.ConvHyenaIdeal.τ).loc Cert.ConvHyenaIdeal.main_arg2) = m ((c.tc : Thread Cert.ConvHyenaIdeal.nD Cert.ConvHyenaIdeal.τ).loc Cert.ConvHyenaIdeal.main_arg2))
      ∧ θ_run (Cert.ConvHyenaRefIdeal.defs (F := Ideal)) (onTc (τ := Cert.ConvHyenaRefIdeal.τ) (Cert.ConvHyenaRefIdeal.main (F := Ideal))) ⟨m', fun _ => 0, g'⟩ (fun r => ∀ c : Dev Cert.ConvHyenaRefIdeal.nD,
          r.2.mem ((c.tc : Thread Cert.ConvHyenaRefIdeal.nD Cert.ConvHyenaRefIdeal.τ).loc Cert.ConvHyenaRefIdeal.main_v27) = v0 c
          ∧ r.2.mem ((c.tc : Thread Cert.ConvHyenaRefIdeal.nD Cert.ConvHyenaRefIdeal.τ).loc Cert.ConvHyenaRefIdeal.main_arg0) = m' ((c.tc : Thread Cert.ConvHyenaRefIdeal.nD Cert.ConvHyenaRefIdeal.τ).loc Cert.ConvHyenaRefIdeal.main_arg0)
          ∧ r.2.mem ((c.tc : Thread Cert.ConvHyenaRefIdeal.nD Cert.ConvHyenaRefIdeal.τ).loc Cert.ConvHyenaRefIdeal.main_arg1) = m' ((c.tc : Thread Cert.ConvHyenaRefIdeal.nD Cert.ConvHyenaRefIdeal.τ).loc Cert.ConvHyenaRefIdeal.main_arg1)
          ∧ r.2.mem ((c.tc : Thread Cert.ConvHyenaRefIdeal.nD Cert.ConvHyenaRefIdeal.τ).loc Cert.ConvHyenaRefIdeal.main_arg2) = m' ((c.tc : Thread Cert.ConvHyenaRefIdeal.nD Cert.ConvHyenaRefIdeal.τ).loc Cert.ConvHyenaRefIdeal.main_arg2))

def preserves_CtxConvHyena_CtxConvHyenaIdeal : Prop :=
  True

def algebraic_CtxConvHyenaIdeal_CtxConvHyenaRefIdeal [hCtxConvHyenaIdeal : Cert.CtxConvHyenaIdeal.Facts] [hCtxConvHyenaRefIdeal : Cert.CtxConvHyenaRefIdeal.Facts] : Prop :=
  ∀ (m : (ℓ : Loc Cert.CtxConvHyenaIdeal.nD Cert.CtxConvHyenaIdeal.τ Cert.CtxConvHyenaIdeal.sig) → Buf (Elt Ideal) ℓ) (g : Dev Cert.CtxConvHyenaIdeal.nD → PrngReg)
    (m' : (ℓ : Loc Cert.CtxConvHyenaRefIdeal.nD Cert.CtxConvHyenaRefIdeal.τ Cert.CtxConvHyenaRefIdeal.sig) → Buf (Elt Ideal) ℓ) (g' : Dev Cert.CtxConvHyenaRefIdeal.nD → PrngReg), Pre_CtxConvHyenaIdeal m →
    (∀ c : Dev Cert.CtxConvHyenaIdeal.nD,
      m' ((c.tc : Thread Cert.CtxConvHyenaRefIdeal.nD Cert.CtxConvHyenaRefIdeal.τ).loc Cert.CtxConvHyenaRefIdeal.main_arg0) = m ((c.tc : Thread Cert.CtxConvHyenaIdeal.nD Cert.CtxConvHyenaIdeal.τ).loc Cert.CtxConvHyenaIdeal.main_arg0)
      ∧ m' ((c.tc : Thread Cert.CtxConvHyenaRefIdeal.nD Cert.CtxConvHyenaRefIdeal.τ).loc Cert.CtxConvHyenaRefIdeal.main_arg1) = m ((c.tc : Thread Cert.CtxConvHyenaIdeal.nD Cert.CtxConvHyenaIdeal.τ).loc Cert.CtxConvHyenaIdeal.main_arg1)
      ∧ m' ((c.tc : Thread Cert.CtxConvHyenaRefIdeal.nD Cert.CtxConvHyenaRefIdeal.τ).loc Cert.CtxConvHyenaRefIdeal.main_arg2) = m ((c.tc : Thread Cert.CtxConvHyenaIdeal.nD Cert.CtxConvHyenaIdeal.τ).loc Cert.CtxConvHyenaIdeal.main_arg2)) →
    ∃ (v0 : (c : Dev Cert.CtxConvHyenaIdeal.nD) → Buf (Elt Ideal) ((c.tc : Thread Cert.CtxConvHyenaIdeal.nD Cert.CtxConvHyenaIdeal.τ).loc Cert.CtxConvHyenaIdeal.main_v1)),
      θ_run (Cert.CtxConvHyenaIdeal.defs (F := Ideal)) (onTc (τ := Cert.CtxConvHyenaIdeal.τ) (Cert.CtxConvHyenaIdeal.main (F := Ideal))) ⟨m, fun _ => 0, g⟩ (fun r => ∀ c : Dev Cert.CtxConvHyenaIdeal.nD,
          r.2.mem ((c.tc : Thread Cert.CtxConvHyenaIdeal.nD Cert.CtxConvHyenaIdeal.τ).loc Cert.CtxConvHyenaIdeal.main_v1) = v0 c
          ∧ r.2.mem ((c.tc : Thread Cert.CtxConvHyenaIdeal.nD Cert.CtxConvHyenaIdeal.τ).loc Cert.CtxConvHyenaIdeal.main_arg0) = m ((c.tc : Thread Cert.CtxConvHyenaIdeal.nD Cert.CtxConvHyenaIdeal.τ).loc Cert.CtxConvHyenaIdeal.main_arg0)
          ∧ r.2.mem ((c.tc : Thread Cert.CtxConvHyenaIdeal.nD Cert.CtxConvHyenaIdeal.τ).loc Cert.CtxConvHyenaIdeal.main_arg1) = m ((c.tc : Thread Cert.CtxConvHyenaIdeal.nD Cert.CtxConvHyenaIdeal.τ).loc Cert.CtxConvHyenaIdeal.main_arg1)
          ∧ r.2.mem ((c.tc : Thread Cert.CtxConvHyenaIdeal.nD Cert.CtxConvHyenaIdeal.τ).loc Cert.CtxConvHyenaIdeal.main_arg2) = m ((c.tc : Thread Cert.CtxConvHyenaIdeal.nD Cert.CtxConvHyenaIdeal.τ).loc Cert.CtxConvHyenaIdeal.main_arg2))
      ∧ θ_run (Cert.CtxConvHyenaRefIdeal.defs (F := Ideal)) (onTc (τ := Cert.CtxConvHyenaRefIdeal.τ) (Cert.CtxConvHyenaRefIdeal.main (F := Ideal))) ⟨m', fun _ => 0, g'⟩ (fun r => ∀ c : Dev Cert.CtxConvHyenaRefIdeal.nD,
          r.2.mem ((c.tc : Thread Cert.CtxConvHyenaRefIdeal.nD Cert.CtxConvHyenaRefIdeal.τ).loc Cert.CtxConvHyenaRefIdeal.main_v27) = v0 c
          ∧ r.2.mem ((c.tc : Thread Cert.CtxConvHyenaRefIdeal.nD Cert.CtxConvHyenaRefIdeal.τ).loc Cert.CtxConvHyenaRefIdeal.main_arg0) = m' ((c.tc : Thread Cert.CtxConvHyenaRefIdeal.nD Cert.CtxConvHyenaRefIdeal.τ).loc Cert.CtxConvHyenaRefIdeal.main_arg0)
          ∧ r.2.mem ((c.tc : Thread Cert.CtxConvHyenaRefIdeal.nD Cert.CtxConvHyenaRefIdeal.τ).loc Cert.CtxConvHyenaRefIdeal.main_arg1) = m' ((c.tc : Thread Cert.CtxConvHyenaRefIdeal.nD Cert.CtxConvHyenaRefIdeal.τ).loc Cert.CtxConvHyenaRefIdeal.main_arg1)
          ∧ r.2.mem ((c.tc : Thread Cert.CtxConvHyenaRefIdeal.nD Cert.CtxConvHyenaRefIdeal.τ).loc Cert.CtxConvHyenaRefIdeal.main_arg2) = m' ((c.tc : Thread Cert.CtxConvHyenaRefIdeal.nD Cert.CtxConvHyenaRefIdeal.τ).loc Cert.CtxConvHyenaRefIdeal.main_arg2))

def preserves_ConvSsd_ConvSsdIdeal : Prop :=
  True

def algebraic_ConvSsdIdeal_ConvSsdRefIdeal [hConvSsdIdeal : Cert.ConvSsdIdeal.Facts] [hConvSsdRefIdeal : Cert.ConvSsdRefIdeal.Facts] : Prop :=
  ∀ (m : (ℓ : Loc Cert.ConvSsdIdeal.nD Cert.ConvSsdIdeal.τ Cert.ConvSsdIdeal.sig) → Buf (Elt Ideal) ℓ) (g : Dev Cert.ConvSsdIdeal.nD → PrngReg)
    (m' : (ℓ : Loc Cert.ConvSsdRefIdeal.nD Cert.ConvSsdRefIdeal.τ Cert.ConvSsdRefIdeal.sig) → Buf (Elt Ideal) ℓ) (g' : Dev Cert.ConvSsdRefIdeal.nD → PrngReg), Pre_ConvSsdIdeal m →
    (∀ c : Dev Cert.ConvSsdIdeal.nD,
      m' ((c.tc : Thread Cert.ConvSsdRefIdeal.nD Cert.ConvSsdRefIdeal.τ).loc Cert.ConvSsdRefIdeal.main_arg0) = m ((c.tc : Thread Cert.ConvSsdIdeal.nD Cert.ConvSsdIdeal.τ).loc Cert.ConvSsdIdeal.main_arg0)
      ∧ m' ((c.tc : Thread Cert.ConvSsdRefIdeal.nD Cert.ConvSsdRefIdeal.τ).loc Cert.ConvSsdRefIdeal.main_arg1) = m ((c.tc : Thread Cert.ConvSsdIdeal.nD Cert.ConvSsdIdeal.τ).loc Cert.ConvSsdIdeal.main_arg1)
      ∧ m' ((c.tc : Thread Cert.ConvSsdRefIdeal.nD Cert.ConvSsdRefIdeal.τ).loc Cert.ConvSsdRefIdeal.main_arg2) = m ((c.tc : Thread Cert.ConvSsdIdeal.nD Cert.ConvSsdIdeal.τ).loc Cert.ConvSsdIdeal.main_arg2)) →
    ∃ (v0 : (c : Dev Cert.ConvSsdIdeal.nD) → Buf (Elt Ideal) ((c.tc : Thread Cert.ConvSsdIdeal.nD Cert.ConvSsdIdeal.τ).loc Cert.ConvSsdIdeal.main_v1)),
      θ_run (Cert.ConvSsdIdeal.defs (F := Ideal)) (onTc (τ := Cert.ConvSsdIdeal.τ) (Cert.ConvSsdIdeal.main (F := Ideal))) ⟨m, fun _ => 0, g⟩ (fun r => ∀ c : Dev Cert.ConvSsdIdeal.nD,
          r.2.mem ((c.tc : Thread Cert.ConvSsdIdeal.nD Cert.ConvSsdIdeal.τ).loc Cert.ConvSsdIdeal.main_v1) = v0 c
          ∧ r.2.mem ((c.tc : Thread Cert.ConvSsdIdeal.nD Cert.ConvSsdIdeal.τ).loc Cert.ConvSsdIdeal.main_arg0) = m ((c.tc : Thread Cert.ConvSsdIdeal.nD Cert.ConvSsdIdeal.τ).loc Cert.ConvSsdIdeal.main_arg0)
          ∧ r.2.mem ((c.tc : Thread Cert.ConvSsdIdeal.nD Cert.ConvSsdIdeal.τ).loc Cert.ConvSsdIdeal.main_arg1) = m ((c.tc : Thread Cert.ConvSsdIdeal.nD Cert.ConvSsdIdeal.τ).loc Cert.ConvSsdIdeal.main_arg1)
          ∧ r.2.mem ((c.tc : Thread Cert.ConvSsdIdeal.nD Cert.ConvSsdIdeal.τ).loc Cert.ConvSsdIdeal.main_arg2) = m ((c.tc : Thread Cert.ConvSsdIdeal.nD Cert.ConvSsdIdeal.τ).loc Cert.ConvSsdIdeal.main_arg2))
      ∧ θ_run (Cert.ConvSsdRefIdeal.defs (F := Ideal)) (onTc (τ := Cert.ConvSsdRefIdeal.τ) (Cert.ConvSsdRefIdeal.main (F := Ideal))) ⟨m', fun _ => 0, g'⟩ (fun r => ∀ c : Dev Cert.ConvSsdRefIdeal.nD,
          r.2.mem ((c.tc : Thread Cert.ConvSsdRefIdeal.nD Cert.ConvSsdRefIdeal.τ).loc Cert.ConvSsdRefIdeal.main_v29) = v0 c
          ∧ r.2.mem ((c.tc : Thread Cert.ConvSsdRefIdeal.nD Cert.ConvSsdRefIdeal.τ).loc Cert.ConvSsdRefIdeal.main_arg0) = m' ((c.tc : Thread Cert.ConvSsdRefIdeal.nD Cert.ConvSsdRefIdeal.τ).loc Cert.ConvSsdRefIdeal.main_arg0)
          ∧ r.2.mem ((c.tc : Thread Cert.ConvSsdRefIdeal.nD Cert.ConvSsdRefIdeal.τ).loc Cert.ConvSsdRefIdeal.main_arg1) = m' ((c.tc : Thread Cert.ConvSsdRefIdeal.nD Cert.ConvSsdRefIdeal.τ).loc Cert.ConvSsdRefIdeal.main_arg1)
          ∧ r.2.mem ((c.tc : Thread Cert.ConvSsdRefIdeal.nD Cert.ConvSsdRefIdeal.τ).loc Cert.ConvSsdRefIdeal.main_arg2) = m' ((c.tc : Thread Cert.ConvSsdRefIdeal.nD Cert.ConvSsdRefIdeal.τ).loc Cert.ConvSsdRefIdeal.main_arg2))

def preserves_CtxConvSsd_CtxConvSsdIdeal : Prop :=
  True

def algebraic_CtxConvSsdIdeal_CtxConvSsdRefIdeal [hCtxConvSsdIdeal : Cert.CtxConvSsdIdeal.Facts] [hCtxConvSsdRefIdeal : Cert.CtxConvSsdRefIdeal.Facts] : Prop :=
  ∀ (m : (ℓ : Loc Cert.CtxConvSsdIdeal.nD Cert.CtxConvSsdIdeal.τ Cert.CtxConvSsdIdeal.sig) → Buf (Elt Ideal) ℓ) (g : Dev Cert.CtxConvSsdIdeal.nD → PrngReg)
    (m' : (ℓ : Loc Cert.CtxConvSsdRefIdeal.nD Cert.CtxConvSsdRefIdeal.τ Cert.CtxConvSsdRefIdeal.sig) → Buf (Elt Ideal) ℓ) (g' : Dev Cert.CtxConvSsdRefIdeal.nD → PrngReg), Pre_CtxConvSsdIdeal m →
    (∀ c : Dev Cert.CtxConvSsdIdeal.nD,
      m' ((c.tc : Thread Cert.CtxConvSsdRefIdeal.nD Cert.CtxConvSsdRefIdeal.τ).loc Cert.CtxConvSsdRefIdeal.main_arg0) = m ((c.tc : Thread Cert.CtxConvSsdIdeal.nD Cert.CtxConvSsdIdeal.τ).loc Cert.CtxConvSsdIdeal.main_arg0)
      ∧ m' ((c.tc : Thread Cert.CtxConvSsdRefIdeal.nD Cert.CtxConvSsdRefIdeal.τ).loc Cert.CtxConvSsdRefIdeal.main_arg1) = m ((c.tc : Thread Cert.CtxConvSsdIdeal.nD Cert.CtxConvSsdIdeal.τ).loc Cert.CtxConvSsdIdeal.main_arg1)
      ∧ m' ((c.tc : Thread Cert.CtxConvSsdRefIdeal.nD Cert.CtxConvSsdRefIdeal.τ).loc Cert.CtxConvSsdRefIdeal.main_arg2) = m ((c.tc : Thread Cert.CtxConvSsdIdeal.nD Cert.CtxConvSsdIdeal.τ).loc Cert.CtxConvSsdIdeal.main_arg2)) →
    ∃ (v0 : (c : Dev Cert.CtxConvSsdIdeal.nD) → Buf (Elt Ideal) ((c.tc : Thread Cert.CtxConvSsdIdeal.nD Cert.CtxConvSsdIdeal.τ).loc Cert.CtxConvSsdIdeal.main_v1)),
      θ_run (Cert.CtxConvSsdIdeal.defs (F := Ideal)) (onTc (τ := Cert.CtxConvSsdIdeal.τ) (Cert.CtxConvSsdIdeal.main (F := Ideal))) ⟨m, fun _ => 0, g⟩ (fun r => ∀ c : Dev Cert.CtxConvSsdIdeal.nD,
          r.2.mem ((c.tc : Thread Cert.CtxConvSsdIdeal.nD Cert.CtxConvSsdIdeal.τ).loc Cert.CtxConvSsdIdeal.main_v1) = v0 c
          ∧ r.2.mem ((c.tc : Thread Cert.CtxConvSsdIdeal.nD Cert.CtxConvSsdIdeal.τ).loc Cert.CtxConvSsdIdeal.main_arg0) = m ((c.tc : Thread Cert.CtxConvSsdIdeal.nD Cert.CtxConvSsdIdeal.τ).loc Cert.CtxConvSsdIdeal.main_arg0)
          ∧ r.2.mem ((c.tc : Thread Cert.CtxConvSsdIdeal.nD Cert.CtxConvSsdIdeal.τ).loc Cert.CtxConvSsdIdeal.main_arg1) = m ((c.tc : Thread Cert.CtxConvSsdIdeal.nD Cert.CtxConvSsdIdeal.τ).loc Cert.CtxConvSsdIdeal.main_arg1)
          ∧ r.2.mem ((c.tc : Thread Cert.CtxConvSsdIdeal.nD Cert.CtxConvSsdIdeal.τ).loc Cert.CtxConvSsdIdeal.main_arg2) = m ((c.tc : Thread Cert.CtxConvSsdIdeal.nD Cert.CtxConvSsdIdeal.τ).loc Cert.CtxConvSsdIdeal.main_arg2))
      ∧ θ_run (Cert.CtxConvSsdRefIdeal.defs (F := Ideal)) (onTc (τ := Cert.CtxConvSsdRefIdeal.τ) (Cert.CtxConvSsdRefIdeal.main (F := Ideal))) ⟨m', fun _ => 0, g'⟩ (fun r => ∀ c : Dev Cert.CtxConvSsdRefIdeal.nD,
          r.2.mem ((c.tc : Thread Cert.CtxConvSsdRefIdeal.nD Cert.CtxConvSsdRefIdeal.τ).loc Cert.CtxConvSsdRefIdeal.main_v29) = v0 c
          ∧ r.2.mem ((c.tc : Thread Cert.CtxConvSsdRefIdeal.nD Cert.CtxConvSsdRefIdeal.τ).loc Cert.CtxConvSsdRefIdeal.main_arg0) = m' ((c.tc : Thread Cert.CtxConvSsdRefIdeal.nD Cert.CtxConvSsdRefIdeal.τ).loc Cert.CtxConvSsdRefIdeal.main_arg0)
          ∧ r.2.mem ((c.tc : Thread Cert.CtxConvSsdRefIdeal.nD Cert.CtxConvSsdRefIdeal.τ).loc Cert.CtxConvSsdRefIdeal.main_arg1) = m' ((c.tc : Thread Cert.CtxConvSsdRefIdeal.nD Cert.CtxConvSsdRefIdeal.τ).loc Cert.CtxConvSsdRefIdeal.main_arg1)
          ∧ r.2.mem ((c.tc : Thread Cert.CtxConvSsdRefIdeal.nD Cert.CtxConvSsdRefIdeal.τ).loc Cert.CtxConvSsdRefIdeal.main_arg2) = m' ((c.tc : Thread Cert.CtxConvSsdRefIdeal.nD Cert.CtxConvSsdRefIdeal.τ).loc Cert.CtxConvSsdRefIdeal.main_arg2))

def Claim : Prop :=
  ∃ (hAttn : Cert.Attn.Facts) (hAttnIdeal : Cert.AttnIdeal.Facts) (hAttnRefIdeal : Cert.AttnRefIdeal.Facts) (hBlock : Cert.Block.Facts) (hBlockIdeal : Cert.BlockIdeal.Facts) (hBlockRefIdeal : Cert.BlockRefIdeal.Facts) (hProj : Cert.Proj.Facts) (hProjIdeal : Cert.ProjIdeal.Facts) (hProjRefIdeal : Cert.ProjRefIdeal.Facts) (hWide : Cert.Wide.Facts) (hWideIdeal : Cert.WideIdeal.Facts) (hWideRefIdeal : Cert.WideRefIdeal.Facts) (hProjHyena : Cert.ProjHyena.Facts) (hProjHyenaIdeal : Cert.ProjHyenaIdeal.Facts) (hProjHyenaRefIdeal : Cert.ProjHyenaRefIdeal.Facts) (hProjSsd : Cert.ProjSsd.Facts) (hProjSsdIdeal : Cert.ProjSsdIdeal.Facts) (hProjSsdRefIdeal : Cert.ProjSsdRefIdeal.Facts) (hProjNbr : Cert.ProjNbr.Facts) (hProjNbrIdeal : Cert.ProjNbrIdeal.Facts) (hProjNbrRefIdeal : Cert.ProjNbrRefIdeal.Facts) (hCtxBlock : Cert.CtxBlock.Facts) (hCtxBlockIdeal : Cert.CtxBlockIdeal.Facts) (hCtxBlockRefIdeal : Cert.CtxBlockRefIdeal.Facts) (hCtxWide : Cert.CtxWide.Facts) (hCtxWideIdeal : Cert.CtxWideIdeal.Facts) (hCtxWideRefIdeal : Cert.CtxWideRefIdeal.Facts) (hCtxProj : Cert.CtxProj.Facts) (hCtxProjIdeal : Cert.CtxProjIdeal.Facts) (hCtxProjRefIdeal : Cert.CtxProjRefIdeal.Facts) (hCtxProjHyena : Cert.CtxProjHyena.Facts) (hCtxProjHyenaIdeal : Cert.CtxProjHyenaIdeal.Facts) (hCtxProjHyenaRefIdeal : Cert.CtxProjHyenaRefIdeal.Facts) (hCtxProjSsd : Cert.CtxProjSsd.Facts) (hCtxProjSsdIdeal : Cert.CtxProjSsdIdeal.Facts) (hCtxProjSsdRefIdeal : Cert.CtxProjSsdRefIdeal.Facts) (hCtxProjNbr : Cert.CtxProjNbr.Facts) (hCtxProjNbrIdeal : Cert.CtxProjNbrIdeal.Facts) (hCtxProjNbrRefIdeal : Cert.CtxProjNbrRefIdeal.Facts) (hNbr : Cert.Nbr.Facts) (hNbrIdeal : Cert.NbrIdeal.Facts) (hNbrRefIdeal : Cert.NbrRefIdeal.Facts) (hMod : Cert.Mod.Facts) (hModIdeal : Cert.ModIdeal.Facts) (hModRefIdeal : Cert.ModRefIdeal.Facts) (hConvHyena : Cert.ConvHyena.Facts) (hConvHyenaIdeal : Cert.ConvHyenaIdeal.Facts) (hConvHyenaRefIdeal : Cert.ConvHyenaRefIdeal.Facts) (hCtxConvHyena : Cert.CtxConvHyena.Facts) (hCtxConvHyenaIdeal : Cert.CtxConvHyenaIdeal.Facts) (hCtxConvHyenaRefIdeal : Cert.CtxConvHyenaRefIdeal.Facts) (hConvSsd : Cert.ConvSsd.Facts) (hConvSsdIdeal : Cert.ConvSsdIdeal.Facts) (hConvSsdRefIdeal : Cert.ConvSsdRefIdeal.Facts) (hCtxConvSsd : Cert.CtxConvSsd.Facts) (hCtxConvSsdIdeal : Cert.CtxConvSsdIdeal.Facts) (hCtxConvSsdRefIdeal : Cert.CtxConvSsdRefIdeal.Facts) (hPre_finite_gains : Cert.Pre_finite_gains.Facts) (hPre_finite_scores : Cert.Pre_finite_scores.Facts),
    quiescent_Attn (hAttn := hAttn)
    ∧ quiescent_AttnIdeal (hAttnIdeal := hAttnIdeal)
    ∧ quiescent_AttnIdeal_pre_finite_gains (hAttnIdeal := hAttnIdeal) (hPre_finite_gains := hPre_finite_gains)
    ∧ quiescent_AttnRefIdeal (hAttnRefIdeal := hAttnRefIdeal)
    ∧ quiescent_AttnRefIdeal_pre_finite_gains (hAttnRefIdeal := hAttnRefIdeal) (hPre_finite_gains := hPre_finite_gains)
    ∧ quiescent_Block (hBlock := hBlock)
    ∧ quiescent_BlockIdeal (hBlockIdeal := hBlockIdeal)
    ∧ quiescent_BlockRefIdeal (hBlockRefIdeal := hBlockRefIdeal)
    ∧ quiescent_Proj (hProj := hProj)
    ∧ quiescent_ProjIdeal (hProjIdeal := hProjIdeal)
    ∧ quiescent_ProjRefIdeal (hProjRefIdeal := hProjRefIdeal)
    ∧ quiescent_Wide (hWide := hWide)
    ∧ quiescent_WideIdeal (hWideIdeal := hWideIdeal)
    ∧ quiescent_WideRefIdeal (hWideRefIdeal := hWideRefIdeal)
    ∧ quiescent_ProjHyena (hProjHyena := hProjHyena)
    ∧ quiescent_ProjHyenaIdeal (hProjHyenaIdeal := hProjHyenaIdeal)
    ∧ quiescent_ProjHyenaRefIdeal (hProjHyenaRefIdeal := hProjHyenaRefIdeal)
    ∧ quiescent_ProjSsd (hProjSsd := hProjSsd)
    ∧ quiescent_ProjSsdIdeal (hProjSsdIdeal := hProjSsdIdeal)
    ∧ quiescent_ProjSsdRefIdeal (hProjSsdRefIdeal := hProjSsdRefIdeal)
    ∧ quiescent_ProjNbr (hProjNbr := hProjNbr)
    ∧ quiescent_ProjNbrIdeal (hProjNbrIdeal := hProjNbrIdeal)
    ∧ quiescent_ProjNbrRefIdeal (hProjNbrRefIdeal := hProjNbrRefIdeal)
    ∧ quiescent_CtxBlock (hCtxBlock := hCtxBlock)
    ∧ quiescent_CtxBlockIdeal (hCtxBlockIdeal := hCtxBlockIdeal)
    ∧ quiescent_CtxBlockRefIdeal (hCtxBlockRefIdeal := hCtxBlockRefIdeal)
    ∧ quiescent_CtxWide (hCtxWide := hCtxWide)
    ∧ quiescent_CtxWideIdeal (hCtxWideIdeal := hCtxWideIdeal)
    ∧ quiescent_CtxWideRefIdeal (hCtxWideRefIdeal := hCtxWideRefIdeal)
    ∧ quiescent_CtxProj (hCtxProj := hCtxProj)
    ∧ quiescent_CtxProjIdeal (hCtxProjIdeal := hCtxProjIdeal)
    ∧ quiescent_CtxProjRefIdeal (hCtxProjRefIdeal := hCtxProjRefIdeal)
    ∧ quiescent_CtxProjHyena (hCtxProjHyena := hCtxProjHyena)
    ∧ quiescent_CtxProjHyenaIdeal (hCtxProjHyenaIdeal := hCtxProjHyenaIdeal)
    ∧ quiescent_CtxProjHyenaRefIdeal (hCtxProjHyenaRefIdeal := hCtxProjHyenaRefIdeal)
    ∧ quiescent_CtxProjSsd (hCtxProjSsd := hCtxProjSsd)
    ∧ quiescent_CtxProjSsdIdeal (hCtxProjSsdIdeal := hCtxProjSsdIdeal)
    ∧ quiescent_CtxProjSsdRefIdeal (hCtxProjSsdRefIdeal := hCtxProjSsdRefIdeal)
    ∧ quiescent_CtxProjNbr (hCtxProjNbr := hCtxProjNbr)
    ∧ quiescent_CtxProjNbrIdeal (hCtxProjNbrIdeal := hCtxProjNbrIdeal)
    ∧ quiescent_CtxProjNbrRefIdeal (hCtxProjNbrRefIdeal := hCtxProjNbrRefIdeal)
    ∧ quiescent_Nbr (hNbr := hNbr)
    ∧ quiescent_NbrIdeal (hNbrIdeal := hNbrIdeal)
    ∧ quiescent_NbrIdeal_pre_finite_scores (hNbrIdeal := hNbrIdeal) (hPre_finite_scores := hPre_finite_scores)
    ∧ quiescent_NbrRefIdeal (hNbrRefIdeal := hNbrRefIdeal)
    ∧ quiescent_NbrRefIdeal_pre_finite_scores (hNbrRefIdeal := hNbrRefIdeal) (hPre_finite_scores := hPre_finite_scores)
    ∧ quiescent_Mod (hMod := hMod)
    ∧ quiescent_ModIdeal (hModIdeal := hModIdeal)
    ∧ quiescent_ModRefIdeal (hModRefIdeal := hModRefIdeal)
    ∧ quiescent_ConvHyena (hConvHyena := hConvHyena)
    ∧ quiescent_ConvHyenaIdeal (hConvHyenaIdeal := hConvHyenaIdeal)
    ∧ quiescent_ConvHyenaRefIdeal (hConvHyenaRefIdeal := hConvHyenaRefIdeal)
    ∧ quiescent_CtxConvHyena (hCtxConvHyena := hCtxConvHyena)
    ∧ quiescent_CtxConvHyenaIdeal (hCtxConvHyenaIdeal := hCtxConvHyenaIdeal)
    ∧ quiescent_CtxConvHyenaRefIdeal (hCtxConvHyenaRefIdeal := hCtxConvHyenaRefIdeal)
    ∧ quiescent_ConvSsd (hConvSsd := hConvSsd)
    ∧ quiescent_ConvSsdIdeal (hConvSsdIdeal := hConvSsdIdeal)
    ∧ quiescent_ConvSsdRefIdeal (hConvSsdRefIdeal := hConvSsdRefIdeal)
    ∧ quiescent_CtxConvSsd (hCtxConvSsd := hCtxConvSsd)
    ∧ quiescent_CtxConvSsdIdeal (hCtxConvSsdIdeal := hCtxConvSsdIdeal)
    ∧ quiescent_CtxConvSsdRefIdeal (hCtxConvSsdRefIdeal := hCtxConvSsdRefIdeal)
    ∧ preserves_Attn_AttnIdeal
    ∧ algebraic_AttnIdeal_AttnRefIdeal_pre_finite_gains (hAttnIdeal := hAttnIdeal) (hAttnRefIdeal := hAttnRefIdeal) (hPre_finite_gains := hPre_finite_gains)
    ∧ preserves_Block_BlockIdeal
    ∧ algebraic_BlockIdeal_BlockRefIdeal (hBlockIdeal := hBlockIdeal) (hBlockRefIdeal := hBlockRefIdeal)
    ∧ preserves_Proj_ProjIdeal
    ∧ algebraic_ProjIdeal_ProjRefIdeal (hProjIdeal := hProjIdeal) (hProjRefIdeal := hProjRefIdeal)
    ∧ preserves_Wide_WideIdeal
    ∧ algebraic_WideIdeal_WideRefIdeal (hWideIdeal := hWideIdeal) (hWideRefIdeal := hWideRefIdeal)
    ∧ preserves_ProjHyena_ProjHyenaIdeal
    ∧ algebraic_ProjHyenaIdeal_ProjHyenaRefIdeal (hProjHyenaIdeal := hProjHyenaIdeal) (hProjHyenaRefIdeal := hProjHyenaRefIdeal)
    ∧ preserves_ProjSsd_ProjSsdIdeal
    ∧ algebraic_ProjSsdIdeal_ProjSsdRefIdeal (hProjSsdIdeal := hProjSsdIdeal) (hProjSsdRefIdeal := hProjSsdRefIdeal)
    ∧ preserves_ProjNbr_ProjNbrIdeal
    ∧ algebraic_ProjNbrIdeal_ProjNbrRefIdeal (hProjNbrIdeal := hProjNbrIdeal) (hProjNbrRefIdeal := hProjNbrRefIdeal)
    ∧ preserves_CtxBlock_CtxBlockIdeal
    ∧ algebraic_CtxBlockIdeal_CtxBlockRefIdeal (hCtxBlockIdeal := hCtxBlockIdeal) (hCtxBlockRefIdeal := hCtxBlockRefIdeal)
    ∧ preserves_CtxWide_CtxWideIdeal
    ∧ algebraic_CtxWideIdeal_CtxWideRefIdeal (hCtxWideIdeal := hCtxWideIdeal) (hCtxWideRefIdeal := hCtxWideRefIdeal)
    ∧ preserves_CtxProj_CtxProjIdeal
    ∧ algebraic_CtxProjIdeal_CtxProjRefIdeal (hCtxProjIdeal := hCtxProjIdeal) (hCtxProjRefIdeal := hCtxProjRefIdeal)
    ∧ preserves_CtxProjHyena_CtxProjHyenaIdeal
    ∧ algebraic_CtxProjHyenaIdeal_CtxProjHyenaRefIdeal (hCtxProjHyenaIdeal := hCtxProjHyenaIdeal) (hCtxProjHyenaRefIdeal := hCtxProjHyenaRefIdeal)
    ∧ preserves_CtxProjSsd_CtxProjSsdIdeal
    ∧ algebraic_CtxProjSsdIdeal_CtxProjSsdRefIdeal (hCtxProjSsdIdeal := hCtxProjSsdIdeal) (hCtxProjSsdRefIdeal := hCtxProjSsdRefIdeal)
    ∧ preserves_CtxProjNbr_CtxProjNbrIdeal
    ∧ algebraic_CtxProjNbrIdeal_CtxProjNbrRefIdeal (hCtxProjNbrIdeal := hCtxProjNbrIdeal) (hCtxProjNbrRefIdeal := hCtxProjNbrRefIdeal)
    ∧ preserves_Nbr_NbrIdeal
    ∧ algebraic_NbrIdeal_NbrRefIdeal_pre_finite_scores (hNbrIdeal := hNbrIdeal) (hNbrRefIdeal := hNbrRefIdeal) (hPre_finite_scores := hPre_finite_scores)
    ∧ preserves_Mod_ModIdeal
    ∧ algebraic_ModIdeal_ModRefIdeal (hModIdeal := hModIdeal) (hModRefIdeal := hModRefIdeal)
    ∧ preserves_ConvHyena_ConvHyenaIdeal
    ∧ algebraic_ConvHyenaIdeal_ConvHyenaRefIdeal (hConvHyenaIdeal := hConvHyenaIdeal) (hConvHyenaRefIdeal := hConvHyenaRefIdeal)
    ∧ preserves_CtxConvHyena_CtxConvHyenaIdeal
    ∧ algebraic_CtxConvHyenaIdeal_CtxConvHyenaRefIdeal (hCtxConvHyenaIdeal := hCtxConvHyenaIdeal) (hCtxConvHyenaRefIdeal := hCtxConvHyenaRefIdeal)
    ∧ preserves_ConvSsd_ConvSsdIdeal
    ∧ algebraic_ConvSsdIdeal_ConvSsdRefIdeal (hConvSsdIdeal := hConvSsdIdeal) (hConvSsdRefIdeal := hConvSsdRefIdeal)
    ∧ preserves_CtxConvSsd_CtxConvSsdIdeal
    ∧ algebraic_CtxConvSsdIdeal_CtxConvSsdRefIdeal (hCtxConvSsdIdeal := hCtxConvSsdIdeal) (hCtxConvSsdRefIdeal := hCtxConvSsdRefIdeal)
-- ==== Pre_finite_gains.lean ====
abbrev S16x2048x1536 : Shape := ⟨3, ![16, 2048, 1536]⟩
abbrev S16x256x1536 : Shape := ⟨3, ![16, 256, 1536]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S16x2048x1536 .f32) (main_arg1 : FVec F S16x256x1536 .f32) (main_arg2 : FVec F S128 .f32) (main_arg3 : FVec F S128 .f32) : IVec S_ 1 :=
  let main_v0 : FVec F S128 .f32 := Host.absf main_arg2
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Pre_finite_scores.lean ====
abbrev S16x2048x3072 : Shape := ⟨3, ![16, 2048, 3072]⟩
abbrev S16x256x3072 : Shape := ⟨3, ![16, 256, 3072]⟩
abbrev S16x15x31 : Shape := ⟨3, ![16, 15, 31]⟩
abbrev S16x2048x2048 : Shape := ⟨3, ![16, 2048, 2048]⟩
abbrev S_ : Shape := ⟨0, ![]⟩
abbrev S16x256x1024 : Shape := ⟨3, ![16, 256, 1024]⟩

class Facts : Prop where
  slices_S16x2048x3072_S16x2048x2048_0_0_0 : S16x2048x3072.Slices ![0, 0, 0] S16x2048x2048
  bitsLt_bf16_f32 : FTy.bits .bf16 < FTy.bits .f32
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  slices_S16x256x3072_S16x256x1024_0_0_1024 : S16x256x3072.Slices ![0, 0, 1024] S16x256x1024
  bcast_S_S16x256x1024 : S_.BroadcastsInDim S16x256x1024 (![] : Fin 0 → Fin S16x256x1024.rank)
  reducesTo_S16x256x1024_S_d0_1_2 : S16x256x1024.ReducesTo [0, 1, 2] S_
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S16x2048x3072 .bf16) (main_arg1 : FVec F S16x256x3072 .bf16) (main_arg2 : FVec F S16x15x31 .f32) : IVec S_ 1 :=
  let main_v0 : FVec F S16x2048x2048 .bf16 := (extractStridedSlice S16x2048x2048 ![0, 0, 0] · slices_S16x2048x3072_S16x2048x2048_0_0_0) main_arg0
  let main_v1 : FVec F S16x2048x2048 .f32 := (extf .f32 · bitsLt_bf16_f32) main_v0
  let main_v2 : FVec F S16x2048x2048 .f32 := Host.absf main_v1
  let main_cst : FVec F S_ .f32 := constant S_ .f32 0x7F800000#32
  let main_v3 : FVec F S16x2048x2048 .f32 := broadcastInDim S16x2048x2048 ![] bcast_S_S16x2048x2048 main_cst
  let main_v4 : IVec S16x2048x2048 1 := cmpf .olt main_v2 main_v3
  let main_c : IVec S_ 1 := constantI S_ 1 1#1
  let main_v5 : IVec S_ 1 := (fun x v => Host.reduce IntOp.andi x v reducesTo_S16x2048x2048_S_d0_1_2 h_S_) main_v4 main_c
  let main_v6 : FVec F S16x256x1024 .bf16 := (extractStridedSlice S16x256x1024 ![0, 0, 1024] · slices_S16x256x3072_S16x256x1024_0_0_1024) main_arg1
  let main_v7 : FVec F S16x256x1024 .f32 := (extf .f32 · bitsLt_bf16_f32) main_v6
  let main_v8 : FVec F S16x256x1024 .f32 := Host.absf main_v7
  let main_cst_0 : FVec F S_ .f32 := constant S_ .f32 0x7F800000#32
  let main_v9 : FVec F S16x256x1024 .f32 := broadcastInDim S16x256x1024 ![] bcast_S_S16x256x1024 main_cst_0
  let main_v10 : IVec S16x256x1024 1 := cmpf .olt main_v8 main_v9
  let main_c_1 : IVec S_ 1 := constantI S_ 1 1#1
  let main_v11 : IVec S_ 1 := (fun x v => Host.reduce IntOp.andi x v reducesTo_S16x256x1024_S_d0_1_2 h_S_) main_v10 main_c_1
  let main_v12 : IVec S_ 1 := andi main_v5 main_v11
  let main_v13 : FVec F S16x15x31 .f32 := Host.absf main_arg2
  let main_cst_2 : FVec F S_ .f32 := constant S_ .f32 0x7F800000#32
  let main_v14 : FVec F S16x15x31 .f32 := broadcastInDim S16x15x31 ![] bcast_S_S16x15x31 main_cst_2
  let main_v15 : IVec S16x15x31 1 := cmpf .olt main_v13 main_v14
  let main_c_3 : IVec S_ 1 := constantI S_ 1 1#1
  let main_v16 : IVec S_ 1 := (fun x v => Host.reduce IntOp.andi x v reducesTo_S16x15x31_S_d0_1_2 h_S_) main_v15 main_c_3
  let main_v17 : IVec S_ 1 := andi main_v12 main_v16
  main_v17
-- ==== Attn.lean ====
abbrev S16x2048x1536 : Shape := ⟨3, ![16, 2048, 1536]⟩
abbrev S16x256x1536 : Shape := ⟨3, ![16, 256, 1536]⟩
abbrev S128 : Shape := ⟨1, ![128]⟩
abbrev S1x128 : Shape := ⟨2, ![1, 128]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x2048x128 : Shape := ⟨3, ![1, 2048, 128]⟩
abbrev S3x2048x128 : Shape := ⟨3, ![3, 2048, 128]⟩
abbrev S16x2048x1024 : Shape := ⟨3, ![16, 2048, 1024]⟩
abbrev S1x512x512 : Shape := ⟨3, ![1, 512, 512]⟩
abbrev S1x256x128 : Shape := ⟨3, ![1, 256, 128]⟩
abbrev S3x512x128 : Shape := ⟨3, ![3, 512, 128]⟩
abbrev S2304x128 : Shape := ⟨2, ![2304, 128]⟩
abbrev S256x128 : Shape := ⟨2, ![256, 128]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x2304 : Shape := ⟨2, ![512, 2304]⟩
abbrev S512x512 : Shape := ⟨2, ![512, 512]⟩

abbrev nBuf : Space → Nat
  | .hbm => 87
  | .vmem => 19
  | .smem => 0
  | _ => 0

abbrev bufTy : (tb : Table) → Fin (tcTables nBuf tb) → BufTy
  | .hbm, ⟨0, _⟩ => ⟨S16x2048x1536, .f32⟩
  | .hbm, ⟨1, _⟩ => ⟨S16x256x1536, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S_, .i1⟩
  | .hbm, ⟨42, _⟩ => ⟨S2048, .i1⟩
  | .hbm, ⟨43, _⟩ => ⟨S2048, .i1⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S2048x1, .f32⟩
  | .hbm, ⟨58, _⟩ => ⟨S1x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x1, .f32⟩
  | .hbm, ⟨63, _⟩ => ⟨S1x32, .f32⟩
  | .hbm, ⟨64, _⟩ => ⟨S2048x32, .f32⟩
  | .hbm, ⟨65, _⟩ => ⟨S2048x32, .f32⟩
  | .hbm, ⟨66, _⟩ => ⟨S2048x32, .f32⟩
  | .hbm, ⟨67, _⟩ => ⟨S_, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x128, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x128, .f32⟩
  | .hbm, ⟨79, _⟩ => ⟨S2048x32, .f32⟩
  | .hbm, ⟨80, _⟩ => ⟨S2048x32, .f32⟩
  | .hbm, ⟨81, _⟩ => ⟨S2048x128, .f32⟩
  | .hbm, ⟨82, _⟩ => ⟨S1x2048x128, .f32⟩
  | .hbm, ⟨83, _⟩ => ⟨S1x2048x128, .f32⟩
  | .hbm, ⟨84, _⟩ => ⟨S1x2048x128, .f32⟩
  | .hbm, ⟨85, _⟩ => ⟨S3x2048x128, .f32⟩
  | .hbm, ⟨86, _⟩ => ⟨S16x2048x1024, .bf16⟩
  | .local _ .vmem, ⟨0, _⟩ => ⟨S1x512x512, .f32⟩
  | .local _ .vmem, ⟨1, _⟩ => ⟨S1x512x512, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x128, .f32⟩
  | .local _ .vmem, ⟨11, _⟩ => ⟨S1x128, .f32⟩
  | .local _ .vmem, ⟨12, _⟩ => ⟨S3x512x128, .f32⟩
  | .local _ .vmem, ⟨13, _⟩ => ⟨S3x512x128, .f32⟩
  | .local _ .vmem, ⟨14, _⟩ => ⟨S3x2048x128, .f32⟩
  | .local _ .vmem, ⟨15, _⟩ => ⟨S1x512x512, .bf16⟩
  | .local _ .vmem, ⟨16, _⟩ => ⟨S1x512x512, .bf16⟩
  | .local _ .vmem, ⟨17, _⟩ => ⟨S2304x128, .bf16⟩
  | .local _ .vmem, ⟨18, _⟩ => ⟨S2304x128, .bf16⟩
  | _, _ => ⟨S16x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S3x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S3x2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AttnIdeal.lean ====
variable {F : FTy → Type} [FloatOps F] [Named F]
def κ : String → Option EReal := fun
  | "s" => some (((Real.sqrt 128)⁻¹ * (Real.log 2)⁻¹ : ℝ) : EReal)
  | _ => none
-- ==== AttnRefIdeal.lean ====
abbrev S16x2048x1536 : Shape := ⟨3, ![16, 2048, 1536]⟩
abbrev S16x256x1536 : Shape := ⟨3, ![16, 256, 1536]⟩
abbrev S128 : Shape := ⟨1, ![128]⟩
abbrev S16x2048x1024 : Shape := ⟨3, ![16, 2048, 1024]⟩
abbrev S16x2048x256 : Shape := ⟨3, ![16, 2048, 256]⟩
abbrev S16x2048x2x4x128 : Shape := ⟨5, ![16, 2048, 2, 4, 128]⟩
abbrev S_ : Shape := ⟨0, ![]⟩
abbrev S16x2048x2x4 : Shape := ⟨4, ![16, 2048, 2, 4]⟩
abbrev S16x2048x2x4x1 : Shape := ⟨5, ![16, 2048, 2, 4, 1]⟩
abbrev S1x1x1x1x128 : Shape := ⟨5, ![1, 1, 1, 1, 128]⟩
abbrev S16x2048x2x128 : Shape := ⟨4, ![16, 2048, 2, 128]⟩
abbrev S16x2048x2 : Shape := ⟨3, ![16, 2048, 2]⟩
abbrev S16x2048x2x1 : Shape := ⟨4, ![16, 2048, 2, 1]⟩
abbrev S1x1x1x128 : Shape := ⟨4, ![1, 1, 1, 128]⟩
abbrev S16x256x1024 : Shape := ⟨3, ![16, 256, 1024]⟩
abbrev S16x256x256 : Shape := ⟨3, ![16, 256, 256]⟩
abbrev S16x256x2x4x128 : Shape := ⟨5, ![16, 256, 2, 4, 128]⟩
abbrev S16x256x2x4 : Shape := ⟨4, ![16, 256, 2, 4]⟩
abbrev S16x256x2x4x1 : Shape := ⟨5, ![16, 256, 2, 4, 1]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2048x1x1x128 : Shape := ⟨4, ![2048, 1, 1, 128]⟩
abbrev S16x2048x2x4x32 : Shape := ⟨5, ![16, 2048, 2, 4, 32]⟩
abbrev S1x2048x1x1x128 : Shape := ⟨5, ![1, 2048, 1, 1, 128]⟩
abbrev S2048x1x128 : Shape := ⟨3, ![2048, 1, 128]⟩
abbrev S16x2048x2x32 : Shape := ⟨4, ![16, 2048, 2, 32]⟩
abbrev S1x2048x1x128 : Shape := ⟨4, ![1, 2048, 1, 128]⟩
abbrev S16x2304x2x128 : Shape := ⟨4, ![16, 2304, 2, 128]⟩
abbrev S16x2x2304x2048x4 : Shape := ⟨5, ![16, 2, 2304, 2048, 4]⟩
abbrev S16x2x4x2048x2304 : Shape := ⟨5, ![16, 2, 4, 2048, 2304]⟩
abbrev S16x2x4x2048 : Shape := ⟨4, ![16, 2, 4, 2048]⟩
abbrev S16x2x4x2048x1 : Shape := ⟨5, ![16, 2, 4, 2048, 1]⟩
abbrev S16x2x128x4x2048 : Shape := ⟨5, ![16, 2, 128, 4, 2048]⟩

abbrev nBuf : Space → Nat
  | .hbm => 209
  | .vmem => 0
  | .smem => 0
  | _ => 0

abbrev hbmTy0_0 (i : Nat) : BufTy := match i % 128 with
  | 0 => ⟨S16x2048x1536, .f32⟩
  | 1 => ⟨S16x256x1536, .f32⟩
  | 2 => ⟨S128, .f32⟩
  | 3 => ⟨S128, .f32⟩
  | 4 => ⟨S16x2048x1024, .f32⟩
  | 5 => ⟨S16x2048x256, .f32⟩
  | 6 => ⟨S16x2048x256, .f32⟩
  | 7 => ⟨S16x2048x2x4x128, .f32⟩
  | 8 => ⟨S16x2048x2x4x128, .f32⟩
  | 9 => ⟨S_, .f32⟩
  | 10 => ⟨S16x2048x2x4, .f32⟩
  | 11 => ⟨S16x2048x2x4x1, .f32⟩
  | 12 => ⟨S_, .f32⟩
  | 13 => ⟨S16x2048x2x4x1, .f32⟩
  | 14 => ⟨S16x2048x2x4x1, .f32⟩
  | 15 => ⟨S_, .f32⟩
  | 16 => ⟨S16x2048x2x4x1, .f32⟩
  | 17 => ⟨S16x2048x2x4x1, .f32⟩
  | 18 => ⟨S16x2048x2x4x1, .f32⟩
  | 19 => ⟨S16x2048x2x4x128, .f32⟩
  | 20 => ⟨S16x2048x2x4x128, .f32⟩
  | 21 => ⟨S1x1x1x1x128, .f32⟩
  | 22 => ⟨S16x2048x2x4x128, .f32⟩
  | 23 => ⟨S16x2048x2x4x128, .f32⟩
  | 24 => ⟨S16x2048x2x128, .f32⟩
  | 25 => ⟨S16x2048x2x128, .f32⟩
  | 26 => ⟨S_, .f32⟩
  | 27 => ⟨S16x2048x2, .f32⟩
  | 28 => ⟨S16x2048x2x1, .f32⟩
  | 29 => ⟨S_, .f32⟩
  | 30 => ⟨S16x2048x2x1, .f32⟩
  | 31 => ⟨S16x2048x2x1, .f32⟩
  | 32 => ⟨S_, .f32⟩
  | 33 => ⟨S16x2048x2x1, .f32⟩
  | 34 => ⟨S16x2048x2x1, .f32⟩
  | 35 => ⟨S16x2048x2x1, .f32⟩
  | 36 => ⟨S16x2048x2x128, .f32⟩
  | 37 => ⟨S16x2048x2x128, .f32⟩
  | 38 => ⟨S1x1x1x128, .f32⟩
  | 39 => ⟨S16x2048x2x128, .f32⟩
  | 40 => ⟨S16x2048x2x128, .f32⟩
  | 41 => ⟨S16x2048x2x128, .f32⟩
  | 42 => ⟨S16x256x1024, .f32⟩
  | 43 => ⟨S16x256x256, .f32⟩
  | 44 => ⟨S16x256x256, .f32⟩
  | 45 => ⟨S16x256x2x4x128, .f32⟩
  | 46 => ⟨S16x256x2x4x128, .f32⟩
  | 47 => ⟨S_, .f32⟩
  | 48 => ⟨S16x256x2x4, .f32⟩
  | 49 => ⟨S16x256x2x4x1, .f32⟩
  | 50 => ⟨S_, .f32⟩
  | 51 => ⟨S16x256x2x4x1, .f32⟩
  | 52 => ⟨S16x256x2x4x1, .f32⟩
  | 53 => ⟨S_, .f32⟩
  | 54 => ⟨S16x256x2x4x1, .f32⟩
  | 55 => ⟨S16x256x2x4x1, .f32⟩
  | 56 => ⟨S16x256x2x4x1, .f32⟩
  | 57 => ⟨S16x256x2x4x128, .f32⟩
  | 58 => ⟨S16x256x2x4x128, .f32⟩
  | 59 => ⟨S1x1x1x1x128, .f32⟩
  | 60 => ⟨S16x256x2x4x128, .f32⟩
  | 61 => ⟨S16x256x2x4x128, .f32⟩
  | 62 => ⟨S16x256x2x128, .f32⟩
  | 63 => ⟨S16x256x2x128, .f32⟩
  | 64 => ⟨S_, .f32⟩
  | 65 => ⟨S16x256x2, .f32⟩
  | 66 => ⟨S16x256x2x1, .f32⟩
  | 67 => ⟨S_, .f32⟩
  | 68 => ⟨S16x256x2x1, .f32⟩
  | 69 => ⟨S16x256x2x1, .f32⟩
  | 70 => ⟨S_, .f32⟩
  | 71 => ⟨S16x256x2x1, .f32⟩
  | 72 => ⟨S16x256x2x1, .f32⟩
  | 73 => ⟨S16x256x2x1, .f32⟩
  | 74 => ⟨S16x256x2x128, .f32⟩
  | 75 => ⟨S16x256x2x128, .f32⟩
  | 76 => ⟨S1x1x1x128, .f32⟩
  | 77 => ⟨S16x256x2x128, .f32⟩
  | 78 => ⟨S16x256x2x128, .f32⟩
  | 79 => ⟨S16x256x2x128, .f32⟩
  | 80 => ⟨S2048, .i32⟩
  | 81 => ⟨S_, .i32⟩
  | 82 => ⟨S_, .i32⟩
  | 83 => ⟨S2048, .i32⟩
  | 84 => ⟨S2048, .i32⟩
  | 85 => ⟨S2048, .i32⟩
  | 86 => ⟨S_, .i32⟩
  | 87 => ⟨S2048, .i32⟩
  | 88 => ⟨S2048, .i1⟩
  | 89 => ⟨S2048, .i32⟩
  | 90 => ⟨S2048, .i32⟩
  | 91 => ⟨S_, .i32⟩
  | 92 => ⟨S2048, .i32⟩
  | 93 => ⟨S2048, .i1⟩
  | 94 => ⟨S2048, .i1⟩
  | 95 => ⟨S_, .i32⟩
  | 96 => ⟨S2048, .i32⟩
  | 97 => ⟨S2048, .i32⟩
  | 98 => ⟨S2048, .i32⟩
  | 99 => ⟨S2048, .f32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S2048, .i32⟩
  | 107 => ⟨S2048, .i32⟩
  | 108 => ⟨S_, .i32⟩
  | 109 => ⟨S2048, .i32⟩
  | 110 => ⟨S2048, .i1⟩
  | 111 => ⟨S_, .i32⟩
  | 112 => ⟨S2048, .i32⟩
  | 113 => ⟨S2048, .i1⟩
  | 114 => ⟨S_, .i32⟩
  | 115 => ⟨S_, .i1⟩
  | 116 => ⟨S2048, .i1⟩
  | 117 => ⟨S2048, .i1⟩
  | 118 => ⟨S2048, .i1⟩
  | 119 => ⟨S2048, .i32⟩
  | 120 => ⟨S2048, .i32⟩
  | 121 => ⟨S2048, .i32⟩
  | 122 => ⟨S2048, .f32⟩
  | 123 => ⟨S32, .f32⟩
  | 124 => ⟨S32, .f32⟩
  | 125 => ⟨S_, .f32⟩
  | 126 => ⟨S32, .f32⟩
  | 127 => ⟨S32, .f32⟩
  | _ => ⟨S16x2048x1536, .f32⟩

abbrev hbmTy0_1 (i : Nat) : BufTy := match i % 128 with
  | 0 => ⟨S_, .f32⟩
  | 1 => ⟨S32, .f32⟩
  | 2 => ⟨S32, .f32⟩
  | 3 => ⟨S2048x1, .f32⟩
  | 4 => ⟨S1x32, .f32⟩
  | 5 => ⟨S2048x32, .f32⟩
  | 6 => ⟨S2048x32, .f32⟩
  | 7 => ⟨S2048x32, .f32⟩
  | 8 => ⟨S2048x1, .f32⟩
  | 9 => ⟨S1x32, .f32⟩
  | 10 => ⟨S2048x32, .f32⟩
  | 11 => ⟨S2048x32, .f32⟩
  | 12 => ⟨S2048x32, .f32⟩
  | 13 => ⟨S2048x32, .f32⟩
  | 14 => ⟨S2048x32, .f32⟩
  | 15 => ⟨S2048x32, .f32⟩
  | 16 => ⟨S2048x32, .f32⟩
  | 17 => ⟨S2048x128, .f32⟩
  | 18 => ⟨S2048x32, .f32⟩
  | 19 => ⟨S2048x32, .f32⟩
  | 20 => ⟨S2048x32, .f32⟩
  | 21 => ⟨S2048x32, .f32⟩
  | 22 => ⟨S2048x128, .f32⟩
  | 23 => ⟨S2048x1x1x128, .f32⟩
  | 24 => ⟨S2048x1x1x128, .f32⟩
  | 25 => ⟨S16x2048x2x4x32, .f32⟩
  | 26 => ⟨S16x2048x2x4x32, .f32⟩
  | 27 => ⟨S16x2048x2x4x32, .f32⟩
  | 28 => ⟨S16x2048x2x4x32, .f32⟩
  | 29 => ⟨S16x2048x2x4x32, .f32⟩
  | 30 => ⟨S16x2048x2x4x32, .f32⟩
  | 31 => ⟨S16x2048x2x4x128, .f32⟩
  | 32 => ⟨S1x2048x1x1x128, .f32⟩
  | 33 => ⟨S16x2048x2x4x128, .f32⟩
  | 34 => ⟨S16x2048x2x4x128, .f32⟩
  | 35 => ⟨S1x2048x1x1x128, .f32⟩
  | 36 => ⟨S16x2048x2x4x128, .f32⟩
  | 37 => ⟨S16x2048x2x4x128, .f32⟩
  | 38 => ⟨S16x2048x2x4x128, .f32⟩
  | 39 => ⟨S2048x1x128, .f32⟩
  | 40 => ⟨S2048x1x128, .f32⟩
  | 41 => ⟨S16x2048x2x32, .f32⟩
  | 42 => ⟨S16x2048x2x32, .f32⟩
  | 43 => ⟨S16x2048x2x32, .f32⟩
  | 44 => ⟨S16x2048x2x32, .f32⟩
  | 45 => ⟨S16x2048x2x32, .f32⟩
  | 46 => ⟨S16x2048x2x32, .f32⟩
  | 47 => ⟨S16x2048x2x128, .f32⟩
  | 48 => ⟨S1x2048x1x128, .f32⟩
  | 49 => ⟨S16x2048x2x128, .f32⟩
  | 50 => ⟨S16x2048x2x128, .f32⟩
  | 51 => ⟨S1x2048x1x128, .f32⟩
  | 52 => ⟨S16x2048x2x128, .f32⟩
  | 53 => ⟨S16x2048x2x128, .f32⟩
  | 54 => ⟨S16x2048x2x128, .f32⟩
  | 55 => ⟨S16x2304x2x128, .f32⟩
  | 56 => ⟨S16x2304x2x128, .f32⟩
  | 57 => ⟨S16x2x2304x2048x4, .f32⟩
  | 58 => ⟨S16x2x4x2048x2304, .f32⟩
  | 59 => ⟨S_, .f32⟩
  | 60 => ⟨S_, .f32⟩
  | 61 => ⟨S16x2x4x2048x2304, .f32⟩
  | 62 => ⟨S16x2x4x2048x2304, .f32⟩
  | 63 => ⟨S_, .f32⟩
  | 64 => ⟨S16x2x4x2048, .f32⟩
  | 65 => ⟨S_, .f32⟩
  | 66 => ⟨S16x2x4x2048, .f32⟩
  | 67 => ⟨S16x2x4x2048, .f32⟩
  | 68 => ⟨S16x2x4x2048x1, .f32⟩
  | 69 => ⟨S16x2x4x2048x2304, .f32⟩
  | 70 => ⟨S16x2x4x2048x2304, .f32⟩
  | 71 => ⟨S16x2x4x2048x2304, .f32⟩
  | 72 => ⟨S_, .f32⟩
  | 73 => ⟨S16x2x4x2048, .f32⟩
  | 74 => ⟨S16x2x4x2048x1, .f32⟩
  | 75 => ⟨S16x2x4x2048x2304, .f32⟩
  | 76 => ⟨S16x2x4x2048x2304, .f32⟩
  | 77 => ⟨S16x2x128x4x2048, .f32⟩
  | 78 => ⟨S16x2048x2x4x128, .f32⟩
  | 79 => ⟨S16x2048x1024, .f32⟩
  | 80 => ⟨S16x2048x1024, .bf16⟩
  | _ => ⟨S16x2048x1536, .f32⟩

abbrev hbmTy (i : Nat) : BufTy := match i / 128 with
  | 0 => hbmTy0_0 i
  | 1 => hbmTy0_1 i
  | _ => ⟨S16x2048x1536, .f32⟩

abbrev bufTy : (tb : Table) → Fin (tcTables nBuf tb) → BufTy
  | .hbm, ⟨i, _⟩ => hbmTy i
  | _, _ => ⟨S16x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_c : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_c_0 : Ref sig .tc := ⟨.hbm, 95, rfl⟩
abbrev main_call0_v12 : Ref sig .tc := ⟨.hbm, 96, rfl⟩
abbrev main_call0_v13 : Ref sig .tc := ⟨.hbm, 97, rfl⟩
abbrev main_v65 : Ref sig .tc := ⟨.hbm, 98, rfl⟩
abbrev main_v66 : Ref sig .tc := ⟨.hbm, 99, rfl⟩
abbrev main_c_11 : Ref sig .tc := ⟨.hbm, 100, rfl⟩
abbrev main_call1_v0 : Ref sig .tc := ⟨.hbm, 101, rfl⟩
abbrev main_call1_c : Ref sig .tc := ⟨.hbm, 102, rfl⟩
abbrev main_call1_v1 : Ref sig .tc := ⟨.hbm, 103, rfl⟩
abbrev main_call1_c_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_c_1 : Ref sig .tc := ⟨.hbm, 108, rfl⟩
abbrev main_call1_v5 : Ref sig .tc := ⟨.hbm, 109, rfl⟩
abbrev main_call1_v6 : Ref sig .tc := ⟨.hbm, 110, rfl⟩
abbrev main_call1_c_2 : Ref sig .tc := ⟨.hbm, 111, rfl⟩
abbrev main_call1_v7 : Ref sig .tc := ⟨.hbm, 112, rfl⟩
abbrev main_call1_v8 : Ref sig .tc := ⟨.hbm, 113, rfl⟩
abbrev main_call1_c_3 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_v12 : Ref sig .tc := ⟨.hbm, 118, rfl⟩
abbrev main_call1_v13 : Ref sig .tc := ⟨.hbm, 119, rfl⟩
abbrev main_call1_v14 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_12 : Ref sig .tc := ⟨.hbm, 125, rfl⟩
abbrev main_v71 : Ref sig .tc := ⟨.hbm, 126, rfl⟩
abbrev main_v72 : Ref sig .tc := ⟨.hbm, 127, rfl⟩
abbrev main_cst_13 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_14 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_15 : Ref sig .tc := ⟨.hbm, 191, rfl⟩
abbrev main_v134 : Ref sig .tc := ⟨.hbm, 192, rfl⟩
abbrev main_cst_16 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_17 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩

abbrev nD : Nat := 1
abbrev τ : Topo := Topo.v7x

variable {F : FTy → Type} [FloatOps F]
-- ==== Block.lean ====
abbrev S16x2048x1024 : Shape := ⟨3, ![16, 2048, 1024]⟩
abbrev S1024x1024 : Shape := ⟨2, ![1024, 1024]⟩
abbrev S1024x4096 : Shape := ⟨2, ![1024, 4096]⟩
abbrev S4096x1024 : Shape := ⟨2, ![4096, 1024]⟩
abbrev S16x6x1024 : Shape := ⟨3, ![16, 6, 1024]⟩
abbrev S4x1024 : Shape := ⟨2, ![4, 1024]⟩
abbrev S32768x1024 : Shape := ⟨2, ![32768, 1024]⟩
abbrev S512x1024 : Shape := ⟨2, ![512, 1024]⟩
abbrev S1x6x1024 : Shape := ⟨3, ![1, 6, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S1024x4096, .f32⟩
  | .hbm, ⟨3, _⟩ => ⟨S4096x1024, .f32⟩
  | .hbm, ⟨4, _⟩ => ⟨S16x2048x1024, .f32⟩
  | .hbm, ⟨5, _⟩ => ⟨S16x6x1024, .f32⟩
  | .hbm, ⟨6, _⟩ => ⟨S4x1024, .f32⟩
  | .hbm, ⟨7, _⟩ => ⟨S32768x1024, .bf16⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S32768x1024, .f32⟩
  | .hbm, ⟨12, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S4x1024, .f32⟩
  | .local _ .vmem, ⟨10, _⟩ => ⟨S512x1024, .f32⟩
  | .local _ .vmem, ⟨11, _⟩ => ⟨S512x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BlockIdeal.lean ====
abbrev S16x2048x1024 : Shape := ⟨3, ![16, 2048, 1024]⟩
abbrev S1024x1024 : Shape := ⟨2, ![1024, 1024]⟩
abbrev S1024x4096 : Shape := ⟨2, ![1024, 4096]⟩
abbrev S4096x1024 : Shape := ⟨2, ![4096, 1024]⟩
abbrev S16x6x1024 : Shape := ⟨3, ![16, 6, 1024]⟩
abbrev S4x1024 : Shape := ⟨2, ![4, 1024]⟩
abbrev S32768x1024 : Shape := ⟨2, ![32768, 1024]⟩
abbrev S512x1024 : Shape := ⟨2, ![512, 1024]⟩
abbrev S1x6x1024 : Shape := ⟨3, ![1, 6, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S1024x4096, .f32⟩
  | .hbm, ⟨3, _⟩ => ⟨S4096x1024, .f32⟩
  | .hbm, ⟨4, _⟩ => ⟨S16x2048x1024, .f32⟩
  | .hbm, ⟨5, _⟩ => ⟨S16x6x1024, .f32⟩
  | .hbm, ⟨6, _⟩ => ⟨S4x1024, .f32⟩
  | .hbm, ⟨7, _⟩ => ⟨S32768x1024, .bf16⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S32768x1024, .f32⟩
  | .hbm, ⟨12, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S4x1024, .f32⟩
  | .local _ .vmem, ⟨10, _⟩ => ⟨S512x1024, .f32⟩
  | .local _ .vmem, ⟨11, _⟩ => ⟨S512x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BlockRefIdeal.lean ====
abbrev S16x2048x1024 : Shape := ⟨3, ![16, 2048, 1024]⟩
abbrev S1024x1024 : Shape := ⟨2, ![1024, 1024]⟩
abbrev S1024x4096 : Shape := ⟨2, ![1024, 4096]⟩
abbrev S4096x1024 : Shape := ⟨2, ![4096, 1024]⟩
abbrev S16x6x1024 : Shape := ⟨3, ![16, 6, 1024]⟩
abbrev S4x1024 : Shape := ⟨2, ![4, 1024]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x1024 : Shape := ⟨2, ![32768, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S1024x4096, .f32⟩
  | .hbm, ⟨3, _⟩ => ⟨S4096x1024, .f32⟩
  | .hbm, ⟨4, _⟩ => ⟨S16x2048x1024, .f32⟩
  | .hbm, ⟨5, _⟩ => ⟨S16x6x1024, .f32⟩
  | .hbm, ⟨6, _⟩ => ⟨S4x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x2048x1024, .f32⟩
  | .hbm, ⟨14, _⟩ => ⟨S16x2048x1024, .f32⟩
  | .hbm, ⟨15, _⟩ => ⟨S1x1024, .f32⟩
  | .hbm, ⟨16, _⟩ => ⟨S1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S1x1024, .f32⟩
  | .hbm, ⟨37, _⟩ => ⟨S1024, .f32⟩
  | .hbm, ⟨38, _⟩ => ⟨S16x2048x1024, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S16x2048x1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x1x1024, .f32⟩
  | .hbm, ⟨56, _⟩ => ⟨S16x1x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x4096, .f32⟩
  | .hbm, ⟨62, _⟩ => ⟨S_, .f32⟩
  | .hbm, ⟨63, _⟩ => ⟨S16x2048x4096, .f32⟩
  | .hbm, ⟨64, _⟩ => ⟨S16x2048x4096, .f32⟩
  | .hbm, ⟨65, _⟩ => ⟨S16x2048x4096, .f32⟩
  | .hbm, ⟨66, _⟩ => ⟨S16x2048x1024, .f32⟩
  | .hbm, ⟨67, _⟩ => ⟨S1x1024, .f32⟩
  | .hbm, ⟨68, _⟩ => ⟨S1024, .f32⟩
  | .hbm, ⟨69, _⟩ => ⟨S16x2048x1024, .f32⟩
  | .hbm, ⟨70, _⟩ => ⟨S_, .f32⟩
  | .hbm, ⟨71, _⟩ => ⟨S16x2048, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S16x2048x1, .f32⟩
  | .hbm, ⟨80, _⟩ => ⟨S16x2048x1024, .f32⟩
  | .hbm, ⟨81, _⟩ => ⟨S16x2048x1024, .f32⟩
  | .hbm, ⟨82, _⟩ => ⟨S1x1x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S32768x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_cst : Ref sig .tc := ⟨.hbm, 62, rfl⟩
abbrev main_call0_v0 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Proj.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x1536 : Shape := ⟨2, ![1024, 1536]⟩
abbrev S32768x1024 : Shape := ⟨2, ![32768, 1024]⟩
abbrev S32768x1536 : Shape := ⟨2, ![32768, 1536]⟩
abbrev S512x1024 : Shape := ⟨2, ![512, 1024]⟩
abbrev S1x6x1024 : Shape := ⟨3, ![1, 6, 1024]⟩
abbrev S512x1536 : Shape := ⟨2, ![512, 1536]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x1536, .f32⟩
  | .hbm, ⟨4, _⟩ => ⟨S32768x1024, .f32⟩
  | .hbm, ⟨5, _⟩ => ⟨S1024x1536, .bf16⟩
  | .hbm, ⟨6, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x1536, .bf16⟩
  | .local _ .vmem, ⟨6, _⟩ => ⟨S512x1536, .f32⟩
  | .local _ .vmem, ⟨7, _⟩ => ⟨S512x1536, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjIdeal.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x1536 : Shape := ⟨2, ![1024, 1536]⟩
abbrev S32768x1024 : Shape := ⟨2, ![32768, 1024]⟩
abbrev S32768x1536 : Shape := ⟨2, ![32768, 1536]⟩
abbrev S512x1024 : Shape := ⟨2, ![512, 1024]⟩
abbrev S1x6x1024 : Shape := ⟨3, ![1, 6, 1024]⟩
abbrev S512x1536 : Shape := ⟨2, ![512, 1536]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x1536, .f32⟩
  | .hbm, ⟨4, _⟩ => ⟨S32768x1024, .f32⟩
  | .hbm, ⟨5, _⟩ => ⟨S1024x1536, .bf16⟩
  | .hbm, ⟨6, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x1536, .bf16⟩
  | .local _ .vmem, ⟨6, _⟩ => ⟨S512x1536, .f32⟩
  | .local _ .vmem, ⟨7, _⟩ => ⟨S512x1536, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x1536 : Shape := ⟨2, ![1024, 1536]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1536 : Shape := ⟨3, ![16, 2048, 1536]⟩
abbrev S32768x1536 : Shape := ⟨2, ![32768, 1536]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x1536, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S1x1024, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1536, .f32⟩
  | .hbm, ⟨36, _⟩ => ⟨S32768x1536, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Wide.lean ====
abbrev S16x2048x2048 : Shape := ⟨3, ![16, 2048, 2048]⟩
abbrev S2048x1024 : Shape := ⟨2, ![2048, 1024]⟩
abbrev S1024x4096 : Shape := ⟨2, ![1024, 4096]⟩
abbrev S4096x1024 : Shape := ⟨2, ![4096, 1024]⟩
abbrev S16x2048x1024 : Shape := ⟨3, ![16, 2048, 1024]⟩
abbrev S16x6x1024 : Shape := ⟨3, ![16, 6, 1024]⟩
abbrev S4x1024 : Shape := ⟨2, ![4, 1024]⟩
abbrev S32768x2048 : Shape := ⟨2, ![32768, 2048]⟩
abbrev S32768x1024 : Shape := ⟨2, ![32768, 1024]⟩
abbrev S512x2048 : Shape := ⟨2, ![512, 2048]⟩
abbrev S512x1024 : Shape := ⟨2, ![512, 1024]⟩
abbrev S1x6x1024 : Shape := ⟨3, ![1, 6, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 12
  | .smem => 0
  | _ => 0

abbrev bufTy : (tb : Table) → Fin (tcTables nBuf tb) → BufTy
  | .hbm, ⟨0, _⟩ => ⟨S16x2048x2048, .bf16⟩
  | .hbm, ⟨1, _⟩ => ⟨S2048x1024, .f32⟩
  | .hbm, ⟨2, _⟩ => ⟨S1024x4096, .f32⟩
  | .hbm, ⟨3, _⟩ => ⟨S4096x1024, .f32⟩
  | .hbm, ⟨4, _⟩ => ⟨S16x2048x1024, .f32⟩
  | .hbm, ⟨5, _⟩ => ⟨S16x6x1024, .f32⟩
  | .hbm, ⟨6, _⟩ => ⟨S4x1024, .f32⟩
  | .hbm, ⟨7, _⟩ => ⟨S32768x2048, .bf16⟩
  | .hbm, ⟨8, _⟩ => ⟨S2048x1024, .bf16⟩
  | .hbm, ⟨9, _⟩ => ⟨S1024x4096, .bf16⟩
  | .hbm, ⟨10, _⟩ => ⟨S4096x1024, .bf16⟩
  | .hbm, ⟨11, _⟩ => ⟨S32768x1024, .f32⟩
  | .hbm, ⟨12, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S4x1024, .f32⟩
  | .local _ .vmem, ⟨10, _⟩ => ⟨S512x1024, .f32⟩
  | .local _ .vmem, ⟨11, _⟩ => ⟨S512x1024, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WideRefIdeal.lean ====
abbrev S16x2048x2048 : Shape := ⟨3, ![16, 2048, 2048]⟩
abbrev S2048x1024 : Shape := ⟨2, ![2048, 1024]⟩
abbrev S1024x4096 : Shape := ⟨2, ![1024, 4096]⟩
abbrev S4096x1024 : Shape := ⟨2, ![4096, 1024]⟩
abbrev S16x2048x1024 : Shape := ⟨3, ![16, 2048, 1024]⟩
abbrev S16x6x1024 : Shape := ⟨3, ![16, 6, 1024]⟩
abbrev S4x1024 : Shape := ⟨2, ![4, 1024]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x1024 : Shape := ⟨2, ![32768, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2048x1024, .f32⟩
  | .hbm, ⟨2, _⟩ => ⟨S1024x4096, .f32⟩
  | .hbm, ⟨3, _⟩ => ⟨S4096x1024, .f32⟩
  | .hbm, ⟨4, _⟩ => ⟨S16x2048x1024, .f32⟩
  | .hbm, ⟨5, _⟩ => ⟨S16x6x1024, .f32⟩
  | .hbm, ⟨6, _⟩ => ⟨S4x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x2048x2048, .f32⟩
  | .hbm, ⟨14, _⟩ => ⟨S16x2048x1024, .f32⟩
  | .hbm, ⟨15, _⟩ => ⟨S1x1024, .f32⟩
  | .hbm, ⟨16, _⟩ => ⟨S1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S1x1024, .f32⟩
  | .hbm, ⟨37, _⟩ => ⟨S1024, .f32⟩
  | .hbm, ⟨38, _⟩ => ⟨S16x2048x1024, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S16x2048x1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x1x1024, .f32⟩
  | .hbm, ⟨56, _⟩ => ⟨S16x1x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x4096, .f32⟩
  | .hbm, ⟨62, _⟩ => ⟨S_, .f32⟩
  | .hbm, ⟨63, _⟩ => ⟨S16x2048x4096, .f32⟩
  | .hbm, ⟨64, _⟩ => ⟨S16x2048x4096, .f32⟩
  | .hbm, ⟨65, _⟩ => ⟨S16x2048x4096, .f32⟩
  | .hbm, ⟨66, _⟩ => ⟨S16x2048x1024, .f32⟩
  | .hbm, ⟨67, _⟩ => ⟨S1x1024, .f32⟩
  | .hbm, ⟨68, _⟩ => ⟨S1024, .f32⟩
  | .hbm, ⟨69, _⟩ => ⟨S16x2048x1024, .f32⟩
  | .hbm, ⟨70, _⟩ => ⟨S_, .f32⟩
  | .hbm, ⟨71, _⟩ => ⟨S16x2048, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S16x2048x1, .f32⟩
  | .hbm, ⟨80, _⟩ => ⟨S16x2048x1024, .f32⟩
  | .hbm, ⟨81, _⟩ => ⟨S16x2048x1024, .f32⟩
  | .hbm, ⟨82, _⟩ => ⟨S1x1x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S32768x1024, .f32⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_cst : Ref sig .tc := ⟨.hbm, 62, rfl⟩
abbrev main_call0_v0 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== ProjHyena.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x3072 : Shape := ⟨2, ![1024, 3072]⟩
abbrev S32768x1024 : Shape := ⟨2, ![32768, 1024]⟩
abbrev S32768x3072 : Shape := ⟨2, ![32768, 3072]⟩
abbrev S512x1024 : Shape := ⟨2, ![512, 1024]⟩
abbrev S1x6x1024 : Shape := ⟨3, ![1, 6, 1024]⟩
abbrev S512x3072 : Shape := ⟨2, ![512, 3072]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x3072, .f32⟩
  | .hbm, ⟨4, _⟩ => ⟨S32768x1024, .f32⟩
  | .hbm, ⟨5, _⟩ => ⟨S1024x3072, .bf16⟩
  | .hbm, ⟨6, _⟩ => ⟨S32768x3072, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x3072, .bf16⟩
  | .local _ .vmem, ⟨6, _⟩ => ⟨S512x3072, .f32⟩
  | .local _ .vmem, ⟨7, _⟩ => ⟨S512x3072, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjHyenaIdeal.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x3072 : Shape := ⟨2, ![1024, 3072]⟩
abbrev S32768x1024 : Shape := ⟨2, ![32768, 1024]⟩
abbrev S32768x3072 : Shape := ⟨2, ![32768, 3072]⟩
abbrev S512x1024 : Shape := ⟨2, ![512, 1024]⟩
abbrev S1x6x1024 : Shape := ⟨3, ![1, 6, 1024]⟩
abbrev S512x3072 : Shape := ⟨2, ![512, 3072]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x3072, .f32⟩
  | .hbm, ⟨4, _⟩ => ⟨S32768x1024, .f32⟩
  | .hbm, ⟨5, _⟩ => ⟨S1024x3072, .bf16⟩
  | .hbm, ⟨6, _⟩ => ⟨S32768x3072, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x3072, .bf16⟩
  | .local _ .vmem, ⟨6, _⟩ => ⟨S512x3072, .f32⟩
  | .local _ .vmem, ⟨7, _⟩ => ⟨S512x3072, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjHyenaRefIdeal.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x3072 : Shape := ⟨2, ![1024, 3072]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S32768x3072 : Shape := ⟨2, ![32768, 3072]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x3072, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S1x1024, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x3072, .f32⟩
  | .hbm, ⟨36, _⟩ => ⟨S32768x3072, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== ProjSsd.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x5184 : Shape := ⟨2, ![1024, 5184]⟩
abbrev S32768x1024 : Shape := ⟨2, ![32768, 1024]⟩
abbrev S32768x5184 : Shape := ⟨2, ![32768, 5184]⟩
abbrev S512x1024 : Shape := ⟨2, ![512, 1024]⟩
abbrev S1x6x1024 : Shape := ⟨3, ![1, 6, 1024]⟩
abbrev S512x5184 : Shape := ⟨2, ![512, 5184]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩
abbrev S1024x64 : Shape := ⟨2, ![1024, 64]⟩
abbrev S512x64 : Shape := ⟨2, ![512, 64]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x5184, .f32⟩
  | .hbm, ⟨4, _⟩ => ⟨S32768x1024, .f32⟩
  | .hbm, ⟨5, _⟩ => ⟨S1024x5184, .bf16⟩
  | .hbm, ⟨6, _⟩ => ⟨S32768x5184, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x5184, .bf16⟩
  | .local _ .vmem, ⟨6, _⟩ => ⟨S512x5184, .f32⟩
  | .local _ .vmem, ⟨7, _⟩ => ⟨S512x5184, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5184 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5184 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjSsdRefIdeal.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x5184 : Shape := ⟨2, ![1024, 5184]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5184 : Shape := ⟨3, ![16, 2048, 5184]⟩
abbrev S32768x5184 : Shape := ⟨2, ![32768, 5184]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x5184, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S1x1024, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x5184, .f32⟩
  | .hbm, ⟨36, _⟩ => ⟨S32768x5184, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== ProjNbr.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x3072 : Shape := ⟨2, ![1024, 3072]⟩
abbrev S32768x1024 : Shape := ⟨2, ![32768, 1024]⟩
abbrev S32768x3072 : Shape := ⟨2, ![32768, 3072]⟩
abbrev S512x1024 : Shape := ⟨2, ![512, 1024]⟩
abbrev S1x6x1024 : Shape := ⟨3, ![1, 6, 1024]⟩
abbrev S512x3072 : Shape := ⟨2, ![512, 3072]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x3072, .f32⟩
  | .hbm, ⟨4, _⟩ => ⟨S32768x1024, .f32⟩
  | .hbm, ⟨5, _⟩ => ⟨S1024x3072, .bf16⟩
  | .hbm, ⟨6, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x3072, .bf16⟩
  | .local _ .vmem, ⟨6, _⟩ => ⟨S512x3072, .bf16⟩
  | .local _ .vmem, ⟨7, _⟩ => ⟨S512x3072, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjNbrRefIdeal.lean ====
abbrev S16x2048x1024 : Shape := ⟨3, ![16, 2048, 1024]⟩
abbrev S16x6x1024 : Shape := ⟨3, ![16, 6, 1024]⟩
abbrev S4x1024 : Shape := ⟨2, ![4, 1024]⟩
abbrev S1024x3072 : Shape := ⟨2, ![1024, 3072]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S32768x3072 : Shape := ⟨2, ![32768, 3072]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S4x1024, .f32⟩
  | .hbm, ⟨3, _⟩ => ⟨S1024x3072, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S1x1024, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x3072, .f32⟩
  | .hbm, ⟨36, _⟩ => ⟨S32768x3072, .f32⟩
  | .hbm, ⟨37, _⟩ => ⟨S32768x3072, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== CtxBlock.lean ====
abbrev S16x256x1024 : Shape := ⟨3, ![16, 256, 1024]⟩
abbrev S1024x1024 : Shape := ⟨2, ![1024, 1024]⟩
abbrev S1024x4096 : Shape := ⟨2, ![1024, 4096]⟩
abbrev S4096x1024 : Shape := ⟨2, ![4096, 1024]⟩
abbrev S1x6x1024 : Shape := ⟨3, ![1, 6, 1024]⟩
abbrev S4x1024 : Shape := ⟨2, ![4, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16x256x1024, .bf16⟩
  | .hbm, ⟨1, _⟩ => ⟨S1024x1024, .f32⟩
  | .hbm, ⟨2, _⟩ => ⟨S1024x4096, .f32⟩
  | .hbm, ⟨3, _⟩ => ⟨S4096x1024, .f32⟩
  | .hbm, ⟨4, _⟩ => ⟨S16x256x1024, .f32⟩
  | .hbm, ⟨5, _⟩ => ⟨S1x6x1024, .f32⟩
  | .hbm, ⟨6, _⟩ => ⟨S4x1024, .f32⟩
  | .hbm, ⟨7, _⟩ => ⟨S4096x1024, .bf16⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S4096x1024, .f32⟩
  | .hbm, ⟨12, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S4x1024, .f32⟩
  | .local _ .vmem, ⟨10, _⟩ => ⟨S512x1024, .f32⟩
  | .local _ .vmem, ⟨11, _⟩ => ⟨S512x1024, .f32⟩
  | _, _ => ⟨S16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CtxBlockIdeal.lean ====
abbrev S16x256x1024 : Shape := ⟨3, ![16, 256, 1024]⟩
abbrev S1024x1024 : Shape := ⟨2, ![1024, 1024]⟩
abbrev S1024x4096 : Shape := ⟨2, ![1024, 4096]⟩
abbrev S4096x1024 : Shape := ⟨2, ![4096, 1024]⟩
abbrev S1x6x1024 : Shape := ⟨3, ![1, 6, 1024]⟩
abbrev S4x1024 : Shape := ⟨2, ![4, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16x256x1024, .bf16⟩
  | .hbm, ⟨1, _⟩ => ⟨S1024x1024, .f32⟩
  | .hbm, ⟨2, _⟩ => ⟨S1024x4096, .f32⟩
  | .hbm, ⟨3, _⟩ => ⟨S4096x1024, .f32⟩
  | .hbm, ⟨4, _⟩ => ⟨S16x256x1024, .f32⟩
  | .hbm, ⟨5, _⟩ => ⟨S1x6x1024, .f32⟩
  | .hbm, ⟨6, _⟩ => ⟨S4x1024, .f32⟩
  | .hbm, ⟨7, _⟩ => ⟨S4096x1024, .bf16⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S4096x1024, .f32⟩
  | .hbm, ⟨12, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S4x1024, .f32⟩
  | .local _ .vmem, ⟨10, _⟩ => ⟨S512x1024, .f32⟩
  | .local _ .vmem, ⟨11, _⟩ => ⟨S512x1024, .f32⟩
  | _, _ => ⟨S16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CtxBlockRefIdeal.lean ====
abbrev S16x256x1024 : Shape := ⟨3, ![16, 256, 1024]⟩
abbrev S1024x1024 : Shape := ⟨2, ![1024, 1024]⟩
abbrev S1024x4096 : Shape := ⟨2, ![1024, 4096]⟩
abbrev S4096x1024 : Shape := ⟨2, ![4096, 1024]⟩
abbrev S1x6x1024 : Shape := ⟨3, ![1, 6, 1024]⟩
abbrev S4x1024 : Shape := ⟨2, ![4, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x4096 : Shape := ⟨3, ![16, 256, 4096]⟩

abbrev nBuf : Space → Nat
  | .hbm => 89
  | .vmem => 0
  | .smem => 0
  | _ => 0

abbrev bufTy : (tb : Table) → Fin (tcTables nBuf tb) → BufTy
  | .hbm, ⟨0, _⟩ => ⟨S16x256x1024, .bf16⟩
  | .hbm, ⟨1, _⟩ => ⟨S1024x1024, .f32⟩
  | .hbm, ⟨2, _⟩ => ⟨S1024x4096, .f32⟩
  | .hbm, ⟨3, _⟩ => ⟨S4096x1024, .f32⟩
  | .hbm, ⟨4, _⟩ => ⟨S16x256x1024, .f32⟩
  | .hbm, ⟨5, _⟩ => ⟨S1x6x1024, .f32⟩
  | .hbm, ⟨6, _⟩ => ⟨S4x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S16x256x1024, .f32⟩
  | .hbm, ⟨14, _⟩ => ⟨S16x256x1024, .f32⟩
  | .hbm, ⟨15, _⟩ => ⟨S1x1024, .f32⟩
  | .hbm, ⟨16, _⟩ => ⟨S1024, .f32⟩
  | .hbm, ⟨17, _⟩ => ⟨S16x256x1024, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x1024, .f32⟩
  | .hbm, ⟨29, _⟩ => ⟨S16x256x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S1x1024, .f32⟩
  | .hbm, ⟨37, _⟩ => ⟨S1024, .f32⟩
  | .hbm, ⟨38, _⟩ => ⟨S16x256x1024, .f32⟩
  | .hbm, ⟨39, _⟩ => ⟨S_, .f32⟩
  | .hbm, ⟨40, _⟩ => ⟨S16x256, .f32⟩
  | .hbm, ⟨41, _⟩ => ⟨S16x256x1, .f32⟩
  | .hbm, ⟨42, _⟩ => ⟨S_, .f32⟩
  | .hbm, ⟨43, _⟩ => ⟨S16x256x1, .f32⟩
  | .hbm, ⟨44, _⟩ => ⟨S16x256x1, .f32⟩
  | .hbm, ⟨45, _⟩ => ⟨S_, .f32⟩
  | .hbm, ⟨46, _⟩ => ⟨S16x256x1, .f32⟩
  | .hbm, ⟨47, _⟩ => ⟨S16x256x1, .f32⟩
  | .hbm, ⟨48, _⟩ => ⟨S16x256x1, .f32⟩
  | .hbm, ⟨49, _⟩ => ⟨S16x256x1024, .f32⟩
  | .hbm, ⟨50, _⟩ => ⟨S16x256x1024, .f32⟩
  | .hbm, ⟨51, _⟩ => ⟨S1x1x1024, .f32⟩
  | .hbm, ⟨52, _⟩ => ⟨S16x256x1024, .f32⟩
  | .hbm, ⟨53, _⟩ => ⟨S16x256x1024, .f32⟩
  | .hbm, ⟨54, _⟩ => ⟨S_, .f32⟩
  | .hbm, ⟨55, _⟩ => ⟨S1x1x1024, .f32⟩
  | .hbm, ⟨56, _⟩ => ⟨S1x1x1024, .f32⟩
  | .hbm, ⟨57, _⟩ => ⟨S16x256x1024, .f32⟩
  | .hbm, ⟨58, _⟩ => ⟨S16x256x1024, .f32⟩
  | .hbm, ⟨59, _⟩ => ⟨S16x256x1024, .f32⟩
  | .hbm, ⟨60, _⟩ => ⟨S16x256x1024, .f32⟩
  | .hbm, ⟨61, _⟩ => ⟨S16x256x4096, .f32⟩
  | .hbm, ⟨62, _⟩ => ⟨S_, .f32⟩
  | .hbm, ⟨63, _⟩ => ⟨S16x256x4096, .f32⟩
  | .hbm, ⟨64, _⟩ => ⟨S16x256x4096, .f32⟩
  | .hbm, ⟨65, _⟩ => ⟨S16x256x4096, .f32⟩
  | .hbm, ⟨66, _⟩ => ⟨S16x256x1024, .f32⟩
  | .hbm, ⟨67, _⟩ => ⟨S1x1024, .f32⟩
  | .hbm, ⟨68, _⟩ => ⟨S1024, .f32⟩
  | .hbm, ⟨69, _⟩ => ⟨S16x256x1024, .f32⟩
  | .hbm, ⟨70, _⟩ => ⟨S_, .f32⟩
  | .hbm, ⟨71, _⟩ => ⟨S16x256, .f32⟩
  | .hbm, ⟨72, _⟩ => ⟨S16x256x1, .f32⟩
  | .hbm, ⟨73, _⟩ => ⟨S_, .f32⟩
  | .hbm, ⟨74, _⟩ => ⟨S16x256x1, .f32⟩
  | .hbm, ⟨75, _⟩ => ⟨S16x256x1, .f32⟩
  | .hbm, ⟨76, _⟩ => ⟨S_, .f32⟩
  | .hbm, ⟨77, _⟩ => ⟨S16x256x1, .f32⟩
  | .hbm, ⟨78, _⟩ => ⟨S16x256x1, .f32⟩
  | .hbm, ⟨79, _⟩ => ⟨S16x256x1, .f32⟩
  | .hbm, ⟨80, _⟩ => ⟨S16x256x1024, .f32⟩
  | .hbm, ⟨81, _⟩ => ⟨S16x256x1024, .f32⟩
  | .hbm, ⟨82, _⟩ => ⟨S1x1x1024, .f32⟩
  | .hbm, ⟨83, _⟩ => ⟨S16x256x1024, .f32⟩
  | .hbm, ⟨84, _⟩ => ⟨S16x256x1024, .f32⟩
  | .hbm, ⟨85, _⟩ => ⟨S16x256x1024, .f32⟩
  | .hbm, ⟨86, _⟩ => ⟨S16x256x1024, .f32⟩
  | .hbm, ⟨87, _⟩ => ⟨S16x256x1024, .f32⟩
  | .hbm, ⟨88, _⟩ => ⟨S4096x1024, .f32⟩
  | _, _ => ⟨S16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_cst : Ref sig .tc := ⟨.hbm, 62, rfl⟩
abbrev main_call0_v0 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== CtxWide.lean ====
abbrev S16x256x2048 : Shape := ⟨3, ![16, 256, 2048]⟩
abbrev S2048x1024 : Shape := ⟨2, ![2048, 1024]⟩
abbrev S1024x4096 : Shape := ⟨2, ![1024, 4096]⟩
abbrev S4096x1024 : Shape := ⟨2, ![4096, 1024]⟩
abbrev S16x256x1024 : Shape := ⟨3, ![16, 256, 1024]⟩
abbrev S1x6x1024 : Shape := ⟨3, ![1, 6, 1024]⟩
abbrev S4x1024 : Shape := ⟨2, ![4, 1024]⟩
abbrev S4096x2048 : Shape := ⟨2, ![4096, 2048]⟩
abbrev S512x2048 : Shape := ⟨2, ![512, 2048]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 12
  | .smem => 0
  | _ => 0

abbrev bufTy : (tb : Table) → Fin (tcTables nBuf tb) → BufTy
  | .hbm, ⟨0, _⟩ => ⟨S16x256x2048, .bf16⟩
  | .hbm, ⟨1, _⟩ => ⟨S2048x1024, .f32⟩
  | .hbm, ⟨2, _⟩ => ⟨S1024x4096, .f32⟩
  | .hbm, ⟨3, _⟩ => ⟨S4096x1024, .f32⟩
  | .hbm, ⟨4, _⟩ => ⟨S16x256x1024, .f32⟩
  | .hbm, ⟨5, _⟩ => ⟨S1x6x1024, .f32⟩
  | .hbm, ⟨6, _⟩ => ⟨S4x1024, .f32⟩
  | .hbm, ⟨7, _⟩ => ⟨S4096x2048, .bf16⟩
  | .hbm, ⟨8, _⟩ => ⟨S2048x1024, .bf16⟩
  | .hbm, ⟨9, _⟩ => ⟨S1024x4096, .bf16⟩
  | .hbm, ⟨10, _⟩ => ⟨S4096x1024, .bf16⟩
  | .hbm, ⟨11, _⟩ => ⟨S4096x1024, .f32⟩
  | .hbm, ⟨12, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S4x1024, .f32⟩
  | .local _ .vmem, ⟨10, _⟩ => ⟨S512x1024, .f32⟩
  | .local _ .vmem, ⟨11, _⟩ => ⟨S512x1024, .f32⟩
  | _, _ => ⟨S16x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CtxWideRefIdeal.lean ====
abbrev S16x256x2048 : Shape := ⟨3, ![16, 256, 2048]⟩
abbrev S2048x1024 : Shape := ⟨2, ![2048, 1024]⟩
abbrev S1024x4096 : Shape := ⟨2, ![1024, 4096]⟩
abbrev S4096x1024 : Shape := ⟨2, ![4096, 1024]⟩
abbrev S16x256x1024 : Shape := ⟨3, ![16, 256, 1024]⟩
abbrev S1x6x1024 : Shape := ⟨3, ![1, 6, 1024]⟩
abbrev S4x1024 : Shape := ⟨2, ![4, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x4096 : Shape := ⟨3, ![16, 256, 4096]⟩

abbrev nBuf : Space → Nat
  | .hbm => 89
  | .vmem => 0
  | .smem => 0
  | _ => 0

abbrev bufTy : (tb : Table) → Fin (tcTables nBuf tb) → BufTy
  | .hbm, ⟨0, _⟩ => ⟨S16x256x2048, .bf16⟩
  | .hbm, ⟨1, _⟩ => ⟨S2048x1024, .f32⟩
  | .hbm, ⟨2, _⟩ => ⟨S1024x4096, .f32⟩
  | .hbm, ⟨3, _⟩ => ⟨S4096x1024, .f32⟩
  | .hbm, ⟨4, _⟩ => ⟨S16x256x1024, .f32⟩
  | .hbm, ⟨5, _⟩ => ⟨S1x6x1024, .f32⟩
  | .hbm, ⟨6, _⟩ => ⟨S4x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S16x256x2048, .f32⟩
  | .hbm, ⟨14, _⟩ => ⟨S16x256x1024, .f32⟩
  | .hbm, ⟨15, _⟩ => ⟨S1x1024, .f32⟩
  | .hbm, ⟨16, _⟩ => ⟨S1024, .f32⟩
  | .hbm, ⟨17, _⟩ => ⟨S16x256x1024, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x1024, .f32⟩
  | .hbm, ⟨29, _⟩ => ⟨S16x256x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S1x1024, .f32⟩
  | .hbm, ⟨37, _⟩ => ⟨S1024, .f32⟩
  | .hbm, ⟨38, _⟩ => ⟨S16x256x1024, .f32⟩
  | .hbm, ⟨39, _⟩ => ⟨S_, .f32⟩
  | .hbm, ⟨40, _⟩ => ⟨S16x256, .f32⟩
  | .hbm, ⟨41, _⟩ => ⟨S16x256x1, .f32⟩
  | .hbm, ⟨42, _⟩ => ⟨S_, .f32⟩
  | .hbm, ⟨43, _⟩ => ⟨S16x256x1, .f32⟩
  | .hbm, ⟨44, _⟩ => ⟨S16x256x1, .f32⟩
  | .hbm, ⟨45, _⟩ => ⟨S_, .f32⟩
  | .hbm, ⟨46, _⟩ => ⟨S16x256x1, .f32⟩
  | .hbm, ⟨47, _⟩ => ⟨S16x256x1, .f32⟩
  | .hbm, ⟨48, _⟩ => ⟨S16x256x1, .f32⟩
  | .hbm, ⟨49, _⟩ => ⟨S16x256x1024, .f32⟩
  | .hbm, ⟨50, _⟩ => ⟨S16x256x1024, .f32⟩
  | .hbm, ⟨51, _⟩ => ⟨S1x1x1024, .f32⟩
  | .hbm, ⟨52, _⟩ => ⟨S16x256x1024, .f32⟩
  | .hbm, ⟨53, _⟩ => ⟨S16x256x1024, .f32⟩
  | .hbm, ⟨54, _⟩ => ⟨S_, .f32⟩
  | .hbm, ⟨55, _⟩ => ⟨S1x1x1024, .f32⟩
  | .hbm, ⟨56, _⟩ => ⟨S1x1x1024, .f32⟩
  | .hbm, ⟨57, _⟩ => ⟨S16x256x1024, .f32⟩
  | .hbm, ⟨58, _⟩ => ⟨S16x256x1024, .f32⟩
  | .hbm, ⟨59, _⟩ => ⟨S16x256x1024, .f32⟩
  | .hbm, ⟨60, _⟩ => ⟨S16x256x1024, .f32⟩
  | .hbm, ⟨61, _⟩ => ⟨S16x256x4096, .f32⟩
  | .hbm, ⟨62, _⟩ => ⟨S_, .f32⟩
  | .hbm, ⟨63, _⟩ => ⟨S16x256x4096, .f32⟩
  | .hbm, ⟨64, _⟩ => ⟨S16x256x4096, .f32⟩
  | .hbm, ⟨65, _⟩ => ⟨S16x256x4096, .f32⟩
  | .hbm, ⟨66, _⟩ => ⟨S16x256x1024, .f32⟩
  | .hbm, ⟨67, _⟩ => ⟨S1x1024, .f32⟩
  | .hbm, ⟨68, _⟩ => ⟨S1024, .f32⟩
  | .hbm, ⟨69, _⟩ => ⟨S16x256x1024, .f32⟩
  | .hbm, ⟨70, _⟩ => ⟨S_, .f32⟩
  | .hbm, ⟨71, _⟩ => ⟨S16x256, .f32⟩
  | .hbm, ⟨72, _⟩ => ⟨S16x256x1, .f32⟩
  | .hbm, ⟨73, _⟩ => ⟨S_, .f32⟩
  | .hbm, ⟨74, _⟩ => ⟨S16x256x1, .f32⟩
  | .hbm, ⟨75, _⟩ => ⟨S16x256x1, .f32⟩
  | .hbm, ⟨76, _⟩ => ⟨S_, .f32⟩
  | .hbm, ⟨77, _⟩ => ⟨S16x256x1, .f32⟩
  | .hbm, ⟨78, _⟩ => ⟨S16x256x1, .f32⟩
  | .hbm, ⟨79, _⟩ => ⟨S16x256x1, .f32⟩
  | .hbm, ⟨80, _⟩ => ⟨S16x256x1024, .f32⟩
  | .hbm, ⟨81, _⟩ => ⟨S16x256x1024, .f32⟩
  | .hbm, ⟨82, _⟩ => ⟨S1x1x1024, .f32⟩
  | .hbm, ⟨83, _⟩ => ⟨S16x256x1024, .f32⟩
  | .hbm, ⟨84, _⟩ => ⟨S16x256x1024, .f32⟩
  | .hbm, ⟨85, _⟩ => ⟨S16x256x1024, .f32⟩
  | .hbm, ⟨86, _⟩ => ⟨S16x256x1024, .f32⟩
  | .hbm, ⟨87, _⟩ => ⟨S16x256x1024, .f32⟩
  | .hbm, ⟨88, _⟩ => ⟨S4096x1024, .f32⟩
  | _, _ => ⟨S16x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_cst : Ref sig .tc := ⟨.hbm, 62, rfl⟩
abbrev main_call0_v0 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== CtxProj.lean ====
abbrev S16x256x1024 : Shape := ⟨3, ![16, 256, 1024]⟩
abbrev S1x6x1024 : Shape := ⟨3, ![1, 6, 1024]⟩
abbrev S4x1024 : Shape := ⟨2, ![4, 1024]⟩
abbrev S1024x1536 : Shape := ⟨2, ![1024, 1536]⟩
abbrev S4096x1024 : Shape := ⟨2, ![4096, 1024]⟩
abbrev S4096x1536 : Shape := ⟨2, ![4096, 1536]⟩
abbrev S512x1024 : Shape := ⟨2, ![512, 1024]⟩
abbrev S512x1536 : Shape := ⟨2, ![512, 1536]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x1536, .f32⟩
  | .hbm, ⟨4, _⟩ => ⟨S4096x1024, .f32⟩
  | .hbm, ⟨5, _⟩ => ⟨S1024x1536, .bf16⟩
  | .hbm, ⟨6, _⟩ => ⟨S4096x1536, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x1536, .bf16⟩
  | .local _ .vmem, ⟨6, _⟩ => ⟨S512x1536, .f32⟩
  | .local _ .vmem, ⟨7, _⟩ => ⟨S512x1536, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxProjIdeal.lean ====
abbrev S16x256x1024 : Shape := ⟨3, ![16, 256, 1024]⟩
abbrev S1x6x1024 : Shape := ⟨3, ![1, 6, 1024]⟩
abbrev S4x1024 : Shape := ⟨2, ![4, 1024]⟩
abbrev S1024x1536 : Shape := ⟨2, ![1024, 1536]⟩
abbrev S4096x1024 : Shape := ⟨2, ![4096, 1024]⟩
abbrev S4096x1536 : Shape := ⟨2, ![4096, 1536]⟩
abbrev S512x1024 : Shape := ⟨2, ![512, 1024]⟩
abbrev S512x1536 : Shape := ⟨2, ![512, 1536]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x1536, .f32⟩
  | .hbm, ⟨4, _⟩ => ⟨S4096x1024, .f32⟩
  | .hbm, ⟨5, _⟩ => ⟨S1024x1536, .bf16⟩
  | .hbm, ⟨6, _⟩ => ⟨S4096x1536, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x1536, .bf16⟩
  | .local _ .vmem, ⟨6, _⟩ => ⟨S512x1536, .f32⟩
  | .local _ .vmem, ⟨7, _⟩ => ⟨S512x1536, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxProjRefIdeal.lean ====
abbrev S16x256x1024 : Shape := ⟨3, ![16, 256, 1024]⟩
abbrev S1x6x1024 : Shape := ⟨3, ![1, 6, 1024]⟩
abbrev S4x1024 : Shape := ⟨2, ![4, 1024]⟩
abbrev S1024x1536 : Shape := ⟨2, ![1024, 1536]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x1536 : Shape := ⟨3, ![16, 256, 1536]⟩
abbrev S4096x1536 : Shape := ⟨2, ![4096, 1536]⟩

abbrev nBuf : Space → Nat
  | .hbm => 37
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x1536, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1024, .f32⟩
  | .hbm, ⟨11, _⟩ => ⟨S1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1536, .f32⟩
  | .hbm, ⟨36, _⟩ => ⟨S4096x1536, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== CtxProjHyena.lean ====
abbrev S16x256x1024 : Shape := ⟨3, ![16, 256, 1024]⟩
abbrev S1x6x1024 : Shape := ⟨3, ![1, 6, 1024]⟩
abbrev S4x1024 : Shape := ⟨2, ![4, 1024]⟩
abbrev S1024x3072 : Shape := ⟨2, ![1024, 3072]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x3072, .f32⟩
  | .hbm, ⟨4, _⟩ => ⟨S4096x1024, .f32⟩
  | .hbm, ⟨5, _⟩ => ⟨S1024x3072, .bf16⟩
  | .hbm, ⟨6, _⟩ => ⟨S4096x3072, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x3072, .bf16⟩
  | .local _ .vmem, ⟨6, _⟩ => ⟨S512x3072, .f32⟩
  | .local _ .vmem, ⟨7, _⟩ => ⟨S512x3072, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxProjHyenaIdeal.lean ====
abbrev S16x256x1024 : Shape := ⟨3, ![16, 256, 1024]⟩
abbrev S1x6x1024 : Shape := ⟨3, ![1, 6, 1024]⟩
abbrev S4x1024 : Shape := ⟨2, ![4, 1024]⟩
abbrev S1024x3072 : Shape := ⟨2, ![1024, 3072]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x3072, .f32⟩
  | .hbm, ⟨4, _⟩ => ⟨S4096x1024, .f32⟩
  | .hbm, ⟨5, _⟩ => ⟨S1024x3072, .bf16⟩
  | .hbm, ⟨6, _⟩ => ⟨S4096x3072, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x3072, .bf16⟩
  | .local _ .vmem, ⟨6, _⟩ => ⟨S512x3072, .f32⟩
  | .local _ .vmem, ⟨7, _⟩ => ⟨S512x3072, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxProjHyenaRefIdeal.lean ====
abbrev S16x256x1024 : Shape := ⟨3, ![16, 256, 1024]⟩
abbrev S1x6x1024 : Shape := ⟨3, ![1, 6, 1024]⟩
abbrev S4x1024 : Shape := ⟨2, ![4, 1024]⟩
abbrev S1024x3072 : Shape := ⟨2, ![1024, 3072]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x3072 : Shape := ⟨3, ![16, 256, 3072]⟩
abbrev S4096x3072 : Shape := ⟨2, ![4096, 3072]⟩

abbrev nBuf : Space → Nat
  | .hbm => 37
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x3072, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1024, .f32⟩
  | .hbm, ⟨11, _⟩ => ⟨S1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x3072, .f32⟩
  | .hbm, ⟨36, _⟩ => ⟨S4096x3072, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== CtxProjSsd.lean ====
abbrev S16x256x1024 : Shape := ⟨3, ![16, 256, 1024]⟩
abbrev S1x6x1024 : Shape := ⟨3, ![1, 6, 1024]⟩
abbrev S4x1024 : Shape := ⟨2, ![4, 1024]⟩
abbrev S1024x5184 : Shape := ⟨2, ![1024, 5184]⟩
abbrev S4096x1024 : Shape := ⟨2, ![4096, 1024]⟩
abbrev S4096x5184 : Shape := ⟨2, ![4096, 5184]⟩
abbrev S512x1024 : Shape := ⟨2, ![512, 1024]⟩
abbrev S512x5184 : Shape := ⟨2, ![512, 5184]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩
abbrev S1024x64 : Shape := ⟨2, ![1024, 64]⟩
abbrev S512x64 : Shape := ⟨2, ![512, 64]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x5184, .f32⟩
  | .hbm, ⟨4, _⟩ => ⟨S4096x1024, .f32⟩
  | .hbm, ⟨5, _⟩ => ⟨S1024x5184, .bf16⟩
  | .hbm, ⟨6, _⟩ => ⟨S4096x5184, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x5184, .bf16⟩
  | .local _ .vmem, ⟨6, _⟩ => ⟨S512x5184, .f32⟩
  | .local _ .vmem, ⟨7, _⟩ => ⟨S512x5184, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5184 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5184 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxProjSsdRefIdeal.lean ====
abbrev S16x256x1024 : Shape := ⟨3, ![16, 256, 1024]⟩
abbrev S1x6x1024 : Shape := ⟨3, ![1, 6, 1024]⟩
abbrev S4x1024 : Shape := ⟨2, ![4, 1024]⟩
abbrev S1024x5184 : Shape := ⟨2, ![1024, 5184]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x5184 : Shape := ⟨3, ![16, 256, 5184]⟩
abbrev S4096x5184 : Shape := ⟨2, ![4096, 5184]⟩

abbrev nBuf : Space → Nat
  | .hbm => 37
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x5184, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1024, .f32⟩
  | .hbm, ⟨11, _⟩ => ⟨S1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x5184, .f32⟩
  | .hbm, ⟨36, _⟩ => ⟨S4096x5184, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== CtxProjNbr.lean ====
abbrev S16x256x1024 : Shape := ⟨3, ![16, 256, 1024]⟩
abbrev S1x6x1024 : Shape := ⟨3, ![1, 6, 1024]⟩
abbrev S4x1024 : Shape := ⟨2, ![4, 1024]⟩
abbrev S1024x3072 : Shape := ⟨2, ![1024, 3072]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x3072, .f32⟩
  | .hbm, ⟨4, _⟩ => ⟨S4096x1024, .f32⟩
  | .hbm, ⟨5, _⟩ => ⟨S1024x3072, .bf16⟩
  | .hbm, ⟨6, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x3072, .bf16⟩
  | .local _ .vmem, ⟨6, _⟩ => ⟨S512x3072, .bf16⟩
  | .local _ .vmem, ⟨7, _⟩ => ⟨S512x3072, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxProjNbrRefIdeal.lean ====
abbrev S16x256x1024 : Shape := ⟨3, ![16, 256, 1024]⟩
abbrev S1x6x1024 : Shape := ⟨3, ![1, 6, 1024]⟩
abbrev S4x1024 : Shape := ⟨2, ![4, 1024]⟩
abbrev S1024x3072 : Shape := ⟨2, ![1024, 3072]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x3072 : Shape := ⟨3, ![16, 256, 3072]⟩
abbrev S4096x3072 : Shape := ⟨2, ![4096, 3072]⟩

abbrev nBuf : Space → Nat
  | .hbm => 38
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S4x1024, .f32⟩
  | .hbm, ⟨3, _⟩ => ⟨S1024x3072, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1024, .f32⟩
  | .hbm, ⟨11, _⟩ => ⟨S1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x3072, .f32⟩
  | .hbm, ⟨36, _⟩ => ⟨S4096x3072, .f32⟩
  | .hbm, ⟨37, _⟩ => ⟨S4096x3072, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Nbr.lean ====
abbrev S16x2048x3072 : Shape := ⟨3, ![16, 2048, 3072]⟩
abbrev S16x256x3072 : Shape := ⟨3, ![16, 256, 3072]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8x8x1 : Shape := ⟨3, ![8, 8, 1]⟩
abbrev S16x8x8x64x64 : Shape := ⟨5, ![16, 8, 8, 64, 64]⟩
abbrev S1x1x1x64x64 : Shape := ⟨5, ![1, 1, 1, 64, 64]⟩
abbrev S8x16x64x8x64 : Shape := ⟨5, ![8, 16, 64, 8, 64]⟩
abbrev S8x8x128x512 : Shape := ⟨4, ![8, 8, 128, 512]⟩
abbrev S16x2048x1024 : Shape := ⟨3, ![16, 2048, 1024]⟩
abbrev S1x64x1024 : Shape := ⟨3, ![1, 64, 1024]⟩
abbrev S1x2048x1024 : Shape := ⟨3, ![1, 2048, 1024]⟩
abbrev S1x256x1024 : Shape := ⟨3, ![1, 256, 1024]⟩
abbrev S1x8x128x512 : Shape := ⟨4, ![1, 8, 128, 512]⟩
abbrev S64x128 : Shape := ⟨2, ![64, 128]⟩
abbrev S1x64x128 : Shape := ⟨3, ![1, 64, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x1x128x512 : Shape := ⟨4, ![1, 1, 128, 512]⟩
abbrev S1x256x128 : Shape := ⟨3, ![1, 256, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S64x1024 : Shape := ⟨2, ![64, 1024]⟩

abbrev nBuf : Space → Nat
  | .hbm => 88
  | .vmem => 14
  | .smem => 0
  | _ => 0

abbrev bufTy : (tb : Table) → Fin (tcTables nBuf tb) → BufTy
  | .hbm, ⟨0, _⟩ => ⟨S16x2048x3072, .bf16⟩
  | .hbm, ⟨1, _⟩ => ⟨S16x256x3072, .bf16⟩
  | .hbm, ⟨2, _⟩ => ⟨S16x15x31, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S_, .i32⟩
  | .hbm, ⟨49, _⟩ => ⟨S64x64, .i32⟩
  | .hbm, ⟨50, _⟩ => ⟨S64x64, .i1⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S64x64, .i32⟩
  | .hbm, ⟨55, _⟩ => ⟨S64x64x1, .i32⟩
  | .hbm, ⟨56, _⟩ => ⟨S16x15x64x64, .f32⟩
  | .hbm, ⟨57, _⟩ => ⟨S8, .i32⟩
  | .hbm, ⟨58, _⟩ => ⟨S1x8, .i32⟩
  | .hbm, ⟨59, _⟩ => ⟨S8, .i32⟩
  | .hbm, ⟨60, _⟩ => ⟨S8x1, .i32⟩
  | .hbm, ⟨61, _⟩ => ⟨S8x8, .i32⟩
  | .hbm, ⟨62, _⟩ => ⟨S8x8, .i32⟩
  | .hbm, ⟨63, _⟩ => ⟨S8x8, .i32⟩
  | .hbm, ⟨64, _⟩ => ⟨S_, .i32⟩
  | .hbm, ⟨65, _⟩ => ⟨S8x8, .i32⟩
  | .hbm, ⟨66, _⟩ => ⟨S8x8, .i32⟩
  | .hbm, ⟨67, _⟩ => ⟨S_, .i32⟩
  | .hbm, ⟨68, _⟩ => ⟨S8x8, .i32⟩
  | .hbm, ⟨69, _⟩ => ⟨S8x8, .i32⟩
  | .hbm, ⟨70, _⟩ => ⟨S_, .i32⟩
  | .hbm, ⟨71, _⟩ => ⟨S8x8, .i32⟩
  | .hbm, ⟨72, _⟩ => ⟨S8x8, .i1⟩
  | .hbm, ⟨73, _⟩ => ⟨S_, .i32⟩
  | .hbm, ⟨74, _⟩ => ⟨S8x8, .i32⟩
  | .hbm, ⟨75, _⟩ => ⟨S8x8, .i32⟩
  | .hbm, ⟨76, _⟩ => ⟨S8x8, .i32⟩
  | .hbm, ⟨77, _⟩ => ⟨S8x8x1, .i32⟩
  | .hbm, ⟨78, _⟩ => ⟨S16x8x8x64x64, .f32⟩
  | .hbm, ⟨79, _⟩ => ⟨S1x1x1x64x64, .i1⟩
  | .hbm, ⟨80, _⟩ => ⟨S_, .f32⟩
  | .hbm, ⟨81, _⟩ => ⟨S_, .f32⟩
  | .hbm, ⟨82, _⟩ => ⟨S16x8x8x64x64, .i1⟩
  | .hbm, ⟨83, _⟩ => ⟨S16x8x8x64x64, .f32⟩
  | .hbm, ⟨84, _⟩ => ⟨S16x8x8x64x64, .f32⟩
  | .hbm, ⟨85, _⟩ => ⟨S8x16x64x8x64, .f32⟩
  | .hbm, ⟨86, _⟩ => ⟨S8x8x128x512, .f32⟩
  | .hbm, ⟨87, _⟩ => ⟨S16x2048x1024, .bf16⟩
  | .local _ .vmem, ⟨0, _⟩ => ⟨S1x64x1024, .bf16⟩
  | .local _ .vmem, ⟨1, _⟩ => ⟨S1x64x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x8x128x512, .f32⟩
  | .local _ .vmem, ⟨11, _⟩ => ⟨S1x8x128x512, .f32⟩
  | .local _ .vmem, ⟨12, _⟩ => ⟨S1x64x1024, .bf16⟩
  | .local _ .vmem, ⟨13, _⟩ => ⟨S1x64x1024, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 32], ![false, false]⟩

def k0_mult1 (i : grid0.Coords) : BitVec 32 :=
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  v3
def k0_off1 (i : grid0.Coords) : Fin 3 → Nat :=
  let c0_4 : Index := 0#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := v3
  let v18 : Index := Scalar.indexCast v4
  let c0_5 : Index := 0#32
  ![0, v18.toNat, 0]
def k0_off2 (i : grid0.Coords) : Fin 3 → Nat :=
  let c0_31 : Index := 0#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := v3
  let v72 : Index := Scalar.indexCast v4
  let c128_32 : Index := 128#32
  ![0, v72.toNat, 128]
def k0_off3 (i : grid0.Coords) : Fin 3 → Nat :=
  let c0_57 : Index := 0#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := v3
  let v126 : Index := Scalar.indexCast v4
  let c256_58 : Index := 256#32
  ![0, v126.toNat, 256]
def k0_off4 (i : grid0.Coords) : Fin 3 → Nat :=
  let c0_83 : Index := 0#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := v3
  let v180 : Index := Scalar.indexCast v4
  let c384_84 : Index := 384#32
  ![0, v180.toNat, 384]
def k0_off5 (i : grid0.Coords) : Fin 3 → Nat :=
  let c0_109 : Index := 0#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := v3
  let v234 : Index := Scalar.indexCast v4
  let c512_110 : Index := 512#32
  ![0, v234.toNat, 512]
def k0_off6 (i : grid0.Coords) : Fin 3 → Nat :=
  let c0_135 : Index := 0#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := v3
  let v288 : Index := Scalar.indexCast v4
  let c640_136 : Index := 640#32
  ![0, v288.toNat, 640]
def k0_off7 (i : grid0.Coords) : Fin 3 → Nat :=
  let c0_161 : Index := 0#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := v3
  let v342 : Index := Scalar.indexCast v4
  let c768_162 : Index := 768#32
  ![0, v342.toNat, 768]
def k0_off8 (i : grid0.Coords) : Fin 3 → Nat :=
  let c0_187 : Index := 0#32
  let c24_i32 : BitVec 32 := 24#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c24_i32 v1
  let c64_i32 : BitVec 32 := 64#32
  let v3 : BitVec 32 := Scalar.muli v2 c64_i32
  let v4 : BitVec 32 := v3
  let v396 : Index := Scalar.indexCast v4
  let c896_188 : Index := 896#32
  ![0, v396.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c24_i32 : BitVec 32 := 24#32
  let v1 : BitVec 32 := Scalar.maxsi c0_i32 v0
  let v2 : BitVec 32 := Scalar.minsi c24_i32 v1
  let v3 : BitVec 32 := Scalar.subi arg1 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NbrIdeal.lean ====
variable {F : FTy → Type} [FloatOps F] [Named F]
def κ : String → Option EReal := fun
  | "log2e" => some (((Real.log 2)⁻¹ : ℝ) : EReal)
  | "nscale" => some (((8 * (Real.log 2))⁻¹ : ℝ) : EReal)
  | _ => none
-- ==== NbrRefIdeal.lean ====
abbrev S16x2048x3072 : Shape := ⟨3, ![16, 2048, 3072]⟩
abbrev S16x256x3072 : Shape := ⟨3, ![16, 256, 3072]⟩
abbrev S16x15x31 : Shape := ⟨3, ![16, 15, 31]⟩
abbrev S16x2048x1024 : Shape := ⟨3, ![16, 2048, 1024]⟩
abbrev S16x2048x16x64 : Shape := ⟨4, ![16, 2048, 16, 64]⟩
abbrev S16x256x1024 : Shape := ⟨3, ![16, 256, 1024]⟩
abbrev S16x256x16x64 : Shape := ⟨4, ![16, 256, 16, 64]⟩
abbrev S16x32x64x16x64 : Shape := ⟨5, ![16, 32, 64, 16, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S16x32x8x64x16x64 : Shape := ⟨6, ![16, 32, 8, 64, 16, 64]⟩
abbrev S16x32x8x64x64 : Shape := ⟨5, ![16, 32, 8, 64, 64]⟩
abbrev S16x32x64x8x64 : Shape := ⟨5, ![16, 32, 64, 8, 64]⟩
abbrev S16x16x32x64x8x64 : Shape := ⟨6, ![16, 16, 32, 64, 8, 64]⟩
abbrev S1x16x32x64x8x64 : Shape := ⟨6, ![1, 16, 32, 64, 8, 64]⟩
abbrev S64x1x64 : Shape := ⟨3, ![64, 1, 64]⟩
abbrev S16x16x32x64x256 : Shape := ⟨5, ![16, 16, 32, 64, 256]⟩
abbrev S16x16x32x64x512 : Shape := ⟨5, ![16, 16, 32, 64, 512]⟩
abbrev S16x16x32x64x768 : Shape := ⟨5, ![16, 16, 32, 64, 768]⟩
abbrev S16x16x32x64 : Shape := ⟨4, ![16, 16, 32, 64]⟩
abbrev S16x16x32x64x1 : Shape := ⟨5, ![16, 16, 32, 64, 1]⟩
abbrev S16x32x16x64x64 : Shape := ⟨5, ![16, 32, 16, 64, 64]⟩
abbrev S16x16x64x32x64 : Shape := ⟨5, ![16, 16, 64, 32, 64]⟩

abbrev nBuf : Space → Nat
  | .hbm => 172
  | .vmem => 0
  | .smem => 0
  | _ => 0

abbrev hbmTy0_0 (i : Nat) : BufTy := match i % 128 with
  | 0 => ⟨S16x2048x3072, .bf16⟩
  | 1 => ⟨S16x256x3072, .bf16⟩
  | 2 => ⟨S16x15x31, .f32⟩
  | 3 => ⟨S16x2048x3072, .f32⟩
  | 4 => ⟨S16x2048x1024, .f32⟩
  | 5 => ⟨S16x2048x1024, .f32⟩
  | 6 => ⟨S16x2048x1024, .f32⟩
  | 7 => ⟨S16x2048x16x64, .f32⟩
  | 8 => ⟨S16x2048x16x64, .f32⟩
  | 9 => ⟨S16x2048x16x64, .f32⟩
  | 10 => ⟨S16x256x3072, .f32⟩
  | 11 => ⟨S16x256x1024, .f32⟩
  | 12 => ⟨S16x256x1024, .f32⟩
  | 13 => ⟨S16x256x1024, .f32⟩
  | 14 => ⟨S16x256x16x64, .f32⟩
  | 15 => ⟨S16x256x16x64, .f32⟩
  | 16 => ⟨S16x256x16x64, .f32⟩
  | 17 => ⟨S16x32x64x16x64, .f32⟩
  | 18 => ⟨S64, .i32⟩
  | 19 => ⟨S_, .i32⟩
  | 20 => ⟨S64, .i32⟩
  | 21 => ⟨S64, .i32⟩
  | 22 => ⟨S_, .i32⟩
  | 23 => ⟨S_, .i32⟩
  | 24 => ⟨S_, .i32⟩
  | 25 => ⟨S64, .i32⟩
  | 26 => ⟨S64, .i32⟩
  | 27 => ⟨S_, .i32⟩
  | 28 => ⟨S64, .i32⟩
  | 29 => ⟨S64, .i32⟩
  | 30 => ⟨S1x64, .i32⟩
  | 31 => ⟨S64x1, .i32⟩
  | 32 => ⟨S64x64, .i32⟩
  | 33 => ⟨S64x64, .i32⟩
  | 34 => ⟨S64x64, .i1⟩
  | 35 => ⟨S1x64, .i32⟩
  | 36 => ⟨S64x1, .i32⟩
  | 37 => ⟨S_, .i32⟩
  | 38 => ⟨S64x1, .i32⟩
  | 39 => ⟨S64x1, .i32⟩
  | 40 => ⟨S64x64, .i32⟩
  | 41 => ⟨S64x64, .i32⟩
  | 42 => ⟨S64x64, .i1⟩
  | 43 => ⟨S64x64, .i1⟩
  | 44 => ⟨S1x64, .i32⟩
  | 45 => ⟨S64x1, .i32⟩
  | 46 => ⟨S64x64, .i32⟩
  | 47 => ⟨S64x64, .i32⟩
  | 48 => ⟨S64x64, .i32⟩
  | 49 => ⟨S_, .i32⟩
  | 50 => ⟨S64x64, .i32⟩
  | 51 => ⟨S64x64, .i32⟩
  | 52 => ⟨S_, .i32⟩
  | 53 => ⟨S64x64, .i32⟩
  | 54 => ⟨S64x64, .i32⟩
  | 55 => ⟨S_, .i32⟩
  | 56 => ⟨S_, .i32⟩
  | 57 => ⟨S_, .i32⟩
  | 58 => ⟨S64x64, .i32⟩
  | 59 => ⟨S64x64, .i32⟩
  | 60 => ⟨S_, .i32⟩
  | 61 => ⟨S64x64, .i32⟩
  | 62 => ⟨S64x64, .i32⟩
  | 63 => ⟨S_, .i32⟩
  | 64 => ⟨S64x64, .i32⟩
  | 65 => ⟨S64x64, .i1⟩
  | 66 => ⟨S_, .i32⟩
  | 67 => ⟨S64x64, .i32⟩
  | 68 => ⟨S64x64, .i32⟩
  | 69 => ⟨S64x64, .i32⟩
  | 70 => ⟨S64x64x1, .i32⟩
  | 71 => ⟨S16x15x64x64, .f32⟩
  | 72 => ⟨S32, .i32⟩
  | 73 => ⟨S_, .i32⟩
  | 74 => ⟨S32, .i32⟩
  | 75 => ⟨S32, .i32⟩
  | 76 => ⟨S_, .i32⟩
  | 77 => ⟨S_, .i32⟩
  | 78 => ⟨S_, .i32⟩
  | 79 => ⟨S32, .i32⟩
  | 80 => ⟨S32, .i32⟩
  | 81 => ⟨S_, .i32⟩
  | 82 => ⟨S32, .i32⟩
  | 83 => ⟨S32, .i32⟩
  | 84 => ⟨S32x1, .i32⟩
  | 85 => ⟨S8, .i32⟩
  | 86 => ⟨S1x8, .i32⟩
  | 87 => ⟨S32x8, .i32⟩
  | 88 => ⟨S32x8, .i32⟩
  | 89 => ⟨S32x8, .i32⟩
  | 90 => ⟨S16x32x64x16x64, .f32⟩
  | 91 => ⟨S_, .i32⟩
  | 92 => ⟨S32x8, .i32⟩
  | 93 => ⟨S32x8, .i1⟩
  | 94 => ⟨S_, .i32⟩
  | 95 => ⟨S32x8, .i32⟩
  | 96 => ⟨S32x8, .i32⟩
  | 97 => ⟨S32x8, .i32⟩
  | 98 => ⟨S32x8x1, .i32⟩
  | 99 => ⟨S16x32x8x64x16x64, .f32⟩
  | 100 => ⟨S16x32x64x16x64, .f32⟩
  | 101 => ⟨S_, .i32⟩
  | 102 => ⟨S32x8, .i32⟩
  | 103 => ⟨S32x8, .i1⟩
  | 104 => ⟨S_, .i32⟩
  | 105 => ⟨S32x8, .i32⟩
  | 106 => ⟨S32x8, .i32⟩
  | 107 => ⟨S32x8, .i32⟩
  | 108 => ⟨S32x8x1, .i32⟩
  | 109 => ⟨S16x32x8x64x16x64, .f32⟩
  | 110 => ⟨S32x1, .i32⟩
  | 111 => ⟨S32x8, .i32⟩
  | 112 => ⟨S32x8, .i32⟩
  | 113 => ⟨S_, .i32⟩
  | 114 => ⟨S32x8, .i32⟩
  | 115 => ⟨S32x8, .i32⟩
  | 116 => ⟨S_, .i32⟩
  | 117 => ⟨S32x8, .i32⟩
  | 118 => ⟨S32x8, .i32⟩
  | 119 => ⟨S_, .i32⟩
  | 120 => ⟨S32x8, .i32⟩
  | 121 => ⟨S32x8, .i1⟩
  | 122 => ⟨S_, .i32⟩
  | 123 => ⟨S32x8, .i32⟩
  | 124 => ⟨S32x8, .i32⟩
  | 125 => ⟨S32x8, .i32⟩
  | 126 => ⟨S32x8x1, .i32⟩
  | 127 => ⟨S16x32x8x64x64, .f32⟩
  | _ => ⟨S16x2048x3072, .bf16⟩

abbrev hbmTy0_1 (i : Nat) : BufTy := match i % 128 with
  | 0 => ⟨S16x32x64x8x64, .f32⟩
  | 1 => ⟨S16x16x32x64x8x64, .f32⟩
  | 2 => ⟨S_, .f32⟩
  | 3 => ⟨S16x16x32x64x8x64, .f32⟩
  | 4 => ⟨S16x16x32x64x8x64, .f32⟩
  | 5 => ⟨S1x16x32x64x8x64, .f32⟩
  | 6 => ⟨S16x16x32x64x8x64, .f32⟩
  | 7 => ⟨S16x16x32x64x8x64, .f32⟩
  | 8 => ⟨S64x1x64, .i1⟩
  | 9 => ⟨S_, .f32⟩
  | 10 => ⟨S_, .f32⟩
  | 11 => ⟨S16x16x32x64x8x64, .i1⟩
  | 12 => ⟨S16x16x32x64x8x64, .f32⟩
  | 13 => ⟨S16x16x32x64x8x64, .f32⟩
  | 14 => ⟨S16x16x32x64x256, .f32⟩
  | 15 => ⟨S_, .f32⟩
  | 16 => ⟨S16x16x32x64x256, .f32⟩
  | 17 => ⟨S16x16x32x64x256, .f32⟩
  | 18 => ⟨S16x16x32x64x512, .f32⟩
  | 19 => ⟨S16x16x32x64x768, .f32⟩
  | 20 => ⟨S_, .f32⟩
  | 21 => ⟨S16x16x32x64, .f32⟩
  | 22 => ⟨S_, .f32⟩
  | 23 => ⟨S16x16x32x64, .f32⟩
  | 24 => ⟨S16x16x32x64, .f32⟩
  | 25 => ⟨S16x16x32x64x1, .f32⟩
  | 26 => ⟨S16x16x32x64x768, .f32⟩
  | 27 => ⟨S16x16x32x64x768, .f32⟩
  | 28 => ⟨S16x16x32x64x768, .f32⟩
  | 29 => ⟨S_, .f32⟩
  | 30 => ⟨S16x16x32x64, .f32⟩
  | 31 => ⟨S16x16x32x64x1, .f32⟩
  | 32 => ⟨S16x16x32x64x768, .f32⟩
  | 33 => ⟨S16x16x32x64x768, .f32⟩
  | 34 => ⟨S16x16x32x64x512, .f32⟩
  | 35 => ⟨S16x16x32x64x8x64, .f32⟩
  | 36 => ⟨S16x16x32x64x256, .f32⟩
  | 37 => ⟨S16x32x16x64x64, .f32⟩
  | 38 => ⟨S16x32x64x16x64, .f32⟩
  | 39 => ⟨S16x16x64x32x64, .f32⟩
  | 40 => ⟨S16x32x64x16x64, .f32⟩
  | 41 => ⟨S16x32x64x16x64, .f32⟩
  | 42 => ⟨S16x2048x1024, .f32⟩
  | 43 => ⟨S16x2048x1024, .bf16⟩
  | _ => ⟨S16x2048x3072, .bf16⟩

abbrev hbmTy (i : Nat) : BufTy := match i / 128 with
  | 0 => hbmTy0_0 i
  | 1 => hbmTy0_1 i
  | _ => ⟨S16x2048x3072, .bf16⟩

abbrev bufTy : (tb : Table) → Fin (tcTables nBuf tb) → BufTy
  | .hbm, ⟨i, _⟩ => hbmTy i
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_c_6 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_c_11 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_14 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_c_17 : Ref sig .tc := ⟨.hbm, 116, rfl⟩
abbrev main_v80 : Ref sig .tc := ⟨.hbm, 117, rfl⟩
abbrev main_v81 : Ref sig .tc := ⟨.hbm, 118, rfl⟩
abbrev main_c_18 : Ref sig .tc := ⟨.hbm, 119, rfl⟩
abbrev main_v82 : Ref sig .tc := ⟨.hbm, 120, rfl⟩
abbrev main_v83 : Ref sig .tc := ⟨.hbm, 121, rfl⟩
abbrev main_c_19 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_20 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v97 : Ref sig .tc := ⟨.hbm, 141, rfl⟩
abbrev main_v98 : Ref sig .tc := ⟨.hbm, 142, rfl⟩
abbrev main_cst_21 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_22 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_24 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩

abbrev nD : Nat := 1
abbrev τ : Topo := Topo.v7x

variable {F : FTy → Type} [FloatOps F]
-- ==== Mod.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S1x1024 : Shape := ⟨2, ![1, 1024]⟩
abbrev S17x1024 : Shape := ⟨2, ![17, 1024]⟩
abbrev S1x6144 : Shape := ⟨2, ![1, 6144]⟩
abbrev S17x6144 : Shape := ⟨2, ![17, 6144]⟩
abbrev S1024x1024 : Shape := ⟨2, ![1024, 1024]⟩

abbrev nBuf : Space → Nat
  | .hbm => 26
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S17x1024, .f32⟩
  | .hbm, ⟨24, _⟩ => ⟨S1x6144, .f32⟩
  | .hbm, ⟨25, _⟩ => ⟨S17x6144, .f32⟩
  | .local _ .vmem, ⟨0, _⟩ => ⟨S17x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S17x1024, .f32⟩
  | .local _ .vmem, ⟨6, _⟩ => ⟨S17x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S17x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S17x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩
abbrev S17x6144 : Shape := ⟨2, ![17, 6144]⟩

abbrev nBuf : Space → Nat
  | .hbm => 30
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S16x6144, .f32⟩
  | .hbm, ⟨23, _⟩ => ⟨S1x6144, .f32⟩
  | .hbm, ⟨24, _⟩ => ⟨S16x6144, .f32⟩
  | .hbm, ⟨25, _⟩ => ⟨S16x6144, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S17x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== ConvHyena.lean ====
abbrev S16x2048x3072 : Shape := ⟨3, ![16, 2048, 3072]⟩
abbrev S3x3072 : Shape := ⟨2, ![3, 3072]⟩
abbrev S3072 : Shape := ⟨1, ![3072]⟩
abbrev S1x3072 : Shape := ⟨2, ![1, 3072]⟩
abbrev S3072x32768 : Shape := ⟨2, ![3072, 32768]⟩
abbrev S1x2048x512 : Shape := ⟨3, ![1, 2048, 512]⟩
abbrev S3x512 : Shape := ⟨2, ![3, 512]⟩
abbrev S1x512 : Shape := ⟨2, ![1, 512]⟩
abbrev S512x2048 : Shape := ⟨2, ![512, 2048]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x3072, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S3072x32768, .f32⟩
  | .local _ .vmem, ⟨0, _⟩ => ⟨S1x2048x512, .f32⟩
  | .local _ .vmem, ⟨1, _⟩ => ⟨S1x2048x512, .f32⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S512x2048, .f32⟩
  | .local _ .vmem, ⟨7, _⟩ => ⟨S512x2048, .f32⟩
  | _, _ => ⟨S16x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvHyenaIdeal.lean ====
abbrev S16x2048x3072 : Shape := ⟨3, ![16, 2048, 3072]⟩
abbrev S3x3072 : Shape := ⟨2, ![3, 3072]⟩
abbrev S3072 : Shape := ⟨1, ![3072]⟩
abbrev S1x3072 : Shape := ⟨2, ![1, 3072]⟩
abbrev S3072x32768 : Shape := ⟨2, ![3072, 32768]⟩
abbrev S1x2048x512 : Shape := ⟨3, ![1, 2048, 512]⟩
abbrev S3x512 : Shape := ⟨2, ![3, 512]⟩
abbrev S1x512 : Shape := ⟨2, ![1, 512]⟩
abbrev S512x2048 : Shape := ⟨2, ![512, 2048]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x3072, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S3072x32768, .f32⟩
  | .local _ .vmem, ⟨0, _⟩ => ⟨S1x2048x512, .f32⟩
  | .local _ .vmem, ⟨1, _⟩ => ⟨S1x2048x512, .f32⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S512x2048, .f32⟩
  | .local _ .vmem, ⟨7, _⟩ => ⟨S512x2048, .f32⟩
  | _, _ => ⟨S16x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvHyenaRefIdeal.lean ====
abbrev S16x2048x3072 : Shape := ⟨3, ![16, 2048, 3072]⟩
abbrev S3x3072 : Shape := ⟨2, ![3, 3072]⟩
abbrev S3072 : Shape := ⟨1, ![3072]⟩
abbrev S_ : Shape := ⟨0, ![]⟩
abbrev S16x2050x3072 : Shape := ⟨3, ![16, 2050, 3072]⟩
abbrev S1x3072 : Shape := ⟨2, ![1, 3072]⟩
abbrev S1x1x3072 : Shape := ⟨3, ![1, 1, 3072]⟩
abbrev S3072x16x2048 : Shape := ⟨3, ![3072, 16, 2048]⟩
abbrev S3072x32768 : Shape := ⟨2, ![3072, 32768]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x3072, .f32⟩
  | .hbm, ⟨1, _⟩ => ⟨S3x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S16x2050x3072, .f32⟩
  | .hbm, ⟨6, _⟩ => ⟨S16x2048x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S16x2048x3072, .f32⟩
  | .hbm, ⟨11, _⟩ => ⟨S16x2048x3072, .f32⟩
  | .hbm, ⟨12, _⟩ => ⟨S_, .f32⟩
  | .hbm, ⟨13, _⟩ => ⟨S16x2048x3072, .f32⟩
  | .hbm, ⟨14, _⟩ => ⟨S16x2048x3072, .f32⟩
  | .hbm, ⟨15, _⟩ => ⟨S16x2048x3072, .f32⟩
  | .hbm, ⟨16, _⟩ => ⟨S1x3072, .f32⟩
  | .hbm, ⟨17, _⟩ => ⟨S3072, .f32⟩
  | .hbm, ⟨18, _⟩ => ⟨S1x1x3072, .f32⟩
  | .hbm, ⟨19, _⟩ => ⟨S16x2048x3072, .f32⟩
  | .hbm, ⟨20, _⟩ => ⟨S16x2048x3072, .f32⟩
  | .hbm, ⟨21, _⟩ => ⟨S16x2048x3072, .f32⟩
  | .hbm, ⟨22, _⟩ => ⟨S16x2048x3072, .f32⟩
  | .hbm, ⟨23, _⟩ => ⟨S1x3072, .f32⟩
  | .hbm, ⟨24, _⟩ => ⟨S3072, .f32⟩
  | .hbm, ⟨25, _⟩ => ⟨S1x1x3072, .f32⟩
  | .hbm, ⟨26, _⟩ => ⟨S16x2048x3072, .f32⟩
  | .hbm, ⟨27, _⟩ => ⟨S16x2048x3072, .f32⟩
  | .hbm, ⟨28, _⟩ => ⟨S16x2048x3072, .f32⟩
  | .hbm, ⟨29, _⟩ => ⟨S1x1x3072, .f32⟩
  | .hbm, ⟨30, _⟩ => ⟨S16x2048x3072, .f32⟩
  | .hbm, ⟨31, _⟩ => ⟨S16x2048x3072, .f32⟩
  | .hbm, ⟨32, _⟩ => ⟨S3072x16x2048, .f32⟩
  | .hbm, ⟨33, _⟩ => ⟨S3072x32768, .f32⟩
  | _, _ => ⟨S16x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== CtxConvHyena.lean ====
abbrev S16x256x3072 : Shape := ⟨3, ![16, 256, 3072]⟩
abbrev S3x3072 : Shape := ⟨2, ![3, 3072]⟩
abbrev S3072 : Shape := ⟨1, ![3072]⟩
abbrev S1x3072 : Shape := ⟨2, ![1, 3072]⟩
abbrev S3072x4096 : Shape := ⟨2, ![3072, 4096]⟩
abbrev S1x256x512 : Shape := ⟨3, ![1, 256, 512]⟩
abbrev S3x512 : Shape := ⟨2, ![3, 512]⟩
abbrev S1x512 : Shape := ⟨2, ![1, 512]⟩
abbrev S512x256 : Shape := ⟨2, ![512, 256]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x256x3072, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S3072x4096, .f32⟩
  | .local _ .vmem, ⟨0, _⟩ => ⟨S1x256x512, .f32⟩
  | .local _ .vmem, ⟨1, _⟩ => ⟨S1x256x512, .f32⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S512x256, .f32⟩
  | .local _ .vmem, ⟨7, _⟩ => ⟨S512x256, .f32⟩
  | _, _ => ⟨S16x256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxConvHyenaRefIdeal.lean ====
abbrev S16x256x3072 : Shape := ⟨3, ![16, 256, 3072]⟩
abbrev S3x3072 : Shape := ⟨2, ![3, 3072]⟩
abbrev S3072 : Shape := ⟨1, ![3072]⟩
abbrev S_ : Shape := ⟨0, ![]⟩
abbrev S16x258x3072 : Shape := ⟨3, ![16, 258, 3072]⟩
abbrev S1x3072 : Shape := ⟨2, ![1, 3072]⟩
abbrev S1x1x3072 : Shape := ⟨3, ![1, 1, 3072]⟩
abbrev S3072x16x256 : Shape := ⟨3, ![3072, 16, 256]⟩
abbrev S3072x4096 : Shape := ⟨2, ![3072, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16x256x3072, .f32⟩
  | .hbm, ⟨1, _⟩ => ⟨S3x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S16x258x3072, .f32⟩
  | .hbm, ⟨6, _⟩ => ⟨S16x256x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S16x256x3072, .f32⟩
  | .hbm, ⟨11, _⟩ => ⟨S16x256x3072, .f32⟩
  | .hbm, ⟨12, _⟩ => ⟨S_, .f32⟩
  | .hbm, ⟨13, _⟩ => ⟨S16x256x3072, .f32⟩
  | .hbm, ⟨14, _⟩ => ⟨S16x256x3072, .f32⟩
  | .hbm, ⟨15, _⟩ => ⟨S16x256x3072, .f32⟩
  | .hbm, ⟨16, _⟩ => ⟨S1x3072, .f32⟩
  | .hbm, ⟨17, _⟩ => ⟨S3072, .f32⟩
  | .hbm, ⟨18, _⟩ => ⟨S1x1x3072, .f32⟩
  | .hbm, ⟨19, _⟩ => ⟨S16x256x3072, .f32⟩
  | .hbm, ⟨20, _⟩ => ⟨S16x256x3072, .f32⟩
  | .hbm, ⟨21, _⟩ => ⟨S16x256x3072, .f32⟩
  | .hbm, ⟨22, _⟩ => ⟨S16x256x3072, .f32⟩
  | .hbm, ⟨23, _⟩ => ⟨S1x3072, .f32⟩
  | .hbm, ⟨24, _⟩ => ⟨S3072, .f32⟩
  | .hbm, ⟨25, _⟩ => ⟨S1x1x3072, .f32⟩
  | .hbm, ⟨26, _⟩ => ⟨S16x256x3072, .f32⟩
  | .hbm, ⟨27, _⟩ => ⟨S16x256x3072, .f32⟩
  | .hbm, ⟨28, _⟩ => ⟨S16x256x3072, .f32⟩
  | .hbm, ⟨29, _⟩ => ⟨S1x1x3072, .f32⟩
  | .hbm, ⟨30, _⟩ => ⟨S16x256x3072, .f32⟩
  | .hbm, ⟨31, _⟩ => ⟨S16x256x3072, .f32⟩
  | .hbm, ⟨32, _⟩ => ⟨S3072x16x256, .f32⟩
  | .hbm, ⟨33, _⟩ => ⟨S3072x4096, .f32⟩
  | _, _ => ⟨S16x256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== ConvSsd.lean ====
abbrev S16x2048x5184 : Shape := ⟨3, ![16, 2048, 5184]⟩
abbrev S3x3072 : Shape := ⟨2, ![3, 3072]⟩
abbrev S3072 : Shape := ⟨1, ![3072]⟩
abbrev S1x3072 : Shape := ⟨2, ![1, 3072]⟩
abbrev S16x2048x3072 : Shape := ⟨3, ![16, 2048, 3072]⟩
abbrev S1x2048x512 : Shape := ⟨3, ![1, 2048, 512]⟩
abbrev S3x512 : Shape := ⟨2, ![3, 512]⟩
abbrev S1x512 : Shape := ⟨2, ![1, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x5184, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S16x2048x3072, .f32⟩
  | .local _ .vmem, ⟨0, _⟩ => ⟨S1x2048x512, .f32⟩
  | .local _ .vmem, ⟨1, _⟩ => ⟨S1x2048x512, .f32⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S1x2048x512, .f32⟩
  | .local _ .vmem, ⟨7, _⟩ => ⟨S1x2048x512, .f32⟩
  | _, _ => ⟨S16x2048x5184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvSsdIdeal.lean ====
abbrev S16x2048x5184 : Shape := ⟨3, ![16, 2048, 5184]⟩
abbrev S3x3072 : Shape := ⟨2, ![3, 3072]⟩
abbrev S3072 : Shape := ⟨1, ![3072]⟩
abbrev S1x3072 : Shape := ⟨2, ![1, 3072]⟩
abbrev S16x2048x3072 : Shape := ⟨3, ![16, 2048, 3072]⟩
abbrev S1x2048x512 : Shape := ⟨3, ![1, 2048, 512]⟩
abbrev S3x512 : Shape := ⟨2, ![3, 512]⟩
abbrev S1x512 : Shape := ⟨2, ![1, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x5184, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S16x2048x3072, .f32⟩
  | .local _ .vmem, ⟨0, _⟩ => ⟨S1x2048x512, .f32⟩
  | .local _ .vmem, ⟨1, _⟩ => ⟨S1x2048x512, .f32⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S1x2048x512, .f32⟩
  | .local _ .vmem, ⟨7, _⟩ => ⟨S1x2048x512, .f32⟩
  | _, _ => ⟨S16x2048x5184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvSsdRefIdeal.lean ====
abbrev S16x2048x5184 : Shape := ⟨3, ![16, 2048, 5184]⟩
abbrev S3x3072 : Shape := ⟨2, ![3, 3072]⟩
abbrev S3072 : Shape := ⟨1, ![3072]⟩
abbrev S16x2048x2048 : Shape := ⟨3, ![16, 2048, 2048]⟩
abbrev S16x2048x3072 : Shape := ⟨3, ![16, 2048, 3072]⟩
abbrev S16x2048x64 : Shape := ⟨3, ![16, 2048, 64]⟩
abbrev S_ : Shape := ⟨0, ![]⟩
abbrev S16x2050x3072 : Shape := ⟨3, ![16, 2050, 3072]⟩
abbrev S1x3072 : Shape := ⟨2, ![1, 3072]⟩
abbrev S1x1x3072 : Shape := ⟨3, ![1, 1, 3072]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x5184, .f32⟩
  | .hbm, ⟨1, _⟩ => ⟨S3x3072, .f32⟩
  | .hbm, ⟨2, _⟩ => ⟨S3072, .f32⟩
  | .hbm, ⟨3, _⟩ => ⟨S16x2048x2048, .f32⟩
  | .hbm, ⟨4, _⟩ => ⟨S16x2048x3072, .f32⟩
  | .hbm, ⟨5, _⟩ => ⟨S16x2048x64, .f32⟩
  | .hbm, ⟨6, _⟩ => ⟨S_, .i32⟩
  | .hbm, ⟨7, _⟩ => ⟨S_, .f32⟩
  | .hbm, ⟨8, _⟩ => ⟨S16x2050x3072, .f32⟩
  | .hbm, ⟨9, _⟩ => ⟨S16x2048x3072, .f32⟩
  | .hbm, ⟨10, _⟩ => ⟨S1x3072, .f32⟩
  | .hbm, ⟨11, _⟩ => ⟨S3072, .f32⟩
  | .hbm, ⟨12, _⟩ => ⟨S1x1x3072, .f32⟩
  | .hbm, ⟨13, _⟩ => ⟨S16x2048x3072, .f32⟩
  | .hbm, ⟨14, _⟩ => ⟨S16x2048x3072, .f32⟩
  | .hbm, ⟨15, _⟩ => ⟨S_, .f32⟩
  | .hbm, ⟨16, _⟩ => ⟨S16x2048x3072, .f32⟩
  | .hbm, ⟨17, _⟩ => ⟨S16x2048x3072, .f32⟩
  | .hbm, ⟨18, _⟩ => ⟨S16x2048x3072, .f32⟩
  | .hbm, ⟨19, _⟩ => ⟨S1x3072, .f32⟩
  | .hbm, ⟨20, _⟩ => ⟨S3072, .f32⟩
  | .hbm, ⟨21, _⟩ => ⟨S1x1x3072, .f32⟩
  | .hbm, ⟨22, _⟩ => ⟨S16x2048x3072, .f32⟩
  | .hbm, ⟨23, _⟩ => ⟨S16x2048x3072, .f32⟩
  | .hbm, ⟨24, _⟩ => ⟨S16x2048x3072, .f32⟩
  | .hbm, ⟨25, _⟩ => ⟨S16x2048x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S16x2048x3072, .f32⟩
  | .hbm, ⟨30, _⟩ => ⟨S16x2048x3072, .f32⟩
  | .hbm, ⟨31, _⟩ => ⟨S16x2048x3072, .f32⟩
  | .hbm, ⟨32, _⟩ => ⟨S1x1x3072, .f32⟩
  | .hbm, ⟨33, _⟩ => ⟨S16x2048x3072, .f32⟩
  | .hbm, ⟨34, _⟩ => ⟨S16x2048x3072, .f32⟩
  | .hbm, ⟨35, _⟩ => ⟨S16x2048x3072, .f32⟩
  | .hbm, ⟨36, _⟩ => ⟨S16x2048x3072, .f32⟩
  | .hbm, ⟨37, _⟩ => ⟨S_, .f32⟩
  | .hbm, ⟨38, _⟩ => ⟨S16x2048x3072, .f32⟩
  | .hbm, ⟨39, _⟩ => ⟨S16x2048x3072, .f32⟩
  | .hbm, ⟨40, _⟩ => ⟨S_, .f32⟩
  | .hbm, ⟨41, _⟩ => ⟨S16x2048x3072, .f32⟩
  | .hbm, ⟨42, _⟩ => ⟨S16x2048x3072, .f32⟩
  | .hbm, ⟨43, _⟩ => ⟨S16x2048x3072, .f32⟩
  | _, _ => ⟨S16x2048x5184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== CtxConvSsd.lean ====
abbrev S16x256x5184 : Shape := ⟨3, ![16, 256, 5184]⟩
abbrev S3x3072 : Shape := ⟨2, ![3, 3072]⟩
abbrev S3072 : Shape := ⟨1, ![3072]⟩
abbrev S1x3072 : Shape := ⟨2, ![1, 3072]⟩
abbrev S16x256x3072 : Shape := ⟨3, ![16, 256, 3072]⟩
abbrev S1x256x512 : Shape := ⟨3, ![1, 256, 512]⟩
abbrev S3x512 : Shape := ⟨2, ![3, 512]⟩
abbrev S1x512 : Shape := ⟨2, ![1, 512]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x256x5184, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S16x256x3072, .f32⟩
  | .local _ .vmem, ⟨0, _⟩ => ⟨S1x256x512, .f32⟩
  | .local _ .vmem, ⟨1, _⟩ => ⟨S1x256x512, .f32⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S1x256x512, .f32⟩
  | .local _ .vmem, ⟨7, _⟩ => ⟨S1x256x512, .f32⟩
  | _, _ => ⟨S16x256x5184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxConvSsdRefIdeal.lean ====
abbrev S16x256x5184 : Shape := ⟨3, ![16, 256, 5184]⟩
abbrev S3x3072 : Shape := ⟨2, ![3, 3072]⟩
abbrev S3072 : Shape := ⟨1, ![3072]⟩
abbrev S16x256x2048 : Shape := ⟨3, ![16, 256, 2048]⟩
abbrev S16x256x3072 : Shape := ⟨3, ![16, 256, 3072]⟩
abbrev S16x256x64 : Shape := ⟨3, ![16, 256, 64]⟩
abbrev S_ : Shape := ⟨0, ![]⟩
abbrev S16x258x3072 : Shape := ⟨3, ![16, 258, 3072]⟩
abbrev S1x3072 : Shape := ⟨2, ![1, 3072]⟩
abbrev S1x1x3072 : Shape := ⟨3, ![1, 1, 3072]⟩

abbrev nBuf : Space → Nat
  | .hbm => 44
  | .vmem => 0
  | .smem => 0
  | _ => 0

abbrev bufTy : (tb : Table) → Fin (tcTables nBuf tb) → BufTy
  | .hbm, ⟨0, _⟩ => ⟨S16x256x5184, .f32⟩
  | .hbm, ⟨1, _⟩ => ⟨S3x3072, .f32⟩
  | .hbm, ⟨2, _⟩ => ⟨S3072, .f32⟩
  | .hbm, ⟨3, _⟩ => ⟨S16x256x2048, .f32⟩
  | .hbm, ⟨4, _⟩ => ⟨S16x256x3072, .f32⟩
  | .hbm, ⟨5, _⟩ => ⟨S16x256x64, .f32⟩
  | .hbm, ⟨6, _⟩ => ⟨S_, .i32⟩
  | .hbm, ⟨7, _⟩ => ⟨S_, .f32⟩
  | .hbm, ⟨8, _⟩ => ⟨S16x258x3072, .f32⟩
  | .hbm, ⟨9, _⟩ => ⟨S16x256x3072, .f32⟩
  | .hbm, ⟨10, _⟩ => ⟨S1x3072, .f32⟩
  | .hbm, ⟨11, _⟩ => ⟨S3072, .f32⟩
  | .hbm, ⟨12, _⟩ => ⟨S1x1x3072, .f32⟩
  | .hbm, ⟨13, _⟩ => ⟨S16x256x3072, .f32⟩
  | .hbm, ⟨14, _⟩ => ⟨S16x256x3072, .f32⟩
  | .hbm, ⟨15, _⟩ => ⟨S_, .f32⟩
  | .hbm, ⟨16, _⟩ => ⟨S16x256x3072, .f32⟩
  | .hbm, ⟨17, _⟩ => ⟨S16x256x3072, .f32⟩
  | .hbm, ⟨18, _⟩ => ⟨S16x256x3072, .f32⟩
  | .hbm, ⟨19, _⟩ => ⟨S1x3072, .f32⟩
  | .hbm, ⟨20, _⟩ => ⟨S3072, .f32⟩
  | .hbm, ⟨21, _⟩ => ⟨S1x1x3072, .f32⟩
  | .hbm, ⟨22, _⟩ => ⟨S16x256x3072, .f32⟩
  | .hbm, ⟨23, _⟩ => ⟨S16x256x3072, .f32⟩
  | .hbm, ⟨24, _⟩ => ⟨S16x256x3072, .f32⟩
  | .hbm, ⟨25, _⟩ => ⟨S16x256x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S16x256x3072, .f32⟩
  | .hbm, ⟨30, _⟩ => ⟨S16x256x3072, .f32⟩
  | .hbm, ⟨31, _⟩ => ⟨S16x256x3072, .f32⟩
  | .hbm, ⟨32, _⟩ => ⟨S1x1x3072, .f32⟩
  | .hbm, ⟨33, _⟩ => ⟨S16x256x3072, .f32⟩
  | .hbm, ⟨34, _⟩ => ⟨S16x256x3072, .f32⟩
  | .hbm, ⟨35, _⟩ => ⟨S16x256x3072, .f32⟩
  | .hbm, ⟨36, _⟩ => ⟨S16x256x3072, .f32⟩
  | .hbm, ⟨37, _⟩ => ⟨S_, .f32⟩
  | .hbm, ⟨38, _⟩ => ⟨S16x256x3072, .f32⟩
  | .hbm, ⟨39, _⟩ => ⟨S16x256x3072, .f32⟩
  | .hbm, ⟨40, _⟩ => ⟨S_, .f32⟩
  | .hbm, ⟨41, _⟩ => ⟨S16x256x3072, .f32⟩
  | .hbm, ⟨42, _⟩ => ⟨S16x256x3072, .f32⟩
  | .hbm, ⟨43, _⟩ => ⟨S16x256x3072, .f32⟩
  | _, _ => ⟨S16x256x5184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Layer.lean ====
/- The layer's mathematics, one latent row at a time, over the ideal numbers: what a row of each call holds, as a
   function of the row of `x`, the modulation of that row's sample, the gains and the weights. Both the kernel and the
   reference of a call are read off against these definitions, so neither is unfolded against the other. -/
module

public import Idealize.ShloMosaic.Lib.Pointwise

@[expose] public section

noncomputable section

open Idealize.ShloMosaic

namespace Cert.Layer

/-- A length-`n` row's root-mean-square factor, `1 / √(mean of squares + ε)`; `len` is the length as the programs
    write it, and ε is `1e-6` as the programs write it. -/
def rmsFactor {n : ℕ} (len : EReal) (x : Fin n → EReal) : EReal :=
  Ideal.rsqrt (Ideal.div (∑ k, x k * x k) len + Ideal.ofBits .f32 0x358637BD#32)

/-- The model width, `1024.0`, as the programs write it. -/
def width : EReal := Ideal.ofBits .f32 0x44800000#32

/-- A row of width 1024 after the root-mean-square norm with gain `g`. -/
def normed (x g : Fin 1024 → EReal) (k : Fin 1024) : EReal := x k * rmsFactor width x * g k

/-- A row after the norm and the modulation `(1 + scale)·… + shift` of its sample. -/
def modulated (x g scale shift : Fin 1024 → EReal) (k : Fin 1024) : EReal :=
  normed x g k * (1 + scale k) + shift k

/-- A row times one column of a weight. -/
def dot {n : ℕ} (x w : Fin n → EReal) : EReal := ∑ k, x k * w k

/-- The sandwich update: the row plus the gated norm of the branch's row. -/
def sandwich (x u g gate : Fin 1024 → EReal) (k : Fin 1024) : EReal := x k + gate k * normed u g k

/-- The squared-ReLU activation. -/
def relu2 (h : EReal) : EReal := max h 0 * max h 0

/-- The squared-ReLU MLP of a row. -/
def mlp (h : Fin 1024 → EReal) (w1 : Fin 1024 → Fin 4096 → EReal) (w2 : Fin 4096 → Fin 1024 → EReal) (n : Fin 1024) :
    EReal :=
  dot (fun f => relu2 (dot h fun k => w1 k f)) fun f => w2 f n

/-- The row after the branch: its output projected, normed, gated and added. -/
def projected {n : ℕ} (x : Fin 1024 → EReal) (a : Fin n → EReal) (w : Fin n → Fin 1024 → EReal)
    (g gate : Fin 1024 → EReal) : Fin 1024 → EReal :=
  sandwich x (fun k => dot a fun l => w l k) g gate

/-- The row after the branch and the MLP: `projected`, then the MLP of its modulated norm, again normed, gated and added. -/
def block {n : ℕ} (x : Fin 1024 → EReal) (a : Fin n → EReal) (w : Fin n → Fin 1024 → EReal)
    (w1 : Fin 1024 → Fin 4096 → EReal) (w2 : Fin 4096 → Fin 1024 → EReal) (g1 g2 g3 : Fin 1024 → EReal)
    (gate1 shift scale gate2 : Fin 1024 → EReal) : Fin 1024 → EReal :=
  sandwich (projected x a w g1 gate1) (mlp (modulated (projected x a w g1 gate1) g2 scale shift) w1 w2) g3 gate2

/-- Two blocks of equal rows give equal rows. -/
theorem block_congr {l : ℕ} {x x' : Fin 1024 → EReal} {a a' : Fin l → EReal} {w w' : Fin l → Fin 1024 → EReal}
    {w1 w1' : Fin 1024 → Fin 4096 → EReal} {w2 w2' : Fin 4096 → Fin 1024 → EReal}
    {g1 g1' g2 g2' g3 g3' b1 b1' b2 b2' b3 b3' b4 b4' : Fin 1024 → EReal} (n : Fin 1024)
    (hx : ∀ k, x k = x' k) (ha : ∀ k, a k = a' k) (hw : ∀ l k, w l k = w' l k) (hw1 : ∀ l k, w1 l k = w1' l k)
    (hw2 : ∀ l k, w2 l k = w2' l k) (hg1 : ∀ k, g1 k = g1' k) (hg2 : ∀ k, g2 k = g2' k) (hg3 : ∀ k, g3 k = g3' k)
    (hb1 : ∀ k, b1 k = b1' k) (hb2 : ∀ k, b2 k = b2' k) (hb3 : ∀ k, b3 k = b3' k) (hb4 : ∀ k, b4 k = b4' k) :
    block x a w w1 w2 g1 g2 g3 b1 b2 b3 b4 n = block x' a' w' w1' w2' g1' g2' g3' b1' b2' b3' b4' n := by
  obtain rfl : x = x' := funext hx
  obtain rfl : a = a' := funext ha
  obtain rfl : w = w' := funext fun l => funext (hw l)
  obtain rfl : w1 = w1' := funext fun l => funext (hw1 l)
  obtain rfl : w2 = w2' := funext fun l => funext (hw2 l)
  obtain rfl : g1 = g1' := funext hg1
  obtain rfl : g2 = g2' := funext hg2
  obtain rfl : g3 = g3' := funext hg3
  obtain rfl : b1 = b1' := funext hb1
  obtain rfl : b2 = b2' := funext hb2
  obtain rfl : b3 = b3' := funext hb3
  obtain rfl : b4 = b4' := funext hb4
  rfl

/-- Two products of equal modulated rows with equal columns are equal. -/
theorem product_congr {x x' g g' a a' b b' w w' : Fin 1024 → EReal} (hx : ∀ k, x k = x' k) (hg : ∀ k, g k = g' k)
    (ha : ∀ k, a k = a' k) (hb : ∀ k, b k = b' k) (hw : ∀ k, w k = w' k) :
    dot (modulated x g a b) w = dot (modulated x' g' a' b') w' := by
  obtain rfl : x = x' := funext hx
  obtain rfl : g = g' := funext hg
  obtain rfl : a = a' := funext ha
  obtain rfl : b = b' := funext hb
  obtain rfl : w = w' := funext hw
  rfl

end Cert.Layer

end
-- ==== Proof.Attn.Math.lean ====
/- The attention's mathematics, one query row of one head at a time, over the ideal numbers: the head norm, the rotary
   embedding as the reference writes it and as the kernel does, the softmax of each. The two rotary forms are equal for
   every input; the two softmaxes are equal when the query and the keys are real numbers, which finite gains give. -/
module

public import proofs.«01_k».proof.Proof.Layer

@[expose] public section

noncomputable section

open Idealize.ShloMosaic

namespace Cert.Attention

/-! ## Definitions -/

/-- The head width, `128.0`, as the programs write it. -/
def headLen : EReal := Ideal.ofBits .f32 0x43000000#32

/-- The start of a running maximum, `-∞`, as the programs write it. -/
def lowest : EReal := Ideal.ofBits .f32 0xFF800000#32

/-- A head's row after the root-mean-square norm with gain `g`. -/
def headNorm (x g : Fin 128 → EReal) (d : Fin 128) : EReal := x d * Layer.rmsFactor headLen x * g d

/-- The quarter turn of the rotary embedding: in each half of the row the two quarters change places, the one that
    comes first negated. -/
def turned (x : Fin 128 → EReal) (d : Fin 128) : EReal :=
  if _ : (d : ℕ) < 32 then -x ⟨d + 32, by omega⟩
  else if _ : (d : ℕ) < 64 then x ⟨d - 32, by omega⟩
  else if _ : (d : ℕ) < 96 then -x ⟨d + 32, by omega⟩
  else x ⟨d - 32, by omega⟩

/-- The rotary embedding of a row, as the reference writes it. -/
def roped (x cs sn : Fin 128 → EReal) (d : Fin 128) : EReal := x d * cs d + turned x d * sn d

/-- The sine table the kernel multiplies the row rolled down by 32 with. -/
def below (sn : Fin 128 → EReal) (d : Fin 128) : EReal :=
  if (d : ℕ) < 32 then -sn d else if (d : ℕ) < 64 then 0 else if (d : ℕ) < 96 then -sn d else 0

/-- The sine table the kernel multiplies the row rolled up by 32 with. -/
def above (sn : Fin 128 → EReal) (d : Fin 128) : EReal :=
  if (d : ℕ) < 32 then 0 else if (d : ℕ) < 64 then sn d else if (d : ℕ) < 96 then 0 else sn d

/-- The rotary embedding of a row, as the kernel writes it: two rolls of the row against two masked sine tables. -/
def rolled (x cs lo hi : Fin 128 → EReal) (d : Fin 128) : EReal :=
  x d * cs d + x ⟨(d + 32) % 128, Nat.mod_lt _ (by decide)⟩ * lo d
    + x ⟨(d + 96) % 128, Nat.mod_lt _ (by decide)⟩ * hi d

/-- The factor of the query in the kernel, `1/(√128 · ln 2)`: the scores are powers of two's exponents. -/
def factor : EReal := (((Real.sqrt 128)⁻¹ * (Real.log 2)⁻¹ : ℝ) : EReal)

/-- The kernel's unnormalised weight of key `j`: two to the power of the score less the greatest. -/
def weight {n : ℕ} (q : Fin 128 → EReal) (K : Fin n → Fin 128 → EReal) (j : Fin n) : EReal :=
  Ideal.exp2 (Layer.dot q (K j) - Finset.univ.fold max lowest fun j => Layer.dot q (K j))

/-- The kernel's attention output of one query: the weighted sum of the values over the sum of the weights. -/
def attended {n : ℕ} (q : Fin 128 → EReal) (K V : Fin n → Fin 128 → EReal) (d : Fin 128) : EReal :=
  Ideal.div (∑ j, weight q K j * V j d) (∑ j, weight q K j)

/-- The reference's scaled score of a key. -/
def scaled (q k : Fin 128 → EReal) : EReal := Ideal.div (Layer.dot k q) (Ideal.sqrt headLen)

/-- The reference's exponential of a score less the greatest. -/
def expo {n : ℕ} (q : Fin 128 → EReal) (K : Fin n → Fin 128 → EReal) (j : Fin n) : EReal :=
  Ideal.exp (scaled q (K j) - max lowest (Finset.univ.fold max lowest fun j => scaled q (K j)))

/-- The reference's attention output of one query: the values against the softmax of the scores. -/
def softmaxed {n : ℕ} (q : Fin 128 → EReal) (K V : Fin n → Fin 128 → EReal) (d : Fin 128) : EReal :=
  ∑ j, V j d * Ideal.div (expo q K j) (∑ j, expo q K j)

/-- All the keys of a group: the latents', normed and rotated, and then the context's, normed. -/
def allKeys (lat : Fin 2048 → Fin 128 → EReal) (con : Fin 256 → Fin 128 → EReal) (g : Fin 128 → EReal)
    (cs sn : Fin 2048 → Fin 128 → EReal) (j : Fin 2304) (d : Fin 128) : EReal :=
  if h : (j : ℕ) < 2048 then roped (headNorm (lat ⟨j, h⟩) g) (cs ⟨j, h⟩) (sn ⟨j, h⟩) d
  else headNorm (con ⟨j - 2048, by omega⟩) g d

/-- All the values of a group: the latents' and then the context's. -/
def allValues (lat : Fin 2048 → Fin 128 → EReal) (con : Fin 256 → Fin 128 → EReal) (j : Fin 2304) (d : Fin 128) : EReal :=
  if h : (j : ℕ) < 2048 then lat ⟨j, h⟩ d else con ⟨j - 2048, by omega⟩ d

/-! ## The rotary embedding -/

/-- The quarter turn as four joined pieces read at a place. -/
theorem turned_pieces (x : Fin 128 → EReal) (d : Fin 128) :
    (if _ : (d : ℕ) < 32 then -x ⟨32 + d, by omega⟩
      else if _ : (d : ℕ) - 32 < 32 then x ⟨d - 32, by omega⟩
      else if _ : (d : ℕ) - 32 - 32 < 32 then -x ⟨96 + (d - 32 - 32), by omega⟩
      else x ⟨64 + (d - 32 - 32 - 32), by omega⟩) = turned x d := by
  unfold turned
  split_ifs <;>
    first
    | omega
    | rfl
    | (refine congrArg x (Fin.ext ?_); simp only; omega)
    | (refine congrArg Neg.neg (congrArg x (Fin.ext ?_)); simp only; omega)

/-- The two rotary forms agree: where a masked table is zero the product is zero, and a sign moves across a product. -/
theorem rolled_eq_roped (x cs sn : Fin 128 → EReal) (d : Fin 128) :
    rolled x cs (below sn) (above sn) d = roped x cs sn d := by
  unfold rolled roped turned below above
  by_cases h1 : (d : ℕ) < 32
  · have e : (⟨(d + 32) % 128, Nat.mod_lt _ (by decide)⟩ : Fin 128) = ⟨d + 32, by omega⟩ := Fin.ext (by simp only; omega)
    simp only [h1, e, if_true, dif_pos, mul_zero, add_zero, EReal.neg_mul, mul_neg]
  by_cases h2 : (d : ℕ) < 64
  · have e : (⟨(d + 96) % 128, Nat.mod_lt _ (by decide)⟩ : Fin 128) = ⟨d - 32, by omega⟩ := Fin.ext (by simp only; omega)
    simp only [h1, h2, e, if_true, if_false, dif_pos, dif_neg, not_false_eq_true, mul_zero, add_zero]
  by_cases h3 : (d : ℕ) < 96
  · have e : (⟨(d + 32) % 128, Nat.mod_lt _ (by decide)⟩ : Fin 128) = ⟨d + 32, by omega⟩ := Fin.ext (by simp only; omega)
    simp only [h1, h2, h3, e, if_true, if_false, dif_pos, dif_neg, not_false_eq_true, mul_zero, add_zero, EReal.neg_mul,
      mul_neg]
  · have e : (⟨(d + 96) % 128, Nat.mod_lt _ (by decide)⟩ : Fin 128) = ⟨d - 32, by omega⟩ := Fin.ext (by simp only; omega)
    simp only [h1, h2, h3, e, if_false, dif_neg, not_false_eq_true, mul_zero, add_zero]

/-! ## Real numbers among the ideal ones -/

/-- An ideal number that is a real number. -/
def IsReal (x : EReal) : Prop := ∃ r : ℝ, x = (r : EReal)

theorem IsReal.neg {x : EReal} : IsReal x → IsReal (-x) := fun ⟨a, h⟩ => ⟨-a, by rw [h, EReal.coe_neg]⟩

theorem IsReal.add {x y : EReal} : IsReal x → IsReal y → IsReal (x + y) :=
  fun ⟨a, h⟩ ⟨b, k⟩ => ⟨a + b, by rw [h, k, EReal.coe_add]⟩

theorem IsReal.mul {x y : EReal} : IsReal x → IsReal y → IsReal (x * y) :=
  fun ⟨a, h⟩ ⟨b, k⟩ => ⟨a * b, by rw [h, k, EReal.coe_mul]⟩

theorem isReal_of_ne {x : EReal} (h : x ≠ ⊥) (k : x ≠ ⊤) : IsReal x := ⟨x.toReal, (EReal.coe_toReal k h).symm⟩

/-- A sum of real numbers, taken among the ideal ones. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The running maximum of real numbers from `-∞` is a real number. -/
theorem fold_max_real {n : ℕ} (hn : 0 < n) (f : Fin n → ℝ) :
    IsReal (Finset.univ.fold max ⊥ fun j => (f j : EReal)) := by
  refine isReal_of_ne (fun h => ?_) (fun h => ?_)
  · have := (Finset.fold_max_le (f := fun j => (f j : EReal)) (s := Finset.univ) (b := ⊥) ⊥).1 h.le
    exact absurd (this.2 ⟨0, hn⟩ (Finset.mem_univ _)) (by simp)
  · have := (Finset.fold_max_lt (f := fun j => (f j : EReal)) (s := Finset.univ) (b := ⊥) ⊤).2
      ⟨by simp, fun j _ => EReal.coe_lt_top _⟩
    exact absurd h this.ne

theorem headLen_eq : headLen = ((128 : ℝ) : EReal) := by
  simp [headLen, Ideal.ofBits, Ideal.ieee, -EReal.coe_mul]; norm_num

theorem lowest_eq : lowest = ⊥ := by
  simp [lowest, Ideal.ofBits, Ideal.ieee]

/-- The ε of the norm is a positive real number. -/
theorem epsilon_pos : ∃ e : ℝ, 0 < e ∧ Ideal.ofBits .f32 0x358637BD#32 = (e : EReal) := by
  refine ⟨_, ?_, by simp [Ideal.ofBits, Ideal.ieee, -EReal.coe_mul]; rfl⟩
  norm_num

theorem square_nonneg (x : EReal) : 0 ≤ x * x := by
  rcases le_total 0 x with h | h
  · exact mul_nonneg h h
  · rw [← neg_mul_neg]; exact mul_nonneg (EReal.neg_nonneg.2 h) (EReal.neg_nonneg.2 h)

/-- A row over its root mean square is real: a row with an infinite entry has the factor zero. -/
theorem norm_real (x : Fin 128 → EReal) (d : Fin 128) : IsReal (x d * Layer.rmsFactor headLen x) := by
  obtain ⟨e, he, hε⟩ := epsilon_pos
  unfold Layer.rmsFactor
  rw [hε, headLen_eq, Ideal.div_coe (by norm_num)]
  by_cases hx : ∀ k, IsReal (x k)
  · choose r hr using hx
    have hs : ∑ k, x k * x k = ((∑ k, r k * r k : ℝ) : EReal) := by
      rw [coe_sum]; exact Finset.sum_congr rfl fun k _ => by rw [hr k, EReal.coe_mul]
    have h0 : 0 ≤ ∑ k, r k * r k := Finset.sum_nonneg fun k _ => mul_self_nonneg _
    have hp : 0 < (∑ k, r k * r k) * (1 / 128) + e := by positivity
    rw [hs, ← EReal.coe_mul, ← EReal.coe_add, Ideal.rsqrt_coe, if_neg hp.not_gt, if_neg hp.ne', hr d]
    exact ⟨_, (EReal.coe_mul _ _).symm⟩
  · obtain ⟨k, hk⟩ := not_forall.1 hx
    have hsq : x k * x k = ⊤ := by
      rcases eq_or_ne (x k) ⊥ with h | h
      · rw [h]; rfl
      · rcases eq_or_ne (x k) ⊤ with h' | h'
        · rw [h']; rfl
        · exact absurd (isReal_of_ne h h') hk
    have hs : ∑ k, x k * x k = ⊤ :=
      top_le_iff.1 (hsq ▸ Finset.single_le_sum (f := fun k => x k * x k) (fun k _ => square_nonneg (x k)) (Finset.mem_univ k))
    rw [hs, EReal.top_mul_coe_of_pos (by norm_num), EReal.top_add_coe, Ideal.rsqrt_top, mul_zero]
    exact ⟨0, rfl⟩

/-- The head norm with a real gain is real. -/
theorem headNorm_real (x g : Fin 128 → EReal) (hg : ∀ d, IsReal (g d)) (d : Fin 128) : IsReal (headNorm x g d) :=
  (norm_real x d).mul (hg d)

/-- The rotary embedding of a real row by real tables is real. -/
theorem roped_real (x cs sn : Fin 128 → EReal) (hx : ∀ d, IsReal (x d)) (hc : ∀ d, IsReal (cs d))
    (hs : ∀ d, IsReal (sn d)) (d : Fin 128) : IsReal (roped x cs sn d) := by
  refine ((hx d).mul (hc d)).add (IsReal.mul ?_ (hs d))
  unfold turned
  split_ifs
  exacts [(hx _).neg, hx _, (hx _).neg, hx _]

/-! ## The softmax -/

/-- A nonnegative real factor moves into a sum, whatever the terms. -/
theorem sum_mul_real {n : ℕ} (f : Fin n → EReal) (c : ℝ) (hc : 0 ≤ c) :
    (∑ j, f j) * (c : EReal) = ∑ j, f j * (c : EReal) := by
  have key : ∀ s : Finset (Fin n), (∑ j ∈ s, f j) * (c : EReal) = ∑ j ∈ s, f j * (c : EReal) := fun s => by
    classical
    induction s using Finset.induction_on with
    | empty => simp
    | insert i s hi ih =>
      rw [Finset.sum_insert hi, Finset.sum_insert hi, ← ih]
      exact EReal.right_distrib_of_nonneg_of_ne_top (by exact_mod_cast hc) (EReal.coe_ne_top _) _ _
  exact key _

/-- The kernel's attention, its query scaled by `1/(√128 · ln 2)` and its weights powers of two, is the reference's. -/
theorem attended_eq_softmaxed {n : ℕ} (hn : 0 < n) (q : Fin 128 → EReal) (K V : Fin n → Fin 128 → EReal)
    (hq : ∀ d, IsReal (q d)) (hK : ∀ j d, IsReal (K j d)) (d : Fin 128) :
    attended (fun d => q d * factor) K V d = softmaxed q K V d := by
  choose r hr using hq
  choose k hk using hK
  have hl : (0 : ℝ) < Real.log 2 := Real.log_pos (by norm_num)
  have hw : (0 : ℝ) < Real.sqrt 128 := by positivity
  let a : Fin n → ℝ := fun j => (∑ d, k j d * r d) * (1 / Real.sqrt 128)
  have hdot : ∀ j, Layer.dot (fun d => q d * factor) (K j) = ((a j * (Real.log 2)⁻¹ : ℝ) : EReal) := fun j => by
    unfold Layer.dot
    have : a j * (Real.log 2)⁻¹ = ∑ d, r d * ((Real.sqrt 128)⁻¹ * (Real.log 2)⁻¹) * k j d := by
      simp only [a, Finset.sum_mul]; exact Finset.sum_congr rfl fun d _ => by ring
    rw [this, coe_sum]
    exact Finset.sum_congr rfl fun d _ => by
      show q d * factor * K j d = _; rw [hr, hk, factor, EReal.coe_mul (_ * _) (k j d), EReal.coe_mul (r d)]
  have hscaled : ∀ j, scaled q (K j) = (a j : EReal) := fun j => by
    unfold scaled Layer.dot
    rw [headLen_eq, Ideal.sqrt_coe, if_neg (by norm_num), Ideal.div_coe hw.ne', EReal.coe_mul, coe_sum]
    exact congrArg (· * _) (Finset.sum_congr rfl fun d _ => by rw [hr, hk, EReal.coe_mul])
  obtain ⟨M, hM⟩ := fold_max_real hn fun j => a j * (Real.log 2)⁻¹
  obtain ⟨M', hM'⟩ := fold_max_real hn a
  have hweight : ∀ j, weight (fun d => q d * factor) K j = ((Real.exp (a j) * Real.exp (-(Real.log 2 * M)) : ℝ) : EReal) :=
    fun j => by
      unfold weight
      simp only [hdot, lowest_eq]
      rw [hM, ← EReal.coe_sub, Ideal.exp2_coe]
      refine congrArg _ ?_
      show (2 : ℝ) ^ (_ : ℝ) = _
      rw [Real.rpow_def_of_pos (by norm_num), ← Real.exp_add]
      exact congrArg _ (by field_simp; ring)
  have hexpo : ∀ j, expo q K j = ((Real.exp (a j) * Real.exp (-M') : ℝ) : EReal) := fun j => by
    unfold expo
    simp only [hscaled, lowest_eq]
    rw [hM', bot_sup_eq, ← EReal.coe_sub, Ideal.exp_coe, ← Real.exp_add, sub_eq_add_neg]
  have hE : 0 < ∑ j, Real.exp (a j) :=
    Finset.sum_pos (fun j _ => Real.exp_pos _) ⟨⟨0, hn⟩, Finset.mem_univ _⟩
  unfold attended softmaxed
  simp only [hweight, hexpo]
  rw [← coe_sum, ← coe_sum, ← Finset.sum_mul, ← Finset.sum_mul,
    Ideal.div_coe (by positivity), sum_mul_real _ _ (by positivity)]
  refine Finset.sum_congr rfl fun j _ => ?_
  rw [Ideal.div_coe (by positivity), mul_comm _ (V j d), mul_assoc, ← EReal.coe_mul, ← EReal.coe_mul]
  refine congrArg (fun z : ℝ => V j d * (z : EReal)) ?_
  have h1 := Real.exp_pos (-(Real.log 2 * M))
  have h2 := Real.exp_pos (-M')
  field_simp

end Cert.Attention

end
-- ==== Proof.Attn.Reference.lean ====
/- The reference of the latents' grouped-query attention, read at an index: row `s` of sample `b` of its result is, head by
   head, `Attention.softmaxed` of the head's rotated query against the keys and values of its group. -/
module

public import proofs.«01_k».proof.Proof.Attn.Math
public import proofs.«01_k».proof.Proof.Gen.AttnRefIdeal

@[expose] public section

set_option maxRecDepth 16384

noncomputable section

open Idealize.ShloMosaic Idealize.ShloMosaic.TcCoe Idealize.SL.Sem

namespace Cert.AttnRefIdeal.Spec

open Cert.AttnRefIdeal Cert.AttnRefIdeal.Gen

/-! ## The reference's stages -/

/-- The latents' queries, by group and head. -/
def latentQueries (x : FVec Ideal S16x2048x1536 .f32) : FVec Ideal S16x2048x2x4x128 .f32 :=
  shapeCast _ (extractStridedSlice S16x2048x1024 ![0, 0, 0] x slices_S16x2048x1536_S16x2048x1024_0_0_0)
    shapeCasts_S16x2048x1024_S16x2048x2x4x128

/-- The queries after the head norm. -/
def normedQueries (x : FVec Ideal S16x2048x1536 .f32) (qg : FVec Ideal S128 .f32) : FVec Ideal S16x2048x2x4x128 .f32 :=
  mulf (mulf (latentQueries x) (broadcastInDim S16x2048x2x4x128 ![0, 1, 2, 3, 4]
    bcast_S16x2048x2x4x1_S16x2048x2x4x128_0_1_2_3_4 (Host.rsqrt (addf (Host.divf (broadcastInDim S16x2048x2x4x1 ![0,
    1, 2, 3] bcast_S16x2048x2x4_S16x2048x2x4x1_0_1_2_3 (Host.reduceAdd (mulf (latentQueries x) (latentQueries x))
    (constant S_ .f32 0x00000000#32) reducesTo_S16x2048x2x4x128_S16x2048x2x4_d4 h_S_)) (broadcastInDim S16x2048x2x4x1
    ![] bcast_S_S16x2048x2x4x1 (constant S_ .f32 0x43000000#32))) (broadcastInDim S16x2048x2x4x1 ![]
    bcast_S_S16x2048x2x4x1 (constant S_ .f32 0x358637BD#32)))))) (broadcastInDim S16x2048x2x4x128 ![0, 1, 2, 3, 4]
    bcast_S1x1x1x1x128_S16x2048x2x4x128_0_1_2_3_4 (broadcastInDim S1x1x1x1x128 ![4] bcast_S128_S1x1x1x1x128_4 qg))

/-- The latents' keys, by group. -/
def latentKeys (x : FVec Ideal S16x2048x1536 .f32) : FVec Ideal S16x2048x2x128 .f32 :=
  shapeCast _ (extractStridedSlice S16x2048x256 ![0, 0, 1024] x slices_S16x2048x1536_S16x2048x256_0_0_1024)
    shapeCasts_S16x2048x256_S16x2048x2x128

/-- The latents' keys after the head norm. -/
def normedKeys (x : FVec Ideal S16x2048x1536 .f32) (kg : FVec Ideal S128 .f32) : FVec Ideal S16x2048x2x128 .f32 :=
  mulf (mulf (latentKeys x) (broadcastInDim S16x2048x2x128 ![0, 1, 2, 3] bcast_S16x2048x2x1_S16x2048x2x128_0_1_2_3
    (Host.rsqrt (addf (Host.divf (broadcastInDim S16x2048x2x1 ![0, 1, 2] bcast_S16x2048x2_S16x2048x2x1_0_1_2
    (Host.reduceAdd (mulf (latentKeys x) (latentKeys x)) (constant S_ .f32 0x00000000#32)
    reducesTo_S16x2048x2x128_S16x2048x2_d3 h_S_)) (broadcastInDim S16x2048x2x1 ![] bcast_S_S16x2048x2x1 (constant S_
    .f32 0x43000000#32))) (broadcastInDim S16x2048x2x1 ![] bcast_S_S16x2048x2x1 (constant S_ .f32 0x358637BD#32))))))
    (broadcastInDim S16x2048x2x128 ![0, 1, 2, 3] bcast_S1x1x1x128_S16x2048x2x128_0_1_2_3 (broadcastInDim S1x1x1x128
    ![3] bcast_S128_S1x1x1x128_3 kg))

/-- The context's keys, by group. -/
def contextKeys (ctx : FVec Ideal S16x256x1536 .f32) : FVec Ideal S16x256x2x128 .f32 :=
  shapeCast _ (extractStridedSlice S16x256x256 ![0, 0, 1024] ctx slices_S16x256x1536_S16x256x256_0_0_1024)
    shapeCasts_S16x256x256_S16x256x2x128

/-- The latents' positions. -/
def positions : IVec S2048 32 :=
  iotaInDim S2048 32 0

/-- The positions over 64, rounded towards zero. -/
def quotients : IVec S2048 32 :=
  Host.divsi positions (broadcastInDim S2048 ![] bcast_S_S2048 (constantI S_ 32 64#32))

/-- The divisor 64 of the remainder, as the program guards it against zero. -/
def side : IVec S_ 32 :=
  select (cmpi .eq (constantI S_ 32 64#32) (constantI S_ 32 0#32)) (constantI S_ 32 1#32) (constantI S_ 32 64#32)

/-- The positions' remainders by 64. -/
def remainders : IVec S2048 32 :=
  Host.remsi positions (broadcastInDim S2048 ![] bcast_S_S2048 side)

/-- The rotary frequencies. -/
def frequencies : FVec Ideal S32 .f32 :=
  Host.powf (broadcastInDim S32 ![] bcast_S_S32 (constant S_ .f32 0x461C4000#32)) (Host.divf (Host.negf (sitofp .f32
    (iotaInDim S32 32 0))) (broadcastInDim S32 ![] bcast_S_S32 (constant S_ .f32 0x42000000#32)))

/-- The angles of the positions' rows in the 64 by 32 grid. -/
def rowAngles : FVec Ideal S2048x32 .f32 :=
  mulf (broadcastInDim S2048x32 ![0, 1] bcast_S2048x1_S2048x32_0_1 (broadcastInDim S2048x1 ![0] bcast_S2048_S2048x1_0
    (sitofp .f32 (select (andi (cmpi .ne (signi positions) (broadcastInDim S2048 ![] bcast_S_S2048 (signi (constantI
    S_ 32 64#32)))) (cmpi .ne (Host.remsi positions (broadcastInDim S2048 ![] bcast_S_S2048 (constantI S_ 32 64#32)))
    (broadcastInDim S2048 ![] bcast_S_S2048 (constantI S_ 32 0#32)))) (subi quotients (broadcastInDim S2048 ![]
    bcast_S_S2048 (constantI S_ 32 1#32))) quotients)))) (broadcastInDim S2048x32 ![0, 1] bcast_S1x32_S2048x32_0_1
    (broadcastInDim S1x32 ![1] bcast_S32_S1x32_1 frequencies))

/-- The angles of the positions' columns. -/
def colAngles : FVec Ideal S2048x32 .f32 :=
  mulf (broadcastInDim S2048x32 ![0, 1] bcast_S2048x1_S2048x32_0_1 (broadcastInDim S2048x1 ![0] bcast_S2048_S2048x1_0
    (sitofp .f32 (select (andi (cmpi .ne (cmpi .slt remainders (broadcastInDim S2048 ![] bcast_S_S2048 (constantI S_
    32 0#32))) (broadcastInDim S2048 ![] bcast_S_S2048 (cmpi .slt side (constantI S_ 32 0#32)))) (cmpi .ne remainders
    (broadcastInDim S2048 ![] bcast_S_S2048 (constantI S_ 32 0#32)))) (addi remainders (broadcastInDim S2048 ![]
    bcast_S_S2048 side)) remainders)))) (broadcastInDim S2048x32 ![0, 1] bcast_S1x32_S2048x32_0_1 (broadcastInDim
    S1x32 ![1] bcast_S32_S1x32_1 frequencies))

/-- The cosine table. -/
def cosines : FVec Ideal S2048x128 .f32 :=
  (concatenate S2048x128 1 [⟨S2048x32, ((Host.cos rowAngles) : FVec Ideal S2048x32 .f32)⟩, ⟨S2048x32, ((Host.cos
    rowAngles) : FVec Ideal S2048x32 .f32)⟩, ⟨S2048x32, ((Host.cos colAngles) : FVec Ideal S2048x32 .f32)⟩,
    ⟨S2048x32, ((Host.cos colAngles) : FVec Ideal S2048x32 .f32)⟩]
    concatenates_S2048x32_S2048x32_S2048x32_S2048x32_S2048x128_d1 : FVec Ideal S2048x128 .f32)

/-- The sine table. -/
def sines : FVec Ideal S2048x128 .f32 :=
  (concatenate S2048x128 1 [⟨S2048x32, ((Host.sin rowAngles) : FVec Ideal S2048x32 .f32)⟩, ⟨S2048x32, ((Host.sin
    rowAngles) : FVec Ideal S2048x32 .f32)⟩, ⟨S2048x32, ((Host.sin colAngles) : FVec Ideal S2048x32 .f32)⟩,
    ⟨S2048x32, ((Host.sin colAngles) : FVec Ideal S2048x32 .f32)⟩]
    concatenates_S2048x32_S2048x32_S2048x32_S2048x32_S2048x128_d1 : FVec Ideal S2048x128 .f32)

/-- The rotated queries. -/
def rotatedQueries (x : FVec Ideal S16x2048x1536 .f32) (qg : FVec Ideal S128 .f32) : FVec Ideal S16x2048x2x4x128 .f32 :=
  addf (mulf (normedQueries x qg) (broadcastInDim S16x2048x2x4x128 ![0, 1, 2, 3, 4]
    bcast_S1x2048x1x1x128_S16x2048x2x4x128_0_1_2_3_4 (broadcastInDim S1x2048x1x1x128 ![1, 2, 3, 4]
    bcast_S2048x1x1x128_S1x2048x1x1x128_1_2_3_4 (shapeCast _ cosines shapeCasts_S2048x128_S2048x1x1x128)))) (mulf
    ((concatenate S16x2048x2x4x128 4 [⟨S16x2048x2x4x32, ((Host.negf (extractStridedSlice S16x2048x2x4x32 ![0, 0, 0,
    0, 32] (normedQueries x qg) slices_S16x2048x2x4x128_S16x2048x2x4x32_0_0_0_0_32)) : FVec Ideal S16x2048x2x4x32
    .f32)⟩, ⟨S16x2048x2x4x32, ((extractStridedSlice S16x2048x2x4x32 ![0, 0, 0, 0, 0] (normedQueries x qg)
    slices_S16x2048x2x4x128_S16x2048x2x4x32_0_0_0_0_0) : FVec Ideal S16x2048x2x4x32 .f32)⟩, ⟨S16x2048x2x4x32,
    ((Host.negf (extractStridedSlice S16x2048x2x4x32 ![0, 0, 0, 0, 96] (normedQueries x qg)
    slices_S16x2048x2x4x128_S16x2048x2x4x32_0_0_0_0_96)) : FVec Ideal S16x2048x2x4x32 .f32)⟩, ⟨S16x2048x2x4x32,
    ((extractStridedSlice S16x2048x2x4x32 ![0, 0, 0, 0, 64] (normedQueries x qg)
    slices_S16x2048x2x4x128_S16x2048x2x4x32_0_0_0_0_64) : FVec Ideal S16x2048x2x4x32 .f32)⟩]
    concatenates_S16x2048x2x4x32_S16x2048x2x4x32_S16x2048x2x4x32_S16x2048x2x4x32_S16x2048x2x4x128_d4 : FVec Ideal
    S16x2048x2x4x128 .f32)) (broadcastInDim S16x2048x2x4x128 ![0, 1, 2, 3, 4]
    bcast_S1x2048x1x1x128_S16x2048x2x4x128_0_1_2_3_4 (broadcastInDim S1x2048x1x1x128 ![1, 2, 3, 4]
    bcast_S2048x1x1x128_S1x2048x1x1x128_1_2_3_4 (shapeCast _ sines shapeCasts_S2048x128_S2048x1x1x128))))

/-- The rotated keys of the latents. -/
def rotatedKeys (x : FVec Ideal S16x2048x1536 .f32) (kg : FVec Ideal S128 .f32) : FVec Ideal S16x2048x2x128 .f32 :=
  addf (mulf (normedKeys x kg) (broadcastInDim S16x2048x2x128 ![0, 1, 2, 3]
    bcast_S1x2048x1x128_S16x2048x2x128_0_1_2_3 (broadcastInDim S1x2048x1x128 ![1, 2, 3]
    bcast_S2048x1x128_S1x2048x1x128_1_2_3 (shapeCast _ cosines shapeCasts_S2048x128_S2048x1x128)))) (mulf
    ((concatenate S16x2048x2x128 3 [⟨S16x2048x2x32, ((Host.negf (extractStridedSlice S16x2048x2x32 ![0, 0, 0, 32]
    (normedKeys x kg) slices_S16x2048x2x128_S16x2048x2x32_0_0_0_32)) : FVec Ideal S16x2048x2x32 .f32)⟩,
    ⟨S16x2048x2x32, ((extractStridedSlice S16x2048x2x32 ![0, 0, 0, 0] (normedKeys x kg)
    slices_S16x2048x2x128_S16x2048x2x32_0_0_0_0) : FVec Ideal S16x2048x2x32 .f32)⟩, ⟨S16x2048x2x32, ((Host.negf
    (extractStridedSlice S16x2048x2x32 ![0, 0, 0, 96] (normedKeys x kg)
    slices_S16x2048x2x128_S16x2048x2x32_0_0_0_96)) : FVec Ideal S16x2048x2x32 .f32)⟩, ⟨S16x2048x2x32,
    ((extractStridedSlice S16x2048x2x32 ![0, 0, 0, 64] (normedKeys x kg)
    slices_S16x2048x2x128_S16x2048x2x32_0_0_0_64) : FVec Ideal S16x2048x2x32 .f32)⟩]
    concatenates_S16x2048x2x32_S16x2048x2x32_S16x2048x2x32_S16x2048x2x32_S16x2048x2x128_d3 : FVec Ideal
    S16x2048x2x128 .f32)) (broadcastInDim S16x2048x2x128 ![0, 1, 2, 3] bcast_S1x2048x1x128_S16x2048x2x128_0_1_2_3
    (broadcastInDim S1x2048x1x128 ![1, 2, 3] bcast_S2048x1x128_S1x2048x1x128_1_2_3 (shapeCast _ sines
    shapeCasts_S2048x128_S2048x1x128))))

/-- The context's keys after the head norm. -/
def normedContextKeys (ctx : FVec Ideal S16x256x1536 .f32) (kg : FVec Ideal S128 .f32) :
    FVec Ideal S16x256x2x128 .f32 :=
  mulf (mulf (contextKeys ctx) (broadcastInDim S16x256x2x128 ![0, 1, 2, 3] bcast_S16x256x2x1_S16x256x2x128_0_1_2_3
    (Host.rsqrt (addf (Host.divf (broadcastInDim S16x256x2x1 ![0, 1, 2] bcast_S16x256x2_S16x256x2x1_0_1_2
    (Host.reduceAdd (mulf (contextKeys ctx) (contextKeys ctx)) (constant S_ .f32 0x00000000#32)
    reducesTo_S16x256x2x128_S16x256x2_d3 h_S_)) (broadcastInDim S16x256x2x1 ![] bcast_S_S16x256x2x1 (constant S_ .f32
    0x43000000#32))) (broadcastInDim S16x256x2x1 ![] bcast_S_S16x256x2x1 (constant S_ .f32 0x358637BD#32))))))
    (broadcastInDim S16x256x2x128 ![0, 1, 2, 3] bcast_S1x1x1x128_S16x256x2x128_0_1_2_3 (broadcastInDim S1x1x1x128
    ![3] bcast_S128_S1x1x1x128_3 kg))

/-- All the keys: the latents' and the context's. -/
def keys (x : FVec Ideal S16x2048x1536 .f32) (ctx : FVec Ideal S16x256x1536 .f32) (kg : FVec Ideal S128 .f32) :
    FVec Ideal S16x2304x2x128 .f32 :=
  concatenate S16x2304x2x128 1 [⟨S16x2048x2x128, rotatedKeys x kg⟩, ⟨S16x256x2x128, normedContextKeys ctx kg⟩]
    concatenates_S16x2048x2x128_S16x256x2x128_S16x2304x2x128_d1

/-- The products of keys and queries. -/
def products (x : FVec Ideal S16x2048x1536 .f32) (ctx : FVec Ideal S16x256x1536 .f32) (qg : FVec Ideal S128 .f32) (kg : FVec Ideal S128 .f32) :
    FVec Ideal S16x2x4x2048x2304 .f32 :=
  transpose S16x2x4x2048x2304 [0, 1, 4, 3, 2] (Host.dotGeneral
    dot_S16x2304x2x128_S16x2048x2x4x128_S16x2x2304x2048x4_3_4_1_13_02_02 none (keys x ctx kg) (rotatedQueries x qg))
    transposes_S16x2x2304x2048x4_S16x2x4x2048x2304_0_1_4_3_2

/-- The scaled scores. -/
def scores (x : FVec Ideal S16x2048x1536 .f32) (ctx : FVec Ideal S16x256x1536 .f32) (qg : FVec Ideal S128 .f32) (kg : FVec Ideal S128 .f32) :
    FVec Ideal S16x2x4x2048x2304 .f32 :=
  Host.divf (products x ctx qg kg) (broadcastInDim S16x2x4x2048x2304 ![] bcast_S_S16x2x4x2048x2304 (Host.sqrt
    (constant S_ .f32 0x43000000#32)))

/-- The greatest entry of every row of an array. -/
def greatest (y : FVec Ideal S16x2x4x2048x2304 .f32) : FVec Ideal S16x2x4x2048 .f32 :=
  Host.reduce FloatOps.maximumf y (constant S_ .f32 0xFF800000#32) reducesTo_S16x2x4x2048x2304_S16x2x4x2048_d4 h_S_

/-- The exponentials of an array's entries less an array of bounds, one for each row, themselves at least `-∞`. -/
def exponentialsBy (y : FVec Ideal S16x2x4x2048x2304 .f32) (z : FVec Ideal S16x2x4x2048 .f32) :
    FVec Ideal S16x2x4x2048x2304 .f32 :=
  Host.exp (subf y (broadcastInDim S16x2x4x2048x2304 ![0, 1, 2, 3, 4]
    bcast_S16x2x4x2048x1_S16x2x4x2048x2304_0_1_2_3_4 (broadcastInDim S16x2x4x2048x1 ![0, 1, 2, 3]
    bcast_S16x2x4x2048_S16x2x4x2048x1_0_1_2_3 (maximumf (broadcastInDim S16x2x4x2048 ![] bcast_S_S16x2x4x2048
    (constant S_ .f32 0xFF800000#32)) z))))

/-- The exponentials of the scores less the greatest. -/
def exponentials (x : FVec Ideal S16x2048x1536 .f32) (ctx : FVec Ideal S16x256x1536 .f32) (qg kg : FVec Ideal S128 .f32) :
    FVec Ideal S16x2x4x2048x2304 .f32 :=
  exponentialsBy (scores x ctx qg kg) (greatest (scores x ctx qg kg))

/-- All the values: the latents' and the context's. -/
def values (x : FVec Ideal S16x2048x1536 .f32) (ctx : FVec Ideal S16x256x1536 .f32) : FVec Ideal S16x2304x2x128 .f32 :=
  concatenate S16x2304x2x128 1 [⟨S16x2048x2x128, (shapeCast _ (extractStridedSlice S16x2048x256 ![0, 0, 1280] x
    slices_S16x2048x1536_S16x2048x256_0_0_1280) shapeCasts_S16x2048x256_S16x2048x2x128)⟩, ⟨S16x256x2x128, (shapeCast
    _ (extractStridedSlice S16x256x256 ![0, 0, 1280] ctx slices_S16x256x1536_S16x256x256_0_0_1280)
    shapeCasts_S16x256x256_S16x256x2x128)⟩] concatenates_S16x2048x2x128_S16x256x2x128_S16x2304x2x128_d1

/-- The reference's result. -/
def result (x : FVec Ideal S16x2048x1536 .f32) (ctx : FVec Ideal S16x256x1536 .f32) (qg : FVec Ideal S128 .f32) (kg : FVec Ideal S128 .f32) :
    FVec Ideal S16x2048x1024 .bf16 :=
  truncf .bf16 (shapeCast _ (transpose S16x2048x2x4x128 [0, 4, 1, 3, 2] (Host.dotGeneral
    dot_S16x2304x2x128_S16x2x4x2048x2304_S16x2x128x4x2048_1_4_3_23_02_01 none (values x ctx) (Host.divf (exponentials
    x ctx qg kg) (broadcastInDim S16x2x4x2048x2304 ![0, 1, 2, 3, 4] bcast_S16x2x4x2048x1_S16x2x4x2048x2304_0_1_2_3_4
    (broadcastInDim S16x2x4x2048x1 ![0, 1, 2, 3] bcast_S16x2x4x2048_S16x2x4x2048x1_0_1_2_3 (Host.reduceAdd
    (exponentials x ctx qg kg) (constant S_ .f32 0x00000000#32) reducesTo_S16x2x4x2048x2304_S16x2x4x2048_d4 h_S_)))))
    transposes_S16x2x128x4x2048_S16x2048x2x4x128_0_4_1_3_2) shapeCasts_S16x2048x2x4x128_S16x2048x1024)
    bitsLt_bf16_f32

/-! ## The stages at an index -/

/-- A query is a stretch of 128 of its row. -/
theorem latentQueries_at (x : FVec Ideal S16x2048x1536 .f32) (b : Fin 16) (s : Fin 2048) (g : Fin 2) (h : Fin 4)
    (d : Fin 128) : latentQueries x (ix5 b s g h d) = x (ix3 b s ⟨((g : ℕ) * 4 + h) * 128 + d, by omega⟩) := by
  pointwise [latentQueries]
  exact congrArg x (congrArg (ix3 b s) (Fin.ext (by simp only; omega)))

theorem latentKeys_at (x : FVec Ideal S16x2048x1536 .f32) (b : Fin 16) (s : Fin 2048) (g : Fin 2) (d : Fin 128) :
    latentKeys x (ix4 b s g d) = x (ix3 b s ⟨1024 + ((g : ℕ) * 128 + d), by omega⟩) := by
  pointwise [latentKeys]

theorem contextKeys_at (ctx : FVec Ideal S16x256x1536 .f32) (b : Fin 16) (s : Fin 256) (g : Fin 2) (d : Fin 128) :
    contextKeys ctx (ix4 b s g d) = ctx (ix3 b s ⟨1024 + ((g : ℕ) * 128 + d), by omega⟩) := by
  pointwise [contextKeys]

theorem normedQueries_at (x : FVec Ideal S16x2048x1536 .f32) (qg : FVec Ideal S128 .f32) (b : Fin 16) (s : Fin 2048)
    (g : Fin 2) (h : Fin 4) (d : Fin 128) : normedQueries x qg (ix5 b s g h d)
      = Attention.headNorm (fun d => latentQueries x (ix5 b s g h d)) (fun d => qg (ix1 d)) d := by
  pointwise! [normedQueries, Attention.headNorm, Layer.rmsFactor, Attention.headLen]

theorem normedKeys_at (x : FVec Ideal S16x2048x1536 .f32) (kg : FVec Ideal S128 .f32) (b : Fin 16) (s : Fin 2048)
    (g : Fin 2) (d : Fin 128) : normedKeys x kg (ix4 b s g d)
      = Attention.headNorm (fun d => latentKeys x (ix4 b s g d)) (fun d => kg (ix1 d)) d := by
  pointwise! [normedKeys, Attention.headNorm, Layer.rmsFactor, Attention.headLen]

theorem normedContextKeys_at (ctx : FVec Ideal S16x256x1536 .f32) (kg : FVec Ideal S128 .f32) (b : Fin 16) (s : Fin 256)
    (g : Fin 2) (d : Fin 128) : normedContextKeys ctx kg (ix4 b s g d)
      = Attention.headNorm (fun d => contextKeys ctx (ix4 b s g d)) (fun d => kg (ix1 d)) d := by
  pointwise! [normedContextKeys, Attention.headNorm, Layer.rmsFactor, Attention.headLen]

theorem rotatedQueries_at (x : FVec Ideal S16x2048x1536 .f32) (qg : FVec Ideal S128 .f32) (b : Fin 16) (s : Fin 2048)
    (g : Fin 2) (h : Fin 4) (d : Fin 128) : rotatedQueries x qg (ix5 b s g h d)
      = Attention.roped (fun d => normedQueries x qg (ix5 b s g h d)) (fun d => cosines (ix2 s d))
          (fun d => sines (ix2 s d)) d := by
  pointwise [rotatedQueries, Attention.roped]
  exact congrArg (_ + · * _) (Attention.turned_pieces (fun d => normedQueries x qg (ix5 b s g h d)) d)

theorem rotatedKeys_at (x : FVec Ideal S16x2048x1536 .f32) (kg : FVec Ideal S128 .f32) (b : Fin 16) (s : Fin 2048)
    (g : Fin 2) (d : Fin 128) : rotatedKeys x kg (ix4 b s g d)
      = Attention.roped (fun d => normedKeys x kg (ix4 b s g d)) (fun d => cosines (ix2 s d))
          (fun d => sines (ix2 s d)) d := by
  pointwise [rotatedKeys, Attention.roped]
  exact congrArg (_ + · * _) (Attention.turned_pieces (fun d => normedKeys x kg (ix4 b s g d)) d)

theorem keys_at (x : FVec Ideal S16x2048x1536 .f32) (ctx : FVec Ideal S16x256x1536 .f32) (kg : FVec Ideal S128 .f32)
    (b : Fin 16) (j : Fin 2304) (g : Fin 2) (d : Fin 128) : keys x ctx kg (ix4 b j g d)
      = Attention.allKeys (fun j d => latentKeys x (ix4 b j g d)) (fun j d => contextKeys ctx (ix4 b j g d))
          (fun d => kg (ix1 d)) (fun j d => cosines (ix2 j d)) (fun j d => sines (ix2 j d)) j d := by
  pointwise [keys, Attention.allKeys]
  simp only [rotatedKeys_at, normedKeys_at, normedContextKeys_at]

theorem values_at (x : FVec Ideal S16x2048x1536 .f32) (ctx : FVec Ideal S16x256x1536 .f32)
    (b : Fin 16) (j : Fin 2304) (g : Fin 2) (d : Fin 128) : values x ctx (ix4 b j g d)
      = Attention.allValues (fun j d => x (ix3 b j ⟨1280 + ((g : ℕ) * 128 + d), by omega⟩))
          (fun j d => ctx (ix3 b j ⟨1280 + ((g : ℕ) * 128 + d), by omega⟩)) j d := by
  pointwise [values, Attention.allValues]

theorem scores_at (x : FVec Ideal S16x2048x1536 .f32) (ctx : FVec Ideal S16x256x1536 .f32) (qg kg : FVec Ideal S128 .f32)
    (b : Fin 16) (g : Fin 2) (h : Fin 4) (s : Fin 2048) (j : Fin 2304) : scores x ctx qg kg (ix5 b g h s j)
      = Attention.scaled (fun d => rotatedQueries x qg (ix5 b s g h d)) (fun d => keys x ctx kg (ix4 b j g d)) := by
  pointwise [scores, products, Attention.scaled, Layer.dot, Attention.headLen]

theorem greatest_at (y : FVec Ideal S16x2x4x2048x2304 .f32) (b : Fin 16) (g : Fin 2) (h : Fin 4) (s : Fin 2048) :
    greatest y (ix4 b g h s) = Finset.univ.fold max Attention.lowest fun j => y (ix5 b g h s j) := by
  pointwise [greatest, Attention.lowest]

theorem exponentialsBy_at (y : FVec Ideal S16x2x4x2048x2304 .f32) (z : FVec Ideal S16x2x4x2048 .f32) (b : Fin 16)
    (g : Fin 2) (h : Fin 4) (s : Fin 2048) (j : Fin 2304) : exponentialsBy y z (ix5 b g h s j)
      = Ideal.exp (y (ix5 b g h s j) - max Attention.lowest (z (ix4 b g h s))) := by
  pointwise [exponentialsBy, Attention.lowest]

theorem exponentials_at (x : FVec Ideal S16x2048x1536 .f32) (ctx : FVec Ideal S16x256x1536 .f32)
    (qg kg : FVec Ideal S128 .f32) (b : Fin 16) (g : Fin 2) (h : Fin 4) (s : Fin 2048) (j : Fin 2304) :
    exponentials x ctx qg kg (ix5 b g h s j)
      = Attention.expo (fun d => rotatedQueries x qg (ix5 b s g h d)) (fun j d => keys x ctx kg (ix4 b j g d)) j := by
  unfold exponentials Attention.expo
  rw [exponentialsBy_at, greatest_at]
  simp only [scores_at]

theorem result_at (x : FVec Ideal S16x2048x1536 .f32) (ctx : FVec Ideal S16x256x1536 .f32)
    (qg kg : FVec Ideal S128 .f32) (b : Fin 16) (s : Fin 2048) (n : Fin 1024) (g : Fin 2) (h : Fin 4) (d : Fin 128)
    (hg : (n : ℕ) / 512 = g) (hh : (n : ℕ) / 128 % 4 = h) (hd : (n : ℕ) % 128 = d) : result x ctx qg kg (ix3 b s n)
      = Attention.softmaxed (fun d => rotatedQueries x qg (ix5 b s g h d)) (fun j d => keys x ctx kg (ix4 b j g d))
          (fun j d => values x ctx (ix4 b j g d)) d := by
  pointwise [result, Attention.softmaxed, hg, hh, hd]
  simp only [exponentials_at]

end Cert.AttnRefIdeal.Spec

end
-- ==== Proof.Attn.Tables.lean ====
/- The table of the rotary embedding that the program hands the latents' attention: a plane of cosines and two planes of
   sines, each masked for one of the kernel's two rolls; and that the cosines and the sines are real numbers. -/
module

public import proofs.«01_k».proof.Proof.Attn.Reference
public import Idealize.ShloMosaic.Lib.StableHlo.RunRead
public import proofs.«01_k».proof.Proof.Gen.AttnIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (m : (ℓ : Loc nD τ sig) → Buf (Elt Ideal) ℓ)

/-- The angles of the positions' rows. -/
def rowAngles : FVec Ideal S2048x32 .f32 := Cert.AttnRefIdeal.Spec.rowAngles

/-- The angles of the positions' columns. -/
def colAngles : FVec Ideal S2048x32 .f32 := Cert.AttnRefIdeal.Spec.colAngles

/-- A block of zeros. -/
def zeros : FVec Ideal S2048x32 .f32 := broadcastInDim S2048x32 ![] bcast_S_S2048x32 (constant S_ .f32 0x00000000#32)

/-- Four blocks side by side, as one plane of the table. -/
def plane (a b c d : FVec Ideal S2048x32 .f32) : FVec Ideal S1x2048x128 .f32 :=
  broadcastInDim S1x2048x128 ![1, 2] bcast_S2048x128_S1x2048x128_1_2
    (concatenate S2048x128 1 [⟨S2048x32, a⟩, ⟨S2048x32, b⟩, ⟨S2048x32, c⟩, ⟨S2048x32, d⟩]
      concatenates_S2048x32_S2048x32_S2048x32_S2048x32_S2048x128_d1)

/-- The three planes of the table. -/
def table (a b c : FVec Ideal S1x2048x128 .f32) : FVec Ideal S3x2048x128 .f32 :=
  concatenate S3x2048x128 0 [⟨S1x2048x128, a⟩, ⟨S1x2048x128, b⟩, ⟨S1x2048x128, c⟩]
    concatenates_S1x2048x128_S1x2048x128_S1x2048x128_S3x2048x128_d0

/-- Equal blocks make equal planes. -/
theorem plane_congr {a a' b b' c c' d d' : FVec Ideal S2048x32 .f32} (ha : a = a') (hb : b = b') (hc : c = c')
    (hd : d = d') : plane a b c d = plane a' b' c' d' := by
  rw [ha, hb, hc, hd]

/-- Equal planes make equal tables. -/
theorem table_congr {a a' b b' c c' : FVec Ideal S1x2048x128 .f32} (ha : a = a') (hb : b = b') (hc : c = c') :
    table a b c = table a' b' c' := by
  rw [ha, hb, hc]

set_option maxHeartbeats 4000000 in
/-- The table when the kernel starts. -/
theorem tables (c : Dev nD) : V m c main_v40 = table
    (plane (Host.cos rowAngles) (Host.cos rowAngles) (Host.cos colAngles) (Host.cos colAngles))
    (plane (Host.negf (Host.sin rowAngles)) zeros (Host.negf (Host.sin colAngles)) zeros)
    (plane zeros (Host.sin rowAngles) zeros (Host.sin colAngles)) := by
  unfold V
  simp only [hostOps0, hostOps0_1, hostOps0_2, hostOps0_3, hostOps0_4, List.flatten_cons, List.flatten_nil,
    List.append_nil, List.cons_append, List.nil_append]
  after_reads_simp
  refine table_congr ?_ ?_ ?_
  all_goals
    simp only [Matrix.cons_val_zero, Matrix.cons_val_one, Matrix.cons_val]
    after_reads_simp
    refine plane_congr ?_ ?_ ?_ ?_
  all_goals
    simp only [Matrix.cons_val_zero, Matrix.cons_val_one, Matrix.cons_val]
    after_reads_simp
    rfl

/-- A block of zeros, entry by entry. -/
theorem zeros_at (s : Fin 2048) (f : Fin 32) : zeros (ix2 s f) = 0 := by
  pointwise [zeros]

/-- One entry of a plane: the block it lies in. -/
theorem plane_at (a b c d : FVec Ideal S2048x32 .f32) (s : Fin 2048) (e : Fin 128) : plane a b c d (ix3 0 s e)
      = if h : (e : ℕ) < 32 then a (ix2 s ⟨e, h⟩)
        else if h1 : (e : ℕ) - 32 < 32 then b (ix2 s ⟨e - 32, h1⟩)
        else if h2 : (e : ℕ) - 32 - 32 < 32 then c (ix2 s ⟨e - 32 - 32, h2⟩)
        else d (ix2 s ⟨e - 32 - 32 - 32, by omega⟩) := by
  pointwise! [plane]

/-- The first plane of a table. -/
theorem table_at0 (a b c : FVec Ideal S1x2048x128 .f32) (s : Fin 2048) (e : Fin 128) :
    table a b c (ix3 0 s e) = a (ix3 0 s e) := by
  pointwise! [table]

/-- The second plane of a table. -/
theorem table_at1 (a b c : FVec Ideal S1x2048x128 .f32) (s : Fin 2048) (e : Fin 128) :
    table a b c (ix3 1 s e) = b (ix3 0 s e) := by
  pointwise! [table]

/-- The third plane of a table. -/
theorem table_at2 (a b c : FVec Ideal S1x2048x128 .f32) (s : Fin 2048) (e : Fin 128) :
    table a b c (ix3 2 s e) = c (ix3 0 s e) := by
  pointwise! [table]

/-- The reference's cosines, block by block. -/
theorem cosines_at (s : Fin 2048) (e : Fin 128) : Cert.AttnRefIdeal.Spec.cosines (ix2 s e)
      = if h : (e : ℕ) < 32 then Ideal.cos (rowAngles (ix2 s ⟨e, h⟩))
        else if h1 : (e : ℕ) - 32 < 32 then Ideal.cos (rowAngles (ix2 s ⟨e - 32, h1⟩))
        else if h2 : (e : ℕ) - 32 - 32 < 32 then Ideal.cos (colAngles (ix2 s ⟨e - 32 - 32, h2⟩))
        else Ideal.cos (colAngles (ix2 s ⟨e - 32 - 32 - 32, by omega⟩)) := by
  pointwise! [Cert.AttnRefIdeal.Spec.cosines, rowAngles, colAngles]

/-- The reference's sines, block by block. -/
theorem sines_at (s : Fin 2048) (e : Fin 128) : Cert.AttnRefIdeal.Spec.sines (ix2 s e)
      = if h : (e : ℕ) < 32 then Ideal.sin (rowAngles (ix2 s ⟨e, h⟩))
        else if h1 : (e : ℕ) - 32 < 32 then Ideal.sin (rowAngles (ix2 s ⟨e - 32, h1⟩))
        else if h2 : (e : ℕ) - 32 - 32 < 32 then Ideal.sin (colAngles (ix2 s ⟨e - 32 - 32, h2⟩))
        else Ideal.sin (colAngles (ix2 s ⟨e - 32 - 32 - 32, by omega⟩)) := by
  pointwise! [Cert.AttnRefIdeal.Spec.sines, rowAngles, colAngles]

/-- The table's first plane is the reference's cosines. -/
theorem plane0 (c : Dev nD) (s : Fin 2048) (e : Fin 128) :
    V m c main_v40 (ix3 0 s e) = Cert.AttnRefIdeal.Spec.cosines (ix2 s e) := by
  rw [tables, table_at0, plane_at, cosines_at]
  rfl

/-- The table's second plane is the reference's sines, masked for the roll down. -/
theorem plane1 (c : Dev nD) (s : Fin 2048) (e : Fin 128) :
    V m c main_v40 (ix3 1 s e) = Attention.below (fun e => Cert.AttnRefIdeal.Spec.sines (ix2 s e)) e := by
  rw [tables, table_at1, plane_at]
  simp only [Attention.below, sines_at]
  split_ifs <;> first | rfl | (exfalso; omega) | exact zeros_at _ _

/-- The table's third plane is the reference's sines, masked for the roll up. -/
theorem plane2 (c : Dev nD) (s : Fin 2048) (e : Fin 128) :
    V m c main_v40 (ix3 2 s e) = Attention.above (fun e => Cert.AttnRefIdeal.Spec.sines (ix2 s e)) e := by
  rw [tables, table_at2, plane_at]
  simp only [Attention.above, sines_at]
  split_ifs <;> first | rfl | (exfalso; omega) | exact zeros_at _ _

/-! ## Real numbers -/

/-- The frequencies are real. -/
theorem frequencies_real (f : Fin 32) : Attention.IsReal (Cert.AttnRefIdeal.Spec.frequencies (ix1 f)) := by
  pointwise [Cert.AttnRefIdeal.Spec.frequencies]
  rw [show (Ideal.ofBits .f32 1176256512#32 : EReal) = ((10000 : ℝ) : EReal) from by
      simp [Ideal.ofBits, Ideal.ieee, -EReal.coe_mul]; norm_num,
    show (Ideal.ofBits .f32 1107296256#32 : EReal) = ((32 : ℝ) : EReal) from by
      simp [Ideal.ofBits, Ideal.ieee, -EReal.coe_mul]; norm_num,
    Ideal.div_coe (by norm_num)]
  obtain ⟨r, hr⟩ : Attention.IsReal
      (-(FloatOps.sitofp (F := Ideal) .f32 (BitVec.ofNat 32 f) : EReal) * ((1 / 32 : ℝ) : EReal)) :=
    Attention.IsReal.mul (Attention.IsReal.neg ⟨_, rfl⟩) ⟨_, rfl⟩
  rw [hr]
  exact ⟨_, Ideal.pow_coe_coe _ _⟩

/-- The rows' angles are real. -/
theorem rowAngles_real (s : Fin 2048) (f : Fin 32) : Attention.IsReal (rowAngles (ix2 s f)) := by
  unfold rowAngles
  pointwise [Cert.AttnRefIdeal.Spec.rowAngles]
  exact Attention.IsReal.mul ⟨_, rfl⟩ (frequencies_real f)

/-- The columns' angles are real. -/
theorem colAngles_real (s : Fin 2048) (f : Fin 32) : Attention.IsReal (colAngles (ix2 s f)) := by
  unfold colAngles
  pointwise [Cert.AttnRefIdeal.Spec.colAngles]
  exact Attention.IsReal.mul ⟨_, rfl⟩ (frequencies_real f)

/-- A real number's cosine is real. -/
theorem cos_real {x : EReal} : Attention.IsReal x → Attention.IsReal (Ideal.cos x) :=
  fun ⟨r, h⟩ => ⟨Real.cos r, by rw [h, Ideal.cos_coe]⟩

/-- A real number's sine is real. -/
theorem sin_real {x : EReal} : Attention.IsReal x → Attention.IsReal (Ideal.sin x) :=
  fun ⟨r, h⟩ => ⟨Real.sin r, by rw [h, Ideal.sin_coe]⟩

/-- The cosines are real. -/
theorem cosines_real (s : Fin 2048) (e : Fin 128) : Attention.IsReal (Cert.AttnRefIdeal.Spec.cosines (ix2 s e)) := by
  rw [cosines_at]
  split_ifs
  exacts [cos_real (rowAngles_real _ _), cos_real (rowAngles_real _ _), cos_real (colAngles_real _ _),
    cos_real (colAngles_real _ _)]

/-- The sines are real. -/
theorem sines_real (s : Fin 2048) (e : Fin 128) : Attention.IsReal (Cert.AttnRefIdeal.Spec.sines (ix2 s e)) := by
  rw [sines_at]
  split_ifs
  exacts [sin_real (rowAngles_real _ _), sin_real (rowAngles_real _ _), sin_real (colAngles_real _ _),
    sin_real (colAngles_real _ _)]

end Cert.AttnIdeal.Value

end
-- ==== Proof.Attn.Kernel.lean ====
/- The body of the latents' attention, read at an index: the keys and values it stages in its scratch, and the block of
   four heads it stores, head by head `Attention.attended` of the head's rotated and scaled query. -/
module

public import proofs.«01_k».proof.Proof.Attn.Math
public import proofs.«01_k».proof.Proof.Gen.AttnIdeal.Frame

@[expose] public section

set_option maxRecDepth 16384

noncomputable section

open Idealize.ShloMosaic Idealize.ShloMosaic.TcCoe Idealize.SL.Sem

namespace Cert.AttnIdeal.Value

open Cert.AttnIdeal Cert.AttnIdeal.Gen

/-- The kernel's named factor. -/
theorem factor_eq : (Named.named (F := Ideal) (φ := .f32) κ "s" 0x3E0293EE#32 : EReal) = Attention.factor :=
  IdealRules.named_const.ideal_named_scalar κ "s" _ _ rfl

/-! ## The scratch -/

/-- The latents' keys, normed and rotated. -/
theorem latentKeys_at (x : FVec Ideal S1x2048x128 .f32) (g : FVec Ideal S1x128 .f32) (cs lo hi : FVec Ideal S1x2048x128 .f32)
    (r : Fin 2048) (d : Fin 128) : k0_pay2 (F := Ideal) x g cs lo hi (ix2 r d)
      = Attention.rolled (Attention.headNorm (fun d => x (ix3 0 r d)) fun d => g (ix2 0 d)) (fun d => cs (ix3 0 r d))
          (fun d => lo (ix3 0 r d)) (fun d => hi (ix3 0 r d)) d := by
  pointwise! [k0_pay2, Attention.rolled, Attention.headNorm, Layer.rmsFactor, Attention.headLen]

/-- The context's keys, normed. -/
theorem contextKeys_at (x : FVec Ideal S1x256x128 .f32) (g : FVec Ideal S1x128 .f32) (r : Fin 256) (d : Fin 128) :
    k0_pay5 (F := Ideal) x g (ix2 r d) = Attention.headNorm (fun d => x (ix3 0 r d)) (fun d => g (ix2 0 d)) d := by
  pointwise! [k0_pay5, Attention.headNorm, Layer.rmsFactor, Attention.headLen]

theorem latentValues_at (x : FVec Ideal S1x2048x128 .f32) (r : Fin 2048) (d : Fin 128) :
    k0_pay4 (F := Ideal) (k0_pay3 (F := Ideal) x) (ix2 r d) = x (ix3 0 r d) := by
  pointwise! [k0_pay4, k0_pay3]

theorem contextValues_at (x : FVec Ideal S1x256x128 .f32) (r : Fin 256) (d : Fin 128) :
    k0_pay6 (F := Ideal) x (ix2 r d) = x (ix3 0 r d) := by
  pointwise! [k0_pay6]

/-! ## The heads -/

/-- The first head's rotated and scaled query. -/
theorem query_at (x : FVec Ideal S1x512x128 .f32) (g : FVec Ideal S1x128 .f32) (cs lo hi : FVec Ideal S1x512x128 .f32)
    (r : Fin 512) (d : Fin 128) : k0_pay7 (F := Ideal) x g cs lo hi (ix2 r d)
      = Attention.rolled (Attention.headNorm (fun d => x (ix3 0 r d)) fun d => g (ix2 0 d)) (fun d => cs (ix3 0 r d))
          (fun d => lo (ix3 0 r d)) (fun d => hi (ix3 0 r d)) d * Attention.factor := by
  pointwise! [k0_pay7, Attention.rolled, Attention.headNorm, Layer.rmsFactor, Attention.headLen, factor_eq]

/-- The first head's output. -/
theorem head0_at (q : FVec Ideal S512x128 .f32) (K V : FVec Ideal S2304x128 .bf16) (r : Fin 512) (d : Fin 128) :
    k0_pay8 (F := Ideal) q K V (ix2 r d)
      = Attention.attended (fun d => q (ix2 r d)) (fun j d => K (ix2 j d)) (fun j d => V (ix2 j d)) d := by
  pointwise! [k0_pay8, Attention.attended, Attention.weight, Layer.dot, Attention.lowest]

/-- The second head's query before the rotation. -/
theorem normed1_at (x : FVec Ideal S1x512x128 .f32) (g : FVec Ideal S1x128 .f32) (r : Fin 512) (d : Fin 128) :
    k0_pay9 (F := Ideal) x g (ix2 r d) = Attention.headNorm (fun d => x (ix3 0 r d)) (fun d => g (ix2 0 d)) d := by
  pointwise! [k0_pay9, Attention.headNorm, Layer.rmsFactor, Attention.headLen]

/-- The second head's output, from its normed query. -/
theorem head1_at (q : FVec Ideal S512x128 .f32) (cs lo : FVec Ideal S1x512x128 .f32) (hi : FVec Ideal S1x512x128 .f32)
    (K V : FVec Ideal S2304x128 .bf16) (r : Fin 512) (d : Fin 128) :
    k0_pay12 (F := Ideal) q (k0_pay10 (F := Ideal) cs) (k0_pay11 (F := Ideal) lo) hi K V (ix2 r d)
      = Attention.attended (fun d => Attention.rolled (fun d => q (ix2 r d)) (fun d => cs (ix3 0 r d))
          (fun d => lo (ix3 0 r d)) (fun d => hi (ix3 0 r d)) d * Attention.factor) (fun j d => K (ix2 j d))
          (fun j d => V (ix2 j d)) d := by
  pointwise! [k0_pay12, k0_pay10, k0_pay11, Attention.attended, Attention.weight, Attention.rolled, Layer.dot,
    Attention.lowest, factor_eq]

/-- The third head's output. -/
theorem head2_at (x : FVec Ideal S1x512x128 .f32) (g : FVec Ideal S1x128 .f32) (cs lo hi : FVec Ideal S1x512x128 .f32)
    (K V : FVec Ideal S2304x128 .bf16) (r : Fin 512) (d : Fin 128) :
    k0_pay16 (F := Ideal) (k0_pay13 (F := Ideal) x) (k0_pay14 (F := Ideal) g) (k0_pay15 (F := Ideal) x) cs lo hi K V
        (ix2 r d)
      = Attention.attended (fun d => Attention.rolled (Attention.headNorm (fun d => x (ix3 0 r d)) fun d => g (ix2 0 d))
          (fun d => cs (ix3 0 r d)) (fun d => lo (ix3 0 r d)) (fun d => hi (ix3 0 r d)) d * Attention.factor)
          (fun j d => K (ix2 j d)) (fun j d => V (ix2 j d)) d := by
  pointwise! [k0_pay16, k0_pay13, k0_pay14, k0_pay15, Attention.attended, Attention.weight, Attention.rolled,
    Attention.headNorm, Layer.rmsFactor, Attention.headLen, Layer.dot, Attention.lowest, factor_eq]

/-- The fourth head's weights. -/
theorem weights_at (x : FVec Ideal S1x512x128 .f32) (g : FVec Ideal S1x128 .f32) (cs lo hi : FVec Ideal S1x512x128 .f32)
    (K : FVec Ideal S2304x128 .bf16) (r : Fin 512) (j : Fin 2304) :
    k0_pay18 (F := Ideal) (k0_pay17 (F := Ideal) x) g cs lo hi K (ix2 r j)
      = Attention.weight (fun d => Attention.rolled (Attention.headNorm (fun d => x (ix3 0 r d)) fun d => g (ix2 0 d))
          (fun d => cs (ix3 0 r d)) (fun d => lo (ix3 0 r d)) (fun d => hi (ix3 0 r d)) d * Attention.factor)
          (fun j d => K (ix2 j d)) j := by
  pointwise! [k0_pay18, k0_pay17, Attention.weight, Attention.rolled, Attention.headNorm, Layer.rmsFactor,
    Attention.headLen, Layer.dot, Attention.lowest, factor_eq]

/-- The sums of the fourth head's weights. -/
theorem sums_at (x : FVec Ideal S1x512x128 .f32) (g : FVec Ideal S1x128 .f32) (cs lo hi : FVec Ideal S1x512x128 .f32)
    (K : FVec Ideal S2304x128 .bf16) (r : Fin 512) :
    k0_pay19 (F := Ideal) (k0_pay17 (F := Ideal) x) g cs lo hi K (ix2 r 0)
      = ∑ j, k0_pay18 (F := Ideal) (k0_pay17 (F := Ideal) x) g cs lo hi K (ix2 r j) := by
  pointwise! [k0_pay19]

/-- The block stored: the four heads side by side. -/
theorem joined_at (a0 a1 a2 : FVec Ideal S512x128 .bf16) (w : FVec Ideal S512x2304 .f32) (l : FVec Ideal S512x1 .f32)
    (V : FVec Ideal S2304x128 .bf16) (r : Fin 512) (n : Fin 512) : k0_pay1 (F := Ideal) a0 a1 a2 w l V (ix3 0 r n)
      = if h0 : (n : ℕ) < 128 then a0 (ix2 r ⟨n, h0⟩)
        else if h1 : (n : ℕ) - 128 < 128 then a1 (ix2 r ⟨n - 128, h1⟩)
        else if h2 : (n : ℕ) - 128 - 128 < 128 then a2 (ix2 r ⟨n - 128 - 128, h2⟩)
        else Ideal.div (∑ j, w (ix2 r j) * V (ix2 j ⟨n - 128 - 128 - 128, by omega⟩)) (l (ix2 r 0)) := by
  pointwise! [k0_pay1]

/-- The block stored, from the four heads' queries as a row of 512 entries `X`, the gain, the tables and the scratch. -/
theorem block_at (x0 x1 x2 x3 : FVec Ideal S1x512x128 .f32) (g : FVec Ideal S1x128 .f32)
    (cs lo hi : FVec Ideal S1x512x128 .f32) (K V : FVec Ideal S2304x128 .bf16) (r : Fin 512) (n : Fin 512)
    (X : Fin 4 → Fin 128 → EReal) (G C L H : Fin 128 → EReal) (A B : Fin 2304 → Fin 128 → EReal)
    (h0 : ∀ d, x0 (ix3 0 r d) = X 0 d) (h1 : ∀ d, x1 (ix3 0 r d) = X 1 d) (h2 : ∀ d, x2 (ix3 0 r d) = X 2 d)
    (h3 : ∀ d, x3 (ix3 0 r d) = X 3 d) (hg : ∀ d, g (ix2 0 d) = G d) (hc : ∀ d, cs (ix3 0 r d) = C d)
    (hl : ∀ d, lo (ix3 0 r d) = L d) (hh : ∀ d, hi (ix3 0 r d) = H d) (hK : ∀ j d, K (ix2 j d) = A j d)
    (hV : ∀ j d, V (ix2 j d) = B j d) :
    k0_pay1 (F := Ideal) (k0_pay8 (F := Ideal) (k0_pay7 (F := Ideal) x0 g cs lo hi) K V)
        (k0_pay12 (F := Ideal) (k0_pay9 (F := Ideal) x1 g) (k0_pay10 (F := Ideal) cs) (k0_pay11 (F := Ideal) lo) hi K V)
        (k0_pay16 (F := Ideal) (k0_pay13 (F := Ideal) x2) (k0_pay14 (F := Ideal) g) (k0_pay15 (F := Ideal) x2) cs lo hi K V)
        (k0_pay18 (F := Ideal) (k0_pay17 (F := Ideal) x3) g cs lo hi K)
        (k0_pay19 (F := Ideal) (k0_pay17 (F := Ideal) x3) g cs lo hi K) V (ix3 0 r n)
      = Attention.attended (fun d => Attention.rolled (Attention.headNorm (X ⟨n / 128, by omega⟩) G) C L H d
          * Attention.factor) A B ⟨n % 128, Nat.mod_lt _ (by decide)⟩ := by
  rw [joined_at]
  split_ifs with c0 c1 c2
  · rw [head0_at]
    simp only [query_at, h0, hg, hc, hl, hh, hK, hV]
    rw [show (⟨(n : ℕ) / 128, by omega⟩ : Fin 4) = 0 from Fin.ext (by show (n : ℕ) / 128 = 0; omega),
      show (⟨(n : ℕ) % 128, Nat.mod_lt _ (by decide)⟩ : Fin 128) = ⟨n, c0⟩ from Fin.ext (by show (n : ℕ) % 128 = n; omega)]
  · rw [head1_at]
    simp only [normed1_at, h1, hg, hc, hl, hh, hK, hV]
    rw [show (⟨(n : ℕ) / 128, by omega⟩ : Fin 4) = 1 from Fin.ext (by show (n : ℕ) / 128 = 1; omega),
      show (⟨(n : ℕ) % 128, Nat.mod_lt _ (by decide)⟩ : Fin 128) = ⟨n - 128, c1⟩ from
        Fin.ext (by show (n : ℕ) % 128 = n - 128; omega)]
  · rw [head2_at]
    simp only [h2, hg, hc, hl, hh, hK, hV]
    rw [show (⟨(n : ℕ) / 128, by omega⟩ : Fin 4) = 2 from Fin.ext (by show (n : ℕ) / 128 = 2; omega),
      show (⟨(n : ℕ) % 128, Nat.mod_lt _ (by decide)⟩ : Fin 128) = ⟨n - 128 - 128, c2⟩ from
        Fin.ext (by show (n : ℕ) % 128 = n - 128 - 128; omega)]
  · rw [sums_at]
    simp only [weights_at, h3, hg, hc, hl, hh, hK, hV]
    rw [show (⟨(n : ℕ) / 128, by omega⟩ : Fin 4) = 3 from Fin.ext (by show (n : ℕ) / 128 = 3; omega),
      show (⟨(n : ℕ) % 128, Nat.mod_lt _ (by decide)⟩ : Fin 128) = ⟨n - 128 - 128 - 128, by omega⟩ from
        Fin.ext (by show (n : ℕ) % 128 = n - 128 - 128 - 128; omega)]
    rfl

end Cert.AttnIdeal.Value

end
-- ==== Proof.Attn.Scratch.lean ====
/- The scratch of the latents' attention: at every grid point it holds the keys and the values of the point's sample and
   group, as the reference computes them. -/
module

public import proofs.«01_k».proof.Proof.Attn.Tables
public import proofs.«01_k».proof.Proof.Attn.Kernel
public import Idealize.ShloMosaic.Lib.StableHlo.RunRead
public import proofs.«01_k».proof.Proof.Gen.AttnIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (m : (ℓ : Loc nD τ sig) → Buf (Elt Ideal) ℓ)

/-- Every window's block at grid point `t`: sample `t / 8`, group `t / 4 % 2` and query rows `t % 4`. -/
theorem idx : ∀ t : Fin cfg0.N, win0_0.index t = ![t.val / 8, t.val % 4, t.val / 4 % 2]
    ∧ win0_1.index t = ![t.val / 8, 0, 8 + t.val / 4 % 2] ∧ win0_2.index t = ![t.val / 8, 0, 10 + t.val / 4 % 2]
    ∧ win0_3.index t = ![t.val / 8, 0, 8 + t.val / 4 % 2] ∧ win0_4.index t = ![t.val / 8, 0, 10 + t.val / 4 % 2]
    ∧ win0_5.index t = ![0, 0] ∧ win0_6.index t = ![0, 0] ∧ win0_7.index t = ![0, t.val % 4, 0]
    ∧ win0_8.index t = ![0, 0, 0] ∧ win0_9.index t = ![t.val / 8, t.val % 4, t.val / 4 % 2] :=
  (by decide +kernel : ∀ t : Fin grid0.N, _)

/-- The queries' gain when the kernel starts. -/
theorem queryGain (c : Dev nD) (d : Fin 128) : V m c main_v0 (ix2 0 d) = m ((c : Thread nD τ).loc main_arg2) (ix1 d) := by
  unfold V
  simp only [hostOps0, hostOps0_1, hostOps0_2, hostOps0_3, hostOps0_4, List.flatten_cons, List.flatten_nil,
    List.append_nil, List.cons_append, List.nil_append]
  after_reads_simp
  pointwise

/-- The keys' gain when the kernel starts. -/
theorem keyGain (c : Dev nD) (d : Fin 128) : V m c main_v1 (ix2 0 d) = m ((c : Thread nD τ).loc main_arg3) (ix1 d) := by
  unfold V
  simp only [hostOps0, hostOps0_1, hostOps0_2, hostOps0_3, hostOps0_4, List.flatten_cons, List.flatten_nil,
    List.append_nil, List.cons_append, List.nil_append]
  after_reads_simp
  pointwise

/-- The keys' gain at a grid point. -/
theorem keyGain_at (c : Dev nD) (t : Fin cfg0.N) (d : Fin 128) :
    iblk m c 6 t (ix2 0 d) = m ((c : Thread nD τ).loc main_arg3) (ix1 d) := by
  refine Eq.trans ?_ (keyGain m c d)
  blk_simp [iblk]
  exact congrArg (V m c main_v1) (by blk_ext [idx t])

/-- The whole table at a grid point. -/
theorem table8_at (c : Dev nD) (t : Fin cfg0.N) (p : Fin 3) (r : Fin 2048) (d : Fin 128) :
    iblk m c 8 t (ix3 p r d) = V m c main_v40 (ix3 p r d) := by
  blk_simp [iblk]
  exact congrArg (V m c main_v40) (by blk_ext [idx t])

/-- The sample of a grid point. -/
theorem samples (t : Fin cfg0.N) : t.val / 8 < 16 := by
  have : t.val < 128 := lt_of_lt_of_eq t.isLt N_0
  omega

/-- The two rectangles stored cover the scratch. -/
theorem rows_cover (y : S2304x128.Idx) :
    y ∈ (Rect.unit (s := S2304x128) ![2048, 0] ![256, 128] inb_S2304x128_S256x128_2048_0).set
      ∨ y ∈ (Rect.unit (s := S2304x128) ![0, 0] ![2048, 128] inb_S2304x128_S2048x128_0_0).set := by
  idx_vars y
  rw [Rect.mem_set_unit, Rect.mem_set_unit]
  rcases Nat.lt_or_ge y0 2048 with h | h
  · exact Or.inr fun a => by fin_cases a <;> simp [h]
  · exact Or.inl fun a => by fin_cases a <;> simp [h] <;> omega

/-- The latents' keys stored, by the rows that their operands hold. -/
theorem latent_rows (x : FVec Ideal S1x2048x128 .f32) (g : FVec Ideal S1x128 .f32)
    (cs lo hi : FVec Ideal S1x2048x128 .f32) (r : Fin 2048) (d : Fin 128) (X G C S : Fin 128 → EReal)
    (hx : ∀ d, x (ix3 0 r d) = X d) (hg : ∀ d, g (ix2 0 d) = G d) (hc : ∀ d, cs (ix3 0 r d) = C d)
    (hl : ∀ d, lo (ix3 0 r d) = Attention.below S d) (hh : ∀ d, hi (ix3 0 r d) = Attention.above S d) :
    k0_pay2 (F := Ideal) x g cs lo hi (ix2 r d) = Attention.roped (Attention.headNorm X G) C S d := by
  rw [latentKeys_at, ← Attention.rolled_eq_roped]
  simp only [hx, hg, hc, hl, hh]

/-- The context's keys stored, by the rows that their operands hold. -/
theorem context_rows (x : FVec Ideal S1x256x128 .f32) (g : FVec Ideal S1x128 .f32) (r : Fin 256) (d : Fin 128)
    (X G : Fin 128 → EReal) (hx : ∀ d, x (ix3 0 r d) = X d) (hg : ∀ d, g (ix2 0 d) = G d) :
    k0_pay5 (F := Ideal) x g (ix2 r d) = Attention.headNorm X G d := by
  rw [contextKeys_at]
  simp only [hx, hg]

/-- The first query block of a sample and group stages the reference's keys. -/
theorem keys_first (c : Dev nD) (t : Fin cfg0.N) (h : t.val % 4 = 0) (j : Fin 2304) (d : Fin 128) :
    (outsAt0 m c t.val t.isLt).2.1 (ix2 j d) = Cert.AttnRefIdeal.Spec.keys (m ((c : Thread nD τ).loc main_arg0))
      (m ((c : Thread nD τ).loc main_arg1)) (m ((c : Thread nD τ).loc main_arg3))
      (ix4 ⟨t.val / 8, samples t⟩ j ⟨t.val / 4 % 2, Nat.mod_lt _ (by decide)⟩ d) := by
  rw [Cert.AttnRefIdeal.Spec.keys_at, outsAt0_A m c t h]
  frame_out
  generalize hy : ix2 j d = y
  canon_tiles i h using ((rows_cover y).elim (fun h => ⟨_, List.mem_cons_self, h⟩)
    fun h => ⟨_, List.mem_cons_of_mem _ List.mem_cons_self, h⟩)
  · subst hy
    idx_vars i
    obtain rfl : d = i1 := Fin.ext h1
    rw [Attention.allKeys, dif_neg (by have : (j : ℕ) = 2048 + i0 := h0; omega)]
    refine context_rows _ _ i0 d _ _ (fun d => ?_) (fun d => ?_)
    · rw [Cert.AttnRefIdeal.Spec.contextKeys_at]
      have : (j : ℕ) = 2048 + i0 := h0
      blk_point [iblk, V, idx t]
    · exact keyGain_at m c t d
  · subst hy
    idx_vars i
    obtain rfl : d = i1 := Fin.ext h1
    have hj : (j : ℕ) < 2048 := lt_of_eq_of_lt h0 i0_lt
    obtain rfl : (⟨j, hj⟩ : Fin 2048) = i0 := Fin.ext h0
    rw [Attention.allKeys, dif_pos hj]
    refine latent_rows _ _ _ _ _ ⟨j, hj⟩ d _ _ _ _ (fun d => ?_) (fun d => ?_) (fun d => ?_) (fun d => ?_) (fun d => ?_)
    · rw [Cert.AttnRefIdeal.Spec.latentKeys_at]
      blk_point [iblk, V, idx t]
    · exact keyGain_at m c t d
    · refine Eq.trans ?_ ((table8_at m c t 0 ⟨j, hj⟩ d).trans (plane0 m c ⟨j, hj⟩ d))
      pointwise
    · refine Eq.trans ?_ ((table8_at m c t 1 ⟨j, hj⟩ d).trans (plane1 m c ⟨j, hj⟩ d))
      pointwise
    · refine Eq.trans ?_ ((table8_at m c t 2 ⟨j, hj⟩ d).trans (plane2 m c ⟨j, hj⟩ d))
      pointwise

/-- The first query block of a sample and group stages the reference's values. -/
theorem values_first (c : Dev nD) (t : Fin cfg0.N) (h : t.val % 4 = 0) (j : Fin 2304) (d : Fin 128) :
    (outsAt0 m c t.val t.isLt).2.2 (ix2 j d) = Cert.AttnRefIdeal.Spec.values (m ((c : Thread nD τ).loc main_arg0))
      (m ((c : Thread nD τ).loc main_arg1))
      (ix4 ⟨t.val / 8, samples t⟩ j ⟨t.val / 4 % 2, Nat.mod_lt _ (by decide)⟩ d) := by
  rw [Cert.AttnRefIdeal.Spec.values_at, outsAt0_A m c t h]
  frame_out
  generalize hy : ix2 j d = y
  canon_tiles i h using ((rows_cover y).elim (fun h => ⟨_, List.mem_cons_self, h⟩)
    fun h => ⟨_, List.mem_cons_of_mem _ List.mem_cons_self, h⟩)
  · subst hy
    idx_vars i
    obtain rfl : d = i1 := Fin.ext h1
    have : (j : ℕ) = 2048 + i0 := h0
    rw [Attention.allValues, dif_neg (by omega)]
    refine (contextValues_at _ i0 d).trans ?_
    blk_point [iblk, V, idx t]
  · subst hy
    idx_vars i
    obtain rfl : d = i1 := Fin.ext h1
    have hj : (j : ℕ) < 2048 := lt_of_eq_of_lt h0 i0_lt
    obtain rfl : (⟨j, hj⟩ : Fin 2048) = i0 := Fin.ext h0
    rw [Attention.allValues, dif_pos hj]
    refine (latentValues_at _ ⟨j, hj⟩ d).trans ?_
    blk_point [iblk, V, idx t]

/-- Every grid point's scratch: the first query block stages it, the others keep it. -/
theorem scratch (c : Dev nD) (n : ℕ) (hn : n < cfg0.N) :
    (∀ (j : Fin 2304) (d : Fin 128), (outsAt0 m c n hn).2.1 (ix2 j d)
      = Cert.AttnRefIdeal.Spec.keys (m ((c : Thread nD τ).loc main_arg0)) (m ((c : Thread nD τ).loc main_arg1))
          (m ((c : Thread nD τ).loc main_arg3))
          (ix4 ⟨n / 8, samples ⟨n, hn⟩⟩ j ⟨n / 4 % 2, Nat.mod_lt _ (by decide)⟩ d))
    ∧ ∀ (j : Fin 2304) (d : Fin 128), (outsAt0 m c n hn).2.2 (ix2 j d)
      = Cert.AttnRefIdeal.Spec.values (m ((c : Thread nD τ).loc main_arg0)) (m ((c : Thread nD τ).loc main_arg1))
          (ix4 ⟨n / 8, samples ⟨n, hn⟩⟩ j ⟨n / 4 % 2, Nat.mod_lt _ (by decide)⟩ d) := by
  induction n using Nat.strong_induction_on with
  | _ n ih =>
    by_cases h : n % 4 = 0
    · exact ⟨keys_first m c ⟨n, hn⟩ h, values_first m c ⟨n, hn⟩ h⟩
    · have h8 : (n - 1) / 8 = n / 8 := by omega
      have h4 : (n - 1) / 4 % 2 = n / 4 % 2 := by omega
      obtain ⟨hk, hv⟩ := ih (n - 1) (by omega) (by omega)
      simp only [h8, h4] at hk hv
      refine ⟨fun j d => Eq.trans ?_ (hk j d), fun j d => Eq.trans ?_ (hv j d)⟩
      · rw [outsAt0_B m c ⟨n, hn⟩ h]
        rfl
      · rw [outsAt0_B m c ⟨n, hn⟩ h]
        rfl

end Cert.AttnIdeal.Value

end
-- ==== Proof.Attn.Value.lean ====
/- The result array of the latents' attention is its reference's, for gains that are real numbers: each grid point's block
   is the reference's rows and heads it covers, and the blocks tile the array. -/
module

public import proofs.«01_k».proof.Proof.Attn.Scratch
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen
open Cert.AttnRefIdeal.Spec (keys values result cosines sines)

variable (m : (ℓ : Loc nD τ sig) → Buf (Elt Ideal) ℓ)

/-- The keys are real, whatever the inputs, when their gain is. -/
theorem keys_real (x : FVec Ideal S16x2048x1536 .f32) (ctx : FVec Ideal S16x256x1536 .f32) (kg : FVec Ideal S128 .f32)
    (hk : ∀ d, Attention.IsReal (kg (ix1 d))) (b : Fin 16) (j : Fin 2304) (g : Fin 2) (d : Fin 128) :
    Attention.IsReal (keys x ctx kg (ix4 b j g d)) := by
  rw [Cert.AttnRefIdeal.Spec.keys_at]
  unfold Attention.allKeys
  split_ifs with h
  · exact Attention.roped_real _ _ _ (Attention.headNorm_real _ _ hk) (cosines_real _) (sines_real _) d
  · exact Attention.headNorm_real _ _ hk d

/-- A head's output in the kernel is the reference's entry. -/
theorem attended_result (x : FVec Ideal S16x2048x1536 .f32) (ctx : FVec Ideal S16x256x1536 .f32)
    (qg kg : FVec Ideal S128 .f32) (hq : ∀ d, Attention.IsReal (qg (ix1 d))) (hk : ∀ d, Attention.IsReal (kg (ix1 d)))
    (b : Fin 16) (s : Fin 2048) (g : Fin 2) (h : Fin 4) (d : Fin 128) (n : Fin 1024) (hg : (n : ℕ) / 512 = g)
    (hh : (n : ℕ) / 128 % 4 = h) (hd : (n : ℕ) % 128 = d) :
    Attention.attended (fun d => Attention.rolled
        (Attention.headNorm (fun d => x (ix3 b s ⟨((g : ℕ) * 4 + h) * 128 + d, by omega⟩)) fun d => qg (ix1 d))
        (fun d => cosines (ix2 s d)) (Attention.below fun d => sines (ix2 s d)) (Attention.above fun d => sines (ix2 s d)) d
          * Attention.factor)
      (fun j d => keys x ctx kg (ix4 b j g d)) (fun j d => values x ctx (ix4 b j g d)) d = result x ctx qg kg (ix3 b s n) := by
  rw [Cert.AttnRefIdeal.Spec.result_at x ctx qg kg b s n g h d hg hh hd]
  simp only [Cert.AttnRefIdeal.Spec.rotatedQueries_at, Cert.AttnRefIdeal.Spec.normedQueries_at,
    Cert.AttnRefIdeal.Spec.latentQueries_at, Attention.rolled_eq_roped]
  exact Attention.attended_eq_softmaxed (by decide) _ _ _
    (Attention.roped_real _ _ _ (Attention.headNorm_real _ _ hq) (cosines_real s) (sines_real s))
    (fun j d => keys_real x ctx kg hk b j g d) d

/-- The rectangle that loads the whole scratch leaves every index in place. -/
theorem whole_idx (j : Fin 2304) (d : Fin 128) :
    (Rect.unit (s := S2304x128) ![0, 0] ![2304, 128] inb_S2304x128_S2304x128_0_0).idx (ix2 j d) = ix2 j d := by
  funext a
  fin_cases a <;> exact Fin.ext (by simp [LoadRect.idx])

/-- The queries' gain at a grid point. -/
theorem queryGain_at (c : Dev nD) (t : Fin cfg0.N) (d : Fin 128) :
    iblk m c 5 t (ix2 0 d) = m ((c : Thread nD τ).loc main_arg2) (ix1 d) := by
  refine Eq.trans ?_ (queryGain m c d)
  blk_simp [iblk]
  exact congrArg (V m c main_v0) (by blk_ext [idx t])

/-- The query rows of the table at a grid point. -/
theorem table7_at (c : Dev nD) (t : Fin cfg0.N) (p : Fin 3) (r : Fin 512) (d : Fin 128) :
    iblk m c 7 t (ix3 p r d) = V m c main_v40 (ix3 p ⟨t.val % 4 * 512 + r, by omega⟩ d) := by
  blk_simp [iblk]
  exact congrArg (V m c main_v40) (by blk_ext [idx t])

/-- The queries' block at a grid point. -/
theorem query_rows (c : Dev nD) (t : Fin cfg0.N) (r : Fin 512) (k : Fin 512) :
    iblk m c 0 t (ix3 0 r k) = m ((c : Thread nD τ).loc main_arg0)
      (ix3 ⟨t.val / 8, samples t⟩ ⟨t.val % 4 * 512 + r, by omega⟩ ⟨t.val / 4 % 2 * 512 + k, by omega⟩) := by
  blk_point [iblk, V, idx t]

/-- One entry of a grid point's block is the reference's entry at the block's place in the array. -/
theorem point (c : Dev nD) (hq : ∀ d, Attention.IsReal (m ((c : Thread nD τ).loc main_arg2) (ix1 d)))
    (hk : ∀ d, Attention.IsReal (m ((c : Thread nD τ).loc main_arg3) (ix1 d))) (t : Fin cfg0.N) (y : S1x512x512.Idx) :
    (outsAt0 m c t.val t.isLt).1 y
      = result (m ((c : Thread nD τ).loc main_arg0)) (m ((c : Thread nD τ).loc main_arg1))
          (m ((c : Thread nD τ).loc main_arg2)) (m ((c : Thread nD τ).loc main_arg3)) (((cfg0.win 9).blk t).view.emb y) := by
  idx_vars y
  have ht : t.val < 128 := lt_of_lt_of_eq t.isLt N_0
  obtain rfl : y0 = 0 := Fin.ext (by omega)
  have he : ((cfg0.win 9).blk t).view.emb (ix3 0 y1 y2)
      = ix3 ⟨t.val / 8, samples t⟩ ⟨t.val % 4 * 512 + y1, by omega⟩ ⟨t.val / 4 % 2 * 512 + y2, by omega⟩ := by
    blk_ext [idx t]
  rw [he]
  refine Eq.trans ?_ (attended_result (m ((c : Thread nD τ).loc main_arg0)) (m ((c : Thread nD τ).loc main_arg1)) _ _ hq hk
    ⟨t.val / 8, samples t⟩ ⟨t.val % 4 * 512 + y1, by omega⟩ ⟨t.val / 4 % 2, by omega⟩ ⟨y2 / 128, by omega⟩
    ⟨y2 % 128, by omega⟩ _ (by simp only; omega) (by simp only; omega) (by simp only; omega))
  by_cases h : t.val % 4 = 0
  · rw [outsAt0_A m c t h]
    frame_out
    refine block_at _ _ _ _ _ _ _ _ _ _ y1 y2
      (fun h d => m ((c : Thread nD τ).loc main_arg0) (ix3 ⟨t.val / 8, samples t⟩ ⟨t.val % 4 * 512 + y1, by omega⟩
        ⟨(t.val / 4 % 2 * 4 + h) * 128 + d, by omega⟩)) _ _ _ _ _ _ (fun d => ?_) (fun d => ?_) (fun d => ?_)
      (fun d => ?_) (fun d => ?_) (fun d => ?_) (fun d => ?_) (fun d => ?_) (fun j d => ?_) (fun j d => ?_)
    · refine Eq.trans ?_ ((query_rows m c t y1 ⟨0 + d, by omega⟩).trans
        (congrArg (m ((c : Thread nD τ).loc main_arg0)) (congrArg (ix3 _ _) (Fin.ext ?_))))
      · pointwise
      · show t.val / 4 % 2 * 512 + (0 + (d : ℕ)) = (t.val / 4 % 2 * 4 + 0) * 128 + d
        omega
    · refine Eq.trans ?_ ((query_rows m c t y1 ⟨128 + d, by omega⟩).trans
        (congrArg (m ((c : Thread nD τ).loc main_arg0)) (congrArg (ix3 _ _) (Fin.ext ?_))))
      · pointwise
      · show t.val / 4 % 2 * 512 + (128 + (d : ℕ)) = (t.val / 4 % 2 * 4 + 1) * 128 + d
        omega
    · refine Eq.trans ?_ ((query_rows m c t y1 ⟨256 + d, by omega⟩).trans
        (congrArg (m ((c : Thread nD τ).loc main_arg0)) (congrArg (ix3 _ _) (Fin.ext ?_))))
      · pointwise
      · show t.val / 4 % 2 * 512 + (256 + (d : ℕ)) = (t.val / 4 % 2 * 4 + 2) * 128 + d
        omega
    · refine Eq.trans ?_ ((query_rows m c t y1 ⟨384 + d, by omega⟩).trans
        (congrArg (m ((c : Thread nD τ).loc main_arg0)) (congrArg (ix3 _ _) (Fin.ext ?_))))
      · pointwise
      · show t.val / 4 % 2 * 512 + (384 + (d : ℕ)) = (t.val / 4 % 2 * 4 + 3) * 128 + d
        omega
    · exact queryGain_at m c t d
    · refine Eq.trans ?_ ((table7_at m c t 0 y1 d).trans (plane0 m c _ d))
      pointwise
    · refine Eq.trans ?_ ((table7_at m c t 1 y1 d).trans (plane1 m c _ d))
      pointwise
    · refine Eq.trans ?_ ((table7_at m c t 2 y1 d).trans (plane2 m c _ d))
      pointwise
    · refine Eq.trans ?_ ((scratch m c t.val t.isLt).1 j d)
      rw [outsAt0_A m c t h]
      frame_out
      rw [View.readCov_eq_canon']
      exact congrArg (View.canon _) (whole_idx j d)
    · refine Eq.trans ?_ ((scratch m c t.val t.isLt).2 j d)
      rw [outsAt0_A m c t h]
      frame_out
      rw [View.readCov_eq_canon']
      exact congrArg (View.canon _) (whole_idx j d)
  · rw [outsAt0_B m c t h]
    frame_out
    refine block_at _ _ _ _ _ _ _ _ _ _ y1 y2
      (fun h d => m ((c : Thread nD τ).loc main_arg0) (ix3 ⟨t.val / 8, samples t⟩ ⟨t.val % 4 * 512 + y1, by omega⟩
        ⟨(t.val / 4 % 2 * 4 + h) * 128 + d, by omega⟩)) _ _ _ _ _ _ (fun d => ?_) (fun d => ?_) (fun d => ?_)
      (fun d => ?_) (fun d => ?_) (fun d => ?_) (fun d => ?_) (fun d => ?_) (fun j d => ?_) (fun j d => ?_)
    · refine Eq.trans ?_ ((query_rows m c t y1 ⟨0 + d, by omega⟩).trans
        (congrArg (m ((c : Thread nD τ).loc main_arg0)) (congrArg (ix3 _ _) (Fin.ext ?_))))
      · pointwise
      · show t.val / 4 % 2 * 512 + (0 + (d : ℕ)) = (t.val / 4 % 2 * 4 + 0) * 128 + d
        omega
    · refine Eq.trans ?_ ((query_rows m c t y1 ⟨128 + d, by omega⟩).trans
        (congrArg (m ((c : Thread nD τ).loc main_arg0)) (congrArg (ix3 _ _) (Fin.ext ?_))))
      · pointwise
      · show t.val / 4 % 2 * 512 + (128 + (d : ℕ)) = (t.val / 4 % 2 * 4 + 1) * 128 + d
        omega
    · refine Eq.trans ?_ ((query_rows m c t y1 ⟨256 + d, by omega⟩).trans
        (congrArg (m ((c : Thread nD τ).loc main_arg0)) (congrArg (ix3 _ _) (Fin.ext ?_))))
      · pointwise
      · show t.val / 4 % 2 * 512 + (256 + (d : ℕ)) = (t.val / 4 % 2 * 4 + 2) * 128 + d
        omega
    · refine Eq.trans ?_ ((query_rows m c t y1 ⟨384 + d, by omega⟩).trans
        (congrArg (m ((c : Thread nD τ).loc main_arg0)) (congrArg (ix3 _ _) (Fin.ext ?_))))
      · pointwise
      · show t.val / 4 % 2 * 512 + (384 + (d : ℕ)) = (t.val / 4 % 2 * 4 + 3) * 128 + d
        omega
    · exact queryGain_at m c t d
    · refine Eq.trans ?_ ((table7_at m c t 0 y1 d).trans (plane0 m c _ d))
      pointwise
    · refine Eq.trans ?_ ((table7_at m c t 1 y1 d).trans (plane1 m c _ d))
      pointwise
    · refine Eq.trans ?_ ((table7_at m c t 2 y1 d).trans (plane2 m c _ d))
      pointwise
    · refine Eq.trans ?_ ((scratch m c t.val t.isLt).1 j d)
      rw [outsAt0_B m c t h]
      exact congrFun (read_unread_whole _ _ _) _
    · refine Eq.trans ?_ ((scratch m c t.val t.isLt).2 j d)
      rw [outsAt0_B m c t h]
      exact congrFun (read_unread_whole _ _ _) _

/-- The result array after the run is the reference's. -/
theorem final (c : Dev nD) (hq : ∀ d, Attention.IsReal (m ((c : Thread nD τ).loc main_arg2) (ix1 d)))
    (hk : ∀ d, Attention.IsReal (m ((c : Thread nD τ).loc main_arg3) (ix1 d))) : (dats m 0 c).arrAt 9 (cfgs 0).N
      = result (m ((c : Thread nD τ).loc main_arg0)) (m ((c : Thread nD τ).loc main_arg1))
          (m ((c : Thread nD τ).loc main_arg2)) (m ((c : Thread nD τ).loc main_arg3)) := by
  refine (dats m 0 c).arrAt_eq_of_covers 9 _ (by decide +kernel) fun t hf y => ?_
  blk_simp
  rw [after0_9]
  exact point m c hq hk t y

end Cert.AttnIdeal.Value

end
-- ==== Proof.Attn.Claims.lean ====
/- What is claimed of the latents' attention: the frames of its kernel, of the kernel's idealization and of its reference,
   that the idealization's named constant is the number the certificate names, and the equality of the two results over
   the ideal numbers for gains that are real numbers. -/
module

public import proofs.«01_k».proof.Defs
public import proofs.«01_k».proof.Proof.Gen.Attn.Frame
public import proofs.«01_k».proof.Proof.Attn.Value
public import proofs.«01_k».proof.Proof.Gen.AttnRefIdeal.Run
public import proofs.«01_k».proof.Proof.Gen.Pre_finite_gains
public import Idealize.ShloMosaic.Lib.ReduceAll
public import Idealize.ShloMosaic.Lib.Affine
public import Idealize.ShloMosaic.Lib.Claim

@[expose] public section

set_option maxRecDepth 16384

noncomputable section

namespace Cert.Proof

open Idealize.ShloMosaic Idealize.SL.Sem

theorem frame_Attn : Cert.quiescent_Attn := fun m ρ _ => Cert.Attn.Gen.frame m ρ

theorem frame_AttnIdeal : Cert.quiescent_AttnIdeal := fun m ρ _ => Cert.AttnIdeal.Gen.frame m ρ

theorem frame_AttnIdeal_gains : Cert.quiescent_AttnIdeal_pre_finite_gains := fun m ρ _ => Cert.AttnIdeal.Gen.frame m ρ

theorem frame_AttnRefIdeal : Cert.quiescent_AttnRefIdeal := fun m g _ =>
  (θ_run Cert.AttnRefIdeal.defs _ _).mono
    (fun r h => ⟨fun c => (h c).2, Idealize.ShloMosaic.sem_eq_zero_of_no_sems (by decide) r.2⟩)
    (Cert.AttnRefIdeal.Value.run m g)

theorem frame_AttnRefIdeal_gains : Cert.quiescent_AttnRefIdeal_pre_finite_gains := fun m g _ =>
  frame_AttnRefIdeal m g trivial

theorem preserves_Attn : Cert.preserves_Attn_AttnIdeal :=
  IdealRules.named_const.statement Cert.AttnIdeal.κ "s" .f32 0x3E0293EE#32 _ rfl

section
open Cert.Pre_finite_gains

/-- An ideal number whose size is below infinity is real. -/
theorem real_of_compare (g : FVec Ideal S128 .f32) (d : Fin 128)
    (h : cmpf .olt (Host.absf g) (broadcastInDim S128 ![] Gen.bcast_S_S128
      (constant S_ .f32 0x7F800000#32 : FVec Ideal S_ .f32)) (ix1 d) = 1#1) :
    Attention.IsReal (g (ix1 d)) := by
  pointwise at h
  have ht : Ideal.ofBits .f32 0x7F800000#32 = (⊤ : EReal) := by simp [Ideal.ofBits, Ideal.ieee]
  refine Attention.isReal_of_ne (fun hx => ?_) (fun hx => ?_) <;>
    · rw [hx, ht] at h
      simp [FloatOps.absf] at h

/-- The precondition says that the gains are real. -/
theorem gains_real (x : FVec Ideal S16x2048x1536 .f32) (ctx : FVec Ideal S16x256x1536 .f32) (qg kg : FVec Ideal S128 .f32)
    (h : fn x ctx qg kg = fun _ => 1#1) :
    (∀ d, Attention.IsReal (qg (ix1 d))) ∧ ∀ d, Attention.IsReal (kg (ix1 d)) := by
  have h0 := congrFun h (Shape.Idx.first Gen.h_S_)
  dsimp only [fn] at h0
  obtain ⟨h1, h2⟩ := IntOp.andi_eq_one.1 h0
  exact ⟨fun d => real_of_compare qg d (Host.reduce_andi_all _ _ _ _ _ h1 _),
    fun d => real_of_compare kg d (Host.reduce_andi_all _ _ _ _ _ h2 _)⟩

end

theorem algebraic_Attn : Cert.algebraic_AttnIdeal_AttnRefIdeal_pre_finite_gains := by
  pair_intro
  · run_from Cert.AttnIdeal.Gen.run_main m g
    · exact Cert.AttnIdeal.Gen.V_main_arg2 m c
    · exact Cert.AttnIdeal.Gen.V_main_arg3 m c
  · run_from Cert.AttnRefIdeal.Value.run m' g'
    obtain ⟨h0, h1, h2, h3⟩ := hagree c
    obtain ⟨hq, hk⟩ := gains_real _ _ _ _ (hpre c)
    refine Eq.trans ?_ (Cert.AttnIdeal.Value.final m c hq hk).symm
    rw [← h0, ← h1, ← h2, ← h3]
    rfl

end Cert.Proof

end
-- ==== Proof.Block.Reference.lean ====
/- The reference of the branch's output projection and the MLP, read at an index: row `2048·b + s` of its result is
   `Layer.block` of row `s` of sample `b`. -/
module

public import proofs.«01_k».proof.Proof.Layer
public import proofs.«01_k».proof.Proof.Gen.BlockRefIdeal

@[expose] public section

set_option maxRecDepth 16384

noncomputable section

open Idealize.ShloMosaic Idealize.ShloMosaic.TcCoe Idealize.SL.Sem

namespace Cert.BlockRefIdeal.Spec

open Cert.BlockRefIdeal Cert.BlockRefIdeal.Gen

/-- The reference's root-mean-square norm with a gain. -/
def norm (x : FVec Ideal S16x2048x1024 .f32) (g : FVec Ideal S1x1024 .f32) : FVec Ideal S16x2048x1024 .f32 :=
  mulf (mulf x (broadcastInDim S16x2048x1024 ![0, 1, 2] bcast_S16x2048x1_S16x2048x1024_0_1_2 (Host.rsqrt
    (addf (Host.divf (broadcastInDim S16x2048x1 ![0, 1] bcast_S16x2048_S16x2048x1_0_1 (Host.reduceAdd (mulf x x)
      (constant S_ .f32 0x00000000#32) reducesTo_S16x2048x1024_S16x2048_d2 h_S_)) (broadcastInDim S16x2048x1 ![]
      bcast_S_S16x2048x1 (constant S_ .f32 0x44800000#32))) (broadcastInDim S16x2048x1 ![] bcast_S_S16x2048x1
      (constant S_ .f32 0x358637BD#32))))))
    (broadcastInDim S16x2048x1024 ![0, 1, 2] bcast_S1x1x1024_S16x2048x1024_0_1_2 (broadcastInDim S1x1x1024 ![2]
      bcast_S1024_S1x1x1024_2 (shapeCast _ g shapeCasts_S1x1024_S1024)))

/-- A row of the modulation at every position of its sample. -/
def spread (v : FVec Ideal S16x1x1024 .f32) : FVec Ideal S16x2048x1024 .f32 :=
  broadcastInDim S16x2048x1024 ![0, 1, 2] bcast_S16x1x1024_S16x2048x1024_0_1_2 v

/-- The reference's residual stream after the branch. -/
def projected (a : FVec Ideal S16x2048x1024 .bf16) (w : FVec Ideal S1024x1024 .f32) (x : FVec Ideal S16x2048x1024 .f32)
    (md : FVec Ideal S16x6x1024 .f32) (g : FVec Ideal S4x1024 .f32) : FVec Ideal S16x2048x1024 .f32 :=
  addf x (mulf (spread (extractStridedSlice S16x1x1024 ![0, 2, 0] md slices_S16x6x1024_S16x1x1024_0_2_0))
    (norm (Host.dotGeneral dot_S16x2048x1024_S1024x1024_S16x2048x1024_2_0_01_1_n_n none
      (extf .f32 a bitsLt_bf16_f32) w) (extractStridedSlice S1x1024 ![1, 0] g slices_S4x1024_S1x1024_1_0)))

/-- The reference's modulated norm before the MLP. -/
def modulated (y : FVec Ideal S16x2048x1024 .f32) (md : FVec Ideal S16x6x1024 .f32) (g : FVec Ideal S4x1024 .f32) :
    FVec Ideal S16x2048x1024 .f32 :=
  addf (mulf (norm y (extractStridedSlice S1x1024 ![2, 0] g slices_S4x1024_S1x1024_2_0))
    (spread (addf (broadcastInDim S16x1x1024 ![] bcast_S_S16x1x1024 (constant S_ .f32 0x3F800000#32))
      (extractStridedSlice S16x1x1024 ![0, 4, 0] md slices_S16x6x1024_S16x1x1024_0_4_0))))
    (spread (extractStridedSlice S16x1x1024 ![0, 3, 0] md slices_S16x6x1024_S16x1x1024_0_3_0))

/-- The reference's ReLU. -/
def relu (h : FVec Ideal S16x2048x4096 .f32) : FVec Ideal S16x2048x4096 .f32 :=
  maximumf h (broadcastInDim S16x2048x4096 ![] bcast_S_S16x2048x4096 (constant S_ .f32 0x00000000#32))

/-- The reference's MLP. -/
def mlp (h : FVec Ideal S16x2048x1024 .f32) (w1 : FVec Ideal S1024x4096 .f32) (w2 : FVec Ideal S4096x1024 .f32) :
    FVec Ideal S16x2048x1024 .f32 :=
  Host.dotGeneral dot_S16x2048x4096_S4096x1024_S16x2048x1024_2_0_01_1_n_n none
    (mulf (relu (Host.dotGeneral dot_S16x2048x1024_S1024x4096_S16x2048x4096_2_0_01_1_n_n none h w1))
      (relu (Host.dotGeneral dot_S16x2048x1024_S1024x4096_S16x2048x4096_2_0_01_1_n_n none h w1))) w2

/-- The reference's residual stream after the MLP. -/
def finished (y : FVec Ideal S16x2048x1024 .f32) (w1 : FVec Ideal S1024x4096 .f32) (w2 : FVec Ideal S4096x1024 .f32)
    (md : FVec Ideal S16x6x1024 .f32) (g : FVec Ideal S4x1024 .f32) : FVec Ideal S16x2048x1024 .f32 :=
  addf y (mulf (spread (extractStridedSlice S16x1x1024 ![0, 5, 0] md slices_S16x6x1024_S16x1x1024_0_5_0))
    (norm (mlp (modulated y md g) w1 w2) (extractStridedSlice S1x1024 ![3, 0] g slices_S4x1024_S1x1024_3_0)))

/-- The reference's result. -/
def result (a : FVec Ideal S16x2048x1024 .bf16) (w : FVec Ideal S1024x1024 .f32) (w1 : FVec Ideal S1024x4096 .f32)
    (w2 : FVec Ideal S4096x1024 .f32) (x : FVec Ideal S16x2048x1024 .f32) (md : FVec Ideal S16x6x1024 .f32)
    (g : FVec Ideal S4x1024 .f32) : FVec Ideal S32768x1024 .f32 :=
  shapeCast _ (finished (projected a w x md g) w1 w2 md g) shapeCasts_S16x2048x1024_S32768x1024

theorem norm_at (x : FVec Ideal S16x2048x1024 .f32) (g : FVec Ideal S1x1024 .f32) (b : Fin 16) (s : Fin 2048)
    (k : Fin 1024) : norm x g (ix3 b s k) = Layer.normed (fun k => x (ix3 b s k)) (fun k => g (ix2 0 k)) k := by
  pointwise! [norm, Layer.normed, Layer.rmsFactor, Layer.width]

theorem projected_at (a : FVec Ideal S16x2048x1024 .bf16) (w : FVec Ideal S1024x1024 .f32)
    (x : FVec Ideal S16x2048x1024 .f32) (md : FVec Ideal S16x6x1024 .f32) (g : FVec Ideal S4x1024 .f32)
    (b : Fin 16) (s : Fin 2048) (k : Fin 1024) :
    projected a w x md g (ix3 b s k) = Layer.projected (fun k => x (ix3 b s k)) (fun k => a (ix3 b s k))
      (fun l k => w (ix2 l k)) (fun k => g (ix2 1 k)) (fun k => md (ix3 b 2 k)) k := by
  pointwise [projected, spread, Layer.projected, Layer.sandwich]
  simp only [norm_at]
  pointwise! [Layer.dot]

theorem modulated_at (y : FVec Ideal S16x2048x1024 .f32) (md : FVec Ideal S16x6x1024 .f32) (g : FVec Ideal S4x1024 .f32)
    (b : Fin 16) (s : Fin 2048) (k : Fin 1024) :
    modulated y md g (ix3 b s k) = Layer.modulated (fun k => y (ix3 b s k)) (fun k => g (ix2 2 k))
      (fun k => md (ix3 b 4 k)) (fun k => md (ix3 b 3 k)) k := by
  pointwise [modulated, spread, Layer.modulated]
  simp only [norm_at]
  pointwise

theorem mlp_at (h : FVec Ideal S16x2048x1024 .f32) (w1 : FVec Ideal S1024x4096 .f32) (w2 : FVec Ideal S4096x1024 .f32)
    (b : Fin 16) (s : Fin 2048) (n : Fin 1024) :
    mlp h w1 w2 (ix3 b s n)
      = Layer.mlp (fun k => h (ix3 b s k)) (fun k f => w1 (ix2 k f)) (fun f n => w2 (ix2 f n)) n := by
  pointwise! [mlp, relu, Layer.mlp, Layer.dot, Layer.relu2]

theorem finished_at (y : FVec Ideal S16x2048x1024 .f32) (w1 : FVec Ideal S1024x4096 .f32) (w2 : FVec Ideal S4096x1024 .f32)
    (md : FVec Ideal S16x6x1024 .f32) (g : FVec Ideal S4x1024 .f32) (b : Fin 16) (s : Fin 2048) (n : Fin 1024) :
    finished y w1 w2 md g (ix3 b s n) = Layer.sandwich (fun k => y (ix3 b s k))
      (Layer.mlp (Layer.modulated (fun k => y (ix3 b s k)) (fun k => g (ix2 2 k)) (fun k => md (ix3 b 4 k))
        (fun k => md (ix3 b 3 k))) (fun k f => w1 (ix2 k f)) (fun f n => w2 (ix2 f n)))
      (fun k => g (ix2 3 k)) (fun k => md (ix3 b 5 k)) n := by
  pointwise [finished, spread, Layer.sandwich]
  simp only [norm_at, mlp_at, modulated_at]
  pointwise!

theorem result_at (a : FVec Ideal S16x2048x1024 .bf16) (w : FVec Ideal S1024x1024 .f32) (w1 : FVec Ideal S1024x4096 .f32)
    (w2 : FVec Ideal S4096x1024 .f32) (x : FVec Ideal S16x2048x1024 .f32) (md : FVec Ideal S16x6x1024 .f32)
    (g : FVec Ideal S4x1024 .f32) (b : Fin 16) (s : Fin 2048) (r : Fin 32768) (n : Fin 1024)
    (hb : (r : ℕ) / 2048 = b) (hs : (r : ℕ) % 2048 = s) :
    result a w w1 w2 x md g (ix2 r n) = Layer.block (fun k => x (ix3 b s k)) (fun k => a (ix3 b s k))
      (fun l k => w (ix2 l k)) (fun k f => w1 (ix2 k f)) (fun f n => w2 (ix2 f n)) (fun k => g (ix2 1 k))
      (fun k => g (ix2 2 k)) (fun k => g (ix2 3 k)) (fun k => md (ix3 b 2 k)) (fun k => md (ix3 b 3 k))
      (fun k => md (ix3 b 4 k)) (fun k => md (ix3 b 5 k)) n := by
  pointwise [result, hb, hs]
  simp only [finished_at, projected_at, Layer.block]

end Cert.BlockRefIdeal.Spec

end
-- ==== Proof.Block.Kernel.lean ====
/- The body of the branch's output projection and the MLP, read at an index: a row of the block it stores is
   `Layer.block` of the block's row, the MLP's 4096 hidden columns taken in four chunks of 1024. -/
module

public import proofs.«01_k».proof.Proof.Layer
public import proofs.«01_k».proof.Proof.Gen.BlockIdeal.Frame
public import Idealize.ShloMosaic.Lib.Pipeline.ValueKit

@[expose] public section

set_option maxRecDepth 16384

noncomputable section

open Idealize.ShloMosaic Idealize.ShloMosaic.TcCoe Idealize.SL.Sem

namespace Cert.BlockIdeal.Value

open Cert.BlockIdeal Cert.BlockIdeal.Gen

/-- The rows after the branch. -/
theorem projected_at (a : FVec Ideal S512x1024 .bf16) (w : FVec Ideal S1024x1024 .bf16) (x : FVec Ideal S512x1024 .f32)
    (gate : FVec Ideal S1x1x1024 .f32) (g : FVec Ideal S1x1024 .f32) (r : Fin 512) (k : Fin 1024) :
    k0_pay1 (F := Ideal) a w x gate g (ix2 r k) = Layer.projected (fun k => x (ix2 r k)) (fun k => a (ix2 r k))
      (fun l k => w (ix2 l k)) (fun k => g (ix2 0 k)) (fun k => gate (ix3 0 0 k)) k := by
  pointwise! [k0_pay1, Layer.projected, Layer.sandwich, Layer.normed, Layer.rmsFactor, Layer.width, Layer.dot]

/-- Their norm before the MLP. -/
theorem normed_at (a : FVec Ideal S512x1024 .bf16) (w : FVec Ideal S1024x1024 .bf16) (x : FVec Ideal S512x1024 .f32)
    (gate : FVec Ideal S1x1x1024 .f32) (g g2 : FVec Ideal S1x1024 .f32) (r : Fin 512) (k : Fin 1024) :
    k0_pay2 (F := Ideal) a w x gate g g2 (ix2 r k)
      = Layer.normed (fun k => k0_pay1 (F := Ideal) a w x gate g (ix2 r k)) (fun k => g2 (ix2 0 k)) k := by
  pointwise! [k0_pay2, Layer.normed, Layer.rmsFactor, Layer.width]

/-- Their modulation, from the norm. -/
theorem modulated_at (h : FVec Ideal S512x1024 .f32) (scale shift : FVec Ideal S1x1x1024 .f32) (r : Fin 512) (k : Fin 1024) :
    k0_pay3 (F := Ideal) h scale shift (ix2 r k)
      = h (ix2 r k) * (1 + scale (ix3 0 0 k)) + shift (ix3 0 0 k) := by
  pointwise! [k0_pay3]

/-- One chunk of the MLP: 1024 hidden columns. -/
def chunk (h : Fin 1024 → EReal) (u : FVec Ideal S1024x1024 .bf16) (v : FVec Ideal S1024x1024 .bf16) (n : Fin 1024) : EReal :=
  Layer.dot (fun f : Fin 1024 => Layer.relu2 (Layer.dot h fun k => u (ix2 k f))) fun f => v (ix2 f n)

/-- The first two chunks, summed. -/
theorem half_at (h : FVec Ideal S512x1024 .f32) (scale shift : FVec Ideal S1x1x1024 .f32)
    (u0 v0 u1 v1 : FVec Ideal S1024x1024 .bf16) (r : Fin 512) (n : Fin 1024) :
    k0_pay4 (F := Ideal) h scale shift u0 v0 u1 v1 (ix2 r n)
      = chunk (fun k => k0_pay3 (F := Ideal) h scale shift (ix2 r k)) u0 v0 n
        + chunk (fun k => k0_pay3 (F := Ideal) h scale shift (ix2 r k)) u1 v1 n := by
  pointwise! [k0_pay4, chunk, Layer.dot, Layer.relu2]

/-- The MLP's accumulated row: the two chunks already summed, and the last two. -/
def accumulated (h : FVec Ideal S512x1024 .bf16) (acc : FVec Ideal S512x1024 .f32)
    (u2 v2 u3 v3 : FVec Ideal S1024x1024 .bf16) (r : Fin 512) (n : Fin 1024) : EReal :=
  acc (ix2 r n) + chunk (fun k => h (ix2 r k)) u2 v2 n + chunk (fun k => h (ix2 r k)) u3 v3 n

/-- The rows after the MLP. -/
theorem finished_at (y : FVec Ideal S512x1024 .f32) (h : FVec Ideal S512x1024 .bf16) (acc : FVec Ideal S512x1024 .f32)
    (u2 v2 u3 v3 : FVec Ideal S1024x1024 .bf16) (gate : FVec Ideal S1x1x1024 .f32) (g : FVec Ideal S1x1024 .f32)
    (r : Fin 512) (n : Fin 1024) :
    k0_pay6 (F := Ideal) y h acc (k0_pay5 (F := Ideal) u2) (constant S512x1024 .f32 0x00000000#32) v2 u3 v3 gate g (ix2 r n)
      = Layer.sandwich (fun k => y (ix2 r k)) (accumulated h acc u2 v2 u3 v3 r) (fun k => g (ix2 0 k))
          (fun k => gate (ix3 0 0 k)) n := by
  pointwise! [k0_pay6, k0_pay5, Layer.sandwich, Layer.normed, Layer.rmsFactor, Layer.width, accumulated, chunk, Layer.dot,
    Layer.relu2]

/-- The MLP's 4096 hidden columns are its four chunks. -/
theorem mlp_eq_chunks (h : Fin 1024 → EReal) (w1 : FVec Ideal S1024x4096 .bf16) (w2 : FVec Ideal S4096x1024 .bf16)
    (u0 v0 u1 v1 u2 v2 u3 v3 : FVec Ideal S1024x1024 .bf16)
    (hu0 : ∀ k f : Fin 1024, u0 (ix2 k f) = w1 (ix2 k ⟨f, by omega⟩))
    (hu1 : ∀ k f : Fin 1024, u1 (ix2 k f) = w1 (ix2 k ⟨1024 + f, by omega⟩))
    (hu2 : ∀ k f : Fin 1024, u2 (ix2 k f) = w1 (ix2 k ⟨2048 + f, by omega⟩))
    (hu3 : ∀ k f : Fin 1024, u3 (ix2 k f) = w1 (ix2 k ⟨3072 + f, by omega⟩))
    (hv0 : ∀ f n : Fin 1024, v0 (ix2 f n) = w2 (ix2 ⟨f, by omega⟩ n))
    (hv1 : ∀ f n : Fin 1024, v1 (ix2 f n) = w2 (ix2 ⟨1024 + f, by omega⟩ n))
    (hv2 : ∀ f n : Fin 1024, v2 (ix2 f n) = w2 (ix2 ⟨2048 + f, by omega⟩ n))
    (hv3 : ∀ f n : Fin 1024, v3 (ix2 f n) = w2 (ix2 ⟨3072 + f, by omega⟩ n)) (n : Fin 1024) :
    chunk h u0 v0 n + chunk h u1 v1 n + chunk h u2 v2 n + chunk h u3 v3 n
      = Layer.mlp h (fun k f => w1 (ix2 k f)) (fun f n => w2 (ix2 f n)) n := by
  simp only [chunk, Layer.mlp, hu0, hu1, hu2, hu3, hv0, hv1, hv2, hv3]
  conv_rhs => rw [Layer.dot, Fin.sum_univ_tiles 4 1024 rfl]
  rw [Fin.sum_univ_four]
  refine congrArg₂ (· + ·) (congrArg₂ (· + ·) (congrArg₂ (· + ·) ?_ ?_) ?_) ?_
  · exact Finset.sum_congr rfl fun f _ => by
      rw [show (⟨((0 : Fin 4) : ℕ) * 1024 + f, by omega⟩ : Fin 4096) = ⟨f, by omega⟩ from Fin.ext (by simp)]
  all_goals rfl

/-- The body's stored rows, over the residual rows `y`, their norm `v` and the vectors it loads. -/
theorem residual_at (y v : FVec Ideal S512x1024 .f32) (w1 : FVec Ideal S1024x4096 .bf16)
    (w2 : FVec Ideal S4096x1024 .bf16) (shift scale gate2 : FVec Ideal S1x1x1024 .f32) (g2 g3 : FVec Ideal S1x1024 .f32)
    (u0 v0 u1 v1 u2 v2 u3 v3 : FVec Ideal S1024x1024 .bf16) (r : Fin 512) (n : Fin 1024)
    (hv : ∀ k, v (ix2 r k) = Layer.normed (fun k => y (ix2 r k)) (fun k => g2 (ix2 0 k)) k)
    (hu0 : ∀ k f : Fin 1024, u0 (ix2 k f) = w1 (ix2 k ⟨f, by omega⟩))
    (hu1 : ∀ k f : Fin 1024, u1 (ix2 k f) = w1 (ix2 k ⟨1024 + f, by omega⟩))
    (hu2 : ∀ k f : Fin 1024, u2 (ix2 k f) = w1 (ix2 k ⟨2048 + f, by omega⟩))
    (hu3 : ∀ k f : Fin 1024, u3 (ix2 k f) = w1 (ix2 k ⟨3072 + f, by omega⟩))
    (hv0 : ∀ f n : Fin 1024, v0 (ix2 f n) = w2 (ix2 ⟨f, by omega⟩ n))
    (hv1 : ∀ f n : Fin 1024, v1 (ix2 f n) = w2 (ix2 ⟨1024 + f, by omega⟩ n))
    (hv2 : ∀ f n : Fin 1024, v2 (ix2 f n) = w2 (ix2 ⟨2048 + f, by omega⟩ n))
    (hv3 : ∀ f n : Fin 1024, v3 (ix2 f n) = w2 (ix2 ⟨3072 + f, by omega⟩ n)) :
    k0_pay6 (F := Ideal) y (k0_pay3 (F := Ideal) v scale shift) (k0_pay4 (F := Ideal) v scale shift u0 v0 u1 v1)
        (k0_pay5 (F := Ideal) u2) (constant S512x1024 .f32 0x00000000#32) v2 u3 v3 gate2 g3 (ix2 r n)
      = Layer.sandwich (fun k => y (ix2 r k)) (Layer.mlp (Layer.modulated (fun k => y (ix2 r k)) (fun k => g2 (ix2 0 k))
          (fun k => scale (ix3 0 0 k)) (fun k => shift (ix3 0 0 k))) (fun k f => w1 (ix2 k f)) (fun f n => w2 (ix2 f n)))
          (fun k => g3 (ix2 0 k)) (fun k => gate2 (ix3 0 0 k)) n := by
  rw [finished_at]
  have hh : (fun k => k0_pay3 (F := Ideal) v scale shift (ix2 r k))
      = Layer.modulated (fun k => y (ix2 r k)) (fun k => g2 (ix2 0 k)) (fun k => scale (ix3 0 0 k))
          (fun k => shift (ix3 0 0 k)) := by
    funext k
    rw [modulated_at, hv, Layer.modulated]
  refine congrArg (fun u => Layer.sandwich _ u (fun k => g3 (ix2 0 k)) (fun k => gate2 (ix3 0 0 k)) n)
    (funext fun n => ?_)
  rw [accumulated, half_at, hh]
  exact mlp_eq_chunks _ w1 w2 u0 v0 u1 v1 u2 v2 u3 v3 hu0 hu1 hu2 hu3 hv0 hv1 hv2 hv3 n

/-- What the body leaves in its output block. -/
theorem block_at (a : FVec Ideal S512x1024 .bf16) (w : FVec Ideal S1024x1024 .bf16) (w1 : FVec Ideal S1024x4096 .bf16)
    (w2 : FVec Ideal S4096x1024 .bf16) (x : FVec Ideal S512x1024 .f32) (md : FVec Ideal S1x6x1024 .f32)
    (g : FVec Ideal S4x1024 .f32) (r : Fin 512) (n : Fin 1024) :
    out0_7 (F := Ideal) a w w1 w2 x md g (ix2 r n) = Layer.block (fun k => x (ix2 r k)) (fun k => a (ix2 r k))
      (fun l k => w (ix2 l k)) (fun k f => w1 (ix2 k f)) (fun f n => w2 (ix2 f n)) (fun k => g (ix2 1 k))
      (fun k => g (ix2 2 k)) (fun k => g (ix2 3 k)) (fun k => md (ix3 0 2 k)) (fun k => md (ix3 0 3 k))
      (fun k => md (ix3 0 4 k)) (fun k => md (ix3 0 5 k)) n := by
  unfold_out out0_7
  frame_out
  refine (residual_at _ _ w1 w2 _ _ _ _ _ _ _ _ _ _ _ _ _ r n (normed_at _ _ _ _ _ _ r) ?_ ?_ ?_ ?_ ?_ ?_ ?_ ?_).trans ?_
  any_goals
    intros
    pointwise
    done
  simp only [projected_at, Layer.block]
  pointwise

end Cert.BlockIdeal.Value

end
-- ==== Proof.Block.Value.lean ====
/- The result array of the output projection and the MLP is its reference's: each grid point's block is the reference's
   rows it covers, and the blocks tile the array. -/
module

public import proofs.«01_k».proof.Proof.Block.Reference
public import proofs.«01_k».proof.Proof.Block.Kernel

@[expose] public section

set_option maxRecDepth 16384

noncomputable section

open Idealize.ShloMosaic Idealize.ShloMosaic.TcCoe Idealize.SL.Sem
open Idealize.ShloMosaic.Pipeline (Dat)

namespace Cert.BlockIdeal.Value

open Cert.BlockIdeal Cert.BlockIdeal.Gen

variable (m : (ℓ : Loc nD τ sig) → Buf (Elt Ideal) ℓ)

/-- Every window's block at grid point `t`: the rows `512·t …` of the branch's output, of the stream and of the result,
    sample `t / 4` of the modulation, the whole of the gains and of the weights. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val / 4, 0, 0]
    ∧ win0_6.index t = ![0, 0] ∧ win0_7.index t = ![t.val, 0] :=
  (by decide +kernel : ∀ t : Fin grid0.N, _)

/-- One entry of a grid point's block is the reference's entry at the block's place in the array. -/
theorem point (c : Dev nD) (t : Fin cfg0.N) (y : S512x1024.Idx) :
    out0_7 (iblk m c 0 t) (iblk m c 1 t) (iblk m c 2 t) (iblk m c 3 t) (iblk m c 4 t) (iblk m c 5 t) (iblk m c 6 t) y
      = Cert.BlockRefIdeal.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (((cfg0.win 7).blk t).view.emb y) := by
  idx_vars y
  have ht : t.val < 64 := lt_of_lt_of_eq t.isLt N_0
  obtain_idx j : S32768x1024 := [t.val * 512 + (y0 : ℕ), (y1 : ℕ)] with hj
  have he : ((cfg0.win 7).blk t).view.emb (ix2 y0 y1) = j := by blk_ext [idx t]
  rw [he]
  idx_vars j
  refine (block_at _ _ _ _ _ _ _ y0 y1).trans (Eq.trans ?_ (Cert.BlockRefIdeal.Spec.result_at _ _ _ _ _ _ _
    ⟨t.val / 4, by omega⟩ ⟨t.val % 4 * 512 + y0, by omega⟩ j0 j1 (by simp only; omega) (by simp only; omega)).symm)
  obtain rfl : j1 = y1 := Fin.ext hj1
  refine Layer.block_congr _ ?_ ?_ ?_ ?_ ?_ ?_ ?_ ?_ ?_ ?_ ?_ ?_
  all_goals
    intros
    blk_point [iblk, V, idx t]

/-- The result array after the run is the reference's. -/
theorem final (c : Dev nD) : (dats m 0 c).arrAt 7 (cfgs 0).N
    = Cert.BlockRefIdeal.Spec.result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 7 _ (by decide +kernel) fun t hf y => ?_
  blk_simp
  rw [after0_7]
  exact point m c t y

end Cert.BlockIdeal.Value

end
-- ==== Proof.Block.Claims.lean ====
/- What is claimed of the output projection and the MLP: the frames of its kernel, of the kernel's idealization and of its
   reference, and the equality of the two results over the ideal numbers. -/
module

public import proofs.«01_k».proof.Defs
public import proofs.«01_k».proof.Proof.Gen.Block.Frame
public import proofs.«01_k».proof.Proof.Block.Value
public import proofs.«01_k».proof.Proof.Gen.BlockRefIdeal.Run
public import Idealize.ShloMosaic.Lib.Claim

@[expose] public section

set_option maxRecDepth 16384

noncomputable section

namespace Cert.Proof

open Idealize.ShloMosaic Idealize.SL.Sem

theorem frame_Block : Cert.quiescent_Block := fun m ρ _ => Cert.Block.Gen.frame m ρ

theorem frame_BlockIdeal : Cert.quiescent_BlockIdeal := fun m ρ _ => Cert.BlockIdeal.Gen.frame m ρ

theorem frame_BlockRefIdeal : Cert.quiescent_BlockRefIdeal := fun m g _ =>
  (θ_run Cert.BlockRefIdeal.defs _ _).mono
    (fun r h => ⟨fun c => (h c).2, Idealize.ShloMosaic.sem_eq_zero_of_no_sems (by decide) r.2⟩)
    (Cert.BlockRefIdeal.Value.run m g)

section
open Cert.BlockRefIdeal

/-- The reference's result, as its run states it, is `Spec.result` of its arguments. -/
theorem result_Block (m : (ℓ : Loc nD τ sig) → Buf (Elt Ideal) ℓ) (c : Dev nD) :
    Cert.BlockRefIdeal.Value.res_main_v69 m c = Cert.BlockRefIdeal.Spec.result (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := rfl

end

theorem algebraic_Block : Cert.algebraic_BlockIdeal_BlockRefIdeal := by
  pair_intro
  · run_from Cert.BlockIdeal.Gen.run_main m g
  · run_from Cert.BlockRefIdeal.Value.run m' g'
    obtain ⟨h0, h1, h2, h3, h4, h5, h6⟩ := hagree c
    rw [result_Block, h0, h1, h2, h3, h4, h5, h6]
    exact (Cert.BlockIdeal.Value.final m c).symm

end Cert.Proof

end
-- ==== Proof.Proj.Reference.lean ====
/- The in-projection's reference, read at an index: row `2048·b + s` of its result is the modulated norm of row `s` of
   sample `b` against the weight's column. -/
module

public import proofs.«01_k».proof.Proof.Layer
public import proofs.«01_k».proof.Proof.Gen.ProjRefIdeal

@[expose] public section

set_option maxRecDepth 16384

noncomputable section

open Idealize.ShloMosaic Idealize.ShloMosaic.TcCoe Idealize.SL.Sem

namespace Cert.ProjRefIdeal.Spec

open Cert.ProjRefIdeal Cert.ProjRefIdeal.Gen

/-- The reference's modulated norm of `x`, before its product with the weight. -/
def modulated (x : FVec Ideal S16x2048x1024 .f32) (md : FVec Ideal S16x6x1024 .f32) (g : FVec Ideal S4x1024 .f32) :
    FVec Ideal S16x2048x1024 .f32 :=
  addf (mulf (mulf (mulf x (broadcastInDim S16x2048x1024 ![0, 1, 2] bcast_S16x2048x1_S16x2048x1024_0_1_2 (Host.rsqrt
    (addf (Host.divf (broadcastInDim S16x2048x1 ![0, 1] bcast_S16x2048_S16x2048x1_0_1 (Host.reduceAdd (mulf x x)
      (constant S_ .f32 0x00000000#32) reducesTo_S16x2048x1024_S16x2048_d2 h_S_)) (broadcastInDim S16x2048x1 ![]
      bcast_S_S16x2048x1 (constant S_ .f32 0x44800000#32))) (broadcastInDim S16x2048x1 ![] bcast_S_S16x2048x1
      (constant S_ .f32 0x358637BD#32))))))
    (broadcastInDim S16x2048x1024 ![0, 1, 2] bcast_S1x1x1024_S16x2048x1024_0_1_2 (broadcastInDim S1x1x1024 ![2]
      bcast_S1024_S1x1x1024_2 (shapeCast _ (extractStridedSlice S1x1024 ![0, 0] g slices_S4x1024_S1x1024_0_0)
      shapeCasts_S1x1024_S1024))))
    (broadcastInDim S16x2048x1024 ![0, 1, 2] bcast_S16x1x1024_S16x2048x1024_0_1_2 (addf (broadcastInDim S16x1x1024 ![]
      bcast_S_S16x1x1024 (constant S_ .f32 0x3F800000#32)) (extractStridedSlice S16x1x1024 ![0, 1, 0] md
      slices_S16x6x1024_S16x1x1024_0_1_0))))
    (broadcastInDim S16x2048x1024 ![0, 1, 2] bcast_S16x1x1024_S16x2048x1024_0_1_2 (extractStridedSlice S16x1x1024
      ![0, 0, 0] md slices_S16x6x1024_S16x1x1024_0_0_0))

/-- The reference's result. -/
def result (x : FVec Ideal S16x2048x1024 .f32) (md : FVec Ideal S16x6x1024 .f32) (g : FVec Ideal S4x1024 .f32)
    (w : FVec Ideal S1024x1536 .f32) : FVec Ideal S32768x1536 .f32 :=
  shapeCast _ (Host.dotGeneral dot_S16x2048x1024_S1024x1536_S16x2048x1536_2_0_01_1_n_n none (modulated x md g) w)
    shapeCasts_S16x2048x1536_S32768x1536

theorem modulated_at (x : FVec Ideal S16x2048x1024 .f32) (md : FVec Ideal S16x6x1024 .f32) (g : FVec Ideal S4x1024 .f32)
    (b : Fin 16) (s : Fin 2048) (k : Fin 1024) :
    modulated x md g (ix3 b s k) = Layer.modulated (fun k => x (ix3 b s k)) (fun k => g (ix2 0 k))
      (fun k => md (ix3 b 1 k)) (fun k => md (ix3 b 0 k)) k := by
  pointwise! [modulated, Layer.modulated, Layer.normed, Layer.rmsFactor, Layer.width]

theorem result_at (x : FVec Ideal S16x2048x1024 .f32) (md : FVec Ideal S16x6x1024 .f32) (g : FVec Ideal S4x1024 .f32)
    (w : FVec Ideal S1024x1536 .f32) (b : Fin 16) (s : Fin 2048) (r : Fin 32768) (n : Fin 1536)
    (hb : (r : ℕ) / 2048 = b) (hs : (r : ℕ) % 2048 = s) :
    result x md g w (ix2 r n) = Layer.dot (Layer.modulated (fun k => x (ix3 b s k)) (fun k => g (ix2 0 k))
      (fun k => md (ix3 b 1 k)) (fun k => md (ix3 b 0 k))) (fun k => w (ix2 k n)) := by
  pointwise [result, Layer.dot, hb, hs]
  simp only [modulated_at]

end Cert.ProjRefIdeal.Spec

end
-- ==== Proof.Proj.Kernel.lean ====
/- The in-projection's kernel body, read at an index: each of its three column tiles holds the modulated norm of the
   block's row against the weight's column. -/
module

public import proofs.«01_k».proof.Proof.Layer
public import proofs.«01_k».proof.Proof.Gen.ProjIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

/-- The body's modulated norm of the block's rows. -/
theorem modulated_at (x : FVec Ideal S512x1024 .f32) (g : FVec Ideal S1x1024 .f32) (scale shift : FVec Ideal S1x1x1024 .f32)
    (r : Fin 512) (k : Fin 1024) :
    k0_pay2 (F := Ideal) x g scale shift (ix2 r k) = Layer.modulated (fun k => x (ix2 r k)) (fun k => g (ix2 0 k))
      (fun k => scale (ix3 0 0 k)) (fun k => shift (ix3 0 0 k)) k := by
  pointwise! [k0_pay2, Layer.modulated, Layer.normed, Layer.rmsFactor, Layer.width]

/-- What the body leaves in its output block: every column is the row's product with the weight's column. -/
theorem block_at (x : FVec Ideal S512x1024 .f32) (md : FVec Ideal S1x6x1024 .f32) (g : FVec Ideal S4x1024 .f32)
    (w : FVec Ideal S1024x1536 .bf16) (r : Fin 512) (n : Fin 1536) :
    out0_4 (F := Ideal) x md g w (ix2 r n) = Layer.dot (Layer.modulated (fun k => x (ix2 r k)) (fun k => g (ix2 0 k))
      (fun k => md (ix3 0 1 k)) (fun k => md (ix3 0 0 k))) (fun k => w (ix2 k n)) := by
  generalize hy : ix2 r n = y
  canon_tiles i h
  all_goals
    subst hy
    idx_vars i
    obtain rfl : r = i0 := Fin.ext h0
    pointwise [k0_pay1, k0_pay3, k0_pay4, Layer.dot]
    refine Finset.sum_congr rfl fun k _ => ?_
    refine Ideal.mul_congr ((modulated_at _ _ _ _ r k).trans ?_) (congrArg w (congrArg (ix2 k) (Fin.ext h1.symm)))
    pointwise

end Cert.ProjIdeal.Value

end
-- ==== Proof.Proj.Value.lean ====
/- The in-projection's result array is its reference's: each grid point's block is the reference's rows it covers, and
   the blocks tile the array. -/
module

public import proofs.«01_k».proof.Proof.Proj.Reference
public import proofs.«01_k».proof.Proof.Proj.Kernel

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- Every window's block at grid point `t`: the rows `512·t …` of the input and the output, sample `t / 4` of the
    modulation, the whole of the gains and of the weight. -/
theorem idx : ∀ t : Fin cfg0.N, win0_0.index t = ![t.val, 0] ∧ win0_1.index t = ![t.val / 4, 0, 0]
    ∧ win0_2.index t = ![0, 0] ∧ win0_3.index t = ![0, 0] ∧ win0_4.index t = ![t.val, 0] :=
  (by decide +kernel : ∀ t : Fin grid0.N, _)

/-- One entry of a grid point's block is the reference's entry at the block's place in the array. -/
theorem point (c : Dev nD) (t : Fin cfg0.N) (y : S512x1536.Idx) :
    out0_4 (iblk m c 0 t) (iblk m c 1 t) (iblk m c 2 t) (iblk m c 3 t) y
      = Cert.ProjRefIdeal.Spec.result (m ((c : Thread nD τ).loc main_arg0)) (m ((c : Thread nD τ).loc main_arg1))
          (m ((c : Thread nD τ).loc main_arg2)) (m ((c : Thread nD τ).loc main_arg3))
          (((cfg0.win 4).blk t).view.emb y) := by
  idx_vars y
  have ht : t.val < 64 := lt_of_lt_of_eq t.isLt N_0
  obtain_idx j : S32768x1536 := [t.val * 512 + (y0 : ℕ), (y1 : ℕ)] with hj
  have he : ((cfg0.win 4).blk t).view.emb (ix2 y0 y1) = j := by blk_ext [idx t]
  rw [he]
  idx_vars j
  refine (block_at _ _ _ _ y0 y1).trans (Eq.trans ?_ (Cert.ProjRefIdeal.Spec.result_at _ _ _ _
    ⟨t.val / 4, by omega⟩ ⟨t.val % 4 * 512 + y0, by omega⟩ j0 j1 (by simp only; omega) (by simp only; omega)).symm)
  obtain rfl : j1 = y1 := Fin.ext hj1
  simp only [Layer.dot, Layer.modulated, Layer.normed, Layer.rmsFactor]
  blk_point [iblk, V, idx t]

/-- The result array after the run is the reference's. -/
theorem final (c : Dev nD) : (dats m 0 c).arrAt 4 (cfgs 0).N
    = Cert.ProjRefIdeal.Spec.result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t y

end Cert.ProjIdeal.Value

end
-- ==== Proof.Proj.Claims.lean ====
/- What is claimed of the in-projection: the frames of its kernel, of the kernel's idealization and of its
   reference, and the equality of the two results over the ideal numbers. -/
module

public import proofs.«01_k».proof.Defs
public import proofs.«01_k».proof.Proof.Gen.Proj.Frame
public import proofs.«01_k».proof.Proof.Proj.Value
public import proofs.«01_k».proof.Proof.Gen.ProjRefIdeal.Run
public import Idealize.ShloMosaic.Lib.Claim

@[expose] public section

set_option maxRecDepth 16384

noncomputable section

namespace Cert.Proof

open Idealize.ShloMosaic Idealize.SL.Sem

theorem frame_Proj : Cert.quiescent_Proj := fun m ρ _ => Cert.Proj.Gen.frame m ρ

theorem frame_ProjIdeal : Cert.quiescent_ProjIdeal := fun m ρ _ => Cert.ProjIdeal.Gen.frame m ρ

theorem frame_ProjRefIdeal : Cert.quiescent_ProjRefIdeal := fun m g _ =>
  (θ_run Cert.ProjRefIdeal.defs _ _).mono
    (fun r h => ⟨fun c => (h c).2, Idealize.ShloMosaic.sem_eq_zero_of_no_sems (by decide) r.2⟩)
    (Cert.ProjRefIdeal.Value.run m g)

theorem algebraic_Proj : Cert.algebraic_ProjIdeal_ProjRefIdeal := by
  pair_intro
  · run_from Cert.ProjIdeal.Gen.run_main m g
  · run_from Cert.ProjRefIdeal.Value.run m' g'
    exact (Cert.ProjIdeal.Value.final m c).symm

end Cert.Proof

end
-- ==== Proof.Wide.Reference.lean ====
/- The reference of the output projection and the MLP for a mixer of width 2048, read at an index. What follows the
   projection is the narrow call's reference. -/
module

public import proofs.«01_k».proof.Proof.Block.Reference
public import proofs.«01_k».proof.Proof.Gen.WideRefIdeal

@[expose] public section

set_option maxRecDepth 16384

noncomputable section

open Idealize.ShloMosaic Idealize.ShloMosaic.TcCoe Idealize.SL.Sem

namespace Cert.WideRefIdeal.Spec

open Cert.WideRefIdeal Cert.WideRefIdeal.Gen
open Cert.BlockRefIdeal.Spec (norm spread finished norm_at finished_at)

/-- The reference's residual stream after the branch. -/
def projected (a : FVec Ideal S16x2048x2048 .bf16) (w : FVec Ideal S2048x1024 .f32) (x : FVec Ideal S16x2048x1024 .f32)
    (md : FVec Ideal S16x6x1024 .f32) (g : FVec Ideal S4x1024 .f32) : FVec Ideal S16x2048x1024 .f32 :=
  addf x (mulf (spread (extractStridedSlice S16x1x1024 ![0, 2, 0] md slices_S16x6x1024_S16x1x1024_0_2_0))
    (norm (Host.dotGeneral dot_S16x2048x2048_S2048x1024_S16x2048x1024_2_0_01_1_n_n none
      (extf .f32 a bitsLt_bf16_f32) w) (extractStridedSlice S1x1024 ![1, 0] g slices_S4x1024_S1x1024_1_0)))

/-- The reference's result. -/
def result (a : FVec Ideal S16x2048x2048 .bf16) (w : FVec Ideal S2048x1024 .f32) (w1 : FVec Ideal S1024x4096 .f32)
    (w2 : FVec Ideal S4096x1024 .f32) (x : FVec Ideal S16x2048x1024 .f32) (md : FVec Ideal S16x6x1024 .f32)
    (g : FVec Ideal S4x1024 .f32) : FVec Ideal S32768x1024 .f32 :=
  shapeCast _ (finished (projected a w x md g) w1 w2 md g) shapeCasts_S16x2048x1024_S32768x1024

/-- The residual stream at an index. -/
theorem projected_at (a : FVec Ideal S16x2048x2048 .bf16) (w : FVec Ideal S2048x1024 .f32)
    (x : FVec Ideal S16x2048x1024 .f32) (md : FVec Ideal S16x6x1024 .f32) (g : FVec Ideal S4x1024 .f32)
    (b : Fin 16) (s : Fin 2048) (k : Fin 1024) :
    projected a w x md g (ix3 b s k) = Layer.projected (fun k => x (ix3 b s k)) (fun k => a (ix3 b s k))
      (fun l k => w (ix2 l k)) (fun k => g (ix2 1 k)) (fun k => md (ix3 b 2 k)) k := by
  pointwise [projected, spread, Layer.projected, Layer.sandwich]
  simp only [norm_at]
  pointwise! [Layer.dot]

/-- The result at an index. -/
theorem result_at (a : FVec Ideal S16x2048x2048 .bf16) (w : FVec Ideal S2048x1024 .f32) (w1 : FVec Ideal S1024x4096 .f32)
    (w2 : FVec Ideal S4096x1024 .f32) (x : FVec Ideal S16x2048x1024 .f32) (md : FVec Ideal S16x6x1024 .f32)
    (g : FVec Ideal S4x1024 .f32) (b : Fin 16) (s : Fin 2048) (r : Fin 32768) (n : Fin 1024)
    (hb : (r : ℕ) / 2048 = b) (hs : (r : ℕ) % 2048 = s) :
    result a w w1 w2 x md g (ix2 r n) = Layer.block (fun k => x (ix3 b s k)) (fun k => a (ix3 b s k))
      (fun l k => w (ix2 l k)) (fun k f => w1 (ix2 k f)) (fun f n => w2 (ix2 f n)) (fun k => g (ix2 1 k))
      (fun k => g (ix2 2 k)) (fun k => g (ix2 3 k)) (fun k => md (ix3 b 2 k)) (fun k => md (ix3 b 3 k))
      (fun k => md (ix3 b 4 k)) (fun k => md (ix3 b 5 k)) n := by
  pointwise [result, hb, hs]
  simp only [finished_at, projected_at, Layer.block]

end Cert.WideRefIdeal.Spec

end
-- ==== Proof.Wide.Kernel.lean ====
/- The body of the output projection and the MLP for a mixer of width 2048, read at an index. Only the projection differs
   from the narrow call's body: what follows it is the same function of the residual rows. -/
module

public import proofs.«01_k».proof.Proof.Block.Kernel
public import proofs.«01_k».proof.Proof.Gen.WideIdeal.Frame

@[expose] public section

set_option maxRecDepth 16384

noncomputable section

open Idealize.ShloMosaic Idealize.ShloMosaic.TcCoe Idealize.SL.Sem

namespace Cert.WideIdeal.Value

open Cert.WideIdeal Cert.WideIdeal.Gen

/-- The rows after the branch. -/
theorem projected_at (a : FVec Ideal S512x2048 .bf16) (w : FVec Ideal S2048x1024 .bf16) (x : FVec Ideal S512x1024 .f32)
    (gate : FVec Ideal S1x1x1024 .f32) (g : FVec Ideal S1x1024 .f32) (r : Fin 512) (k : Fin 1024) :
    k0_pay1 (F := Ideal) a w x gate g (ix2 r k) = Layer.projected (fun k => x (ix2 r k)) (fun k => a (ix2 r k))
      (fun l k => w (ix2 l k)) (fun k => g (ix2 0 k)) (fun k => gate (ix3 0 0 k)) k := by
  pointwise! [k0_pay1, Layer.projected, Layer.sandwich, Layer.normed, Layer.rmsFactor, Layer.width, Layer.dot]

/-- Their norm before the MLP. -/
theorem normed_at (a : FVec Ideal S512x2048 .bf16) (w : FVec Ideal S2048x1024 .bf16) (x : FVec Ideal S512x1024 .f32)
    (gate : FVec Ideal S1x1x1024 .f32) (g g2 : FVec Ideal S1x1024 .f32) (r : Fin 512) (k : Fin 1024) :
    k0_pay2 (F := Ideal) a w x gate g g2 (ix2 r k)
      = Layer.normed (fun k => k0_pay1 (F := Ideal) a w x gate g (ix2 r k)) (fun k => g2 (ix2 0 k)) k := by
  pointwise! [k0_pay2, Layer.normed, Layer.rmsFactor, Layer.width]

/-- The modulation, the chunks' sum and the finish are the narrow call's. -/
theorem same_rest : k0_pay3 (F := Ideal) = Cert.BlockIdeal.Gen.k0_pay3 ∧ k0_pay4 (F := Ideal) = Cert.BlockIdeal.Gen.k0_pay4
    ∧ k0_pay5 (F := Ideal) = Cert.BlockIdeal.Gen.k0_pay5 ∧ k0_pay6 (F := Ideal) = Cert.BlockIdeal.Gen.k0_pay6 :=
  ⟨rfl, rfl, rfl, rfl⟩

/-- What the body leaves in its output block. -/
theorem block_at (a : FVec Ideal S512x2048 .bf16) (w : FVec Ideal S2048x1024 .bf16) (w1 : FVec Ideal S1024x4096 .bf16)
    (w2 : FVec Ideal S4096x1024 .bf16) (x : FVec Ideal S512x1024 .f32) (md : FVec Ideal S1x6x1024 .f32)
    (g : FVec Ideal S4x1024 .f32) (r : Fin 512) (n : Fin 1024) :
    out0_7 (F := Ideal) a w w1 w2 x md g (ix2 r n) = Layer.block (fun k => x (ix2 r k)) (fun k => a (ix2 r k))
      (fun l k => w (ix2 l k)) (fun k f => w1 (ix2 k f)) (fun f n => w2 (ix2 f n)) (fun k => g (ix2 1 k))
      (fun k => g (ix2 2 k)) (fun k => g (ix2 3 k)) (fun k => md (ix3 0 2 k)) (fun k => md (ix3 0 3 k))
      (fun k => md (ix3 0 4 k)) (fun k => md (ix3 0 5 k)) n := by
  unfold_out out0_7
  frame_out
  obtain ⟨h3, h4, h5, h6⟩ := same_rest
  rw [h3, h4, h5, h6]
  refine (Cert.BlockIdeal.Value.residual_at _ _ w1 w2 _ _ _ _ _ _ _ _ _ _ _ _ _ r n (normed_at _ _ _ _ _ _ r)
    ?_ ?_ ?_ ?_ ?_ ?_ ?_ ?_).trans ?_
  any_goals
    intros
    pointwise
    done
  simp only [projected_at, Layer.block]
  pointwise

end Cert.WideIdeal.Value

end
-- ==== Proof.Wide.Value.lean ====
/- The result array of layer 2's output projection and MLP is its reference's: each grid point's block is the reference's
   rows it covers, and the blocks tile the array. -/
module

public import proofs.«01_k».proof.Proof.Wide.Reference
public import proofs.«01_k».proof.Proof.Wide.Kernel

@[expose] public section

set_option maxRecDepth 16384

noncomputable section

open Idealize.ShloMosaic Idealize.ShloMosaic.TcCoe Idealize.SL.Sem

namespace Cert.WideIdeal.Value

open Cert.WideIdeal Cert.WideIdeal.Gen
open Cert.WideRefIdeal.Spec (result result_at)

variable (m : (ℓ : Loc nD τ sig) → Buf (Elt Ideal) ℓ)

/-- The reference's result of the arguments that `m` holds. -/
def wanted (c : Dev nD) : FVec Ideal S32768x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Every window's block at grid point `t`: the rows `512·t …` of the branch's output, of the stream and of the result,
    sample `t / 4` of the modulation, the whole of the gains and of the weights. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val / 4, 0, 0]
    ∧ win0_6.index t = ![0, 0] ∧ win0_7.index t = ![t.val, 0] :=
  (by decide +kernel : ∀ t : Fin grid0.N, _)

/-- One entry of a grid point's block is the reference's entry at the block's place in the array. -/
theorem point (c : Dev nD) (t : Fin cfg0.N) (y : S512x1024.Idx) :
    out0_7 (iblk m c 0 t) (iblk m c 1 t) (iblk m c 2 t) (iblk m c 3 t) (iblk m c 4 t) (iblk m c 5 t) (iblk m c 6 t) y
      = wanted m c (((cfg0.win 7).blk t).view.emb y) := by
  idx_vars y
  have ht : t.val < 64 := lt_of_lt_of_eq t.isLt N_0
  obtain_idx j : S32768x1024 := [t.val * 512 + (y0 : ℕ), (y1 : ℕ)] with hj
  have he : ((cfg0.win 7).blk t).view.emb (ix2 y0 y1) = j := by blk_ext [idx t]
  rw [he]
  idx_vars j
  refine (block_at _ _ _ _ _ _ _ y0 y1).trans (Eq.trans ?_ (result_at _ _ _ _ _ _ _
    ⟨t.val / 4, by omega⟩ ⟨t.val % 4 * 512 + y0, by omega⟩ j0 j1 (by simp only; omega) (by simp only; omega)).symm)
  obtain rfl : j1 = y1 := Fin.ext hj1
  refine Layer.block_congr _ ?_ ?_ ?_ ?_ ?_ ?_ ?_ ?_ ?_ ?_ ?_ ?_
  all_goals
    intros
    blk_point [iblk, V, idx t]

/-- The result array after the run is the reference's. -/
theorem final (c : Dev nD) : (dats m 0 c).arrAt 7 (cfgs 0).N = wanted m c := by
  refine (dats m 0 c).arrAt_eq_of_covers 7 _ (by decide +kernel) fun t hf y => ?_
  blk_simp
  rw [after0_7]
  exact point m c t y

end Cert.WideIdeal.Value

end
-- ==== Proof.Wide.Claims.lean ====
/- What is claimed of layer 2's output projection and MLP: the frames of its kernel, of the kernel's idealization and of its
   reference, and the equality of the two results over the ideal numbers. -/
module

public import proofs.«01_k».proof.Defs
public import proofs.«01_k».proof.Proof.Gen.Wide.Frame
public import proofs.«01_k».proof.Proof.Wide.Value
public import proofs.«01_k».proof.Proof.Gen.WideRefIdeal.Run
public import Idealize.ShloMosaic.Lib.Claim

@[expose] public section

set_option maxRecDepth 16384

noncomputable section

namespace Cert.Proof

open Idealize.ShloMosaic Idealize.SL.Sem

theorem frame_Wide : Cert.quiescent_Wide := fun m ρ _ => Cert.Wide.Gen.frame m ρ

theorem frame_WideIdeal : Cert.quiescent_WideIdeal := fun m ρ _ => Cert.WideIdeal.Gen.frame m ρ

theorem frame_WideRefIdeal : Cert.quiescent_WideRefIdeal := fun m g _ =>
  (θ_run Cert.WideRefIdeal.defs _ _).mono
    (fun r h => ⟨fun c => (h c).2, Idealize.ShloMosaic.sem_eq_zero_of_no_sems (by decide) r.2⟩)
    (Cert.WideRefIdeal.Value.run m g)

section
open Cert.WideRefIdeal

/-- The reference's result, as its run states it, is `Spec.result` of its arguments. -/
theorem result_Wide (m : (ℓ : Loc nD τ sig) → Buf (Elt Ideal) ℓ) (c : Dev nD) :
    Cert.WideRefIdeal.Value.res_main_v69 m c = Cert.WideRefIdeal.Spec.result (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := rfl

end

theorem algebraic_Wide : Cert.algebraic_WideIdeal_WideRefIdeal := by
  pair_intro
  · run_from Cert.WideIdeal.Gen.run_main m g
  · run_from Cert.WideRefIdeal.Value.run m' g'
    obtain ⟨h0, h1, h2, h3, h4, h5, h6⟩ := hagree c
    rw [result_Wide, h0, h1, h2, h3, h4, h5, h6]
    exact (Cert.WideIdeal.Value.final m c).symm

end Cert.Proof

end
-- ==== Proof.ProjHyena.Reference.lean ====
/- The reference of layer 1's in-projection, read at an index. Its modulated norm is layer 0's. -/
module

public import proofs.«01_k».proof.Proof.Proj.Reference
public import proofs.«01_k».proof.Proof.Gen.ProjHyenaRefIdeal

@[expose] public section

set_option maxRecDepth 16384

noncomputable section

open Idealize.ShloMosaic Idealize.ShloMosaic.TcCoe Idealize.SL.Sem

namespace Cert.ProjHyenaRefIdeal.Spec

open Cert.ProjHyenaRefIdeal Cert.ProjHyenaRefIdeal.Gen
open Cert.ProjRefIdeal.Spec (modulated modulated_at)

/-- The reference's result. -/
def result (x : FVec Ideal S16x2048x1024 .f32) (md : FVec Ideal S16x6x1024 .f32) (g : FVec Ideal S4x1024 .f32)
    (w : FVec Ideal S1024x3072 .f32) : FVec Ideal S32768x3072 .f32 :=
  shapeCast _ (Host.dotGeneral dot_S16x2048x1024_S1024x3072_S16x2048x3072_2_0_01_1_n_n none (modulated x md g) w)
    shapeCasts_S16x2048x3072_S32768x3072

/-- The result at an index. -/
theorem result_at (x : FVec Ideal S16x2048x1024 .f32) (md : FVec Ideal S16x6x1024 .f32) (g : FVec Ideal S4x1024 .f32)
    (w : FVec Ideal S1024x3072 .f32) (b : Fin 16) (s : Fin 2048) (r : Fin 32768) (n : Fin 3072)
    (hb : (r : ℕ) / 2048 = b) (hs : (r : ℕ) % 2048 = s) :
    result x md g w (ix2 r n) = Layer.dot (Layer.modulated (fun k => x (ix3 b s k)) (fun k => g (ix2 0 k))
      (fun k => md (ix3 b 1 k)) (fun k => md (ix3 b 0 k))) (fun k => w (ix2 k n)) := by
  pointwise [result, Layer.dot, hb, hs]
  simp only [modulated_at]

end Cert.ProjHyenaRefIdeal.Spec

end
-- ==== Proof.ProjHyena.Kernel.lean ====
/- The body of layer 1's in-projection, read at an index: each of its six column tiles holds the modulated norm of the
   block's row against the weight's column. The modulated norm is layer 0's. -/
module

public import proofs.«01_k».proof.Proof.Proj.Kernel
public import proofs.«01_k».proof.Proof.Gen.ProjHyenaIdeal.Frame

@[expose] public section

set_option maxRecDepth 16384

noncomputable section

open Idealize.ShloMosaic Idealize.ShloMosaic.TcCoe Idealize.SL.Sem

namespace Cert.ProjHyenaIdeal.Value

open Cert.ProjHyenaIdeal Cert.ProjHyenaIdeal.Gen

/-- The body's modulated norm is that of layer 0's call. -/
theorem same_norm : k0_pay5 (F := Ideal) = Cert.ProjIdeal.Gen.k0_pay2 := rfl

/-- What the body leaves in its output block: every column is the row's product with the weight's column. -/
theorem block_at (x : FVec Ideal S512x1024 .f32) (md : FVec Ideal S1x6x1024 .f32) (g : FVec Ideal S4x1024 .f32)
    (w : FVec Ideal S1024x3072 .bf16) (r : Fin 512) (n : Fin 3072) :
    out0_4 (F := Ideal) x md g w (ix2 r n) = Layer.dot (Layer.modulated (fun k => x (ix2 r k)) (fun k => g (ix2 0 k))
      (fun k => md (ix3 0 1 k)) (fun k => md (ix3 0 0 k))) (fun k => w (ix2 k n)) := by
  generalize hy : ix2 r n = y
  canon_tiles i h
  all_goals
    subst hy
    idx_vars i
    obtain rfl : r = i0 := Fin.ext h0
    pointwise [k0_pay1, k0_pay2, k0_pay3, k0_pay4, k0_pay6, k0_pay7, k0_pay8, Layer.dot]
    refine Finset.sum_congr rfl fun k _ => ?_
    rw [same_norm]
    refine Ideal.mul_congr ((Cert.ProjIdeal.Value.modulated_at _ _ _ _ r k).trans ?_)
      (congrArg w (congrArg (ix2 k) (Fin.ext h1.symm)))
    pointwise

end Cert.ProjHyenaIdeal.Value

end
-- ==== Proof.ProjHyena.Value.lean ====
/- The result array of layer 1's in-projection is its reference's: each grid point's block is the reference's rows it
   covers, and the blocks tile the array. -/
module

public import proofs.«01_k».proof.Proof.ProjHyena.Reference
public import proofs.«01_k».proof.Proof.ProjHyena.Kernel

@[expose] public section

set_option maxRecDepth 16384

noncomputable section

open Idealize.ShloMosaic Idealize.ShloMosaic.TcCoe Idealize.SL.Sem

namespace Cert.ProjHyenaIdeal.Value

open Cert.ProjHyenaIdeal Cert.ProjHyenaIdeal.Gen
open Cert.ProjHyenaRefIdeal.Spec (result result_at)

variable (m : (ℓ : Loc nD τ sig) → Buf (Elt Ideal) ℓ)

/-- Every window's block at grid point `t`: the rows `512·t …` of the input and the output, sample `t / 4` of the
    modulation, the whole of the gains and of the weight. -/
theorem idx : ∀ t : Fin cfg0.N, win0_0.index t = ![t.val, 0] ∧ win0_1.index t = ![t.val / 4, 0, 0]
    ∧ win0_2.index t = ![0, 0] ∧ win0_3.index t = ![0, 0] ∧ win0_4.index t = ![t.val, 0] :=
  (by decide +kernel : ∀ t : Fin grid0.N, _)

/-- One entry of a grid point's block is the reference's entry at the block's place in the array. -/
theorem point (c : Dev nD) (t : Fin cfg0.N) (y : S512x3072.Idx) :
    out0_4 (iblk m c 0 t) (iblk m c 1 t) (iblk m c 2 t) (iblk m c 3 t) y
      = result (m ((c : Thread nD τ).loc main_arg0)) (m ((c : Thread nD τ).loc main_arg1))
          (m ((c : Thread nD τ).loc main_arg2)) (m ((c : Thread nD τ).loc main_arg3))
          (((cfg0.win 4).blk t).view.emb y) := by
  idx_vars y
  have ht : t.val < 64 := lt_of_lt_of_eq t.isLt N_0
  obtain_idx j : S32768x3072 := [t.val * 512 + (y0 : ℕ), (y1 : ℕ)] with hj
  have he : ((cfg0.win 4).blk t).view.emb (ix2 y0 y1) = j := by blk_ext [idx t]
  rw [he]
  idx_vars j
  refine (block_at _ _ _ _ y0 y1).trans (Eq.trans ?_ (result_at _ _ _ _
    ⟨t.val / 4, by omega⟩ ⟨t.val % 4 * 512 + y0, by omega⟩ j0 j1 (by simp only; omega) (by simp only; omega)).symm)
  obtain rfl : j1 = y1 := Fin.ext hj1
  refine Layer.product_congr ?_ ?_ ?_ ?_ ?_
  all_goals
    intros
    blk_point [iblk, V, idx t]

/-- The result array after the run is the reference's. -/
theorem final (c : Dev nD) : (dats m 0 c).arrAt 4 (cfgs 0).N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t y

end Cert.ProjHyenaIdeal.Value

end
-- ==== Proof.ProjHyena.Claims.lean ====
/- What is claimed of layer 1's in-projection: the frames of its kernel, of the kernel's idealization and of its
   reference, and the equality of the two results over the ideal numbers. -/
module

public import proofs.«01_k».proof.Defs
public import proofs.«01_k».proof.Proof.Gen.ProjHyena.Frame
public import proofs.«01_k».proof.Proof.ProjHyena.Value
public import proofs.«01_k».proof.Proof.Gen.ProjHyenaRefIdeal.Run
public import Idealize.ShloMosaic.Lib.Claim

@[expose] public section

set_option maxRecDepth 16384

noncomputable section

namespace Cert.Proof

open Idealize.ShloMosaic Idealize.SL.Sem

theorem frame_ProjHyena : Cert.quiescent_ProjHyena := fun m ρ _ => Cert.ProjHyena.Gen.frame m ρ

theorem frame_ProjHyenaIdeal : Cert.quiescent_ProjHyenaIdeal := fun m ρ _ => Cert.ProjHyenaIdeal.Gen.frame m ρ

theorem frame_ProjHyenaRefIdeal : Cert.quiescent_ProjHyenaRefIdeal := fun m g _ =>
  (θ_run Cert.ProjHyenaRefIdeal.defs _ _).mono
    (fun r h => ⟨fun c => (h c).2, Idealize.ShloMosaic.sem_eq_zero_of_no_sems (by decide) r.2⟩)
    (Cert.ProjHyenaRefIdeal.Value.run m g)

theorem algebraic_ProjHyena : Cert.algebraic_ProjHyenaIdeal_ProjHyenaRefIdeal := by
  pair_intro
  · run_from Cert.ProjHyenaIdeal.Gen.run_main m g
  · run_from Cert.ProjHyenaRefIdeal.Value.run m' g'
    exact (Cert.ProjHyenaIdeal.Value.final m c).symm

end Cert.Proof

end
-- ==== Proof.ProjSsd.Reference.lean ====
/- The reference of layer 2's in-projection, read at an index. Its modulated norm is layer 0's. -/
module

public import proofs.«01_k».proof.Proof.Proj.Reference
public import proofs.«01_k».proof.Proof.Gen.ProjSsdRefIdeal

@[expose] public section

set_option maxRecDepth 16384

noncomputable section

open Idealize.ShloMosaic Idealize.ShloMosaic.TcCoe Idealize.SL.Sem

namespace Cert.ProjSsdRefIdeal.Spec

open Cert.ProjSsdRefIdeal Cert.ProjSsdRefIdeal.Gen
open Cert.ProjRefIdeal.Spec (modulated modulated_at)

/-- The reference's result. -/
def result (x : FVec Ideal S16x2048x1024 .f32) (md : FVec Ideal S16x6x1024 .f32) (g : FVec Ideal S4x1024 .f32)
    (w : FVec Ideal S1024x5184 .f32) : FVec Ideal S32768x5184 .f32 :=
  shapeCast _ (Host.dotGeneral dot_S16x2048x1024_S1024x5184_S16x2048x5184_2_0_01_1_n_n none (modulated x md g) w)
    shapeCasts_S16x2048x5184_S32768x5184

/-- The result at an index. -/
theorem result_at (x : FVec Ideal S16x2048x1024 .f32) (md : FVec Ideal S16x6x1024 .f32) (g : FVec Ideal S4x1024 .f32)
    (w : FVec Ideal S1024x5184 .f32) (b : Fin 16) (s : Fin 2048) (r : Fin 32768) (n : Fin 5184)
    (hb : (r : ℕ) / 2048 = b) (hs : (r : ℕ) % 2048 = s) :
    result x md g w (ix2 r n) = Layer.dot (Layer.modulated (fun k => x (ix3 b s k)) (fun k => g (ix2 0 k))
      (fun k => md (ix3 b 1 k)) (fun k => md (ix3 b 0 k))) (fun k => w (ix2 k n)) := by
  pointwise [result, Layer.dot, hb, hs]
  simp only [modulated_at]

end Cert.ProjSsdRefIdeal.Spec

end
-- ==== Proof.ProjSsd.Kernel.lean ====
/- The body of layer 2's in-projection, read at an index: each of its eleven column tiles, the last of them 64 wide, holds
   the modulated norm of the block's row against the weight's column. The modulated norm is layer 0's. -/
module

public import proofs.«01_k».proof.Proof.Proj.Kernel
public import proofs.«01_k».proof.Proof.Gen.ProjSsdIdeal.Frame

@[expose] public section

set_option maxRecDepth 16384

noncomputable section

open Idealize.ShloMosaic Idealize.ShloMosaic.TcCoe Idealize.SL.Sem

namespace Cert.ProjSsdIdeal.Value

open Cert.ProjSsdIdeal Cert.ProjSsdIdeal.Gen

/-- The body's modulated norm is that of layer 0's call. -/
theorem same_norm : k0_pay4 (F := Ideal) = Cert.ProjIdeal.Gen.k0_pay2 := rfl

/-- What the body leaves in its output block, for whatever its input blocks hold: every column is the row's product with
    the weight's column. -/
theorem tiles_at (c : Dev nD) (t : Fin cfg0.N) (x : FVec Ideal S512x1024 .f32) (md : FVec Ideal S1x6x1024 .f32)
    (g : FVec Ideal S4x1024 .f32) (w : FVec Ideal S1024x5184 .bf16) (r : Fin 512) (n : Fin 5184) :
    out0_A_4 (F := Ideal) c (grid0.coords t) (ms0_0 t) (hs0_0 t) (ms0_1 t) (hs0_1 t) (ms0_2 t) (hs0_2 t) (ms0_3 t) (hs0_3 t)
      (ms0_4 t) (hs0_4 t) x md g w (ix2 r n) = Layer.dot (Layer.modulated (fun k => x (ix2 r k)) (fun k => g (ix2 0 k))
      (fun k => md (ix3 0 1 k)) (fun k => md (ix3 0 0 k))) (fun k => w (ix2 k n)) := by
  frame_out
  generalize hy : ix2 r n = y
  canon_tiles i h using (View.cover_of_tiledBy _ ![512, 64] (by sl_kernel_rfl) y)
  all_goals
    subst hy
    idx_vars i
    obtain rfl : r = i0 := Fin.ext h0
    pointwise [k0_pay1, k0_pay2, k0_pay3, k0_pay5, k0_pay6, k0_pay7, k0_pay8, k0_pay9, k0_pay10, k0_pay11, k0_pay12, Layer.dot]
    refine Finset.sum_congr rfl fun k _ => ?_
    rw [same_norm]
    refine Ideal.mul_congr ((Cert.ProjIdeal.Value.modulated_at _ _ _ _ r k).trans ?_)
      (congrArg w (congrArg (ix2 k) (Fin.ext h1.symm)))
    pointwise

/-- The same at a grid point, whose input blocks are the windows'. -/
theorem block_at (m : (ℓ : Loc nD τ sig) → Buf (Elt Ideal) ℓ) (c : Dev nD) (t : Fin cfg0.N) (r : Fin 512) (n : Fin 5184) :
    outsAt0 m c t (ix2 r n) = Layer.dot (Layer.modulated (fun k => iblk m c 0 t (ix2 r k))
      (fun k => iblk m c 2 t (ix2 0 k)) (fun k => iblk m c 1 t (ix3 0 1 k)) (fun k => iblk m c 1 t (ix3 0 0 k)))
      (fun k => iblk m c 3 t (ix2 k n)) := by
  unfold outsAt0
  exact tiles_at c t _ _ _ _ r n

end Cert.ProjSsdIdeal.Value

end
-- ==== Proof.ProjSsd.Value.lean ====
/- The result array of layer 2's in-projection is its reference's: each grid point's block is the reference's rows it
   covers, and the blocks tile the array. -/
module

public import proofs.«01_k».proof.Proof.ProjSsd.Reference
public import proofs.«01_k».proof.Proof.ProjSsd.Kernel

@[expose] public section

set_option maxRecDepth 16384

noncomputable section

open Idealize.ShloMosaic Idealize.ShloMosaic.TcCoe Idealize.SL.Sem

namespace Cert.ProjSsdIdeal.Value

open Cert.ProjSsdIdeal Cert.ProjSsdIdeal.Gen
open Cert.ProjSsdRefIdeal.Spec (result result_at)

variable (m : (ℓ : Loc nD τ sig) → Buf (Elt Ideal) ℓ)

/-- Every window's block at grid point `t`: the rows `512·t …` of the input and the output, sample `t / 4` of the
    modulation, the whole of the gains and of the weight. -/
theorem idx : ∀ t : Fin cfg0.N, win0_0.index t = ![t.val, 0] ∧ win0_1.index t = ![t.val / 4, 0, 0]
    ∧ win0_2.index t = ![0, 0] ∧ win0_3.index t = ![0, 0] ∧ win0_4.index t = ![t.val, 0] :=
  (by decide +kernel : ∀ t : Fin grid0.N, _)

/-- One entry of a grid point's block is the reference's entry at the block's place in the array. -/
theorem point (c : Dev nD) (t : Fin cfg0.N) (y : S512x5184.Idx) :
    outsAt0 m c t y
      = result (m ((c : Thread nD τ).loc main_arg0)) (m ((c : Thread nD τ).loc main_arg1))
          (m ((c : Thread nD τ).loc main_arg2)) (m ((c : Thread nD τ).loc main_arg3))
          (((cfg0.win 4).blk t).view.emb y) := by
  idx_vars y
  have ht : t.val < 64 := lt_of_lt_of_eq t.isLt N_0
  obtain_idx j : S32768x5184 := [t.val * 512 + (y0 : ℕ), (y1 : ℕ)] with hj
  have he : ((cfg0.win 4).blk t).view.emb (ix2 y0 y1) = j := by blk_ext [idx t]
  rw [he]
  idx_vars j
  refine (block_at m c t y0 y1).trans (Eq.trans ?_ (result_at _ _ _ _
    ⟨t.val / 4, by omega⟩ ⟨t.val % 4 * 512 + y0, by omega⟩ j0 j1 (by simp only; omega) (by simp only; omega)).symm)
  obtain rfl : j1 = y1 := Fin.ext hj1
  refine Layer.product_congr ?_ ?_ ?_ ?_ ?_
  all_goals
    intros
    blk_point [iblk, V, idx t]

/-- The result array after the run is the reference's. -/
theorem final (c : Dev nD) : (dats m 0 c).arrAt 4 (cfgs 0).N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t y

end Cert.ProjSsdIdeal.Value

end
-- ==== Proof.ProjSsd.Claims.lean ====
/- What is claimed of layer 2's in-projection: the frames of its kernel, of the kernel's idealization and of its
   reference, and the equality of the two results over the ideal numbers. -/
module

public import proofs.«01_k».proof.Defs
public import proofs.«01_k».proof.Proof.Gen.ProjSsd.Frame
public import proofs.«01_k».proof.Proof.ProjSsd.Value
public import proofs.«01_k».proof.Proof.Gen.ProjSsdRefIdeal.Run
public import Idealize.ShloMosaic.Lib.Claim

@[expose] public section

set_option maxRecDepth 16384

noncomputable section

namespace Cert.Proof

open Idealize.ShloMosaic Idealize.SL.Sem

theorem frame_ProjSsd : Cert.quiescent_ProjSsd := fun m ρ _ => Cert.ProjSsd.Gen.frame m ρ

theorem frame_ProjSsdIdeal : Cert.quiescent_ProjSsdIdeal := fun m ρ _ => Cert.ProjSsdIdeal.Gen.frame m ρ

theorem frame_ProjSsdRefIdeal : Cert.quiescent_ProjSsdRefIdeal := fun m g _ =>
  (θ_run Cert.ProjSsdRefIdeal.defs _ _).mono
    (fun r h => ⟨fun c => (h c).2, Idealize.ShloMosaic.sem_eq_zero_of_no_sems (by decide) r.2⟩)
    (Cert.ProjSsdRefIdeal.Value.run m g)

theorem algebraic_ProjSsd : Cert.algebraic_ProjSsdIdeal_ProjSsdRefIdeal := by
  pair_intro
  · run_from Cert.ProjSsdIdeal.Gen.run_main m g
  · run_from Cert.ProjSsdRefIdeal.Value.run m' g'
    exact (Cert.ProjSsdIdeal.Value.final m c).symm

end Cert.Proof

end
-- ==== Proof.ProjNbr.Reference.lean ====
/- The reference of layer 3's in-projection, read at an index: layer 1's, narrowed to bf16, which over the ideal numbers
   changes nothing. -/
module

public import proofs.«01_k».proof.Proof.ProjHyena.Reference
public import proofs.«01_k».proof.Proof.Gen.ProjNbrRefIdeal

@[expose] public section

set_option maxRecDepth 16384

noncomputable section

open Idealize.ShloMosaic Idealize.ShloMosaic.TcCoe Idealize.SL.Sem

namespace Cert.ProjNbrRefIdeal.Spec

open Cert.ProjNbrRefIdeal Cert.ProjNbrRefIdeal.Gen

/-- The reference's result. -/
def result (x : FVec Ideal S16x2048x1024 .f32) (md : FVec Ideal S16x6x1024 .f32) (g : FVec Ideal S4x1024 .f32)
    (w : FVec Ideal S1024x3072 .f32) : FVec Ideal S32768x3072 .bf16 :=
  truncf .bf16 (Cert.ProjHyenaRefIdeal.Spec.result x md g w) bitsLt_bf16_f32

/-- The result at an index. -/
theorem result_at (x : FVec Ideal S16x2048x1024 .f32) (md : FVec Ideal S16x6x1024 .f32) (g : FVec Ideal S4x1024 .f32)
    (w : FVec Ideal S1024x3072 .f32) (b : Fin 16) (s : Fin 2048) (r : Fin 32768) (n : Fin 3072)
    (hb : (r : ℕ) / 2048 = b) (hs : (r : ℕ) % 2048 = s) :
    result x md g w (ix2 r n) = Layer.dot (Layer.modulated (fun k => x (ix3 b s k)) (fun k => g (ix2 0 k))
      (fun k => md (ix3 b 1 k)) (fun k => md (ix3 b 0 k))) (fun k => w (ix2 k n)) :=
  Cert.ProjHyenaRefIdeal.Spec.result_at x md g w b s r n hb hs

end Cert.ProjNbrRefIdeal.Spec

end
-- ==== Proof.ProjNbr.Kernel.lean ====
/- The body of layer 3's in-projection, read at an index. It is layer 1's body with its result narrowed to bf16, and over
   the ideal numbers the narrowing changes nothing. -/
module

public import proofs.«01_k».proof.Proof.ProjHyena.Kernel
public import proofs.«01_k».proof.Proof.Gen.ProjNbrIdeal.Frame

@[expose] public section

set_option maxRecDepth 16384

noncomputable section

open Idealize.ShloMosaic Idealize.ShloMosaic.TcCoe Idealize.SL.Sem

namespace Cert.ProjNbrIdeal.Value

open Cert.ProjNbrIdeal Cert.ProjNbrIdeal.Gen

/-- The body's block is that of layer 1's call. -/
theorem same_block (x : FVec Ideal S512x1024 .f32) (md : FVec Ideal S1x6x1024 .f32) (g : FVec Ideal S4x1024 .f32)
    (w : FVec Ideal S1024x3072 .bf16) (y : S512x3072.Idx) :
    out0_4 (F := Ideal) x md g w y = Cert.ProjHyenaIdeal.Gen.out0_4 (F := Ideal) x md g w y := rfl

/-- What the body leaves in its output block: every column is the row's product with the weight's column. -/
theorem block_at (x : FVec Ideal S512x1024 .f32) (md : FVec Ideal S1x6x1024 .f32) (g : FVec Ideal S4x1024 .f32)
    (w : FVec Ideal S1024x3072 .bf16) (r : Fin 512) (n : Fin 3072) :
    out0_4 (F := Ideal) x md g w (ix2 r n) = Layer.dot (Layer.modulated (fun k => x (ix2 r k)) (fun k => g (ix2 0 k))
      (fun k => md (ix3 0 1 k)) (fun k => md (ix3 0 0 k))) (fun k => w (ix2 k n)) :=
  (same_block x md g w _).trans (Cert.ProjHyenaIdeal.Value.block_at x md g w r n)

end Cert.ProjNbrIdeal.Value

end
-- ==== Proof.ProjNbr.Value.lean ====
/- The result array of layer 3's in-projection is its reference's: each grid point's block is the reference's rows it
   covers, and the blocks tile the array. -/
module

public import proofs.«01_k».proof.Proof.ProjNbr.Reference
public import proofs.«01_k».proof.Proof.ProjNbr.Kernel

@[expose] public section

set_option maxRecDepth 16384

noncomputable section

open Idealize.ShloMosaic Idealize.ShloMosaic.TcCoe Idealize.SL.Sem

namespace Cert.ProjNbrIdeal.Value

open Cert.ProjNbrIdeal Cert.ProjNbrIdeal.Gen
open Cert.ProjNbrRefIdeal.Spec (result result_at)

variable (m : (ℓ : Loc nD τ sig) → Buf (Elt Ideal) ℓ)

/-- Every window's block at grid point `t`: the rows `512·t …` of the input and the output, sample `t / 4` of the
    modulation, the whole of the gains and of the weight. -/
theorem idx : ∀ t : Fin cfg0.N, win0_0.index t = ![t.val, 0] ∧ win0_1.index t = ![t.val / 4, 0, 0]
    ∧ win0_2.index t = ![0, 0] ∧ win0_3.index t = ![0, 0] ∧ win0_4.index t = ![t.val, 0] :=
  (by decide +kernel : ∀ t : Fin grid0.N, _)

/-- One entry of a grid point's block is the reference's entry at the block's place in the array. -/
theorem point (c : Dev nD) (t : Fin cfg0.N) (y : S512x3072.Idx) :
    out0_4 (iblk m c 0 t) (iblk m c 1 t) (iblk m c 2 t) (iblk m c 3 t) y
      = result (m ((c : Thread nD τ).loc main_arg0)) (m ((c : Thread nD τ).loc main_arg1))
          (m ((c : Thread nD τ).loc main_arg2)) (m ((c : Thread nD τ).loc main_arg3))
          (((cfg0.win 4).blk t).view.emb y) := by
  idx_vars y
  have ht : t.val < 64 := lt_of_lt_of_eq t.isLt N_0
  obtain_idx j : S32768x3072 := [t.val * 512 + (y0 : ℕ), (y1 : ℕ)] with hj
  have he : ((cfg0.win 4).blk t).view.emb (ix2 y0 y1) = j := by blk_ext [idx t]
  rw [he]
  idx_vars j
  refine (block_at _ _ _ _ y0 y1).trans (Eq.trans ?_ (result_at _ _ _ _
    ⟨t.val / 4, by omega⟩ ⟨t.val % 4 * 512 + y0, by omega⟩ j0 j1 (by simp only; omega) (by simp only; omega)).symm)
  obtain rfl : j1 = y1 := Fin.ext hj1
  refine Layer.product_congr ?_ ?_ ?_ ?_ ?_
  all_goals
    intros
    blk_point [iblk, V, idx t]

/-- The result array after the run is the reference's. -/
theorem final (c : Dev nD) : (dats m 0 c).arrAt 4 (cfgs 0).N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t y

end Cert.ProjNbrIdeal.Value

end
-- ==== Proof.ProjNbr.Claims.lean ====
/- What is claimed of layer 3's in-projection: the frames of its kernel, of the kernel's idealization and of its
   reference, and the equality of the two results over the ideal numbers. -/
module

public import proofs.«01_k».proof.Defs
public import proofs.«01_k».proof.Proof.Gen.ProjNbr.Frame
public import proofs.«01_k».proof.Proof.ProjNbr.Value
public import proofs.«01_k».proof.Proof.Gen.ProjNbrRefIdeal.Run
public import Idealize.ShloMosaic.Lib.Claim

@[expose] public section

set_option maxRecDepth 16384

noncomputable section

namespace Cert.Proof

open Idealize.ShloMosaic Idealize.SL.Sem

theorem frame_ProjNbr : Cert.quiescent_ProjNbr := fun m ρ _ => Cert.ProjNbr.Gen.frame m ρ

theorem frame_ProjNbrIdeal : Cert.quiescent_ProjNbrIdeal := fun m ρ _ => Cert.ProjNbrIdeal.Gen.frame m ρ

theorem frame_ProjNbrRefIdeal : Cert.quiescent_ProjNbrRefIdeal := fun m g _ =>
  (θ_run Cert.ProjNbrRefIdeal.defs _ _).mono
    (fun r h => ⟨fun c => (h c).2, Idealize.ShloMosaic.sem_eq_zero_of_no_sems (by decide) r.2⟩)
    (Cert.ProjNbrRefIdeal.Value.run m g)

theorem algebraic_ProjNbr : Cert.algebraic_ProjNbrIdeal_ProjNbrRefIdeal := by
  pair_intro
  · run_from Cert.ProjNbrIdeal.Gen.run_main m g
  · run_from Cert.ProjNbrRefIdeal.Value.run m' g'
    exact (Cert.ProjNbrIdeal.Value.final m c).symm

end Cert.Proof

end
-- ==== Proof.Ctx.Reference.lean ====
/- What the references of the context stream's calls share, read at an index: the norm, the modulation and the MLP of
   16 samples of 256 rows, with one modulation for all the samples. -/
module

public import proofs.«01_k».proof.Proof.Layer
public import proofs.«01_k».proof.Proof.Gen.CtxBlockRefIdeal

@[expose] public section

set_option maxRecDepth 16384

noncomputable section

open Idealize.ShloMosaic Idealize.ShloMosaic.TcCoe Idealize.SL.Sem

namespace Cert.Ctx

open Cert.CtxBlockRefIdeal Cert.CtxBlockRefIdeal.Gen

/-- The reference's root-mean-square norm with a gain. -/
def norm (x : FVec Ideal S16x256x1024 .f32) (g : FVec Ideal S1x1024 .f32) : FVec Ideal S16x256x1024 .f32 :=
  mulf (mulf x (broadcastInDim S16x256x1024 ![0, 1, 2] bcast_S16x256x1_S16x256x1024_0_1_2 (Host.rsqrt
    (addf (Host.divf (broadcastInDim S16x256x1 ![0, 1] bcast_S16x256_S16x256x1_0_1 (Host.reduceAdd (mulf x x)
      (constant S_ .f32 0x00000000#32) reducesTo_S16x256x1024_S16x256_d2 h_S_)) (broadcastInDim S16x256x1 ![]
      bcast_S_S16x256x1 (constant S_ .f32 0x44800000#32))) (broadcastInDim S16x256x1 ![] bcast_S_S16x256x1
      (constant S_ .f32 0x358637BD#32))))))
    (broadcastInDim S16x256x1024 ![0, 1, 2] bcast_S1x1x1024_S16x256x1024_0_1_2 (broadcastInDim S1x1x1024 ![2]
      bcast_S1024_S1x1x1024_2 (shapeCast _ g shapeCasts_S1x1024_S1024)))

/-- A row of the modulation at every position of every sample. -/
def spread (v : FVec Ideal S1x1x1024 .f32) : FVec Ideal S16x256x1024 .f32 :=
  broadcastInDim S16x256x1024 ![0, 1, 2] bcast_S1x1x1024_S16x256x1024_0_1_2 v

/-- The reference's modulated norm. -/
def modulated (y : FVec Ideal S16x256x1024 .f32) (g : FVec Ideal S1x1024 .f32) (scale shift : FVec Ideal S1x1x1024 .f32) :
    FVec Ideal S16x256x1024 .f32 :=
  addf (mulf (norm y g) (spread (addf (broadcastInDim S1x1x1024 ![] bcast_S_S1x1x1024 (constant S_ .f32 0x3F800000#32))
    scale))) (spread shift)

/-- The reference's ReLU. -/
def relu (h : FVec Ideal S16x256x4096 .f32) : FVec Ideal S16x256x4096 .f32 :=
  maximumf h (broadcastInDim S16x256x4096 ![] bcast_S_S16x256x4096 (constant S_ .f32 0x00000000#32))

/-- The reference's MLP. -/
def mlp (h : FVec Ideal S16x256x1024 .f32) (w1 : FVec Ideal S1024x4096 .f32) (w2 : FVec Ideal S4096x1024 .f32) :
    FVec Ideal S16x256x1024 .f32 :=
  Host.dotGeneral dot_S16x256x4096_S4096x1024_S16x256x1024_2_0_01_1_n_n none
    (mulf (relu (Host.dotGeneral dot_S16x256x1024_S1024x4096_S16x256x4096_2_0_01_1_n_n none h w1))
      (relu (Host.dotGeneral dot_S16x256x1024_S1024x4096_S16x256x4096_2_0_01_1_n_n none h w1))) w2

/-- The reference's stream after a branch whose projected output is `u`. -/
def projected (u x : FVec Ideal S16x256x1024 .f32) (md : FVec Ideal S1x6x1024 .f32) (g : FVec Ideal S4x1024 .f32) :
    FVec Ideal S16x256x1024 .f32 :=
  addf x (mulf (spread (extractStridedSlice S1x1x1024 ![0, 2, 0] md slices_S1x6x1024_S1x1x1024_0_2_0))
    (norm u (extractStridedSlice S1x1024 ![1, 0] g slices_S4x1024_S1x1024_1_0)))

/-- The reference's stream after the MLP. -/
def finished (y : FVec Ideal S16x256x1024 .f32) (w1 : FVec Ideal S1024x4096 .f32) (w2 : FVec Ideal S4096x1024 .f32)
    (md : FVec Ideal S1x6x1024 .f32) (g : FVec Ideal S4x1024 .f32) : FVec Ideal S16x256x1024 .f32 :=
  addf y (mulf (spread (extractStridedSlice S1x1x1024 ![0, 5, 0] md slices_S1x6x1024_S1x1x1024_0_5_0))
    (norm (mlp (modulated y (extractStridedSlice S1x1024 ![2, 0] g slices_S4x1024_S1x1024_2_0)
      (extractStridedSlice S1x1x1024 ![0, 4, 0] md slices_S1x6x1024_S1x1x1024_0_4_0)
      (extractStridedSlice S1x1x1024 ![0, 3, 0] md slices_S1x6x1024_S1x1x1024_0_3_0)) w1 w2)
      (extractStridedSlice S1x1024 ![3, 0] g slices_S4x1024_S1x1024_3_0)))

/-- The norm at an index. -/
theorem norm_at (x : FVec Ideal S16x256x1024 .f32) (g : FVec Ideal S1x1024 .f32) (b : Fin 16) (s : Fin 256)
    (k : Fin 1024) : norm x g (ix3 b s k) = Layer.normed (fun k => x (ix3 b s k)) (fun k => g (ix2 0 k)) k := by
  pointwise! [norm, Layer.normed, Layer.rmsFactor, Layer.width]

/-- The modulated norm at an index. -/
theorem modulated_at (y : FVec Ideal S16x256x1024 .f32) (g : FVec Ideal S1x1024 .f32)
    (scale shift : FVec Ideal S1x1x1024 .f32) (b : Fin 16) (s : Fin 256) (k : Fin 1024) :
    modulated y g scale shift (ix3 b s k) = Layer.modulated (fun k => y (ix3 b s k)) (fun k => g (ix2 0 k))
      (fun k => scale (ix3 0 0 k)) (fun k => shift (ix3 0 0 k)) k := by
  pointwise [modulated, spread, Layer.modulated]
  simp only [norm_at]

/-- The MLP at an index. -/
theorem mlp_at (h : FVec Ideal S16x256x1024 .f32) (w1 : FVec Ideal S1024x4096 .f32) (w2 : FVec Ideal S4096x1024 .f32)
    (b : Fin 16) (s : Fin 256) (n : Fin 1024) :
    mlp h w1 w2 (ix3 b s n)
      = Layer.mlp (fun k => h (ix3 b s k)) (fun k f => w1 (ix2 k f)) (fun f n => w2 (ix2 f n)) n := by
  pointwise! [mlp, relu, Layer.mlp, Layer.dot, Layer.relu2]

/-- The stream after the branch at an index. -/
theorem projected_at (u x : FVec Ideal S16x256x1024 .f32) (md : FVec Ideal S1x6x1024 .f32) (g : FVec Ideal S4x1024 .f32)
    (b : Fin 16) (s : Fin 256) (k : Fin 1024) :
    projected u x md g (ix3 b s k) = Layer.sandwich (fun k => x (ix3 b s k)) (fun k => u (ix3 b s k))
      (fun k => g (ix2 1 k)) (fun k => md (ix3 0 2 k)) k := by
  pointwise [projected, spread, Layer.sandwich]
  simp only [norm_at]
  pointwise!

/-- The stream after the MLP at an index. -/
theorem finished_at (y : FVec Ideal S16x256x1024 .f32) (w1 : FVec Ideal S1024x4096 .f32) (w2 : FVec Ideal S4096x1024 .f32)
    (md : FVec Ideal S1x6x1024 .f32) (g : FVec Ideal S4x1024 .f32) (b : Fin 16) (s : Fin 256) (n : Fin 1024) :
    finished y w1 w2 md g (ix3 b s n) = Layer.sandwich (fun k => y (ix3 b s k))
      (Layer.mlp (Layer.modulated (fun k => y (ix3 b s k)) (fun k => g (ix2 2 k)) (fun k => md (ix3 0 4 k))
        (fun k => md (ix3 0 3 k))) (fun k f => w1 (ix2 k f)) (fun f n => w2 (ix2 f n)))
      (fun k => g (ix2 3 k)) (fun k => md (ix3 0 5 k)) n := by
  pointwise [finished, spread, Layer.sandwich]
  simp only [norm_at, mlp_at, modulated_at]
  pointwise!

end Cert.Ctx

end
-- ==== Proof.CtxBlock.Value.lean ====
/- The context stream's output projection and MLP of layers 0 and 1: its kernel's result array is its reference's. The
   kernel's body is the latent call's; eight grid points cover the context's rows. -/
module

public import proofs.«01_k».proof.Proof.Ctx.Reference
public import proofs.«01_k».proof.Proof.Block.Kernel
public import proofs.«01_k».proof.Proof.Gen.CtxBlockIdeal.Frame
public import proofs.«01_k».proof.Proof.Gen.CtxBlockRefIdeal

@[expose] public section

set_option maxRecDepth 16384

noncomputable section

open Idealize.ShloMosaic Idealize.ShloMosaic.TcCoe Idealize.SL.Sem

namespace Cert.CtxBlockRefIdeal.Spec

open Cert.CtxBlockRefIdeal Cert.CtxBlockRefIdeal.Gen

/-- The reference's stream after the branch. -/
def projected (a : FVec Ideal S16x256x1024 .bf16) (w : FVec Ideal S1024x1024 .f32) (x : FVec Ideal S16x256x1024 .f32)
    (md : FVec Ideal S1x6x1024 .f32) (g : FVec Ideal S4x1024 .f32) : FVec Ideal S16x256x1024 .f32 :=
  Ctx.projected (Host.dotGeneral dot_S16x256x1024_S1024x1024_S16x256x1024_2_0_01_1_n_n none (extf .f32 a bitsLt_bf16_f32) w)
    x md g

/-- The reference's result. -/
def result (a : FVec Ideal S16x256x1024 .bf16) (w : FVec Ideal S1024x1024 .f32) (w1 : FVec Ideal S1024x4096 .f32)
    (w2 : FVec Ideal S4096x1024 .f32) (x : FVec Ideal S16x256x1024 .f32) (md : FVec Ideal S1x6x1024 .f32)
    (g : FVec Ideal S4x1024 .f32) : FVec Ideal S4096x1024 .f32 :=
  shapeCast _ (Ctx.finished (projected a w x md g) w1 w2 md g) shapeCasts_S16x256x1024_S4096x1024

/-- The stream after the branch at an index. -/
theorem projected_at (a : FVec Ideal S16x256x1024 .bf16) (w : FVec Ideal S1024x1024 .f32) (x : FVec Ideal S16x256x1024 .f32)
    (md : FVec Ideal S1x6x1024 .f32) (g : FVec Ideal S4x1024 .f32) (b : Fin 16) (s : Fin 256) (k : Fin 1024) :
    projected a w x md g (ix3 b s k) = Layer.projected (fun k => x (ix3 b s k)) (fun k => a (ix3 b s k))
      (fun l k => w (ix2 l k)) (fun k => g (ix2 1 k)) (fun k => md (ix3 0 2 k)) k := by
  unfold projected
  rw [Ctx.projected_at]
  unfold Layer.projected
  congr 1
  funext k
  pointwise! [Layer.dot]

/-- The result at an index. -/
theorem result_at (a : FVec Ideal S16x256x1024 .bf16) (w : FVec Ideal S1024x1024 .f32) (w1 : FVec Ideal S1024x4096 .f32)
    (w2 : FVec Ideal S4096x1024 .f32) (x : FVec Ideal S16x256x1024 .f32) (md : FVec Ideal S1x6x1024 .f32)
    (g : FVec Ideal S4x1024 .f32) (b : Fin 16) (s : Fin 256) (r : Fin 4096) (n : Fin 1024)
    (hb : (r : ℕ) / 256 = b) (hs : (r : ℕ) % 256 = s) :
    result a w w1 w2 x md g (ix2 r n) = Layer.block (fun k => x (ix3 b s k)) (fun k => a (ix3 b s k))
      (fun l k => w (ix2 l k)) (fun k f => w1 (ix2 k f)) (fun f n => w2 (ix2 f n)) (fun k => g (ix2 1 k))
      (fun k => g (ix2 2 k)) (fun k => g (ix2 3 k)) (fun k => md (ix3 0 2 k)) (fun k => md (ix3 0 3 k))
      (fun k => md (ix3 0 4 k)) (fun k => md (ix3 0 5 k)) n := by
  pointwise [result, hb, hs]
  simp only [Ctx.finished_at, projected_at, Layer.block]

end Cert.CtxBlockRefIdeal.Spec

namespace Cert.CtxBlockIdeal.Value

open Cert.CtxBlockIdeal Cert.CtxBlockIdeal.Gen
open Cert.CtxBlockRefIdeal.Spec (result result_at)

variable (m : (ℓ : Loc nD τ sig) → Buf (Elt Ideal) ℓ)

/-- The reference's result of the arguments that `m` holds. -/
def wanted (c : Dev nD) : FVec Ideal S4096x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The body's block is that of the latent call. -/
theorem same_block (a : FVec Ideal S512x1024 .bf16) (w : FVec Ideal S1024x1024 .bf16) (w1 : FVec Ideal S1024x4096 .bf16)
    (w2 : FVec Ideal S4096x1024 .bf16) (x : FVec Ideal S512x1024 .f32) (md : FVec Ideal S1x6x1024 .f32)
    (g : FVec Ideal S4x1024 .f32) (y : S512x1024.Idx) :
    out0_7 (F := Ideal) a w w1 w2 x md g y = Cert.BlockIdeal.Gen.out0_7 (F := Ideal) a w w1 w2 x md g y := rfl

/-- Every window's block at grid point `t`: the rows `512·t …` of the branch's output, of the stream and of the result,
    the whole of the modulation, of the gains and of the weights. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, 0, 0]
    ∧ win0_6.index t = ![0, 0] ∧ win0_7.index t = ![t.val, 0] :=
  (by decide +kernel : ∀ t : Fin grid0.N, _)

/-- One entry of a grid point's block is the reference's entry at the block's place in the array. -/
theorem point (c : Dev nD) (t : Fin cfg0.N) (y : S512x1024.Idx) :
    out0_7 (iblk m c 0 t) (iblk m c 1 t) (iblk m c 2 t) (iblk m c 3 t) (iblk m c 4 t) (iblk m c 5 t) (iblk m c 6 t) y
      = wanted m c (((cfg0.win 7).blk t).view.emb y) := by
  idx_vars y
  have ht : t.val < 8 := lt_of_lt_of_eq t.isLt N_0
  obtain_idx j : S4096x1024 := [t.val * 512 + (y0 : ℕ), (y1 : ℕ)] with hj
  have he : ((cfg0.win 7).blk t).view.emb (ix2 y0 y1) = j := by blk_ext [idx t]
  rw [he]
  idx_vars j
  refine ((same_block _ _ _ _ _ _ _ _).trans (Cert.BlockIdeal.Value.block_at _ _ _ _ _ _ _ y0 y1)).trans (Eq.trans ?_
    (result_at _ _ _ _ _ _ _ ⟨t.val * 2 + y0 / 256, by omega⟩ ⟨y0 % 256, by omega⟩ j0 j1
      (by simp only; omega) (by simp only; omega)).symm)
  obtain rfl : j1 = y1 := Fin.ext hj1
  refine Layer.block_congr _ ?_ ?_ ?_ ?_ ?_ ?_ ?_ ?_ ?_ ?_ ?_ ?_
  all_goals
    intros
    blk_point [iblk, V, idx t]

/-- The result array after the run is the reference's. -/
theorem final (c : Dev nD) : (dats m 0 c).arrAt 7 (cfgs 0).N = wanted m c := by
  refine (dats m 0 c).arrAt_eq_of_covers 7 _ (by decide +kernel) fun t hf y => ?_
  blk_simp
  rw [after0_7]
  exact point m c t y

end Cert.CtxBlockIdeal.Value

end
-- ==== Proof.CtxBlock.Claims.lean ====
/- What is claimed of the context stream's output projection and MLP of layers 0 and 1: the frames
   of its kernel, of the kernel's idealization and of its reference, and the equality of the two results over the ideal
   numbers. -/
module

public import proofs.«01_k».proof.Defs
public import proofs.«01_k».proof.Proof.Gen.CtxBlock.Frame
public import proofs.«01_k».proof.Proof.CtxBlock.Value
public import proofs.«01_k».proof.Proof.Gen.CtxBlockRefIdeal.Run
public import Idealize.ShloMosaic.Lib.Claim

@[expose] public section

set_option maxRecDepth 16384

noncomputable section

namespace Cert.Proof

open Idealize.ShloMosaic Idealize.SL.Sem

theorem frame_CtxBlock : Cert.quiescent_CtxBlock := fun m ρ _ => Cert.CtxBlock.Gen.frame m ρ

theorem frame_CtxBlockIdeal : Cert.quiescent_CtxBlockIdeal := fun m ρ _ => Cert.CtxBlockIdeal.Gen.frame m ρ

theorem frame_CtxBlockRefIdeal : Cert.quiescent_CtxBlockRefIdeal := fun m g _ =>
  (θ_run Cert.CtxBlockRefIdeal.defs _ _).mono
    (fun r h => ⟨fun c => (h c).2, Idealize.ShloMosaic.sem_eq_zero_of_no_sems (by decide) r.2⟩)
    (Cert.CtxBlockRefIdeal.Value.run m g)

section
open Cert.CtxBlockRefIdeal

/-- The reference's result, as its run states it, is `Spec.result` of its arguments. -/
theorem result_CtxBlock (m : (ℓ : Loc nD τ sig) → Buf (Elt Ideal) ℓ) (c : Dev nD) :
    Cert.CtxBlockRefIdeal.Value.res_main_v69 m c = Cert.CtxBlockRefIdeal.Spec.result (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := rfl

end

theorem algebraic_CtxBlock : Cert.algebraic_CtxBlockIdeal_CtxBlockRefIdeal := by
  pair_intro
  · run_from Cert.CtxBlockIdeal.Gen.run_main m g
  · run_from Cert.CtxBlockRefIdeal.Value.run m' g'
    obtain ⟨h0, h1, h2, h3, h4, h5, h6⟩ := hagree c
    rw [result_CtxBlock, h0, h1, h2, h3, h4, h5, h6]
    exact (Cert.CtxBlockIdeal.Value.final m c).symm

end Cert.Proof

end
-- ==== Proof.CtxWide.Value.lean ====
/- The context stream's output projection and MLP of layer 2: its kernel's result array is its reference's. The
   kernel's body is the latent call's; eight grid points cover the context's rows. -/
module

public import proofs.«01_k».proof.Proof.Ctx.Reference
public import proofs.«01_k».proof.Proof.Wide.Kernel
public import proofs.«01_k».proof.Proof.Gen.CtxWideIdeal.Frame
public import proofs.«01_k».proof.Proof.Gen.CtxWideRefIdeal

@[expose] public section

set_option maxRecDepth 16384

noncomputable section

open Idealize.ShloMosaic Idealize.ShloMosaic.TcCoe Idealize.SL.Sem

namespace Cert.CtxWideRefIdeal.Spec

open Cert.CtxWideRefIdeal Cert.CtxWideRefIdeal.Gen

/-- The reference's stream after the branch. -/
def projected (a : FVec Ideal S16x256x2048 .bf16) (w : FVec Ideal S2048x1024 .f32) (x : FVec Ideal S16x256x1024 .f32)
    (md : FVec Ideal S1x6x1024 .f32) (g : FVec Ideal S4x1024 .f32) : FVec Ideal S16x256x1024 .f32 :=
  Ctx.projected (Host.dotGeneral dot_S16x256x2048_S2048x1024_S16x256x1024_2_0_01_1_n_n none (extf .f32 a bitsLt_bf16_f32) w)
    x md g

/-- The reference's result. -/
def result (a : FVec Ideal S16x256x2048 .bf16) (w : FVec Ideal S2048x1024 .f32) (w1 : FVec Ideal S1024x4096 .f32)
    (w2 : FVec Ideal S4096x1024 .f32) (x : FVec Ideal S16x256x1024 .f32) (md : FVec Ideal S1x6x1024 .f32)
    (g : FVec Ideal S4x1024 .f32) : FVec Ideal S4096x1024 .f32 :=
  shapeCast _ (Ctx.finished (projected a w x md g) w1 w2 md g) shapeCasts_S16x256x1024_S4096x1024

/-- The stream after the branch at an index. -/
theorem projected_at (a : FVec Ideal S16x256x2048 .bf16) (w : FVec Ideal S2048x1024 .f32) (x : FVec Ideal S16x256x1024 .f32)
    (md : FVec Ideal S1x6x1024 .f32) (g : FVec Ideal S4x1024 .f32) (b : Fin 16) (s : Fin 256) (k : Fin 1024) :
    projected a w x md g (ix3 b s k) = Layer.projected (fun k => x (ix3 b s k)) (fun k => a (ix3 b s k))
      (fun l k => w (ix2 l k)) (fun k => g (ix2 1 k)) (fun k => md (ix3 0 2 k)) k := by
  unfold projected
  rw [Ctx.projected_at]
  unfold Layer.projected
  congr 1
  funext k
  pointwise! [Layer.dot]

/-- The result at an index. -/
theorem result_at (a : FVec Ideal S16x256x2048 .bf16) (w : FVec Ideal S2048x1024 .f32) (w1 : FVec Ideal S1024x4096 .f32)
    (w2 : FVec Ideal S4096x1024 .f32) (x : FVec Ideal S16x256x1024 .f32) (md : FVec Ideal S1x6x1024 .f32)
    (g : FVec Ideal S4x1024 .f32) (b : Fin 16) (s : Fin 256) (r : Fin 4096) (n : Fin 1024)
    (hb : (r : ℕ) / 256 = b) (hs : (r : ℕ) % 256 = s) :
    result a w w1 w2 x md g (ix2 r n) = Layer.block (fun k => x (ix3 b s k)) (fun k => a (ix3 b s k))
      (fun l k => w (ix2 l k)) (fun k f => w1 (ix2 k f)) (fun f n => w2 (ix2 f n)) (fun k => g (ix2 1 k))
      (fun k => g (ix2 2 k)) (fun k => g (ix2 3 k)) (fun k => md (ix3 0 2 k)) (fun k => md (ix3 0 3 k))
      (fun k => md (ix3 0 4 k)) (fun k => md (ix3 0 5 k)) n := by
  pointwise [result, hb, hs]
  simp only [Ctx.finished_at, projected_at, Layer.block]

end Cert.CtxWideRefIdeal.Spec

namespace Cert.CtxWideIdeal.Value

open Cert.CtxWideIdeal Cert.CtxWideIdeal.Gen
open Cert.CtxWideRefIdeal.Spec (result result_at)

variable (m : (ℓ : Loc nD τ sig) → Buf (Elt Ideal) ℓ)

/-- The reference's result of the arguments that `m` holds. -/
def wanted (c : Dev nD) : FVec Ideal S4096x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The body's block is that of the latent call. -/
theorem same_block (a : FVec Ideal S512x2048 .bf16) (w : FVec Ideal S2048x1024 .bf16) (w1 : FVec Ideal S1024x4096 .bf16)
    (w2 : FVec Ideal S4096x1024 .bf16) (x : FVec Ideal S512x1024 .f32) (md : FVec Ideal S1x6x1024 .f32)
    (g : FVec Ideal S4x1024 .f32) (y : S512x1024.Idx) :
    out0_7 (F := Ideal) a w w1 w2 x md g y = Cert.WideIdeal.Gen.out0_7 (F := Ideal) a w w1 w2 x md g y := rfl

/-- Every window's block at grid point `t`: the rows `512·t …` of the branch's output, of the stream and of the result,
    the whole of the modulation, of the gains and of the weights. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, 0, 0]
    ∧ win0_6.index t = ![0, 0] ∧ win0_7.index t = ![t.val, 0] :=
  (by decide +kernel : ∀ t : Fin grid0.N, _)

/-- One entry of a grid point's block is the reference's entry at the block's place in the array. -/
theorem point (c : Dev nD) (t : Fin cfg0.N) (y : S512x1024.Idx) :
    out0_7 (iblk m c 0 t) (iblk m c 1 t) (iblk m c 2 t) (iblk m c 3 t) (iblk m c 4 t) (iblk m c 5 t) (iblk m c 6 t) y
      = wanted m c (((cfg0.win 7).blk t).view.emb y) := by
  idx_vars y
  have ht : t.val < 8 := lt_of_lt_of_eq t.isLt N_0
  obtain_idx j : S4096x1024 := [t.val * 512 + (y0 : ℕ), (y1 : ℕ)] with hj
  have he : ((cfg0.win 7).blk t).view.emb (ix2 y0 y1) = j := by blk_ext [idx t]
  rw [he]
  idx_vars j
  refine ((same_block _ _ _ _ _ _ _ _).trans (Cert.WideIdeal.Value.block_at _ _ _ _ _ _ _ y0 y1)).trans (Eq.trans ?_
    (result_at _ _ _ _ _ _ _ ⟨t.val * 2 + y0 / 256, by omega⟩ ⟨y0 % 256, by omega⟩ j0 j1
      (by simp only; omega) (by simp only; omega)).symm)
  obtain rfl : j1 = y1 := Fin.ext hj1
  refine Layer.block_congr _ ?_ ?_ ?_ ?_ ?_ ?_ ?_ ?_ ?_ ?_ ?_ ?_
  all_goals
    intros
    blk_point [iblk, V, idx t]

/-- The result array after the run is the reference's. -/
theorem final (c : Dev nD) : (dats m 0 c).arrAt 7 (cfgs 0).N = wanted m c := by
  refine (dats m 0 c).arrAt_eq_of_covers 7 _ (by decide +kernel) fun t hf y => ?_
  blk_simp
  rw [after0_7]
  exact point m c t y

end Cert.CtxWideIdeal.Value

end
-- ==== Proof.CtxWide.Claims.lean ====
/- What is claimed of the context stream's output projection and MLP of layer 2: the frames
   of its kernel, of the kernel's idealization and of its reference, and the equality of the two results over the ideal
   numbers. -/
module

public import proofs.«01_k».proof.Defs
public import proofs.«01_k».proof.Proof.Gen.CtxWide.Frame
public import proofs.«01_k».proof.Proof.CtxWide.Value
public import proofs.«01_k».proof.Proof.Gen.CtxWideRefIdeal.Run
public import Idealize.ShloMosaic.Lib.Claim

@[expose] public section

set_option maxRecDepth 16384

noncomputable section

namespace Cert.Proof

open Idealize.ShloMosaic Idealize.SL.Sem

theorem frame_CtxWide : Cert.quiescent_CtxWide := fun m ρ _ => Cert.CtxWide.Gen.frame m ρ

theorem frame_CtxWideIdeal : Cert.quiescent_CtxWideIdeal := fun m ρ _ => Cert.CtxWideIdeal.Gen.frame m ρ

theorem frame_CtxWideRefIdeal : Cert.quiescent_CtxWideRefIdeal := fun m g _ =>
  (θ_run Cert.CtxWideRefIdeal.defs _ _).mono
    (fun r h => ⟨fun c => (h c).2, Idealize.ShloMosaic.sem_eq_zero_of_no_sems (by decide) r.2⟩)
    (Cert.CtxWideRefIdeal.Value.run m g)

section
open Cert.CtxWideRefIdeal

/-- The reference's result, as its run states it, is `Spec.result` of its arguments. -/
theorem result_CtxWide (m : (ℓ : Loc nD τ sig) → Buf (Elt Ideal) ℓ) (c : Dev nD) :
    Cert.CtxWideRefIdeal.Value.res_main_v69 m c = Cert.CtxWideRefIdeal.Spec.result (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := rfl

end

theorem algebraic_CtxWide : Cert.algebraic_CtxWideIdeal_CtxWideRefIdeal := by
  pair_intro
  · run_from Cert.CtxWideIdeal.Gen.run_main m g
  · run_from Cert.CtxWideRefIdeal.Value.run m' g'
    obtain ⟨h0, h1, h2, h3, h4, h5, h6⟩ := hagree c
    rw [result_CtxWide, h0, h1, h2, h3, h4, h5, h6]
    exact (Cert.CtxWideIdeal.Value.final m c).symm

end Cert.Proof

end
-- ==== Proof.CtxProj.Value.lean ====
/- The context stream's in-projection of layer 0: its kernel's result array is its reference's. The kernel's body is the
   latent call's; eight grid points cover the context's rows. -/
module

public import proofs.«01_k».proof.Proof.Ctx.Reference
public import proofs.«01_k».proof.Proof.Proj.Kernel
public import proofs.«01_k».proof.Proof.Gen.CtxProjIdeal.Frame
public import proofs.«01_k».proof.Proof.Gen.CtxProjRefIdeal

@[expose] public section

set_option maxRecDepth 16384

noncomputable section

open Idealize.ShloMosaic Idealize.ShloMosaic.TcCoe Idealize.SL.Sem

namespace Cert.CtxProjRefIdeal.Spec

open Cert.CtxProjRefIdeal Cert.CtxProjRefIdeal.Gen

/-- The context's rows before their product with the weight, of every in-projection's reference. -/
def rows (x : FVec Ideal S16x256x1024 .f32) (md : FVec Ideal S1x6x1024 .f32) (g : FVec Ideal S4x1024 .f32) :
    FVec Ideal S16x256x1024 .f32 :=
  Ctx.modulated x (extractStridedSlice S1x1024 ![0, 0] g slices_S4x1024_S1x1024_0_0)
    (extractStridedSlice S1x1x1024 ![0, 1, 0] md slices_S1x6x1024_S1x1x1024_0_1_0)
    (extractStridedSlice S1x1x1024 ![0, 0, 0] md slices_S1x6x1024_S1x1x1024_0_0_0)

/-- These rows at an index. -/
theorem rows_at (x : FVec Ideal S16x256x1024 .f32) (md : FVec Ideal S1x6x1024 .f32) (g : FVec Ideal S4x1024 .f32)
    (b : Fin 16) (s : Fin 256) (k : Fin 1024) :
    rows x md g (ix3 b s k) = Layer.modulated (fun k => x (ix3 b s k)) (fun k => g (ix2 0 k))
      (fun k => md (ix3 0 1 k)) (fun k => md (ix3 0 0 k)) k := by
  unfold rows
  rw [Ctx.modulated_at]
  pointwise

/-- The reference's result. -/
def result (x : FVec Ideal S16x256x1024 .f32) (md : FVec Ideal S1x6x1024 .f32) (g : FVec Ideal S4x1024 .f32)
    (w : FVec Ideal S1024x1536 .f32) : FVec Ideal S4096x1536 .f32 :=
  shapeCast _ (Host.dotGeneral dot_S16x256x1024_S1024x1536_S16x256x1536_2_0_01_1_n_n none (rows x md g) w)
    shapeCasts_S16x256x1536_S4096x1536

/-- The result at an index. -/
theorem result_at (x : FVec Ideal S16x256x1024 .f32) (md : FVec Ideal S1x6x1024 .f32) (g : FVec Ideal S4x1024 .f32)
    (w : FVec Ideal S1024x1536 .f32) (b : Fin 16) (s : Fin 256) (r : Fin 4096) (n : Fin 1536)
    (hb : (r : ℕ) / 256 = b) (hs : (r : ℕ) % 256 = s) :
    result x md g w (ix2 r n) = Layer.dot (Layer.modulated (fun k => x (ix3 b s k)) (fun k => g (ix2 0 k))
      (fun k => md (ix3 0 1 k)) (fun k => md (ix3 0 0 k))) (fun k => w (ix2 k n)) := by
  pointwise [result, Layer.dot, hb, hs]
  simp only [rows_at]

end Cert.CtxProjRefIdeal.Spec

namespace Cert.CtxProjIdeal.Value

open Cert.CtxProjIdeal Cert.CtxProjIdeal.Gen
open Cert.CtxProjRefIdeal.Spec (result result_at)

variable (m : (ℓ : Loc nD τ sig) → Buf (Elt Ideal) ℓ)

/-- The body's block is that of the latent call. -/
theorem same_block (x : FVec Ideal S512x1024 .f32) (md : FVec Ideal S1x6x1024 .f32) (g : FVec Ideal S4x1024 .f32)
    (w : FVec Ideal S1024x1536 .bf16) (y : S512x1536.Idx) :
    out0_4 (F := Ideal) x md g w y = Cert.ProjIdeal.Gen.out0_4 (F := Ideal) x md g w y := rfl

/-- Every window's block at grid point `t`: the rows `512·t …` of the input and the output, the whole of the modulation,
    of the gains and of the weight. -/
theorem idx : ∀ t : Fin cfg0.N, win0_0.index t = ![t.val, 0] ∧ win0_1.index t = ![0, 0, 0]
    ∧ win0_2.index t = ![0, 0] ∧ win0_3.index t = ![0, 0] ∧ win0_4.index t = ![t.val, 0] :=
  (by decide +kernel : ∀ t : Fin grid0.N, _)

/-- One entry of a grid point's block is the reference's entry at the block's place in the array. -/
theorem point (c : Dev nD) (t : Fin cfg0.N) (y : S512x1536.Idx) :
    out0_4 (iblk m c 0 t) (iblk m c 1 t) (iblk m c 2 t) (iblk m c 3 t) y
      = result (m ((c : Thread nD τ).loc main_arg0)) (m ((c : Thread nD τ).loc main_arg1))
          (m ((c : Thread nD τ).loc main_arg2)) (m ((c : Thread nD τ).loc main_arg3))
          (((cfg0.win 4).blk t).view.emb y) := by
  idx_vars y
  have ht : t.val < 8 := lt_of_lt_of_eq t.isLt N_0
  obtain_idx j : S4096x1536 := [t.val * 512 + (y0 : ℕ), (y1 : ℕ)] with hj
  have he : ((cfg0.win 4).blk t).view.emb (ix2 y0 y1) = j := by blk_ext [idx t]
  rw [he]
  idx_vars j
  refine ((same_block _ _ _ _ _).trans (Cert.ProjIdeal.Value.block_at _ _ _ _ y0 y1)).trans (Eq.trans ?_ (result_at _ _ _ _
    ⟨t.val * 2 + y0 / 256, by omega⟩ ⟨y0 % 256, by omega⟩ j0 j1 (by simp only; omega) (by simp only; omega)).symm)
  obtain rfl : j1 = y1 := Fin.ext hj1
  refine Layer.product_congr ?_ ?_ ?_ ?_ ?_
  all_goals
    intros
    blk_point [iblk, V, idx t]

/-- The result array after the run is the reference's. -/
theorem final (c : Dev nD) : (dats m 0 c).arrAt 4 (cfgs 0).N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t y

end Cert.CtxProjIdeal.Value

end
-- ==== Proof.CtxProj.Claims.lean ====
/- What is claimed of the context stream's in-projection of layer 0: the frames of its kernel, of the kernel's
   idealization and of its reference, and the equality of the two results over the ideal numbers. -/
module

public import proofs.«01_k».proof.Defs
public import proofs.«01_k».proof.Proof.Gen.CtxProj.Frame
public import proofs.«01_k».proof.Proof.CtxProj.Value
public import proofs.«01_k».proof.Proof.Gen.CtxProjRefIdeal.Run
public import Idealize.ShloMosaic.Lib.Claim

@[expose] public section

set_option maxRecDepth 16384

noncomputable section

namespace Cert.Proof

open Idealize.ShloMosaic Idealize.SL.Sem

theorem frame_CtxProj : Cert.quiescent_CtxProj := fun m ρ _ => Cert.CtxProj.Gen.frame m ρ

theorem frame_CtxProjIdeal : Cert.quiescent_CtxProjIdeal := fun m ρ _ => Cert.CtxProjIdeal.Gen.frame m ρ

theorem frame_CtxProjRefIdeal : Cert.quiescent_CtxProjRefIdeal := fun m g _ =>
  (θ_run Cert.CtxProjRefIdeal.defs _ _).mono
    (fun r h => ⟨fun c => (h c).2, Idealize.ShloMosaic.sem_eq_zero_of_no_sems (by decide) r.2⟩)
    (Cert.CtxProjRefIdeal.Value.run m g)

theorem algebraic_CtxProj : Cert.algebraic_CtxProjIdeal_CtxProjRefIdeal := by
  pair_intro
  · run_from Cert.CtxProjIdeal.Gen.run_main m g
  · run_from Cert.CtxProjRefIdeal.Value.run m' g'
    exact (Cert.CtxProjIdeal.Value.final m c).symm

end Cert.Proof

end
-- ==== Proof.CtxProjHyena.Value.lean ====
/- The context stream's in-projection of layer 1: its kernel's result array is its reference's. The kernel's body is the
   latent call's; eight grid points cover the context's rows. -/
module

public import proofs.«01_k».proof.Proof.CtxProj.Value
public import proofs.«01_k».proof.Proof.ProjHyena.Kernel
public import proofs.«01_k».proof.Proof.Gen.CtxProjHyenaIdeal.Frame
public import proofs.«01_k».proof.Proof.Gen.CtxProjHyenaRefIdeal

@[expose] public section

set_option maxRecDepth 16384

noncomputable section

open Idealize.ShloMosaic Idealize.ShloMosaic.TcCoe Idealize.SL.Sem

namespace Cert.CtxProjHyenaRefIdeal.Spec

open Cert.CtxProjHyenaRefIdeal Cert.CtxProjHyenaRefIdeal.Gen
open Cert.CtxProjRefIdeal.Spec (rows rows_at)

/-- The reference's result. -/
def result (x : FVec Ideal S16x256x1024 .f32) (md : FVec Ideal S1x6x1024 .f32) (g : FVec Ideal S4x1024 .f32)
    (w : FVec Ideal S1024x3072 .f32) : FVec Ideal S4096x3072 .f32 :=
  shapeCast _ (Host.dotGeneral dot_S16x256x1024_S1024x3072_S16x256x3072_2_0_01_1_n_n none (rows x md g) w)
    shapeCasts_S16x256x3072_S4096x3072

/-- The result at an index. -/
theorem result_at (x : FVec Ideal S16x256x1024 .f32) (md : FVec Ideal S1x6x1024 .f32) (g : FVec Ideal S4x1024 .f32)
    (w : FVec Ideal S1024x3072 .f32) (b : Fin 16) (s : Fin 256) (r : Fin 4096) (n : Fin 3072)
    (hb : (r : ℕ) / 256 = b) (hs : (r : ℕ) % 256 = s) :
    result x md g w (ix2 r n) = Layer.dot (Layer.modulated (fun k => x (ix3 b s k)) (fun k => g (ix2 0 k))
      (fun k => md (ix3 0 1 k)) (fun k => md (ix3 0 0 k))) (fun k => w (ix2 k n)) := by
  pointwise [result, Layer.dot, hb, hs]
  simp only [rows_at]

end Cert.CtxProjHyenaRefIdeal.Spec

namespace Cert.CtxProjHyenaIdeal.Value

open Cert.CtxProjHyenaIdeal Cert.CtxProjHyenaIdeal.Gen
open Cert.CtxProjHyenaRefIdeal.Spec (result result_at)

variable (m : (ℓ : Loc nD τ sig) → Buf (Elt Ideal) ℓ)

/-- The body's block is that of the latent call. -/
theorem same_block (x : FVec Ideal S512x1024 .f32) (md : FVec Ideal S1x6x1024 .f32) (g : FVec Ideal S4x1024 .f32)
    (w : FVec Ideal S1024x3072 .bf16) (y : S512x3072.Idx) :
    out0_4 (F := Ideal) x md g w y = Cert.ProjHyenaIdeal.Gen.out0_4 (F := Ideal) x md g w y := rfl

/-- Every window's block at grid point `t`: the rows `512·t …` of the input and the output, the whole of the modulation,
    of the gains and of the weight. -/
theorem idx : ∀ t : Fin cfg0.N, win0_0.index t = ![t.val, 0] ∧ win0_1.index t = ![0, 0, 0]
    ∧ win0_2.index t = ![0, 0] ∧ win0_3.index t = ![0, 0] ∧ win0_4.index t = ![t.val, 0] :=
  (by decide +kernel : ∀ t : Fin grid0.N, _)

/-- One entry of a grid point's block is the reference's entry at the block's place in the array. -/
theorem point (c : Dev nD) (t : Fin cfg0.N) (y : S512x3072.Idx) :
    out0_4 (iblk m c 0 t) (iblk m c 1 t) (iblk m c 2 t) (iblk m c 3 t) y
      = result (m ((c : Thread nD τ).loc main_arg0)) (m ((c : Thread nD τ).loc main_arg1))
          (m ((c : Thread nD τ).loc main_arg2)) (m ((c : Thread nD τ).loc main_arg3))
          (((cfg0.win 4).blk t).view.emb y) := by
  idx_vars y
  have ht : t.val < 8 := lt_of_lt_of_eq t.isLt N_0
  obtain_idx j : S4096x3072 := [t.val * 512 + (y0 : ℕ), (y1 : ℕ)] with hj
  have he : ((cfg0.win 4).blk t).view.emb (ix2 y0 y1) = j := by blk_ext [idx t]
  rw [he]
  idx_vars j
  refine ((same_block _ _ _ _ _).trans (Cert.ProjHyenaIdeal.Value.block_at _ _ _ _ y0 y1)).trans (Eq.trans ?_ (result_at _ _ _ _
    ⟨t.val * 2 + y0 / 256, by omega⟩ ⟨y0 % 256, by omega⟩ j0 j1 (by simp only; omega) (by simp only; omega)).symm)
  obtain rfl : j1 = y1 := Fin.ext hj1
  refine Layer.product_congr ?_ ?_ ?_ ?_ ?_
  all_goals
    intros
    blk_point [iblk, V, idx t]

/-- The result array after the run is the reference's. -/
theorem final (c : Dev nD) : (dats m 0 c).arrAt 4 (cfgs 0).N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t y

end Cert.CtxProjHyenaIdeal.Value

end
-- ==== Proof.CtxProjHyena.Claims.lean ====
/- What is claimed of the context stream's in-projection of layer 1: the frames of its kernel, of the kernel's
   idealization and of its reference, and the equality of the two results over the ideal numbers. -/
module

public import proofs.«01_k».proof.Defs
public import proofs.«01_k».proof.Proof.Gen.CtxProjHyena.Frame
public import proofs.«01_k».proof.Proof.CtxProjHyena.Value
public import proofs.«01_k».proof.Proof.Gen.CtxProjHyenaRefIdeal.Run
public import Idealize.ShloMosaic.Lib.Claim

@[expose] public section

set_option maxRecDepth 16384

noncomputable section

namespace Cert.Proof

open Idealize.ShloMosaic Idealize.SL.Sem

theorem frame_CtxProjHyena : Cert.quiescent_CtxProjHyena := fun m ρ _ => Cert.CtxProjHyena.Gen.frame m ρ

theorem frame_CtxProjHyenaIdeal : Cert.quiescent_CtxProjHyenaIdeal := fun m ρ _ => Cert.CtxProjHyenaIdeal.Gen.frame m ρ

theorem frame_CtxProjHyenaRefIdeal : Cert.quiescent_CtxProjHyenaRefIdeal := fun m g _ =>
  (θ_run Cert.CtxProjHyenaRefIdeal.defs _ _).mono
    (fun r h => ⟨fun c => (h c).2, Idealize.ShloMosaic.sem_eq_zero_of_no_sems (by decide) r.2⟩)
    (Cert.CtxProjHyenaRefIdeal.Value.run m g)

theorem algebraic_CtxProjHyena : Cert.algebraic_CtxProjHyenaIdeal_CtxProjHyenaRefIdeal := by
  pair_intro
  · run_from Cert.CtxProjHyenaIdeal.Gen.run_main m g
  · run_from Cert.CtxProjHyenaRefIdeal.Value.run m' g'
    exact (Cert.CtxProjHyenaIdeal.Value.final m c).symm

end Cert.Proof

end
-- ==== Proof.CtxProjSsd.Value.lean ====
/- The context stream's in-projection of layer 2: its kernel's result array is its reference's. The kernel's body is the
   latent call's; eight grid points cover the context's rows. -/
module

public import proofs.«01_k».proof.Proof.CtxProj.Value
public import proofs.«01_k».proof.Proof.ProjSsd.Kernel
public import proofs.«01_k».proof.Proof.Gen.CtxProjSsdIdeal.Frame
public import proofs.«01_k».proof.Proof.Gen.CtxProjSsdRefIdeal

@[expose] public section

set_option maxRecDepth 16384

noncomputable section

open Idealize.ShloMosaic Idealize.ShloMosaic.TcCoe Idealize.SL.Sem

namespace Cert.CtxProjSsdRefIdeal.Spec

open Cert.CtxProjSsdRefIdeal Cert.CtxProjSsdRefIdeal.Gen
open Cert.CtxProjRefIdeal.Spec (rows rows_at)

/-- The reference's result. -/
def result (x : FVec Ideal S16x256x1024 .f32) (md : FVec Ideal S1x6x1024 .f32) (g : FVec Ideal S4x1024 .f32)
    (w : FVec Ideal S1024x5184 .f32) : FVec Ideal S4096x5184 .f32 :=
  shapeCast _ (Host.dotGeneral dot_S16x256x1024_S1024x5184_S16x256x5184_2_0_01_1_n_n none (rows x md g) w)
    shapeCasts_S16x256x5184_S4096x5184

/-- The result at an index. -/
theorem result_at (x : FVec Ideal S16x256x1024 .f32) (md : FVec Ideal S1x6x1024 .f32) (g : FVec Ideal S4x1024 .f32)
    (w : FVec Ideal S1024x5184 .f32) (b : Fin 16) (s : Fin 256) (r : Fin 4096) (n : Fin 5184)
    (hb : (r : ℕ) / 256 = b) (hs : (r : ℕ) % 256 = s) :
    result x md g w (ix2 r n) = Layer.dot (Layer.modulated (fun k => x (ix3 b s k)) (fun k => g (ix2 0 k))
      (fun k => md (ix3 0 1 k)) (fun k => md (ix3 0 0 k))) (fun k => w (ix2 k n)) := by
  pointwise [result, Layer.dot, hb, hs]
  simp only [rows_at]

end Cert.CtxProjSsdRefIdeal.Spec

namespace Cert.CtxProjSsdIdeal.Value

open Cert.CtxProjSsdIdeal Cert.CtxProjSsdIdeal.Gen
open Cert.CtxProjSsdRefIdeal.Spec (result result_at)

variable (m : (ℓ : Loc nD τ sig) → Buf (Elt Ideal) ℓ)

/-- The body's block is that of the latent call. -/
theorem same_block (c : Dev nD) (t : Fin cfg0.N) (t' : Fin Cert.ProjSsdIdeal.cfg0.N) (x : FVec Ideal S512x1024 .f32)
    (md : FVec Ideal S1x6x1024 .f32) (g : FVec Ideal S4x1024 .f32) (w : FVec Ideal S1024x5184 .bf16) :
    out0_A_4 (F := Ideal) c (grid0.coords t) (ms0_0 t)
      (hs0_0 t) (ms0_1 t) (hs0_1 t)
      (ms0_2 t) (hs0_2 t) (ms0_3 t)
      (hs0_3 t) (ms0_4 t) (hs0_4 t) x md g w
    = Cert.ProjSsdIdeal.Gen.out0_A_4 (F := Ideal) c (Cert.ProjSsdIdeal.grid0.coords t') (Cert.ProjSsdIdeal.Gen.ms0_0 t')
      (Cert.ProjSsdIdeal.Gen.hs0_0 t') (Cert.ProjSsdIdeal.Gen.ms0_1 t') (Cert.ProjSsdIdeal.Gen.hs0_1 t')
      (Cert.ProjSsdIdeal.Gen.ms0_2 t') (Cert.ProjSsdIdeal.Gen.hs0_2 t') (Cert.ProjSsdIdeal.Gen.ms0_3 t')
      (Cert.ProjSsdIdeal.Gen.hs0_3 t') (Cert.ProjSsdIdeal.Gen.ms0_4 t') (Cert.ProjSsdIdeal.Gen.hs0_4 t') x md g w := by
  frame_out
  rfl

/-- What the body leaves at a grid point: the latent call's block of the blocks this point reads. -/
theorem block_at (c : Dev nD) (t : Fin cfg0.N) (r : Fin 512) (n : Fin 5184) :
    outsAt0 m c t (ix2 r n) = Layer.dot (Layer.modulated (fun k => iblk m c 0 t (ix2 r k))
      (fun k => iblk m c 2 t (ix2 0 k)) (fun k => iblk m c 1 t (ix3 0 1 k)) (fun k => iblk m c 1 t (ix3 0 0 k)))
      (fun k => iblk m c 3 t (ix2 k n)) := by
  unfold outsAt0
  rw [same_block c t (⟨0, by decide⟩ : Fin 64)]
  exact Cert.ProjSsdIdeal.Value.tiles_at c _ _ _ _ _ r n

/-- Every window's block at grid point `t`: the rows `512·t …` of the input and the output, the whole of the modulation,
    of the gains and of the weight. -/
theorem idx : ∀ t : Fin cfg0.N, win0_0.index t = ![t.val, 0] ∧ win0_1.index t = ![0, 0, 0]
    ∧ win0_2.index t = ![0, 0] ∧ win0_3.index t = ![0, 0] ∧ win0_4.index t = ![t.val, 0] :=
  (by decide +kernel : ∀ t : Fin grid0.N, _)

/-- One entry of a grid point's block is the reference's entry at the block's place in the array. -/
theorem point (c : Dev nD) (t : Fin cfg0.N) (y : S512x5184.Idx) :
    outsAt0 m c t y
      = result (m ((c : Thread nD τ).loc main_arg0)) (m ((c : Thread nD τ).loc main_arg1))
          (m ((c : Thread nD τ).loc main_arg2)) (m ((c : Thread nD τ).loc main_arg3))
          (((cfg0.win 4).blk t).view.emb y) := by
  idx_vars y
  have ht : t.val < 8 := lt_of_lt_of_eq t.isLt N_0
  obtain_idx j : S4096x5184 := [t.val * 512 + (y0 : ℕ), (y1 : ℕ)] with hj
  have he : ((cfg0.win 4).blk t).view.emb (ix2 y0 y1) = j := by blk_ext [idx t]
  rw [he]
  idx_vars j
  refine (block_at m c t y0 y1).trans (Eq.trans ?_ (result_at _ _ _ _
    ⟨t.val * 2 + y0 / 256, by omega⟩ ⟨y0 % 256, by omega⟩ j0 j1 (by simp only; omega) (by simp only; omega)).symm)
  obtain rfl : j1 = y1 := Fin.ext hj1
  refine Layer.product_congr ?_ ?_ ?_ ?_ ?_
  all_goals
    intros
    blk_point [iblk, V, idx t]

/-- The result array after the run is the reference's. -/
theorem final (c : Dev nD) : (dats m 0 c).arrAt 4 (cfgs 0).N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t y

end Cert.CtxProjSsdIdeal.Value

end
-- ==== Proof.CtxProjSsd.Claims.lean ====
/- What is claimed of the context stream's in-projection of layer 2: the frames of its kernel, of the kernel's
   idealization and of its reference, and the equality of the two results over the ideal numbers. -/
module

public import proofs.«01_k».proof.Defs
public import proofs.«01_k».proof.Proof.Gen.CtxProjSsd.Frame
public import proofs.«01_k».proof.Proof.CtxProjSsd.Value
public import proofs.«01_k».proof.Proof.Gen.CtxProjSsdRefIdeal.Run
public import Idealize.ShloMosaic.Lib.Claim

@[expose] public section

set_option maxRecDepth 16384

noncomputable section

namespace Cert.Proof

open Idealize.ShloMosaic Idealize.SL.Sem

theorem frame_CtxProjSsd : Cert.quiescent_CtxProjSsd := fun m ρ _ => Cert.CtxProjSsd.Gen.frame m ρ

theorem frame_CtxProjSsdIdeal : Cert.quiescent_CtxProjSsdIdeal := fun m ρ _ => Cert.CtxProjSsdIdeal.Gen.frame m ρ

theorem frame_CtxProjSsdRefIdeal : Cert.quiescent_CtxProjSsdRefIdeal := fun m g _ =>
  (θ_run Cert.CtxProjSsdRefIdeal.defs _ _).mono
    (fun r h => ⟨fun c => (h c).2, Idealize.ShloMosaic.sem_eq_zero_of_no_sems (by decide) r.2⟩)
    (Cert.CtxProjSsdRefIdeal.Value.run m g)

theorem algebraic_CtxProjSsd : Cert.algebraic_CtxProjSsdIdeal_CtxProjSsdRefIdeal := by
  pair_intro
  · run_from Cert.CtxProjSsdIdeal.Gen.run_main m g
  · run_from Cert.CtxProjSsdRefIdeal.Value.run m' g'
    exact (Cert.CtxProjSsdIdeal.Value.final m c).symm

end Cert.Proof

end
-- ==== Proof.CtxProjNbr.Value.lean ====
/- The context stream's in-projection of layer 3: its kernel's result array is its reference's. The kernel's body is the
   latent call's; eight grid points cover the context's rows. -/
module

public import proofs.«01_k».proof.Proof.CtxProjHyena.Value
public import proofs.«01_k».proof.Proof.ProjNbr.Kernel
public import proofs.«01_k».proof.Proof.Gen.CtxProjNbrIdeal.Frame
public import proofs.«01_k».proof.Proof.Gen.CtxProjNbrRefIdeal

@[expose] public section

set_option maxRecDepth 16384

noncomputable section

open Idealize.ShloMosaic Idealize.ShloMosaic.TcCoe Idealize.SL.Sem

namespace Cert.CtxProjNbrRefIdeal.Spec

open Cert.CtxProjNbrRefIdeal Cert.CtxProjNbrRefIdeal.Gen

/-- The reference's result: layer 1's, narrowed to bf16. -/
def result (x : FVec Ideal S16x256x1024 .f32) (md : FVec Ideal S1x6x1024 .f32) (g : FVec Ideal S4x1024 .f32)
    (w : FVec Ideal S1024x3072 .f32) : FVec Ideal S4096x3072 .bf16 :=
  truncf .bf16 (Cert.CtxProjHyenaRefIdeal.Spec.result x md g w) bitsLt_bf16_f32

/-- The result at an index: over the ideal numbers the narrowing changes nothing. -/
theorem result_at (x : FVec Ideal S16x256x1024 .f32) (md : FVec Ideal S1x6x1024 .f32) (g : FVec Ideal S4x1024 .f32)
    (w : FVec Ideal S1024x3072 .f32) (b : Fin 16) (s : Fin 256) (r : Fin 4096) (n : Fin 3072)
    (hb : (r : ℕ) / 256 = b) (hs : (r : ℕ) % 256 = s) :
    result x md g w (ix2 r n) = Layer.dot (Layer.modulated (fun k => x (ix3 b s k)) (fun k => g (ix2 0 k))
      (fun k => md (ix3 0 1 k)) (fun k => md (ix3 0 0 k))) (fun k => w (ix2 k n)) :=
  Cert.CtxProjHyenaRefIdeal.Spec.result_at x md g w b s r n hb hs

end Cert.CtxProjNbrRefIdeal.Spec

namespace Cert.CtxProjNbrIdeal.Value

open Cert.CtxProjNbrIdeal Cert.CtxProjNbrIdeal.Gen
open Cert.CtxProjNbrRefIdeal.Spec (result result_at)

variable (m : (ℓ : Loc nD τ sig) → Buf (Elt Ideal) ℓ)

/-- The body's block is that of the latent call. -/
theorem same_block (x : FVec Ideal S512x1024 .f32) (md : FVec Ideal S1x6x1024 .f32) (g : FVec Ideal S4x1024 .f32)
    (w : FVec Ideal S1024x3072 .bf16) (y : S512x3072.Idx) :
    out0_4 (F := Ideal) x md g w y = Cert.ProjNbrIdeal.Gen.out0_4 (F := Ideal) x md g w y := rfl

/-- Every window's block at grid point `t`: the rows `512·t …` of the input and the output, the whole of the modulation,
    of the gains and of the weight. -/
theorem idx : ∀ t : Fin cfg0.N, win0_0.index t = ![t.val, 0] ∧ win0_1.index t = ![0, 0, 0]
    ∧ win0_2.index t = ![0, 0] ∧ win0_3.index t = ![0, 0] ∧ win0_4.index t = ![t.val, 0] :=
  (by decide +kernel : ∀ t : Fin grid0.N, _)

/-- One entry of a grid point's block is the reference's entry at the block's place in the array. -/
theorem point (c : Dev nD) (t : Fin cfg0.N) (y : S512x3072.Idx) :
    out0_4 (iblk m c 0 t) (iblk m c 1 t) (iblk m c 2 t) (iblk m c 3 t) y
      = result (m ((c : Thread nD τ).loc main_arg0)) (m ((c : Thread nD τ).loc main_arg1))
          (m ((c : Thread nD τ).loc main_arg2)) (m ((c : Thread nD τ).loc main_arg3))
          (((cfg0.win 4).blk t).view.emb y) := by
  idx_vars y
  have ht : t.val < 8 := lt_of_lt_of_eq t.isLt N_0
  obtain_idx j : S4096x3072 := [t.val * 512 + (y0 : ℕ), (y1 : ℕ)] with hj
  have he : ((cfg0.win 4).blk t).view.emb (ix2 y0 y1) = j := by blk_ext [idx t]
  rw [he]
  idx_vars j
  refine ((same_block _ _ _ _ _).trans (Cert.ProjNbrIdeal.Value.block_at _ _ _ _ y0 y1)).trans (Eq.trans ?_ (result_at _ _ _ _
    ⟨t.val * 2 + y0 / 256, by omega⟩ ⟨y0 % 256, by omega⟩ j0 j1 (by simp only; omega) (by simp only; omega)).symm)
  obtain rfl : j1 = y1 := Fin.ext hj1
  refine Layer.product_congr ?_ ?_ ?_ ?_ ?_
  all_goals
    intros
    blk_point [iblk, V, idx t]

/-- The result array after the run is the reference's. -/
theorem final (c : Dev nD) : (dats m 0 c).arrAt 4 (cfgs 0).N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t y

end Cert.CtxProjNbrIdeal.Value

end
-- ==== Proof.CtxProjNbr.Claims.lean ====
/- What is claimed of the context stream's in-projection of layer 3: the frames of its kernel, of the kernel's
   idealization and of its reference, and the equality of the two results over the ideal numbers. -/
module

public import proofs.«01_k».proof.Defs
public import proofs.«01_k».proof.Proof.Gen.CtxProjNbr.Frame
public import proofs.«01_k».proof.Proof.CtxProjNbr.Value
public import proofs.«01_k».proof.Proof.Gen.CtxProjNbrRefIdeal.Run
public import Idealize.ShloMosaic.Lib.Claim

@[expose] public section

set_option maxRecDepth 16384

noncomputable section

namespace Cert.Proof

open Idealize.ShloMosaic Idealize.SL.Sem

theorem frame_CtxProjNbr : Cert.quiescent_CtxProjNbr := fun m ρ _ => Cert.CtxProjNbr.Gen.frame m ρ

theorem frame_CtxProjNbrIdeal : Cert.quiescent_CtxProjNbrIdeal := fun m ρ _ => Cert.CtxProjNbrIdeal.Gen.frame m ρ

theorem frame_CtxProjNbrRefIdeal : Cert.quiescent_CtxProjNbrRefIdeal := fun m g _ =>
  (θ_run Cert.CtxProjNbrRefIdeal.defs _ _).mono
    (fun r h => ⟨fun c => (h c).2, Idealize.ShloMosaic.sem_eq_zero_of_no_sems (by decide) r.2⟩)
    (Cert.CtxProjNbrRefIdeal.Value.run m g)

theorem algebraic_CtxProjNbr : Cert.algebraic_CtxProjNbrIdeal_CtxProjNbrRefIdeal := by
  pair_intro
  · run_from Cert.CtxProjNbrIdeal.Gen.run_main m g
  · run_from Cert.CtxProjNbrRefIdeal.Value.run m' g'
    exact (Cert.CtxProjNbrIdeal.Value.final m c).symm

end Cert.Proof

end
-- ==== Proof.Nbr.Math.lean ====
/- The mathematics of the neighbourhood attention, one query of one head at a time, over the ideal numbers: the softmax over
   the band's keys and the context's, as the kernel takes it with powers of two and as the reference takes it with
   exponentials. They are equal when the scores are real numbers, which finite inputs give. -/
module

public import proofs.«01_k».proof.Proof.Attn.Math

@[expose] public section

set_option maxRecDepth 16384

noncomputable section

open Idealize.ShloMosaic

namespace Cert.Neighbourhood

open Cert.Attention (IsReal lowest lowest_eq coe_sum fold_max_real sum_mul_real)

/-- The factor of the query in the kernel, `1/(8 · ln 2)`. -/
def factor : EReal := (((8 * Real.log 2)⁻¹ : ℝ) : EReal)

/-- The scale of the scores, `0.125`, as the reference writes it. -/
def eighth : EReal := Ideal.ofBits .f32 0x3E000000#32

/-- The factor of the biases in the kernel, `1/ln 2`. -/
def base : EReal := (((Real.log 2)⁻¹ : ℝ) : EReal)

/-- The greatest of the scores of the band and of the context. -/
def greatest (a : Fin 512 → EReal) (b : Fin 256 → EReal) : EReal :=
  max (Finset.univ.fold max lowest a) (Finset.univ.fold max lowest b)

/-- The kernel's attention output of one query, from the scores of the band and of the context in units of `ln 2`: the
    weighted sum of the values over the sum of the weights. -/
def attended (a : Fin 512 → EReal) (b : Fin 256 → EReal) (v : Fin 512 → EReal) (w : Fin 256 → EReal) : EReal :=
  Ideal.div (∑ j, Ideal.exp2 (a j - greatest a b) * v j + ∑ j, Ideal.exp2 (b j - greatest a b) * w j)
    (∑ j, Ideal.exp2 (a j - greatest a b) + ∑ j, Ideal.exp2 (b j - greatest a b))

/-- The scores of the band and then the context's. -/
def joined {M : Type} (a : Fin 512 → M) (b : Fin 256 → M) (j : Fin 768) : M :=
  if h : (j : ℕ) < 512 then a ⟨j, h⟩ else b ⟨j - 512, by omega⟩

theorem joined_band {M : Type} (a : Fin 512 → M) (b : Fin 256 → M) (j : Fin 512) : joined a b ⟨j, by omega⟩ = a j := by
  simp [joined]

theorem joined_context {M : Type} (a : Fin 512 → M) (b : Fin 256 → M) (j : Fin 256) :
    joined a b ⟨512 + j, by omega⟩ = b j := by
  simp [joined]

/-- The reference's exponential of a score less the greatest. -/
def expo (s : Fin 768 → EReal) (j : Fin 768) : EReal :=
  Ideal.exp (s j - max lowest (Finset.univ.fold max lowest s))

/-- The reference's softmax of the scores. -/
def softmax (s : Fin 768 → EReal) (j : Fin 768) : EReal := Ideal.div (expo s j) (∑ j, expo s j)

/-- The reference's attention output of one query: the values of the band and of the context against the softmax. -/
def softmaxed (a : Fin 512 → EReal) (b : Fin 256 → EReal) (v : Fin 512 → EReal) (w : Fin 256 → EReal) : EReal :=
  ∑ j : Fin 512, v j * softmax (joined a b) ⟨j, by omega⟩ + ∑ j : Fin 256, w j * softmax (joined a b) ⟨512 + j, by omega⟩

/-- A sum over the band and the context is the two sums. -/
theorem sum_joined {M : Type} [AddCommMonoid M] (f : Fin 768 → M) :
    ∑ j, f j = ∑ j : Fin 512, f ⟨j, by omega⟩ + ∑ j : Fin 256, f ⟨512 + j, by omega⟩ :=
  Fin.sum_univ_add (a := 512) (b := 256) f

/-- A score, or `-∞` where it is masked. -/
def low (o : Option ℝ) : EReal := o.elim ⊥ fun x => (x : EReal)

/-- The exponential of a score: `0` where it is masked. -/
def weight (o : Option ℝ) : ℝ := o.elim 0 Real.exp

theorem weight_nonneg (o : Option ℝ) : 0 ≤ weight o := by
  cases o with
  | none => exact le_rfl
  | some x => exact (Real.exp_pos x).le

/-- The greatest of masked scores is a masked score. -/
theorem fold_max_low {ι : Type} [DecidableEq ι] (s : Finset ι) (f : ι → Option ℝ) :
    ∃ o, s.fold max ⊥ (fun j => low (f j)) = low o := by
  induction s using Finset.induction_on with
  | empty => exact ⟨none, rfl⟩
  | insert a s ha ih =>
    obtain ⟨o, ho⟩ := ih
    rw [Finset.fold_insert ha, ho]
    rcases le_total (low (f a)) (low o) with h | h
    · exact ⟨o, max_eq_right h⟩
    · exact ⟨f a, max_eq_left h⟩

/-- The greatest of masked scores is real when one of them is. -/
theorem fold_max_low_real {ι : Type} [DecidableEq ι] (s : Finset ι) (f : ι → Option ℝ) (i : ι) (hi : i ∈ s) (x : ℝ)
    (hx : f i = some x) : IsReal (s.fold max ⊥ fun j => low (f j)) := by
  obtain ⟨o, ho⟩ := fold_max_low s f
  cases o with
  | some y => exact ⟨y, ho⟩
  | none =>
    have h : (x : EReal) ≤ s.fold max ⊥ fun j => low (f j) :=
      Finset.le_fold_max _ |>.2 (Or.inr ⟨i, hi, by rw [hx]; exact le_rfl⟩)
    rw [ho] at h
    exact absurd (le_bot_iff.1 h) (EReal.coe_ne_bot x)

/-- The kernel's attention is the reference's, at real scores, some of the band's masked, the kernel's over `ln 2`. -/
theorem attended_eq_softmaxed (a : Fin 512 → Option ℝ) (b : Fin 256 → ℝ) (v : Fin 512 → EReal) (w : Fin 256 → EReal) :
    attended (fun j => low ((a j).map (· * (Real.log 2)⁻¹))) (fun j => ((b j * (Real.log 2)⁻¹ : ℝ) : EReal)) v w
      = softmaxed (fun j => low (a j)) (fun j => (b j : EReal)) v w := by
  have hl : (0 : ℝ) < Real.log 2 := Real.log_pos (by norm_num)
  obtain ⟨M, hM⟩ : IsReal (greatest (fun j => low ((a j).map (· * (Real.log 2)⁻¹)))
      (fun j => ((b j * (Real.log 2)⁻¹ : ℝ) : EReal))) := by
    obtain ⟨o, hA⟩ := fold_max_low Finset.univ fun j => (a j).map (· * (Real.log 2)⁻¹)
    obtain ⟨B, hB⟩ := fold_max_real (by norm_num) fun j => b j * (Real.log 2)⁻¹
    rw [greatest, lowest_eq, hA, hB]
    cases o with
    | none => exact ⟨B, max_eq_right bot_le⟩
    | some A =>
      rcases le_total (A : EReal) (B : EReal) with h | h
      · exact ⟨B, max_eq_right h⟩
      · exact ⟨A, max_eq_left h⟩
  obtain ⟨s, hdef⟩ : ∃ s : Fin 768 → Option ℝ, s = joined a fun j => some (b j) := ⟨_, rfl⟩
  have hs : ∀ j, joined (fun j => low (a j)) (fun j => (b j : EReal)) j = low (s j) := fun j => by
    subst hdef; simp only [joined]; split_ifs <;> rfl
  have hsL : ∀ j : Fin 512, s ⟨j, by omega⟩ = a j := fun j => by rw [hdef, joined_band]
  have hsC : ∀ j : Fin 256, s ⟨512 + j, by omega⟩ = some (b j) := fun j => by rw [hdef, joined_context]
  obtain ⟨M', hM'⟩ := fold_max_low_real Finset.univ s ⟨512 + ((0 : Fin 256) : ℕ), by decide⟩ (Finset.mem_univ _) (b 0)
    (hsC 0)
  have hexpo : ∀ j, expo (joined (fun j => low (a j)) fun j => (b j : EReal)) j
      = ((weight (s j) * Real.exp (-M') : ℝ) : EReal) := fun j => by
    unfold expo
    simp only [hs, lowest_eq]
    rw [hM', bot_sup_eq]
    cases s j with
    | none =>
      show Ideal.exp ((⊥ : EReal) - (M' : EReal)) = ((0 * _ : ℝ) : EReal)
      rw [EReal.bot_sub, zero_mul]
      rfl
    | some x =>
      show Ideal.exp ((x : EReal) - (M' : EReal)) = ((Real.exp x * _ : ℝ) : EReal)
      rw [← EReal.coe_sub, Ideal.exp_coe, ← Real.exp_add, sub_eq_add_neg]
  have hw : ∀ x : ℝ, Ideal.exp2 (((x * (Real.log 2)⁻¹ : ℝ) : EReal) - (M : EReal))
      = ((Real.exp x * Real.exp (-(Real.log 2 * M)) : ℝ) : EReal) := fun x => by
    rw [← EReal.coe_sub, Ideal.exp2_coe]
    refine congrArg _ ?_
    show (2 : ℝ) ^ (_ : ℝ) = _
    rw [Real.rpow_def_of_pos (by norm_num), ← Real.exp_add]
    exact congrArg _ (by field_simp; ring)
  have hwL : ∀ o : Option ℝ, Ideal.exp2 (low (o.map (· * (Real.log 2)⁻¹)) - (M : EReal))
      = ((weight o * Real.exp (-(Real.log 2 * M)) : ℝ) : EReal) := fun o => by
    cases o with
    | none =>
      show Ideal.exp2 ((⊥ : EReal) - (M : EReal)) = ((0 * _ : ℝ) : EReal)
      rw [EReal.bot_sub, zero_mul]
      rfl
    | some x => exact hw x
  have hE : 0 < ∑ j, weight (s j) := Finset.sum_pos' (fun j _ => weight_nonneg _)
    ⟨⟨512 + ((0 : Fin 256) : ℕ), by decide⟩, Finset.mem_univ _, by rw [hsC 0]; exact Real.exp_pos _⟩
  have hsum : ∑ j, weight (s j) = ∑ j, weight (a j) + ∑ j, Real.exp (b j) := by
    rw [sum_joined]
    simp only [hsL, hsC]
    rfl
  have hC : ∀ j, weight (some (b j)) = Real.exp (b j) := fun _ => rfl
  unfold attended softmaxed softmax
  simp only [hM, hw, hwL, hexpo, hsL, hsC, hC]
  rw [← coe_sum, ← coe_sum, ← coe_sum, ← EReal.coe_add, ← Finset.sum_mul, ← Finset.sum_mul, ← Finset.sum_mul, ← add_mul,
    ← hsum, Ideal.div_coe (by positivity),
    EReal.right_distrib_of_nonneg_of_ne_top (by exact_mod_cast (by positivity)) (EReal.coe_ne_top _),
    sum_mul_real _ _ (by positivity), sum_mul_real _ _ (by positivity)]
  have hterm : ∀ (x : ℝ) (z : EReal),
      ((x * Real.exp (-(Real.log 2 * M)) : ℝ) : EReal) * z
          * ((1 / ((∑ j, weight (s j)) * Real.exp (-(Real.log 2 * M))) : ℝ) : EReal)
        = z * Ideal.div ((x * Real.exp (-M') : ℝ) : EReal)
            (((∑ j, weight (s j)) * Real.exp (-M') : ℝ) : EReal) := fun x z => by
    rw [Ideal.div_coe (by positivity), mul_comm _ z, mul_assoc, ← EReal.coe_mul, ← EReal.coe_mul]
    refine congrArg (fun y : ℝ => z * (y : EReal)) ?_
    have h1 := Real.exp_pos (-(Real.log 2 * M))
    have h2 := Real.exp_pos (-M')
    field_simp
  exact congrArg₂ _ (Finset.sum_congr rfl fun j _ => hterm _ _) (Finset.sum_congr rfl fun j _ => hterm _ _)

/-! ## The scores -/

theorem eighth_eq : eighth = ((1 / 8 : ℝ) : EReal) := by
  simp [eighth, Ideal.ofBits, Ideal.ieee, -EReal.coe_mul]; norm_num

/-- The reference's scaled score of a key. -/
def scaled (q k : Fin 64 → EReal) : EReal := Layer.dot q k * eighth

/-- At real entries the reference's score is real, and the kernel's is its quotient by `ln 2`. -/
theorem scores_real (q k : Fin 64 → EReal) (hq : ∀ d, IsReal (q d)) (hk : ∀ d, IsReal (k d)) :
    ∃ x : ℝ, scaled q k = (x : EReal) ∧ Layer.dot (fun d => q d * factor) k = ((x * (Real.log 2)⁻¹ : ℝ) : EReal) := by
  choose r hr using hq
  choose e he using hk
  refine ⟨(∑ d, r d * e d) * (1 / 8), ?_, ?_⟩
  · unfold scaled Layer.dot
    rw [eighth_eq, EReal.coe_mul, coe_sum]
    exact congrArg (· * _) (Finset.sum_congr rfl fun d _ => by rw [hr, he, EReal.coe_mul])
  · unfold Layer.dot
    have : (∑ d, r d * e d) * (1 / 8) * (Real.log 2)⁻¹ = ∑ d, r d * (8 * Real.log 2)⁻¹ * e d := by
      simp only [Finset.sum_mul]; exact Finset.sum_congr rfl fun d _ => by rw [mul_inv]; ring
    rw [this, coe_sum]
    exact Finset.sum_congr rfl fun d _ => by
      show q d * factor * k d = _
      rw [hr, he, factor, EReal.coe_mul (_ * _) (e d), EReal.coe_mul (r d)]

/-- The kernel's attention of one query is the reference's, at real queries, keys and biases, with the keys outside the
    window at `-∞`. -/
theorem head_eq (q : Fin 64 → EReal) (K : Fin 512 → Fin 64 → EReal) (L : Fin 256 → Fin 64 → EReal) (ok : Fin 512 → Prop)
    [DecidablePred ok] (t : Fin 512 → EReal) (v : Fin 512 → EReal) (w : Fin 256 → EReal) (hq : ∀ d, IsReal (q d))
    (hK : ∀ j d, IsReal (K j d)) (hL : ∀ j d, IsReal (L j d)) (ht : ∀ j, IsReal (t j)) :
    attended (fun j => Layer.dot (fun d => q d * factor) (K j) + (if ok j then t j else lowest) * base)
        (fun j => Layer.dot (fun d => q d * factor) (L j)) v w
      = softmaxed (fun j => if ok j then scaled q (K j) + t j else lowest) (fun j => scaled q (L j)) v w := by
  have hl : (0 : ℝ) < Real.log 2 := Real.log_pos (by norm_num)
  choose a ha ha' using fun j => scores_real q (K j) hq (hK j)
  choose b hb hb' using fun j => scores_real q (L j) hq (hL j)
  choose u hu using ht
  have hS : ∀ j, (if ok j then scaled q (K j) + t j else lowest) = low (if ok j then some (a j + u j) else none) := fun j => by
    rw [lowest_eq, ha, hu]
    split_ifs
    · exact (EReal.coe_add _ _).symm
    · rfl
  have hS' : ∀ j, Layer.dot (fun d => q d * factor) (K j) + (if ok j then t j else lowest) * base
      = low ((if ok j then some (a j + u j) else none).map (· * (Real.log 2)⁻¹)) := fun j => by
    rw [lowest_eq, ha', hu, base]
    split_ifs
    · rw [← EReal.coe_mul, ← EReal.coe_add, ← add_mul]
      rfl
    · rw [EReal.bot_mul_coe_of_pos (inv_pos.2 hl)]
      exact EReal.add_bot _
  simp only [hS, hS', hb, hb']
  exact attended_eq_softmaxed _ _ _ _

/-! ## The window of columns and the offsets -/

/-- The first column of the window of a column: eight to the left, within the image. -/
def left (q : Fin 64) : ℕ := min 48 ((q : ℕ) - 8)

/-- A key's column lies in the window of a query's: sixteen columns. -/
abbrev InWindow (q k : Fin 64) : Prop := left q ≤ k ∧ (k : ℕ) < left q + 16

/-- The entry of the biases for a key's column beside a query's. -/
def across (q k : Fin 64) : Fin 31 := ⟨min 30 ((k : ℕ) + 15 - q), by omega⟩

/-- The entry of the biases for a row of the band below a place in it. -/
def down (p y : Fin 8) : Fin 15 := ⟨(y : ℕ) + 7 - p, by omega⟩

/-! ## The band -/

/-- The first row of the band of an image row: four rows up, within the image. -/
def start (r : Fin 32) : ℕ := min 24 ((r : ℕ) - 4)

theorem start_add_lt (r : Fin 32) (i : Fin 8) : start r + i < 32 := by
  unfold start; omega

theorem key_lt (r : Fin 32) (j : Fin 512) : start r * 64 + j < 2048 := by
  unfold start; omega

/-- The place of a row in its band is one of eight. -/
theorem place_lt (r : Fin 32) : (r : ℕ) - start r < 8 := by
  unfold start; omega

/-- The place of a row in its band. -/
def place (r : Fin 32) : Fin 8 := ⟨r - start r, place_lt r⟩

/-- A sum over the band's rows and their columns is the sum over its keys. -/
theorem sum_band {M : Type} [AddCommMonoid M] (f : Fin 8 → Fin 64 → M) :
    ∑ i, ∑ j, f i j = ∑ k : Fin 512, f ⟨k / 64, by omega⟩ ⟨k % 64, Nat.mod_lt _ (by decide)⟩ := by
  rw [← Finset.sum_product', ← (finProdFinEquiv (m := 8) (n := 64)).sum_comp]
  refine Finset.sum_congr rfl fun p _ => ?_
  have h1 : ((finProdFinEquiv p : Fin (8 * 64)) : ℕ) = p.2 + 64 * p.1 := rfl
  exact congrArg₂ f (Fin.ext (by show (p.1 : ℕ) = _ / 64; rw [h1]; omega))
    (Fin.ext (by show (p.2 : ℕ) = _ % 64; rw [h1]; omega))

/-! ## Two heads side by side -/

/-- A row of 128 that is zero past its first 64 entries. -/
theorem dot_first (f g : Fin 128 → EReal) :
    ∑ k : Fin 128, (if (k : ℕ) < 64 then f k else 0) * g k
      = Layer.dot (fun d : Fin 64 => f ⟨0 * 64 + d, by omega⟩) fun d => g ⟨0 * 64 + d, by omega⟩ := by
  unfold Layer.dot
  rw [show ∑ k : Fin 128, (if (k : ℕ) < 64 then f k else 0) * g k = _ from Fin.sum_univ_add (a := 64) (b := 64) _]
  simp [Fin.castAdd, Fin.castLE]

/-- A row of 128 that is zero in its first 64 entries. -/
theorem dot_second (f g : Fin 128 → EReal) :
    ∑ k : Fin 128, (if (k : ℕ) < 64 then 0 else f k) * g k
      = Layer.dot (fun d : Fin 64 => f ⟨1 * 64 + d, by omega⟩) fun d => g ⟨1 * 64 + d, by omega⟩ := by
  unfold Layer.dot
  rw [show ∑ k : Fin 128, (if (k : ℕ) < 64 then 0 else f k) * g k = _ from Fin.sum_univ_add (a := 64) (b := 64) _]
  simp [Fin.castAdd, Fin.castLE, Fin.natAdd]

end Cert.Neighbourhood

end
-- ==== Proof.Nbr.Kernel.lean ====
/- The body of the neighbourhood attention, read at an index: the block of one image row, eight pairs of heads side by side,
   each entry `Neighbourhood.attended` of its head's query. The kernel stacks a pair's two heads over one another, each query
   zero on the other head's lanes, so that one product gives both heads' scores. -/
module

public import proofs.«01_k».proof.Proof.Nbr.Math
public import proofs.«01_k».proof.Proof.Gen.NbrIdeal.Frame

@[expose] public section

set_option maxRecDepth 16384

noncomputable section

open Idealize.ShloMosaic Idealize.ShloMosaic.TcCoe Idealize.SL.Sem

namespace Cert.NbrIdeal.Value

open Cert.NbrIdeal Cert.NbrIdeal.Gen

/-- The kernel's named factor of the queries. -/
theorem factor_eq : (Named.named (F := Ideal) (φ := .f32) κ "nscale" 0x3E38AA3B#32 : EReal) = Neighbourhood.factor :=
  IdealRules.named_const.ideal_named_scalar κ "nscale" _ _ rfl

/-- The kernel's named factor of the biases. -/
theorem base_eq : (Named.named (F := Ideal) (φ := .f32) κ "log2e" 0x3FB8AA3B#32 : EReal) = Neighbourhood.base :=
  IdealRules.named_const.ideal_named_scalar κ "log2e" _ _ rfl

/-- The mask of the first head's lanes. -/
theorem mask_at (r : Fin 64) (d : Fin 128) : k0_pay2 (ix2 r d) = if (d : ℕ) < 64 then 1#1 else 0#1 := by
  pointwise [k0_pay2]
  revert d
  decide +kernel

/-- A selection by the mask of the first head's lanes. -/
theorem select_mask {α : Type} (r : Fin 64) (d : Fin 128) (x y : α) :
    Scalar.select (k0_pay2 (ix2 r d)) x y = if (d : ℕ) < 64 then x else y := by
  rw [mask_at]
  split_ifs <;> rfl

/-- The stacked queries of a pair of heads. -/
theorem queries_at (q : FVec Ideal S1x64x128 .bf16) (r : Fin 128) (d : Fin 128) : k0_pay3 (F := Ideal) q (ix2 r d)
      = if h : (r : ℕ) < 64 then (if (d : ℕ) < 64 then q (ix3 0 ⟨r, h⟩ d) * Neighbourhood.factor else 0)
        else (if (d : ℕ) < 64 then 0 else q (ix3 0 ⟨r - 64, by omega⟩ d) * Neighbourhood.factor) := by
  pointwise [k0_pay3]
  simp only [factor_eq, select_mask]

theorem bandScores_at (q : FVec Ideal S1x64x128 .bf16) (k : FVec Ideal S1x512x128 .bf16) (b : FVec Ideal S1x1x128x512 .f32)
    (r : Fin 128) (j : Fin 512) : k0_pay4 (F := Ideal) q k b (ix2 r j)
      = ∑ d, k0_pay3 (F := Ideal) q (ix2 r d) * k (ix3 0 j d)
          + b (ix4 0 0 r j) * Neighbourhood.base := by
  rw [← base_eq]
  pointwise! [k0_pay4]

theorem contextScores_at (q : FVec Ideal S1x64x128 .bf16) (k : FVec Ideal S1x256x128 .bf16) (r : Fin 128) (j : Fin 256) :
    k0_pay5 (F := Ideal) q k (ix2 r j) = ∑ d, k0_pay3 (F := Ideal) q (ix2 r d) * k (ix3 0 j d) := by
  pointwise! [k0_pay5]

theorem bandGreatest_at (q : FVec Ideal S1x64x128 .bf16) (k : FVec Ideal S1x512x128 .bf16)
    (b : FVec Ideal S1x1x128x512 .f32) (r : Fin 128) : k0_pay6 (F := Ideal) q k b (ix2 r 0)
      = Finset.univ.fold max Attention.lowest fun j => k0_pay4 (F := Ideal) q k b (ix2 r j) := by
  pointwise! [k0_pay6, Attention.lowest]

theorem contextGreatest_at (q : FVec Ideal S1x64x128 .bf16) (c : FVec Ideal S1x256x128 .bf16) (r : Fin 128) :
    k0_pay7 (F := Ideal) q c (ix2 r 0)
      = Finset.univ.fold max Attention.lowest fun j => k0_pay5 (F := Ideal) q c (ix2 r j) := by
  pointwise! [k0_pay7, Attention.lowest]

/-- The output of a pair of heads, from the stacked scores: each lane from its head's row. -/
theorem selected_at (s : FVec Ideal S128x512 .f32) (u : FVec Ideal S128x256 .f32) (g g' : FVec Ideal S128x1 .f32)
    (v : FVec Ideal S1x512x128 .bf16) (w : FVec Ideal S1x256x128 .bf16) (r : Fin 64) (d : Fin 128) (p : Fin 128)
    (hp : (p : ℕ) = d / 64 * 64 + r) : k0_pay8 (F := Ideal) k0_pay2 s u g g' v w (ix2 r d)
      = Ideal.div (∑ j, Ideal.exp2 (s (ix2 p j) - max (g (ix2 p 0)) (g' (ix2 p 0))) * v (ix3 0 j d)
           + ∑ j, Ideal.exp2 (u (ix2 p j) - max (g (ix2 p 0)) (g' (ix2 p 0))) * w (ix3 0 j d))
          (∑ j, Ideal.exp2 (s (ix2 p j) - max (g (ix2 p 0)) (g' (ix2 p 0)))
            + ∑ j, Ideal.exp2 (u (ix2 p j) - max (g (ix2 p 0)) (g' (ix2 p 0)))) := by
  pointwise [k0_pay8]
  rw [select_mask]
  split_ifs with h
  · rw [show p = ⟨r, by omega⟩ from Fin.ext (by simp only [hp]; omega)]
    rfl
  · rw [show p = ⟨64 + r, by omega⟩ from Fin.ext (by simp only [hp]; omega)]
    rfl

/-- The output of a pair of heads, from its queries, the band's keys, the biases, the context's keys and the two values. -/
def pair (q : FVec Ideal S1x64x128 .bf16) (k : FVec Ideal S1x512x128 .bf16) (b : FVec Ideal S1x1x128x512 .f32)
    (c : FVec Ideal S1x256x128 .bf16) (v : FVec Ideal S1x512x128 .bf16) (w : FVec Ideal S1x256x128 .bf16) :
    FVec Ideal S64x128 .bf16 :=
  k0_pay8 (F := Ideal) k0_pay2 (k0_pay4 (F := Ideal) q k b) (k0_pay5 (F := Ideal) q c) (k0_pay6 (F := Ideal) q k b)
    (k0_pay7 (F := Ideal) q c) v w

/-- A stacked query against a key is the head's own product. -/
theorem stacked_dot (q : FVec Ideal S1x64x128 .bf16) (K : Fin 128 → EReal) (r : Fin 64) (h : Fin 2) (p : Fin 128)
    (hp : (p : ℕ) = h * 64 + r) : ∑ d, k0_pay3 (F := Ideal) q (ix2 p d) * K d
      = Layer.dot (fun d : Fin 64 => q (ix3 0 r ⟨h * 64 + d, by omega⟩) * Neighbourhood.factor)
          fun d => K ⟨h * 64 + d, by omega⟩ := by
  simp only [queries_at]
  rcases (by omega : (h : ℕ) = 0 ∨ (h : ℕ) = 1) with h' | h'
  · obtain rfl : h = 0 := Fin.ext h'
    have hr : (p : ℕ) < 64 := by omega
    have hrow : (⟨p, hr⟩ : Fin 64) = r := Fin.ext (by simp only []; omega)
    simp only [dif_pos hr, hrow]
    exact Neighbourhood.dot_first (fun d => q (ix3 0 r d) * Neighbourhood.factor) K
  · obtain rfl : h = 1 := Fin.ext h'
    have hr : ¬ (p : ℕ) < 64 := by omega
    have hrow : (⟨p - 64, by omega⟩ : Fin 64) = r := Fin.ext (by simp only []; omega)
    simp only [dif_neg hr, hrow]
    exact Neighbourhood.dot_second (fun d => q (ix3 0 r d) * Neighbourhood.factor) K

/-- One lane of a pair's output is the attention of its head, the lane's half of the pair. -/
theorem pair_at (q : FVec Ideal S1x64x128 .bf16) (k : FVec Ideal S1x512x128 .bf16) (b : FVec Ideal S1x1x128x512 .f32)
    (c : FVec Ideal S1x256x128 .bf16) (v : FVec Ideal S1x512x128 .bf16) (w : FVec Ideal S1x256x128 .bf16) (r : Fin 64)
    (d : Fin 128) (h : Fin 2) (hh : (d : ℕ) / 64 = h) : pair q k b c v w (ix2 r d)
      = Neighbourhood.attended
          (fun j => Layer.dot (fun d : Fin 64 => q (ix3 0 r ⟨h * 64 + d, by omega⟩) * Neighbourhood.factor)
            (fun d => k (ix3 0 j ⟨h * 64 + d, by omega⟩)) + b (ix4 0 0 ⟨h * 64 + r, by omega⟩ j) * Neighbourhood.base)
          (fun j => Layer.dot (fun d : Fin 64 => q (ix3 0 r ⟨h * 64 + d, by omega⟩) * Neighbourhood.factor)
            fun d => c (ix3 0 j ⟨h * 64 + d, by omega⟩))
          (fun j => v (ix3 0 j d)) fun j => w (ix3 0 j d) := by
  unfold pair
  rw [selected_at _ _ _ _ v w r d ⟨h * 64 + r, by omega⟩ (by simp only [hh])]
  simp only [bandGreatest_at, contextGreatest_at, bandScores_at, contextScores_at]
  simp only [stacked_dot q _ r h ⟨h * 64 + r, by omega⟩ rfl]
  rfl

/-- Eight pairs side by side, as the block stored. -/
def sideBySide (p : Fin 8 → FVec Ideal S64x128 .bf16) : FVec Ideal S1x64x1024 .bf16 :=
  shapeCast S1x64x1024 (concatenate S64x1024 1 [⟨S64x128, p 0⟩, ⟨S64x128, p 1⟩, ⟨S64x128, p 2⟩, ⟨S64x128, p 3⟩,
    ⟨S64x128, p 4⟩, ⟨S64x128, p 5⟩, ⟨S64x128, p 6⟩, ⟨S64x128, p 7⟩]
    concatenates_S64x128_S64x128_S64x128_S64x128_S64x128_S64x128_S64x128_S64x128_S64x1024_d1)
    shapeCasts_S64x1024_S1x64x1024

theorem sideBySide_at (p : Fin 8 → FVec Ideal S64x128 .bf16) (r : Fin 64) (n : Fin 1024) : sideBySide p (ix3 0 r n)
      = p ⟨n / 128, by omega⟩ (ix2 r ⟨n % 128, Nat.mod_lt _ (by decide)⟩) := by
  pointwise [sideBySide]
  split_ifs <;>
  exact congrArg₂ (fun i k => p i (ix2 r k)) (Fin.ext (by simp; omega)) (Fin.ext (by simp; omega))

/-- The block the body stores, from what it loads for each pair. -/
theorem stored_eq (q : Fin 8 → FVec Ideal S1x64x128 .bf16) (k : Fin 8 → FVec Ideal S1x512x128 .bf16)
    (b : Fin 8 → FVec Ideal S1x1x128x512 .f32) (c : Fin 8 → FVec Ideal S1x256x128 .bf16)
    (v : Fin 8 → FVec Ideal S1x512x128 .bf16) (w : Fin 8 → FVec Ideal S1x256x128 .bf16) :
    k0_pay1 (F := Ideal) k0_pay2
      (k0_pay8 (F := Ideal) k0_pay2 (k0_pay4 (F := Ideal) (q 0) (k 0) (b 0)) (k0_pay5 (F := Ideal) (q 0) (c 0)) (k0_pay6
        (F := Ideal) (q 0) (k 0) (b 0)) (k0_pay7 (F := Ideal) (q 0) (c 0)) (v 0) (w 0))
      (k0_pay11 (F := Ideal) k0_pay2 (k0_pay9 (F := Ideal) k0_pay2 (q 1)) (k0_pay10 (F := Ideal) k0_pay2 (q 1) (k 1)) (b 1) (c 1)
        (v 1) (w 1))
      (k0_pay20 (F := Ideal) k0_pay2 (k0_pay17 (F := Ideal) k0_pay2 (q 2) (k 2) (b 2) (c 2)) (k0_pay18 (F := Ideal) k0_pay2 (q 2)
        (k 2) (b 2) (c 2)) (k0_pay19 (F := Ideal) k0_pay2 (q 2) (k 2) (b 2) (c 2)) (v 2) (w 2))
      (k0_pay24 (F := Ideal) k0_pay2 (k0_pay22 (F := Ideal) k0_pay2 (q 3) (k 3) (b 3)) (k0_pay23 (F := Ideal) k0_pay2 (q 3)
        (c 3)) (v 3) (w 3))
      (k0_pay33 (F := Ideal) k0_pay2 (k0_pay31 (F := Ideal) (k0_pay25 (F := Ideal) k0_pay2 (q 4)) (k 4) (b 4) (c 4) (v 4) (w 4))
        (k0_pay32 (F := Ideal) (k0_pay25 (F := Ideal) k0_pay2 (q 4)) (k 4) (b 4) (c 4)))
      (k0_pay41 (F := Ideal) k0_pay2 (k0_pay38 (F := Ideal) k0_pay2 (q 5) (k 5) (b 5) (c 5)) (k0_pay39 (F := Ideal) k0_pay2 (q 5)
        (k 5) (b 5) (c 5)) (k0_pay40 (F := Ideal) k0_pay2 (q 5) (k 5) (b 5) (c 5)) (v 5) (w 5))
      (k0_pay44 (F := Ideal) k0_pay2 (k0_pay42 (F := Ideal) k0_pay2 (q 6)) (k0_pay43 (F := Ideal) k0_pay2 (q 6) (k 6) (b 6))
        (c 6) (v 6) (w 6))
      (k0_pay52 (F := Ideal) k0_pay2 (k0_pay45 (F := Ideal) (q 7)) (Scalar.ofBits .bf16 0x0000#16) (k 7) (b 7) (c 7))
      (k0_pay53 (F := Ideal) k0_pay2 (k0_pay45 (F := Ideal) (q 7)) (Scalar.ofBits .bf16 0x0000#16) (k 7) (b 7) (c 7) (v 7))
      (k0_pay54 (F := Ideal) k0_pay2 (k0_pay45 (F := Ideal) (q 7)) (Scalar.ofBits .bf16 0x0000#16) (k 7) (b 7) (c 7))
      (w 7)
      = sideBySide fun i => pair (q i) (k i) (b i) (c i) (v i) (w i) := rfl

end Cert.NbrIdeal.Value

end
-- ==== Proof.Nbr.Reference.lean ====
/- The reference of the neighbourhood attention, read at an index: every image row attends to the band of eight rows around
   it and to the context, head by head `Neighbourhood.softmaxed` of the head's query. -/
module

public import proofs.«01_k».proof.Proof.Nbr.Math
public import proofs.«01_k».proof.Proof.Gen.NbrRefIdeal

@[expose] public section

set_option maxRecDepth 16384

noncomputable section

open Idealize.ShloMosaic Idealize.ShloMosaic.TcCoe Idealize.SL.Sem

namespace Cert.NbrRefIdeal.Spec

open Cert.NbrRefIdeal Cert.NbrRefIdeal.Gen

/-! ## The reference's stages -/

/-- The latents' queries, by image row, column and head. -/
def queries (x : FVec Ideal S16x2048x3072 .bf16) : FVec Ideal S16x32x64x16x64 .f32 :=
  shapeCast _ (shapeCast _ (extractStridedSlice S16x2048x1024 ![0, 0, 0] (extf .f32 x bitsLt_bf16_f32)
    slices_S16x2048x3072_S16x2048x1024_0_0_0) shapeCasts_S16x2048x1024_S16x2048x16x64)
    shapeCasts_S16x2048x16x64_S16x32x64x16x64

/-- The latents' keys. -/
def keys (x : FVec Ideal S16x2048x3072 .bf16) : FVec Ideal S16x32x64x16x64 .f32 :=
  shapeCast _ (shapeCast _ (extractStridedSlice S16x2048x1024 ![0, 0, 1024] (extf .f32 x bitsLt_bf16_f32)
    slices_S16x2048x3072_S16x2048x1024_0_0_1024) shapeCasts_S16x2048x1024_S16x2048x16x64)
    shapeCasts_S16x2048x16x64_S16x32x64x16x64

/-- The latents' values. -/
def values (x : FVec Ideal S16x2048x3072 .bf16) : FVec Ideal S16x32x64x16x64 .f32 :=
  shapeCast _ (shapeCast _ (extractStridedSlice S16x2048x1024 ![0, 0, 2048] (extf .f32 x bitsLt_bf16_f32)
    slices_S16x2048x3072_S16x2048x1024_0_0_2048) shapeCasts_S16x2048x1024_S16x2048x16x64)
    shapeCasts_S16x2048x16x64_S16x32x64x16x64

/-- The context's keys. -/
def contextKeys (u : FVec Ideal S16x256x3072 .bf16) : FVec Ideal S16x256x16x64 .f32 :=
  shapeCast _ (extractStridedSlice S16x256x1024 ![0, 0, 1024] (extf .f32 u bitsLt_bf16_f32)
    slices_S16x256x3072_S16x256x1024_0_0_1024) shapeCasts_S16x256x1024_S16x256x16x64

/-- The context's values. -/
def contextValues (u : FVec Ideal S16x256x3072 .bf16) : FVec Ideal S16x256x16x64 .f32 :=
  shapeCast _ (extractStridedSlice S16x256x1024 ![0, 0, 2048] (extf .f32 u bitsLt_bf16_f32)
    slices_S16x256x3072_S16x256x1024_0_0_2048) shapeCasts_S16x256x1024_S16x256x16x64

/-- Every image row's band's first row. -/
def starts : IVec S32 32 :=
  minsi (broadcastInDim S32 ![] bcast_S_S32 (id (constantI S_ 32 24#32))) (maxsi (broadcastInDim S32 ![] bcast_S_S32
    (id (constantI S_ 32 0#32))) (subi (iotaInDim S32 32 0) (broadcastInDim S32 ![] bcast_S_S32 (constantI S_ 32 4#32))))

/-- Every image row's band's rows. -/
def bandRows : IVec S32x8 32 :=
  addi (broadcastInDim S32x8 ![0, 1] bcast_S32x1_S32x8_0_1 (broadcastInDim S32x1 ![0] bcast_S32_S32x1_0 starts))
    (broadcastInDim S32x8 ![0, 1] bcast_S1x8_S32x8_0_1 (broadcastInDim S1x8 ![1] bcast_S8_S1x8_1 (iotaInDim S8 32 0)))

/-- The band's rows as an index, negative ones counted from the end. -/
def bandIndex : IVec S32x8x1 32 :=
  broadcastInDim S32x8x1 ![0, 1] bcast_S32x8_S32x8x1_0_1 (select (cmpi .slt bandRows (broadcastInDim S32x8 ![]
    bcast_S_S32x8 (constantI S_ 32 0#32))) (addi bandRows (broadcastInDim S32x8 ![] bcast_S_S32x8 (constantI S_ 32
    32#32))) bandRows)

/-- The rows of every band. -/
def band (y : FVec Ideal S16x32x64x16x64 .f32) : FVec Ideal S16x32x8x64x16x64 .f32 :=
  Host.gather gather_S16x32x64x16x64_S32x8x1_S16x32x8x64x16x64_0345_1_n_n_1_2_161641664 y bandIndex

/-- The first column of every column's window. -/
def lefts : IVec S64 32 :=
  minsi (broadcastInDim S64 ![] bcast_S_S64 (id (constantI S_ 32 48#32))) (maxsi (broadcastInDim S64 ![] bcast_S_S64
    (id (constantI S_ 32 0#32))) (subi (iotaInDim S64 32 0) (broadcastInDim S64 ![] bcast_S_S64 (constantI S_ 32 8#32))))

/-- The window of sixteen columns around every column: `1` for the keys' columns in it. -/
def windows : IVec S64x64 1 :=
  andi (cmpi .sge (broadcastInDim S64x64 ![0, 1] bcast_S1x64_S64x64_0_1 (broadcastInDim S1x64 ![1] bcast_S64_S1x64_1
    (iotaInDim S64 32 0))) (broadcastInDim S64x64 ![0, 1] bcast_S64x1_S64x64_0_1 (broadcastInDim S64x1 ![0]
    bcast_S64_S64x1_0 lefts))) (cmpi .slt (broadcastInDim S64x64 ![0, 1] bcast_S1x64_S64x64_0_1 (broadcastInDim S1x64 ![1]
    bcast_S64_S1x64_1 (iotaInDim S64 32 0))) (broadcastInDim S64x64 ![0, 1] bcast_S64x1_S64x64_0_1 (addi (broadcastInDim
    S64x1 ![0] bcast_S64_S64x1_0 lefts) (broadcastInDim S64x1 ![] bcast_S_S64x1 (constantI S_ 32 16#32)))))

/-- The offsets of the keys' columns beside the queries', counted from the farthest left and kept within the biases. -/
def offsets : IVec S64x64 32 :=
  minsi (broadcastInDim S64x64 ![] bcast_S_S64x64 (id (constantI S_ 32 30#32))) (maxsi (broadcastInDim S64x64 ![]
    bcast_S_S64x64 (id (constantI S_ 32 0#32))) (subi (addi (subi (broadcastInDim S64x64 ![0, 1] bcast_S1x64_S64x64_0_1
    (broadcastInDim S1x64 ![1] bcast_S64_S1x64_1 (iotaInDim S64 32 0))) (broadcastInDim S64x64 ![0, 1]
    bcast_S64x1_S64x64_0_1 (broadcastInDim S64x1 ![0] bcast_S64_S64x1_0 (iotaInDim S64 32 0)))) (broadcastInDim S64x64 ![]
    bcast_S_S64x64 (constantI S_ 32 16#32))) (broadcastInDim S64x64 ![] bcast_S_S64x64 (constantI S_ 32 1#32))))

/-- The offsets as an index, negative ones counted from the end. -/
def offsetIndex : IVec S64x64x1 32 :=
  broadcastInDim S64x64x1 ![0, 1] bcast_S64x64_S64x64x1_0_1 (select (cmpi .slt offsets (broadcastInDim S64x64 ![]
    bcast_S_S64x64 (constantI S_ 32 0#32))) (addi offsets (broadcastInDim S64x64 ![] bcast_S_S64x64 (constantI S_ 32
    31#32))) offsets)

/-- The biases by head, row offset, query's column and key's column. -/
def columns (t : FVec Ideal S16x15x31 .f32) : FVec Ideal S16x15x64x64 .f32 :=
  Host.gather gather_S16x15x31_S64x64x1_S16x15x64x64_01_2_n_n_2_2_16151 t offsetIndex

/-- The offsets of the band's rows from their image row, counted from the farthest above. -/
def rowOffsets : IVec S32x8 32 :=
  subi (addi (subi bandRows (broadcastInDim S32x8 ![0, 1] bcast_S32x1_S32x8_0_1 (broadcastInDim S32x1 ![0]
    bcast_S32_S32x1_0 (iotaInDim S32 32 0)))) (broadcastInDim S32x8 ![] bcast_S_S32x8 (constantI S_ 32 8#32)))
    (broadcastInDim S32x8 ![] bcast_S_S32x8 (constantI S_ 32 1#32))

/-- The row offsets as an index, negative ones counted from the end. -/
def rowOffsetIndex : IVec S32x8x1 32 :=
  broadcastInDim S32x8x1 ![0, 1] bcast_S32x8_S32x8x1_0_1 (select (cmpi .slt rowOffsets (broadcastInDim S32x8 ![]
    bcast_S_S32x8 (constantI S_ 32 0#32))) (addi rowOffsets (broadcastInDim S32x8 ![] bcast_S_S32x8 (constantI S_ 32
    15#32))) rowOffsets)

/-- Every image row's biases. -/
def tables (t : FVec Ideal S16x15x31 .f32) : FVec Ideal S16x32x8x64x64 .f32 :=
  Host.gather gather_S16x15x64x64_S32x8x1_S16x32x8x64x64_034_1_n_n_1_2_1616464 (columns t) rowOffsetIndex

/-- The biases, by head, image row, column, row of the band and column of the key. -/
def biases (t : FVec Ideal S16x15x31 .f32) : FVec Ideal S16x32x64x8x64 .f32 :=
  transpose S16x32x64x8x64 [0, 1, 3, 2, 4] (tables t) transposes_S16x32x8x64x64_S16x32x64x8x64_0_1_3_2_4

/-- The scores of the band before the window of columns. -/
def openScores (x : FVec Ideal S16x2048x3072 .bf16) (t : FVec Ideal S16x15x31 .f32) : FVec Ideal S16x16x32x64x8x64 .f32 :=
  addf (mulf (Host.dotGeneral dot_S16x32x64x16x64_S16x32x8x64x16x64_S16x16x32x64x8x64_4_5_2_23_031_041 none
    (queries x) (band (keys x))) (broadcastInDim S16x16x32x64x8x64 ![] bcast_S_S16x16x32x64x8x64 (constant S_ .f32
    0x3E000000#32))) (broadcastInDim S16x16x32x64x8x64 ![0, 1, 2, 3, 4, 5]
    bcast_S1x16x32x64x8x64_S16x16x32x64x8x64_0_1_2_3_4_5 (broadcastInDim S1x16x32x64x8x64 ![1, 2, 3, 4, 5]
    bcast_S16x32x64x8x64_S1x16x32x64x8x64_1_2_3_4_5 (biases t)))

/-- The scores of the band, `-∞` outside the window of columns. -/
def bandScores (x : FVec Ideal S16x2048x3072 .bf16) (t : FVec Ideal S16x15x31 .f32) : FVec Ideal S16x16x32x64x8x64 .f32 :=
  select (broadcastInDim S16x16x32x64x8x64 ![3, 4, 5] bcast_S64x1x64_S16x16x32x64x8x64_3_4_5 (broadcastInDim S64x1x64
    ![0, 2] bcast_S64x64_S64x1x64_0_2 windows)) (openScores x t) (broadcastInDim S16x16x32x64x8x64 ![]
    bcast_S_S16x16x32x64x8x64 (id (constant S_ .f32 0xFF800000#32)))

/-- The scores of the context. -/
def contextScores (x : FVec Ideal S16x2048x3072 .bf16) (u : FVec Ideal S16x256x3072 .bf16) :
    FVec Ideal S16x16x32x64x256 .f32 :=
  mulf (Host.dotGeneral dot_S16x32x64x16x64_S16x256x16x64_S16x16x32x64x256_4_3_12_1_03_02 none (queries x)
    (contextKeys u)) (broadcastInDim S16x16x32x64x256 ![] bcast_S_S16x16x32x64x256 (constant S_ .f32 0x3E000000#32))

/-- All the scores. -/
def scores (x : FVec Ideal S16x2048x3072 .bf16) (u : FVec Ideal S16x256x3072 .bf16) (t : FVec Ideal S16x15x31 .f32) :
    FVec Ideal S16x16x32x64x768 .f32 :=
  concatenate S16x16x32x64x768 4 [⟨S16x16x32x64x512, (shapeCast _ (bandScores x t)
    shapeCasts_S16x16x32x64x8x64_S16x16x32x64x512)⟩, ⟨S16x16x32x64x256, (contextScores x u)⟩]
    concatenates_S16x16x32x64x512_S16x16x32x64x256_S16x16x32x64x768_d4

/-- The greatest entry of every row of an array. -/
def greatest (y : FVec Ideal S16x16x32x64x768 .f32) : FVec Ideal S16x16x32x64 .f32 :=
  Host.reduce FloatOps.maximumf y (constant S_ .f32 0xFF800000#32) reducesTo_S16x16x32x64x768_S16x16x32x64_d4 h_S_

/-- The exponentials of an array's entries less an array of bounds, one for each row, themselves at least `-∞`. -/
def exponentialsBy (y : FVec Ideal S16x16x32x64x768 .f32) (z : FVec Ideal S16x16x32x64 .f32) :
    FVec Ideal S16x16x32x64x768 .f32 :=
  Host.exp (subf y (broadcastInDim S16x16x32x64x768 ![0, 1, 2, 3, 4]
    bcast_S16x16x32x64x1_S16x16x32x64x768_0_1_2_3_4 (broadcastInDim S16x16x32x64x1 ![0, 1, 2, 3]
    bcast_S16x16x32x64_S16x16x32x64x1_0_1_2_3 (maximumf (broadcastInDim S16x16x32x64 ![] bcast_S_S16x16x32x64
    (constant S_ .f32 0xFF800000#32)) z))))

/-- The exponentials over their sums, row by row. -/
def normalized (e : FVec Ideal S16x16x32x64x768 .f32) : FVec Ideal S16x16x32x64x768 .f32 :=
  Host.divf e (broadcastInDim S16x16x32x64x768 ![0, 1, 2, 3, 4] bcast_S16x16x32x64x1_S16x16x32x64x768_0_1_2_3_4
    (broadcastInDim S16x16x32x64x1 ![0, 1, 2, 3] bcast_S16x16x32x64_S16x16x32x64x1_0_1_2_3 (Host.reduceAdd e
    (constant S_ .f32 0x00000000#32) reducesTo_S16x16x32x64x768_S16x16x32x64_d4 h_S_)))

/-- The softmax of every row of an array. -/
def softmax (y : FVec Ideal S16x16x32x64x768 .f32) : FVec Ideal S16x16x32x64x768 .f32 :=
  normalized (exponentialsBy y (greatest y))

/-- The values of the band and of the context against an array of weights. -/
def weighted (x : FVec Ideal S16x2048x3072 .bf16) (u : FVec Ideal S16x256x3072 .bf16)
    (p : FVec Ideal S16x16x32x64x768 .f32) : FVec Ideal S16x32x64x16x64 .f32 :=
  addf (transpose S16x32x64x16x64 [0, 1, 4, 2, 3] (Host.dotGeneral
    dot_S16x32x8x64x16x64_S16x16x32x64x8x64_S16x32x16x64x64_32_54_5_3_014_021 none (band (values x)) (shapeCast _
    (extractStridedSlice S16x16x32x64x512 ![0, 0, 0, 0, 0] p slices_S16x16x32x64x768_S16x16x32x64x512_0_0_0_0_0)
    shapeCasts_S16x16x32x64x512_S16x16x32x64x8x64)) transposes_S16x32x16x64x64_S16x32x64x16x64_0_1_4_2_3) (transpose
    S16x32x64x16x64 [0, 3, 4, 1, 2] (Host.dotGeneral dot_S16x256x16x64_S16x16x32x64x256_S16x16x64x32x64_1_4_3_23_02_01
    none (contextValues u) (extractStridedSlice S16x16x32x64x256 ![0, 0, 0, 0, 512] p
    slices_S16x16x32x64x768_S16x16x32x64x256_0_0_0_0_512)) transposes_S16x16x64x32x64_S16x32x64x16x64_0_3_4_1_2)

/-- The reference's result. -/
def result (x : FVec Ideal S16x2048x3072 .bf16) (u : FVec Ideal S16x256x3072 .bf16) (t : FVec Ideal S16x15x31 .f32) :
    FVec Ideal S16x2048x1024 .bf16 :=
  truncf .bf16 (shapeCast _ (weighted x u (softmax (scores x u t))) shapeCasts_S16x32x64x16x64_S16x2048x1024)
    bitsLt_bf16_f32

/-! ## The stages at an index -/

theorem queries_at (x : FVec Ideal S16x2048x3072 .bf16) (b : Fin 16) (r : Fin 32) (q : Fin 64) (h : Fin 16) (d : Fin 64) :
    queries x (ix5 b r q h d) = x (ix3 b ⟨r * 64 + q, by omega⟩ ⟨h * 64 + d, by omega⟩) := by
  pointwise [queries]

theorem keys_at (x : FVec Ideal S16x2048x3072 .bf16) (b : Fin 16) (r : Fin 32) (q : Fin 64) (h : Fin 16) (d : Fin 64) :
    keys x (ix5 b r q h d) = x (ix3 b ⟨r * 64 + q, by omega⟩ ⟨1024 + (h * 64 + d), by omega⟩) := by
  pointwise [keys]

theorem values_at (x : FVec Ideal S16x2048x3072 .bf16) (b : Fin 16) (r : Fin 32) (q : Fin 64) (h : Fin 16) (d : Fin 64) :
    values x (ix5 b r q h d) = x (ix3 b ⟨r * 64 + q, by omega⟩ ⟨2048 + (h * 64 + d), by omega⟩) := by
  pointwise [values]

theorem contextKeys_at (u : FVec Ideal S16x256x3072 .bf16) (b : Fin 16) (j : Fin 256) (h : Fin 16) (d : Fin 64) :
    contextKeys u (ix4 b j h d) = u (ix3 b j ⟨1024 + (h * 64 + d), by omega⟩) := by
  pointwise [contextKeys]

theorem contextValues_at (u : FVec Ideal S16x256x3072 .bf16) (b : Fin 16) (j : Fin 256) (h : Fin 16) (d : Fin 64) :
    contextValues u (ix4 b j h d) = u (ix3 b j ⟨2048 + (h * 64 + d), by omega⟩) := by
  pointwise [contextValues]

theorem bandIndex_at (r : Fin 32) (y : Fin 8) :
    min (bandIndex (ix3 r y 0)).toInt.toNat 31 = Neighbourhood.start r + y := by
  pointwise [bandIndex, bandRows, starts]
  revert r y
  decide +kernel

theorem windows_at (q k : Fin 64) : windows (ix2 q k) = if Neighbourhood.InWindow q k then 1#1 else 0#1 := by
  pointwise [windows, lefts]
  revert q k
  decide +kernel

theorem offsetIndex_at (q k : Fin 64) :
    min (offsetIndex (ix3 q k 0)).toInt.toNat 30 = Neighbourhood.across q k := by
  pointwise [offsetIndex, offsets]
  revert q k
  decide +kernel

theorem rowOffsetIndex_at (r : Fin 32) (y : Fin 8) :
    min (rowOffsetIndex (ix3 r y 0)).toInt.toNat 14 = Neighbourhood.down (Neighbourhood.place r) y := by
  pointwise [rowOffsetIndex, rowOffsets, bandRows, starts]
  revert r y
  decide +kernel

/-- A band's row is the row of the image that its start gives. -/
theorem band_at (y : FVec Ideal S16x32x64x16x64 .f32) (b : Fin 16) (r : Fin 32) (i : Fin 8) (j : Fin 64) (h : Fin 16)
    (d : Fin 64) : band y (ix6 b r i j h d)
      = y (ix5 b ⟨Neighbourhood.start r + i, Neighbourhood.start_add_lt r i⟩ j h d) := by
  unfold band Host.gather
  refine congrArg y (funext fun a => Fin.ext ?_)
  match a with
  | ⟨0, _⟩ => exact Nat.zero_add _
  | ⟨1, _⟩ => exact bandIndex_at r i
  | ⟨2, _⟩ => exact Nat.zero_add _
  | ⟨3, _⟩ => exact Nat.zero_add _
  | ⟨4, _⟩ => exact Nat.zero_add _

/-- The columns of the biases that an index gives. -/
theorem gatherColumns_at (t : FVec Ideal S16x15x31 .f32) (n : IVec S64x64x1 32) (h : Fin 16) (i : Fin 15) (q k : Fin 64) :
    Host.gather gather_S16x15x31_S64x64x1_S16x15x64x64_01_2_n_n_2_2_16151 t n (ix4 h i q k)
      = t (ix3 h i ⟨min (n (ix3 q k 0)).toInt.toNat 30, by omega⟩) := by
  unfold Host.gather
  refine congrArg t (funext fun a => Fin.ext ?_)
  match a with
  | ⟨0, _⟩ => exact Nat.zero_add _
  | ⟨1, _⟩ => exact Nat.zero_add _
  | ⟨2, _⟩ =>
    refine congrArg (fun z => min (n z).toInt.toNat 30) (funext fun b => Fin.ext ?_)
    match b with
    | ⟨0, _⟩ => rfl
    | ⟨1, _⟩ => rfl
    | ⟨2, _⟩ => rfl

/-- The rows of the biases that an index gives. -/
theorem gatherRows_at (t : FVec Ideal S16x15x64x64 .f32) (n : IVec S32x8x1 32) (h : Fin 16) (r : Fin 32) (i : Fin 8)
    (q k : Fin 64) : Host.gather gather_S16x15x64x64_S32x8x1_S16x32x8x64x64_034_1_n_n_1_2_1616464 t n (ix5 h r i q k)
      = t (ix4 h ⟨min (n (ix3 r i 0)).toInt.toNat 14, by omega⟩ q k) := by
  unfold Host.gather
  refine congrArg t (funext fun a => Fin.ext ?_)
  match a with
  | ⟨0, _⟩ => exact Nat.zero_add _
  | ⟨1, _⟩ =>
    refine congrArg (fun z => min (n z).toInt.toNat 14) (funext fun b => Fin.ext ?_)
    match b with
    | ⟨0, _⟩ => rfl
    | ⟨1, _⟩ => rfl
    | ⟨2, _⟩ => rfl
  | ⟨2, _⟩ => exact Nat.zero_add _
  | ⟨3, _⟩ => exact Nat.zero_add _

/-- A column of the biases is the one its offset gives. -/
theorem columns_at (t : FVec Ideal S16x15x31 .f32) (h : Fin 16) (i : Fin 15) (q k : Fin 64) :
    columns t (ix4 h i q k) = t (ix3 h i (Neighbourhood.across q k)) :=
  (gatherColumns_at t offsetIndex h i q k).trans (congrArg t (congrArg (ix3 h i) (Fin.ext (offsetIndex_at q k))))

/-- A row of the biases is the one its offset gives. -/
theorem tables_at (t : FVec Ideal S16x15x31 .f32) (h : Fin 16) (r : Fin 32) (i : Fin 8) (q k : Fin 64) :
    tables t (ix5 h r i q k)
      = t (ix3 h (Neighbourhood.down (Neighbourhood.place r) i) (Neighbourhood.across q k)) := by
  refine ((gatherRows_at (columns t) rowOffsetIndex h r i q k).trans ?_).trans (columns_at t h _ q k)
  exact congrArg (fun n => columns t (ix4 h n q k)) (Fin.ext (rowOffsetIndex_at r i))

theorem openScores_at (x : FVec Ideal S16x2048x3072 .bf16) (t : FVec Ideal S16x15x31 .f32) (b : Fin 16) (h : Fin 16)
    (r : Fin 32) (q : Fin 64) (i : Fin 8) (j : Fin 64) : openScores x t (ix6 b h r q i j)
      = Neighbourhood.scaled (fun d => queries x (ix5 b r q h d)) (fun d => band (keys x) (ix6 b r i j h d))
        + tables t (ix5 h r i q j) := by
  pointwise [openScores, biases, Neighbourhood.scaled, Layer.dot, Neighbourhood.eighth]

theorem bandScores_at (x : FVec Ideal S16x2048x3072 .bf16) (t : FVec Ideal S16x15x31 .f32) (b : Fin 16) (h : Fin 16)
    (r : Fin 32) (q : Fin 64) (i : Fin 8) (j : Fin 64) : bandScores x t (ix6 b h r q i j)
      = if Neighbourhood.InWindow q j then openScores x t (ix6 b h r q i j) else Attention.lowest := by
  pointwise [bandScores, windows_at, Attention.lowest]
  split_ifs <;> rfl

theorem contextScores_at (x : FVec Ideal S16x2048x3072 .bf16) (u : FVec Ideal S16x256x3072 .bf16) (b : Fin 16) (h : Fin 16)
    (r : Fin 32) (q : Fin 64) (j : Fin 256) : contextScores x u (ix5 b h r q j)
      = Neighbourhood.scaled (fun d => queries x (ix5 b r q h d)) (fun d => contextKeys u (ix4 b j h d)) := by
  pointwise [contextScores, Neighbourhood.scaled, Layer.dot, Neighbourhood.eighth]

theorem scores_at (x : FVec Ideal S16x2048x3072 .bf16) (u : FVec Ideal S16x256x3072 .bf16) (t : FVec Ideal S16x15x31 .f32)
    (b : Fin 16) (h : Fin 16) (r : Fin 32) (q : Fin 64) (j : Fin 768) : scores x u t (ix5 b h r q j)
      = Neighbourhood.joined (fun j => bandScores x t (ix6 b h r q ⟨j / 64, by omega⟩ ⟨j % 64, Nat.mod_lt _ (by decide)⟩))
          (fun j => contextScores x u (ix5 b h r q j)) j := by
  pointwise [scores, Neighbourhood.joined]

theorem greatest_at (y : FVec Ideal S16x16x32x64x768 .f32) (b : Fin 16) (h : Fin 16) (r : Fin 32) (q : Fin 64) :
    greatest y (ix4 b h r q) = Finset.univ.fold max Attention.lowest fun j => y (ix5 b h r q j) := by
  pointwise [greatest, Attention.lowest]

theorem exponentialsBy_at (y : FVec Ideal S16x16x32x64x768 .f32) (z : FVec Ideal S16x16x32x64 .f32) (b : Fin 16)
    (h : Fin 16) (r : Fin 32) (q : Fin 64) (j : Fin 768) : exponentialsBy y z (ix5 b h r q j)
      = Ideal.exp (y (ix5 b h r q j) - max Attention.lowest (z (ix4 b h r q))) := by
  pointwise [exponentialsBy, Attention.lowest]

theorem normalized_at (e : FVec Ideal S16x16x32x64x768 .f32) (b : Fin 16) (h : Fin 16) (r : Fin 32) (q : Fin 64)
    (j : Fin 768) : normalized e (ix5 b h r q j) = Ideal.div (e (ix5 b h r q j)) (∑ j, e (ix5 b h r q j)) := by
  pointwise [normalized]

theorem softmax_at (y : FVec Ideal S16x16x32x64x768 .f32) (b : Fin 16) (h : Fin 16) (r : Fin 32) (q : Fin 64)
    (j : Fin 768) : softmax y (ix5 b h r q j) = Neighbourhood.softmax (fun j => y (ix5 b h r q j)) j := by
  unfold softmax
  rw [normalized_at]
  simp only [exponentialsBy_at, greatest_at]
  rfl

theorem weighted_at (x : FVec Ideal S16x2048x3072 .bf16) (u : FVec Ideal S16x256x3072 .bf16)
    (p : FVec Ideal S16x16x32x64x768 .f32) (b : Fin 16) (r : Fin 32) (q : Fin 64) (h : Fin 16) (d : Fin 64) :
    weighted x u p (ix5 b r q h d)
      = ∑ j : Fin 512, band (values x) (ix6 b r ⟨j / 64, by omega⟩ ⟨j % 64, Nat.mod_lt _ (by decide)⟩ h d)
            * p (ix5 b h r q ⟨j, by omega⟩)
        + ∑ j : Fin 256, contextValues u (ix4 b j h d) * p (ix5 b h r q ⟨512 + j, by omega⟩) := by
  pointwise [weighted]
  refine congrArg (· + _) ?_
  rw [Finset.sum_comm, Neighbourhood.sum_band]
  refine Finset.sum_congr rfl fun j _ => ?_
  exact congrArg (fun k => _ * p (ix5 b h r q k)) (Fin.ext (by simp only; omega))

/-- The reference's entry: the attention of its head's query over the band and the context. -/
theorem result_at (x : FVec Ideal S16x2048x3072 .bf16) (u : FVec Ideal S16x256x3072 .bf16) (t : FVec Ideal S16x15x31 .f32)
    (b : Fin 16) (s : Fin 2048) (n : Fin 1024) (r : Fin 32) (q : Fin 64) (h : Fin 16) (d : Fin 64) (hr : (s : ℕ) / 64 = r)
    (hq : (s : ℕ) % 64 = q) (hh : (n : ℕ) / 64 = h) (hd : (n : ℕ) % 64 = d) : result x u t (ix3 b s n)
      = Neighbourhood.softmaxed
          (fun j => if Neighbourhood.InWindow q ⟨j % 64, Nat.mod_lt _ (by decide)⟩ then
              Neighbourhood.scaled (fun d => x (ix3 b ⟨r * 64 + q, by omega⟩ ⟨h * 64 + d, by omega⟩))
                (fun d => x (ix3 b ⟨Neighbourhood.start r * 64 + j, Neighbourhood.key_lt r j⟩
                  ⟨1024 + (h * 64 + d), by omega⟩))
                + t (ix3 h (Neighbourhood.down (Neighbourhood.place r) ⟨j / 64, by omega⟩)
                    (Neighbourhood.across q ⟨j % 64, Nat.mod_lt _ (by decide)⟩))
            else Attention.lowest)
          (fun j => Neighbourhood.scaled (fun d => x (ix3 b ⟨r * 64 + q, by omega⟩ ⟨h * 64 + d, by omega⟩))
            fun d => u (ix3 b j ⟨1024 + (h * 64 + d), by omega⟩))
          (fun j => x (ix3 b ⟨Neighbourhood.start r * 64 + j, Neighbourhood.key_lt r j⟩ ⟨2048 + (h * 64 + d), by omega⟩))
          fun j => u (ix3 b j ⟨2048 + (h * 64 + d), by omega⟩) := by
  have hrow : ∀ j : Fin 512, (⟨(Neighbourhood.start r + j / 64) * 64 + j % 64, by
      have := Neighbourhood.key_lt r j; omega⟩ : Fin 2048) = ⟨Neighbourhood.start r * 64 + j, Neighbourhood.key_lt r j⟩ :=
    fun j => Fin.ext (by simp only; omega)
  pointwise [result, hr, hq, hh, hd]
  rw [weighted_at]
  simp only [softmax_at, scores_at, bandScores_at, openScores_at, contextScores_at, tables_at, band_at, queries_at, keys_at, values_at,
    contextKeys_at, contextValues_at, hrow]
  rfl

end Cert.NbrRefIdeal.Spec

end
-- ==== Proof.Nbr.Biases.lean ====
/- The biases that the program hands the neighbourhood attention: for each place of a row in its band, head by head, the
   bias of every key's offset, and `-∞` outside the window of columns. -/
module

public import proofs.«01_k».proof.Proof.Nbr.Reference
public import proofs.«01_k».proof.Proof.Gen.NbrIdeal.Frame
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NbrIdeal.Value

open Cert.NbrIdeal Cert.NbrIdeal.Gen
open Cert.NbrRefIdeal.Spec (windows columns windows_at columns_at)

variable (m : (ℓ : Loc nD τ sig) → Buf (Elt Ideal) ℓ)

/-- The offsets of a band's rows from each place in it, counted from the farthest above. -/
def rowOffsets : IVec S8x8 32 :=
  subi (addi (subi (broadcastInDim S8x8 ![0, 1] bcast_S1x8_S8x8_0_1 (broadcastInDim S1x8 ![1] bcast_S8_S1x8_1
    (iotaInDim S8 32 0))) (broadcastInDim S8x8 ![0, 1] bcast_S8x1_S8x8_0_1 (broadcastInDim S8x1 ![0] bcast_S8_S8x1_0
    (iotaInDim S8 32 0)))) (broadcastInDim S8x8 ![] bcast_S_S8x8 (constantI S_ 32 8#32)))
    (broadcastInDim S8x8 ![] bcast_S_S8x8 (constantI S_ 32 1#32))

/-- The row offsets as an index, negative ones counted from the end. -/
def rowOffsetIndex : IVec S8x8x1 32 :=
  broadcastInDim S8x8x1 ![0, 1] bcast_S8x8_S8x8x1_0_1 (select (cmpi .slt rowOffsets (broadcastInDim S8x8 ![]
    bcast_S_S8x8 (constantI S_ 32 0#32))) (addi rowOffsets (broadcastInDim S8x8 ![] bcast_S_S8x8 (constantI S_ 32
    15#32))) rowOffsets)

/-- The biases of every place in the band. -/
def places (t : FVec Ideal S16x15x31 .f32) : FVec Ideal S16x8x8x64x64 .f32 :=
  Host.gather gather_S16x15x64x64_S8x8x1_S16x8x8x64x64_034_1_n_n_1_2_1616464 (columns t) rowOffsetIndex

/-- The biases, `-∞` outside the window of columns. -/
def masked (t : FVec Ideal S16x15x31 .f32) : FVec Ideal S16x8x8x64x64 .f32 :=
  select (broadcastInDim S16x8x8x64x64 ![0, 1, 2, 3, 4] bcast_S1x1x1x64x64_S16x8x8x64x64_0_1_2_3_4 (broadcastInDim
    S1x1x1x64x64 ![3, 4] bcast_S64x64_S1x1x1x64x64_3_4 windows)) (places t) (broadcastInDim S16x8x8x64x64 ![]
    bcast_S_S16x8x8x64x64 (id (constant S_ .f32 0xFF800000#32)))

/-- The biases as rows: by place in the band, pair of heads, the pair's heads and queries, and the band's keys. -/
def rows (t : FVec Ideal S16x15x31 .f32) : FVec Ideal S8x8x128x512 .f32 :=
  shapeCast _ (transpose S8x16x64x8x64 [1, 0, 3, 2, 4] (masked t) transposes_S16x8x8x64x64_S8x16x64x8x64_1_0_3_2_4)
    shapeCasts_S8x16x64x8x64_S8x8x128x512

set_option maxHeartbeats 4000000 in
/-- The rows of biases when the kernel starts. -/
theorem rows_eq (c : Dev nD) : V m c main_v55 = rows (m ((c : Thread nD τ).loc main_arg2)) := by
  unfold V
  simp only [hostOps0, hostOps0_1, hostOps0_2, hostOps0_3, hostOps0_4, hostOps0_5, hostOps0_6, List.flatten_cons,
    List.flatten_nil, List.append_nil, List.cons_append, List.nil_append]
  after_reads_simp
  rfl

theorem rowOffsetIndex_at (p y : Fin 8) : min (rowOffsetIndex (ix3 p y 0)).toInt.toNat 14 = Neighbourhood.down p y := by
  pointwise [rowOffsetIndex, rowOffsets]
  revert p y
  decide +kernel

/-- The rows of the biases that an index gives. -/
theorem gatherRows_at (t : FVec Ideal S16x15x64x64 .f32) (n : IVec S8x8x1 32) (h : Fin 16) (p i : Fin 8) (q k : Fin 64) :
    Host.gather gather_S16x15x64x64_S8x8x1_S16x8x8x64x64_034_1_n_n_1_2_1616464 t n (ix5 h p i q k)
      = t (ix4 h ⟨min (n (ix3 p i 0)).toInt.toNat 14, by omega⟩ q k) := by
  unfold Host.gather
  refine congrArg t (funext fun a => Fin.ext ?_)
  match a with
  | ⟨0, _⟩ => exact Nat.zero_add _
  | ⟨1, _⟩ =>
    refine congrArg (fun z => min (n z).toInt.toNat 14) (funext fun b => Fin.ext ?_)
    match b with
    | ⟨0, _⟩ => rfl
    | ⟨1, _⟩ => rfl
    | ⟨2, _⟩ => rfl
  | ⟨2, _⟩ => exact Nat.zero_add _
  | ⟨3, _⟩ => exact Nat.zero_add _

theorem places_at (t : FVec Ideal S16x15x31 .f32) (h : Fin 16) (p i : Fin 8) (q k : Fin 64) :
    places t (ix5 h p i q k) = t (ix3 h (Neighbourhood.down p i) (Neighbourhood.across q k)) := by
  refine ((gatherRows_at (columns t) rowOffsetIndex h p i q k).trans ?_).trans (columns_at t h _ q k)
  exact congrArg (fun n => columns t (ix4 h n q k)) (Fin.ext (rowOffsetIndex_at p i))

theorem masked_at (t : FVec Ideal S16x15x31 .f32) (h : Fin 16) (p i : Fin 8) (q k : Fin 64) :
    masked t (ix5 h p i q k) = if Neighbourhood.InWindow q k then places t (ix5 h p i q k)
      else Attention.lowest := by
  pointwise [masked, windows_at, Attention.lowest]
  split_ifs <;> rfl

/-- One entry of the rows of biases. -/
theorem rows_at (t : FVec Ideal S16x15x31 .f32) (i p : Fin 8) (a : Fin 128) (j : Fin 512) : rows t (ix4 i p a j)
      = if Neighbourhood.InWindow ⟨a % 64, Nat.mod_lt _ (by decide)⟩ ⟨j % 64, Nat.mod_lt _ (by decide)⟩ then
          t (ix3 ⟨2 * (p : ℕ) + a / 64, by omega⟩ (Neighbourhood.down i ⟨j / 64, by omega⟩)
            (Neighbourhood.across ⟨a % 64, Nat.mod_lt _ (by decide)⟩ ⟨j % 64, Nat.mod_lt _ (by decide)⟩))
        else Attention.lowest := by
  pointwise [rows]
  simp only [Nat.mul_comm, masked_at, places_at]

end Cert.NbrIdeal.Value

end
-- ==== Proof.Nbr.Value.lean ====
/- The result array of the neighbourhood attention is its reference's, where the queries, the keys and the biases are real
   numbers: each grid point's block is one image row of one sample of the reference, and the blocks tile the array. -/
module

public import proofs.«01_k».proof.Proof.Nbr.Kernel
public import proofs.«01_k».proof.Proof.Nbr.Biases
public import proofs.«01_k».proof.Proof.Gen.NbrIdeal.Value
public import Idealize.ShloMosaic.Lib.StableHlo.RunRead
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NbrIdeal.Value

open Cert.NbrIdeal Cert.NbrIdeal.Gen
open Cert.NbrRefIdeal.Spec (result result_at)

variable (m : (ℓ : Loc nD τ sig) → Buf (Elt Ideal) ℓ)

/-- The image row of a grid point. -/
def row (t : Fin cfg0.N) : Fin 32 := ⟨t.val % 32, Nat.mod_lt _ (by decide)⟩

/-- The sample of a grid point. -/
theorem samples (t : Fin cfg0.N) : t.val / 32 < 16 := by
  have : t.val < 512 := lt_of_lt_of_eq t.isLt N_0
  omega

/-- Every window's block at grid point `t`: sample `t / 32` and image row `t % 32`, and the row's place in its band. -/
theorem idx : ∀ t : Fin cfg0.N, win0_0.index t = ![t.val / 32, t.val % 32, 0]
    ∧ win0_1.index t = ![t.val / 32, 0, 1] ∧ win0_2.index t = ![t.val / 32, 0, 2] ∧ win0_3.index t = ![t.val / 32, 0, 1]
    ∧ win0_4.index t = ![t.val / 32, 0, 2] ∧ win0_5.index t = ![(row t : ℕ) - Neighbourhood.start (row t), 0, 0, 0]
    ∧ win0_6.index t = ![t.val / 32, t.val % 32, 0] :=
  (by decide +kernel : ∀ t : Fin grid0.N, _)

/-- The band's first position at a grid point. -/
theorem offset_eq : ∀ t : Fin cfg0.N, k0_off1 (grid0.coords t) 1 = Neighbourhood.start (row t) * 64 :=
  (by decide +kernel : ∀ t : Fin grid0.N, _)

/-! ## What the body loads for each pair of heads -/

theorem queries_inb (p : Fin 8) : ∀ a, (![0, 0, 128 * (p : ℕ)] : Fin 3 → ℕ) a + S1x64x128.size a ≤ S1x64x1024.size a := by
  revert p; decide

def pairQueries (x : FVec Ideal S1x64x1024 .bf16) (p : Fin 8) : FVec Ideal S1x64x128 .bf16 :=
  fun y => x ((Rect.unit (s := S1x64x1024) ![0, 0, 128 * (p : ℕ)] S1x64x128.size (queries_inb p)).idx y)

theorem pairQueries_at (x : FVec Ideal S1x64x1024 .bf16) (p : Fin 8) (q : Fin 64) (d : Fin 128) :
    pairQueries x p (ix3 0 q d) = x (ix3 0 q ⟨128 * (p : ℕ) + d, by omega⟩) := by
  refine congrArg x (funext fun a => ?_)
  fin_cases a <;> exact Fin.ext (by simp [LoadRect.idx])

theorem band_inb (i : grid0.Coords) (p : Fin 8) :
    ∀ a, (![0, k0_off1 i 1, 128 * (p : ℕ)] : Fin 3 → ℕ) a + S1x512x128.size a ≤ S1x2048x1024.size a := fun a => by
  have h := k0_off1_inb i
  fin_cases a
  · exact h 0
  · exact h 1
  · show 128 * (p : ℕ) + 128 ≤ 1024
    omega

def pairBand (x : FVec Ideal S1x2048x1024 .bf16) (i : grid0.Coords) (p : Fin 8) : FVec Ideal S1x512x128 .bf16 :=
  fun y => x ((Rect.unit (s := S1x2048x1024) ![0, k0_off1 i 1, 128 * (p : ℕ)] S1x512x128.size (band_inb i p)).idx y)

theorem pairBand_at (x : FVec Ideal S1x2048x1024 .bf16) (i : grid0.Coords) (p : Fin 8) (j : Fin 512) (d : Fin 128) (n : Fin 2048)
    (hn : k0_off1 i 1 + j = n) :
    pairBand x i p (ix3 0 j d) = x (ix3 0 n ⟨128 * (p : ℕ) + d, by omega⟩) := by
  refine congrArg x (funext fun a => ?_)
  fin_cases a <;> exact Fin.ext (by simp [LoadRect.idx, hn])

theorem context_inb (p : Fin 8) : ∀ a, (![0, 0, 128 * (p : ℕ)] : Fin 3 → ℕ) a + S1x256x128.size a ≤ S1x256x1024.size a := by
  revert p; decide

def pairContext (x : FVec Ideal S1x256x1024 .bf16) (p : Fin 8) : FVec Ideal S1x256x128 .bf16 :=
  fun y => x ((Rect.unit (s := S1x256x1024) ![0, 0, 128 * (p : ℕ)] S1x256x128.size (context_inb p)).idx y)

theorem pairContext_at (x : FVec Ideal S1x256x1024 .bf16) (p : Fin 8) (j : Fin 256) (d : Fin 128) :
    pairContext x p (ix3 0 j d) = x (ix3 0 j ⟨128 * (p : ℕ) + d, by omega⟩) := by
  refine congrArg x (funext fun a => ?_)
  fin_cases a <;> exact Fin.ext (by simp [LoadRect.idx])

theorem biases_inb (p : Fin 8) :
    ∀ a, (![0, (p : ℕ), 0, 0] : Fin 4 → ℕ) a + S1x1x128x512.size a ≤ S1x8x128x512.size a := by
  revert p; decide

def pairBiases (x : FVec Ideal S1x8x128x512 .f32) (p : Fin 8) : FVec Ideal S1x1x128x512 .f32 :=
  fun y => x ((Rect.unit (s := S1x8x128x512) ![0, (p : ℕ), 0, 0] S1x1x128x512.size (biases_inb p)).idx y)

theorem pairBiases_at (x : FVec Ideal S1x8x128x512 .f32) (p : Fin 8) (a : Fin 128) (j : Fin 512) :
    pairBiases x p (ix4 0 0 a j) = x (ix4 0 p a j) := by
  refine congrArg x (funext fun b => ?_)
  fin_cases b <;> exact Fin.ext (by simp [LoadRect.idx])

/-- The block of a grid point. -/
theorem block (c : Dev nD) (t : Fin cfg0.N) : outsAt0 m c t = sideBySide fun p =>
    pair (pairQueries (iblk m c 0 t) p) (pairBand (iblk m c 1 t) (grid0.coords t) p) (pairBiases (iblk m c 5 t) p)
      (pairContext (iblk m c 3 t) p) (pairBand (iblk m c 2 t) (grid0.coords t) p) (pairContext (iblk m c 4 t) p) := by
  unfold outsAt0
  frame_open
  rw [View.read_writes_junk_eq_canon, View.canon_cons_unit_lit' _ _ _ (by decide)]
  refine (stored_eq (pairQueries ((ms0_0 t).view.read (Elt Ideal) ((hs0_0 t).unread (iblk m c 0 t))))
    (pairBand ((ms0_1 t).view.read (Elt Ideal) ((hs0_1 t).unread (iblk m c 1 t))) (grid0.coords t))
    (pairBiases ((ms0_5 t).view.read (Elt Ideal) ((hs0_5 t).unread (iblk m c 5 t))))
    (pairContext ((ms0_3 t).view.read (Elt Ideal) ((hs0_3 t).unread (iblk m c 3 t))))
    (pairBand ((ms0_2 t).view.read (Elt Ideal) ((hs0_2 t).unread (iblk m c 2 t))) (grid0.coords t))
    (pairContext ((ms0_4 t).view.read (Elt Ideal) ((hs0_4 t).unread (iblk m c 4 t))))).trans ?_
  simp only [Memref.IsWhole.read_unread]

/-! ## What is loaded, by the arguments -/

theorem queries_read (c : Dev nD) (t : Fin cfg0.N) (p : Fin 8) (q : Fin 64) (d : Fin 128) :
    pairQueries (iblk m c 0 t) p (ix3 0 q d) = m ((c : Thread nD τ).loc main_arg0)
      (ix3 ⟨t.val / 32, samples t⟩ ⟨row t * 64 + q, by omega⟩ ⟨128 * (p : ℕ) + d, by omega⟩) := by
  rw [pairQueries_at]
  unfold row
  blk_point [iblk, V, idx t]

theorem keys_read (c : Dev nD) (t : Fin cfg0.N) (p : Fin 8) (j : Fin 512) (d : Fin 128) :
    pairBand (iblk m c 1 t) (grid0.coords t) p (ix3 0 j d) = m ((c : Thread nD τ).loc main_arg0)
      (ix3 ⟨t.val / 32, samples t⟩ ⟨Neighbourhood.start (row t) * 64 + j, Neighbourhood.key_lt (row t) j⟩
        ⟨1024 + (128 * (p : ℕ) + d), by omega⟩) := by
  rw [pairBand_at _ _ _ _ _ ⟨Neighbourhood.start (row t) * 64 + j, Neighbourhood.key_lt (row t) j⟩
    (congrArg (· + (j : ℕ)) (offset_eq t))]
  blk_point [iblk, V, idx t]

theorem values_read (c : Dev nD) (t : Fin cfg0.N) (p : Fin 8) (j : Fin 512) (d : Fin 128) :
    pairBand (iblk m c 2 t) (grid0.coords t) p (ix3 0 j d) = m ((c : Thread nD τ).loc main_arg0)
      (ix3 ⟨t.val / 32, samples t⟩ ⟨Neighbourhood.start (row t) * 64 + j, Neighbourhood.key_lt (row t) j⟩
        ⟨2048 + (128 * (p : ℕ) + d), by omega⟩) := by
  rw [pairBand_at _ _ _ _ _ ⟨Neighbourhood.start (row t) * 64 + j, Neighbourhood.key_lt (row t) j⟩
    (congrArg (· + (j : ℕ)) (offset_eq t))]
  blk_point [iblk, V, idx t]

theorem contextKeys_read (c : Dev nD) (t : Fin cfg0.N) (p : Fin 8) (j : Fin 256) (d : Fin 128) :
    pairContext (iblk m c 3 t) p (ix3 0 j d) = m ((c : Thread nD τ).loc main_arg1)
      (ix3 ⟨t.val / 32, samples t⟩ j ⟨1024 + (128 * (p : ℕ) + d), by omega⟩) := by
  rw [pairContext_at]
  blk_point [iblk, V, idx t]

theorem contextValues_read (c : Dev nD) (t : Fin cfg0.N) (p : Fin 8) (j : Fin 256) (d : Fin 128) :
    pairContext (iblk m c 4 t) p (ix3 0 j d) = m ((c : Thread nD τ).loc main_arg1)
      (ix3 ⟨t.val / 32, samples t⟩ j ⟨2048 + (128 * (p : ℕ) + d), by omega⟩) := by
  rw [pairContext_at]
  blk_point [iblk, V, idx t]

theorem biases_read (c : Dev nD) (t : Fin cfg0.N) (p : Fin 8) (a : Fin 128) (j : Fin 512) :
    pairBiases (iblk m c 5 t) p (ix4 0 0 a j)
      = if Neighbourhood.InWindow ⟨a % 64, Nat.mod_lt _ (by decide)⟩ ⟨j % 64, Nat.mod_lt _ (by decide)⟩ then
          m ((c : Thread nD τ).loc main_arg2) (ix3 ⟨2 * (p : ℕ) + a / 64, by omega⟩
            (Neighbourhood.down (Neighbourhood.place (row t)) ⟨j / 64, by omega⟩)
            (Neighbourhood.across ⟨a % 64, Nat.mod_lt _ (by decide)⟩ ⟨j % 64, Nat.mod_lt _ (by decide)⟩))
        else Attention.lowest := by
  refine Eq.trans ?_ ((congrFun (rows_eq m c) (ix4 (Neighbourhood.place (row t)) p a j)).trans (rows_at _ _ p a j))
  rw [pairBiases_at]
  unfold Neighbourhood.place
  blk_simp [iblk]
  exact congrArg (V m c main_v55) (by blk_ext [idx t])

/-- One entry of a grid point's block is the reference's entry at the block's place in the array. -/
theorem point (c : Dev nD) (hx : ∀ (b : Fin 16) (s : Fin 2048) (n : Fin 2048),
      Attention.IsReal (m ((c : Thread nD τ).loc main_arg0) (ix3 b s ⟨n, by omega⟩)))
    (hu : ∀ (b : Fin 16) (j : Fin 256) (n : Fin 1024),
      Attention.IsReal (m ((c : Thread nD τ).loc main_arg1) (ix3 b j ⟨1024 + n, by omega⟩)))
    (hb : ∀ i, Attention.IsReal (m ((c : Thread nD τ).loc main_arg2) i)) (t : Fin cfg0.N) (y : S1x64x1024.Idx) :
    outsAt0 m c t y = result (m ((c : Thread nD τ).loc main_arg0)) (m ((c : Thread nD τ).loc main_arg1))
      (m ((c : Thread nD τ).loc main_arg2)) (((cfg0.win 6).blk t).view.emb y) := by
  idx_vars y
  have ht : t.val < 512 := lt_of_lt_of_eq t.isLt N_0
  obtain rfl : y0 = 0 := Fin.ext (by omega)
  have he : ((cfg0.win 6).blk t).view.emb (ix3 0 y1 y2)
      = ix3 ⟨t.val / 32, samples t⟩ ⟨row t * 64 + y1, by omega⟩ y2 := by
    unfold row
    blk_ext [idx t]
  rw [he, result_at _ _ _ ⟨t.val / 32, samples t⟩ ⟨row t * 64 + y1, by omega⟩ y2 (row t) y1 ⟨y2 / 64, by omega⟩
    ⟨y2 % 64, by omega⟩ (by simp only; omega) (by simp only; omega) rfl rfl, block, sideBySide_at]
  have hcol : ∀ d : Fin 64, 128 * ((y2 : ℕ) / 128) + ((y2 : ℕ) % 128 / 64 * 64 + d) = (y2 : ℕ) / 64 * 64 + d :=
    fun d => by omega
  have hq : ∀ d : Fin 64, pairQueries (iblk m c 0 t) ⟨y2 / 128, by omega⟩
      (ix3 0 y1 ⟨(y2 : ℕ) % 128 / 64 * 64 + d, by omega⟩) = m ((c : Thread nD τ).loc main_arg0)
        (ix3 ⟨t.val / 32, samples t⟩ ⟨row t * 64 + y1, by omega⟩ ⟨(y2 : ℕ) / 64 * 64 + d, by omega⟩) :=
    fun d => (queries_read m c t _ y1 _).trans (congrArg _ (congrArg (ix3 _ _) (Fin.ext (hcol d))))
  have hk : ∀ (j : Fin 512) (d : Fin 64), pairBand (iblk m c 1 t) (grid0.coords t) ⟨y2 / 128, by omega⟩
      (ix3 0 j ⟨(y2 : ℕ) % 128 / 64 * 64 + d, by omega⟩) = m ((c : Thread nD τ).loc main_arg0)
        (ix3 ⟨t.val / 32, samples t⟩ ⟨Neighbourhood.start (row t) * 64 + j, Neighbourhood.key_lt (row t) j⟩
          ⟨1024 + ((y2 : ℕ) / 64 * 64 + d), by omega⟩) :=
    fun j d => (keys_read m c t _ j _).trans
      (congrArg _ (congrArg (ix3 _ _) (Fin.ext (congrArg (1024 + ·) (hcol d)))))
  have hl : ∀ (j : Fin 256) (d : Fin 64), pairContext (iblk m c 3 t) ⟨y2 / 128, by omega⟩
      (ix3 0 j ⟨(y2 : ℕ) % 128 / 64 * 64 + d, by omega⟩) = m ((c : Thread nD τ).loc main_arg1)
        (ix3 ⟨t.val / 32, samples t⟩ j ⟨1024 + ((y2 : ℕ) / 64 * 64 + d), by omega⟩) :=
    fun j d => (contextKeys_read m c t _ j _).trans
      (congrArg _ (congrArg (ix3 _ _) (Fin.ext (congrArg (1024 + ·) (hcol d)))))
  have hv : ∀ j : Fin 512, pairBand (iblk m c 2 t) (grid0.coords t) ⟨y2 / 128, by omega⟩
      (ix3 0 j ⟨(y2 : ℕ) % 128, by omega⟩) = m ((c : Thread nD τ).loc main_arg0)
        (ix3 ⟨t.val / 32, samples t⟩ ⟨Neighbourhood.start (row t) * 64 + j, Neighbourhood.key_lt (row t) j⟩
          ⟨2048 + ((y2 : ℕ) / 64 * 64 + (y2 : ℕ) % 64), by omega⟩) :=
    fun j => (values_read m c t _ j _).trans (congrArg _ (congrArg (ix3 _ _) (Fin.ext (by simp only; omega))))
  have hw : ∀ j : Fin 256, pairContext (iblk m c 4 t) ⟨y2 / 128, by omega⟩
      (ix3 0 j ⟨(y2 : ℕ) % 128, by omega⟩) = m ((c : Thread nD τ).loc main_arg1)
        (ix3 ⟨t.val / 32, samples t⟩ j ⟨2048 + ((y2 : ℕ) / 64 * 64 + (y2 : ℕ) % 64), by omega⟩) :=
    fun j => (contextValues_read m c t _ j _).trans (congrArg _ (congrArg (ix3 _ _) (Fin.ext (by simp only; omega))))
  have hy : (⟨((y2 : ℕ) % 128 / 64 * 64 + y1) % 64, Nat.mod_lt _ (by decide)⟩ : Fin 64) = y1 := Fin.ext (by simp only; omega)
  have hh : (⟨2 * ((y2 : ℕ) / 128) + ((y2 : ℕ) % 128 / 64 * 64 + y1) / 64, by omega⟩ : Fin 16) = ⟨(y2 : ℕ) / 64, by omega⟩ :=
    Fin.ext (by simp only; omega)
  have ha : ∀ j : Fin 512, pairBiases (iblk m c 5 t) ⟨y2 / 128, by omega⟩
      (ix4 0 0 ⟨(y2 : ℕ) % 128 / 64 * 64 + y1, by omega⟩ j)
        = if Neighbourhood.InWindow y1 ⟨j % 64, Nat.mod_lt _ (by decide)⟩ then
            m ((c : Thread nD τ).loc main_arg2) (ix3 ⟨(y2 : ℕ) / 64, by omega⟩
              (Neighbourhood.down (Neighbourhood.place (row t)) ⟨j / 64, by omega⟩)
              (Neighbourhood.across y1 ⟨j % 64, Nat.mod_lt _ (by decide)⟩))
          else Attention.lowest := fun j => by
    rw [biases_read]
    simp only [hy, hh]
  rw [pair_at _ _ _ _ _ _ y1 ⟨(y2 : ℕ) % 128, by omega⟩ ⟨(y2 : ℕ) % 128 / 64, by omega⟩ rfl]
  simp only [hq, hk, hl, hv, hw, ha]
  exact Neighbourhood.head_eq _ _ _ (fun j : Fin 512 => Neighbourhood.InWindow y1 ⟨j % 64, Nat.mod_lt _ (by decide)⟩) _ _ _
    (fun d => hx _ _ ⟨(y2 : ℕ) / 64 * 64 + d, by omega⟩) (fun _ d => hx _ _ ⟨1024 + ((y2 : ℕ) / 64 * 64 + d), by omega⟩)
    (fun _ d => hu _ _ ⟨(y2 : ℕ) / 64 * 64 + d, by omega⟩) fun _ => hb _

/-- The result array after the run is the reference's. -/
theorem final (c : Dev nD) (hx : ∀ (b : Fin 16) (s : Fin 2048) (n : Fin 2048),
      Attention.IsReal (m ((c : Thread nD τ).loc main_arg0) (ix3 b s ⟨n, by omega⟩)))
    (hu : ∀ (b : Fin 16) (j : Fin 256) (n : Fin 1024),
      Attention.IsReal (m ((c : Thread nD τ).loc main_arg1) (ix3 b j ⟨1024 + n, by omega⟩)))
    (hb : ∀ i, Attention.IsReal (m ((c : Thread nD τ).loc main_arg2) i)) : (dats m 0 c).arrAt 6 (cfgs 0).N
      = result (m ((c : Thread nD τ).loc main_arg0)) (m ((c : Thread nD τ).loc main_arg1))
          (m ((c : Thread nD τ).loc main_arg2)) := by
  refine (dats m 0 c).arrAt_eq_of_covers 6 _ (by decide +kernel) fun t hf y => ?_
  blk_simp
  rw [after0_6]
  exact point m c hx hu hb t y

end Cert.NbrIdeal.Value

end
-- ==== Proof.Nbr.Claims.lean ====
/- What is claimed of the neighbourhood attention: the frames of its kernel, of the kernel's idealization and of its
   reference, that the idealization's named constants are the numbers the certificate names, and the equality of the two
   results over the ideal numbers where the queries, the keys and the biases are real numbers. -/
module

public import proofs.«01_k».proof.Defs
public import proofs.«01_k».proof.Proof.Gen.Nbr.Frame
public import proofs.«01_k».proof.Proof.Nbr.Value
public import proofs.«01_k».proof.Proof.Gen.NbrRefIdeal.Run
public import proofs.«01_k».proof.Proof.Gen.Pre_finite_scores
public import Idealize.ShloMosaic.Lib.ReduceAll
public import Idealize.ShloMosaic.Lib.Affine
public import Idealize.ShloMosaic.Lib.Claim

@[expose] public section

set_option maxRecDepth 16384

noncomputable section

namespace Cert.Proof

open Idealize.ShloMosaic Idealize.SL.Sem

theorem frame_Nbr : Cert.quiescent_Nbr := fun m ρ _ => Cert.Nbr.Gen.frame m ρ

theorem frame_NbrIdeal : Cert.quiescent_NbrIdeal := fun m ρ _ => Cert.NbrIdeal.Gen.frame m ρ

theorem frame_NbrIdeal_scores : Cert.quiescent_NbrIdeal_pre_finite_scores := fun m ρ _ => Cert.NbrIdeal.Gen.frame m ρ

theorem frame_NbrRefIdeal : Cert.quiescent_NbrRefIdeal := fun m g _ =>
  (θ_run Cert.NbrRefIdeal.defs _ _).mono
    (fun r h => ⟨fun c => (h c).2, Idealize.ShloMosaic.sem_eq_zero_of_no_sems (by decide) r.2⟩)
    (Cert.NbrRefIdeal.Value.run m g)

theorem frame_NbrRefIdeal_scores : Cert.quiescent_NbrRefIdeal_pre_finite_scores := fun m g _ =>
  frame_NbrRefIdeal m g trivial

theorem preserves_Nbr : Cert.preserves_Nbr_NbrIdeal :=
  ⟨IdealRules.named_const.statement Cert.NbrIdeal.κ "nscale" .f32 0x3E38AA3B#32 _ rfl,
    IdealRules.named_const.statement Cert.NbrIdeal.κ "log2e" .f32 0x3FB8AA3B#32 _ rfl⟩

section
open Cert.Pre_finite_scores

/-- An ideal number whose size is below infinity is real. -/
theorem real_of_size {x : EReal}
    (h : FloatOps.cmpf (F := Ideal) (φ := .f32) .olt (FloatOps.absf (F := Ideal) (φ := .f32) x)
      (Ideal.ofBits .f32 0x7F800000#32) = 1#1) : Attention.IsReal x := by
  have ht : Ideal.ofBits .f32 0x7F800000#32 = (⊤ : EReal) := by simp [Ideal.ofBits, Ideal.ieee]
  refine Attention.isReal_of_ne (fun hx => ?_) (fun hx => ?_) <;>
    · rw [hx, ht] at h
      simp [FloatOps.absf, FloatOps.cmpf, Ideal.cmp] at h

/-- The precondition says that the queries, the keys and the biases are real. -/
theorem scores_real (x : FVec Ideal S16x2048x3072 .bf16) (u : FVec Ideal S16x256x3072 .bf16)
    (b : FVec Ideal S16x15x31 .f32) (h : fn x u b = fun _ => 1#1) :
    (∀ (i : Fin 16) (s n : Fin 2048), Attention.IsReal (x (ix3 i s ⟨n, by omega⟩)))
      ∧ (∀ (i : Fin 16) (j : Fin 256) (n : Fin 1024), Attention.IsReal (u (ix3 i j ⟨1024 + n, by omega⟩)))
      ∧ ∀ i, Attention.IsReal (b i) := by
  have h0 := congrFun h (Shape.Idx.first Gen.h_S_)
  dsimp only [fn] at h0
  obtain ⟨h1, h2⟩ := IntOp.andi_eq_one.1 h0
  obtain ⟨h3, h4⟩ := IntOp.andi_eq_one.1 h1
  refine ⟨fun i s n => ?_, fun i j n => ?_, fun i => real_of_size (Host.reduce_andi_all _ _ _ _ _ h2 i)⟩
  · refine (congrArg (fun k => Attention.IsReal (x k)) ?_).mp
      (real_of_size (Host.reduce_andi_all _ _ _ _ _ h3 (ix3 i s n)))
    funext a
    fin_cases a <;> exact Fin.ext (Nat.zero_add _)
  · refine (congrArg (fun k => Attention.IsReal (u k)) ?_).mp
      (real_of_size (Host.reduce_andi_all _ _ _ _ _ h4 (ix3 i j n)))
    funext a
    fin_cases a
    exacts [Fin.ext (Nat.zero_add _), Fin.ext (Nat.zero_add _), rfl]

end

theorem algebraic_Nbr : Cert.algebraic_NbrIdeal_NbrRefIdeal_pre_finite_scores := by
  pair_intro
  · run_from Cert.NbrIdeal.Gen.run_main m g
    · exact Cert.NbrIdeal.Gen.V_main_arg2 m c
  · run_from Cert.NbrRefIdeal.Value.run m' g'
    obtain ⟨h0, h1, h2⟩ := hagree c
    obtain ⟨hx, hu, hb⟩ := scores_real _ _ _ (hpre c)
    refine Eq.trans ?_ (Cert.NbrIdeal.Value.final m c hx hu hb).symm
    rw [← h0, ← h1, ← h2]
    rfl

end Cert.Proof

end
-- ==== Proof.Mod.Reference.lean ====
/- The modulation's reference, read at an index: a condition's row, gated, against the weight's column, and the bias. The
   samples' sixteen conditions come first and the context's one last. -/
module

public import proofs.«01_k».proof.Proof.Layer
public import proofs.«01_k».proof.Proof.Gen.ModRefIdeal

@[expose] public section

set_option maxRecDepth 16384

noncomputable section

open Idealize.ShloMosaic Idealize.ShloMosaic.TcCoe Idealize.SL.Sem

namespace Cert.ModRefIdeal.Spec

open Cert.ModRefIdeal Cert.ModRefIdeal.Gen

/-- The samples' conditions, gated. -/
def samples (x : FVec Ideal S16x1024 .f32) : FVec Ideal S16x1024 .f32 :=
  mulf x (Host.divf (broadcastInDim S16x1024 ![] bcast_S_S16x1024 (constant S_ .f32 0x3F800000#32))
    (addf (broadcastInDim S16x1024 ![] bcast_S_S16x1024 (constant S_ .f32 0x3F800000#32)) (Host.exp (Host.negf x))))

/-- The context's condition, gated. -/
def context (x : FVec Ideal S1024 .f32) : FVec Ideal S1024 .f32 :=
  mulf x (Host.divf (broadcastInDim S1024 ![] bcast_S_S1024 (constant S_ .f32 0x3F800000#32))
    (addf (broadcastInDim S1024 ![] bcast_S_S1024 (constant S_ .f32 0x3F800000#32)) (Host.exp (Host.negf x))))

/-- All the conditions, gated: the samples' rows and then the context's. -/
def gated (x : FVec Ideal S16x1024 .f32) (y : FVec Ideal S1024 .f32) (j : Fin 17) (k : Fin 1024) : EReal :=
  if h : (j : ℕ) < 16 then samples x (ix2 ⟨j, h⟩ k) else context y (ix1 k)

/-- The reference's result. -/
def result (x : FVec Ideal S16x1024 .f32) (y : FVec Ideal S1024 .f32) (w : FVec Ideal S1024x6144 .f32)
    (b : FVec Ideal S6144 .f32) : FVec Ideal S17x6144 .f32 :=
  concatenate S17x6144 0
    [⟨S16x6144, addf (Host.dotGeneral dot_S16x1024_S1024x6144_S16x6144_1_0_0_1_n_n none (samples x) w)
      (broadcastInDim S16x6144 ![0, 1] bcast_S1x6144_S16x6144_0_1 (broadcastInDim S1x6144 ![1] bcast_S6144_S1x6144_1 b))⟩,
     ⟨S1x6144, broadcastInDim S1x6144 ![1] bcast_S6144_S1x6144_1
      (addf (Host.dotGeneral dot_S1024_S1024x6144_S6144_0_0_n_1_n_n none (context y) w) b)⟩]
    concatenates_S16x6144_S1x6144_S17x6144_d0

/-- The result at an index. -/
theorem result_at (x : FVec Ideal S16x1024 .f32) (y : FVec Ideal S1024 .f32) (w : FVec Ideal S1024x6144 .f32)
    (b : FVec Ideal S6144 .f32) (j : Fin 17) (n : Fin 6144) :
    result x y w b (ix2 j n) = Layer.dot (gated x y j) (fun k => w (ix2 k n)) + b (ix1 n) := by
  by_cases h : (j : ℕ) < 16
  · pointwise [result, gated, Layer.dot, h]
  · pointwise [result, gated, Layer.dot, h]

end Cert.ModRefIdeal.Spec

end
-- ==== Proof.Mod.Value.lean ====
/- The modulation's result array is its reference's: each grid point's block is 1024 columns of every condition's row, and
   the blocks tile the array. -/
module

public import proofs.«01_k».proof.Proof.Mod.Reference
public import proofs.«01_k».proof.Proof.Gen.ModIdeal.Frame
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.ModIdeal.Value

open Cert.ModIdeal Cert.ModIdeal.Gen
open Cert.ModRefIdeal.Spec (samples context gated result result_at)

/-- What the body leaves in its output block: a row's product with the weight's column, and the bias. -/
theorem block_at (x : FVec Ideal S17x1024 .f32) (w : FVec Ideal S1024x1024 .f32) (b : FVec Ideal S1x1024 .f32) (j : Fin 17)
    (n : Fin 1024) : out0_3 (F := Ideal) x w b (ix2 j n)
      = Layer.dot (fun k => x (ix2 j k)) (fun k => w (ix2 k n)) + b (ix2 0 n) := by
  generalize hy : ix2 j n = y
  canon_tiles i h
  all_goals
    subst hy
    idx_vars i
    obtain rfl : j = i0 := Fin.ext h0
    obtain rfl : n = i1 := Fin.ext h1
    pointwise [k0_pay1, Layer.dot]

variable (m : (ℓ : Loc nD τ sig) → Buf (Elt Ideal) ℓ)

/-- The conditions as the body reads them. -/
theorem conditions_eq (c : Dev nD) : V m c main_v3 = concatenate S17x1024 0
    [⟨S16x1024, samples (m ((c : Thread nD τ).loc main_arg0))⟩,
     ⟨S1x1024, broadcastInDim S1x1024 ![1] bcast_S1024_S1x1024_1 (context (m ((c : Thread nD τ).loc main_arg1)))⟩]
    concatenates_S16x1024_S1x1024_S17x1024_d0 := by
  unfold V
  simp only [hostOps0, hostOps0_1, hostOps0_2, List.flatten_cons, List.flatten_nil, List.append_nil, List.cons_append,
    List.nil_append]
  after_reads_simp
  rfl

/-- The bias as the body reads it is the argument's, as one row. -/
theorem bias_eq (c : Dev nD) : V m c main_v4
    = broadcastInDim S1x6144 ![1] bcast_S6144_S1x6144_1 (m ((c : Thread nD τ).loc main_arg3)) := by
  unfold V
  simp only [hostOps0, hostOps0_1, hostOps0_2, List.flatten_cons, List.flatten_nil, List.append_nil, List.cons_append,
    List.nil_append]
  after_reads_simp

/-- Every window's block at grid point `t`. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The block of the conditions, entry by entry. -/
theorem conditions_at (c : Dev nD) (t : Fin cfg0.N) (j : Fin 17) (k : Fin 1024) : iblk m c 0 t (ix2 j k)
    = gated (m ((c : Thread nD τ).loc main_arg0)) (m ((c : Thread nD τ).loc main_arg1)) j k := by
  refine Eq.trans (b := V m c main_v3 (ix2 j k)) (congrArg (V m c main_v3) (by blk_ext [idx t])) ?_
  rw [conditions_eq]
  pointwise [gated]

/-- A block of the bias, entry by entry. -/
theorem bias_at (c : Dev nD) (t : Fin cfg0.N) (r : Fin 1024) (n : Fin 6144) (hn : (n : ℕ) = t.val * 1024 + r) :
    iblk m c 2 t (ix2 0 r) = m ((c : Thread nD τ).loc main_arg3) (ix1 n) := by
  refine Eq.trans (b := V m c main_v4 (ix2 0 n)) (congrArg (V m c main_v4) (by blk_ext [idx t])) ?_
  rw [bias_eq]
  pointwise

/-- A block of the weight, entry by entry. -/
theorem weight_at (c : Dev nD) (t : Fin cfg0.N) (k r : Fin 1024) (n : Fin 6144) (hn : (n : ℕ) = t.val * 1024 + r) :
    iblk m c 1 t (ix2 k r) = m ((c : Thread nD τ).loc main_arg2) (ix2 k n) := by
  refine Eq.trans (b := V m c main_arg2 (ix2 k n)) (congrArg (V m c main_arg2) (by blk_ext [idx t])) ?_
  exact congrFun (V_main_arg2 m c) _

/-- One entry of a grid point's block is the reference's entry at the block's place in the array. -/
theorem point (c : Dev nD) (t : Fin cfg0.N) (y : S17x1024.Idx) :
    out0_3 (iblk m c 0 t) (iblk m c 1 t) (iblk m c 2 t) y
      = result (m ((c : Thread nD τ).loc main_arg0)) (m ((c : Thread nD τ).loc main_arg1))
          (m ((c : Thread nD τ).loc main_arg2)) (m ((c : Thread nD τ).loc main_arg3))
          (((cfg0.win 3).blk t).view.emb y) := by
  idx_vars y
  have ht : t.val < 6 := lt_of_lt_of_eq t.isLt N_0
  obtain_idx j : S17x6144 := [(y0 : ℕ), t.val * 1024 + (y1 : ℕ)] with hj
  have he : ((cfg0.win 3).blk t).view.emb (ix2 y0 y1) = j := by blk_ext [idx t]
  rw [he]
  idx_vars j
  obtain rfl : j0 = y0 := Fin.ext hj0
  rw [result_at]
  refine (block_at _ _ _ j0 y1).trans (congrArg₂ (· + ·) ?_ (bias_at m c t y1 j1 hj1))
  exact congrArg₂ Layer.dot (funext fun k => conditions_at m c t j0 k) (funext fun k => weight_at m c t k y1 j1 hj1)

/-- The result array after the run is the reference's. -/
theorem final (c : Dev nD) : (dats m 0 c).arrAt 3 (cfgs 0).N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp
  rw [after0_3]
  exact point m c t y

end Cert.ModIdeal.Value

end
-- ==== Proof.Mod.Claims.lean ====
/- What is claimed of the modulation: the frames of its kernel, of the kernel's
   idealization and of its reference, and the equality of the two results over the ideal numbers. -/
module

public import proofs.«01_k».proof.Defs
public import proofs.«01_k».proof.Proof.Gen.Mod.Frame
public import proofs.«01_k».proof.Proof.Mod.Value
public import proofs.«01_k».proof.Proof.Gen.ModRefIdeal.Run
public import Idealize.ShloMosaic.Lib.Claim

@[expose] public section

set_option maxRecDepth 16384

noncomputable section

namespace Cert.Proof

open Idealize.ShloMosaic Idealize.SL.Sem

theorem frame_Mod : Cert.quiescent_Mod := fun m ρ _ => Cert.Mod.Gen.frame m ρ

theorem frame_ModIdeal : Cert.quiescent_ModIdeal := fun m ρ _ => Cert.ModIdeal.Gen.frame m ρ

theorem frame_ModRefIdeal : Cert.quiescent_ModRefIdeal := fun m g _ =>
  (θ_run Cert.ModRefIdeal.defs _ _).mono
    (fun r h => ⟨fun c => (h c).2, Idealize.ShloMosaic.sem_eq_zero_of_no_sems (by decide) r.2⟩)
    (Cert.ModRefIdeal.Value.run m g)

theorem algebraic_Mod : Cert.algebraic_ModIdeal_ModRefIdeal := by
  pair_intro
  · run_from Cert.ModIdeal.Gen.run_main m g
    · exact Cert.ModIdeal.Gen.V_main_arg0 m c
    · exact Cert.ModIdeal.Gen.V_main_arg1 m c
    · exact Cert.ModIdeal.Gen.V_main_arg3 m c
  · run_from Cert.ModRefIdeal.Value.run m' g'
    obtain ⟨h0, h1, h2, h3⟩ := hagree c
    refine Eq.trans ?_ (Cert.ModIdeal.Value.final m c).symm
    rw [← h3]
    rfl

end Cert.Proof

end
-- ==== Proof.Conv.Math.lean ====
/- The centred three-tap convolution along a sequence, entry by entry, and the gate `x / (1 + exp (-x))` in the two forms
   that the programs write. -/
module

public import Idealize.ShloMosaic.Lib.Pipeline.ValueKit

@[expose] public section

noncomputable section

open Idealize.ShloMosaic

namespace Conv

/-- The entry before `s` of a sequence, zero at its start. -/
def before {n : ℕ} (u : Fin n → EReal) (s : Fin n) : EReal :=
  if (s : ℕ) = 0 then 0 else u ⟨s - 1, by omega⟩

/-- The entry after `s` of a sequence, zero at its end. -/
def after {n : ℕ} (u : Fin n → EReal) (s : Fin n) : EReal :=
  if h : (s : ℕ) + 1 < n then u ⟨s + 1, h⟩ else 0

/-- The entries of a sequence with a zero before the first entry and one after the last. -/
def padded {n : ℕ} (u : Fin n → EReal) (j : ℕ) : EReal := if h : 1 ≤ j ∧ j - 1 < n then u ⟨j - 1, h.2⟩ else 0

theorem padded_before {n : ℕ} (u : Fin n → EReal) (s : Fin n) : padded u s = before u s := by
  unfold padded before
  by_cases h : (s : ℕ) = 0
  · simp [h]
  · rw [dif_pos ⟨by omega, by omega⟩, if_neg h]

theorem padded_same {n : ℕ} (u : Fin n → EReal) (s : Fin n) : padded u (1 + s) = u s := by
  unfold padded
  rw [dif_pos ⟨by omega, by omega⟩]
  exact congrArg u (Fin.ext (by simp only; omega))

theorem padded_after {n : ℕ} (u : Fin n → EReal) (s : Fin n) : padded u (2 + s) = after u s := by
  unfold padded after
  by_cases h : (s : ℕ) + 1 < n
  · rw [dif_pos ⟨by omega, by omega⟩, dif_pos h]
    exact congrArg u (Fin.ext (by simp only; omega))
  · rw [dif_neg fun hc => h (by have := hc.2; omega), dif_neg h]

/-- The padding value of the references: the whole number zero. -/
theorem padding_zero : FloatOps.sitofp (F := Ideal) .f32 (0#32 : BitVec 32) = (0 : EReal) := by
  simp [FloatOps.sitofp]

/-- The three taps of a sequence at `s`, and the bias. -/
def filtered {n : ℕ} (u : Fin n → EReal) (w : Fin 3 → EReal) (b : EReal) (s : Fin n) : EReal :=
  before u s * w 0 + u s * w 1 + after u s * w 2 + b

/-- The taps of two sequences that agree entry by entry agree. -/
theorem filtered_congr {n : ℕ} {u u' : Fin n → EReal} {w w' : Fin 3 → EReal} {b b' : EReal} (hu : ∀ s, u s = u' s)
    (hw : ∀ i, w i = w' i) (hb : b = b') (s : Fin n) : filtered u w b s = filtered u' w' b' s := by
  rw [funext hu, funext hw, hb]

/-- The first tap as a body computes it: the sequence rotated by one place, its first entry replaced. -/
theorem before_tap {n : ℕ} (u : Fin n → EReal) (s : Fin n) (w : EReal) (hn : n ≤ 2048) (h : ((s : ℕ) + n - 1) % n < n) :
    Scalar.select (IntOp.cmpi CmpIPredicate.eq (BitVec.ofNat 32 s) 0#32) 0 (u ⟨((s : ℕ) + n - 1) % n, h⟩ * w)
      = before u s * w := by
  unfold before
  by_cases h0 : (s : ℕ) = 0
  · simp [h0, Scalar.select, IntOp.cmpi]
  · have e : ((s : ℕ) + n - 1) % n = s - 1 := by
      rw [show (s : ℕ) + n - 1 = s - 1 + n by omega, Nat.add_mod_right, Nat.mod_eq_of_lt (by omega)]
    have hs : (s : ℕ) % 4294967296 ≠ 0 := by omega
    simp [h0, e, Scalar.select, IntOp.cmpi, ← BitVec.toNat_inj, hs]

/-- The last tap as a body computes it: the sequence rotated back by one place, its last entry replaced. -/
theorem after_tap {n : ℕ} (u : Fin n → EReal) (s : Fin n) (w : EReal) (l : ℕ) (hl : l + 1 = n) (hn : n ≤ 2048)
    (h : ((s : ℕ) + n - l) % n < n) :
    Scalar.select (IntOp.cmpi CmpIPredicate.eq (BitVec.ofNat 32 s) (BitVec.ofNat 32 l)) 0
      (u ⟨((s : ℕ) + n - l) % n, h⟩ * w) = after u s * w := by
  unfold after
  by_cases h1 : (s : ℕ) + 1 < n
  · have e : ((s : ℕ) + n - l) % n = s + 1 := by
      rw [show (s : ℕ) + n - l = s + 1 by omega, Nat.mod_eq_of_lt h1]
    have hs : ¬ (s : ℕ) % 4294967296 = l % 4294967296 := by omega
    simp [h1, e, Scalar.select, IntOp.cmpi, ← BitVec.toNat_inj, hs]
  · have hs : (s : ℕ) = l := by omega
    have hn' : ¬ l + 1 < n := by omega
    simp [hs, hn', Scalar.select, IntOp.cmpi]

/-- The gate `x / (1 + exp (-x))`. -/
def gated (x : EReal) : EReal := Ideal.div x (1 + Ideal.exp (0 - x))

/-- An exponential is not negative. -/
theorem exp_nonneg (x : EReal) : (0 : EReal) ≤ Ideal.exp x := by
  induction x using EReal.rec with
  | bot => exact le_refl _
  | top => exact le_top
  | coe r => exact EReal.coe_nonneg.mpr (Real.exp_nonneg r)

/-- Dividing `x` is multiplying it with the reciprocal: the divisor is at least one. -/
theorem mul_reciprocal (x : EReal) : x * Ideal.div 1 (1 + Ideal.exp (-x)) = gated x := by
  have h : (1 : EReal) + Ideal.exp (-x) ≠ 0 := by
    have h1 : (1 : EReal) ≤ 1 + Ideal.exp (-x) := le_add_of_nonneg_right (exp_nonneg _)
    exact (lt_of_lt_of_le zero_lt_one h1).ne'
  unfold gated
  rw [zero_sub, Ideal.div, Ideal.div, if_neg h, if_neg h, one_mul]

end Conv

end
-- ==== Proof.ConvHyena.Reference.lean ====
/- The reference of the short convolutions on the latents, read at an index: the sum of the three shifted products of the
   padded sequence, and the bias. Hyena's result has the channels first. -/
module

public import proofs.«01_k».proof.Proof.Conv.Math
public import proofs.«01_k».proof.Proof.Gen.ConvHyenaRefIdeal

@[expose] public section

set_option maxRecDepth 16384

noncomputable section

open Idealize.ShloMosaic Idealize.ShloMosaic.TcCoe Idealize.SL.Sem

namespace Cert.ConvHyenaRefIdeal.Spec

open Cert.ConvHyenaRefIdeal Cert.ConvHyenaRefIdeal.Gen

/-- The sequences with a zero before their first entry and one after their last. -/
def padded (x : FVec Ideal S16x2048x3072 .f32) : FVec Ideal S16x2050x3072 .f32 :=
  pad S16x2050x3072 ![0, 1, 0] ![0, 1, 0] ![0, 0, 0] x (sitofp .f32 (constantI S_ 32 0#32))
    pads_S16x2048x3072_S16x2050x3072_000_110_000 h_S_

/-- The convolution of every sequence. -/
def taps (x : FVec Ideal S16x2048x3072 .f32) (w : FVec Ideal S3x3072 .f32) (b : FVec Ideal S3072 .f32) :
    FVec Ideal S16x2048x3072 .f32 :=
  addf (addf (addf (addf (broadcastInDim S16x2048x3072 ![] bcast_S_S16x2048x3072 (constant S_ .f32 0x00000000#32))
    (mulf (extractStridedSlice S16x2048x3072 ![0, 0, 0] (padded x) slices_S16x2050x3072_S16x2048x3072_0_0_0)
      (broadcastInDim S16x2048x3072 ![0, 1, 2] bcast_S1x1x3072_S16x2048x3072_0_1_2 (broadcastInDim S1x1x3072 ![2]
        bcast_S3072_S1x1x3072_2 (shapeCast _ (extractStridedSlice S1x3072 ![0, 0] w slices_S3x3072_S1x3072_0_0)
        shapeCasts_S1x3072_S3072)))))
    (mulf (extractStridedSlice S16x2048x3072 ![0, 1, 0] (padded x) slices_S16x2050x3072_S16x2048x3072_0_1_0)
      (broadcastInDim S16x2048x3072 ![0, 1, 2] bcast_S1x1x3072_S16x2048x3072_0_1_2 (broadcastInDim S1x1x3072 ![2]
        bcast_S3072_S1x1x3072_2 (shapeCast _ (extractStridedSlice S1x3072 ![1, 0] w slices_S3x3072_S1x3072_1_0)
        shapeCasts_S1x3072_S3072)))))
    (mulf (extractStridedSlice S16x2048x3072 ![0, 2, 0] (padded x) slices_S16x2050x3072_S16x2048x3072_0_2_0)
      (broadcastInDim S16x2048x3072 ![0, 1, 2] bcast_S1x1x3072_S16x2048x3072_0_1_2 (broadcastInDim S1x1x3072 ![2]
        bcast_S3072_S1x1x3072_2 (shapeCast _ (extractStridedSlice S1x3072 ![2, 0] w slices_S3x3072_S1x3072_2_0)
        shapeCasts_S1x3072_S3072)))))
    (broadcastInDim S16x2048x3072 ![0, 1, 2] bcast_S1x1x3072_S16x2048x3072_0_1_2 (broadcastInDim S1x1x3072 ![2]
      bcast_S3072_S1x1x3072_2 b))

/-- Hyena's result. -/
def result (x : FVec Ideal S16x2048x3072 .f32) (w : FVec Ideal S3x3072 .f32) (b : FVec Ideal S3072 .f32) :
    FVec Ideal S3072x32768 .f32 :=
  shapeCast _ (transpose S3072x16x2048 [2, 0, 1] (taps x w b) transposes_S16x2048x3072_S3072x16x2048_2_0_1)
    shapeCasts_S3072x16x2048_S3072x32768

/-- The padded sequence at a place. -/
theorem padded_at (x : FVec Ideal S16x2048x3072 .f32) (i : Fin 16) (s : Fin 2050) (ch : Fin 3072) :
    padded x (ix3 i s ch) = Conv.padded (fun s => x (ix3 i s ch)) s := by
  pointwise [padded, Conv.padded]
  rw [Conv.padding_zero]

/-- The convolution at a place. -/
theorem taps_at (x : FVec Ideal S16x2048x3072 .f32) (w : FVec Ideal S3x3072 .f32) (b : FVec Ideal S3072 .f32)
    (i : Fin 16) (s : Fin 2048) (ch : Fin 3072) :
    taps x w b (ix3 i s ch) = Conv.filtered (fun s => x (ix3 i s ch)) (fun k => w (ix2 k ch)) (b (ix1 ch)) s := by
  pointwise [taps, Conv.filtered]
  simp only [padded_at, Conv.padded_before, Conv.padded_same, Conv.padded_after]

/-- Hyena's result at an index. -/
theorem result_at (x : FVec Ideal S16x2048x3072 .f32) (w : FVec Ideal S3x3072 .f32) (b : FVec Ideal S3072 .f32)
    (i : Fin 16) (s : Fin 2048) (ch : Fin 3072) (r : Fin 32768) (hi : (r : ℕ) / 2048 = i) (hs : (r : ℕ) % 2048 = s) :
    result x w b (ix2 ch r) = Conv.filtered (fun s => x (ix3 i s ch)) (fun k => w (ix2 k ch)) (b (ix1 ch)) s := by
  pointwise [result, hi, hs]
  exact taps_at x w b i s ch

end Cert.ConvHyenaRefIdeal.Spec

end
-- ==== Proof.ConvHyena.Kernel.lean ====
/- Hyena's short convolution on the latents, its kernel body read at an index: the three taps of the block's column. -/
module

public import proofs.«01_k».proof.Proof.Conv.Math
public import proofs.«01_k».proof.Proof.Gen.ConvHyenaIdeal.Frame

@[expose] public section

set_option maxRecDepth 16384

noncomputable section

open Idealize.ShloMosaic Idealize.ShloMosaic.TcCoe Idealize.SL.Sem

namespace Cert.ConvHyenaIdeal.Value

open Cert.ConvHyenaIdeal Cert.ConvHyenaIdeal.Gen

/-- The stored block at a channel and a place. -/
theorem taps_at (x : FVec Ideal S1x2048x512 .f32) (w0 w1 w2 b : FVec Ideal S1x512 .f32) (r : Fin 512) (s : Fin 2048) :
    k0_pay1 (F := Ideal) x w0 w1 w2 b (ix2 r s) = Conv.filtered (fun s => x (ix3 0 s r))
      ![w0 (ix2 0 r), w1 (ix2 0 r), w2 (ix2 0 r)] (b (ix2 0 r)) s := by
  pointwise [k0_pay1, Conv.filtered]
  refine congrArg (· + b (ix2 0 r)) (congrArg₂ (· + ·) (congrArg (· + x (ix3 0 s r) * w1 (ix2 0 r)) ?_) ?_)
  · exact Conv.before_tap (fun s => x (ix3 0 s r)) s _ (by decide) _
  · exact Conv.after_tap (fun s => x (ix3 0 s r)) s _ 2047 rfl (by decide) _

end Cert.ConvHyenaIdeal.Value

end
-- ==== Proof.ConvHyena.Value.lean ====
/- Hyena's short convolution on the latents: its kernel's result array is its reference's. Every grid point holds one
   sample and 512 channels, and the blocks tile the array. -/
module

public import proofs.«01_k».proof.Proof.ConvHyena.Reference
public import proofs.«01_k».proof.Proof.ConvHyena.Kernel
public import Idealize.ShloMosaic.Lib.StableHlo.RunRead

@[expose] public section

set_option maxRecDepth 16384

noncomputable section

open Idealize.ShloMosaic Idealize.ShloMosaic.TcCoe Idealize.SL.Sem

namespace Cert.ConvHyenaIdeal.Value

open Cert.ConvHyenaIdeal Cert.ConvHyenaIdeal.Gen
open Cert.ConvHyenaRefIdeal.Spec (result result_at)

variable (m : (ℓ : Loc nD τ sig) → Buf (Elt Ideal) ℓ)

/-- The bias as the body reads it is the argument's, as one row. -/
theorem bias_eq (c : Dev nD) : V m c main_v0
    = shapeCast S1x3072 (m ((c : Thread nD τ).loc main_arg2)) shapeCasts_S3072_S1x3072 := by
  unfold V
  simp only [hostOps0, List.flatten_cons, List.flatten_nil, List.append_nil, List.cons_append, List.nil_append]
  after_reads_simp
  rfl

/-- The body's block at an index. -/
theorem block_at (x : FVec Ideal S1x2048x512 .f32) (w : FVec Ideal S3x512 .f32) (b : FVec Ideal S1x512 .f32) (r : Fin 512)
    (s : Fin 2048) : out0_3 (F := Ideal) x w b (ix2 r s)
      = Conv.filtered (fun s => x (ix3 0 s r)) (fun k => w (ix2 k r)) (b (ix2 0 r)) s := by
  generalize hy : ix2 r s = y
  canon_tiles i h
  all_goals
    subst hy
    idx_vars i
    obtain rfl : r = i0 := Fin.ext h0
    obtain rfl : s = i1 := Fin.ext h1
    refine (taps_at _ _ _ _ _ r s).trans (Conv.filtered_congr ?_ ?_ ?_ s)
    · intro s
      pointwise
    · intro k
      fin_cases k <;> pointwise
    · pointwise

/-- Every window's block at grid point `t`. -/
theorem idx : ∀ t : Fin cfg0.N, win0_0.index t = ![t.val / 6, 0, t.val % 6] ∧ win0_1.index t = ![0, t.val % 6]
    ∧ win0_2.index t = ![0, t.val % 6] ∧ win0_3.index t = ![t.val % 6, t.val / 6] :=
  (by decide +kernel : ∀ t : Fin grid0.N, _)

/-- A block of the bias, entry by entry. -/
theorem bias_at (c : Dev nD) (t : Fin cfg0.N) (r : Fin 512) (j : Fin 3072) (hj : (j : ℕ) = t.val % 6 * 512 + r) :
    iblk m c 2 t (ix2 0 r) = m ((c : Thread nD τ).loc main_arg2) (ix1 j) := by
  refine Eq.trans (b := V m c main_v0 (ix2 0 j)) (congrArg (V m c main_v0) (by blk_ext [idx t])) ?_
  rw [bias_eq]
  pointwise

/-- One entry of a grid point's block is the reference's entry at the block's place in the array. -/
theorem point (c : Dev nD) (t : Fin cfg0.N) (y : S512x2048.Idx) :
    out0_3 (iblk m c 0 t) (iblk m c 1 t) (iblk m c 2 t) y
      = result (m ((c : Thread nD τ).loc main_arg0)) (m ((c : Thread nD τ).loc main_arg1))
          (m ((c : Thread nD τ).loc main_arg2)) (((cfg0.win 3).blk t).view.emb y) := by
  idx_vars y
  have ht : t.val < 96 := lt_of_lt_of_eq t.isLt N_0
  obtain_idx j : S3072x32768 := [t.val % 6 * 512 + (y0 : ℕ), t.val / 6 * 2048 + (y1 : ℕ)] with hj
  have he : ((cfg0.win 3).blk t).view.emb (ix2 y0 y1) = j := by blk_ext [idx t]
  rw [he]
  idx_vars j
  refine (block_at _ _ _ y0 y1).trans (Eq.trans ?_ (result_at _ _ _
    ⟨t.val / 6, by omega⟩ y1 j0 j1 (by simp only; omega) (by omega)).symm)
  refine Conv.filtered_congr ?_ ?_ ?_ _
  · intro s
    blk_point [iblk, V, idx t]
  · intro k
    blk_point [iblk, V, idx t]
  · exact bias_at m c t y0 j0 hj0

/-- The result array after the run is the reference's. -/
theorem final (c : Dev nD) : (dats m 0 c).arrAt 3 (cfgs 0).N
    = result (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  exact point m c t y

end Cert.ConvHyenaIdeal.Value

end
-- ==== Proof.ConvHyena.Claims.lean ====
/- What is claimed of Hyena's short convolution on the latents: the frames of its kernel, of the kernel's
   idealization and of its reference, and the equality of the two results over the ideal numbers. -/
module

public import proofs.«01_k».proof.Defs
public import proofs.«01_k».proof.Proof.Gen.ConvHyena.Frame
public import proofs.«01_k».proof.Proof.ConvHyena.Value
public import proofs.«01_k».proof.Proof.Gen.ConvHyenaRefIdeal.Run
public import Idealize.ShloMosaic.Lib.Claim

@[expose] public section

set_option maxRecDepth 16384

noncomputable section

namespace Cert.Proof

open Idealize.ShloMosaic Idealize.SL.Sem

theorem frame_ConvHyena : Cert.quiescent_ConvHyena := fun m ρ _ => Cert.ConvHyena.Gen.frame m ρ

theorem frame_ConvHyenaIdeal : Cert.quiescent_ConvHyenaIdeal := fun m ρ _ => Cert.ConvHyenaIdeal.Gen.frame m ρ

theorem frame_ConvHyenaRefIdeal : Cert.quiescent_ConvHyenaRefIdeal := fun m g _ =>
  (θ_run Cert.ConvHyenaRefIdeal.defs _ _).mono
    (fun r h => ⟨fun c => (h c).2, Idealize.ShloMosaic.sem_eq_zero_of_no_sems (by decide) r.2⟩)
    (Cert.ConvHyenaRefIdeal.Value.run m g)

theorem algebraic_ConvHyena : Cert.algebraic_ConvHyenaIdeal_ConvHyenaRefIdeal := by
  pair_intro
  · run_from Cert.ConvHyenaIdeal.Gen.run_main m g
  · run_from Cert.ConvHyenaRefIdeal.Value.run m' g'
    exact (Cert.ConvHyenaIdeal.Value.final m c).symm

end Cert.Proof

end
-- ==== Proof.CtxConvHyena.Reference.lean ====
/- The reference of the short convolutions on the context, read at an index: the sum of the three shifted products of the
   padded sequence, and the bias. Hyena's result has the channels first. -/
module

public import proofs.«01_k».proof.Proof.Conv.Math
public import proofs.«01_k».proof.Proof.Gen.CtxConvHyenaRefIdeal

@[expose] public section

set_option maxRecDepth 16384

noncomputable section

open Idealize.ShloMosaic Idealize.ShloMosaic.TcCoe Idealize.SL.Sem

namespace Cert.CtxConvHyenaRefIdeal.Spec

open Cert.CtxConvHyenaRefIdeal Cert.CtxConvHyenaRefIdeal.Gen

/-- The sequences with a zero before their first entry and one after their last. -/
def padded (x : FVec Ideal S16x256x3072 .f32) : FVec Ideal S16x258x3072 .f32 :=
  pad S16x258x3072 ![0, 1, 0] ![0, 1, 0] ![0, 0, 0] x (sitofp .f32 (constantI S_ 32 0#32))
    pads_S16x256x3072_S16x258x3072_000_110_000 h_S_

/-- The convolution of every sequence. -/
def taps (x : FVec Ideal S16x256x3072 .f32) (w : FVec Ideal S3x3072 .f32) (b : FVec Ideal S3072 .f32) :
    FVec Ideal S16x256x3072 .f32 :=
  addf (addf (addf (addf (broadcastInDim S16x256x3072 ![] bcast_S_S16x256x3072 (constant S_ .f32 0x00000000#32))
    (mulf (extractStridedSlice S16x256x3072 ![0, 0, 0] (padded x) slices_S16x258x3072_S16x256x3072_0_0_0)
      (broadcastInDim S16x256x3072 ![0, 1, 2] bcast_S1x1x3072_S16x256x3072_0_1_2 (broadcastInDim S1x1x3072 ![2]
        bcast_S3072_S1x1x3072_2 (shapeCast _ (extractStridedSlice S1x3072 ![0, 0] w slices_S3x3072_S1x3072_0_0)
        shapeCasts_S1x3072_S3072)))))
    (mulf (extractStridedSlice S16x256x3072 ![0, 1, 0] (padded x) slices_S16x258x3072_S16x256x3072_0_1_0)
      (broadcastInDim S16x256x3072 ![0, 1, 2] bcast_S1x1x3072_S16x256x3072_0_1_2 (broadcastInDim S1x1x3072 ![2]
        bcast_S3072_S1x1x3072_2 (shapeCast _ (extractStridedSlice S1x3072 ![1, 0] w slices_S3x3072_S1x3072_1_0)
        shapeCasts_S1x3072_S3072)))))
    (mulf (extractStridedSlice S16x256x3072 ![0, 2, 0] (padded x) slices_S16x258x3072_S16x256x3072_0_2_0)
      (broadcastInDim S16x256x3072 ![0, 1, 2] bcast_S1x1x3072_S16x256x3072_0_1_2 (broadcastInDim S1x1x3072 ![2]
        bcast_S3072_S1x1x3072_2 (shapeCast _ (extractStridedSlice S1x3072 ![2, 0] w slices_S3x3072_S1x3072_2_0)
        shapeCasts_S1x3072_S3072)))))
    (broadcastInDim S16x256x3072 ![0, 1, 2] bcast_S1x1x3072_S16x256x3072_0_1_2 (broadcastInDim S1x1x3072 ![2]
      bcast_S3072_S1x1x3072_2 b))

/-- Hyena's result. -/
def result (x : FVec Ideal S16x256x3072 .f32) (w : FVec Ideal S3x3072 .f32) (b : FVec Ideal S3072 .f32) :
    FVec Ideal S3072x4096 .f32 :=
  shapeCast _ (transpose S3072x16x256 [2, 0, 1] (taps x w b) transposes_S16x256x3072_S3072x16x256_2_0_1)
    shapeCasts_S3072x16x256_S3072x4096

/-- The padded sequence at a place. -/
theorem padded_at (x : FVec Ideal S16x256x3072 .f32) (i : Fin 16) (s : Fin 258) (ch : Fin 3072) :
    padded x (ix3 i s ch) = Conv.padded (fun s => x (ix3 i s ch)) s := by
  pointwise [padded, Conv.padded]
  rw [Conv.padding_zero]

/-- The convolution at a place. -/
theorem taps_at (x : FVec Ideal S16x256x3072 .f32) (w : FVec Ideal S3x3072 .f32) (b : FVec Ideal S3072 .f32)
    (i : Fin 16) (s : Fin 256) (ch : Fin 3072) :
    taps x w b (ix3 i s ch) = Conv.filtered (fun s => x (ix3 i s ch)) (fun k => w (ix2 k ch)) (b (ix1 ch)) s := by
  pointwise [taps, Conv.filtered]
  simp only [padded_at, Conv.padded_before, Conv.padded_same, Conv.padded_after]

/-- Hyena's result at an index. -/
theorem result_at (x : FVec Ideal S16x256x3072 .f32) (w : FVec Ideal S3x3072 .f32) (b : FVec Ideal S3072 .f32)
    (i : Fin 16) (s : Fin 256) (ch : Fin 3072) (r : Fin 4096) (hi : (r : ℕ) / 256 = i) (hs : (r : ℕ) % 256 = s) :
    result x w b (ix2 ch r) = Conv.filtered (fun s => x (ix3 i s ch)) (fun k => w (ix2 k ch)) (b (ix1 ch)) s := by
  pointwise [result, hi, hs]
  exact taps_at x w b i s ch

end Cert.CtxConvHyenaRefIdeal.Spec

end
-- ==== Proof.CtxConvHyena.Kernel.lean ====
/- Hyena's short convolution on the context, its kernel body read at an index: the three taps of the block's column. -/
module

public import proofs.«01_k».proof.Proof.Conv.Math
public import proofs.«01_k».proof.Proof.Gen.CtxConvHyenaIdeal.Frame

@[expose] public section

set_option maxRecDepth 16384

noncomputable section

open Idealize.ShloMosaic Idealize.ShloMosaic.TcCoe Idealize.SL.Sem

namespace Cert.CtxConvHyenaIdeal.Value

open Cert.CtxConvHyenaIdeal Cert.CtxConvHyenaIdeal.Gen

/-- The stored block at a channel and a place. -/
theorem taps_at (x : FVec Ideal S1x256x512 .f32) (w0 w1 w2 b : FVec Ideal S1x512 .f32) (r : Fin 512) (s : Fin 256) :
    k0_pay1 (F := Ideal) x w0 w1 w2 b (ix2 r s) = Conv.filtered (fun s => x (ix3 0 s r))
      ![w0 (ix2 0 r), w1 (ix2 0 r), w2 (ix2 0 r)] (b (ix2 0 r)) s := by
  pointwise [k0_pay1, Conv.filtered]
  refine congrArg (· + b (ix2 0 r)) (congrArg₂ (· + ·) (congrArg (· + x (ix3 0 s r) * w1 (ix2 0 r)) ?_) ?_)
  · exact Conv.before_tap (fun s => x (ix3 0 s r)) s _ (by decide) _
  · exact Conv.after_tap (fun s => x (ix3 0 s r)) s _ 255 rfl (by decide) _

end Cert.CtxConvHyenaIdeal.Value

end
-- ==== Proof.CtxConvHyena.Value.lean ====
/- Hyena's short convolution on the context: its kernel's result array is its reference's. Every grid point holds one
   sample and 512 channels, and the blocks tile the array. -/
module

public import proofs.«01_k».proof.Proof.CtxConvHyena.Reference
public import proofs.«01_k».proof.Proof.CtxConvHyena.Kernel
public import Idealize.ShloMosaic.Lib.StableHlo.RunRead

@[expose] public section

set_option maxRecDepth 16384

noncomputable section

open Idealize.ShloMosaic Idealize.ShloMosaic.TcCoe Idealize.SL.Sem

namespace Cert.CtxConvHyenaIdeal.Value

open Cert.CtxConvHyenaIdeal Cert.CtxConvHyenaIdeal.Gen
open Cert.CtxConvHyenaRefIdeal.Spec (result result_at)

variable (m : (ℓ : Loc nD τ sig) → Buf (Elt Ideal) ℓ)

/-- The bias as the body reads it is the argument's, as one row. -/
theorem bias_eq (c : Dev nD) : V m c main_v0
    = shapeCast S1x3072 (m ((c : Thread nD τ).loc main_arg2)) shapeCasts_S3072_S1x3072 := by
  unfold V
  simp only [hostOps0, List.flatten_cons, List.flatten_nil, List.append_nil, List.cons_append, List.nil_append]
  after_reads_simp
  rfl

/-- The body's block at an index. -/
theorem block_at (x : FVec Ideal S1x256x512 .f32) (w : FVec Ideal S3x512 .f32) (b : FVec Ideal S1x512 .f32) (r : Fin 512)
    (s : Fin 256) : out0_3 (F := Ideal) x w b (ix2 r s)
      = Conv.filtered (fun s => x (ix3 0 s r)) (fun k => w (ix2 k r)) (b (ix2 0 r)) s := by
  generalize hy : ix2 r s = y
  canon_tiles i h
  all_goals
    subst hy
    idx_vars i
    obtain rfl : r = i0 := Fin.ext h0
    obtain rfl : s = i1 := Fin.ext h1
    refine (taps_at _ _ _ _ _ r s).trans (Conv.filtered_congr ?_ ?_ ?_ s)
    · intro s
      pointwise
    · intro k
      fin_cases k <;> pointwise
    · pointwise

/-- Every window's block at grid point `t`. -/
theorem idx : ∀ t : Fin cfg0.N, win0_0.index t = ![t.val / 6, 0, t.val % 6] ∧ win0_1.index t = ![0, t.val % 6]
    ∧ win0_2.index t = ![0, t.val % 6] ∧ win0_3.index t = ![t.val % 6, t.val / 6] :=
  (by decide +kernel : ∀ t : Fin grid0.N, _)

/-- A block of the bias, entry by entry. -/
theorem bias_at (c : Dev nD) (t : Fin cfg0.N) (r : Fin 512) (j : Fin 3072) (hj : (j : ℕ) = t.val % 6 * 512 + r) :
    iblk m c 2 t (ix2 0 r) = m ((c : Thread nD τ).loc main_arg2) (ix1 j) := by
  refine Eq.trans (b := V m c main_v0 (ix2 0 j)) (congrArg (V m c main_v0) (by blk_ext [idx t])) ?_
  rw [bias_eq]
  pointwise

/-- One entry of a grid point's block is the reference's entry at the block's place in the array. -/
theorem point (c : Dev nD) (t : Fin cfg0.N) (y : S512x256.Idx) :
    out0_3 (iblk m c 0 t) (iblk m c 1 t) (iblk m c 2 t) y
      = result (m ((c : Thread nD τ).loc main_arg0)) (m ((c : Thread nD τ).loc main_arg1))
          (m ((c : Thread nD τ).loc main_arg2)) (((cfg0.win 3).blk t).view.emb y) := by
  idx_vars y
  have ht : t.val < 96 := lt_of_lt_of_eq t.isLt N_0
  obtain_idx j : S3072x4096 := [t.val % 6 * 512 + (y0 : ℕ), t.val / 6 * 256 + (y1 : ℕ)] with hj
  have he : ((cfg0.win 3).blk t).view.emb (ix2 y0 y1) = j := by blk_ext [idx t]
  rw [he]
  idx_vars j
  refine (block_at _ _ _ y0 y1).trans (Eq.trans ?_ (result_at _ _ _
    ⟨t.val / 6, by omega⟩ y1 j0 j1 (by simp only; omega) (by omega)).symm)
  refine Conv.filtered_congr ?_ ?_ ?_ _
  · intro s
    blk_point [iblk, V, idx t]
  · intro k
    blk_point [iblk, V, idx t]
  · exact bias_at m c t y0 j0 hj0

/-- The result array after the run is the reference's. -/
theorem final (c : Dev nD) : (dats m 0 c).arrAt 3 (cfgs 0).N
    = result (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  exact point m c t y

end Cert.CtxConvHyenaIdeal.Value

end
-- ==== Proof.CtxConvHyena.Claims.lean ====
/- What is claimed of Hyena's short convolution on the context: the frames of its kernel, of the kernel's
   idealization and of its reference, and the equality of the two results over the ideal numbers. -/
module

public import proofs.«01_k».proof.Defs
public import proofs.«01_k».proof.Proof.Gen.CtxConvHyena.Frame
public import proofs.«01_k».proof.Proof.CtxConvHyena.Value
public import proofs.«01_k».proof.Proof.Gen.CtxConvHyenaRefIdeal.Run
public import Idealize.ShloMosaic.Lib.Claim

@[expose] public section

set_option maxRecDepth 16384

noncomputable section

namespace Cert.Proof

open Idealize.ShloMosaic Idealize.SL.Sem

theorem frame_CtxConvHyena : Cert.quiescent_CtxConvHyena := fun m ρ _ => Cert.CtxConvHyena.Gen.frame m ρ

theorem frame_CtxConvHyenaIdeal : Cert.quiescent_CtxConvHyenaIdeal := fun m ρ _ => Cert.CtxConvHyenaIdeal.Gen.frame m ρ

theorem frame_CtxConvHyenaRefIdeal : Cert.quiescent_CtxConvHyenaRefIdeal := fun m g _ =>
  (θ_run Cert.CtxConvHyenaRefIdeal.defs _ _).mono
    (fun r h => ⟨fun c => (h c).2, Idealize.ShloMosaic.sem_eq_zero_of_no_sems (by decide) r.2⟩)
    (Cert.CtxConvHyenaRefIdeal.Value.run m g)

theorem algebraic_CtxConvHyena : Cert.algebraic_CtxConvHyenaIdeal_CtxConvHyenaRefIdeal := by
  pair_intro
  · run_from Cert.CtxConvHyenaIdeal.Gen.run_main m g
  · run_from Cert.CtxConvHyenaRefIdeal.Value.run m' g'
    exact (Cert.CtxConvHyenaIdeal.Value.final m c).symm

end Cert.Proof

end
-- ==== Proof.ConvSsd.Reference.lean ====
/- The SSD mixer's short convolution on the latents, its reference read at an index: the gate of the convolution of the
   channels from 2048 to 5119 of the input. -/
module

public import proofs.«01_k».proof.Proof.ConvHyena.Reference
public import proofs.«01_k».proof.Proof.Gen.ConvSsdRefIdeal

@[expose] public section

set_option maxRecDepth 16384

noncomputable section

open Idealize.ShloMosaic Idealize.ShloMosaic.TcCoe Idealize.SL.Sem

namespace Cert.ConvSsdRefIdeal.Spec

open Cert.ConvSsdRefIdeal Cert.ConvSsdRefIdeal.Gen

/-- The convolution of the channels that the mixer filters. -/
def taps (x : FVec Ideal S16x2048x5184 .f32) (w : FVec Ideal S3x3072 .f32) (b : FVec Ideal S3072 .f32) :
    FVec Ideal S16x2048x3072 .f32 :=
  Cert.ConvHyenaRefIdeal.Spec.taps (extractStridedSlice S16x2048x3072 ![0, 0, 2048] x
    slices_S16x2048x5184_S16x2048x3072_0_0_2048) w b

/-- The convolution at a place. -/
theorem taps_at (x : FVec Ideal S16x2048x5184 .f32) (w : FVec Ideal S3x3072 .f32) (b : FVec Ideal S3072 .f32)
    (i : Fin 16) (s : Fin 2048) (ch : Fin 3072) (ch' : Fin 5184) (h : (ch' : ℕ) = 2048 + ch) :
    taps x w b (ix3 i s ch) = Conv.filtered (fun s => x (ix3 i s ch')) (fun k => w (ix2 k ch)) (b (ix1 ch)) s := by
  refine (Cert.ConvHyenaRefIdeal.Spec.taps_at _ w b i s ch).trans (Conv.filtered_congr (fun s => ?_) (fun _ => rfl) rfl s)
  pointwise
  exact congrArg x (congrArg (ix3 i s) (Fin.ext h.symm))

/-- The result. -/
def result (x : FVec Ideal S16x2048x5184 .f32) (w : FVec Ideal S3x3072 .f32) (b : FVec Ideal S3072 .f32) :
    FVec Ideal S16x2048x3072 .f32 :=
  mulf (taps x w b) (Host.divf (broadcastInDim S16x2048x3072 ![] bcast_S_S16x2048x3072 (constant S_ .f32 0x3F800000#32))
    (addf (broadcastInDim S16x2048x3072 ![] bcast_S_S16x2048x3072 (constant S_ .f32 0x3F800000#32))
      (Host.exp (Host.negf (taps x w b)))))

/-- The result at an index. -/
theorem result_at (x : FVec Ideal S16x2048x5184 .f32) (w : FVec Ideal S3x3072 .f32) (b : FVec Ideal S3072 .f32)
    (i : Fin 16) (s : Fin 2048) (ch : Fin 3072) (ch' : Fin 5184) (h : (ch' : ℕ) = 2048 + ch) :
    result x w b (ix3 i s ch) = Conv.gated (Conv.filtered (fun s => x (ix3 i s ch')) (fun k => w (ix2 k ch))
      (b (ix1 ch)) s) := by
  rw [← taps_at x w b i s ch ch' h, ← Conv.mul_reciprocal]
  pointwise [result]

end Cert.ConvSsdRefIdeal.Spec

end
-- ==== Proof.ConvSsd.Kernel.lean ====
/- The SSD mixer's short convolution on the latents, its kernel body read at an index: the gate of the three taps of the
   block's column. -/
module

public import proofs.«01_k».proof.Proof.Conv.Math
public import proofs.«01_k».proof.Proof.Gen.ConvSsdIdeal.Frame

@[expose] public section

set_option maxRecDepth 16384

noncomputable section

open Idealize.ShloMosaic Idealize.ShloMosaic.TcCoe Idealize.SL.Sem

namespace Cert.ConvSsdIdeal.Value

open Cert.ConvSsdIdeal Cert.ConvSsdIdeal.Gen

/-- What the body stores, at a place and a channel. -/
theorem stored_at (x : FVec Ideal S1x2048x512 .f32) (w0 w1 w2 b : FVec Ideal S1x512 .f32) (r : Fin 512) (s : Fin 2048) :
    k0_pay1 (F := Ideal) (k0_pay2 (F := Ideal) x w0 w1 w2 b) (ix3 0 s r) = Conv.gated (Conv.filtered
      (fun s => x (ix3 0 s r)) ![w0 (ix2 0 r), w1 (ix2 0 r), w2 (ix2 0 r)] (b (ix2 0 r)) s) := by
  have h : ∀ y, y = Conv.filtered (fun s => x (ix3 0 s r)) ![w0 (ix2 0 r), w1 (ix2 0 r), w2 (ix2 0 r)] (b (ix2 0 r)) s →
      Ideal.div y (1 + Ideal.exp (0 - y)) = Conv.gated (Conv.filtered (fun s => x (ix3 0 s r))
        ![w0 (ix2 0 r), w1 (ix2 0 r), w2 (ix2 0 r)] (b (ix2 0 r)) s) := fun y hy => by rw [hy, Conv.gated]
  pointwise [k0_pay1, k0_pay2]
  refine h _ ?_
  pointwise [Conv.filtered]
  refine congrArg (· + b (ix2 0 r)) (congrArg₂ (· + ·) (congrArg (· + x (ix3 0 s r) * w1 (ix2 0 r)) ?_) ?_)
  · exact Conv.before_tap (fun s => x (ix3 0 s r)) s _ (by decide) _
  · exact Conv.after_tap (fun s => x (ix3 0 s r)) s _ 2047 rfl (by decide) _

variable (m : (ℓ : Loc nD τ sig) → Buf (Elt Ideal) ℓ)

/-- Every window's block at grid point `t`. -/
theorem idx : ∀ t : Fin cfg0.N, win0_0.index t = ![t.val / 6, 0, t.val % 6 + 4] ∧ win0_1.index t = ![0, t.val % 6]
    ∧ win0_2.index t = ![0, t.val % 6] ∧ win0_3.index t = ![t.val / 6, 0, t.val % 6] :=
  (by decide +kernel : ∀ t : Fin grid0.N, _)

/-- The block of the sequences, entry by entry. -/
theorem sequences_at (c : Dev nD) (t : Fin cfg0.N) (s : Fin 2048) (r : Fin 512) (i : Fin 16) (ch : Fin 5184)
    (hi : (i : ℕ) = t.val / 6) (hch : (ch : ℕ) = (t.val % 6 + 4) * 512 + r) :
    X0_0 m c t (ix3 0 s r) = m ((c : Thread nD τ).loc main_arg0) (ix3 i s ch) := by
  unfold X0_0 Pipeline.Window.fill
  rw [dif_pos (moved0_0 t _)]
  exact congrArg (V m c main_arg0) (by blk_ext [idx t])

/-- The block of a grid point. -/
theorem block (c : Dev nD) (t : Fin cfg0.N) (s : Fin 2048) (r : Fin 512) : outsAt0 m c t (ix3 0 s r)
    = Conv.gated (Conv.filtered (fun s => X0_0 m c t (ix3 0 s r)) (fun k => iblk m c 1 t (ix2 k r))
        (iblk m c 2 t (ix2 0 r)) s) := by
  unfold outsAt0
  frame_open
  rw [View.read_writes_junk_eq_canon]
  generalize hy : (ix3 0 s r : S1x2048x512.Idx) = y
  canon_tiles i h
  all_goals
    subst hy
    idx_vars i
    obtain rfl : s = i1 := Fin.ext h1
    obtain rfl : r = i2 := Fin.ext h2
    obtain rfl : i0 = 0 := Subsingleton.elim _ _
    refine (stored_at _ _ _ _ _ r s).trans (congrArg Conv.gated (Conv.filtered_congr ?_ ?_ ?_ s))
    · intro s
      refine (congrFun (Memref.IsWhole.read_unread (hs0_0 t) (X0_0 m c t)) _).trans (congrArg (X0_0 m c t) ?_)
      funext a
      fin_cases a <;> exact Fin.ext (by simp [LoadRect.idx])
    · intro k
      fin_cases k
      all_goals
        refine (congrFun (Memref.IsWhole.read_unread (hs0_1 t) (iblk m c 1 t)) _).trans (congrArg (iblk m c 1 t) ?_)
        funext a
        fin_cases a <;> exact Fin.ext (by simp [LoadRect.idx])
    · refine (congrFun (Memref.IsWhole.read_unread (hs0_2 t) (iblk m c 2 t)) _).trans (congrArg (iblk m c 2 t) ?_)
      funext a
      fin_cases a <;> exact Fin.ext (by simp [LoadRect.idx])

end Cert.ConvSsdIdeal.Value

end
-- ==== Proof.ConvSsd.Value.lean ====
/- The SSD mixer's short convolution on the latents: its kernel's result array is its reference's. Every grid point holds
   one sample and 512 channels, and the blocks tile the array. -/
module

public import proofs.«01_k».proof.Proof.ConvSsd.Reference
public import proofs.«01_k».proof.Proof.ConvSsd.Kernel
public import Idealize.ShloMosaic.Lib.StableHlo.RunRead

@[expose] public section

set_option maxRecDepth 16384

noncomputable section

open Idealize.ShloMosaic Idealize.ShloMosaic.TcCoe Idealize.SL.Sem

namespace Cert.ConvSsdIdeal.Value

open Cert.ConvSsdIdeal Cert.ConvSsdIdeal.Gen
open Cert.ConvSsdRefIdeal.Spec (result result_at)

variable (m : (ℓ : Loc nD τ sig) → Buf (Elt Ideal) ℓ)

/-- The bias as the body reads it is the argument's, as one row. -/
theorem bias_eq (c : Dev nD) : V m c main_v0
    = shapeCast S1x3072 (m ((c : Thread nD τ).loc main_arg2)) shapeCasts_S3072_S1x3072 := by
  unfold V
  simp only [hostOps0, List.flatten_cons, List.flatten_nil, List.append_nil, List.cons_append, List.nil_append]
  after_reads_simp
  rfl

/-- A block of the bias, entry by entry. -/
theorem bias_at (c : Dev nD) (t : Fin cfg0.N) (r : Fin 512) (j : Fin 3072) (hj : (j : ℕ) = t.val % 6 * 512 + r) :
    iblk m c 2 t (ix2 0 r) = m ((c : Thread nD τ).loc main_arg2) (ix1 j) := by
  refine Eq.trans (b := V m c main_v0 (ix2 0 j)) (congrArg (V m c main_v0) (by blk_ext [idx t])) ?_
  rw [bias_eq]
  pointwise

/-- One entry of a grid point's block is the reference's entry at the block's place in the array. -/
theorem point (c : Dev nD) (t : Fin cfg0.N) (y : S1x2048x512.Idx) :
    outsAt0 m c t y = result (m ((c : Thread nD τ).loc main_arg0)) (m ((c : Thread nD τ).loc main_arg1))
          (m ((c : Thread nD τ).loc main_arg2)) (((cfg0.win 3).blk t).view.emb y) := by
  idx_vars y
  have ht : t.val < 96 := lt_of_lt_of_eq t.isLt N_0
  obtain_idx j : S16x2048x3072 := [t.val / 6, (y1 : ℕ), t.val % 6 * 512 + (y2 : ℕ)] with hj
  have he : ((cfg0.win 3).blk t).view.emb (ix3 y0 y1 y2) = j := by blk_ext [idx t]
  rw [he]
  idx_vars j
  obtain rfl : y0 = 0 := Subsingleton.elim _ _
  obtain rfl : j1 = y1 := Fin.ext hj1
  refine (block m c t j1 y2).trans (Eq.trans ?_ (result_at _ _ _ j0 j1 j2 ⟨2048 + j2, by omega⟩ rfl).symm)
  refine congrArg Conv.gated (Conv.filtered_congr ?_ ?_ ?_ _)
  · intro s
    exact sequences_at m c t s y2 j0 _ hj0 (by simp only; omega)
  · intro k
    blk_point [iblk, V, idx t]
  · exact bias_at m c t y2 j2 hj2

/-- The result array after the run is the reference's. -/
theorem final (c : Dev nD) : (dats m 0 c).arrAt 3 (cfgs 0).N
    = result (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  exact point m c t y

end Cert.ConvSsdIdeal.Value

end
-- ==== Proof.ConvSsd.Claims.lean ====
/- What is claimed of the SSD mixer's short convolution on the latents: the frames of its kernel, of the kernel's
   idealization and of its reference, and the equality of the two results over the ideal numbers. -/
module

public import proofs.«01_k».proof.Defs
public import proofs.«01_k».proof.Proof.Gen.ConvSsd.Frame
public import proofs.«01_k».proof.Proof.ConvSsd.Value
public import proofs.«01_k».proof.Proof.Gen.ConvSsdRefIdeal.Run
public import Idealize.ShloMosaic.Lib.Claim

@[expose] public section

set_option maxRecDepth 16384

noncomputable section

namespace Cert.Proof

open Idealize.ShloMosaic Idealize.SL.Sem

theorem frame_ConvSsd : Cert.quiescent_ConvSsd := fun m ρ _ => Cert.ConvSsd.Gen.frame m ρ

theorem frame_ConvSsdIdeal : Cert.quiescent_ConvSsdIdeal := fun m ρ _ => Cert.ConvSsdIdeal.Gen.frame m ρ

theorem frame_ConvSsdRefIdeal : Cert.quiescent_ConvSsdRefIdeal := fun m g _ =>
  (θ_run Cert.ConvSsdRefIdeal.defs _ _).mono
    (fun r h => ⟨fun c => (h c).2, Idealize.ShloMosaic.sem_eq_zero_of_no_sems (by decide) r.2⟩)
    (Cert.ConvSsdRefIdeal.Value.run m g)

theorem algebraic_ConvSsd : Cert.algebraic_ConvSsdIdeal_ConvSsdRefIdeal := by
  pair_intro
  · run_from Cert.ConvSsdIdeal.Gen.run_main m g
  · run_from Cert.ConvSsdRefIdeal.Value.run m' g'
    obtain ⟨h0, h1, h2⟩ := hagree c
    refine Eq.trans ?_ (Cert.ConvSsdIdeal.Value.final m c).symm
    rw [← h0, ← h1, ← h2]
    rfl

end Cert.Proof

end
-- ==== Proof.CtxConvSsd.Reference.lean ====
/- The SSD mixer's short convolution on the context, its reference read at an index: the gate of the convolution of the
   channels from 2048 to 5119 of the input. -/
module

public import proofs.«01_k».proof.Proof.CtxConvHyena.Reference
public import proofs.«01_k».proof.Proof.Gen.CtxConvSsdRefIdeal

@[expose] public section

set_option maxRecDepth 16384

noncomputable section

open Idealize.ShloMosaic Idealize.ShloMosaic.TcCoe Idealize.SL.Sem

namespace Cert.CtxConvSsdRefIdeal.Spec

open Cert.CtxConvSsdRefIdeal Cert.CtxConvSsdRefIdeal.Gen

/-- The convolution of the channels that the mixer filters. -/
def taps (x : FVec Ideal S16x256x5184 .f32) (w : FVec Ideal S3x3072 .f32) (b : FVec Ideal S3072 .f32) :
    FVec Ideal S16x256x3072 .f32 :=
  Cert.CtxConvHyenaRefIdeal.Spec.taps (extractStridedSlice S16x256x3072 ![0, 0, 2048] x
    slices_S16x256x5184_S16x256x3072_0_0_2048) w b

/-- The convolution at a place. -/
theorem taps_at (x : FVec Ideal S16x256x5184 .f32) (w : FVec Ideal S3x3072 .f32) (b : FVec Ideal S3072 .f32)
    (i : Fin 16) (s : Fin 256) (ch : Fin 3072) (ch' : Fin 5184) (h : (ch' : ℕ) = 2048 + ch) :
    taps x w b (ix3 i s ch) = Conv.filtered (fun s => x (ix3 i s ch')) (fun k => w (ix2 k ch)) (b (ix1 ch)) s := by
  refine (Cert.CtxConvHyenaRefIdeal.Spec.taps_at _ w b i s ch).trans (Conv.filtered_congr (fun s => ?_) (fun _ => rfl) rfl s)
  pointwise
  exact congrArg x (congrArg (ix3 i s) (Fin.ext h.symm))

/-- The result. -/
def result (x : FVec Ideal S16x256x5184 .f32) (w : FVec Ideal S3x3072 .f32) (b : FVec Ideal S3072 .f32) :
    FVec Ideal S16x256x3072 .f32 :=
  mulf (taps x w b) (Host.divf (broadcastInDim S16x256x3072 ![] bcast_S_S16x256x3072 (constant S_ .f32 0x3F800000#32))
    (addf (broadcastInDim S16x256x3072 ![] bcast_S_S16x256x3072 (constant S_ .f32 0x3F800000#32))
      (Host.exp (Host.negf (taps x w b)))))

/-- The result at an index. -/
theorem result_at (x : FVec Ideal S16x256x5184 .f32) (w : FVec Ideal S3x3072 .f32) (b : FVec Ideal S3072 .f32)
    (i : Fin 16) (s : Fin 256) (ch : Fin 3072) (ch' : Fin 5184) (h : (ch' : ℕ) = 2048 + ch) :
    result x w b (ix3 i s ch) = Conv.gated (Conv.filtered (fun s => x (ix3 i s ch')) (fun k => w (ix2 k ch))
      (b (ix1 ch)) s) := by
  rw [← taps_at x w b i s ch ch' h, ← Conv.mul_reciprocal]
  pointwise [result]

end Cert.CtxConvSsdRefIdeal.Spec

end
-- ==== Proof.CtxConvSsd.Kernel.lean ====
/- The SSD mixer's short convolution on the context, its kernel body read at an index: the gate of the three taps of the
   block's column. -/
module

public import proofs.«01_k».proof.Proof.Conv.Math
public import proofs.«01_k».proof.Proof.Gen.CtxConvSsdIdeal.Frame

@[expose] public section

set_option maxRecDepth 16384

noncomputable section

open Idealize.ShloMosaic Idealize.ShloMosaic.TcCoe Idealize.SL.Sem

namespace Cert.CtxConvSsdIdeal.Value

open Cert.CtxConvSsdIdeal Cert.CtxConvSsdIdeal.Gen

/-- What the body stores, at a place and a channel. -/
theorem stored_at (x : FVec Ideal S1x256x512 .f32) (w0 w1 w2 b : FVec Ideal S1x512 .f32) (r : Fin 512) (s : Fin 256) :
    k0_pay1 (F := Ideal) (k0_pay2 (F := Ideal) x w0 w1 w2 b) (ix3 0 s r) = Conv.gated (Conv.filtered
      (fun s => x (ix3 0 s r)) ![w0 (ix2 0 r), w1 (ix2 0 r), w2 (ix2 0 r)] (b (ix2 0 r)) s) := by
  have h : ∀ y, y = Conv.filtered (fun s => x (ix3 0 s r)) ![w0 (ix2 0 r), w1 (ix2 0 r), w2 (ix2 0 r)] (b (ix2 0 r)) s →
      Ideal.div y (1 + Ideal.exp (0 - y)) = Conv.gated (Conv.filtered (fun s => x (ix3 0 s r))
        ![w0 (ix2 0 r), w1 (ix2 0 r), w2 (ix2 0 r)] (b (ix2 0 r)) s) := fun y hy => by rw [hy, Conv.gated]
  pointwise [k0_pay1, k0_pay2]
  refine h _ ?_
  pointwise [Conv.filtered]
  refine congrArg (· + b (ix2 0 r)) (congrArg₂ (· + ·) (congrArg (· + x (ix3 0 s r) * w1 (ix2 0 r)) ?_) ?_)
  · exact Conv.before_tap (fun s => x (ix3 0 s r)) s _ (by decide) _
  · exact Conv.after_tap (fun s => x (ix3 0 s r)) s _ 255 rfl (by decide) _

variable (m : (ℓ : Loc nD τ sig) → Buf (Elt Ideal) ℓ)

/-- Every window's block at grid point `t`. -/
theorem idx : ∀ t : Fin cfg0.N, win0_0.index t = ![t.val / 6, 0, t.val % 6 + 4] ∧ win0_1.index t = ![0, t.val % 6]
    ∧ win0_2.index t = ![0, t.val % 6] ∧ win0_3.index t = ![t.val / 6, 0, t.val % 6] :=
  (by decide +kernel : ∀ t : Fin grid0.N, _)

/-- The block of the sequences, entry by entry. -/
theorem sequences_at (c : Dev nD) (t : Fin cfg0.N) (s : Fin 256) (r : Fin 512) (i : Fin 16) (ch : Fin 5184)
    (hi : (i : ℕ) = t.val / 6) (hch : (ch : ℕ) = (t.val % 6 + 4) * 512 + r) :
    X0_0 m c t (ix3 0 s r) = m ((c : Thread nD τ).loc main_arg0) (ix3 i s ch) := by
  unfold X0_0 Pipeline.Window.fill
  rw [dif_pos (moved0_0 t _)]
  exact congrArg (V m c main_arg0) (by blk_ext [idx t])

/-- The block of a grid point. -/
theorem block (c : Dev nD) (t : Fin cfg0.N) (s : Fin 256) (r : Fin 512) : outsAt0 m c t (ix3 0 s r)
    = Conv.gated (Conv.filtered (fun s => X0_0 m c t (ix3 0 s r)) (fun k => iblk m c 1 t (ix2 k r))
        (iblk m c 2 t (ix2 0 r)) s) := by
  unfold outsAt0
  frame_open
  rw [View.read_writes_junk_eq_canon]
  generalize hy : (ix3 0 s r : S1x256x512.Idx) = y
  canon_tiles i h
  all_goals
    subst hy
    idx_vars i
    obtain rfl : s = i1 := Fin.ext h1
    obtain rfl : r = i2 := Fin.ext h2
    obtain rfl : i0 = 0 := Subsingleton.elim _ _
    refine (stored_at _ _ _ _ _ r s).trans (congrArg Conv.gated (Conv.filtered_congr ?_ ?_ ?_ s))
    · intro s
      refine (congrFun (Memref.IsWhole.read_unread (hs0_0 t) (X0_0 m c t)) _).trans (congrArg (X0_0 m c t) ?_)
      funext a
      fin_cases a <;> exact Fin.ext (by simp [LoadRect.idx])
    · intro k
      fin_cases k
      all_goals
        refine (congrFun (Memref.IsWhole.read_unread (hs0_1 t) (iblk m c 1 t)) _).trans (congrArg (iblk m c 1 t) ?_)
        funext a
        fin_cases a <;> exact Fin.ext (by simp [LoadRect.idx])
    · refine (congrFun (Memref.IsWhole.read_unread (hs0_2 t) (iblk m c 2 t)) _).trans (congrArg (iblk m c 2 t) ?_)
      funext a
      fin_cases a <;> exact Fin.ext (by simp [LoadRect.idx])

end Cert.CtxConvSsdIdeal.Value

end
-- ==== Proof.CtxConvSsd.Value.lean ====
/- The SSD mixer's short convolution on the context: its kernel's result array is its reference's. Every grid point holds
   one sample and 512 channels, and the blocks tile the array. -/
module

public import proofs.«01_k».proof.Proof.CtxConvSsd.Reference
public import proofs.«01_k».proof.Proof.CtxConvSsd.Kernel
public import Idealize.ShloMosaic.Lib.StableHlo.RunRead

@[expose] public section

set_option maxRecDepth 16384

noncomputable section

open Idealize.ShloMosaic Idealize.ShloMosaic.TcCoe Idealize.SL.Sem

namespace Cert.CtxConvSsdIdeal.Value

open Cert.CtxConvSsdIdeal Cert.CtxConvSsdIdeal.Gen
open Cert.CtxConvSsdRefIdeal.Spec (result result_at)

variable (m : (ℓ : Loc nD τ sig) → Buf (Elt Ideal) ℓ)

/-- The bias as the body reads it is the argument's, as one row. -/
theorem bias_eq (c : Dev nD) : V m c main_v0
    = shapeCast S1x3072 (m ((c : Thread nD τ).loc main_arg2)) shapeCasts_S3072_S1x3072 := by
  unfold V
  simp only [hostOps0, List.flatten_cons, List.flatten_nil, List.append_nil, List.cons_append, List.nil_append]
  after_reads_simp
  rfl

/-- A block of the bias, entry by entry. -/
theorem bias_at (c : Dev nD) (t : Fin cfg0.N) (r : Fin 512) (j : Fin 3072) (hj : (j : ℕ) = t.val % 6 * 512 + r) :
    iblk m c 2 t (ix2 0 r) = m ((c : Thread nD τ).loc main_arg2) (ix1 j) := by
  refine Eq.trans (b := V m c main_v0 (ix2 0 j)) (congrArg (V m c main_v0) (by blk_ext [idx t])) ?_
  rw [bias_eq]
  pointwise

/-- One entry of a grid point's block is the reference's entry at the block's place in the array. -/
theorem point (c : Dev nD) (t : Fin cfg0.N) (y : S1x256x512.Idx) :
    outsAt0 m c t y = result (m ((c : Thread nD τ).loc main_arg0)) (m ((c : Thread nD τ).loc main_arg1))
          (m ((c : Thread nD τ).loc main_arg2)) (((cfg0.win 3).blk t).view.emb y) := by
  idx_vars y
  have ht : t.val < 96 := lt_of_lt_of_eq t.isLt N_0
  obtain_idx j : S16x256x3072 := [t.val / 6, (y1 : ℕ), t.val % 6 * 512 + (y2 : ℕ)] with hj
  have he : ((cfg0.win 3).blk t).view.emb (ix3 y0 y1 y2) = j := by blk_ext [idx t]
  rw [he]
  idx_vars j
  obtain rfl : y0 = 0 := Subsingleton.elim _ _
  obtain rfl : j1 = y1 := Fin.ext hj1
  refine (block m c t j1 y2).trans (Eq.trans ?_ (result_at _ _ _ j0 j1 j2 ⟨2048 + j2, by omega⟩ rfl).symm)
  refine congrArg Conv.gated (Conv.filtered_congr ?_ ?_ ?_ _)
  · intro s
    exact sequences_at m c t s y2 j0 _ hj0 (by simp only; omega)
  · intro k
    blk_point [iblk, V, idx t]
  · exact bias_at m c t y2 j2 hj2

/-- The result array after the run is the reference's. -/
theorem final (c : Dev nD) : (dats m 0 c).arrAt 3 (cfgs 0).N
    = result (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  exact point m c t y

end Cert.CtxConvSsdIdeal.Value

end
-- ==== Proof.CtxConvSsd.Claims.lean ====
/- What is claimed of the SSD mixer's short convolution on the context: the frames of its kernel, of the kernel's
   idealization and of its reference, and the equality of the two results over the ideal numbers. -/
module

public import proofs.«01_k».proof.Defs
public import proofs.«01_k».proof.Proof.Gen.CtxConvSsd.Frame
public import proofs.«01_k».proof.Proof.CtxConvSsd.Value
public import proofs.«01_k».proof.Proof.Gen.CtxConvSsdRefIdeal.Run
public import Idealize.ShloMosaic.Lib.Claim

@[expose] public section

set_option maxRecDepth 16384

noncomputable section

namespace Cert.Proof

open Idealize.ShloMosaic Idealize.SL.Sem

theorem frame_CtxConvSsd : Cert.quiescent_CtxConvSsd := fun m ρ _ => Cert.CtxConvSsd.Gen.frame m ρ

theorem frame_CtxConvSsdIdeal : Cert.quiescent_CtxConvSsdIdeal := fun m ρ _ => Cert.CtxConvSsdIdeal.Gen.frame m ρ

theorem frame_CtxConvSsdRefIdeal : Cert.quiescent_CtxConvSsdRefIdeal := fun m g _ =>
  (θ_run Cert.CtxConvSsdRefIdeal.defs _ _).mono
    (fun r h => ⟨fun c => (h c).2, Idealize.ShloMosaic.sem_eq_zero_of_no_sems (by decide) r.2⟩)
    (Cert.CtxConvSsdRefIdeal.Value.run m g)

theorem algebraic_CtxConvSsd : Cert.algebraic_CtxConvSsdIdeal_CtxConvSsdRefIdeal := by
  pair_intro
  · run_from Cert.CtxConvSsdIdeal.Gen.run_main m g
  · run_from Cert.CtxConvSsdRefIdeal.Value.run m' g'
    obtain ⟨h0, h1, h2⟩ := hagree c
    refine Eq.trans ?_ (Cert.CtxConvSsdIdeal.Value.final m c).symm
    rw [← h0, ← h1, ← h2]
    rfl

end Cert.Proof

end
-- ==== Proof.lean ====
/- The certificate's claims, from the claims of each call. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Block
public import proofs.«01_k».proof.Proof.Gen.Block.Skeleton
public import proofs.«01_k».proof.Proof.Gen.Block.Launch
public import proofs.«01_k».proof.Proof.Gen.Block.Points
public import proofs.«01_k».proof.Proof.Gen.Block.Frame
public import proofs.«01_k».proof.Proof.Gen.BlockIdeal
public import proofs.«01_k».proof.Proof.Gen.BlockIdeal.Skeleton
public import proofs.«01_k».proof.Proof.Gen.BlockIdeal.Launch
public import proofs.«01_k».proof.Proof.Gen.BlockIdeal.Points
public import proofs.«01_k».proof.Proof.Gen.BlockIdeal.Frame
public import proofs.«01_k».proof.Proof.Gen.BlockRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Wide
public import proofs.«01_k».proof.Proof.Gen.Wide.Skeleton
public import proofs.«01_k».proof.Proof.Gen.Wide.Launch
public import proofs.«01_k».proof.Proof.Gen.Wide.Points
public import proofs.«01_k».proof.Proof.Gen.Wide.Frame
public import proofs.«01_k».proof.Proof.Gen.WideIdeal
public import proofs.«01_k».proof.Proof.Gen.WideIdeal.Skeleton
public import proofs.«01_k».proof.Proof.Gen.WideIdeal.Launch
public import proofs.«01_k».proof.Proof.Gen.WideIdeal.Points
public import proofs.«01_k».proof.Proof.Gen.WideIdeal.Frame
public import proofs.«01_k».proof.Proof.Gen.WideRefIdeal
public import proofs.«01_k».proof.Proof.Gen.WideRefIdeal.Run
public import proofs.«01_k».proof.Proof.Gen.ProjHyena
public import proofs.«01_k».proof.Proof.Gen.ProjHyena.Skeleton
public import proofs.«01_k».proof.Proof.Gen.ProjHyena.Launch
public import proofs.«01_k».proof.Proof.Gen.ProjHyena.Points
public import proofs.«01_k».proof.Proof.Gen.ProjHyena.Frame
public import proofs.«01_k».proof.Proof.Gen.ProjHyenaIdeal
public import proofs.«01_k».proof.Proof.Gen.ProjHyenaIdeal.Skeleton
public import proofs.«01_k».proof.Proof.Gen.ProjHyenaIdeal.Launch
public import proofs.«01_k».proof.Proof.Gen.ProjHyenaIdeal.Points
public import proofs.«01_k».proof.Proof.Gen.ProjHyenaIdeal.Frame
public import proofs.«01_k».proof.Proof.Gen.ProjHyenaRefIdeal
public import proofs.«01_k».proof.Proof.Gen.ProjHyenaRefIdeal.Run
public import proofs.«01_k».proof.Proof.Gen.ProjSsd
public import proofs.«01_k».proof.Proof.Gen.ProjSsd.Skeleton
public import proofs.«01_k».proof.Proof.Gen.ProjSsd.Launch
public import proofs.«01_k».proof.Proof.Gen.ProjSsd.Points
public import proofs.«01_k».proof.Proof.Gen.ProjSsd.Frame
public import proofs.«01_k».proof.Proof.Gen.ProjSsdIdeal
public import proofs.«01_k».proof.Proof.Gen.ProjSsdIdeal.Skeleton
public import proofs.«01_k».proof.Proof.Gen.ProjSsdIdeal.Launch
public import proofs.«01_k».proof.Proof.Gen.ProjSsdIdeal.Points
public import proofs.«01_k».proof.Proof.Gen.ProjSsdIdeal.Frame
public import proofs.«01_k».proof.Proof.Gen.ProjSsdRefIdeal
public import proofs.«01_k».proof.Proof.Gen.ProjSsdRefIdeal.Run
public import proofs.«01_k».proof.Proof.Gen.ProjNbr
public import proofs.«01_k».proof.Proof.Gen.ProjNbr.Skeleton
public import proofs.«01_k».proof.Proof.Gen.ProjNbr.Launch
public import proofs.«01_k».proof.Proof.Gen.ProjNbr.Points
public import proofs.«01_k».proof.Proof.Gen.ProjNbr.Frame
public import proofs.«01_k».proof.Proof.Gen.ProjNbrIdeal
public import proofs.«01_k».proof.Proof.Gen.ProjNbrIdeal.Skeleton
public import proofs.«01_k».proof.Proof.Gen.ProjNbrIdeal.Launch
public import proofs.«01_k».proof.Proof.Gen.ProjNbrIdeal.Points
public import proofs.«01_k».proof.Proof.Gen.ProjNbrIdeal.Frame
public import proofs.«01_k».proof.Proof.Gen.ProjNbrRefIdeal
public import proofs.«01_k».proof.Proof.Gen.ProjNbrRefIdeal.Run
public import proofs.«01_k».proof.Proof.Gen.CtxBlock
public import proofs.«01_k».proof.Proof.Gen.CtxBlock.Skeleton
public import proofs.«01_k».proof.Proof.Gen.CtxBlock.Launch
public import proofs.«01_k».proof.Proof.Gen.CtxBlock.Points
public import proofs.«01_k».proof.Proof.Gen.CtxBlock.Frame
public import proofs.«01_k».proof.Proof.Gen.CtxBlockIdeal
public import proofs.«01_k».proof.Proof.Gen.CtxBlockIdeal.Skeleton
public import proofs.«01_k».proof.Proof.Gen.CtxBlockIdeal.Launch
public import proofs.«01_k».proof.Proof.Gen.CtxBlockIdeal.Points
public import proofs.«01_k».proof.Proof.Gen.CtxBlockIdeal.Frame
public import proofs.«01_k».proof.Proof.Gen.CtxBlockRefIdeal
public import proofs.«01_k».proof.Proof.Gen.CtxBlockRefIdeal.Run
public import proofs.«01_k».proof.Proof.Gen.CtxWide
public import proofs.«01_k».proof.Proof.Gen.CtxWide.Skeleton
public import proofs.«01_k».proof.Proof.Gen.CtxWide.Launch
public import proofs.«01_k».proof.Proof.Gen.CtxWide.Points
public import proofs.«01_k».proof.Proof.Gen.CtxWide.Frame
public import proofs.«01_k».proof.Proof.Gen.CtxWideIdeal
public import proofs.«01_k».proof.Proof.Gen.CtxWideIdeal.Skeleton
public import proofs.«01_k».proof.Proof.Gen.CtxWideIdeal.Launch
public import proofs.«01_k».proof.Proof.Gen.CtxWideIdeal.Points
public import proofs.«01_k».proof.Proof.Gen.CtxWideIdeal.Frame
public import proofs.«01_k».proof.Proof.Gen.CtxWideRefIdeal
public import proofs.«01_k».proof.Proof.Gen.CtxWideRefIdeal.Run
public import proofs.«01_k».proof.Proof.Gen.CtxProj
public import proofs.«01_k».proof.Proof.Gen.CtxProj.Skeleton
public import proofs.«01_k».proof.Proof.Gen.CtxProj.Launch
public import proofs.«01_k».proof.Proof.Gen.CtxProj.Points
public import proofs.«01_k».proof.Proof.Gen.CtxProj.Frame
public import proofs.«01_k».proof.Proof.Gen.CtxProjIdeal
public import proofs.«01_k».proof.Proof.Gen.CtxProjIdeal.Skeleton
public import proofs.«01_k».proof.Proof.Gen.CtxProjIdeal.Launch
public import proofs.«01_k».proof.Proof.Gen.CtxProjIdeal.Points
public import proofs.«01_k».proof.Proof.Gen.CtxProjIdeal.Frame
public import proofs.«01_k».proof.Proof.Gen.CtxProjRefIdeal
public import proofs.«01_k».proof.Proof.Gen.CtxProjRefIdeal.Run
public import proofs.«01_k».proof.Proof.Gen.CtxProjHyena
public import proofs.«01_k».proof.Proof.Gen.CtxProjHyena.Skeleton
public import proofs.«01_k».proof.Proof.Gen.CtxProjHyena.Launch
public import proofs.«01_k».proof.Proof.Gen.CtxProjHyena.Points
public import proofs.«01_k».proof.Proof.Gen.CtxProjHyena.Frame
public import proofs.«01_k».proof.Proof.Gen.CtxProjHyenaIdeal
public import proofs.«01_k».proof.Proof.Gen.CtxProjHyenaIdeal.Skeleton
public import proofs.«01_k».proof.Proof.Gen.CtxProjHyenaIdeal.Launch
public import proofs.«01_k».proof.Proof.Gen.CtxProjHyenaIdeal.Points
public import proofs.«01_k».proof.Proof.Gen.CtxProjHyenaIdeal.Frame
public import proofs.«01_k».proof.Proof.Gen.CtxProjHyenaRefIdeal
public import proofs.«01_k».proof.Proof.Gen.CtxProjHyenaRefIdeal.Run
public import proofs.«01_k».proof.Proof.Gen.CtxProjSsd
public import proofs.«01_k».proof.Proof.Gen.CtxProjSsd.Skeleton
public import proofs.«01_k».proof.Proof.Gen.CtxProjSsd.Launch
public import proofs.«01_k».proof.Proof.Gen.CtxProjSsd.Points
public import proofs.«01_k».proof.Proof.Gen.CtxProjSsd.Frame
public import proofs.«01_k».proof.Proof.Gen.CtxProjSsdIdeal
public import proofs.«01_k».proof.Proof.Gen.CtxProjSsdIdeal.Skeleton
public import proofs.«01_k».proof.Proof.Gen.CtxProjSsdIdeal.Launch
public import proofs.«01_k».proof.Proof.Gen.CtxProjSsdIdeal.Points
public import proofs.«01_k».proof.Proof.Gen.CtxProjSsdIdeal.Frame
public import proofs.«01_k».proof.Proof.Gen.CtxProjSsdRefIdeal
public import proofs.«01_k».proof.Proof.Gen.CtxProjSsdRefIdeal.Run
public import proofs.«01_k».proof.Proof.Gen.CtxProjNbr
public import proofs.«01_k».proof.Proof.Gen.CtxProjNbr.Skeleton
public import proofs.«01_k».proof.Proof.Gen.CtxProjNbr.Launch
public import proofs.«01_k».proof.Proof.Gen.CtxProjNbr.Points
public import proofs.«01_k».proof.Proof.Gen.CtxProjNbr.Frame
public import proofs.«01_k».proof.Proof.Gen.CtxProjNbrIdeal
public import proofs.«01_k».proof.Proof.Gen.CtxProjNbrIdeal.Skeleton
public import proofs.«01_k».proof.Proof.Gen.CtxProjNbrIdeal.Launch
public import proofs.«01_k».proof.Proof.Gen.CtxProjNbrIdeal.Points
public import proofs.«01_k».proof.Proof.Gen.CtxProjNbrIdeal.Frame
public import proofs.«01_k».proof.Proof.Gen.CtxProjNbrRefIdeal
public import proofs.«01_k».proof.Proof.Gen.CtxProjNbrRefIdeal.Run
public import proofs.«01_k».proof.Proof.Gen.CtxProjSsdIdeal.Value
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.ModRefIdeal.Run
public import proofs.«01_k».proof.Proof.Gen.ConvHyena
public import proofs.«01_k».proof.Proof.Gen.ConvHyena.Skeleton
public import proofs.«01_k».proof.Proof.Gen.ConvHyena.Launch
public import proofs.«01_k».proof.Proof.Gen.ConvHyena.Points
public import proofs.«01_k».proof.Proof.Gen.ConvHyena.Frame
public import proofs.«01_k».proof.Proof.Gen.ConvHyenaIdeal
public import proofs.«01_k».proof.Proof.Gen.ConvHyenaIdeal.Skeleton
public import proofs.«01_k».proof.Proof.Gen.ConvHyenaIdeal.Launch
public import proofs.«01_k».proof.Proof.Gen.ConvHyenaIdeal.Points
public import proofs.«01_k».proof.Proof.Gen.ConvHyenaIdeal.Frame
public import proofs.«01_k».proof.Proof.Gen.ConvHyenaRefIdeal
public import proofs.«01_k».proof.Proof.Gen.ConvHyenaRefIdeal.Run
public import proofs.«01_k».proof.Proof.Gen.CtxConvHyena
public import proofs.«01_k».proof.Proof.Gen.CtxConvHyena.Skeleton
public import proofs.«01_k».proof.Proof.Gen.CtxConvHyena.Launch
public import proofs.«01_k».proof.Proof.Gen.CtxConvHyena.Points
public import proofs.«01_k».proof.Proof.Gen.CtxConvHyena.Frame
public import proofs.«01_k».proof.Proof.Gen.CtxConvHyenaIdeal
public import proofs.«01_k».proof.Proof.Gen.CtxConvHyenaIdeal.Skeleton
public import proofs.«01_k».proof.Proof.Gen.CtxConvHyenaIdeal.Launch
public import proofs.«01_k».proof.Proof.Gen.CtxConvHyenaIdeal.Points
public import proofs.«01_k».proof.Proof.Gen.CtxConvHyenaIdeal.Frame
public import proofs.«01_k».proof.Proof.Gen.CtxConvHyenaRefIdeal
public import proofs.«01_k».proof.Proof.Gen.CtxConvHyenaRefIdeal.Run
public import proofs.«01_k».proof.Proof.Gen.ConvSsd
public import proofs.«01_k».proof.Proof.Gen.ConvSsd.Skeleton
public import proofs.«01_k».proof.Proof.Gen.ConvSsd.Launch
public import proofs.«01_k».proof.Proof.Gen.ConvSsd.Points
public import proofs.«01_k».proof.Proof.Gen.ConvSsd.Frame
public import proofs.«01_k».proof.Proof.Gen.ConvSsdIdeal
public import proofs.«01_k».proof.Proof.Gen.ConvSsdIdeal.Skeleton
public import proofs.«01_k».proof.Proof.Gen.ConvSsdIdeal.Launch
public import proofs.«01_k».proof.Proof.Gen.ConvSsdIdeal.Points
public import proofs.«01_k».proof.Proof.Gen.ConvSsdIdeal.Frame
public import proofs.«01_k».proof.Proof.Gen.ConvSsdRefIdeal
public import proofs.«01_k».proof.Proof.Gen.ConvSsdRefIdeal.Run
public import proofs.«01_k».proof.Proof.Gen.CtxConvSsd
public import proofs.«01_k».proof.Proof.Gen.CtxConvSsd.Skeleton
public import proofs.«01_k».proof.Proof.Gen.CtxConvSsd.Launch
public import proofs.«01_k».proof.Proof.Gen.CtxConvSsd.Points
public import proofs.«01_k».proof.Proof.Gen.CtxConvSsd.Frame
public import proofs.«01_k».proof.Proof.Gen.CtxConvSsdIdeal
public import proofs.«01_k».proof.Proof.Gen.CtxConvSsdIdeal.Skeleton
public import proofs.«01_k».proof.Proof.Gen.CtxConvSsdIdeal.Launch
public import proofs.«01_k».proof.Proof.Gen.CtxConvSsdIdeal.Points
public import proofs.«01_k».proof.Proof.Gen.CtxConvSsdIdeal.Frame
public import proofs.«01_k».proof.Proof.Gen.CtxConvSsdRefIdeal
public import proofs.«01_k».proof.Proof.Gen.CtxConvSsdRefIdeal.Run
public import proofs.«01_k».proof.Proof.Gen.Nbr
public import proofs.«01_k».proof.Proof.Gen.Nbr.Skeleton
public import proofs.«01_k».proof.Proof.Gen.Nbr.Launch
public import proofs.«01_k».proof.Proof.Gen.Nbr.Points
public import proofs.«01_k».proof.Proof.Gen.Nbr.Frame
public import proofs.«01_k».proof.Proof.Gen.NbrIdeal
public import proofs.«01_k».proof.Proof.Gen.NbrIdeal.Skeleton
public import proofs.«01_k».proof.Proof.Gen.NbrIdeal.Launch
public import proofs.«01_k».proof.Proof.Gen.NbrIdeal.Points
public import proofs.«01_k».proof.Proof.Gen.NbrIdeal.Frame
public import proofs.«01_k».proof.Proof.Gen.NbrIdeal.Value
public import proofs.«01_k».proof.Proof.Gen.NbrRefIdeal
public import proofs.«01_k».proof.Proof.Gen.NbrRefIdeal.Run
public import proofs.«01_k».proof.Proof.Gen.Pre_finite_gains
public import proofs.«01_k».proof.Proof.Gen.Pre_finite_scores
public import proofs.«01_k».proof.Proof.Gen.AttnIdeal.Value
public import proofs.«01_k».proof.Proof.Gen.ProjSsdIdeal.Value
public import proofs.«01_k».proof.Proof.Gen.AttnRefIdeal.Run
public import proofs.«01_k».proof.Proof.Gen.BlockRefIdeal.Run
public import proofs.«01_k».proof.Proof.Gen.ProjRefIdeal.Run
public import proofs.«01_k».proof.Proof.Attn.Claims
public import proofs.«01_k».proof.Proof.Block.Claims
public import proofs.«01_k».proof.Proof.Proj.Claims
public import proofs.«01_k».proof.Proof.Wide.Claims
public import proofs.«01_k».proof.Proof.ProjHyena.Claims
public import proofs.«01_k».proof.Proof.ProjSsd.Claims
public import proofs.«01_k».proof.Proof.ProjNbr.Claims
public import proofs.«01_k».proof.Proof.CtxBlock.Claims
public import proofs.«01_k».proof.Proof.CtxWide.Claims
public import proofs.«01_k».proof.Proof.CtxProj.Claims
public import proofs.«01_k».proof.Proof.CtxProjHyena.Claims
public import proofs.«01_k».proof.Proof.CtxProjSsd.Claims
public import proofs.«01_k».proof.Proof.CtxProjNbr.Claims
public import proofs.«01_k».proof.Proof.Nbr.Claims
public import proofs.«01_k».proof.Proof.Mod.Claims
public import proofs.«01_k».proof.Proof.ConvHyena.Claims
public import proofs.«01_k».proof.Proof.CtxConvHyena.Claims
public import proofs.«01_k».proof.Proof.ConvSsd.Claims
public import proofs.«01_k».proof.Proof.CtxConvSsd.Claims
public import Idealize.ShloMosaic.Adequacy
public import Idealize.ShloMosaic.Init

@[expose] public section

noncomputable section

namespace Cert.Proof

open Idealize.ShloMosaic Idealize.SL.Sem

theorem claim : Cert.Claim := ⟨Cert.Attn.Gen.facts, Cert.AttnIdeal.Gen.facts, Cert.AttnRefIdeal.Gen.facts,
  Cert.Block.Gen.facts, Cert.BlockIdeal.Gen.facts, Cert.BlockRefIdeal.Gen.facts, Cert.Proj.Gen.facts,
  Cert.ProjIdeal.Gen.facts, Cert.ProjRefIdeal.Gen.facts, Cert.Wide.Gen.facts, Cert.WideIdeal.Gen.facts,
  Cert.WideRefIdeal.Gen.facts, Cert.ProjHyena.Gen.facts, Cert.ProjHyenaIdeal.Gen.facts,
  Cert.ProjHyenaRefIdeal.Gen.facts, Cert.ProjSsd.Gen.facts, Cert.ProjSsdIdeal.Gen.facts,
  Cert.ProjSsdRefIdeal.Gen.facts, Cert.ProjNbr.Gen.facts, Cert.ProjNbrIdeal.Gen.facts, Cert.ProjNbrRefIdeal.Gen.facts,
  Cert.CtxBlock.Gen.facts, Cert.CtxBlockIdeal.Gen.facts, Cert.CtxBlockRefIdeal.Gen.facts, Cert.CtxWide.Gen.facts,
  Cert.CtxWideIdeal.Gen.facts, Cert.CtxWideRefIdeal.Gen.facts, Cert.CtxProj.Gen.facts, Cert.CtxProjIdeal.Gen.facts,
  Cert.CtxProjRefIdeal.Gen.facts, Cert.CtxProjHyena.Gen.facts, Cert.CtxProjHyenaIdeal.Gen.facts,
  Cert.CtxProjHyenaRefIdeal.Gen.facts, Cert.CtxProjSsd.Gen.facts, Cert.CtxProjSsdIdeal.Gen.facts,
  Cert.CtxProjSsdRefIdeal.Gen.facts, Cert.CtxProjNbr.Gen.facts, Cert.CtxProjNbrIdeal.Gen.facts,
  Cert.CtxProjNbrRefIdeal.Gen.facts, Cert.Nbr.Gen.facts, Cert.NbrIdeal.Gen.facts, Cert.NbrRefIdeal.Gen.facts,
  Cert.Mod.Gen.facts, Cert.ModIdeal.Gen.facts, Cert.ModRefIdeal.Gen.facts,
  Cert.ConvHyena.Gen.facts, Cert.ConvHyenaIdeal.Gen.facts, Cert.ConvHyenaRefIdeal.Gen.facts,
  Cert.CtxConvHyena.Gen.facts, Cert.CtxConvHyenaIdeal.Gen.facts, Cert.CtxConvHyenaRefIdeal.Gen.facts,
  Cert.ConvSsd.Gen.facts, Cert.ConvSsdIdeal.Gen.facts, Cert.ConvSsdRefIdeal.Gen.facts,
  Cert.CtxConvSsd.Gen.facts, Cert.CtxConvSsdIdeal.Gen.facts, Cert.CtxConvSsdRefIdeal.Gen.facts,
  Cert.Pre_finite_gains.Gen.facts, Cert.Pre_finite_scores.Gen.facts, frame_Attn, frame_AttnIdeal, frame_AttnIdeal_gains,
  frame_AttnRefIdeal, frame_AttnRefIdeal_gains, frame_Block, frame_BlockIdeal, frame_BlockRefIdeal, frame_Proj,
  frame_ProjIdeal, frame_ProjRefIdeal, frame_Wide, frame_WideIdeal, frame_WideRefIdeal, frame_ProjHyena,
  frame_ProjHyenaIdeal, frame_ProjHyenaRefIdeal, frame_ProjSsd, frame_ProjSsdIdeal, frame_ProjSsdRefIdeal,
  frame_ProjNbr, frame_ProjNbrIdeal, frame_ProjNbrRefIdeal, frame_CtxBlock, frame_CtxBlockIdeal,
  frame_CtxBlockRefIdeal, frame_CtxWide, frame_CtxWideIdeal, frame_CtxWideRefIdeal, frame_CtxProj, frame_CtxProjIdeal,
  frame_CtxProjRefIdeal, frame_CtxProjHyena, frame_CtxProjHyenaIdeal, frame_CtxProjHyenaRefIdeal, frame_CtxProjSsd,
  frame_CtxProjSsdIdeal, frame_CtxProjSsdRefIdeal, frame_CtxProjNbr, frame_CtxProjNbrIdeal, frame_CtxProjNbrRefIdeal,
  frame_Nbr, frame_NbrIdeal, frame_NbrIdeal_scores, frame_NbrRefIdeal, frame_NbrRefIdeal_scores,
  frame_Mod, frame_ModIdeal, frame_ModRefIdeal,
  frame_ConvHyena, frame_ConvHyenaIdeal, frame_ConvHyenaRefIdeal,
  frame_CtxConvHyena, frame_CtxConvHyenaIdeal, frame_CtxConvHyenaRefIdeal,
  frame_ConvSsd, frame_ConvSsdIdeal, frame_ConvSsdRefIdeal,
  frame_CtxConvSsd, frame_CtxConvSsdIdeal, frame_CtxConvSsdRefIdeal,
  preserves_Attn,
  algebraic_Attn, trivial, algebraic_Block, trivial, algebraic_Proj, trivial, algebraic_Wide, trivial,
  algebraic_ProjHyena, trivial, algebraic_ProjSsd, trivial, algebraic_ProjNbr, trivial, algebraic_CtxBlock, trivial,
  algebraic_CtxWide, trivial, algebraic_CtxProj, trivial, algebraic_CtxProjHyena, trivial, algebraic_CtxProjSsd,
  trivial, algebraic_CtxProjNbr, preserves_Nbr, algebraic_Nbr, trivial, algebraic_Mod, trivial,
  algebraic_ConvHyena, trivial, algebraic_CtxConvHyena, trivial, algebraic_ConvSsd, trivial, algebraic_CtxConvSsd⟩

end Cert.Proof

end
